-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x64 : Shape := ⟨2, ![16384, 64]⟩
abbrev S16384x1 : Shape := ⟨2, ![16384, 1]⟩
abbrev S1000000x64 : Shape := ⟨2, ![1000000, 64]⟩
abbrev S_ : Shape := ⟨0, ![]⟩

class Facts : Prop where
  bcast_S_S16384x1 : S_.BroadcastsInDim S16384x1 (![] : Fin 0 → Fin S16384x1.rank)
  reducesTo_S16384x1_S_d0_1 : S16384x1.ReducesTo [0, 1] S_
  h_S_ : 0 < S_.numel

variable [Facts]

def fn {F : FTy → Type} [FloatOps F] (main_arg0 : FVec F S16384x64 .f32) (main_arg1 : IVec S16384x1 32) (main_arg2 : FVec F S1000000x64 .f32) : IVec S_ 1 :=
  let main_c : IVec S_ 32 := constantI S_ 32 0#32
  let main_v0 : IVec S16384x1 32 := broadcastInDim S16384x1 ![] bcast_S_S16384x1 main_c
  let main_v1 : IVec S16384x1 1 := cmpi .sge main_arg1 main_v0
  let main_c_0 : IVec S_ 32 := constantI S_ 32 1000000#32
  let main_v2 : IVec S16384x1 32 := broadcastInDim S16384x1 ![] bcast_S_S16384x1 main_c_0
  let main_v3 : IVec S16384x1 1 := cmpi .slt main_arg1 main_v2
  let main_v4 : IVec S16384x1 1 := andi main_v1 main_v3
  let main_c_1 : IVec S_ 1 := constantI S_ 1 1#1
  let main_v5 : IVec S_ 1 := (fun x v => Host.reduce IntOp.andi x v reducesTo_S16384x1_S_d0_1 h_S_) main_v4 main_c_1
  main_v5
-- ==== Kernel.lean ====
abbrev S16384x64 : Shape := ⟨2, ![16384, 64]⟩
abbrev S16384x1 : Shape := ⟨2, ![16384, 1]⟩
abbrev S1000000x64 : Shape := ⟨2, ![1000000, 64]⟩
abbrev S16384 : Shape := ⟨1, ![16384]⟩
abbrev S8192x128 : Shape := ⟨2, ![8192, 128]⟩
abbrev S64x1000064 : Shape := ⟨2, ![64, 1000064]⟩
abbrev S8x8x1024 : Shape := ⟨3, ![8, 8, 1024]⟩
abbrev S32x129 : Shape := ⟨2, ![32, 129]⟩
abbrev S32 : Shape := ⟨1, ![32]⟩
abbrev S_ : Shape := ⟨0, ![]⟩
abbrev S16 : Shape := ⟨1, ![16]⟩
abbrev S1x1x16 : Shape := ⟨3, ![1, 1, 16]⟩
abbrev S1 : Shape := ⟨1, ![1]⟩
abbrev S32x128 : Shape := ⟨2, ![32, 128]⟩
abbrev S1x8x1024 : Shape := ⟨3, ![1, 8, 1024]⟩
abbrev S8x1024 : Shape := ⟨2, ![8, 1024]⟩
abbrev S1x8x640 : Shape := ⟨3, ![1, 8, 640]⟩
abbrev S8x640 : Shape := ⟨2, ![8, 640]⟩
abbrev S64x1000000 : Shape := ⟨2, ![64, 1000000]⟩

abbrev nBuf : Table → Nat
  | .hbm => 8
  | .local .scVector .vmem => 5
  | _ => 0

abbrev bufTy : (tb : Table) → Fin (nBuf tb) → BufTy
  | .hbm, ⟨0, _⟩ => ⟨S16384x64, .f32⟩
  | .hbm, ⟨1, _⟩ => ⟨S16384x1, .i32⟩
  | .hbm, ⟨2, _⟩ => ⟨S1000000x64, .f32⟩
  | .hbm, ⟨3, _⟩ => ⟨S16384, .i32⟩
  | .hbm, ⟨4, _⟩ => ⟨S8192x128, .f32⟩
  | .hbm, ⟨5, _⟩ => ⟨S64x1000064, .f32⟩
  | .hbm, ⟨6, _⟩ => ⟨S64x1000000, .f32⟩
  | .hbm, ⟨7, _⟩ => ⟨S1000000x64, .f32⟩
  | .local .scVector .vmem, ⟨0, _⟩ => ⟨S16384, .i32⟩
  | .local .scVector .vmem, ⟨1, _⟩ => ⟨S16384, .i32⟩
  | .local .scVector .vmem, ⟨2, _⟩ => ⟨S8x8x1024, .f32⟩
  | .local .scVector .vmem, ⟨3, _⟩ => ⟨S32x129, .f32⟩
  | .local .scVector .vmem, ⟨4, _⟩ => ⟨S32, .i32⟩
  | _, _ => ⟨S16384x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v1_scv : Ref sig .scVector := ⟨.hbm, 4, rfl⟩
abbrev main_v0_scv : Ref sig .scVector := ⟨.hbm, 3, rfl⟩
abbrev main_v2_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c64_i32 : BitVec 32 := 64#32
  let v4 : BitVec 32 := Scalar.addi c0_i32_0 c64_i32
  let c1_i32 : BitVec 32 := 1#32
  ⟨c0_i32_0, v4, c1_i32⟩
def k0_off1 (k0_t1 : Fin k0_t1_loop.trips) : Fin 3 → Nat :=
  let c0_i32_14 : BitVec 32 := 0#32
  let v21 : Index := Scalar.indexCast c0_i32_14
  let c0_i32_15 : BitVec 32 := 0#32
  let v22 : Index := Scalar.indexCast c0_i32_15
  let c0_i32_0 : BitVec 32 := 0#32
  let c1_i32 : BitVec 32 := 1#32
  let arg12 : BitVec 32 := Scf.iv c0_i32_0 c1_i32 k0_t1
  let c16_i32 : BitVec 32 := 16#32
  let v20 : BitVec 32 := Scalar.muli arg12 c16_i32
  let v23 : Index := Scalar.indexCast v20
  ![0, 0, v23.toNat]
def k0_off2 (k0_t1 : Fin k0_t1_loop.trips) : Fin 3 → Nat :=
  let c0_i32_17 : BitVec 32 := 0#32
  let v26 : Index := Scalar.indexCast c0_i32_17
  let c1_i32_18 : BitVec 32 := 1#32
  let v27 : Index := Scalar.indexCast c1_i32_18
  let c0_i32_0 : BitVec 32 := 0#32
  let c1_i32 : BitVec 32 := 1#32
  let arg12 : BitVec 32 := Scf.iv c0_i32_0 c1_i32 k0_t1
  let c16_i32_16 : BitVec 32 := 16#32
  let v25 : BitVec 32 := Scalar.muli arg12 c16_i32_16
  let v28 : Index := Scalar.indexCast v25
  ![0, 1, v28.toNat]
def k0_off3 (k0_t1 : Fin k0_t1_loop.trips) : Fin 3 → Nat :=
  let c0_i32_20 : BitVec 32 := 0#32
  let v31 : Index := Scalar.indexCast c0_i32_20
  let c2_i32_21 : BitVec 32 := 2#32
  let v32 : Index := Scalar.indexCast c2_i32_21
  let c0_i32_0 : BitVec 32 := 0#32
  let c1_i32 : BitVec 32 := 1#32
  let arg12 : BitVec 32 := Scf.iv c0_i32_0 c1_i32 k0_t1
  let c16_i32_19 : BitVec 32 := 16#32
  let v30 : BitVec 32 := Scalar.muli arg12 c16_i32_19
  let v33 : Index := Scalar.indexCast v30
  ![0, 2, v33.toNat]
def k0_off4 (k0_t1 : Fin k0_t1_loop.trips) : Fin 3 → Nat :=
  let c0_i32_23 : BitVec 32 := 0#32
  let v36 : Index := Scalar.indexCast c0_i32_23
  let c3_i32 : BitVec 32 := 3#32
  let v37 : Index := Scalar.indexCast c3_i32
  let c0_i32_0 : BitVec 32 := 0#32
  let c1_i32 : BitVec 32 := 1#32
  let arg12 : BitVec 32 := Scf.iv c0_i32_0 c1_i32 k0_t1
  let c16_i32_22 : BitVec 32 := 16#32
  let v35 : BitVec 32 := Scalar.muli arg12 c16_i32_22
  let v38 : Index := Scalar.indexCast v35
  ![0, 3, v38.toNat]
def k0_off5 (k0_t1 : Fin k0_t1_loop.trips) : Fin 3 → Nat :=
  let c0_i32_25 : BitVec 32 := 0#32
  let v41 : Index := Scalar.indexCast c0_i32_25
  let c4_i32_26 : BitVec 32 := 4#32
  let v42 : Index := Scalar.indexCast c4_i32_26
  let c0_i32_0 : BitVec 32 := 0#32
  let c1_i32 : BitVec 32 := 1#32
  let arg12 : BitVec 32 := Scf.iv c0_i32_0 c1_i32 k0_t1
  let c16_i32_24 : BitVec 32 := 16#32
  let v40 : BitVec 32 := Scalar.muli arg12 c16_i32_24
  let v43 : Index := Scalar.indexCast v40
  ![0, 4, v43.toNat]
def k0_off6 (k0_t1 : Fin k0_t1_loop.trips) : Fin 3 → Nat :=
  let c0_i32_28 : BitVec 32 := 0#32
  let v46 : Index := Scalar.indexCast c0_i32_28
  let c5_i32 : BitVec 32 := 5#32
  let v47 : Index := Scalar.indexCast c5_i32
  let c0_i32_0 : BitVec 32 := 0#32
  let c1_i32 : BitVec 32 := 1#32
  let arg12 : BitVec 32 := Scf.iv c0_i32_0 c1_i32 k0_t1
  let c16_i32_27 : BitVec 32 := 16#32
  let v45 : BitVec 32 := Scalar.muli arg12 c16_i32_27
  let v48 : Index := Scalar.indexCast v45
  ![0, 5, v48.toNat]
def k0_off7 (k0_t1 : Fin k0_t1_loop.trips) : Fin 3 → Nat :=
  let c0_i32_30 : BitVec 32 := 0#32
  let v51 : Index := Scalar.indexCast c0_i32_30
  let c6_i32 : BitVec 32 := 6#32
  let v52 : Index := Scalar.indexCast c6_i32
  let c0_i32_0 : BitVec 32 := 0#32
  let c1_i32 : BitVec 32 := 1#32
  let arg12 : BitVec 32 := Scf.iv c0_i32_0 c1_i32 k0_t1
  let c16_i32_29 : BitVec 32 := 16#32
  let v50 : BitVec 32 := Scalar.muli arg12 c16_i32_29
  let v53 : Index := Scalar.indexCast v50
  ![0, 6, v53.toNat]
def k0_off8 (k0_t1 : Fin k0_t1_loop.trips) : Fin 3 → Nat :=
  let c0_i32_32 : BitVec 32 := 0#32
  let v56 : Index := Scalar.indexCast c0_i32_32
  let c7_i32 : BitVec 32 := 7#32
  let v57 : Index := Scalar.indexCast c7_i32
  let c0_i32_0 : BitVec 32 := 0#32
  let c1_i32 : BitVec 32 := 1#32
  let arg12 : BitVec 32 := Scf.iv c0_i32_0 c1_i32 k0_t1
  let c16_i32_31 : BitVec 32 := 16#32
  let v55 : BitVec 32 := Scalar.muli arg12 c16_i32_31
  let v58 : Index := Scalar.indexCast v55
  ![0, 7, v58.toNat]
def k0_off9 (k0_t1 : Fin k0_t1_loop.trips) : Fin 3 → Nat :=
  let c1_i32_34 : BitVec 32 := 1#32
  let v61 : Index := Scalar.indexCast c1_i32_34
  let c0_i32_35 : BitVec 32 := 0#32
  let v62 : Index := Scalar.indexCast c0_i32_35
  let c0_i32_0 : BitVec 32 := 0#32
  let c1_i32 : BitVec 32 := 1#32
  let arg12 : BitVec 32 := Scf.iv c0_i32_0 c1_i32 k0_t1
  let c16_i32_33 : BitVec 32 := 16#32
  let v60 : BitVec 32 := Scalar.muli arg12 c16_i32_33
  let v63 : Index := Scalar.indexCast v60
  ![1, 0, v63.toNat]
def k0_off10 (k0_t1 : Fin k0_t1_loop.trips) : Fin 3 → Nat :=
  let c1_i32_37 : BitVec 32 := 1#32
  let v66 : Index := Scalar.indexCast c1_i32_37
  let c1_i32_38 : BitVec 32 := 1#32
  let v67 : Index := Scalar.indexCast c1_i32_38
  let c0_i32_0 : BitVec 32 := 0#32
  let c1_i32 : BitVec 32 := 1#32
  let arg12 : BitVec 32 := Scf.iv c0_i32_0 c1_i32 k0_t1
  let c16_i32_36 : BitVec 32 := 16#32
  let v65 : BitVec 32 := Scalar.muli arg12 c16_i32_36
  let v68 : Index := Scalar.indexCast v65
  ![1, 1, v68.toNat]
def k0_off11 (k0_t1 : Fin k0_t1_loop.trips) : Fin 3 → Nat :=
  let c1_i32_40 : BitVec 32 := 1#32
  let v71 : Index := Scalar.indexCast c1_i32_40
  let c2_i32_41 : BitVec 32 := 2#32
  let v72 : Index := Scalar.indexCast c2_i32_41
  let c0_i32_0 : BitVec 32 := 0#32
  let c1_i32 : BitVec 32 := 1#32
  let arg12 : BitVec 32 := Scf.iv c0_i32_0 c1_i32 k0_t1
  let c16_i32_39 : BitVec 32 := 16#32
  let v70 : BitVec 32 := Scalar.muli arg12 c16_i32_39
  let v73 : Index := Scalar.indexCast v70
  ![1, 2, v73.toNat]
def k0_off12 (k0_t1 : Fin k0_t1_loop.trips) : Fin 3 → Nat :=
  let c1_i32_43 : BitVec 32 := 1#32
  let v76 : Index := Scalar.indexCast c1_i32_43
  let c3_i32_44 : BitVec 32 := 3#32
  let v77 : Index := Scalar.indexCast c3_i32_44
  let c0_i32_0 : BitVec 32 := 0#32
  let c1_i32 : BitVec 32 := 1#32
  let arg12 : BitVec 32 := Scf.iv c0_i32_0 c1_i32 k0_t1
  let c16_i32_42 : BitVec 32 := 16#32
  let v75 : BitVec 32 := Scalar.muli arg12 c16_i32_42
  let v78 : Index := Scalar.indexCast v75
  ![1, 3, v78.toNat]
def k0_off13 (k0_t1 : Fin k0_t1_loop.trips) : Fin 3 → Nat :=
  let c1_i32_46 : BitVec 32 := 1#32
  let v81 : Index := Scalar.indexCast c1_i32_46
  let c4_i32_47 : BitVec 32 := 4#32
  let v82 : Index := Scalar.indexCast c4_i32_47
  let c0_i32_0 : BitVec 32 := 0#32
  let c1_i32 : BitVec 32 := 1#32
  let arg12 : BitVec 32 := Scf.iv c0_i32_0 c1_i32 k0_t1
  let c16_i32_45 : BitVec 32 := 16#32
  let v80 : BitVec 32 := Scalar.muli arg12 c16_i32_45
  let v83 : Index := Scalar.indexCast v80
  ![1, 4, v83.toNat]
def k0_off14 (k0_t1 : Fin k0_t1_loop.trips) : Fin 3 → Nat :=
  let c1_i32_49 : BitVec 32 := 1#32
  let v86 : Index := Scalar.indexCast c1_i32_49
  let c5_i32_50 : BitVec 32 := 5#32
  let v87 : Index := Scalar.indexCast c5_i32_50
  let c0_i32_0 : BitVec 32 := 0#32
  let c1_i32 : BitVec 32 := 1#32
  let arg12 : BitVec 32 := Scf.iv c0_i32_0 c1_i32 k0_t1
  let c16_i32_48 : BitVec 32 := 16#32
  let v85 : BitVec 32 := Scalar.muli arg12 c16_i32_48
  let v88 : Index := Scalar.indexCast v85
  ![1, 5, v88.toNat]
def k0_off15 (k0_t1 : Fin k0_t1_loop.trips) : Fin 3 → Nat :=
  let c1_i32_52 : BitVec 32 := 1#32
  let v91 : Index := Scalar.indexCast c1_i32_52
  let c6_i32_53 : BitVec 32 := 6#32
  let v92 : Index := Scalar.indexCast c6_i32_53
  let c0_i32_0 : BitVec 32 := 0#32
  let c1_i32 : BitVec 32 := 1#32
  let arg12 : BitVec 32 := Scf.iv c0_i32_0 c1_i32 k0_t1
  let c16_i32_51 : BitVec 32 := 16#32
  let v90 : BitVec 32 := Scalar.muli arg12 c16_i32_51
  let v93 : Index := Scalar.indexCast v90
  ![1, 6, v93.toNat]
def k0_off16 (k0_t1 : Fin k0_t1_loop.trips) : Fin 3 → Nat :=
  let c1_i32_55 : BitVec 32 := 1#32
  let v96 : Index := Scalar.indexCast c1_i32_55
  let c7_i32_56 : BitVec 32 := 7#32
  let v97 : Index := Scalar.indexCast c7_i32_56
  let c0_i32_0 : BitVec 32 := 0#32
  let c1_i32 : BitVec 32 := 1#32
  let arg12 : BitVec 32 := Scf.iv c0_i32_0 c1_i32 k0_t1
  let c16_i32_54 : BitVec 32 := 16#32
  let v95 : BitVec 32 := Scalar.muli arg12 c16_i32_54
  let v98 : Index := Scalar.indexCast v95
  ![1, 7, v98.toNat]
def k0_off17 (k0_t1 : Fin k0_t1_loop.trips) : Fin 3 → Nat :=
  let c2_i32_58 : BitVec 32 := 2#32
  let v101 : Index := Scalar.indexCast c2_i32_58
  let c0_i32_59 : BitVec 32 := 0#32
  let v102 : Index := Scalar.indexCast c0_i32_59
  let c0_i32_0 : BitVec 32 := 0#32
  let c1_i32 : BitVec 32 := 1#32
  let arg12 : BitVec 32 := Scf.iv c0_i32_0 c1_i32 k0_t1
  let c16_i32_57 : BitVec 32 := 16#32
  let v100 : BitVec 32 := Scalar.muli arg12 c16_i32_57
  let v103 : Index := Scalar.indexCast v100
  ![2, 0, v103.toNat]
def k0_off18 (k0_t1 : Fin k0_t1_loop.trips) : Fin 3 → Nat :=
  let c2_i32_61 : BitVec 32 := 2#32
  let v106 : Index := Scalar.indexCast c2_i32_61
  let c1_i32_62 : BitVec 32 := 1#32
  let v107 : Index := Scalar.indexCast c1_i32_62
  let c0_i32_0 : BitVec 32 := 0#32
  let c1_i32 : BitVec 32 := 1#32
  let arg12 : BitVec 32 := Scf.iv c0_i32_0 c1_i32 k0_t1
  let c16_i32_60 : BitVec 32 := 16#32
  let v105 : BitVec 32 := Scalar.muli arg12 c16_i32_60
  let v108 : Index := Scalar.indexCast v105
  ![2, 1, v108.toNat]
def k0_off19 (k0_t1 : Fin k0_t1_loop.trips) : Fin 3 → Nat :=
  let c2_i32_64 : BitVec 32 := 2#32
  let v111 : Index := Scalar.indexCast c2_i32_64
  let c2_i32_65 : BitVec 32 := 2#32
  let v112 : Index := Scalar.indexCast c2_i32_65
  let c0_i32_0 : BitVec 32 := 0#32
  let c1_i32 : BitVec 32 := 1#32
  let arg12 : BitVec 32 := Scf.iv c0_i32_0 c1_i32 k0_t1
  let c16_i32_63 : BitVec 32 := 16#32
  let v110 : BitVec 32 := Scalar.muli arg12 c16_i32_63
  let v113 : Index := Scalar.indexCast v110
  ![2, 2, v113.toNat]
def k0_off20 (k0_t1 : Fin k0_t1_loop.trips) : Fin 3 → Nat :=
  let c2_i32_67 : BitVec 32 := 2#32
  let v116 : Index := Scalar.indexCast c2_i32_67
  let c3_i32_68 : BitVec 32 := 3#32
  let v117 : Index := Scalar.indexCast c3_i32_68
  let c0_i32_0 : BitVec 32 := 0#32
  let c1_i32 : BitVec 32 := 1#32
  let arg12 : BitVec 32 := Scf.iv c0_i32_0 c1_i32 k0_t1
  let c16_i32_66 : BitVec 32 := 16#32
  let v115 : BitVec 32 := Scalar.muli arg12 c16_i32_66
  let v118 : Index := Scalar.indexCast v115
  ![2, 3, v118.toNat]
def k0_off21 (k0_t1 : Fin k0_t1_loop.trips) : Fin 3 → Nat :=
  let c2_i32_70 : BitVec 32 := 2#32
  let v121 : Index := Scalar.indexCast c2_i32_70
  let c4_i32_71 : BitVec 32 := 4#32
  let v122 : Index := Scalar.indexCast c4_i32_71
  let c0_i32_0 : BitVec 32 := 0#32
  let c1_i32 : BitVec 32 := 1#32
  let arg12 : BitVec 32 := Scf.iv c0_i32_0 c1_i32 k0_t1
  let c16_i32_69 : BitVec 32 := 16#32
  let v120 : BitVec 32 := Scalar.muli arg12 c16_i32_69
  let v123 : Index := Scalar.indexCast v120
  ![2, 4, v123.toNat]
def k0_off22 (k0_t1 : Fin k0_t1_loop.trips) : Fin 3 → Nat :=
  let c2_i32_73 : BitVec 32 := 2#32
  let v126 : Index := Scalar.indexCast c2_i32_73
  let c5_i32_74 : BitVec 32 := 5#32
  let v127 : Index := Scalar.indexCast c5_i32_74
  let c0_i32_0 : BitVec 32 := 0#32
  let c1_i32 : BitVec 32 := 1#32
  let arg12 : BitVec 32 := Scf.iv c0_i32_0 c1_i32 k0_t1
  let c16_i32_72 : BitVec 32 := 16#32
  let v125 : BitVec 32 := Scalar.muli arg12 c16_i32_72
  let v128 : Index := Scalar.indexCast v125
  ![2, 5, v128.toNat]
def k0_off23 (k0_t1 : Fin k0_t1_loop.trips) : Fin 3 → Nat :=
  let c2_i32_76 : BitVec 32 := 2#32
  let v131 : Index := Scalar.indexCast c2_i32_76
  let c6_i32_77 : BitVec 32 := 6#32
  let v132 : Index := Scalar.indexCast c6_i32_77
  let c0_i32_0 : BitVec 32 := 0#32
  let c1_i32 : BitVec 32 := 1#32
  let arg12 : BitVec 32 := Scf.iv c0_i32_0 c1_i32 k0_t1
  let c16_i32_75 : BitVec 32 := 16#32
  let v130 : BitVec 32 := Scalar.muli arg12 c16_i32_75
  let v133 : Index := Scalar.indexCast v130
  ![2, 6, v133.toNat]
def k0_off24 (k0_t1 : Fin k0_t1_loop.trips) : Fin 3 → Nat :=
  let c2_i32_79 : BitVec 32 := 2#32
  let v136 : Index := Scalar.indexCast c2_i32_79
  let c7_i32_80 : BitVec 32 := 7#32
  let v137 : Index := Scalar.indexCast c7_i32_80
  let c0_i32_0 : BitVec 32 := 0#32
  let c1_i32 : BitVec 32 := 1#32
  let arg12 : BitVec 32 := Scf.iv c0_i32_0 c1_i32 k0_t1
  let c16_i32_78 : BitVec 32 := 16#32
  let v135 : BitVec 32 := Scalar.muli arg12 c16_i32_78
  let v138 : Index := Scalar.indexCast v135
  ![2, 7, v138.toNat]
def k0_off25 (k0_t1 : Fin k0_t1_loop.trips) : Fin 3 → Nat :=
  let c3_i32_82 : BitVec 32 := 3#32
  let v141 : Index := Scalar.indexCast c3_i32_82
  let c0_i32_83 : BitVec 32 := 0#32
  let v142 : Index := Scalar.indexCast c0_i32_83
  let c0_i32_0 : BitVec 32 := 0#32
  let c1_i32 : BitVec 32 := 1#32
  let arg12 : BitVec 32 := Scf.iv c0_i32_0 c1_i32 k0_t1
  let c16_i32_81 : BitVec 32 := 16#32
  let v140 : BitVec 32 := Scalar.muli arg12 c16_i32_81
  let v143 : Index := Scalar.indexCast v140
  ![3, 0, v143.toNat]
def k0_off26 (k0_t1 : Fin k0_t1_loop.trips) : Fin 3 → Nat :=
  let c3_i32_85 : BitVec 32 := 3#32
  let v146 : Index := Scalar.indexCast c3_i32_85
  let c1_i32_86 : BitVec 32 := 1#32
  let v147 : Index := Scalar.indexCast c1_i32_86
  let c0_i32_0 : BitVec 32 := 0#32
  let c1_i32 : BitVec 32 := 1#32
  let arg12 : BitVec 32 := Scf.iv c0_i32_0 c1_i32 k0_t1
  let c16_i32_84 : BitVec 32 := 16#32
  let v145 : BitVec 32 := Scalar.muli arg12 c16_i32_84
  let v148 : Index := Scalar.indexCast v145
  ![3, 1, v148.toNat]
def k0_off27 (k0_t1 : Fin k0_t1_loop.trips) : Fin 3 → Nat :=
  let c3_i32_88 : BitVec 32 := 3#32
  let v151 : Index := Scalar.indexCast c3_i32_88
  let c2_i32_89 : BitVec 32 := 2#32
  let v152 : Index := Scalar.indexCast c2_i32_89
  let c0_i32_0 : BitVec 32 := 0#32
  let c1_i32 : BitVec 32 := 1#32
  let arg12 : BitVec 32 := Scf.iv c0_i32_0 c1_i32 k0_t1
  let c16_i32_87 : BitVec 32 := 16#32
  let v150 : BitVec 32 := Scalar.muli arg12 c16_i32_87
  let v153 : Index := Scalar.indexCast v150
  ![3, 2, v153.toNat]
def k0_off28 (k0_t1 : Fin k0_t1_loop.trips) : Fin 3 → Nat :=
  let c3_i32_91 : BitVec 32 := 3#32
  let v156 : Index := Scalar.indexCast c3_i32_91
  let c3_i32_92 : BitVec 32 := 3#32
  let v157 : Index := Scalar.indexCast c3_i32_92
  let c0_i32_0 : BitVec 32 := 0#32
  let c1_i32 : BitVec 32 := 1#32
  let arg12 : BitVec 32 := Scf.iv c0_i32_0 c1_i32 k0_t1
  let c16_i32_90 : BitVec 32 := 16#32
  let v155 : BitVec 32 := Scalar.muli arg12 c16_i32_90
  let v158 : Index := Scalar.indexCast v155
  ![3, 3, v158.toNat]
def k0_off29 (k0_t1 : Fin k0_t1_loop.trips) : Fin 3 → Nat :=
  let c3_i32_94 : BitVec 32 := 3#32
  let v161 : Index := Scalar.indexCast c3_i32_94
  let c4_i32_95 : BitVec 32 := 4#32
  let v162 : Index := Scalar.indexCast c4_i32_95
  let c0_i32_0 : BitVec 32 := 0#32
  let c1_i32 : BitVec 32 := 1#32
  let arg12 : BitVec 32 := Scf.iv c0_i32_0 c1_i32 k0_t1
  let c16_i32_93 : BitVec 32 := 16#32
  let v160 : BitVec 32 := Scalar.muli arg12 c16_i32_93
  let v163 : Index := Scalar.indexCast v160
  ![3, 4, v163.toNat]
def k0_off30 (k0_t1 : Fin k0_t1_loop.trips) : Fin 3 → Nat :=
  let c3_i32_97 : BitVec 32 := 3#32
  let v166 : Index := Scalar.indexCast c3_i32_97
  let c5_i32_98 : BitVec 32 := 5#32
  let v167 : Index := Scalar.indexCast c5_i32_98
  let c0_i32_0 : BitVec 32 := 0#32
  let c1_i32 : BitVec 32 := 1#32
  let arg12 : BitVec 32 := Scf.iv c0_i32_0 c1_i32 k0_t1
  let c16_i32_96 : BitVec 32 := 16#32
  let v165 : BitVec 32 := Scalar.muli arg12 c16_i32_96
  let v168 : Index := Scalar.indexCast v165
  ![3, 5, v168.toNat]
def k0_off31 (k0_t1 : Fin k0_t1_loop.trips) : Fin 3 → Nat :=
  let c3_i32_100 : BitVec 32 := 3#32
  let v171 : Index := Scalar.indexCast c3_i32_100
  let c6_i32_101 : BitVec 32 := 6#32
  let v172 : Index := Scalar.indexCast c6_i32_101
  let c0_i32_0 : BitVec 32 := 0#32
  let c1_i32 : BitVec 32 := 1#32
  let arg12 : BitVec 32 := Scf.iv c0_i32_0 c1_i32 k0_t1
  let c16_i32_99 : BitVec 32 := 16#32
  let v170 : BitVec 32 := Scalar.muli arg12 c16_i32_99
  let v173 : Index := Scalar.indexCast v170
  ![3, 6, v173.toNat]
def k0_off32 (k0_t1 : Fin k0_t1_loop.trips) : Fin 3 → Nat :=
  let c3_i32_103 : BitVec 32 := 3#32
  let v176 : Index := Scalar.indexCast c3_i32_103
  let c7_i32_104 : BitVec 32 := 7#32
  let v177 : Index := Scalar.indexCast c7_i32_104
  let c0_i32_0 : BitVec 32 := 0#32
  let c1_i32 : BitVec 32 := 1#32
  let arg12 : BitVec 32 := Scf.iv c0_i32_0 c1_i32 k0_t1
  let c16_i32_102 : BitVec 32 := 16#32
  let v175 : BitVec 32 := Scalar.muli arg12 c16_i32_102
  let v178 : Index := Scalar.indexCast v175
  ![3, 7, v178.toNat]
def k0_off33 (k0_t1 : Fin k0_t1_loop.trips) : Fin 3 → Nat :=
  let c4_i32_106 : BitVec 32 := 4#32
  let v181 : Index := Scalar.indexCast c4_i32_106
  let c0_i32_107 : BitVec 32 := 0#32
  let v182 : Index := Scalar.indexCast c0_i32_107
  let c0_i32_0 : BitVec 32 := 0#32
  let c1_i32 : BitVec 32 := 1#32
  let arg12 : BitVec 32 := Scf.iv c0_i32_0 c1_i32 k0_t1
  let c16_i32_105 : BitVec 32 := 16#32
  let v180 : BitVec 32 := Scalar.muli arg12 c16_i32_105
  let v183 : Index := Scalar.indexCast v180
  ![4, 0, v183.toNat]
def k0_off34 (k0_t1 : Fin k0_t1_loop.trips) : Fin 3 → Nat :=
  let c4_i32_109 : BitVec 32 := 4#32
  let v186 : Index := Scalar.indexCast c4_i32_109
  let c1_i32_110 : BitVec 32 := 1#32
  let v187 : Index := Scalar.indexCast c1_i32_110
  let c0_i32_0 : BitVec 32 := 0#32
  let c1_i32 : BitVec 32 := 1#32
  let arg12 : BitVec 32 := Scf.iv c0_i32_0 c1_i32 k0_t1
  let c16_i32_108 : BitVec 32 := 16#32
  let v185 : BitVec 32 := Scalar.muli arg12 c16_i32_108
  let v188 : Index := Scalar.indexCast v185
  ![4, 1, v188.toNat]
def k0_off35 (k0_t1 : Fin k0_t1_loop.trips) : Fin 3 → Nat :=
  let c4_i32_112 : BitVec 32 := 4#32
  let v191 : Index := Scalar.indexCast c4_i32_112
  let c2_i32_113 : BitVec 32 := 2#32
  let v192 : Index := Scalar.indexCast c2_i32_113
  let c0_i32_0 : BitVec 32 := 0#32
  let c1_i32 : BitVec 32 := 1#32
  let arg12 : BitVec 32 := Scf.iv c0_i32_0 c1_i32 k0_t1
  let c16_i32_111 : BitVec 32 := 16#32
  let v190 : BitVec 32 := Scalar.muli arg12 c16_i32_111
  let v193 : Index := Scalar.indexCast v190
  ![4, 2, v193.toNat]
def k0_off36 (k0_t1 : Fin k0_t1_loop.trips) : Fin 3 → Nat :=
  let c4_i32_115 : BitVec 32 := 4#32
  let v196 : Index := Scalar.indexCast c4_i32_115
  let c3_i32_116 : BitVec 32 := 3#32
  let v197 : Index := Scalar.indexCast c3_i32_116
  let c0_i32_0 : BitVec 32 := 0#32
  let c1_i32 : BitVec 32 := 1#32
  let arg12 : BitVec 32 := Scf.iv c0_i32_0 c1_i32 k0_t1
  let c16_i32_114 : BitVec 32 := 16#32
  let v195 : BitVec 32 := Scalar.muli arg12 c16_i32_114
  let v198 : Index := Scalar.indexCast v195
  ![4, 3, v198.toNat]
def k0_off37 (k0_t1 : Fin k0_t1_loop.trips) : Fin 3 → Nat :=
  let c4_i32_118 : BitVec 32 := 4#32
  let v201 : Index := Scalar.indexCast c4_i32_118
  let c4_i32_119 : BitVec 32 := 4#32
  let v202 : Index := Scalar.indexCast c4_i32_119
  let c0_i32_0 : BitVec 32 := 0#32
  let c1_i32 : BitVec 32 := 1#32
  let arg12 : BitVec 32 := Scf.iv c0_i32_0 c1_i32 k0_t1
  let c16_i32_117 : BitVec 32 := 16#32
  let v200 : BitVec 32 := Scalar.muli arg12 c16_i32_117
  let v203 : Index := Scalar.indexCast v200
  ![4, 4, v203.toNat]
def k0_off38 (k0_t1 : Fin k0_t1_loop.trips) : Fin 3 → Nat :=
  let c4_i32_121 : BitVec 32 := 4#32
  let v206 : Index := Scalar.indexCast c4_i32_121
  let c5_i32_122 : BitVec 32 := 5#32
  let v207 : Index := Scalar.indexCast c5_i32_122
  let c0_i32_0 : BitVec 32 := 0#32
  let c1_i32 : BitVec 32 := 1#32
  let arg12 : BitVec 32 := Scf.iv c0_i32_0 c1_i32 k0_t1
  let c16_i32_120 : BitVec 32 := 16#32
  let v205 : BitVec 32 := Scalar.muli arg12 c16_i32_120
  let v208 : Index := Scalar.indexCast v205
  ![4, 5, v208.toNat]
def k0_off39 (k0_t1 : Fin k0_t1_loop.trips) : Fin 3 → Nat :=
  let c4_i32_124 : BitVec 32 := 4#32
  let v211 : Index := Scalar.indexCast c4_i32_124
  let c6_i32_125 : BitVec 32 := 6#32
  let v212 : Index := Scalar.indexCast c6_i32_125
  let c0_i32_0 : BitVec 32 := 0#32
  let c1_i32 : BitVec 32 := 1#32
  let arg12 : BitVec 32 := Scf.iv c0_i32_0 c1_i32 k0_t1
  let c16_i32_123 : BitVec 32 := 16#32
  let v210 : BitVec 32 := Scalar.muli arg12 c16_i32_123
  let v213 : Index := Scalar.indexCast v210
  ![4, 6, v213.toNat]
def k0_off40 (k0_t1 : Fin k0_t1_loop.trips) : Fin 3 → Nat :=
  let c4_i32_127 : BitVec 32 := 4#32
  let v216 : Index := Scalar.indexCast c4_i32_127
  let c7_i32_128 : BitVec 32 := 7#32
  let v217 : Index := Scalar.indexCast c7_i32_128
  let c0_i32_0 : BitVec 32 := 0#32
  let c1_i32 : BitVec 32 := 1#32
  let arg12 : BitVec 32 := Scf.iv c0_i32_0 c1_i32 k0_t1
  let c16_i32_126 : BitVec 32 := 16#32
  let v215 : BitVec 32 := Scalar.muli arg12 c16_i32_126
  let v218 : Index := Scalar.indexCast v215
  ![4, 7, v218.toNat]
def k0_off41 (k0_t1 : Fin k0_t1_loop.trips) : Fin 3 → Nat :=
  let c5_i32_130 : BitVec 32 := 5#32
  let v221 : Index := Scalar.indexCast c5_i32_130
  let c0_i32_131 : BitVec 32 := 0#32
  let v222 : Index := Scalar.indexCast c0_i32_131
  let c0_i32_0 : BitVec 32 := 0#32
  let c1_i32 : BitVec 32 := 1#32
  let arg12 : BitVec 32 := Scf.iv c0_i32_0 c1_i32 k0_t1
  let c16_i32_129 : BitVec 32 := 16#32
  let v220 : BitVec 32 := Scalar.muli arg12 c16_i32_129
  let v223 : Index := Scalar.indexCast v220
  ![5, 0, v223.toNat]
def k0_off42 (k0_t1 : Fin k0_t1_loop.trips) : Fin 3 → Nat :=
  let c5_i32_133 : BitVec 32 := 5#32
  let v226 : Index := Scalar.indexCast c5_i32_133
  let c1_i32_134 : BitVec 32 := 1#32
  let v227 : Index := Scalar.indexCast c1_i32_134
  let c0_i32_0 : BitVec 32 := 0#32
  let c1_i32 : BitVec 32 := 1#32
  let arg12 : BitVec 32 := Scf.iv c0_i32_0 c1_i32 k0_t1
  let c16_i32_132 : BitVec 32 := 16#32
  let v225 : BitVec 32 := Scalar.muli arg12 c16_i32_132
  let v228 : Index := Scalar.indexCast v225
  ![5, 1, v228.toNat]
def k0_off43 (k0_t1 : Fin k0_t1_loop.trips) : Fin 3 → Nat :=
  let c5_i32_136 : BitVec 32 := 5#32
  let v231 : Index := Scalar.indexCast c5_i32_136
  let c2_i32_137 : BitVec 32 := 2#32
  let v232 : Index := Scalar.indexCast c2_i32_137
  let c0_i32_0 : BitVec 32 := 0#32
  let c1_i32 : BitVec 32 := 1#32
  let arg12 : BitVec 32 := Scf.iv c0_i32_0 c1_i32 k0_t1
  let c16_i32_135 : BitVec 32 := 16#32
  let v230 : BitVec 32 := Scalar.muli arg12 c16_i32_135
  let v233 : Index := Scalar.indexCast v230
  ![5, 2, v233.toNat]
def k0_off44 (k0_t1 : Fin k0_t1_loop.trips) : Fin 3 → Nat :=
  let c5_i32_139 : BitVec 32 := 5#32
  let v236 : Index := Scalar.indexCast c5_i32_139
  let c3_i32_140 : BitVec 32 := 3#32
  let v237 : Index := Scalar.indexCast c3_i32_140
  let c0_i32_0 : BitVec 32 := 0#32
  let c1_i32 : BitVec 32 := 1#32
  let arg12 : BitVec 32 := Scf.iv c0_i32_0 c1_i32 k0_t1
  let c16_i32_138 : BitVec 32 := 16#32
  let v235 : BitVec 32 := Scalar.muli arg12 c16_i32_138
  let v238 : Index := Scalar.indexCast v235
  ![5, 3, v238.toNat]
def k0_off45 (k0_t1 : Fin k0_t1_loop.trips) : Fin 3 → Nat :=
  let c5_i32_142 : BitVec 32 := 5#32
  let v241 : Index := Scalar.indexCast c5_i32_142
  let c4_i32_143 : BitVec 32 := 4#32
  let v242 : Index := Scalar.indexCast c4_i32_143
  let c0_i32_0 : BitVec 32 := 0#32
  let c1_i32 : BitVec 32 := 1#32
  let arg12 : BitVec 32 := Scf.iv c0_i32_0 c1_i32 k0_t1
  let c16_i32_141 : BitVec 32 := 16#32
  let v240 : BitVec 32 := Scalar.muli arg12 c16_i32_141
  let v243 : Index := Scalar.indexCast v240
  ![5, 4, v243.toNat]
def k0_off46 (k0_t1 : Fin k0_t1_loop.trips) : Fin 3 → Nat :=
  let c5_i32_145 : BitVec 32 := 5#32
  let v246 : Index := Scalar.indexCast c5_i32_145
  let c5_i32_146 : BitVec 32 := 5#32
  let v247 : Index := Scalar.indexCast c5_i32_146
  let c0_i32_0 : BitVec 32 := 0#32
  let c1_i32 : BitVec 32 := 1#32
  let arg12 : BitVec 32 := Scf.iv c0_i32_0 c1_i32 k0_t1
  let c16_i32_144 : BitVec 32 := 16#32
  let v245 : BitVec 32 := Scalar.muli arg12 c16_i32_144
  let v248 : Index := Scalar.indexCast v245
  ![5, 5, v248.toNat]
def k0_off47 (k0_t1 : Fin k0_t1_loop.trips) : Fin 3 → Nat :=
  let c5_i32_148 : BitVec 32 := 5#32
  let v251 : Index := Scalar.indexCast c5_i32_148
  let c6_i32_149 : BitVec 32 := 6#32
  let v252 : Index := Scalar.indexCast c6_i32_149
  let c0_i32_0 : BitVec 32 := 0#32
  let c1_i32 : BitVec 32 := 1#32
  let arg12 : BitVec 32 := Scf.iv c0_i32_0 c1_i32 k0_t1
  let c16_i32_147 : BitVec 32 := 16#32
  let v250 : BitVec 32 := Scalar.muli arg12 c16_i32_147
  let v253 : Index := Scalar.indexCast v250
  ![5, 6, v253.toNat]
def k0_off48 (k0_t1 : Fin k0_t1_loop.trips) : Fin 3 → Nat :=
  let c5_i32_151 : BitVec 32 := 5#32
  let v256 : Index := Scalar.indexCast c5_i32_151
  let c7_i32_152 : BitVec 32 := 7#32
  let v257 : Index := Scalar.indexCast c7_i32_152
  let c0_i32_0 : BitVec 32 := 0#32
  let c1_i32 : BitVec 32 := 1#32
  let arg12 : BitVec 32 := Scf.iv c0_i32_0 c1_i32 k0_t1
  let c16_i32_150 : BitVec 32 := 16#32
  let v255 : BitVec 32 := Scalar.muli arg12 c16_i32_150
  let v258 : Index := Scalar.indexCast v255
  ![5, 7, v258.toNat]
def k0_off49 (k0_t1 : Fin k0_t1_loop.trips) : Fin 3 → Nat :=
  let c6_i32_154 : BitVec 32 := 6#32
  let v261 : Index := Scalar.indexCast c6_i32_154
  let c0_i32_155 : BitVec 32 := 0#32
  let v262 : Index := Scalar.indexCast c0_i32_155
  let c0_i32_0 : BitVec 32 := 0#32
  let c1_i32 : BitVec 32 := 1#32
  let arg12 : BitVec 32 := Scf.iv c0_i32_0 c1_i32 k0_t1
  let c16_i32_153 : BitVec 32 := 16#32
  let v260 : BitVec 32 := Scalar.muli arg12 c16_i32_153
  let v263 : Index := Scalar.indexCast v260
  ![6, 0, v263.toNat]
def k0_off50 (k0_t1 : Fin k0_t1_loop.trips) : Fin 3 → Nat :=
  let c6_i32_157 : BitVec 32 := 6#32
  let v266 : Index := Scalar.indexCast c6_i32_157
  let c1_i32_158 : BitVec 32 := 1#32
  let v267 : Index := Scalar.indexCast c1_i32_158
  let c0_i32_0 : BitVec 32 := 0#32
  let c1_i32 : BitVec 32 := 1#32
  let arg12 : BitVec 32 := Scf.iv c0_i32_0 c1_i32 k0_t1
  let c16_i32_156 : BitVec 32 := 16#32
  let v265 : BitVec 32 := Scalar.muli arg12 c16_i32_156
  let v268 : Index := Scalar.indexCast v265
  ![6, 1, v268.toNat]
def k0_off51 (k0_t1 : Fin k0_t1_loop.trips) : Fin 3 → Nat :=
  let c6_i32_160 : BitVec 32 := 6#32
  let v271 : Index := Scalar.indexCast c6_i32_160
  let c2_i32_161 : BitVec 32 := 2#32
  let v272 : Index := Scalar.indexCast c2_i32_161
  let c0_i32_0 : BitVec 32 := 0#32
  let c1_i32 : BitVec 32 := 1#32
  let arg12 : BitVec 32 := Scf.iv c0_i32_0 c1_i32 k0_t1
  let c16_i32_159 : BitVec 32 := 16#32
  let v270 : BitVec 32 := Scalar.muli arg12 c16_i32_159
  let v273 : Index := Scalar.indexCast v270
  ![6, 2, v273.toNat]
def k0_off52 (k0_t1 : Fin k0_t1_loop.trips) : Fin 3 → Nat :=
  let c6_i32_163 : BitVec 32 := 6#32
  let v276 : Index := Scalar.indexCast c6_i32_163
  let c3_i32_164 : BitVec 32 := 3#32
  let v277 : Index := Scalar.indexCast c3_i32_164
  let c0_i32_0 : BitVec 32 := 0#32
  let c1_i32 : BitVec 32 := 1#32
  let arg12 : BitVec 32 := Scf.iv c0_i32_0 c1_i32 k0_t1
  let c16_i32_162 : BitVec 32 := 16#32
  let v275 : BitVec 32 := Scalar.muli arg12 c16_i32_162
  let v278 : Index := Scalar.indexCast v275
  ![6, 3, v278.toNat]
def k0_off53 (k0_t1 : Fin k0_t1_loop.trips) : Fin 3 → Nat :=
  let c6_i32_166 : BitVec 32 := 6#32
  let v281 : Index := Scalar.indexCast c6_i32_166
  let c4_i32_167 : BitVec 32 := 4#32
  let v282 : Index := Scalar.indexCast c4_i32_167
  let c0_i32_0 : BitVec 32 := 0#32
  let c1_i32 : BitVec 32 := 1#32
  let arg12 : BitVec 32 := Scf.iv c0_i32_0 c1_i32 k0_t1
  let c16_i32_165 : BitVec 32 := 16#32
  let v280 : BitVec 32 := Scalar.muli arg12 c16_i32_165
  let v283 : Index := Scalar.indexCast v280
  ![6, 4, v283.toNat]
def k0_off54 (k0_t1 : Fin k0_t1_loop.trips) : Fin 3 → Nat :=
  let c6_i32_169 : BitVec 32 := 6#32
  let v286 : Index := Scalar.indexCast c6_i32_169
  let c5_i32_170 : BitVec 32 := 5#32
  let v287 : Index := Scalar.indexCast c5_i32_170
  let c0_i32_0 : BitVec 32 := 0#32
  let c1_i32 : BitVec 32 := 1#32
  let arg12 : BitVec 32 := Scf.iv c0_i32_0 c1_i32 k0_t1
  let c16_i32_168 : BitVec 32 := 16#32
  let v285 : BitVec 32 := Scalar.muli arg12 c16_i32_168
  let v288 : Index := Scalar.indexCast v285
  ![6, 5, v288.toNat]
def k0_off55 (k0_t1 : Fin k0_t1_loop.trips) : Fin 3 → Nat :=
  let c6_i32_172 : BitVec 32 := 6#32
  let v291 : Index := Scalar.indexCast c6_i32_172
  let c6_i32_173 : BitVec 32 := 6#32
  let v292 : Index := Scalar.indexCast c6_i32_173
  let c0_i32_0 : BitVec 32 := 0#32
  let c1_i32 : BitVec 32 := 1#32
  let arg12 : BitVec 32 := Scf.iv c0_i32_0 c1_i32 k0_t1
  let c16_i32_171 : BitVec 32 := 16#32
  let v290 : BitVec 32 := Scalar.muli arg12 c16_i32_171
  let v293 : Index := Scalar.indexCast v290
  ![6, 6, v293.toNat]
def k0_off56 (k0_t1 : Fin k0_t1_loop.trips) : Fin 3 → Nat :=
  let c6_i32_175 : BitVec 32 := 6#32
  let v296 : Index := Scalar.indexCast c6_i32_175
  let c7_i32_176 : BitVec 32 := 7#32
  let v297 : Index := Scalar.indexCast c7_i32_176
  let c0_i32_0 : BitVec 32 := 0#32
  let c1_i32 : BitVec 32 := 1#32
  let arg12 : BitVec 32 := Scf.iv c0_i32_0 c1_i32 k0_t1
  let c16_i32_174 : BitVec 32 := 16#32
  let v295 : BitVec 32 := Scalar.muli arg12 c16_i32_174
  let v298 : Index := Scalar.indexCast v295
  ![6, 7, v298.toNat]
def k0_off57 (k0_t1 : Fin k0_t1_loop.trips) : Fin 3 → Nat :=
  let c7_i32_178 : BitVec 32 := 7#32
  let v301 : Index := Scalar.indexCast c7_i32_178
  let c0_i32_179 : BitVec 32 := 0#32
  let v302 : Index := Scalar.indexCast c0_i32_179
  let c0_i32_0 : BitVec 32 := 0#32
  let c1_i32 : BitVec 32 := 1#32
  let arg12 : BitVec 32 := Scf.iv c0_i32_0 c1_i32 k0_t1
  let c16_i32_177 : BitVec 32 := 16#32
  let v300 : BitVec 32 := Scalar.muli arg12 c16_i32_177
  let v303 : Index := Scalar.indexCast v300
  ![7, 0, v303.toNat]
def k0_off58 (k0_t1 : Fin k0_t1_loop.trips) : Fin 3 → Nat :=
  let c7_i32_181 : BitVec 32 := 7#32
  let v306 : Index := Scalar.indexCast c7_i32_181
  let c1_i32_182 : BitVec 32 := 1#32
  let v307 : Index := Scalar.indexCast c1_i32_182
  let c0_i32_0 : BitVec 32 := 0#32
  let c1_i32 : BitVec 32 := 1#32
  let arg12 : BitVec 32 := Scf.iv c0_i32_0 c1_i32 k0_t1
  let c16_i32_180 : BitVec 32 := 16#32
  let v305 : BitVec 32 := Scalar.muli arg12 c16_i32_180
  let v308 : Index := Scalar.indexCast v305
  ![7, 1, v308.toNat]
def k0_off59 (k0_t1 : Fin k0_t1_loop.trips) : Fin 3 → Nat :=
  let c7_i32_184 : BitVec 32 := 7#32
  let v311 : Index := Scalar.indexCast c7_i32_184
  let c2_i32_185 : BitVec 32 := 2#32
  let v312 : Index := Scalar.indexCast c2_i32_185
  let c0_i32_0 : BitVec 32 := 0#32
  let c1_i32 : BitVec 32 := 1#32
  let arg12 : BitVec 32 := Scf.iv c0_i32_0 c1_i32 k0_t1
  let c16_i32_183 : BitVec 32 := 16#32
  let v310 : BitVec 32 := Scalar.muli arg12 c16_i32_183
  let v313 : Index := Scalar.indexCast v310
  ![7, 2, v313.toNat]
def k0_off60 (k0_t1 : Fin k0_t1_loop.trips) : Fin 3 → Nat :=
  let c7_i32_187 : BitVec 32 := 7#32
  let v316 : Index := Scalar.indexCast c7_i32_187
  let c3_i32_188 : BitVec 32 := 3#32
  let v317 : Index := Scalar.indexCast c3_i32_188
  let c0_i32_0 : BitVec 32 := 0#32
  let c1_i32 : BitVec 32 := 1#32
  let arg12 : BitVec 32 := Scf.iv c0_i32_0 c1_i32 k0_t1
  let c16_i32_186 : BitVec 32 := 16#32
  let v315 : BitVec 32 := Scalar.muli arg12 c16_i32_186
  let v318 : Index := Scalar.indexCast v315
  ![7, 3, v318.toNat]
def k0_off61 (k0_t1 : Fin k0_t1_loop.trips) : Fin 3 → Nat :=
  let c7_i32_190 : BitVec 32 := 7#32
  let v321 : Index := Scalar.indexCast c7_i32_190
  let c4_i32_191 : BitVec 32 := 4#32
  let v322 : Index := Scalar.indexCast c4_i32_191
  let c0_i32_0 : BitVec 32 := 0#32
  let c1_i32 : BitVec 32 := 1#32
  let arg12 : BitVec 32 := Scf.iv c0_i32_0 c1_i32 k0_t1
  let c16_i32_189 : BitVec 32 := 16#32
  let v320 : BitVec 32 := Scalar.muli arg12 c16_i32_189
  let v323 : Index := Scalar.indexCast v320
  ![7, 4, v323.toNat]
def k0_off62 (k0_t1 : Fin k0_t1_loop.trips) : Fin 3 → Nat :=
  let c7_i32_193 : BitVec 32 := 7#32
  let v326 : Index := Scalar.indexCast c7_i32_193
  let c5_i32_194 : BitVec 32 := 5#32
  let v327 : Index := Scalar.indexCast c5_i32_194
  let c0_i32_0 : BitVec 32 := 0#32
  let c1_i32 : BitVec 32 := 1#32
  let arg12 : BitVec 32 := Scf.iv c0_i32_0 c1_i32 k0_t1
  let c16_i32_192 : BitVec 32 := 16#32
  let v325 : BitVec 32 := Scalar.muli arg12 c16_i32_192
  let v328 : Index := Scalar.indexCast v325
  ![7, 5, v328.toNat]
def k0_off63 (k0_t1 : Fin k0_t1_loop.trips) : Fin 3 → Nat :=
  let c7_i32_196 : BitVec 32 := 7#32
  let v331 : Index := Scalar.indexCast c7_i32_196
  let c6_i32_197 : BitVec 32 := 6#32
  let v332 : Index := Scalar.indexCast c6_i32_197
  let c0_i32_0 : BitVec 32 := 0#32
  let c1_i32 : BitVec 32 := 1#32
  let arg12 : BitVec 32 := Scf.iv c0_i32_0 c1_i32 k0_t1
  let c16_i32_195 : BitVec 32 := 16#32
  let v330 : BitVec 32 := Scalar.muli arg12 c16_i32_195
  let v333 : Index := Scalar.indexCast v330
  ![7, 6, v333.toNat]
def k0_off64 (k0_t1 : Fin k0_t1_loop.trips) : Fin 3 → Nat :=
  let c7_i32_199 : BitVec 32 := 7#32
  let v336 : Index := Scalar.indexCast c7_i32_199
  let c7_i32_200 : BitVec 32 := 7#32
  let v337 : Index := Scalar.indexCast c7_i32_200
  let c0_i32_0 : BitVec 32 := 0#32
  let c1_i32 : BitVec 32 := 1#32
  let arg12 : BitVec 32 := Scf.iv c0_i32_0 c1_i32 k0_t1
  let c16_i32_198 : BitVec 32 := 16#32
  let v335 : BitVec 32 := Scalar.muli arg12 c16_i32_198
  let v338 : Index := Scalar.indexCast v335
  ![7, 7, v338.toNat]
@[reducible] def k0_t2_loop : Scf.Loop 32 :=
  let c0_i32_6 : BitVec 32 := 0#32
  let c256_i32 : BitVec 32 := 256#32
  let v14 : BitVec 32 := Scalar.addi c0_i32_6 c256_i32
  let c1_i32_7 : BitVec 32 := 1#32
  ⟨c0_i32_6, v14, c1_i32_7⟩
def k0_off65 (k0_t2 : Fin k0_t2_loop.trips) : Fin 1 → Nat :=
  let c0_i32_6 : BitVec 32 := 0#32
  let c1_i32_7 : BitVec 32 := 1#32
  let arg12 : BitVec 32 := Scf.iv c0_i32_6 c1_i32_7 k0_t2
  let c4_i32_14 : BitVec 32 := 4#32
  let v20 : BitVec 32 := Scalar.muli arg12 c4_i32_14
  let c0_i32_15 : BitVec 32 := 0#32
  let v21 : BitVec 32 := Scalar.addi v20 c0_i32_15
  let c16_i32 : BitVec 32 := 16#32
  let v22 : BitVec 32 := Scalar.muli v21 c16_i32
  let v23 : Index := Scalar.indexCast v22
  ![v23.toNat]

def k0_chk1 (v40 : IVec S16 32) : Prop :=
  (∀ a x, ((![v40] : Fin 1 → IVec S16 32) a x).toNat < S16384.size a)
theorem k0_idx1_inb : ∀ (v40 : IVec S16 32) (k0_hw1 : k0_chk1 v40), ∀ a x, ((![v40] : Fin 1 → IVec S16 32) a x).toNat < S16384.size a := fun v40 k0_hw1 => k0_hw1
def k0_off66 (k0_t2 : Fin k0_t2_loop.trips) : Fin 1 → Nat :=
  let c0_i32_6 : BitVec 32 := 0#32
  let c1_i32_7 : BitVec 32 := 1#32
  let arg12 : BitVec 32 := Scf.iv c0_i32_6 c1_i32_7 k0_t2
  let c4_i32_23 : BitVec 32 := 4#32
  let v59 : BitVec 32 := Scalar.muli arg12 c4_i32_23
  let c1_i32_24 : BitVec 32 := 1#32
  let v60 : BitVec 32 := Scalar.addi v59 c1_i32_24
  let c16_i32_25 : BitVec 32 := 16#32
  let v61 : BitVec 32 := Scalar.muli v60 c16_i32_25
  let v62 : Index := Scalar.indexCast v61
  ![v62.toNat]

def k0_chk2 (v79 : IVec S16 32) : Prop :=
  (∀ a x, ((![v79] : Fin 1 → IVec S16 32) a x).toNat < S16384.size a)
theorem k0_idx2_inb : ∀ (v79 : IVec S16 32) (k0_hw2 : k0_chk2 v79), ∀ a x, ((![v79] : Fin 1 → IVec S16 32) a x).toNat < S16384.size a := fun v79 k0_hw2 => k0_hw2
def k0_off67 (k0_t2 : Fin k0_t2_loop.trips) : Fin 1 → Nat :=
  let c0_i32_6 : BitVec 32 := 0#32
  let c1_i32_7 : BitVec 32 := 1#32
  let arg12 : BitVec 32 := Scf.iv c0_i32_6 c1_i32_7 k0_t2
  let c4_i32_36 : BitVec 32 := 4#32
  let v98 : BitVec 32 := Scalar.muli arg12 c4_i32_36
  let c2_i32_37 : BitVec 32 := 2#32
  let v99 : BitVec 32 := Scalar.addi v98 c2_i32_37
  let c16_i32_38 : BitVec 32 := 16#32
  let v100 : BitVec 32 := Scalar.muli v99 c16_i32_38
  let v101 : Index := Scalar.indexCast v100
  ![v101.toNat]

def k0_chk3 (v118 : IVec S16 32) : Prop :=
  (∀ a x, ((![v118] : Fin 1 → IVec S16 32) a x).toNat < S16384.size a)
theorem k0_idx3_inb : ∀ (v118 : IVec S16 32) (k0_hw3 : k0_chk3 v118), ∀ a x, ((![v118] : Fin 1 → IVec S16 32) a x).toNat < S16384.size a := fun v118 k0_hw3 => k0_hw3
def k0_off68 (k0_t2 : Fin k0_t2_loop.trips) : Fin 1 → Nat :=
  let c0_i32_6 : BitVec 32 := 0#32
  let c1_i32_7 : BitVec 32 := 1#32
  let arg12 : BitVec 32 := Scf.iv c0_i32_6 c1_i32_7 k0_t2
  let c4_i32_49 : BitVec 32 := 4#32
  let v137 : BitVec 32 := Scalar.muli arg12 c4_i32_49
  let c3_i32 : BitVec 32 := 3#32
  let v138 : BitVec 32 := Scalar.addi v137 c3_i32
  let c16_i32_50 : BitVec 32 := 16#32
  let v139 : BitVec 32 := Scalar.muli v138 c16_i32_50
  let v140 : Index := Scalar.indexCast v139
  ![v140.toNat]

def k0_chk4 (v157 : IVec S16 32) : Prop :=
  (∀ a x, ((![v157] : Fin 1 → IVec S16 32) a x).toNat < S16384.size a)
theorem k0_idx4_inb : ∀ (v157 : IVec S16 32) (k0_hw4 : k0_chk4 v157), ∀ a x, ((![v157] : Fin 1 → IVec S16 32) a x).toNat < S16384.size a := fun v157 k0_hw4 => k0_hw4
@[reducible] def k0_t3_loop : Scf.Loop 32 :=
  let c0_i32_10 : BitVec 32 := 0#32
  let c31_i32_11 : BitVec 32 := 31#32
  let v18 : BitVec 32 := Scalar.addi c0_i32_10 c31_i32_11
  let c1_i32_12 : BitVec 32 := 1#32
  ⟨c0_i32_10, v18, c1_i32_12⟩
def k0_cond1 (i : grid0.Coords) (k0_t3 : Fin k0_t3_loop.trips) : BitVec 1 :=
  let c0_i32_10 : BitVec 32 := 0#32
  let c1_i32_12 : BitVec 32 := 1#32
  let arg12 : BitVec 32 := Scf.iv c0_i32_10 c1_i32_12 k0_t3
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c17_i32 : BitVec 32 := 17#32
  let v6 : BitVec 1 := Scalar.cmpi .slt v1 c17_i32
  let c31_i32 : BitVec 32 := 31#32
  let c30_i32 : BitVec 32 := 30#32
  let v7 : BitVec 32 := Scalar.select v6 c31_i32 c30_i32
  let v21 : BitVec 1 := Scalar.cmpi .slt arg12 v7
  let v22 : BitVec 32 := Scalar.extui v21
  let c0_i32_14 : BitVec 32 := 0#32
  let v23 : BitVec 1 := Scalar.cmpi .ne v22 c0_i32_14
  v23

@[reducible] def k0_t4_loop (v15 : BitVec 32) : Scf.Loop 32 :=
  let c0_i32_18 : BitVec 32 := 0#32
  let c15_i32 : BitVec 32 := 15#32
  let v16 : BitVec 32 := Scalar.addi v15 c15_i32
  let c4_i32 : BitVec 32 := 4#32
  let v17 : BitVec 32 := Scalar.shrsi v16 c4_i32
  let v26 : BitVec 32 := Scalar.subi v17 c0_i32_18
  let c1_i32_20 : BitVec 32 := 1#32
  let v28 : BitVec 32 := Scalar.divsi v26 c1_i32_20
  let v29 : BitVec 32 := Scalar.muli v28 c1_i32_20
  let v30 : BitVec 32 := Scalar.addi c0_i32_18 v29
  let c1_i32_21 : BitVec 32 := 1#32
  ⟨c0_i32_18, v30, c1_i32_21⟩

def k0_off69 (v15 : BitVec 32) (k0_t4 : Fin (k0_t4_loop v15).trips) : Fin 1 → Nat :=
  let c0_i32_18 : BitVec 32 := 0#32
  let c1_i32_21 : BitVec 32 := 1#32
  let arg14 : BitVec 32 := Scf.iv c0_i32_18 c1_i32_21 k0_t4
  let c16_i32 : BitVec 32 := 16#32
  let v71 : BitVec 32 := Scalar.muli arg14 c16_i32
  let v72 : Index := Scalar.indexCast v71
  ![v72.toNat]

def k0_chk6 (i : grid0.Coords) (k0_t3 : Fin k0_t3_loop.trips) (v98 : IVec S16 32) : Prop :=
  (∀ (k0_h1 : k0_cond1 i k0_t3 = 1#1), ∀ a x, ((![v98] : Fin 1 → IVec S16 32) a x).toNat < S16384.size a)
theorem k0_idx5_inb : ∀ (i : grid0.Coords) (k0_t3 : Fin k0_t3_loop.trips) (v98 : IVec S16 32) (k0_hw6 : k0_chk6 i k0_t3 v98), ∀ (k0_h1 : k0_cond1 i k0_t3 = 1#1), ∀ a x, ((![v98] : Fin 1 → IVec S16 32) a x).toNat < S16384.size a := fun i k0_t3 v98 k0_hw6 k0_h1 => k0_hw6 k0_h1
@[reducible] def k0_t5_loop (v15 : BitVec 32) : Scf.Loop 32 :=
  let c0_i32_18 : BitVec 32 := 0#32
  let c15_i32 : BitVec 32 := 15#32
  let v16 : BitVec 32 := Scalar.addi v15 c15_i32
  let c4_i32 : BitVec 32 := 4#32
  let v17 : BitVec 32 := Scalar.shrsi v16 c4_i32
  let v26 : BitVec 32 := Scalar.subi v17 c0_i32_18
  let c1_i32_20 : BitVec 32 := 1#32
  let v28 : BitVec 32 := Scalar.divsi v26 c1_i32_20
  let v29 : BitVec 32 := Scalar.muli v28 c1_i32_20
  let v30 : BitVec 32 := Scalar.addi c0_i32_18 v29
  let v27 : BitVec 32 := Scalar.addi c0_i32_18 v26
  let c1_i32_22 : BitVec 32 := 1#32
  ⟨v30, v27, c1_i32_22⟩
def k0_off70 (v15 : BitVec 32) (k0_t5 : Fin (k0_t5_loop v15).trips) : Fin 1 → Nat :=
  let c0_i32_18 : BitVec 32 := 0#32
  let c15_i32 : BitVec 32 := 15#32
  let v16 : BitVec 32 := Scalar.addi v15 c15_i32
  let c4_i32 : BitVec 32 := 4#32
  let v17 : BitVec 32 := Scalar.shrsi v16 c4_i32
  let v26 : BitVec 32 := Scalar.subi v17 c0_i32_18
  let c1_i32_20 : BitVec 32 := 1#32
  let v28 : BitVec 32 := Scalar.divsi v26 c1_i32_20
  let v29 : BitVec 32 := Scalar.muli v28 c1_i32_20
  let v30 : BitVec 32 := Scalar.addi c0_i32_18 v29
  let c1_i32_22 : BitVec 32 := 1#32
  let arg14 : BitVec 32 := Scf.iv v30 c1_i32_22 k0_t5
  let c16_i32 : BitVec 32 := 16#32
  let v71 : BitVec 32 := Scalar.muli arg14 c16_i32
  let v72 : Index := Scalar.indexCast v71
  ![v72.toNat]

def k0_chk5 (i : grid0.Coords) (v15 : BitVec 32) : Prop :=
  (∀ k0_t3 : Fin k0_t3_loop.trips, ∀ (k0_h1 : k0_cond1 i k0_t3 = 1#1), (k0_t4_loop v15).OK) ∧
  (∀ (k0_t3 : Fin k0_t3_loop.trips) (k0_t4 : Fin (k0_t4_loop v15).trips), ∀ (k0_h1 : k0_cond1 i k0_t3 = 1#1), ∀ a, (k0_off69 v15 k0_t4) a + S16.size a ≤ S16384.size a) ∧
  (∀ k0_t3 : Fin k0_t3_loop.trips, ∀ (k0_h1 : k0_cond1 i k0_t3 = 1#1), (k0_t5_loop v15).OK) ∧
  (∀ (k0_t3 : Fin k0_t3_loop.trips) (k0_t5 : Fin (k0_t5_loop v15).trips), ∀ (k0_h1 : k0_cond1 i k0_t3 = 1#1), ∀ a, (k0_off70 v15 k0_t5) a + S16.size a ≤ S16384.size a)
theorem k0_t4_ok : ∀ (i : grid0.Coords) (v15 : BitVec 32) (k0_hw5 : k0_chk5 i v15) (k0_t3 : Fin k0_t3_loop.trips), ∀ (k0_h1 : k0_cond1 i k0_t3 = 1#1), (k0_t4_loop v15).OK := fun i v15 k0_hw5 k0_t3 k0_h1 => k0_hw5.1 k0_t3 k0_h1
theorem k0_off69_inb : ∀ (i : grid0.Coords) (v15 : BitVec 32) (k0_hw5 : k0_chk5 i v15) (k0_t3 : Fin k0_t3_loop.trips) (k0_t4 : Fin (k0_t4_loop v15).trips), ∀ (k0_h1 : k0_cond1 i k0_t3 = 1#1), ∀ a, (k0_off69 v15 k0_t4) a + S16.size a ≤ S16384.size a := fun i v15 k0_hw5 k0_t3 k0_t4 k0_h1 => k0_hw5.2.1 k0_t3 k0_t4 k0_h1
theorem k0_t5_ok : ∀ (i : grid0.Coords) (v15 : BitVec 32) (k0_hw5 : k0_chk5 i v15) (k0_t3 : Fin k0_t3_loop.trips), ∀ (k0_h1 : k0_cond1 i k0_t3 = 1#1), (k0_t5_loop v15).OK := fun i v15 k0_hw5 k0_t3 k0_h1 => k0_hw5.2.2.1 k0_t3 k0_h1
theorem k0_off70_inb : ∀ (i : grid0.Coords) (v15 : BitVec 32) (k0_hw5 : k0_chk5 i v15) (k0_t3 : Fin k0_t3_loop.trips) (k0_t5 : Fin (k0_t5_loop v15).trips), ∀ (k0_h1 : k0_cond1 i k0_t3 = 1#1), ∀ a, (k0_off70 v15 k0_t5) a + S16.size a ≤ S16384.size a := fun i v15 k0_hw5 k0_t3 k0_t5 k0_h1 => k0_hw5.2.2.2 k0_t3 k0_t5 k0_h1

def k0_chk7 (i : grid0.Coords) (k0_t3 : Fin k0_t3_loop.trips) (v98 : IVec S16 32) : Prop :=
  (∀ (k0_h1 : k0_cond1 i k0_t3 = 1#1), ∀ a x, ((![v98] : Fin 1 → IVec S16 32) a x).toNat < S16384.size a)
theorem k0_idx6_inb : ∀ (i : grid0.Coords) (k0_t3 : Fin k0_t3_loop.trips) (v98 : IVec S16 32) (k0_hw7 : k0_chk7 i k0_t3 v98), ∀ (k0_h1 : k0_cond1 i k0_t3 = 1#1), ∀ a x, ((![v98] : Fin 1 → IVec S16 32) a x).toNat < S16384.size a := fun i k0_t3 v98 k0_hw7 k0_h1 => k0_hw7 k0_h1
@[reducible] def k0_t6_loop (v32 : BitVec 32) : Scf.Loop 32 :=
  let c0_i32_30 : BitVec 32 := 0#32
  let c31_i32_23 : BitVec 32 := 31#32
  let v33 : BitVec 32 := Scalar.addi v32 c31_i32_23
  let c0_i32_24 : BitVec 32 := 0#32
  let v35 : BitVec 1 := Scalar.cmpi .sgt v33 c0_i32_24
  let v36 : BitVec 32 := Scalar.extui v35
  let c0_i32_25 : BitVec 32 := 0#32
  let v37 : BitVec 1 := Scalar.cmpi .slt v33 c0_i32_25
  let v38 : BitVec 32 := Scalar.extui v37
  let v39 : BitVec 32 := Scalar.subi v36 v38
  let c32_i32 : BitVec 32 := 32#32
  let c0_i32_26 : BitVec 32 := 0#32
  let v40 : BitVec 1 := Scalar.cmpi .sgt c32_i32 c0_i32_26
  let v41 : BitVec 32 := Scalar.extui v40
  let c0_i32_27 : BitVec 32 := 0#32
  let v42 : BitVec 1 := Scalar.cmpi .slt c32_i32 c0_i32_27
  let v43 : BitVec 32 := Scalar.extui v42
  let v44 : BitVec 32 := Scalar.subi v41 v43
  let v45 : BitVec 1 := Scalar.cmpi .ne v39 v44
  let v46 : BitVec 32 := Scalar.remsi v33 c32_i32
  let c0_i32_28 : BitVec 32 := 0#32
  let v47 : BitVec 1 := Scalar.cmpi .ne v46 c0_i32_28
  let v48 : BitVec 1 := Scalar.andi v45 v47
  let v34 : BitVec 32 := Scalar.divsi v33 c32_i32
  let c1_i32_29 : BitVec 32 := 1#32
  let v49 : BitVec 32 := Scalar.subi v34 c1_i32_29
  let v50 : BitVec 32 := Scalar.select v48 v49 v34
  let v51 : BitVec 32 := Scalar.subi v50 c0_i32_30
  let c1_i32_32 : BitVec 32 := 1#32
  let v53 : BitVec 32 := Scalar.divsi v51 c1_i32_32
  let v54 : BitVec 32 := Scalar.muli v53 c1_i32_32
  let v55 : BitVec 32 := Scalar.addi c0_i32_30 v54
  let c1_i32_33 : BitVec 32 := 1#32
  ⟨c0_i32_30, v55, c1_i32_33⟩

def k0_off71 (v32 : BitVec 32) (k0_t6 : Fin (k0_t6_loop v32).trips) (c0_i32_44 : BitVec 32) : Fin 1 → Nat :=
  let c0_i32_30 : BitVec 32 := 0#32
  let c1_i32_33 : BitVec 32 := 1#32
  let arg14 : BitVec 32 := Scf.iv c0_i32_30 c1_i32_33 k0_t6
  let c32_i32_43 : BitVec 32 := 32#32
  let v71 : BitVec 32 := Scalar.muli arg14 c32_i32_43
  let v72 : BitVec 32 := Scalar.addi v71 c0_i32_44
  let v73 : Index := Scalar.indexCast v72
  ![v73.toNat]

def k0_chk9 (i : grid0.Coords) (k0_t3 : Fin k0_t3_loop.trips) (v85 : IVec S16 32) (v105 : IVec S16 32) : Prop :=
  (∀ (k0_h1 : k0_cond1 i k0_t3 = 1#1), ∀ a x, ((![v85, v105] : Fin 2 → IVec S16 32) a x).toNat < S32x129.size a)
theorem k0_idx7_inb : ∀ (i : grid0.Coords) (k0_t3 : Fin k0_t3_loop.trips) (v85 : IVec S16 32) (v105 : IVec S16 32) (k0_hw9 : k0_chk9 i k0_t3 v85 v105), ∀ (k0_h1 : k0_cond1 i k0_t3 = 1#1), ∀ a x, ((![v85, v105] : Fin 2 → IVec S16 32) a x).toNat < S32x129.size a := fun i k0_t3 v85 v105 k0_hw9 k0_h1 => k0_hw9 k0_h1

def k0_chk10 (i : grid0.Coords) (k0_t3 : Fin k0_t3_loop.trips) (v90 : IVec S16 32) (v102 : IVec S16 32) (v103 : IVec S16 32) : Prop :=
  (∀ (k0_h1 : k0_cond1 i k0_t3 = 1#1), ∀ a x, ((![v102, v103, v90] : Fin 3 → IVec S16 32) a x).toNat < S8x8x1024.size a)
theorem k0_idx8_inb : ∀ (i : grid0.Coords) (k0_t3 : Fin k0_t3_loop.trips) (v90 : IVec S16 32) (v102 : IVec S16 32) (v103 : IVec S16 32) (k0_hw10 : k0_chk10 i k0_t3 v90 v102 v103), ∀ (k0_h1 : k0_cond1 i k0_t3 = 1#1), ∀ a x, ((![v102, v103, v90] : Fin 3 → IVec S16 32) a x).toNat < S8x8x1024.size a := fun i k0_t3 v90 v102 v103 k0_hw10 k0_h1 => k0_hw10 k0_h1

def k0_chk11 (i : grid0.Coords) (k0_t3 : Fin k0_t3_loop.trips) (v85 : IVec S16 32) (v110 : IVec S16 32) : Prop :=
  (∀ (k0_h1 : k0_cond1 i k0_t3 = 1#1), ∀ a x, ((![v85, v110] : Fin 2 → IVec S16 32) a x).toNat < S32x129.size a)
theorem k0_idx9_inb : ∀ (i : grid0.Coords) (k0_t3 : Fin k0_t3_loop.trips) (v85 : IVec S16 32) (v110 : IVec S16 32) (k0_hw11 : k0_chk11 i k0_t3 v85 v110), ∀ (k0_h1 : k0_cond1 i k0_t3 = 1#1), ∀ a x, ((![v85, v110] : Fin 2 → IVec S16 32) a x).toNat < S32x129.size a := fun i k0_t3 v85 v110 k0_hw11 k0_h1 => k0_hw11 k0_h1

def k0_chk12 (i : grid0.Coords) (k0_t3 : Fin k0_t3_loop.trips) (v90 : IVec S16 32) (v107 : IVec S16 32) (v108 : IVec S16 32) : Prop :=
  (∀ (k0_h1 : k0_cond1 i k0_t3 = 1#1), ∀ a x, ((![v107, v108, v90] : Fin 3 → IVec S16 32) a x).toNat < S8x8x1024.size a)
theorem k0_idx10_inb : ∀ (i : grid0.Coords) (k0_t3 : Fin k0_t3_loop.trips) (v90 : IVec S16 32) (v107 : IVec S16 32) (v108 : IVec S16 32) (k0_hw12 : k0_chk12 i k0_t3 v90 v107 v108), ∀ (k0_h1 : k0_cond1 i k0_t3 = 1#1), ∀ a x, ((![v107, v108, v90] : Fin 3 → IVec S16 32) a x).toNat < S8x8x1024.size a := fun i k0_t3 v90 v107 v108 k0_hw12 k0_h1 => k0_hw12 k0_h1

def k0_chk13 (i : grid0.Coords) (k0_t3 : Fin k0_t3_loop.trips) (v85 : IVec S16 32) (v115 : IVec S16 32) : Prop :=
  (∀ (k0_h1 : k0_cond1 i k0_t3 = 1#1), ∀ a x, ((![v85, v115] : Fin 2 → IVec S16 32) a x).toNat < S32x129.size a)
theorem k0_idx11_inb : ∀ (i : grid0.Coords) (k0_t3 : Fin k0_t3_loop.trips) (v85 : IVec S16 32) (v115 : IVec S16 32) (k0_hw13 : k0_chk13 i k0_t3 v85 v115), ∀ (k0_h1 : k0_cond1 i k0_t3 = 1#1), ∀ a x, ((![v85, v115] : Fin 2 → IVec S16 32) a x).toNat < S32x129.size a := fun i k0_t3 v85 v115 k0_hw13 k0_h1 => k0_hw13 k0_h1

def k0_chk14 (i : grid0.Coords) (k0_t3 : Fin k0_t3_loop.trips) (v90 : IVec S16 32) (v112 : IVec S16 32) (v113 : IVec S16 32) : Prop :=
  (∀ (k0_h1 : k0_cond1 i k0_t3 = 1#1), ∀ a x, ((![v112, v113, v90] : Fin 3 → IVec S16 32) a x).toNat < S8x8x1024.size a)
theorem k0_idx12_inb : ∀ (i : grid0.Coords) (k0_t3 : Fin k0_t3_loop.trips) (v90 : IVec S16 32) (v112 : IVec S16 32) (v113 : IVec S16 32) (k0_hw14 : k0_chk14 i k0_t3 v90 v112 v113), ∀ (k0_h1 : k0_cond1 i k0_t3 = 1#1), ∀ a x, ((![v112, v113, v90] : Fin 3 → IVec S16 32) a x).toNat < S8x8x1024.size a := fun i k0_t3 v90 v112 v113 k0_hw14 k0_h1 => k0_hw14 k0_h1

def k0_chk15 (i : grid0.Coords) (k0_t3 : Fin k0_t3_loop.trips) (v85 : IVec S16 32) (v120 : IVec S16 32) : Prop :=
  (∀ (k0_h1 : k0_cond1 i k0_t3 = 1#1), ∀ a x, ((![v85, v120] : Fin 2 → IVec S16 32) a x).toNat < S32x129.size a)
theorem k0_idx13_inb : ∀ (i : grid0.Coords) (k0_t3 : Fin k0_t3_loop.trips) (v85 : IVec S16 32) (v120 : IVec S16 32) (k0_hw15 : k0_chk15 i k0_t3 v85 v120), ∀ (k0_h1 : k0_cond1 i k0_t3 = 1#1), ∀ a x, ((![v85, v120] : Fin 2 → IVec S16 32) a x).toNat < S32x129.size a := fun i k0_t3 v85 v120 k0_hw15 k0_h1 => k0_hw15 k0_h1

def k0_chk16 (i : grid0.Coords) (k0_t3 : Fin k0_t3_loop.trips) (v90 : IVec S16 32) (v117 : IVec S16 32) (v118 : IVec S16 32) : Prop :=
  (∀ (k0_h1 : k0_cond1 i k0_t3 = 1#1), ∀ a x, ((![v117, v118, v90] : Fin 3 → IVec S16 32) a x).toNat < S8x8x1024.size a)
theorem k0_idx14_inb : ∀ (i : grid0.Coords) (k0_t3 : Fin k0_t3_loop.trips) (v90 : IVec S16 32) (v117 : IVec S16 32) (v118 : IVec S16 32) (k0_hw16 : k0_chk16 i k0_t3 v90 v117 v118), ∀ (k0_h1 : k0_cond1 i k0_t3 = 1#1), ∀ a x, ((![v117, v118, v90] : Fin 3 → IVec S16 32) a x).toNat < S8x8x1024.size a := fun i k0_t3 v90 v117 v118 k0_hw16 k0_h1 => k0_hw16 k0_h1

def k0_chk17 (i : grid0.Coords) (k0_t3 : Fin k0_t3_loop.trips) (v85 : IVec S16 32) (v125 : IVec S16 32) : Prop :=
  (∀ (k0_h1 : k0_cond1 i k0_t3 = 1#1), ∀ a x, ((![v85, v125] : Fin 2 → IVec S16 32) a x).toNat < S32x129.size a)
theorem k0_idx15_inb : ∀ (i : grid0.Coords) (k0_t3 : Fin k0_t3_loop.trips) (v85 : IVec S16 32) (v125 : IVec S16 32) (k0_hw17 : k0_chk17 i k0_t3 v85 v125), ∀ (k0_h1 : k0_cond1 i k0_t3 = 1#1), ∀ a x, ((![v85, v125] : Fin 2 → IVec S16 32) a x).toNat < S32x129.size a := fun i k0_t3 v85 v125 k0_hw17 k0_h1 => k0_hw17 k0_h1

def k0_chk18 (i : grid0.Coords) (k0_t3 : Fin k0_t3_loop.trips) (v90 : IVec S16 32) (v122 : IVec S16 32) (v123 : IVec S16 32) : Prop :=
  (∀ (k0_h1 : k0_cond1 i k0_t3 = 1#1), ∀ a x, ((![v122, v123, v90] : Fin 3 → IVec S16 32) a x).toNat < S8x8x1024.size a)
theorem k0_idx16_inb : ∀ (i : grid0.Coords) (k0_t3 : Fin k0_t3_loop.trips) (v90 : IVec S16 32) (v122 : IVec S16 32) (v123 : IVec S16 32) (k0_hw18 : k0_chk18 i k0_t3 v90 v122 v123), ∀ (k0_h1 : k0_cond1 i k0_t3 = 1#1), ∀ a x, ((![v122, v123, v90] : Fin 3 → IVec S16 32) a x).toNat < S8x8x1024.size a := fun i k0_t3 v90 v122 v123 k0_hw18 k0_h1 => k0_hw18 k0_h1

def k0_chk19 (i : grid0.Coords) (k0_t3 : Fin k0_t3_loop.trips) (v85 : IVec S16 32) (v130 : IVec S16 32) : Prop :=
  (∀ (k0_h1 : k0_cond1 i k0_t3 = 1#1), ∀ a x, ((![v85, v130] : Fin 2 → IVec S16 32) a x).toNat < S32x129.size a)
theorem k0_idx17_inb : ∀ (i : grid0.Coords) (k0_t3 : Fin k0_t3_loop.trips) (v85 : IVec S16 32) (v130 : IVec S16 32) (k0_hw19 : k0_chk19 i k0_t3 v85 v130), ∀ (k0_h1 : k0_cond1 i k0_t3 = 1#1), ∀ a x, ((![v85, v130] : Fin 2 → IVec S16 32) a x).toNat < S32x129.size a := fun i k0_t3 v85 v130 k0_hw19 k0_h1 => k0_hw19 k0_h1

def k0_chk20 (i : grid0.Coords) (k0_t3 : Fin k0_t3_loop.trips) (v90 : IVec S16 32) (v127 : IVec S16 32) (v128 : IVec S16 32) : Prop :=
  (∀ (k0_h1 : k0_cond1 i k0_t3 = 1#1), ∀ a x, ((![v127, v128, v90] : Fin 3 → IVec S16 32) a x).toNat < S8x8x1024.size a)
theorem k0_idx18_inb : ∀ (i : grid0.Coords) (k0_t3 : Fin k0_t3_loop.trips) (v90 : IVec S16 32) (v127 : IVec S16 32) (v128 : IVec S16 32) (k0_hw20 : k0_chk20 i k0_t3 v90 v127 v128), ∀ (k0_h1 : k0_cond1 i k0_t3 = 1#1), ∀ a x, ((![v127, v128, v90] : Fin 3 → IVec S16 32) a x).toNat < S8x8x1024.size a := fun i k0_t3 v90 v127 v128 k0_hw20 k0_h1 => k0_hw20 k0_h1

def k0_chk21 (i : grid0.Coords) (k0_t3 : Fin k0_t3_loop.trips) (v85 : IVec S16 32) (v135 : IVec S16 32) : Prop :=
  (∀ (k0_h1 : k0_cond1 i k0_t3 = 1#1), ∀ a x, ((![v85, v135] : Fin 2 → IVec S16 32) a x).toNat < S32x129.size a)
theorem k0_idx19_inb : ∀ (i : grid0.Coords) (k0_t3 : Fin k0_t3_loop.trips) (v85 : IVec S16 32) (v135 : IVec S16 32) (k0_hw21 : k0_chk21 i k0_t3 v85 v135), ∀ (k0_h1 : k0_cond1 i k0_t3 = 1#1), ∀ a x, ((![v85, v135] : Fin 2 → IVec S16 32) a x).toNat < S32x129.size a := fun i k0_t3 v85 v135 k0_hw21 k0_h1 => k0_hw21 k0_h1

def k0_chk22 (i : grid0.Coords) (k0_t3 : Fin k0_t3_loop.trips) (v90 : IVec S16 32) (v132 : IVec S16 32) (v133 : IVec S16 32) : Prop :=
  (∀ (k0_h1 : k0_cond1 i k0_t3 = 1#1), ∀ a x, ((![v132, v133, v90] : Fin 3 → IVec S16 32) a x).toNat < S8x8x1024.size a)
theorem k0_idx20_inb : ∀ (i : grid0.Coords) (k0_t3 : Fin k0_t3_loop.trips) (v90 : IVec S16 32) (v132 : IVec S16 32) (v133 : IVec S16 32) (k0_hw22 : k0_chk22 i k0_t3 v90 v132 v133), ∀ (k0_h1 : k0_cond1 i k0_t3 = 1#1), ∀ a x, ((![v132, v133, v90] : Fin 3 → IVec S16 32) a x).toNat < S8x8x1024.size a := fun i k0_t3 v90 v132 v133 k0_hw22 k0_h1 => k0_hw22 k0_h1

def k0_chk23 (i : grid0.Coords) (k0_t3 : Fin k0_t3_loop.trips) (v85 : IVec S16 32) (v140 : IVec S16 32) : Prop :=
  (∀ (k0_h1 : k0_cond1 i k0_t3 = 1#1), ∀ a x, ((![v85, v140] : Fin 2 → IVec S16 32) a x).toNat < S32x129.size a)
theorem k0_idx21_inb : ∀ (i : grid0.Coords) (k0_t3 : Fin k0_t3_loop.trips) (v85 : IVec S16 32) (v140 : IVec S16 32) (k0_hw23 : k0_chk23 i k0_t3 v85 v140), ∀ (k0_h1 : k0_cond1 i k0_t3 = 1#1), ∀ a x, ((![v85, v140] : Fin 2 → IVec S16 32) a x).toNat < S32x129.size a := fun i k0_t3 v85 v140 k0_hw23 k0_h1 => k0_hw23 k0_h1

def k0_chk24 (i : grid0.Coords) (k0_t3 : Fin k0_t3_loop.trips) (v90 : IVec S16 32) (v137 : IVec S16 32) (v138 : IVec S16 32) : Prop :=
  (∀ (k0_h1 : k0_cond1 i k0_t3 = 1#1), ∀ a x, ((![v137, v138, v90] : Fin 3 → IVec S16 32) a x).toNat < S8x8x1024.size a)
theorem k0_idx22_inb : ∀ (i : grid0.Coords) (k0_t3 : Fin k0_t3_loop.trips) (v90 : IVec S16 32) (v137 : IVec S16 32) (v138 : IVec S16 32) (k0_hw24 : k0_chk24 i k0_t3 v90 v137 v138), ∀ (k0_h1 : k0_cond1 i k0_t3 = 1#1), ∀ a x, ((![v137, v138, v90] : Fin 3 → IVec S16 32) a x).toNat < S8x8x1024.size a := fun i k0_t3 v90 v137 v138 k0_hw24 k0_h1 => k0_hw24 k0_h1

def k0_chk25 (i : grid0.Coords) (k0_t3 : Fin k0_t3_loop.trips) (v85 : IVec S16 32) (v145 : IVec S16 32) : Prop :=
  (∀ (k0_h1 : k0_cond1 i k0_t3 = 1#1), ∀ a x, ((![v85, v145] : Fin 2 → IVec S16 32) a x).toNat < S32x129.size a)
theorem k0_idx23_inb : ∀ (i : grid0.Coords) (k0_t3 : Fin k0_t3_loop.trips) (v85 : IVec S16 32) (v145 : IVec S16 32) (k0_hw25 : k0_chk25 i k0_t3 v85 v145), ∀ (k0_h1 : k0_cond1 i k0_t3 = 1#1), ∀ a x, ((![v85, v145] : Fin 2 → IVec S16 32) a x).toNat < S32x129.size a := fun i k0_t3 v85 v145 k0_hw25 k0_h1 => k0_hw25 k0_h1

def k0_chk26 (i : grid0.Coords) (k0_t3 : Fin k0_t3_loop.trips) (v90 : IVec S16 32) (v142 : IVec S16 32) (v143 : IVec S16 32) : Prop :=
  (∀ (k0_h1 : k0_cond1 i k0_t3 = 1#1), ∀ a x, ((![v142, v143, v90] : Fin 3 → IVec S16 32) a x).toNat < S8x8x1024.size a)
theorem k0_idx24_inb : ∀ (i : grid0.Coords) (k0_t3 : Fin k0_t3_loop.trips) (v90 : IVec S16 32) (v142 : IVec S16 32) (v143 : IVec S16 32) (k0_hw26 : k0_chk26 i k0_t3 v90 v142 v143), ∀ (k0_h1 : k0_cond1 i k0_t3 = 1#1), ∀ a x, ((![v142, v143, v90] : Fin 3 → IVec S16 32) a x).toNat < S8x8x1024.size a := fun i k0_t3 v90 v142 v143 k0_hw26 k0_h1 => k0_hw26 k0_h1

def k0_chk27 (i : grid0.Coords) (k0_t3 : Fin k0_t3_loop.trips) (v85 : IVec S16 32) (v150 : IVec S16 32) : Prop :=
  (∀ (k0_h1 : k0_cond1 i k0_t3 = 1#1), ∀ a x, ((![v85, v150] : Fin 2 → IVec S16 32) a x).toNat < S32x129.size a)
theorem k0_idx25_inb : ∀ (i : grid0.Coords) (k0_t3 : Fin k0_t3_loop.trips) (v85 : IVec S16 32) (v150 : IVec S16 32) (k0_hw27 : k0_chk27 i k0_t3 v85 v150), ∀ (k0_h1 : k0_cond1 i k0_t3 = 1#1), ∀ a x, ((![v85, v150] : Fin 2 → IVec S16 32) a x).toNat < S32x129.size a := fun i k0_t3 v85 v150 k0_hw27 k0_h1 => k0_hw27 k0_h1

def k0_chk28 (i : grid0.Coords) (k0_t3 : Fin k0_t3_loop.trips) (v90 : IVec S16 32) (v147 : IVec S16 32) (v148 : IVec S16 32) : Prop :=
  (∀ (k0_h1 : k0_cond1 i k0_t3 = 1#1), ∀ a x, ((![v147, v148, v90] : Fin 3 → IVec S16 32) a x).toNat < S8x8x1024.size a)
theorem k0_idx26_inb : ∀ (i : grid0.Coords) (k0_t3 : Fin k0_t3_loop.trips) (v90 : IVec S16 32) (v147 : IVec S16 32) (v148 : IVec S16 32) (k0_hw28 : k0_chk28 i k0_t3 v90 v147 v148), ∀ (k0_h1 : k0_cond1 i k0_t3 = 1#1), ∀ a x, ((![v147, v148, v90] : Fin 3 → IVec S16 32) a x).toNat < S8x8x1024.size a := fun i k0_t3 v90 v147 v148 k0_hw28 k0_h1 => k0_hw28 k0_h1

def k0_chk29 (i : grid0.Coords) (k0_t3 : Fin k0_t3_loop.trips) (v85 : IVec S16 32) (v155 : IVec S16 32) : Prop :=
  (∀ (k0_h1 : k0_cond1 i k0_t3 = 1#1), ∀ a x, ((![v85, v155] : Fin 2 → IVec S16 32) a x).toNat < S32x129.size a)
theorem k0_idx27_inb : ∀ (i : grid0.Coords) (k0_t3 : Fin k0_t3_loop.trips) (v85 : IVec S16 32) (v155 : IVec S16 32) (k0_hw29 : k0_chk29 i k0_t3 v85 v155), ∀ (k0_h1 : k0_cond1 i k0_t3 = 1#1), ∀ a x, ((![v85, v155] : Fin 2 → IVec S16 32) a x).toNat < S32x129.size a := fun i k0_t3 v85 v155 k0_hw29 k0_h1 => k0_hw29 k0_h1

def k0_chk30 (i : grid0.Coords) (k0_t3 : Fin k0_t3_loop.trips) (v90 : IVec S16 32) (v152 : IVec S16 32) (v153 : IVec S16 32) : Prop :=
  (∀ (k0_h1 : k0_cond1 i k0_t3 = 1#1), ∀ a x, ((![v152, v153, v90] : Fin 3 → IVec S16 32) a x).toNat < S8x8x1024.size a)
theorem k0_idx28_inb : ∀ (i : grid0.Coords) (k0_t3 : Fin k0_t3_loop.trips) (v90 : IVec S16 32) (v152 : IVec S16 32) (v153 : IVec S16 32) (k0_hw30 : k0_chk30 i k0_t3 v90 v152 v153), ∀ (k0_h1 : k0_cond1 i k0_t3 = 1#1), ∀ a x, ((![v152, v153, v90] : Fin 3 → IVec S16 32) a x).toNat < S8x8x1024.size a := fun i k0_t3 v90 v152 v153 k0_hw30 k0_h1 => k0_hw30 k0_h1

def k0_chk31 (i : grid0.Coords) (k0_t3 : Fin k0_t3_loop.trips) (v85 : IVec S16 32) (v160 : IVec S16 32) : Prop :=
  (∀ (k0_h1 : k0_cond1 i k0_t3 = 1#1), ∀ a x, ((![v85, v160] : Fin 2 → IVec S16 32) a x).toNat < S32x129.size a)
theorem k0_idx29_inb : ∀ (i : grid0.Coords) (k0_t3 : Fin k0_t3_loop.trips) (v85 : IVec S16 32) (v160 : IVec S16 32) (k0_hw31 : k0_chk31 i k0_t3 v85 v160), ∀ (k0_h1 : k0_cond1 i k0_t3 = 1#1), ∀ a x, ((![v85, v160] : Fin 2 → IVec S16 32) a x).toNat < S32x129.size a := fun i k0_t3 v85 v160 k0_hw31 k0_h1 => k0_hw31 k0_h1

def k0_chk32 (i : grid0.Coords) (k0_t3 : Fin k0_t3_loop.trips) (v90 : IVec S16 32) (v157 : IVec S16 32) (v158 : IVec S16 32) : Prop :=
  (∀ (k0_h1 : k0_cond1 i k0_t3 = 1#1), ∀ a x, ((![v157, v158, v90] : Fin 3 → IVec S16 32) a x).toNat < S8x8x1024.size a)
theorem k0_idx30_inb : ∀ (i : grid0.Coords) (k0_t3 : Fin k0_t3_loop.trips) (v90 : IVec S16 32) (v157 : IVec S16 32) (v158 : IVec S16 32) (k0_hw32 : k0_chk32 i k0_t3 v90 v157 v158), ∀ (k0_h1 : k0_cond1 i k0_t3 = 1#1), ∀ a x, ((![v157, v158, v90] : Fin 3 → IVec S16 32) a x).toNat < S8x8x1024.size a := fun i k0_t3 v90 v157 v158 k0_hw32 k0_h1 => k0_hw32 k0_h1

def k0_chk33 (i : grid0.Coords) (k0_t3 : Fin k0_t3_loop.trips) (v85 : IVec S16 32) (v165 : IVec S16 32) : Prop :=
  (∀ (k0_h1 : k0_cond1 i k0_t3 = 1#1), ∀ a x, ((![v85, v165] : Fin 2 → IVec S16 32) a x).toNat < S32x129.size a)
theorem k0_idx31_inb : ∀ (i : grid0.Coords) (k0_t3 : Fin k0_t3_loop.trips) (v85 : IVec S16 32) (v165 : IVec S16 32) (k0_hw33 : k0_chk33 i k0_t3 v85 v165), ∀ (k0_h1 : k0_cond1 i k0_t3 = 1#1), ∀ a x, ((![v85, v165] : Fin 2 → IVec S16 32) a x).toNat < S32x129.size a := fun i k0_t3 v85 v165 k0_hw33 k0_h1 => k0_hw33 k0_h1

def k0_chk34 (i : grid0.Coords) (k0_t3 : Fin k0_t3_loop.trips) (v90 : IVec S16 32) (v162 : IVec S16 32) (v163 : IVec S16 32) : Prop :=
  (∀ (k0_h1 : k0_cond1 i k0_t3 = 1#1), ∀ a x, ((![v162, v163, v90] : Fin 3 → IVec S16 32) a x).toNat < S8x8x1024.size a)
theorem k0_idx32_inb : ∀ (i : grid0.Coords) (k0_t3 : Fin k0_t3_loop.trips) (v90 : IVec S16 32) (v162 : IVec S16 32) (v163 : IVec S16 32) (k0_hw34 : k0_chk34 i k0_t3 v90 v162 v163), ∀ (k0_h1 : k0_cond1 i k0_t3 = 1#1), ∀ a x, ((![v162, v163, v90] : Fin 3 → IVec S16 32) a x).toNat < S8x8x1024.size a := fun i k0_t3 v90 v162 v163 k0_hw34 k0_h1 => k0_hw34 k0_h1

def k0_chk35 (i : grid0.Coords) (k0_t3 : Fin k0_t3_loop.trips) (v85 : IVec S16 32) (v170 : IVec S16 32) : Prop :=
  (∀ (k0_h1 : k0_cond1 i k0_t3 = 1#1), ∀ a x, ((![v85, v170] : Fin 2 → IVec S16 32) a x).toNat < S32x129.size a)
theorem k0_idx33_inb : ∀ (i : grid0.Coords) (k0_t3 : Fin k0_t3_loop.trips) (v85 : IVec S16 32) (v170 : IVec S16 32) (k0_hw35 : k0_chk35 i k0_t3 v85 v170), ∀ (k0_h1 : k0_cond1 i k0_t3 = 1#1), ∀ a x, ((![v85, v170] : Fin 2 → IVec S16 32) a x).toNat < S32x129.size a := fun i k0_t3 v85 v170 k0_hw35 k0_h1 => k0_hw35 k0_h1

def k0_chk36 (i : grid0.Coords) (k0_t3 : Fin k0_t3_loop.trips) (v90 : IVec S16 32) (v167 : IVec S16 32) (v168 : IVec S16 32) : Prop :=
  (∀ (k0_h1 : k0_cond1 i k0_t3 = 1#1), ∀ a x, ((![v167, v168, v90] : Fin 3 → IVec S16 32) a x).toNat < S8x8x1024.size a)
theorem k0_idx34_inb : ∀ (i : grid0.Coords) (k0_t3 : Fin k0_t3_loop.trips) (v90 : IVec S16 32) (v167 : IVec S16 32) (v168 : IVec S16 32) (k0_hw36 : k0_chk36 i k0_t3 v90 v167 v168), ∀ (k0_h1 : k0_cond1 i k0_t3 = 1#1), ∀ a x, ((![v167, v168, v90] : Fin 3 → IVec S16 32) a x).toNat < S8x8x1024.size a := fun i k0_t3 v90 v167 v168 k0_hw36 k0_h1 => k0_hw36 k0_h1

def k0_chk37 (i : grid0.Coords) (k0_t3 : Fin k0_t3_loop.trips) (v85 : IVec S16 32) (v175 : IVec S16 32) : Prop :=
  (∀ (k0_h1 : k0_cond1 i k0_t3 = 1#1), ∀ a x, ((![v85, v175] : Fin 2 → IVec S16 32) a x).toNat < S32x129.size a)
theorem k0_idx35_inb : ∀ (i : grid0.Coords) (k0_t3 : Fin k0_t3_loop.trips) (v85 : IVec S16 32) (v175 : IVec S16 32) (k0_hw37 : k0_chk37 i k0_t3 v85 v175), ∀ (k0_h1 : k0_cond1 i k0_t3 = 1#1), ∀ a x, ((![v85, v175] : Fin 2 → IVec S16 32) a x).toNat < S32x129.size a := fun i k0_t3 v85 v175 k0_hw37 k0_h1 => k0_hw37 k0_h1

def k0_chk38 (i : grid0.Coords) (k0_t3 : Fin k0_t3_loop.trips) (v90 : IVec S16 32) (v172 : IVec S16 32) (v173 : IVec S16 32) : Prop :=
  (∀ (k0_h1 : k0_cond1 i k0_t3 = 1#1), ∀ a x, ((![v172, v173, v90] : Fin 3 → IVec S16 32) a x).toNat < S8x8x1024.size a)
theorem k0_idx36_inb : ∀ (i : grid0.Coords) (k0_t3 : Fin k0_t3_loop.trips) (v90 : IVec S16 32) (v172 : IVec S16 32) (v173 : IVec S16 32) (k0_hw38 : k0_chk38 i k0_t3 v90 v172 v173), ∀ (k0_h1 : k0_cond1 i k0_t3 = 1#1), ∀ a x, ((![v172, v173, v90] : Fin 3 → IVec S16 32) a x).toNat < S8x8x1024.size a := fun i k0_t3 v90 v172 v173 k0_hw38 k0_h1 => k0_hw38 k0_h1

def k0_chk39 (i : grid0.Coords) (k0_t3 : Fin k0_t3_loop.trips) (v85 : IVec S16 32) (v180 : IVec S16 32) : Prop :=
  (∀ (k0_h1 : k0_cond1 i k0_t3 = 1#1), ∀ a x, ((![v85, v180] : Fin 2 → IVec S16 32) a x).toNat < S32x129.size a)
theorem k0_idx37_inb : ∀ (i : grid0.Coords) (k0_t3 : Fin k0_t3_loop.trips) (v85 : IVec S16 32) (v180 : IVec S16 32) (k0_hw39 : k0_chk39 i k0_t3 v85 v180), ∀ (k0_h1 : k0_cond1 i k0_t3 = 1#1), ∀ a x, ((![v85, v180] : Fin 2 → IVec S16 32) a x).toNat < S32x129.size a := fun i k0_t3 v85 v180 k0_hw39 k0_h1 => k0_hw39 k0_h1

def k0_chk40 (i : grid0.Coords) (k0_t3 : Fin k0_t3_loop.trips) (v90 : IVec S16 32) (v177 : IVec S16 32) (v178 : IVec S16 32) : Prop :=
  (∀ (k0_h1 : k0_cond1 i k0_t3 = 1#1), ∀ a x, ((![v177, v178, v90] : Fin 3 → IVec S16 32) a x).toNat < S8x8x1024.size a)
theorem k0_idx38_inb : ∀ (i : grid0.Coords) (k0_t3 : Fin k0_t3_loop.trips) (v90 : IVec S16 32) (v177 : IVec S16 32) (v178 : IVec S16 32) (k0_hw40 : k0_chk40 i k0_t3 v90 v177 v178), ∀ (k0_h1 : k0_cond1 i k0_t3 = 1#1), ∀ a x, ((![v177, v178, v90] : Fin 3 → IVec S16 32) a x).toNat < S8x8x1024.size a := fun i k0_t3 v90 v177 v178 k0_hw40 k0_h1 => k0_hw40 k0_h1

def k0_chk41 (i : grid0.Coords) (k0_t3 : Fin k0_t3_loop.trips) (v85 : IVec S16 32) (v185 : IVec S16 32) : Prop :=
  (∀ (k0_h1 : k0_cond1 i k0_t3 = 1#1), ∀ a x, ((![v85, v185] : Fin 2 → IVec S16 32) a x).toNat < S32x129.size a)
theorem k0_idx39_inb : ∀ (i : grid0.Coords) (k0_t3 : Fin k0_t3_loop.trips) (v85 : IVec S16 32) (v185 : IVec S16 32) (k0_hw41 : k0_chk41 i k0_t3 v85 v185), ∀ (k0_h1 : k0_cond1 i k0_t3 = 1#1), ∀ a x, ((![v85, v185] : Fin 2 → IVec S16 32) a x).toNat < S32x129.size a := fun i k0_t3 v85 v185 k0_hw41 k0_h1 => k0_hw41 k0_h1

def k0_chk42 (i : grid0.Coords) (k0_t3 : Fin k0_t3_loop.trips) (v90 : IVec S16 32) (v182 : IVec S16 32) (v183 : IVec S16 32) : Prop :=
  (∀ (k0_h1 : k0_cond1 i k0_t3 = 1#1), ∀ a x, ((![v182, v183, v90] : Fin 3 → IVec S16 32) a x).toNat < S8x8x1024.size a)
theorem k0_idx40_inb : ∀ (i : grid0.Coords) (k0_t3 : Fin k0_t3_loop.trips) (v90 : IVec S16 32) (v182 : IVec S16 32) (v183 : IVec S16 32) (k0_hw42 : k0_chk42 i k0_t3 v90 v182 v183), ∀ (k0_h1 : k0_cond1 i k0_t3 = 1#1), ∀ a x, ((![v182, v183, v90] : Fin 3 → IVec S16 32) a x).toNat < S8x8x1024.size a := fun i k0_t3 v90 v182 v183 k0_hw42 k0_h1 => k0_hw42 k0_h1

def k0_chk43 (i : grid0.Coords) (k0_t3 : Fin k0_t3_loop.trips) (v85 : IVec S16 32) (v190 : IVec S16 32) : Prop :=
  (∀ (k0_h1 : k0_cond1 i k0_t3 = 1#1), ∀ a x, ((![v85, v190] : Fin 2 → IVec S16 32) a x).toNat < S32x129.size a)
theorem k0_idx41_inb : ∀ (i : grid0.Coords) (k0_t3 : Fin k0_t3_loop.trips) (v85 : IVec S16 32) (v190 : IVec S16 32) (k0_hw43 : k0_chk43 i k0_t3 v85 v190), ∀ (k0_h1 : k0_cond1 i k0_t3 = 1#1), ∀ a x, ((![v85, v190] : Fin 2 → IVec S16 32) a x).toNat < S32x129.size a := fun i k0_t3 v85 v190 k0_hw43 k0_h1 => k0_hw43 k0_h1

def k0_chk44 (i : grid0.Coords) (k0_t3 : Fin k0_t3_loop.trips) (v90 : IVec S16 32) (v187 : IVec S16 32) (v188 : IVec S16 32) : Prop :=
  (∀ (k0_h1 : k0_cond1 i k0_t3 = 1#1), ∀ a x, ((![v187, v188, v90] : Fin 3 → IVec S16 32) a x).toNat < S8x8x1024.size a)
theorem k0_idx42_inb : ∀ (i : grid0.Coords) (k0_t3 : Fin k0_t3_loop.trips) (v90 : IVec S16 32) (v187 : IVec S16 32) (v188 : IVec S16 32) (k0_hw44 : k0_chk44 i k0_t3 v90 v187 v188), ∀ (k0_h1 : k0_cond1 i k0_t3 = 1#1), ∀ a x, ((![v187, v188, v90] : Fin 3 → IVec S16 32) a x).toNat < S8x8x1024.size a := fun i k0_t3 v90 v187 v188 k0_hw44 k0_h1 => k0_hw44 k0_h1

def k0_chk45 (i : grid0.Coords) (k0_t3 : Fin k0_t3_loop.trips) (v85 : IVec S16 32) (v195 : IVec S16 32) : Prop :=
  (∀ (k0_h1 : k0_cond1 i k0_t3 = 1#1), ∀ a x, ((![v85, v195] : Fin 2 → IVec S16 32) a x).toNat < S32x129.size a)
theorem k0_idx43_inb : ∀ (i : grid0.Coords) (k0_t3 : Fin k0_t3_loop.trips) (v85 : IVec S16 32) (v195 : IVec S16 32) (k0_hw45 : k0_chk45 i k0_t3 v85 v195), ∀ (k0_h1 : k0_cond1 i k0_t3 = 1#1), ∀ a x, ((![v85, v195] : Fin 2 → IVec S16 32) a x).toNat < S32x129.size a := fun i k0_t3 v85 v195 k0_hw45 k0_h1 => k0_hw45 k0_h1

def k0_chk46 (i : grid0.Coords) (k0_t3 : Fin k0_t3_loop.trips) (v90 : IVec S16 32) (v192 : IVec S16 32) (v193 : IVec S16 32) : Prop :=
  (∀ (k0_h1 : k0_cond1 i k0_t3 = 1#1), ∀ a x, ((![v192, v193, v90] : Fin 3 → IVec S16 32) a x).toNat < S8x8x1024.size a)
theorem k0_idx44_inb : ∀ (i : grid0.Coords) (k0_t3 : Fin k0_t3_loop.trips) (v90 : IVec S16 32) (v192 : IVec S16 32) (v193 : IVec S16 32) (k0_hw46 : k0_chk46 i k0_t3 v90 v192 v193), ∀ (k0_h1 : k0_cond1 i k0_t3 = 1#1), ∀ a x, ((![v192, v193, v90] : Fin 3 → IVec S16 32) a x).toNat < S8x8x1024.size a := fun i k0_t3 v90 v192 v193 k0_hw46 k0_h1 => k0_hw46 k0_h1

def k0_chk47 (i : grid0.Coords) (k0_t3 : Fin k0_t3_loop.trips) (v85 : IVec S16 32) (v200 : IVec S16 32) : Prop :=
  (∀ (k0_h1 : k0_cond1 i k0_t3 = 1#1), ∀ a x, ((![v85, v200] : Fin 2 → IVec S16 32) a x).toNat < S32x129.size a)
theorem k0_idx45_inb : ∀ (i : grid0.Coords) (k0_t3 : Fin k0_t3_loop.trips) (v85 : IVec S16 32) (v200 : IVec S16 32) (k0_hw47 : k0_chk47 i k0_t3 v85 v200), ∀ (k0_h1 : k0_cond1 i k0_t3 = 1#1), ∀ a x, ((![v85, v200] : Fin 2 → IVec S16 32) a x).toNat < S32x129.size a := fun i k0_t3 v85 v200 k0_hw47 k0_h1 => k0_hw47 k0_h1

def k0_chk48 (i : grid0.Coords) (k0_t3 : Fin k0_t3_loop.trips) (v90 : IVec S16 32) (v197 : IVec S16 32) (v198 : IVec S16 32) : Prop :=
  (∀ (k0_h1 : k0_cond1 i k0_t3 = 1#1), ∀ a x, ((![v197, v198, v90] : Fin 3 → IVec S16 32) a x).toNat < S8x8x1024.size a)
theorem k0_idx46_inb : ∀ (i : grid0.Coords) (k0_t3 : Fin k0_t3_loop.trips) (v90 : IVec S16 32) (v197 : IVec S16 32) (v198 : IVec S16 32) (k0_hw48 : k0_chk48 i k0_t3 v90 v197 v198), ∀ (k0_h1 : k0_cond1 i k0_t3 = 1#1), ∀ a x, ((![v197, v198, v90] : Fin 3 → IVec S16 32) a x).toNat < S8x8x1024.size a := fun i k0_t3 v90 v197 v198 k0_hw48 k0_h1 => k0_hw48 k0_h1

def k0_chk49 (i : grid0.Coords) (k0_t3 : Fin k0_t3_loop.trips) (v85 : IVec S16 32) (v205 : IVec S16 32) : Prop :=
  (∀ (k0_h1 : k0_cond1 i k0_t3 = 1#1), ∀ a x, ((![v85, v205] : Fin 2 → IVec S16 32) a x).toNat < S32x129.size a)
theorem k0_idx47_inb : ∀ (i : grid0.Coords) (k0_t3 : Fin k0_t3_loop.trips) (v85 : IVec S16 32) (v205 : IVec S16 32) (k0_hw49 : k0_chk49 i k0_t3 v85 v205), ∀ (k0_h1 : k0_cond1 i k0_t3 = 1#1), ∀ a x, ((![v85, v205] : Fin 2 → IVec S16 32) a x).toNat < S32x129.size a := fun i k0_t3 v85 v205 k0_hw49 k0_h1 => k0_hw49 k0_h1

def k0_chk50 (i : grid0.Coords) (k0_t3 : Fin k0_t3_loop.trips) (v90 : IVec S16 32) (v202 : IVec S16 32) (v203 : IVec S16 32) : Prop :=
  (∀ (k0_h1 : k0_cond1 i k0_t3 = 1#1), ∀ a x, ((![v202, v203, v90] : Fin 3 → IVec S16 32) a x).toNat < S8x8x1024.size a)
theorem k0_idx48_inb : ∀ (i : grid0.Coords) (k0_t3 : Fin k0_t3_loop.trips) (v90 : IVec S16 32) (v202 : IVec S16 32) (v203 : IVec S16 32) (k0_hw50 : k0_chk50 i k0_t3 v90 v202 v203), ∀ (k0_h1 : k0_cond1 i k0_t3 = 1#1), ∀ a x, ((![v202, v203, v90] : Fin 3 → IVec S16 32) a x).toNat < S8x8x1024.size a := fun i k0_t3 v90 v202 v203 k0_hw50 k0_h1 => k0_hw50 k0_h1

def k0_chk51 (i : grid0.Coords) (k0_t3 : Fin k0_t3_loop.trips) (v85 : IVec S16 32) (v210 : IVec S16 32) : Prop :=
  (∀ (k0_h1 : k0_cond1 i k0_t3 = 1#1), ∀ a x, ((![v85, v210] : Fin 2 → IVec S16 32) a x).toNat < S32x129.size a)
theorem k0_idx49_inb : ∀ (i : grid0.Coords) (k0_t3 : Fin k0_t3_loop.trips) (v85 : IVec S16 32) (v210 : IVec S16 32) (k0_hw51 : k0_chk51 i k0_t3 v85 v210), ∀ (k0_h1 : k0_cond1 i k0_t3 = 1#1), ∀ a x, ((![v85, v210] : Fin 2 → IVec S16 32) a x).toNat < S32x129.size a := fun i k0_t3 v85 v210 k0_hw51 k0_h1 => k0_hw51 k0_h1

def k0_chk52 (i : grid0.Coords) (k0_t3 : Fin k0_t3_loop.trips) (v90 : IVec S16 32) (v207 : IVec S16 32) (v208 : IVec S16 32) : Prop :=
  (∀ (k0_h1 : k0_cond1 i k0_t3 = 1#1), ∀ a x, ((![v207, v208, v90] : Fin 3 → IVec S16 32) a x).toNat < S8x8x1024.size a)
theorem k0_idx50_inb : ∀ (i : grid0.Coords) (k0_t3 : Fin k0_t3_loop.trips) (v90 : IVec S16 32) (v207 : IVec S16 32) (v208 : IVec S16 32) (k0_hw52 : k0_chk52 i k0_t3 v90 v207 v208), ∀ (k0_h1 : k0_cond1 i k0_t3 = 1#1), ∀ a x, ((![v207, v208, v90] : Fin 3 → IVec S16 32) a x).toNat < S8x8x1024.size a := fun i k0_t3 v90 v207 v208 k0_hw52 k0_h1 => k0_hw52 k0_h1

def k0_chk53 (i : grid0.Coords) (k0_t3 : Fin k0_t3_loop.trips) (v85 : IVec S16 32) (v215 : IVec S16 32) : Prop :=
  (∀ (k0_h1 : k0_cond1 i k0_t3 = 1#1), ∀ a x, ((![v85, v215] : Fin 2 → IVec S16 32) a x).toNat < S32x129.size a)
theorem k0_idx51_inb : ∀ (i : grid0.Coords) (k0_t3 : Fin k0_t3_loop.trips) (v85 : IVec S16 32) (v215 : IVec S16 32) (k0_hw53 : k0_chk53 i k0_t3 v85 v215), ∀ (k0_h1 : k0_cond1 i k0_t3 = 1#1), ∀ a x, ((![v85, v215] : Fin 2 → IVec S16 32) a x).toNat < S32x129.size a := fun i k0_t3 v85 v215 k0_hw53 k0_h1 => k0_hw53 k0_h1

def k0_chk54 (i : grid0.Coords) (k0_t3 : Fin k0_t3_loop.trips) (v90 : IVec S16 32) (v212 : IVec S16 32) (v213 : IVec S16 32) : Prop :=
  (∀ (k0_h1 : k0_cond1 i k0_t3 = 1#1), ∀ a x, ((![v212, v213, v90] : Fin 3 → IVec S16 32) a x).toNat < S8x8x1024.size a)
theorem k0_idx52_inb : ∀ (i : grid0.Coords) (k0_t3 : Fin k0_t3_loop.trips) (v90 : IVec S16 32) (v212 : IVec S16 32) (v213 : IVec S16 32) (k0_hw54 : k0_chk54 i k0_t3 v90 v212 v213), ∀ (k0_h1 : k0_cond1 i k0_t3 = 1#1), ∀ a x, ((![v212, v213, v90] : Fin 3 → IVec S16 32) a x).toNat < S8x8x1024.size a := fun i k0_t3 v90 v212 v213 k0_hw54 k0_h1 => k0_hw54 k0_h1

def k0_chk55 (i : grid0.Coords) (k0_t3 : Fin k0_t3_loop.trips) (v85 : IVec S16 32) (v220 : IVec S16 32) : Prop :=
  (∀ (k0_h1 : k0_cond1 i k0_t3 = 1#1), ∀ a x, ((![v85, v220] : Fin 2 → IVec S16 32) a x).toNat < S32x129.size a)
theorem k0_idx53_inb : ∀ (i : grid0.Coords) (k0_t3 : Fin k0_t3_loop.trips) (v85 : IVec S16 32) (v220 : IVec S16 32) (k0_hw55 : k0_chk55 i k0_t3 v85 v220), ∀ (k0_h1 : k0_cond1 i k0_t3 = 1#1), ∀ a x, ((![v85, v220] : Fin 2 → IVec S16 32) a x).toNat < S32x129.size a := fun i k0_t3 v85 v220 k0_hw55 k0_h1 => k0_hw55 k0_h1

def k0_chk56 (i : grid0.Coords) (k0_t3 : Fin k0_t3_loop.trips) (v90 : IVec S16 32) (v217 : IVec S16 32) (v218 : IVec S16 32) : Prop :=
  (∀ (k0_h1 : k0_cond1 i k0_t3 = 1#1), ∀ a x, ((![v217, v218, v90] : Fin 3 → IVec S16 32) a x).toNat < S8x8x1024.size a)
theorem k0_idx54_inb : ∀ (i : grid0.Coords) (k0_t3 : Fin k0_t3_loop.trips) (v90 : IVec S16 32) (v217 : IVec S16 32) (v218 : IVec S16 32) (k0_hw56 : k0_chk56 i k0_t3 v90 v217 v218), ∀ (k0_h1 : k0_cond1 i k0_t3 = 1#1), ∀ a x, ((![v217, v218, v90] : Fin 3 → IVec S16 32) a x).toNat < S8x8x1024.size a := fun i k0_t3 v90 v217 v218 k0_hw56 k0_h1 => k0_hw56 k0_h1

def k0_chk57 (i : grid0.Coords) (k0_t3 : Fin k0_t3_loop.trips) (v85 : IVec S16 32) (v225 : IVec S16 32) : Prop :=
  (∀ (k0_h1 : k0_cond1 i k0_t3 = 1#1), ∀ a x, ((![v85, v225] : Fin 2 → IVec S16 32) a x).toNat < S32x129.size a)
theorem k0_idx55_inb : ∀ (i : grid0.Coords) (k0_t3 : Fin k0_t3_loop.trips) (v85 : IVec S16 32) (v225 : IVec S16 32) (k0_hw57 : k0_chk57 i k0_t3 v85 v225), ∀ (k0_h1 : k0_cond1 i k0_t3 = 1#1), ∀ a x, ((![v85, v225] : Fin 2 → IVec S16 32) a x).toNat < S32x129.size a := fun i k0_t3 v85 v225 k0_hw57 k0_h1 => k0_hw57 k0_h1

def k0_chk58 (i : grid0.Coords) (k0_t3 : Fin k0_t3_loop.trips) (v90 : IVec S16 32) (v222 : IVec S16 32) (v223 : IVec S16 32) : Prop :=
  (∀ (k0_h1 : k0_cond1 i k0_t3 = 1#1), ∀ a x, ((![v222, v223, v90] : Fin 3 → IVec S16 32) a x).toNat < S8x8x1024.size a)
theorem k0_idx56_inb : ∀ (i : grid0.Coords) (k0_t3 : Fin k0_t3_loop.trips) (v90 : IVec S16 32) (v222 : IVec S16 32) (v223 : IVec S16 32) (k0_hw58 : k0_chk58 i k0_t3 v90 v222 v223), ∀ (k0_h1 : k0_cond1 i k0_t3 = 1#1), ∀ a x, ((![v222, v223, v90] : Fin 3 → IVec S16 32) a x).toNat < S8x8x1024.size a := fun i k0_t3 v90 v222 v223 k0_hw58 k0_h1 => k0_hw58 k0_h1

def k0_chk59 (i : grid0.Coords) (k0_t3 : Fin k0_t3_loop.trips) (v85 : IVec S16 32) (v230 : IVec S16 32) : Prop :=
  (∀ (k0_h1 : k0_cond1 i k0_t3 = 1#1), ∀ a x, ((![v85, v230] : Fin 2 → IVec S16 32) a x).toNat < S32x129.size a)
theorem k0_idx57_inb : ∀ (i : grid0.Coords) (k0_t3 : Fin k0_t3_loop.trips) (v85 : IVec S16 32) (v230 : IVec S16 32) (k0_hw59 : k0_chk59 i k0_t3 v85 v230), ∀ (k0_h1 : k0_cond1 i k0_t3 = 1#1), ∀ a x, ((![v85, v230] : Fin 2 → IVec S16 32) a x).toNat < S32x129.size a := fun i k0_t3 v85 v230 k0_hw59 k0_h1 => k0_hw59 k0_h1

def k0_chk60 (i : grid0.Coords) (k0_t3 : Fin k0_t3_loop.trips) (v90 : IVec S16 32) (v227 : IVec S16 32) (v228 : IVec S16 32) : Prop :=
  (∀ (k0_h1 : k0_cond1 i k0_t3 = 1#1), ∀ a x, ((![v227, v228, v90] : Fin 3 → IVec S16 32) a x).toNat < S8x8x1024.size a)
theorem k0_idx58_inb : ∀ (i : grid0.Coords) (k0_t3 : Fin k0_t3_loop.trips) (v90 : IVec S16 32) (v227 : IVec S16 32) (v228 : IVec S16 32) (k0_hw60 : k0_chk60 i k0_t3 v90 v227 v228), ∀ (k0_h1 : k0_cond1 i k0_t3 = 1#1), ∀ a x, ((![v227, v228, v90] : Fin 3 → IVec S16 32) a x).toNat < S8x8x1024.size a := fun i k0_t3 v90 v227 v228 k0_hw60 k0_h1 => k0_hw60 k0_h1

def k0_chk61 (i : grid0.Coords) (k0_t3 : Fin k0_t3_loop.trips) (v85 : IVec S16 32) (v235 : IVec S16 32) : Prop :=
  (∀ (k0_h1 : k0_cond1 i k0_t3 = 1#1), ∀ a x, ((![v85, v235] : Fin 2 → IVec S16 32) a x).toNat < S32x129.size a)
theorem k0_idx59_inb : ∀ (i : grid0.Coords) (k0_t3 : Fin k0_t3_loop.trips) (v85 : IVec S16 32) (v235 : IVec S16 32) (k0_hw61 : k0_chk61 i k0_t3 v85 v235), ∀ (k0_h1 : k0_cond1 i k0_t3 = 1#1), ∀ a x, ((![v85, v235] : Fin 2 → IVec S16 32) a x).toNat < S32x129.size a := fun i k0_t3 v85 v235 k0_hw61 k0_h1 => k0_hw61 k0_h1

def k0_chk62 (i : grid0.Coords) (k0_t3 : Fin k0_t3_loop.trips) (v90 : IVec S16 32) (v232 : IVec S16 32) (v233 : IVec S16 32) : Prop :=
  (∀ (k0_h1 : k0_cond1 i k0_t3 = 1#1), ∀ a x, ((![v232, v233, v90] : Fin 3 → IVec S16 32) a x).toNat < S8x8x1024.size a)
theorem k0_idx60_inb : ∀ (i : grid0.Coords) (k0_t3 : Fin k0_t3_loop.trips) (v90 : IVec S16 32) (v232 : IVec S16 32) (v233 : IVec S16 32) (k0_hw62 : k0_chk62 i k0_t3 v90 v232 v233), ∀ (k0_h1 : k0_cond1 i k0_t3 = 1#1), ∀ a x, ((![v232, v233, v90] : Fin 3 → IVec S16 32) a x).toNat < S8x8x1024.size a := fun i k0_t3 v90 v232 v233 k0_hw62 k0_h1 => k0_hw62 k0_h1

def k0_chk63 (i : grid0.Coords) (k0_t3 : Fin k0_t3_loop.trips) (v85 : IVec S16 32) (v240 : IVec S16 32) : Prop :=
  (∀ (k0_h1 : k0_cond1 i k0_t3 = 1#1), ∀ a x, ((![v85, v240] : Fin 2 → IVec S16 32) a x).toNat < S32x129.size a)
theorem k0_idx61_inb : ∀ (i : grid0.Coords) (k0_t3 : Fin k0_t3_loop.trips) (v85 : IVec S16 32) (v240 : IVec S16 32) (k0_hw63 : k0_chk63 i k0_t3 v85 v240), ∀ (k0_h1 : k0_cond1 i k0_t3 = 1#1), ∀ a x, ((![v85, v240] : Fin 2 → IVec S16 32) a x).toNat < S32x129.size a := fun i k0_t3 v85 v240 k0_hw63 k0_h1 => k0_hw63 k0_h1

def k0_chk64 (i : grid0.Coords) (k0_t3 : Fin k0_t3_loop.trips) (v90 : IVec S16 32) (v237 : IVec S16 32) (v238 : IVec S16 32) : Prop :=
  (∀ (k0_h1 : k0_cond1 i k0_t3 = 1#1), ∀ a x, ((![v237, v238, v90] : Fin 3 → IVec S16 32) a x).toNat < S8x8x1024.size a)
theorem k0_idx62_inb : ∀ (i : grid0.Coords) (k0_t3 : Fin k0_t3_loop.trips) (v90 : IVec S16 32) (v237 : IVec S16 32) (v238 : IVec S16 32) (k0_hw64 : k0_chk64 i k0_t3 v90 v237 v238), ∀ (k0_h1 : k0_cond1 i k0_t3 = 1#1), ∀ a x, ((![v237, v238, v90] : Fin 3 → IVec S16 32) a x).toNat < S8x8x1024.size a := fun i k0_t3 v90 v237 v238 k0_hw64 k0_h1 => k0_hw64 k0_h1

def k0_chk65 (i : grid0.Coords) (k0_t3 : Fin k0_t3_loop.trips) (v85 : IVec S16 32) (v245 : IVec S16 32) : Prop :=
  (∀ (k0_h1 : k0_cond1 i k0_t3 = 1#1), ∀ a x, ((![v85, v245] : Fin 2 → IVec S16 32) a x).toNat < S32x129.size a)
theorem k0_idx63_inb : ∀ (i : grid0.Coords) (k0_t3 : Fin k0_t3_loop.trips) (v85 : IVec S16 32) (v245 : IVec S16 32) (k0_hw65 : k0_chk65 i k0_t3 v85 v245), ∀ (k0_h1 : k0_cond1 i k0_t3 = 1#1), ∀ a x, ((![v85, v245] : Fin 2 → IVec S16 32) a x).toNat < S32x129.size a := fun i k0_t3 v85 v245 k0_hw65 k0_h1 => k0_hw65 k0_h1

def k0_chk66 (i : grid0.Coords) (k0_t3 : Fin k0_t3_loop.trips) (v90 : IVec S16 32) (v242 : IVec S16 32) (v243 : IVec S16 32) : Prop :=
  (∀ (k0_h1 : k0_cond1 i k0_t3 = 1#1), ∀ a x, ((![v242, v243, v90] : Fin 3 → IVec S16 32) a x).toNat < S8x8x1024.size a)
theorem k0_idx64_inb : ∀ (i : grid0.Coords) (k0_t3 : Fin k0_t3_loop.trips) (v90 : IVec S16 32) (v242 : IVec S16 32) (v243 : IVec S16 32) (k0_hw66 : k0_chk66 i k0_t3 v90 v242 v243), ∀ (k0_h1 : k0_cond1 i k0_t3 = 1#1), ∀ a x, ((![v242, v243, v90] : Fin 3 → IVec S16 32) a x).toNat < S8x8x1024.size a := fun i k0_t3 v90 v242 v243 k0_hw66 k0_h1 => k0_hw66 k0_h1

def k0_chk67 (i : grid0.Coords) (k0_t3 : Fin k0_t3_loop.trips) (v85 : IVec S16 32) (v250 : IVec S16 32) : Prop :=
  (∀ (k0_h1 : k0_cond1 i k0_t3 = 1#1), ∀ a x, ((![v85, v250] : Fin 2 → IVec S16 32) a x).toNat < S32x129.size a)
theorem k0_idx65_inb : ∀ (i : grid0.Coords) (k0_t3 : Fin k0_t3_loop.trips) (v85 : IVec S16 32) (v250 : IVec S16 32) (k0_hw67 : k0_chk67 i k0_t3 v85 v250), ∀ (k0_h1 : k0_cond1 i k0_t3 = 1#1), ∀ a x, ((![v85, v250] : Fin 2 → IVec S16 32) a x).toNat < S32x129.size a := fun i k0_t3 v85 v250 k0_hw67 k0_h1 => k0_hw67 k0_h1

def k0_chk68 (i : grid0.Coords) (k0_t3 : Fin k0_t3_loop.trips) (v90 : IVec S16 32) (v247 : IVec S16 32) (v248 : IVec S16 32) : Prop :=
  (∀ (k0_h1 : k0_cond1 i k0_t3 = 1#1), ∀ a x, ((![v247, v248, v90] : Fin 3 → IVec S16 32) a x).toNat < S8x8x1024.size a)
theorem k0_idx66_inb : ∀ (i : grid0.Coords) (k0_t3 : Fin k0_t3_loop.trips) (v90 : IVec S16 32) (v247 : IVec S16 32) (v248 : IVec S16 32) (k0_hw68 : k0_chk68 i k0_t3 v90 v247 v248), ∀ (k0_h1 : k0_cond1 i k0_t3 = 1#1), ∀ a x, ((![v247, v248, v90] : Fin 3 → IVec S16 32) a x).toNat < S8x8x1024.size a := fun i k0_t3 v90 v247 v248 k0_hw68 k0_h1 => k0_hw68 k0_h1

def k0_chk69 (i : grid0.Coords) (k0_t3 : Fin k0_t3_loop.trips) (v85 : IVec S16 32) (v255 : IVec S16 32) : Prop :=
  (∀ (k0_h1 : k0_cond1 i k0_t3 = 1#1), ∀ a x, ((![v85, v255] : Fin 2 → IVec S16 32) a x).toNat < S32x129.size a)
theorem k0_idx67_inb : ∀ (i : grid0.Coords) (k0_t3 : Fin k0_t3_loop.trips) (v85 : IVec S16 32) (v255 : IVec S16 32) (k0_hw69 : k0_chk69 i k0_t3 v85 v255), ∀ (k0_h1 : k0_cond1 i k0_t3 = 1#1), ∀ a x, ((![v85, v255] : Fin 2 → IVec S16 32) a x).toNat < S32x129.size a := fun i k0_t3 v85 v255 k0_hw69 k0_h1 => k0_hw69 k0_h1

def k0_chk70 (i : grid0.Coords) (k0_t3 : Fin k0_t3_loop.trips) (v90 : IVec S16 32) (v252 : IVec S16 32) (v253 : IVec S16 32) : Prop :=
  (∀ (k0_h1 : k0_cond1 i k0_t3 = 1#1), ∀ a x, ((![v252, v253, v90] : Fin 3 → IVec S16 32) a x).toNat < S8x8x1024.size a)
theorem k0_idx68_inb : ∀ (i : grid0.Coords) (k0_t3 : Fin k0_t3_loop.trips) (v90 : IVec S16 32) (v252 : IVec S16 32) (v253 : IVec S16 32) (k0_hw70 : k0_chk70 i k0_t3 v90 v252 v253), ∀ (k0_h1 : k0_cond1 i k0_t3 = 1#1), ∀ a x, ((![v252, v253, v90] : Fin 3 → IVec S16 32) a x).toNat < S8x8x1024.size a := fun i k0_t3 v90 v252 v253 k0_hw70 k0_h1 => k0_hw70 k0_h1

def k0_chk71 (i : grid0.Coords) (k0_t3 : Fin k0_t3_loop.trips) (v85 : IVec S16 32) (v260 : IVec S16 32) : Prop :=
  (∀ (k0_h1 : k0_cond1 i k0_t3 = 1#1), ∀ a x, ((![v85, v260] : Fin 2 → IVec S16 32) a x).toNat < S32x129.size a)
theorem k0_idx69_inb : ∀ (i : grid0.Coords) (k0_t3 : Fin k0_t3_loop.trips) (v85 : IVec S16 32) (v260 : IVec S16 32) (k0_hw71 : k0_chk71 i k0_t3 v85 v260), ∀ (k0_h1 : k0_cond1 i k0_t3 = 1#1), ∀ a x, ((![v85, v260] : Fin 2 → IVec S16 32) a x).toNat < S32x129.size a := fun i k0_t3 v85 v260 k0_hw71 k0_h1 => k0_hw71 k0_h1

def k0_chk72 (i : grid0.Coords) (k0_t3 : Fin k0_t3_loop.trips) (v90 : IVec S16 32) (v257 : IVec S16 32) (v258 : IVec S16 32) : Prop :=
  (∀ (k0_h1 : k0_cond1 i k0_t3 = 1#1), ∀ a x, ((![v257, v258, v90] : Fin 3 → IVec S16 32) a x).toNat < S8x8x1024.size a)
theorem k0_idx70_inb : ∀ (i : grid0.Coords) (k0_t3 : Fin k0_t3_loop.trips) (v90 : IVec S16 32) (v257 : IVec S16 32) (v258 : IVec S16 32) (k0_hw72 : k0_chk72 i k0_t3 v90 v257 v258), ∀ (k0_h1 : k0_cond1 i k0_t3 = 1#1), ∀ a x, ((![v257, v258, v90] : Fin 3 → IVec S16 32) a x).toNat < S8x8x1024.size a := fun i k0_t3 v90 v257 v258 k0_hw72 k0_h1 => k0_hw72 k0_h1

def k0_chk73 (i : grid0.Coords) (k0_t3 : Fin k0_t3_loop.trips) (v85 : IVec S16 32) (v265 : IVec S16 32) : Prop :=
  (∀ (k0_h1 : k0_cond1 i k0_t3 = 1#1), ∀ a x, ((![v85, v265] : Fin 2 → IVec S16 32) a x).toNat < S32x129.size a)
theorem k0_idx71_inb : ∀ (i : grid0.Coords) (k0_t3 : Fin k0_t3_loop.trips) (v85 : IVec S16 32) (v265 : IVec S16 32) (k0_hw73 : k0_chk73 i k0_t3 v85 v265), ∀ (k0_h1 : k0_cond1 i k0_t3 = 1#1), ∀ a x, ((![v85, v265] : Fin 2 → IVec S16 32) a x).toNat < S32x129.size a := fun i k0_t3 v85 v265 k0_hw73 k0_h1 => k0_hw73 k0_h1

def k0_chk74 (i : grid0.Coords) (k0_t3 : Fin k0_t3_loop.trips) (v90 : IVec S16 32) (v262 : IVec S16 32) (v263 : IVec S16 32) : Prop :=
  (∀ (k0_h1 : k0_cond1 i k0_t3 = 1#1), ∀ a x, ((![v262, v263, v90] : Fin 3 → IVec S16 32) a x).toNat < S8x8x1024.size a)
theorem k0_idx72_inb : ∀ (i : grid0.Coords) (k0_t3 : Fin k0_t3_loop.trips) (v90 : IVec S16 32) (v262 : IVec S16 32) (v263 : IVec S16 32) (k0_hw74 : k0_chk74 i k0_t3 v90 v262 v263), ∀ (k0_h1 : k0_cond1 i k0_t3 = 1#1), ∀ a x, ((![v262, v263, v90] : Fin 3 → IVec S16 32) a x).toNat < S8x8x1024.size a := fun i k0_t3 v90 v262 v263 k0_hw74 k0_h1 => k0_hw74 k0_h1

def k0_chk75 (i : grid0.Coords) (k0_t3 : Fin k0_t3_loop.trips) (v85 : IVec S16 32) (v270 : IVec S16 32) : Prop :=
  (∀ (k0_h1 : k0_cond1 i k0_t3 = 1#1), ∀ a x, ((![v85, v270] : Fin 2 → IVec S16 32) a x).toNat < S32x129.size a)
theorem k0_idx73_inb : ∀ (i : grid0.Coords) (k0_t3 : Fin k0_t3_loop.trips) (v85 : IVec S16 32) (v270 : IVec S16 32) (k0_hw75 : k0_chk75 i k0_t3 v85 v270), ∀ (k0_h1 : k0_cond1 i k0_t3 = 1#1), ∀ a x, ((![v85, v270] : Fin 2 → IVec S16 32) a x).toNat < S32x129.size a := fun i k0_t3 v85 v270 k0_hw75 k0_h1 => k0_hw75 k0_h1

def k0_chk76 (i : grid0.Coords) (k0_t3 : Fin k0_t3_loop.trips) (v90 : IVec S16 32) (v267 : IVec S16 32) (v268 : IVec S16 32) : Prop :=
  (∀ (k0_h1 : k0_cond1 i k0_t3 = 1#1), ∀ a x, ((![v267, v268, v90] : Fin 3 → IVec S16 32) a x).toNat < S8x8x1024.size a)
theorem k0_idx74_inb : ∀ (i : grid0.Coords) (k0_t3 : Fin k0_t3_loop.trips) (v90 : IVec S16 32) (v267 : IVec S16 32) (v268 : IVec S16 32) (k0_hw76 : k0_chk76 i k0_t3 v90 v267 v268), ∀ (k0_h1 : k0_cond1 i k0_t3 = 1#1), ∀ a x, ((![v267, v268, v90] : Fin 3 → IVec S16 32) a x).toNat < S8x8x1024.size a := fun i k0_t3 v90 v267 v268 k0_hw76 k0_h1 => k0_hw76 k0_h1

def k0_chk77 (i : grid0.Coords) (k0_t3 : Fin k0_t3_loop.trips) (v85 : IVec S16 32) (v275 : IVec S16 32) : Prop :=
  (∀ (k0_h1 : k0_cond1 i k0_t3 = 1#1), ∀ a x, ((![v85, v275] : Fin 2 → IVec S16 32) a x).toNat < S32x129.size a)
theorem k0_idx75_inb : ∀ (i : grid0.Coords) (k0_t3 : Fin k0_t3_loop.trips) (v85 : IVec S16 32) (v275 : IVec S16 32) (k0_hw77 : k0_chk77 i k0_t3 v85 v275), ∀ (k0_h1 : k0_cond1 i k0_t3 = 1#1), ∀ a x, ((![v85, v275] : Fin 2 → IVec S16 32) a x).toNat < S32x129.size a := fun i k0_t3 v85 v275 k0_hw77 k0_h1 => k0_hw77 k0_h1

def k0_chk78 (i : grid0.Coords) (k0_t3 : Fin k0_t3_loop.trips) (v90 : IVec S16 32) (v272 : IVec S16 32) (v273 : IVec S16 32) : Prop :=
  (∀ (k0_h1 : k0_cond1 i k0_t3 = 1#1), ∀ a x, ((![v272, v273, v90] : Fin 3 → IVec S16 32) a x).toNat < S8x8x1024.size a)
theorem k0_idx76_inb : ∀ (i : grid0.Coords) (k0_t3 : Fin k0_t3_loop.trips) (v90 : IVec S16 32) (v272 : IVec S16 32) (v273 : IVec S16 32) (k0_hw78 : k0_chk78 i k0_t3 v90 v272 v273), ∀ (k0_h1 : k0_cond1 i k0_t3 = 1#1), ∀ a x, ((![v272, v273, v90] : Fin 3 → IVec S16 32) a x).toNat < S8x8x1024.size a := fun i k0_t3 v90 v272 v273 k0_hw78 k0_h1 => k0_hw78 k0_h1

def k0_chk79 (i : grid0.Coords) (k0_t3 : Fin k0_t3_loop.trips) (v85 : IVec S16 32) (v280 : IVec S16 32) : Prop :=
  (∀ (k0_h1 : k0_cond1 i k0_t3 = 1#1), ∀ a x, ((![v85, v280] : Fin 2 → IVec S16 32) a x).toNat < S32x129.size a)
theorem k0_idx77_inb : ∀ (i : grid0.Coords) (k0_t3 : Fin k0_t3_loop.trips) (v85 : IVec S16 32) (v280 : IVec S16 32) (k0_hw79 : k0_chk79 i k0_t3 v85 v280), ∀ (k0_h1 : k0_cond1 i k0_t3 = 1#1), ∀ a x, ((![v85, v280] : Fin 2 → IVec S16 32) a x).toNat < S32x129.size a := fun i k0_t3 v85 v280 k0_hw79 k0_h1 => k0_hw79 k0_h1

def k0_chk80 (i : grid0.Coords) (k0_t3 : Fin k0_t3_loop.trips) (v90 : IVec S16 32) (v277 : IVec S16 32) (v278 : IVec S16 32) : Prop :=
  (∀ (k0_h1 : k0_cond1 i k0_t3 = 1#1), ∀ a x, ((![v277, v278, v90] : Fin 3 → IVec S16 32) a x).toNat < S8x8x1024.size a)
theorem k0_idx78_inb : ∀ (i : grid0.Coords) (k0_t3 : Fin k0_t3_loop.trips) (v90 : IVec S16 32) (v277 : IVec S16 32) (v278 : IVec S16 32) (k0_hw80 : k0_chk80 i k0_t3 v90 v277 v278), ∀ (k0_h1 : k0_cond1 i k0_t3 = 1#1), ∀ a x, ((![v277, v278, v90] : Fin 3 → IVec S16 32) a x).toNat < S8x8x1024.size a := fun i k0_t3 v90 v277 v278 k0_hw80 k0_h1 => k0_hw80 k0_h1

def k0_chk81 (i : grid0.Coords) (k0_t3 : Fin k0_t3_loop.trips) (v85 : IVec S16 32) (v285 : IVec S16 32) : Prop :=
  (∀ (k0_h1 : k0_cond1 i k0_t3 = 1#1), ∀ a x, ((![v85, v285] : Fin 2 → IVec S16 32) a x).toNat < S32x129.size a)
theorem k0_idx79_inb : ∀ (i : grid0.Coords) (k0_t3 : Fin k0_t3_loop.trips) (v85 : IVec S16 32) (v285 : IVec S16 32) (k0_hw81 : k0_chk81 i k0_t3 v85 v285), ∀ (k0_h1 : k0_cond1 i k0_t3 = 1#1), ∀ a x, ((![v85, v285] : Fin 2 → IVec S16 32) a x).toNat < S32x129.size a := fun i k0_t3 v85 v285 k0_hw81 k0_h1 => k0_hw81 k0_h1

def k0_chk82 (i : grid0.Coords) (k0_t3 : Fin k0_t3_loop.trips) (v90 : IVec S16 32) (v282 : IVec S16 32) (v283 : IVec S16 32) : Prop :=
  (∀ (k0_h1 : k0_cond1 i k0_t3 = 1#1), ∀ a x, ((![v282, v283, v90] : Fin 3 → IVec S16 32) a x).toNat < S8x8x1024.size a)
theorem k0_idx80_inb : ∀ (i : grid0.Coords) (k0_t3 : Fin k0_t3_loop.trips) (v90 : IVec S16 32) (v282 : IVec S16 32) (v283 : IVec S16 32) (k0_hw82 : k0_chk82 i k0_t3 v90 v282 v283), ∀ (k0_h1 : k0_cond1 i k0_t3 = 1#1), ∀ a x, ((![v282, v283, v90] : Fin 3 → IVec S16 32) a x).toNat < S8x8x1024.size a := fun i k0_t3 v90 v282 v283 k0_hw82 k0_h1 => k0_hw82 k0_h1

def k0_chk83 (i : grid0.Coords) (k0_t3 : Fin k0_t3_loop.trips) (v85 : IVec S16 32) (v290 : IVec S16 32) : Prop :=
  (∀ (k0_h1 : k0_cond1 i k0_t3 = 1#1), ∀ a x, ((![v85, v290] : Fin 2 → IVec S16 32) a x).toNat < S32x129.size a)
theorem k0_idx81_inb : ∀ (i : grid0.Coords) (k0_t3 : Fin k0_t3_loop.trips) (v85 : IVec S16 32) (v290 : IVec S16 32) (k0_hw83 : k0_chk83 i k0_t3 v85 v290), ∀ (k0_h1 : k0_cond1 i k0_t3 = 1#1), ∀ a x, ((![v85, v290] : Fin 2 → IVec S16 32) a x).toNat < S32x129.size a := fun i k0_t3 v85 v290 k0_hw83 k0_h1 => k0_hw83 k0_h1

def k0_chk84 (i : grid0.Coords) (k0_t3 : Fin k0_t3_loop.trips) (v90 : IVec S16 32) (v287 : IVec S16 32) (v288 : IVec S16 32) : Prop :=
  (∀ (k0_h1 : k0_cond1 i k0_t3 = 1#1), ∀ a x, ((![v287, v288, v90] : Fin 3 → IVec S16 32) a x).toNat < S8x8x1024.size a)
theorem k0_idx82_inb : ∀ (i : grid0.Coords) (k0_t3 : Fin k0_t3_loop.trips) (v90 : IVec S16 32) (v287 : IVec S16 32) (v288 : IVec S16 32) (k0_hw84 : k0_chk84 i k0_t3 v90 v287 v288), ∀ (k0_h1 : k0_cond1 i k0_t3 = 1#1), ∀ a x, ((![v287, v288, v90] : Fin 3 → IVec S16 32) a x).toNat < S8x8x1024.size a := fun i k0_t3 v90 v287 v288 k0_hw84 k0_h1 => k0_hw84 k0_h1

def k0_chk85 (i : grid0.Coords) (k0_t3 : Fin k0_t3_loop.trips) (v85 : IVec S16 32) (v295 : IVec S16 32) : Prop :=
  (∀ (k0_h1 : k0_cond1 i k0_t3 = 1#1), ∀ a x, ((![v85, v295] : Fin 2 → IVec S16 32) a x).toNat < S32x129.size a)
theorem k0_idx83_inb : ∀ (i : grid0.Coords) (k0_t3 : Fin k0_t3_loop.trips) (v85 : IVec S16 32) (v295 : IVec S16 32) (k0_hw85 : k0_chk85 i k0_t3 v85 v295), ∀ (k0_h1 : k0_cond1 i k0_t3 = 1#1), ∀ a x, ((![v85, v295] : Fin 2 → IVec S16 32) a x).toNat < S32x129.size a := fun i k0_t3 v85 v295 k0_hw85 k0_h1 => k0_hw85 k0_h1

def k0_chk86 (i : grid0.Coords) (k0_t3 : Fin k0_t3_loop.trips) (v90 : IVec S16 32) (v292 : IVec S16 32) (v293 : IVec S16 32) : Prop :=
  (∀ (k0_h1 : k0_cond1 i k0_t3 = 1#1), ∀ a x, ((![v292, v293, v90] : Fin 3 → IVec S16 32) a x).toNat < S8x8x1024.size a)
theorem k0_idx84_inb : ∀ (i : grid0.Coords) (k0_t3 : Fin k0_t3_loop.trips) (v90 : IVec S16 32) (v292 : IVec S16 32) (v293 : IVec S16 32) (k0_hw86 : k0_chk86 i k0_t3 v90 v292 v293), ∀ (k0_h1 : k0_cond1 i k0_t3 = 1#1), ∀ a x, ((![v292, v293, v90] : Fin 3 → IVec S16 32) a x).toNat < S8x8x1024.size a := fun i k0_t3 v90 v292 v293 k0_hw86 k0_h1 => k0_hw86 k0_h1

def k0_chk87 (i : grid0.Coords) (k0_t3 : Fin k0_t3_loop.trips) (v85 : IVec S16 32) (v300 : IVec S16 32) : Prop :=
  (∀ (k0_h1 : k0_cond1 i k0_t3 = 1#1), ∀ a x, ((![v85, v300] : Fin 2 → IVec S16 32) a x).toNat < S32x129.size a)
theorem k0_idx85_inb : ∀ (i : grid0.Coords) (k0_t3 : Fin k0_t3_loop.trips) (v85 : IVec S16 32) (v300 : IVec S16 32) (k0_hw87 : k0_chk87 i k0_t3 v85 v300), ∀ (k0_h1 : k0_cond1 i k0_t3 = 1#1), ∀ a x, ((![v85, v300] : Fin 2 → IVec S16 32) a x).toNat < S32x129.size a := fun i k0_t3 v85 v300 k0_hw87 k0_h1 => k0_hw87 k0_h1

def k0_chk88 (i : grid0.Coords) (k0_t3 : Fin k0_t3_loop.trips) (v90 : IVec S16 32) (v297 : IVec S16 32) (v298 : IVec S16 32) : Prop :=
  (∀ (k0_h1 : k0_cond1 i k0_t3 = 1#1), ∀ a x, ((![v297, v298, v90] : Fin 3 → IVec S16 32) a x).toNat < S8x8x1024.size a)
theorem k0_idx86_inb : ∀ (i : grid0.Coords) (k0_t3 : Fin k0_t3_loop.trips) (v90 : IVec S16 32) (v297 : IVec S16 32) (v298 : IVec S16 32) (k0_hw88 : k0_chk88 i k0_t3 v90 v297 v298), ∀ (k0_h1 : k0_cond1 i k0_t3 = 1#1), ∀ a x, ((![v297, v298, v90] : Fin 3 → IVec S16 32) a x).toNat < S8x8x1024.size a := fun i k0_t3 v90 v297 v298 k0_hw88 k0_h1 => k0_hw88 k0_h1

def k0_chk89 (i : grid0.Coords) (k0_t3 : Fin k0_t3_loop.trips) (v85 : IVec S16 32) (v305 : IVec S16 32) : Prop :=
  (∀ (k0_h1 : k0_cond1 i k0_t3 = 1#1), ∀ a x, ((![v85, v305] : Fin 2 → IVec S16 32) a x).toNat < S32x129.size a)
theorem k0_idx87_inb : ∀ (i : grid0.Coords) (k0_t3 : Fin k0_t3_loop.trips) (v85 : IVec S16 32) (v305 : IVec S16 32) (k0_hw89 : k0_chk89 i k0_t3 v85 v305), ∀ (k0_h1 : k0_cond1 i k0_t3 = 1#1), ∀ a x, ((![v85, v305] : Fin 2 → IVec S16 32) a x).toNat < S32x129.size a := fun i k0_t3 v85 v305 k0_hw89 k0_h1 => k0_hw89 k0_h1

def k0_chk90 (i : grid0.Coords) (k0_t3 : Fin k0_t3_loop.trips) (v90 : IVec S16 32) (v302 : IVec S16 32) (v303 : IVec S16 32) : Prop :=
  (∀ (k0_h1 : k0_cond1 i k0_t3 = 1#1), ∀ a x, ((![v302, v303, v90] : Fin 3 → IVec S16 32) a x).toNat < S8x8x1024.size a)
theorem k0_idx88_inb : ∀ (i : grid0.Coords) (k0_t3 : Fin k0_t3_loop.trips) (v90 : IVec S16 32) (v302 : IVec S16 32) (v303 : IVec S16 32) (k0_hw90 : k0_chk90 i k0_t3 v90 v302 v303), ∀ (k0_h1 : k0_cond1 i k0_t3 = 1#1), ∀ a x, ((![v302, v303, v90] : Fin 3 → IVec S16 32) a x).toNat < S8x8x1024.size a := fun i k0_t3 v90 v302 v303 k0_hw90 k0_h1 => k0_hw90 k0_h1

def k0_chk91 (i : grid0.Coords) (k0_t3 : Fin k0_t3_loop.trips) (v85 : IVec S16 32) (v310 : IVec S16 32) : Prop :=
  (∀ (k0_h1 : k0_cond1 i k0_t3 = 1#1), ∀ a x, ((![v85, v310] : Fin 2 → IVec S16 32) a x).toNat < S32x129.size a)
theorem k0_idx89_inb : ∀ (i : grid0.Coords) (k0_t3 : Fin k0_t3_loop.trips) (v85 : IVec S16 32) (v310 : IVec S16 32) (k0_hw91 : k0_chk91 i k0_t3 v85 v310), ∀ (k0_h1 : k0_cond1 i k0_t3 = 1#1), ∀ a x, ((![v85, v310] : Fin 2 → IVec S16 32) a x).toNat < S32x129.size a := fun i k0_t3 v85 v310 k0_hw91 k0_h1 => k0_hw91 k0_h1

def k0_chk92 (i : grid0.Coords) (k0_t3 : Fin k0_t3_loop.trips) (v90 : IVec S16 32) (v307 : IVec S16 32) (v308 : IVec S16 32) : Prop :=
  (∀ (k0_h1 : k0_cond1 i k0_t3 = 1#1), ∀ a x, ((![v307, v308, v90] : Fin 3 → IVec S16 32) a x).toNat < S8x8x1024.size a)
theorem k0_idx90_inb : ∀ (i : grid0.Coords) (k0_t3 : Fin k0_t3_loop.trips) (v90 : IVec S16 32) (v307 : IVec S16 32) (v308 : IVec S16 32) (k0_hw92 : k0_chk92 i k0_t3 v90 v307 v308), ∀ (k0_h1 : k0_cond1 i k0_t3 = 1#1), ∀ a x, ((![v307, v308, v90] : Fin 3 → IVec S16 32) a x).toNat < S8x8x1024.size a := fun i k0_t3 v90 v307 v308 k0_hw92 k0_h1 => k0_hw92 k0_h1

def k0_chk93 (i : grid0.Coords) (k0_t3 : Fin k0_t3_loop.trips) (v85 : IVec S16 32) (v315 : IVec S16 32) : Prop :=
  (∀ (k0_h1 : k0_cond1 i k0_t3 = 1#1), ∀ a x, ((![v85, v315] : Fin 2 → IVec S16 32) a x).toNat < S32x129.size a)
theorem k0_idx91_inb : ∀ (i : grid0.Coords) (k0_t3 : Fin k0_t3_loop.trips) (v85 : IVec S16 32) (v315 : IVec S16 32) (k0_hw93 : k0_chk93 i k0_t3 v85 v315), ∀ (k0_h1 : k0_cond1 i k0_t3 = 1#1), ∀ a x, ((![v85, v315] : Fin 2 → IVec S16 32) a x).toNat < S32x129.size a := fun i k0_t3 v85 v315 k0_hw93 k0_h1 => k0_hw93 k0_h1

def k0_chk94 (i : grid0.Coords) (k0_t3 : Fin k0_t3_loop.trips) (v90 : IVec S16 32) (v312 : IVec S16 32) (v313 : IVec S16 32) : Prop :=
  (∀ (k0_h1 : k0_cond1 i k0_t3 = 1#1), ∀ a x, ((![v312, v313, v90] : Fin 3 → IVec S16 32) a x).toNat < S8x8x1024.size a)
theorem k0_idx92_inb : ∀ (i : grid0.Coords) (k0_t3 : Fin k0_t3_loop.trips) (v90 : IVec S16 32) (v312 : IVec S16 32) (v313 : IVec S16 32) (k0_hw94 : k0_chk94 i k0_t3 v90 v312 v313), ∀ (k0_h1 : k0_cond1 i k0_t3 = 1#1), ∀ a x, ((![v312, v313, v90] : Fin 3 → IVec S16 32) a x).toNat < S8x8x1024.size a := fun i k0_t3 v90 v312 v313 k0_hw94 k0_h1 => k0_hw94 k0_h1

def k0_chk95 (i : grid0.Coords) (k0_t3 : Fin k0_t3_loop.trips) (v85 : IVec S16 32) (v320 : IVec S16 32) : Prop :=
  (∀ (k0_h1 : k0_cond1 i k0_t3 = 1#1), ∀ a x, ((![v85, v320] : Fin 2 → IVec S16 32) a x).toNat < S32x129.size a)
theorem k0_idx93_inb : ∀ (i : grid0.Coords) (k0_t3 : Fin k0_t3_loop.trips) (v85 : IVec S16 32) (v320 : IVec S16 32) (k0_hw95 : k0_chk95 i k0_t3 v85 v320), ∀ (k0_h1 : k0_cond1 i k0_t3 = 1#1), ∀ a x, ((![v85, v320] : Fin 2 → IVec S16 32) a x).toNat < S32x129.size a := fun i k0_t3 v85 v320 k0_hw95 k0_h1 => k0_hw95 k0_h1

def k0_chk96 (i : grid0.Coords) (k0_t3 : Fin k0_t3_loop.trips) (v90 : IVec S16 32) (v317 : IVec S16 32) (v318 : IVec S16 32) : Prop :=
  (∀ (k0_h1 : k0_cond1 i k0_t3 = 1#1), ∀ a x, ((![v317, v318, v90] : Fin 3 → IVec S16 32) a x).toNat < S8x8x1024.size a)
theorem k0_idx94_inb : ∀ (i : grid0.Coords) (k0_t3 : Fin k0_t3_loop.trips) (v90 : IVec S16 32) (v317 : IVec S16 32) (v318 : IVec S16 32) (k0_hw96 : k0_chk96 i k0_t3 v90 v317 v318), ∀ (k0_h1 : k0_cond1 i k0_t3 = 1#1), ∀ a x, ((![v317, v318, v90] : Fin 3 → IVec S16 32) a x).toNat < S8x8x1024.size a := fun i k0_t3 v90 v317 v318 k0_hw96 k0_h1 => k0_hw96 k0_h1

def k0_chk97 (i : grid0.Coords) (k0_t3 : Fin k0_t3_loop.trips) (v85 : IVec S16 32) (v325 : IVec S16 32) : Prop :=
  (∀ (k0_h1 : k0_cond1 i k0_t3 = 1#1), ∀ a x, ((![v85, v325] : Fin 2 → IVec S16 32) a x).toNat < S32x129.size a)
theorem k0_idx95_inb : ∀ (i : grid0.Coords) (k0_t3 : Fin k0_t3_loop.trips) (v85 : IVec S16 32) (v325 : IVec S16 32) (k0_hw97 : k0_chk97 i k0_t3 v85 v325), ∀ (k0_h1 : k0_cond1 i k0_t3 = 1#1), ∀ a x, ((![v85, v325] : Fin 2 → IVec S16 32) a x).toNat < S32x129.size a := fun i k0_t3 v85 v325 k0_hw97 k0_h1 => k0_hw97 k0_h1

def k0_chk98 (i : grid0.Coords) (k0_t3 : Fin k0_t3_loop.trips) (v90 : IVec S16 32) (v322 : IVec S16 32) (v323 : IVec S16 32) : Prop :=
  (∀ (k0_h1 : k0_cond1 i k0_t3 = 1#1), ∀ a x, ((![v322, v323, v90] : Fin 3 → IVec S16 32) a x).toNat < S8x8x1024.size a)
theorem k0_idx96_inb : ∀ (i : grid0.Coords) (k0_t3 : Fin k0_t3_loop.trips) (v90 : IVec S16 32) (v322 : IVec S16 32) (v323 : IVec S16 32) (k0_hw98 : k0_chk98 i k0_t3 v90 v322 v323), ∀ (k0_h1 : k0_cond1 i k0_t3 = 1#1), ∀ a x, ((![v322, v323, v90] : Fin 3 → IVec S16 32) a x).toNat < S8x8x1024.size a := fun i k0_t3 v90 v322 v323 k0_hw98 k0_h1 => k0_hw98 k0_h1

def k0_chk99 (i : grid0.Coords) (k0_t3 : Fin k0_t3_loop.trips) (v85 : IVec S16 32) (v330 : IVec S16 32) : Prop :=
  (∀ (k0_h1 : k0_cond1 i k0_t3 = 1#1), ∀ a x, ((![v85, v330] : Fin 2 → IVec S16 32) a x).toNat < S32x129.size a)
theorem k0_idx97_inb : ∀ (i : grid0.Coords) (k0_t3 : Fin k0_t3_loop.trips) (v85 : IVec S16 32) (v330 : IVec S16 32) (k0_hw99 : k0_chk99 i k0_t3 v85 v330), ∀ (k0_h1 : k0_cond1 i k0_t3 = 1#1), ∀ a x, ((![v85, v330] : Fin 2 → IVec S16 32) a x).toNat < S32x129.size a := fun i k0_t3 v85 v330 k0_hw99 k0_h1 => k0_hw99 k0_h1

def k0_chk100 (i : grid0.Coords) (k0_t3 : Fin k0_t3_loop.trips) (v90 : IVec S16 32) (v327 : IVec S16 32) (v328 : IVec S16 32) : Prop :=
  (∀ (k0_h1 : k0_cond1 i k0_t3 = 1#1), ∀ a x, ((![v327, v328, v90] : Fin 3 → IVec S16 32) a x).toNat < S8x8x1024.size a)
theorem k0_idx98_inb : ∀ (i : grid0.Coords) (k0_t3 : Fin k0_t3_loop.trips) (v90 : IVec S16 32) (v327 : IVec S16 32) (v328 : IVec S16 32) (k0_hw100 : k0_chk100 i k0_t3 v90 v327 v328), ∀ (k0_h1 : k0_cond1 i k0_t3 = 1#1), ∀ a x, ((![v327, v328, v90] : Fin 3 → IVec S16 32) a x).toNat < S8x8x1024.size a := fun i k0_t3 v90 v327 v328 k0_hw100 k0_h1 => k0_hw100 k0_h1

def k0_chk101 (i : grid0.Coords) (k0_t3 : Fin k0_t3_loop.trips) (v85 : IVec S16 32) (v335 : IVec S16 32) : Prop :=
  (∀ (k0_h1 : k0_cond1 i k0_t3 = 1#1), ∀ a x, ((![v85, v335] : Fin 2 → IVec S16 32) a x).toNat < S32x129.size a)
theorem k0_idx99_inb : ∀ (i : grid0.Coords) (k0_t3 : Fin k0_t3_loop.trips) (v85 : IVec S16 32) (v335 : IVec S16 32) (k0_hw101 : k0_chk101 i k0_t3 v85 v335), ∀ (k0_h1 : k0_cond1 i k0_t3 = 1#1), ∀ a x, ((![v85, v335] : Fin 2 → IVec S16 32) a x).toNat < S32x129.size a := fun i k0_t3 v85 v335 k0_hw101 k0_h1 => k0_hw101 k0_h1

def k0_chk102 (i : grid0.Coords) (k0_t3 : Fin k0_t3_loop.trips) (v90 : IVec S16 32) (v332 : IVec S16 32) (v333 : IVec S16 32) : Prop :=
  (∀ (k0_h1 : k0_cond1 i k0_t3 = 1#1), ∀ a x, ((![v332, v333, v90] : Fin 3 → IVec S16 32) a x).toNat < S8x8x1024.size a)
theorem k0_idx100_inb : ∀ (i : grid0.Coords) (k0_t3 : Fin k0_t3_loop.trips) (v90 : IVec S16 32) (v332 : IVec S16 32) (v333 : IVec S16 32) (k0_hw102 : k0_chk102 i k0_t3 v90 v332 v333), ∀ (k0_h1 : k0_cond1 i k0_t3 = 1#1), ∀ a x, ((![v332, v333, v90] : Fin 3 → IVec S16 32) a x).toNat < S8x8x1024.size a := fun i k0_t3 v90 v332 v333 k0_hw102 k0_h1 => k0_hw102 k0_h1

def k0_chk103 (i : grid0.Coords) (k0_t3 : Fin k0_t3_loop.trips) (v85 : IVec S16 32) (v340 : IVec S16 32) : Prop :=
  (∀ (k0_h1 : k0_cond1 i k0_t3 = 1#1), ∀ a x, ((![v85, v340] : Fin 2 → IVec S16 32) a x).toNat < S32x129.size a)
theorem k0_idx101_inb : ∀ (i : grid0.Coords) (k0_t3 : Fin k0_t3_loop.trips) (v85 : IVec S16 32) (v340 : IVec S16 32) (k0_hw103 : k0_chk103 i k0_t3 v85 v340), ∀ (k0_h1 : k0_cond1 i k0_t3 = 1#1), ∀ a x, ((![v85, v340] : Fin 2 → IVec S16 32) a x).toNat < S32x129.size a := fun i k0_t3 v85 v340 k0_hw103 k0_h1 => k0_hw103 k0_h1

def k0_chk104 (i : grid0.Coords) (k0_t3 : Fin k0_t3_loop.trips) (v90 : IVec S16 32) (v337 : IVec S16 32) (v338 : IVec S16 32) : Prop :=
  (∀ (k0_h1 : k0_cond1 i k0_t3 = 1#1), ∀ a x, ((![v337, v338, v90] : Fin 3 → IVec S16 32) a x).toNat < S8x8x1024.size a)
theorem k0_idx102_inb : ∀ (i : grid0.Coords) (k0_t3 : Fin k0_t3_loop.trips) (v90 : IVec S16 32) (v337 : IVec S16 32) (v338 : IVec S16 32) (k0_hw104 : k0_chk104 i k0_t3 v90 v337 v338), ∀ (k0_h1 : k0_cond1 i k0_t3 = 1#1), ∀ a x, ((![v337, v338, v90] : Fin 3 → IVec S16 32) a x).toNat < S8x8x1024.size a := fun i k0_t3 v90 v337 v338 k0_hw104 k0_h1 => k0_hw104 k0_h1

def k0_chk105 (i : grid0.Coords) (k0_t3 : Fin k0_t3_loop.trips) (v85 : IVec S16 32) (v345 : IVec S16 32) : Prop :=
  (∀ (k0_h1 : k0_cond1 i k0_t3 = 1#1), ∀ a x, ((![v85, v345] : Fin 2 → IVec S16 32) a x).toNat < S32x129.size a)
theorem k0_idx103_inb : ∀ (i : grid0.Coords) (k0_t3 : Fin k0_t3_loop.trips) (v85 : IVec S16 32) (v345 : IVec S16 32) (k0_hw105 : k0_chk105 i k0_t3 v85 v345), ∀ (k0_h1 : k0_cond1 i k0_t3 = 1#1), ∀ a x, ((![v85, v345] : Fin 2 → IVec S16 32) a x).toNat < S32x129.size a := fun i k0_t3 v85 v345 k0_hw105 k0_h1 => k0_hw105 k0_h1

def k0_chk106 (i : grid0.Coords) (k0_t3 : Fin k0_t3_loop.trips) (v90 : IVec S16 32) (v342 : IVec S16 32) (v343 : IVec S16 32) : Prop :=
  (∀ (k0_h1 : k0_cond1 i k0_t3 = 1#1), ∀ a x, ((![v342, v343, v90] : Fin 3 → IVec S16 32) a x).toNat < S8x8x1024.size a)
theorem k0_idx104_inb : ∀ (i : grid0.Coords) (k0_t3 : Fin k0_t3_loop.trips) (v90 : IVec S16 32) (v342 : IVec S16 32) (v343 : IVec S16 32) (k0_hw106 : k0_chk106 i k0_t3 v90 v342 v343), ∀ (k0_h1 : k0_cond1 i k0_t3 = 1#1), ∀ a x, ((![v342, v343, v90] : Fin 3 → IVec S16 32) a x).toNat < S8x8x1024.size a := fun i k0_t3 v90 v342 v343 k0_hw106 k0_h1 => k0_hw106 k0_h1

def k0_chk107 (i : grid0.Coords) (k0_t3 : Fin k0_t3_loop.trips) (v85 : IVec S16 32) (v350 : IVec S16 32) : Prop :=
  (∀ (k0_h1 : k0_cond1 i k0_t3 = 1#1), ∀ a x, ((![v85, v350] : Fin 2 → IVec S16 32) a x).toNat < S32x129.size a)
theorem k0_idx105_inb : ∀ (i : grid0.Coords) (k0_t3 : Fin k0_t3_loop.trips) (v85 : IVec S16 32) (v350 : IVec S16 32) (k0_hw107 : k0_chk107 i k0_t3 v85 v350), ∀ (k0_h1 : k0_cond1 i k0_t3 = 1#1), ∀ a x, ((![v85, v350] : Fin 2 → IVec S16 32) a x).toNat < S32x129.size a := fun i k0_t3 v85 v350 k0_hw107 k0_h1 => k0_hw107 k0_h1

def k0_chk108 (i : grid0.Coords) (k0_t3 : Fin k0_t3_loop.trips) (v90 : IVec S16 32) (v347 : IVec S16 32) (v348 : IVec S16 32) : Prop :=
  (∀ (k0_h1 : k0_cond1 i k0_t3 = 1#1), ∀ a x, ((![v347, v348, v90] : Fin 3 → IVec S16 32) a x).toNat < S8x8x1024.size a)
theorem k0_idx106_inb : ∀ (i : grid0.Coords) (k0_t3 : Fin k0_t3_loop.trips) (v90 : IVec S16 32) (v347 : IVec S16 32) (v348 : IVec S16 32) (k0_hw108 : k0_chk108 i k0_t3 v90 v347 v348), ∀ (k0_h1 : k0_cond1 i k0_t3 = 1#1), ∀ a x, ((![v347, v348, v90] : Fin 3 → IVec S16 32) a x).toNat < S8x8x1024.size a := fun i k0_t3 v90 v347 v348 k0_hw108 k0_h1 => k0_hw108 k0_h1

def k0_chk109 (i : grid0.Coords) (k0_t3 : Fin k0_t3_loop.trips) (v85 : IVec S16 32) (v355 : IVec S16 32) : Prop :=
  (∀ (k0_h1 : k0_cond1 i k0_t3 = 1#1), ∀ a x, ((![v85, v355] : Fin 2 → IVec S16 32) a x).toNat < S32x129.size a)
theorem k0_idx107_inb : ∀ (i : grid0.Coords) (k0_t3 : Fin k0_t3_loop.trips) (v85 : IVec S16 32) (v355 : IVec S16 32) (k0_hw109 : k0_chk109 i k0_t3 v85 v355), ∀ (k0_h1 : k0_cond1 i k0_t3 = 1#1), ∀ a x, ((![v85, v355] : Fin 2 → IVec S16 32) a x).toNat < S32x129.size a := fun i k0_t3 v85 v355 k0_hw109 k0_h1 => k0_hw109 k0_h1

def k0_chk110 (i : grid0.Coords) (k0_t3 : Fin k0_t3_loop.trips) (v90 : IVec S16 32) (v352 : IVec S16 32) (v353 : IVec S16 32) : Prop :=
  (∀ (k0_h1 : k0_cond1 i k0_t3 = 1#1), ∀ a x, ((![v352, v353, v90] : Fin 3 → IVec S16 32) a x).toNat < S8x8x1024.size a)
theorem k0_idx108_inb : ∀ (i : grid0.Coords) (k0_t3 : Fin k0_t3_loop.trips) (v90 : IVec S16 32) (v352 : IVec S16 32) (v353 : IVec S16 32) (k0_hw110 : k0_chk110 i k0_t3 v90 v352 v353), ∀ (k0_h1 : k0_cond1 i k0_t3 = 1#1), ∀ a x, ((![v352, v353, v90] : Fin 3 → IVec S16 32) a x).toNat < S8x8x1024.size a := fun i k0_t3 v90 v352 v353 k0_hw110 k0_h1 => k0_hw110 k0_h1

def k0_chk111 (i : grid0.Coords) (k0_t3 : Fin k0_t3_loop.trips) (v85 : IVec S16 32) (v360 : IVec S16 32) : Prop :=
  (∀ (k0_h1 : k0_cond1 i k0_t3 = 1#1), ∀ a x, ((![v85, v360] : Fin 2 → IVec S16 32) a x).toNat < S32x129.size a)
theorem k0_idx109_inb : ∀ (i : grid0.Coords) (k0_t3 : Fin k0_t3_loop.trips) (v85 : IVec S16 32) (v360 : IVec S16 32) (k0_hw111 : k0_chk111 i k0_t3 v85 v360), ∀ (k0_h1 : k0_cond1 i k0_t3 = 1#1), ∀ a x, ((![v85, v360] : Fin 2 → IVec S16 32) a x).toNat < S32x129.size a := fun i k0_t3 v85 v360 k0_hw111 k0_h1 => k0_hw111 k0_h1

def k0_chk112 (i : grid0.Coords) (k0_t3 : Fin k0_t3_loop.trips) (v90 : IVec S16 32) (v357 : IVec S16 32) (v358 : IVec S16 32) : Prop :=
  (∀ (k0_h1 : k0_cond1 i k0_t3 = 1#1), ∀ a x, ((![v357, v358, v90] : Fin 3 → IVec S16 32) a x).toNat < S8x8x1024.size a)
theorem k0_idx110_inb : ∀ (i : grid0.Coords) (k0_t3 : Fin k0_t3_loop.trips) (v90 : IVec S16 32) (v357 : IVec S16 32) (v358 : IVec S16 32) (k0_hw112 : k0_chk112 i k0_t3 v90 v357 v358), ∀ (k0_h1 : k0_cond1 i k0_t3 = 1#1), ∀ a x, ((![v357, v358, v90] : Fin 3 → IVec S16 32) a x).toNat < S8x8x1024.size a := fun i k0_t3 v90 v357 v358 k0_hw112 k0_h1 => k0_hw112 k0_h1

def k0_chk113 (i : grid0.Coords) (k0_t3 : Fin k0_t3_loop.trips) (v85 : IVec S16 32) (v365 : IVec S16 32) : Prop :=
  (∀ (k0_h1 : k0_cond1 i k0_t3 = 1#1), ∀ a x, ((![v85, v365] : Fin 2 → IVec S16 32) a x).toNat < S32x129.size a)
theorem k0_idx111_inb : ∀ (i : grid0.Coords) (k0_t3 : Fin k0_t3_loop.trips) (v85 : IVec S16 32) (v365 : IVec S16 32) (k0_hw113 : k0_chk113 i k0_t3 v85 v365), ∀ (k0_h1 : k0_cond1 i k0_t3 = 1#1), ∀ a x, ((![v85, v365] : Fin 2 → IVec S16 32) a x).toNat < S32x129.size a := fun i k0_t3 v85 v365 k0_hw113 k0_h1 => k0_hw113 k0_h1

def k0_chk114 (i : grid0.Coords) (k0_t3 : Fin k0_t3_loop.trips) (v90 : IVec S16 32) (v362 : IVec S16 32) (v363 : IVec S16 32) : Prop :=
  (∀ (k0_h1 : k0_cond1 i k0_t3 = 1#1), ∀ a x, ((![v362, v363, v90] : Fin 3 → IVec S16 32) a x).toNat < S8x8x1024.size a)
theorem k0_idx112_inb : ∀ (i : grid0.Coords) (k0_t3 : Fin k0_t3_loop.trips) (v90 : IVec S16 32) (v362 : IVec S16 32) (v363 : IVec S16 32) (k0_hw114 : k0_chk114 i k0_t3 v90 v362 v363), ∀ (k0_h1 : k0_cond1 i k0_t3 = 1#1), ∀ a x, ((![v362, v363, v90] : Fin 3 → IVec S16 32) a x).toNat < S8x8x1024.size a := fun i k0_t3 v90 v362 v363 k0_hw114 k0_h1 => k0_hw114 k0_h1

def k0_chk115 (i : grid0.Coords) (k0_t3 : Fin k0_t3_loop.trips) (v85 : IVec S16 32) (v370 : IVec S16 32) : Prop :=
  (∀ (k0_h1 : k0_cond1 i k0_t3 = 1#1), ∀ a x, ((![v85, v370] : Fin 2 → IVec S16 32) a x).toNat < S32x129.size a)
theorem k0_idx113_inb : ∀ (i : grid0.Coords) (k0_t3 : Fin k0_t3_loop.trips) (v85 : IVec S16 32) (v370 : IVec S16 32) (k0_hw115 : k0_chk115 i k0_t3 v85 v370), ∀ (k0_h1 : k0_cond1 i k0_t3 = 1#1), ∀ a x, ((![v85, v370] : Fin 2 → IVec S16 32) a x).toNat < S32x129.size a := fun i k0_t3 v85 v370 k0_hw115 k0_h1 => k0_hw115 k0_h1

def k0_chk116 (i : grid0.Coords) (k0_t3 : Fin k0_t3_loop.trips) (v90 : IVec S16 32) (v367 : IVec S16 32) (v368 : IVec S16 32) : Prop :=
  (∀ (k0_h1 : k0_cond1 i k0_t3 = 1#1), ∀ a x, ((![v367, v368, v90] : Fin 3 → IVec S16 32) a x).toNat < S8x8x1024.size a)
theorem k0_idx114_inb : ∀ (i : grid0.Coords) (k0_t3 : Fin k0_t3_loop.trips) (v90 : IVec S16 32) (v367 : IVec S16 32) (v368 : IVec S16 32) (k0_hw116 : k0_chk116 i k0_t3 v90 v367 v368), ∀ (k0_h1 : k0_cond1 i k0_t3 = 1#1), ∀ a x, ((![v367, v368, v90] : Fin 3 → IVec S16 32) a x).toNat < S8x8x1024.size a := fun i k0_t3 v90 v367 v368 k0_hw116 k0_h1 => k0_hw116 k0_h1

def k0_chk117 (i : grid0.Coords) (k0_t3 : Fin k0_t3_loop.trips) (v85 : IVec S16 32) (v375 : IVec S16 32) : Prop :=
  (∀ (k0_h1 : k0_cond1 i k0_t3 = 1#1), ∀ a x, ((![v85, v375] : Fin 2 → IVec S16 32) a x).toNat < S32x129.size a)
theorem k0_idx115_inb : ∀ (i : grid0.Coords) (k0_t3 : Fin k0_t3_loop.trips) (v85 : IVec S16 32) (v375 : IVec S16 32) (k0_hw117 : k0_chk117 i k0_t3 v85 v375), ∀ (k0_h1 : k0_cond1 i k0_t3 = 1#1), ∀ a x, ((![v85, v375] : Fin 2 → IVec S16 32) a x).toNat < S32x129.size a := fun i k0_t3 v85 v375 k0_hw117 k0_h1 => k0_hw117 k0_h1

def k0_chk118 (i : grid0.Coords) (k0_t3 : Fin k0_t3_loop.trips) (v90 : IVec S16 32) (v372 : IVec S16 32) (v373 : IVec S16 32) : Prop :=
  (∀ (k0_h1 : k0_cond1 i k0_t3 = 1#1), ∀ a x, ((![v372, v373, v90] : Fin 3 → IVec S16 32) a x).toNat < S8x8x1024.size a)
theorem k0_idx116_inb : ∀ (i : grid0.Coords) (k0_t3 : Fin k0_t3_loop.trips) (v90 : IVec S16 32) (v372 : IVec S16 32) (v373 : IVec S16 32) (k0_hw118 : k0_chk118 i k0_t3 v90 v372 v373), ∀ (k0_h1 : k0_cond1 i k0_t3 = 1#1), ∀ a x, ((![v372, v373, v90] : Fin 3 → IVec S16 32) a x).toNat < S8x8x1024.size a := fun i k0_t3 v90 v372 v373 k0_hw118 k0_h1 => k0_hw118 k0_h1

def k0_chk119 (i : grid0.Coords) (k0_t3 : Fin k0_t3_loop.trips) (v85 : IVec S16 32) (v380 : IVec S16 32) : Prop :=
  (∀ (k0_h1 : k0_cond1 i k0_t3 = 1#1), ∀ a x, ((![v85, v380] : Fin 2 → IVec S16 32) a x).toNat < S32x129.size a)
theorem k0_idx117_inb : ∀ (i : grid0.Coords) (k0_t3 : Fin k0_t3_loop.trips) (v85 : IVec S16 32) (v380 : IVec S16 32) (k0_hw119 : k0_chk119 i k0_t3 v85 v380), ∀ (k0_h1 : k0_cond1 i k0_t3 = 1#1), ∀ a x, ((![v85, v380] : Fin 2 → IVec S16 32) a x).toNat < S32x129.size a := fun i k0_t3 v85 v380 k0_hw119 k0_h1 => k0_hw119 k0_h1

def k0_chk120 (i : grid0.Coords) (k0_t3 : Fin k0_t3_loop.trips) (v90 : IVec S16 32) (v377 : IVec S16 32) (v378 : IVec S16 32) : Prop :=
  (∀ (k0_h1 : k0_cond1 i k0_t3 = 1#1), ∀ a x, ((![v377, v378, v90] : Fin 3 → IVec S16 32) a x).toNat < S8x8x1024.size a)
theorem k0_idx118_inb : ∀ (i : grid0.Coords) (k0_t3 : Fin k0_t3_loop.trips) (v90 : IVec S16 32) (v377 : IVec S16 32) (v378 : IVec S16 32) (k0_hw120 : k0_chk120 i k0_t3 v90 v377 v378), ∀ (k0_h1 : k0_cond1 i k0_t3 = 1#1), ∀ a x, ((![v377, v378, v90] : Fin 3 → IVec S16 32) a x).toNat < S8x8x1024.size a := fun i k0_t3 v90 v377 v378 k0_hw120 k0_h1 => k0_hw120 k0_h1

def k0_chk121 (i : grid0.Coords) (k0_t3 : Fin k0_t3_loop.trips) (v85 : IVec S16 32) (v385 : IVec S16 32) : Prop :=
  (∀ (k0_h1 : k0_cond1 i k0_t3 = 1#1), ∀ a x, ((![v85, v385] : Fin 2 → IVec S16 32) a x).toNat < S32x129.size a)
theorem k0_idx119_inb : ∀ (i : grid0.Coords) (k0_t3 : Fin k0_t3_loop.trips) (v85 : IVec S16 32) (v385 : IVec S16 32) (k0_hw121 : k0_chk121 i k0_t3 v85 v385), ∀ (k0_h1 : k0_cond1 i k0_t3 = 1#1), ∀ a x, ((![v85, v385] : Fin 2 → IVec S16 32) a x).toNat < S32x129.size a := fun i k0_t3 v85 v385 k0_hw121 k0_h1 => k0_hw121 k0_h1

def k0_chk122 (i : grid0.Coords) (k0_t3 : Fin k0_t3_loop.trips) (v90 : IVec S16 32) (v382 : IVec S16 32) (v383 : IVec S16 32) : Prop :=
  (∀ (k0_h1 : k0_cond1 i k0_t3 = 1#1), ∀ a x, ((![v382, v383, v90] : Fin 3 → IVec S16 32) a x).toNat < S8x8x1024.size a)
theorem k0_idx120_inb : ∀ (i : grid0.Coords) (k0_t3 : Fin k0_t3_loop.trips) (v90 : IVec S16 32) (v382 : IVec S16 32) (v383 : IVec S16 32) (k0_hw122 : k0_chk122 i k0_t3 v90 v382 v383), ∀ (k0_h1 : k0_cond1 i k0_t3 = 1#1), ∀ a x, ((![v382, v383, v90] : Fin 3 → IVec S16 32) a x).toNat < S8x8x1024.size a := fun i k0_t3 v90 v382 v383 k0_hw122 k0_h1 => k0_hw122 k0_h1

def k0_chk123 (i : grid0.Coords) (k0_t3 : Fin k0_t3_loop.trips) (v85 : IVec S16 32) (v390 : IVec S16 32) : Prop :=
  (∀ (k0_h1 : k0_cond1 i k0_t3 = 1#1), ∀ a x, ((![v85, v390] : Fin 2 → IVec S16 32) a x).toNat < S32x129.size a)
theorem k0_idx121_inb : ∀ (i : grid0.Coords) (k0_t3 : Fin k0_t3_loop.trips) (v85 : IVec S16 32) (v390 : IVec S16 32) (k0_hw123 : k0_chk123 i k0_t3 v85 v390), ∀ (k0_h1 : k0_cond1 i k0_t3 = 1#1), ∀ a x, ((![v85, v390] : Fin 2 → IVec S16 32) a x).toNat < S32x129.size a := fun i k0_t3 v85 v390 k0_hw123 k0_h1 => k0_hw123 k0_h1

def k0_chk124 (i : grid0.Coords) (k0_t3 : Fin k0_t3_loop.trips) (v90 : IVec S16 32) (v387 : IVec S16 32) (v388 : IVec S16 32) : Prop :=
  (∀ (k0_h1 : k0_cond1 i k0_t3 = 1#1), ∀ a x, ((![v387, v388, v90] : Fin 3 → IVec S16 32) a x).toNat < S8x8x1024.size a)
theorem k0_idx122_inb : ∀ (i : grid0.Coords) (k0_t3 : Fin k0_t3_loop.trips) (v90 : IVec S16 32) (v387 : IVec S16 32) (v388 : IVec S16 32) (k0_hw124 : k0_chk124 i k0_t3 v90 v387 v388), ∀ (k0_h1 : k0_cond1 i k0_t3 = 1#1), ∀ a x, ((![v387, v388, v90] : Fin 3 → IVec S16 32) a x).toNat < S8x8x1024.size a := fun i k0_t3 v90 v387 v388 k0_hw124 k0_h1 => k0_hw124 k0_h1

def k0_chk125 (i : grid0.Coords) (k0_t3 : Fin k0_t3_loop.trips) (v85 : IVec S16 32) (v395 : IVec S16 32) : Prop :=
  (∀ (k0_h1 : k0_cond1 i k0_t3 = 1#1), ∀ a x, ((![v85, v395] : Fin 2 → IVec S16 32) a x).toNat < S32x129.size a)
theorem k0_idx123_inb : ∀ (i : grid0.Coords) (k0_t3 : Fin k0_t3_loop.trips) (v85 : IVec S16 32) (v395 : IVec S16 32) (k0_hw125 : k0_chk125 i k0_t3 v85 v395), ∀ (k0_h1 : k0_cond1 i k0_t3 = 1#1), ∀ a x, ((![v85, v395] : Fin 2 → IVec S16 32) a x).toNat < S32x129.size a := fun i k0_t3 v85 v395 k0_hw125 k0_h1 => k0_hw125 k0_h1

def k0_chk126 (i : grid0.Coords) (k0_t3 : Fin k0_t3_loop.trips) (v90 : IVec S16 32) (v392 : IVec S16 32) (v393 : IVec S16 32) : Prop :=
  (∀ (k0_h1 : k0_cond1 i k0_t3 = 1#1), ∀ a x, ((![v392, v393, v90] : Fin 3 → IVec S16 32) a x).toNat < S8x8x1024.size a)
theorem k0_idx124_inb : ∀ (i : grid0.Coords) (k0_t3 : Fin k0_t3_loop.trips) (v90 : IVec S16 32) (v392 : IVec S16 32) (v393 : IVec S16 32) (k0_hw126 : k0_chk126 i k0_t3 v90 v392 v393), ∀ (k0_h1 : k0_cond1 i k0_t3 = 1#1), ∀ a x, ((![v392, v393, v90] : Fin 3 → IVec S16 32) a x).toNat < S8x8x1024.size a := fun i k0_t3 v90 v392 v393 k0_hw126 k0_h1 => k0_hw126 k0_h1

def k0_chk127 (i : grid0.Coords) (k0_t3 : Fin k0_t3_loop.trips) (v85 : IVec S16 32) (v400 : IVec S16 32) : Prop :=
  (∀ (k0_h1 : k0_cond1 i k0_t3 = 1#1), ∀ a x, ((![v85, v400] : Fin 2 → IVec S16 32) a x).toNat < S32x129.size a)
theorem k0_idx125_inb : ∀ (i : grid0.Coords) (k0_t3 : Fin k0_t3_loop.trips) (v85 : IVec S16 32) (v400 : IVec S16 32) (k0_hw127 : k0_chk127 i k0_t3 v85 v400), ∀ (k0_h1 : k0_cond1 i k0_t3 = 1#1), ∀ a x, ((![v85, v400] : Fin 2 → IVec S16 32) a x).toNat < S32x129.size a := fun i k0_t3 v85 v400 k0_hw127 k0_h1 => k0_hw127 k0_h1

def k0_chk128 (i : grid0.Coords) (k0_t3 : Fin k0_t3_loop.trips) (v90 : IVec S16 32) (v397 : IVec S16 32) (v398 : IVec S16 32) : Prop :=
  (∀ (k0_h1 : k0_cond1 i k0_t3 = 1#1), ∀ a x, ((![v397, v398, v90] : Fin 3 → IVec S16 32) a x).toNat < S8x8x1024.size a)
theorem k0_idx126_inb : ∀ (i : grid0.Coords) (k0_t3 : Fin k0_t3_loop.trips) (v90 : IVec S16 32) (v397 : IVec S16 32) (v398 : IVec S16 32) (k0_hw128 : k0_chk128 i k0_t3 v90 v397 v398), ∀ (k0_h1 : k0_cond1 i k0_t3 = 1#1), ∀ a x, ((![v397, v398, v90] : Fin 3 → IVec S16 32) a x).toNat < S8x8x1024.size a := fun i k0_t3 v90 v397 v398 k0_hw128 k0_h1 => k0_hw128 k0_h1

def k0_chk129 (i : grid0.Coords) (k0_t3 : Fin k0_t3_loop.trips) (v85 : IVec S16 32) (v405 : IVec S16 32) : Prop :=
  (∀ (k0_h1 : k0_cond1 i k0_t3 = 1#1), ∀ a x, ((![v85, v405] : Fin 2 → IVec S16 32) a x).toNat < S32x129.size a)
theorem k0_idx127_inb : ∀ (i : grid0.Coords) (k0_t3 : Fin k0_t3_loop.trips) (v85 : IVec S16 32) (v405 : IVec S16 32) (k0_hw129 : k0_chk129 i k0_t3 v85 v405), ∀ (k0_h1 : k0_cond1 i k0_t3 = 1#1), ∀ a x, ((![v85, v405] : Fin 2 → IVec S16 32) a x).toNat < S32x129.size a := fun i k0_t3 v85 v405 k0_hw129 k0_h1 => k0_hw129 k0_h1

def k0_chk130 (i : grid0.Coords) (k0_t3 : Fin k0_t3_loop.trips) (v90 : IVec S16 32) (v402 : IVec S16 32) (v403 : IVec S16 32) : Prop :=
  (∀ (k0_h1 : k0_cond1 i k0_t3 = 1#1), ∀ a x, ((![v402, v403, v90] : Fin 3 → IVec S16 32) a x).toNat < S8x8x1024.size a)
theorem k0_idx128_inb : ∀ (i : grid0.Coords) (k0_t3 : Fin k0_t3_loop.trips) (v90 : IVec S16 32) (v402 : IVec S16 32) (v403 : IVec S16 32) (k0_hw130 : k0_chk130 i k0_t3 v90 v402 v403), ∀ (k0_h1 : k0_cond1 i k0_t3 = 1#1), ∀ a x, ((![v402, v403, v90] : Fin 3 → IVec S16 32) a x).toNat < S8x8x1024.size a := fun i k0_t3 v90 v402 v403 k0_hw130 k0_h1 => k0_hw130 k0_h1

def k0_chk131 (i : grid0.Coords) (k0_t3 : Fin k0_t3_loop.trips) (v85 : IVec S16 32) (v410 : IVec S16 32) : Prop :=
  (∀ (k0_h1 : k0_cond1 i k0_t3 = 1#1), ∀ a x, ((![v85, v410] : Fin 2 → IVec S16 32) a x).toNat < S32x129.size a)
theorem k0_idx129_inb : ∀ (i : grid0.Coords) (k0_t3 : Fin k0_t3_loop.trips) (v85 : IVec S16 32) (v410 : IVec S16 32) (k0_hw131 : k0_chk131 i k0_t3 v85 v410), ∀ (k0_h1 : k0_cond1 i k0_t3 = 1#1), ∀ a x, ((![v85, v410] : Fin 2 → IVec S16 32) a x).toNat < S32x129.size a := fun i k0_t3 v85 v410 k0_hw131 k0_h1 => k0_hw131 k0_h1

def k0_chk132 (i : grid0.Coords) (k0_t3 : Fin k0_t3_loop.trips) (v90 : IVec S16 32) (v407 : IVec S16 32) (v408 : IVec S16 32) : Prop :=
  (∀ (k0_h1 : k0_cond1 i k0_t3 = 1#1), ∀ a x, ((![v407, v408, v90] : Fin 3 → IVec S16 32) a x).toNat < S8x8x1024.size a)
theorem k0_idx130_inb : ∀ (i : grid0.Coords) (k0_t3 : Fin k0_t3_loop.trips) (v90 : IVec S16 32) (v407 : IVec S16 32) (v408 : IVec S16 32) (k0_hw132 : k0_chk132 i k0_t3 v90 v407 v408), ∀ (k0_h1 : k0_cond1 i k0_t3 = 1#1), ∀ a x, ((![v407, v408, v90] : Fin 3 → IVec S16 32) a x).toNat < S8x8x1024.size a := fun i k0_t3 v90 v407 v408 k0_hw132 k0_h1 => k0_hw132 k0_h1

def k0_chk133 (i : grid0.Coords) (k0_t3 : Fin k0_t3_loop.trips) (v85 : IVec S16 32) (v415 : IVec S16 32) : Prop :=
  (∀ (k0_h1 : k0_cond1 i k0_t3 = 1#1), ∀ a x, ((![v85, v415] : Fin 2 → IVec S16 32) a x).toNat < S32x129.size a)
theorem k0_idx131_inb : ∀ (i : grid0.Coords) (k0_t3 : Fin k0_t3_loop.trips) (v85 : IVec S16 32) (v415 : IVec S16 32) (k0_hw133 : k0_chk133 i k0_t3 v85 v415), ∀ (k0_h1 : k0_cond1 i k0_t3 = 1#1), ∀ a x, ((![v85, v415] : Fin 2 → IVec S16 32) a x).toNat < S32x129.size a := fun i k0_t3 v85 v415 k0_hw133 k0_h1 => k0_hw133 k0_h1

def k0_chk134 (i : grid0.Coords) (k0_t3 : Fin k0_t3_loop.trips) (v90 : IVec S16 32) (v412 : IVec S16 32) (v413 : IVec S16 32) : Prop :=
  (∀ (k0_h1 : k0_cond1 i k0_t3 = 1#1), ∀ a x, ((![v412, v413, v90] : Fin 3 → IVec S16 32) a x).toNat < S8x8x1024.size a)
theorem k0_idx132_inb : ∀ (i : grid0.Coords) (k0_t3 : Fin k0_t3_loop.trips) (v90 : IVec S16 32) (v412 : IVec S16 32) (v413 : IVec S16 32) (k0_hw134 : k0_chk134 i k0_t3 v90 v412 v413), ∀ (k0_h1 : k0_cond1 i k0_t3 = 1#1), ∀ a x, ((![v412, v413, v90] : Fin 3 → IVec S16 32) a x).toNat < S8x8x1024.size a := fun i k0_t3 v90 v412 v413 k0_hw134 k0_h1 => k0_hw134 k0_h1

def k0_chk135 (i : grid0.Coords) (k0_t3 : Fin k0_t3_loop.trips) (v85 : IVec S16 32) (v420 : IVec S16 32) : Prop :=
  (∀ (k0_h1 : k0_cond1 i k0_t3 = 1#1), ∀ a x, ((![v85, v420] : Fin 2 → IVec S16 32) a x).toNat < S32x129.size a)
theorem k0_idx133_inb : ∀ (i : grid0.Coords) (k0_t3 : Fin k0_t3_loop.trips) (v85 : IVec S16 32) (v420 : IVec S16 32) (k0_hw135 : k0_chk135 i k0_t3 v85 v420), ∀ (k0_h1 : k0_cond1 i k0_t3 = 1#1), ∀ a x, ((![v85, v420] : Fin 2 → IVec S16 32) a x).toNat < S32x129.size a := fun i k0_t3 v85 v420 k0_hw135 k0_h1 => k0_hw135 k0_h1

def k0_chk136 (i : grid0.Coords) (k0_t3 : Fin k0_t3_loop.trips) (v90 : IVec S16 32) (v417 : IVec S16 32) (v418 : IVec S16 32) : Prop :=
  (∀ (k0_h1 : k0_cond1 i k0_t3 = 1#1), ∀ a x, ((![v417, v418, v90] : Fin 3 → IVec S16 32) a x).toNat < S8x8x1024.size a)
theorem k0_idx134_inb : ∀ (i : grid0.Coords) (k0_t3 : Fin k0_t3_loop.trips) (v90 : IVec S16 32) (v417 : IVec S16 32) (v418 : IVec S16 32) (k0_hw136 : k0_chk136 i k0_t3 v90 v417 v418), ∀ (k0_h1 : k0_cond1 i k0_t3 = 1#1), ∀ a x, ((![v417, v418, v90] : Fin 3 → IVec S16 32) a x).toNat < S8x8x1024.size a := fun i k0_t3 v90 v417 v418 k0_hw136 k0_h1 => k0_hw136 k0_h1
def k0_off72 (v32 : BitVec 32) (k0_t6 : Fin (k0_t6_loop v32).trips) : Fin 1 → Nat :=
  let c0_i32_30 : BitVec 32 := 0#32
  let c1_i32_33 : BitVec 32 := 1#32
  let arg14 : BitVec 32 := Scf.iv c0_i32_30 c1_i32_33 k0_t6
  let c32_i32_43 : BitVec 32 := 32#32
  let v71 : BitVec 32 := Scalar.muli arg14 c32_i32_43
  let c16_i32_192 : BitVec 32 := 16#32
  let v424 : BitVec 32 := Scalar.addi v71 c16_i32_192
  let v425 : Index := Scalar.indexCast v424
  ![v425.toNat]

def k0_chk137 (i : grid0.Coords) (k0_t3 : Fin k0_t3_loop.trips) (v423 : IVec S16 32) (v443 : IVec S16 32) : Prop :=
  (∀ (k0_h1 : k0_cond1 i k0_t3 = 1#1), ∀ a x, ((![v423, v443] : Fin 2 → IVec S16 32) a x).toNat < S32x129.size a)
theorem k0_idx135_inb : ∀ (i : grid0.Coords) (k0_t3 : Fin k0_t3_loop.trips) (v423 : IVec S16 32) (v443 : IVec S16 32) (k0_hw137 : k0_chk137 i k0_t3 v423 v443), ∀ (k0_h1 : k0_cond1 i k0_t3 = 1#1), ∀ a x, ((![v423, v443] : Fin 2 → IVec S16 32) a x).toNat < S32x129.size a := fun i k0_t3 v423 v443 k0_hw137 k0_h1 => k0_hw137 k0_h1

def k0_chk138 (i : grid0.Coords) (k0_t3 : Fin k0_t3_loop.trips) (v428 : IVec S16 32) (v440 : IVec S16 32) (v441 : IVec S16 32) : Prop :=
  (∀ (k0_h1 : k0_cond1 i k0_t3 = 1#1), ∀ a x, ((![v440, v441, v428] : Fin 3 → IVec S16 32) a x).toNat < S8x8x1024.size a)
theorem k0_idx136_inb : ∀ (i : grid0.Coords) (k0_t3 : Fin k0_t3_loop.trips) (v428 : IVec S16 32) (v440 : IVec S16 32) (v441 : IVec S16 32) (k0_hw138 : k0_chk138 i k0_t3 v428 v440 v441), ∀ (k0_h1 : k0_cond1 i k0_t3 = 1#1), ∀ a x, ((![v440, v441, v428] : Fin 3 → IVec S16 32) a x).toNat < S8x8x1024.size a := fun i k0_t3 v428 v440 v441 k0_hw138 k0_h1 => k0_hw138 k0_h1

def k0_chk139 (i : grid0.Coords) (k0_t3 : Fin k0_t3_loop.trips) (v423 : IVec S16 32) (v448 : IVec S16 32) : Prop :=
  (∀ (k0_h1 : k0_cond1 i k0_t3 = 1#1), ∀ a x, ((![v423, v448] : Fin 2 → IVec S16 32) a x).toNat < S32x129.size a)
theorem k0_idx137_inb : ∀ (i : grid0.Coords) (k0_t3 : Fin k0_t3_loop.trips) (v423 : IVec S16 32) (v448 : IVec S16 32) (k0_hw139 : k0_chk139 i k0_t3 v423 v448), ∀ (k0_h1 : k0_cond1 i k0_t3 = 1#1), ∀ a x, ((![v423, v448] : Fin 2 → IVec S16 32) a x).toNat < S32x129.size a := fun i k0_t3 v423 v448 k0_hw139 k0_h1 => k0_hw139 k0_h1

def k0_chk140 (i : grid0.Coords) (k0_t3 : Fin k0_t3_loop.trips) (v428 : IVec S16 32) (v445 : IVec S16 32) (v446 : IVec S16 32) : Prop :=
  (∀ (k0_h1 : k0_cond1 i k0_t3 = 1#1), ∀ a x, ((![v445, v446, v428] : Fin 3 → IVec S16 32) a x).toNat < S8x8x1024.size a)
theorem k0_idx138_inb : ∀ (i : grid0.Coords) (k0_t3 : Fin k0_t3_loop.trips) (v428 : IVec S16 32) (v445 : IVec S16 32) (v446 : IVec S16 32) (k0_hw140 : k0_chk140 i k0_t3 v428 v445 v446), ∀ (k0_h1 : k0_cond1 i k0_t3 = 1#1), ∀ a x, ((![v445, v446, v428] : Fin 3 → IVec S16 32) a x).toNat < S8x8x1024.size a := fun i k0_t3 v428 v445 v446 k0_hw140 k0_h1 => k0_hw140 k0_h1

def k0_chk141 (i : grid0.Coords) (k0_t3 : Fin k0_t3_loop.trips) (v423 : IVec S16 32) (v453 : IVec S16 32) : Prop :=
  (∀ (k0_h1 : k0_cond1 i k0_t3 = 1#1), ∀ a x, ((![v423, v453] : Fin 2 → IVec S16 32) a x).toNat < S32x129.size a)
theorem k0_idx139_inb : ∀ (i : grid0.Coords) (k0_t3 : Fin k0_t3_loop.trips) (v423 : IVec S16 32) (v453 : IVec S16 32) (k0_hw141 : k0_chk141 i k0_t3 v423 v453), ∀ (k0_h1 : k0_cond1 i k0_t3 = 1#1), ∀ a x, ((![v423, v453] : Fin 2 → IVec S16 32) a x).toNat < S32x129.size a := fun i k0_t3 v423 v453 k0_hw141 k0_h1 => k0_hw141 k0_h1

def k0_chk142 (i : grid0.Coords) (k0_t3 : Fin k0_t3_loop.trips) (v428 : IVec S16 32) (v450 : IVec S16 32) (v451 : IVec S16 32) : Prop :=
  (∀ (k0_h1 : k0_cond1 i k0_t3 = 1#1), ∀ a x, ((![v450, v451, v428] : Fin 3 → IVec S16 32) a x).toNat < S8x8x1024.size a)
theorem k0_idx140_inb : ∀ (i : grid0.Coords) (k0_t3 : Fin k0_t3_loop.trips) (v428 : IVec S16 32) (v450 : IVec S16 32) (v451 : IVec S16 32) (k0_hw142 : k0_chk142 i k0_t3 v428 v450 v451), ∀ (k0_h1 : k0_cond1 i k0_t3 = 1#1), ∀ a x, ((![v450, v451, v428] : Fin 3 → IVec S16 32) a x).toNat < S8x8x1024.size a := fun i k0_t3 v428 v450 v451 k0_hw142 k0_h1 => k0_hw142 k0_h1

def k0_chk143 (i : grid0.Coords) (k0_t3 : Fin k0_t3_loop.trips) (v423 : IVec S16 32) (v458 : IVec S16 32) : Prop :=
  (∀ (k0_h1 : k0_cond1 i k0_t3 = 1#1), ∀ a x, ((![v423, v458] : Fin 2 → IVec S16 32) a x).toNat < S32x129.size a)
theorem k0_idx141_inb : ∀ (i : grid0.Coords) (k0_t3 : Fin k0_t3_loop.trips) (v423 : IVec S16 32) (v458 : IVec S16 32) (k0_hw143 : k0_chk143 i k0_t3 v423 v458), ∀ (k0_h1 : k0_cond1 i k0_t3 = 1#1), ∀ a x, ((![v423, v458] : Fin 2 → IVec S16 32) a x).toNat < S32x129.size a := fun i k0_t3 v423 v458 k0_hw143 k0_h1 => k0_hw143 k0_h1

def k0_chk144 (i : grid0.Coords) (k0_t3 : Fin k0_t3_loop.trips) (v428 : IVec S16 32) (v455 : IVec S16 32) (v456 : IVec S16 32) : Prop :=
  (∀ (k0_h1 : k0_cond1 i k0_t3 = 1#1), ∀ a x, ((![v455, v456, v428] : Fin 3 → IVec S16 32) a x).toNat < S8x8x1024.size a)
theorem k0_idx142_inb : ∀ (i : grid0.Coords) (k0_t3 : Fin k0_t3_loop.trips) (v428 : IVec S16 32) (v455 : IVec S16 32) (v456 : IVec S16 32) (k0_hw144 : k0_chk144 i k0_t3 v428 v455 v456), ∀ (k0_h1 : k0_cond1 i k0_t3 = 1#1), ∀ a x, ((![v455, v456, v428] : Fin 3 → IVec S16 32) a x).toNat < S8x8x1024.size a := fun i k0_t3 v428 v455 v456 k0_hw144 k0_h1 => k0_hw144 k0_h1

def k0_chk145 (i : grid0.Coords) (k0_t3 : Fin k0_t3_loop.trips) (v423 : IVec S16 32) (v463 : IVec S16 32) : Prop :=
  (∀ (k0_h1 : k0_cond1 i k0_t3 = 1#1), ∀ a x, ((![v423, v463] : Fin 2 → IVec S16 32) a x).toNat < S32x129.size a)
theorem k0_idx143_inb : ∀ (i : grid0.Coords) (k0_t3 : Fin k0_t3_loop.trips) (v423 : IVec S16 32) (v463 : IVec S16 32) (k0_hw145 : k0_chk145 i k0_t3 v423 v463), ∀ (k0_h1 : k0_cond1 i k0_t3 = 1#1), ∀ a x, ((![v423, v463] : Fin 2 → IVec S16 32) a x).toNat < S32x129.size a := fun i k0_t3 v423 v463 k0_hw145 k0_h1 => k0_hw145 k0_h1

def k0_chk146 (i : grid0.Coords) (k0_t3 : Fin k0_t3_loop.trips) (v428 : IVec S16 32) (v460 : IVec S16 32) (v461 : IVec S16 32) : Prop :=
  (∀ (k0_h1 : k0_cond1 i k0_t3 = 1#1), ∀ a x, ((![v460, v461, v428] : Fin 3 → IVec S16 32) a x).toNat < S8x8x1024.size a)
theorem k0_idx144_inb : ∀ (i : grid0.Coords) (k0_t3 : Fin k0_t3_loop.trips) (v428 : IVec S16 32) (v460 : IVec S16 32) (v461 : IVec S16 32) (k0_hw146 : k0_chk146 i k0_t3 v428 v460 v461), ∀ (k0_h1 : k0_cond1 i k0_t3 = 1#1), ∀ a x, ((![v460, v461, v428] : Fin 3 → IVec S16 32) a x).toNat < S8x8x1024.size a := fun i k0_t3 v428 v460 v461 k0_hw146 k0_h1 => k0_hw146 k0_h1

def k0_chk147 (i : grid0.Coords) (k0_t3 : Fin k0_t3_loop.trips) (v423 : IVec S16 32) (v468 : IVec S16 32) : Prop :=
  (∀ (k0_h1 : k0_cond1 i k0_t3 = 1#1), ∀ a x, ((![v423, v468] : Fin 2 → IVec S16 32) a x).toNat < S32x129.size a)
theorem k0_idx145_inb : ∀ (i : grid0.Coords) (k0_t3 : Fin k0_t3_loop.trips) (v423 : IVec S16 32) (v468 : IVec S16 32) (k0_hw147 : k0_chk147 i k0_t3 v423 v468), ∀ (k0_h1 : k0_cond1 i k0_t3 = 1#1), ∀ a x, ((![v423, v468] : Fin 2 → IVec S16 32) a x).toNat < S32x129.size a := fun i k0_t3 v423 v468 k0_hw147 k0_h1 => k0_hw147 k0_h1

def k0_chk148 (i : grid0.Coords) (k0_t3 : Fin k0_t3_loop.trips) (v428 : IVec S16 32) (v465 : IVec S16 32) (v466 : IVec S16 32) : Prop :=
  (∀ (k0_h1 : k0_cond1 i k0_t3 = 1#1), ∀ a x, ((![v465, v466, v428] : Fin 3 → IVec S16 32) a x).toNat < S8x8x1024.size a)
theorem k0_idx146_inb : ∀ (i : grid0.Coords) (k0_t3 : Fin k0_t3_loop.trips) (v428 : IVec S16 32) (v465 : IVec S16 32) (v466 : IVec S16 32) (k0_hw148 : k0_chk148 i k0_t3 v428 v465 v466), ∀ (k0_h1 : k0_cond1 i k0_t3 = 1#1), ∀ a x, ((![v465, v466, v428] : Fin 3 → IVec S16 32) a x).toNat < S8x8x1024.size a := fun i k0_t3 v428 v465 v466 k0_hw148 k0_h1 => k0_hw148 k0_h1

def k0_chk149 (i : grid0.Coords) (k0_t3 : Fin k0_t3_loop.trips) (v423 : IVec S16 32) (v473 : IVec S16 32) : Prop :=
  (∀ (k0_h1 : k0_cond1 i k0_t3 = 1#1), ∀ a x, ((![v423, v473] : Fin 2 → IVec S16 32) a x).toNat < S32x129.size a)
theorem k0_idx147_inb : ∀ (i : grid0.Coords) (k0_t3 : Fin k0_t3_loop.trips) (v423 : IVec S16 32) (v473 : IVec S16 32) (k0_hw149 : k0_chk149 i k0_t3 v423 v473), ∀ (k0_h1 : k0_cond1 i k0_t3 = 1#1), ∀ a x, ((![v423, v473] : Fin 2 → IVec S16 32) a x).toNat < S32x129.size a := fun i k0_t3 v423 v473 k0_hw149 k0_h1 => k0_hw149 k0_h1

def k0_chk150 (i : grid0.Coords) (k0_t3 : Fin k0_t3_loop.trips) (v428 : IVec S16 32) (v470 : IVec S16 32) (v471 : IVec S16 32) : Prop :=
  (∀ (k0_h1 : k0_cond1 i k0_t3 = 1#1), ∀ a x, ((![v470, v471, v428] : Fin 3 → IVec S16 32) a x).toNat < S8x8x1024.size a)
theorem k0_idx148_inb : ∀ (i : grid0.Coords) (k0_t3 : Fin k0_t3_loop.trips) (v428 : IVec S16 32) (v470 : IVec S16 32) (v471 : IVec S16 32) (k0_hw150 : k0_chk150 i k0_t3 v428 v470 v471), ∀ (k0_h1 : k0_cond1 i k0_t3 = 1#1), ∀ a x, ((![v470, v471, v428] : Fin 3 → IVec S16 32) a x).toNat < S8x8x1024.size a := fun i k0_t3 v428 v470 v471 k0_hw150 k0_h1 => k0_hw150 k0_h1

def k0_chk151 (i : grid0.Coords) (k0_t3 : Fin k0_t3_loop.trips) (v423 : IVec S16 32) (v478 : IVec S16 32) : Prop :=
  (∀ (k0_h1 : k0_cond1 i k0_t3 = 1#1), ∀ a x, ((![v423, v478] : Fin 2 → IVec S16 32) a x).toNat < S32x129.size a)
theorem k0_idx149_inb : ∀ (i : grid0.Coords) (k0_t3 : Fin k0_t3_loop.trips) (v423 : IVec S16 32) (v478 : IVec S16 32) (k0_hw151 : k0_chk151 i k0_t3 v423 v478), ∀ (k0_h1 : k0_cond1 i k0_t3 = 1#1), ∀ a x, ((![v423, v478] : Fin 2 → IVec S16 32) a x).toNat < S32x129.size a := fun i k0_t3 v423 v478 k0_hw151 k0_h1 => k0_hw151 k0_h1

def k0_chk152 (i : grid0.Coords) (k0_t3 : Fin k0_t3_loop.trips) (v428 : IVec S16 32) (v475 : IVec S16 32) (v476 : IVec S16 32) : Prop :=
  (∀ (k0_h1 : k0_cond1 i k0_t3 = 1#1), ∀ a x, ((![v475, v476, v428] : Fin 3 → IVec S16 32) a x).toNat < S8x8x1024.size a)
theorem k0_idx150_inb : ∀ (i : grid0.Coords) (k0_t3 : Fin k0_t3_loop.trips) (v428 : IVec S16 32) (v475 : IVec S16 32) (v476 : IVec S16 32) (k0_hw152 : k0_chk152 i k0_t3 v428 v475 v476), ∀ (k0_h1 : k0_cond1 i k0_t3 = 1#1), ∀ a x, ((![v475, v476, v428] : Fin 3 → IVec S16 32) a x).toNat < S8x8x1024.size a := fun i k0_t3 v428 v475 v476 k0_hw152 k0_h1 => k0_hw152 k0_h1

def k0_chk153 (i : grid0.Coords) (k0_t3 : Fin k0_t3_loop.trips) (v423 : IVec S16 32) (v483 : IVec S16 32) : Prop :=
  (∀ (k0_h1 : k0_cond1 i k0_t3 = 1#1), ∀ a x, ((![v423, v483] : Fin 2 → IVec S16 32) a x).toNat < S32x129.size a)
theorem k0_idx151_inb : ∀ (i : grid0.Coords) (k0_t3 : Fin k0_t3_loop.trips) (v423 : IVec S16 32) (v483 : IVec S16 32) (k0_hw153 : k0_chk153 i k0_t3 v423 v483), ∀ (k0_h1 : k0_cond1 i k0_t3 = 1#1), ∀ a x, ((![v423, v483] : Fin 2 → IVec S16 32) a x).toNat < S32x129.size a := fun i k0_t3 v423 v483 k0_hw153 k0_h1 => k0_hw153 k0_h1

def k0_chk154 (i : grid0.Coords) (k0_t3 : Fin k0_t3_loop.trips) (v428 : IVec S16 32) (v480 : IVec S16 32) (v481 : IVec S16 32) : Prop :=
  (∀ (k0_h1 : k0_cond1 i k0_t3 = 1#1), ∀ a x, ((![v480, v481, v428] : Fin 3 → IVec S16 32) a x).toNat < S8x8x1024.size a)
theorem k0_idx152_inb : ∀ (i : grid0.Coords) (k0_t3 : Fin k0_t3_loop.trips) (v428 : IVec S16 32) (v480 : IVec S16 32) (v481 : IVec S16 32) (k0_hw154 : k0_chk154 i k0_t3 v428 v480 v481), ∀ (k0_h1 : k0_cond1 i k0_t3 = 1#1), ∀ a x, ((![v480, v481, v428] : Fin 3 → IVec S16 32) a x).toNat < S8x8x1024.size a := fun i k0_t3 v428 v480 v481 k0_hw154 k0_h1 => k0_hw154 k0_h1

def k0_chk155 (i : grid0.Coords) (k0_t3 : Fin k0_t3_loop.trips) (v423 : IVec S16 32) (v488 : IVec S16 32) : Prop :=
  (∀ (k0_h1 : k0_cond1 i k0_t3 = 1#1), ∀ a x, ((![v423, v488] : Fin 2 → IVec S16 32) a x).toNat < S32x129.size a)
theorem k0_idx153_inb : ∀ (i : grid0.Coords) (k0_t3 : Fin k0_t3_loop.trips) (v423 : IVec S16 32) (v488 : IVec S16 32) (k0_hw155 : k0_chk155 i k0_t3 v423 v488), ∀ (k0_h1 : k0_cond1 i k0_t3 = 1#1), ∀ a x, ((![v423, v488] : Fin 2 → IVec S16 32) a x).toNat < S32x129.size a := fun i k0_t3 v423 v488 k0_hw155 k0_h1 => k0_hw155 k0_h1

def k0_chk156 (i : grid0.Coords) (k0_t3 : Fin k0_t3_loop.trips) (v428 : IVec S16 32) (v485 : IVec S16 32) (v486 : IVec S16 32) : Prop :=
  (∀ (k0_h1 : k0_cond1 i k0_t3 = 1#1), ∀ a x, ((![v485, v486, v428] : Fin 3 → IVec S16 32) a x).toNat < S8x8x1024.size a)
theorem k0_idx154_inb : ∀ (i : grid0.Coords) (k0_t3 : Fin k0_t3_loop.trips) (v428 : IVec S16 32) (v485 : IVec S16 32) (v486 : IVec S16 32) (k0_hw156 : k0_chk156 i k0_t3 v428 v485 v486), ∀ (k0_h1 : k0_cond1 i k0_t3 = 1#1), ∀ a x, ((![v485, v486, v428] : Fin 3 → IVec S16 32) a x).toNat < S8x8x1024.size a := fun i k0_t3 v428 v485 v486 k0_hw156 k0_h1 => k0_hw156 k0_h1

def k0_chk157 (i : grid0.Coords) (k0_t3 : Fin k0_t3_loop.trips) (v423 : IVec S16 32) (v493 : IVec S16 32) : Prop :=
  (∀ (k0_h1 : k0_cond1 i k0_t3 = 1#1), ∀ a x, ((![v423, v493] : Fin 2 → IVec S16 32) a x).toNat < S32x129.size a)
theorem k0_idx155_inb : ∀ (i : grid0.Coords) (k0_t3 : Fin k0_t3_loop.trips) (v423 : IVec S16 32) (v493 : IVec S16 32) (k0_hw157 : k0_chk157 i k0_t3 v423 v493), ∀ (k0_h1 : k0_cond1 i k0_t3 = 1#1), ∀ a x, ((![v423, v493] : Fin 2 → IVec S16 32) a x).toNat < S32x129.size a := fun i k0_t3 v423 v493 k0_hw157 k0_h1 => k0_hw157 k0_h1

def k0_chk158 (i : grid0.Coords) (k0_t3 : Fin k0_t3_loop.trips) (v428 : IVec S16 32) (v490 : IVec S16 32) (v491 : IVec S16 32) : Prop :=
  (∀ (k0_h1 : k0_cond1 i k0_t3 = 1#1), ∀ a x, ((![v490, v491, v428] : Fin 3 → IVec S16 32) a x).toNat < S8x8x1024.size a)
theorem k0_idx156_inb : ∀ (i : grid0.Coords) (k0_t3 : Fin k0_t3_loop.trips) (v428 : IVec S16 32) (v490 : IVec S16 32) (v491 : IVec S16 32) (k0_hw158 : k0_chk158 i k0_t3 v428 v490 v491), ∀ (k0_h1 : k0_cond1 i k0_t3 = 1#1), ∀ a x, ((![v490, v491, v428] : Fin 3 → IVec S16 32) a x).toNat < S8x8x1024.size a := fun i k0_t3 v428 v490 v491 k0_hw158 k0_h1 => k0_hw158 k0_h1

def k0_chk159 (i : grid0.Coords) (k0_t3 : Fin k0_t3_loop.trips) (v423 : IVec S16 32) (v498 : IVec S16 32) : Prop :=
  (∀ (k0_h1 : k0_cond1 i k0_t3 = 1#1), ∀ a x, ((![v423, v498] : Fin 2 → IVec S16 32) a x).toNat < S32x129.size a)
theorem k0_idx157_inb : ∀ (i : grid0.Coords) (k0_t3 : Fin k0_t3_loop.trips) (v423 : IVec S16 32) (v498 : IVec S16 32) (k0_hw159 : k0_chk159 i k0_t3 v423 v498), ∀ (k0_h1 : k0_cond1 i k0_t3 = 1#1), ∀ a x, ((![v423, v498] : Fin 2 → IVec S16 32) a x).toNat < S32x129.size a := fun i k0_t3 v423 v498 k0_hw159 k0_h1 => k0_hw159 k0_h1

def k0_chk160 (i : grid0.Coords) (k0_t3 : Fin k0_t3_loop.trips) (v428 : IVec S16 32) (v495 : IVec S16 32) (v496 : IVec S16 32) : Prop :=
  (∀ (k0_h1 : k0_cond1 i k0_t3 = 1#1), ∀ a x, ((![v495, v496, v428] : Fin 3 → IVec S16 32) a x).toNat < S8x8x1024.size a)
theorem k0_idx158_inb : ∀ (i : grid0.Coords) (k0_t3 : Fin k0_t3_loop.trips) (v428 : IVec S16 32) (v495 : IVec S16 32) (v496 : IVec S16 32) (k0_hw160 : k0_chk160 i k0_t3 v428 v495 v496), ∀ (k0_h1 : k0_cond1 i k0_t3 = 1#1), ∀ a x, ((![v495, v496, v428] : Fin 3 → IVec S16 32) a x).toNat < S8x8x1024.size a := fun i k0_t3 v428 v495 v496 k0_hw160 k0_h1 => k0_hw160 k0_h1

def k0_chk161 (i : grid0.Coords) (k0_t3 : Fin k0_t3_loop.trips) (v423 : IVec S16 32) (v503 : IVec S16 32) : Prop :=
  (∀ (k0_h1 : k0_cond1 i k0_t3 = 1#1), ∀ a x, ((![v423, v503] : Fin 2 → IVec S16 32) a x).toNat < S32x129.size a)
theorem k0_idx159_inb : ∀ (i : grid0.Coords) (k0_t3 : Fin k0_t3_loop.trips) (v423 : IVec S16 32) (v503 : IVec S16 32) (k0_hw161 : k0_chk161 i k0_t3 v423 v503), ∀ (k0_h1 : k0_cond1 i k0_t3 = 1#1), ∀ a x, ((![v423, v503] : Fin 2 → IVec S16 32) a x).toNat < S32x129.size a := fun i k0_t3 v423 v503 k0_hw161 k0_h1 => k0_hw161 k0_h1

def k0_chk162 (i : grid0.Coords) (k0_t3 : Fin k0_t3_loop.trips) (v428 : IVec S16 32) (v500 : IVec S16 32) (v501 : IVec S16 32) : Prop :=
  (∀ (k0_h1 : k0_cond1 i k0_t3 = 1#1), ∀ a x, ((![v500, v501, v428] : Fin 3 → IVec S16 32) a x).toNat < S8x8x1024.size a)
theorem k0_idx160_inb : ∀ (i : grid0.Coords) (k0_t3 : Fin k0_t3_loop.trips) (v428 : IVec S16 32) (v500 : IVec S16 32) (v501 : IVec S16 32) (k0_hw162 : k0_chk162 i k0_t3 v428 v500 v501), ∀ (k0_h1 : k0_cond1 i k0_t3 = 1#1), ∀ a x, ((![v500, v501, v428] : Fin 3 → IVec S16 32) a x).toNat < S8x8x1024.size a := fun i k0_t3 v428 v500 v501 k0_hw162 k0_h1 => k0_hw162 k0_h1

def k0_chk163 (i : grid0.Coords) (k0_t3 : Fin k0_t3_loop.trips) (v423 : IVec S16 32) (v508 : IVec S16 32) : Prop :=
  (∀ (k0_h1 : k0_cond1 i k0_t3 = 1#1), ∀ a x, ((![v423, v508] : Fin 2 → IVec S16 32) a x).toNat < S32x129.size a)
theorem k0_idx161_inb : ∀ (i : grid0.Coords) (k0_t3 : Fin k0_t3_loop.trips) (v423 : IVec S16 32) (v508 : IVec S16 32) (k0_hw163 : k0_chk163 i k0_t3 v423 v508), ∀ (k0_h1 : k0_cond1 i k0_t3 = 1#1), ∀ a x, ((![v423, v508] : Fin 2 → IVec S16 32) a x).toNat < S32x129.size a := fun i k0_t3 v423 v508 k0_hw163 k0_h1 => k0_hw163 k0_h1

def k0_chk164 (i : grid0.Coords) (k0_t3 : Fin k0_t3_loop.trips) (v428 : IVec S16 32) (v505 : IVec S16 32) (v506 : IVec S16 32) : Prop :=
  (∀ (k0_h1 : k0_cond1 i k0_t3 = 1#1), ∀ a x, ((![v505, v506, v428] : Fin 3 → IVec S16 32) a x).toNat < S8x8x1024.size a)
theorem k0_idx162_inb : ∀ (i : grid0.Coords) (k0_t3 : Fin k0_t3_loop.trips) (v428 : IVec S16 32) (v505 : IVec S16 32) (v506 : IVec S16 32) (k0_hw164 : k0_chk164 i k0_t3 v428 v505 v506), ∀ (k0_h1 : k0_cond1 i k0_t3 = 1#1), ∀ a x, ((![v505, v506, v428] : Fin 3 → IVec S16 32) a x).toNat < S8x8x1024.size a := fun i k0_t3 v428 v505 v506 k0_hw164 k0_h1 => k0_hw164 k0_h1

def k0_chk165 (i : grid0.Coords) (k0_t3 : Fin k0_t3_loop.trips) (v423 : IVec S16 32) (v513 : IVec S16 32) : Prop :=
  (∀ (k0_h1 : k0_cond1 i k0_t3 = 1#1), ∀ a x, ((![v423, v513] : Fin 2 → IVec S16 32) a x).toNat < S32x129.size a)
theorem k0_idx163_inb : ∀ (i : grid0.Coords) (k0_t3 : Fin k0_t3_loop.trips) (v423 : IVec S16 32) (v513 : IVec S16 32) (k0_hw165 : k0_chk165 i k0_t3 v423 v513), ∀ (k0_h1 : k0_cond1 i k0_t3 = 1#1), ∀ a x, ((![v423, v513] : Fin 2 → IVec S16 32) a x).toNat < S32x129.size a := fun i k0_t3 v423 v513 k0_hw165 k0_h1 => k0_hw165 k0_h1

def k0_chk166 (i : grid0.Coords) (k0_t3 : Fin k0_t3_loop.trips) (v428 : IVec S16 32) (v510 : IVec S16 32) (v511 : IVec S16 32) : Prop :=
  (∀ (k0_h1 : k0_cond1 i k0_t3 = 1#1), ∀ a x, ((![v510, v511, v428] : Fin 3 → IVec S16 32) a x).toNat < S8x8x1024.size a)
theorem k0_idx164_inb : ∀ (i : grid0.Coords) (k0_t3 : Fin k0_t3_loop.trips) (v428 : IVec S16 32) (v510 : IVec S16 32) (v511 : IVec S16 32) (k0_hw166 : k0_chk166 i k0_t3 v428 v510 v511), ∀ (k0_h1 : k0_cond1 i k0_t3 = 1#1), ∀ a x, ((![v510, v511, v428] : Fin 3 → IVec S16 32) a x).toNat < S8x8x1024.size a := fun i k0_t3 v428 v510 v511 k0_hw166 k0_h1 => k0_hw166 k0_h1

def k0_chk167 (i : grid0.Coords) (k0_t3 : Fin k0_t3_loop.trips) (v423 : IVec S16 32) (v518 : IVec S16 32) : Prop :=
  (∀ (k0_h1 : k0_cond1 i k0_t3 = 1#1), ∀ a x, ((![v423, v518] : Fin 2 → IVec S16 32) a x).toNat < S32x129.size a)
theorem k0_idx165_inb : ∀ (i : grid0.Coords) (k0_t3 : Fin k0_t3_loop.trips) (v423 : IVec S16 32) (v518 : IVec S16 32) (k0_hw167 : k0_chk167 i k0_t3 v423 v518), ∀ (k0_h1 : k0_cond1 i k0_t3 = 1#1), ∀ a x, ((![v423, v518] : Fin 2 → IVec S16 32) a x).toNat < S32x129.size a := fun i k0_t3 v423 v518 k0_hw167 k0_h1 => k0_hw167 k0_h1

def k0_chk168 (i : grid0.Coords) (k0_t3 : Fin k0_t3_loop.trips) (v428 : IVec S16 32) (v515 : IVec S16 32) (v516 : IVec S16 32) : Prop :=
  (∀ (k0_h1 : k0_cond1 i k0_t3 = 1#1), ∀ a x, ((![v515, v516, v428] : Fin 3 → IVec S16 32) a x).toNat < S8x8x1024.size a)
theorem k0_idx166_inb : ∀ (i : grid0.Coords) (k0_t3 : Fin k0_t3_loop.trips) (v428 : IVec S16 32) (v515 : IVec S16 32) (v516 : IVec S16 32) (k0_hw168 : k0_chk168 i k0_t3 v428 v515 v516), ∀ (k0_h1 : k0_cond1 i k0_t3 = 1#1), ∀ a x, ((![v515, v516, v428] : Fin 3 → IVec S16 32) a x).toNat < S8x8x1024.size a := fun i k0_t3 v428 v515 v516 k0_hw168 k0_h1 => k0_hw168 k0_h1

def k0_chk169 (i : grid0.Coords) (k0_t3 : Fin k0_t3_loop.trips) (v423 : IVec S16 32) (v523 : IVec S16 32) : Prop :=
  (∀ (k0_h1 : k0_cond1 i k0_t3 = 1#1), ∀ a x, ((![v423, v523] : Fin 2 → IVec S16 32) a x).toNat < S32x129.size a)
theorem k0_idx167_inb : ∀ (i : grid0.Coords) (k0_t3 : Fin k0_t3_loop.trips) (v423 : IVec S16 32) (v523 : IVec S16 32) (k0_hw169 : k0_chk169 i k0_t3 v423 v523), ∀ (k0_h1 : k0_cond1 i k0_t3 = 1#1), ∀ a x, ((![v423, v523] : Fin 2 → IVec S16 32) a x).toNat < S32x129.size a := fun i k0_t3 v423 v523 k0_hw169 k0_h1 => k0_hw169 k0_h1

def k0_chk170 (i : grid0.Coords) (k0_t3 : Fin k0_t3_loop.trips) (v428 : IVec S16 32) (v520 : IVec S16 32) (v521 : IVec S16 32) : Prop :=
  (∀ (k0_h1 : k0_cond1 i k0_t3 = 1#1), ∀ a x, ((![v520, v521, v428] : Fin 3 → IVec S16 32) a x).toNat < S8x8x1024.size a)
theorem k0_idx168_inb : ∀ (i : grid0.Coords) (k0_t3 : Fin k0_t3_loop.trips) (v428 : IVec S16 32) (v520 : IVec S16 32) (v521 : IVec S16 32) (k0_hw170 : k0_chk170 i k0_t3 v428 v520 v521), ∀ (k0_h1 : k0_cond1 i k0_t3 = 1#1), ∀ a x, ((![v520, v521, v428] : Fin 3 → IVec S16 32) a x).toNat < S8x8x1024.size a := fun i k0_t3 v428 v520 v521 k0_hw170 k0_h1 => k0_hw170 k0_h1

def k0_chk171 (i : grid0.Coords) (k0_t3 : Fin k0_t3_loop.trips) (v423 : IVec S16 32) (v528 : IVec S16 32) : Prop :=
  (∀ (k0_h1 : k0_cond1 i k0_t3 = 1#1), ∀ a x, ((![v423, v528] : Fin 2 → IVec S16 32) a x).toNat < S32x129.size a)
theorem k0_idx169_inb : ∀ (i : grid0.Coords) (k0_t3 : Fin k0_t3_loop.trips) (v423 : IVec S16 32) (v528 : IVec S16 32) (k0_hw171 : k0_chk171 i k0_t3 v423 v528), ∀ (k0_h1 : k0_cond1 i k0_t3 = 1#1), ∀ a x, ((![v423, v528] : Fin 2 → IVec S16 32) a x).toNat < S32x129.size a := fun i k0_t3 v423 v528 k0_hw171 k0_h1 => k0_hw171 k0_h1

def k0_chk172 (i : grid0.Coords) (k0_t3 : Fin k0_t3_loop.trips) (v428 : IVec S16 32) (v525 : IVec S16 32) (v526 : IVec S16 32) : Prop :=
  (∀ (k0_h1 : k0_cond1 i k0_t3 = 1#1), ∀ a x, ((![v525, v526, v428] : Fin 3 → IVec S16 32) a x).toNat < S8x8x1024.size a)
theorem k0_idx170_inb : ∀ (i : grid0.Coords) (k0_t3 : Fin k0_t3_loop.trips) (v428 : IVec S16 32) (v525 : IVec S16 32) (v526 : IVec S16 32) (k0_hw172 : k0_chk172 i k0_t3 v428 v525 v526), ∀ (k0_h1 : k0_cond1 i k0_t3 = 1#1), ∀ a x, ((![v525, v526, v428] : Fin 3 → IVec S16 32) a x).toNat < S8x8x1024.size a := fun i k0_t3 v428 v525 v526 k0_hw172 k0_h1 => k0_hw172 k0_h1

def k0_chk173 (i : grid0.Coords) (k0_t3 : Fin k0_t3_loop.trips) (v423 : IVec S16 32) (v533 : IVec S16 32) : Prop :=
  (∀ (k0_h1 : k0_cond1 i k0_t3 = 1#1), ∀ a x, ((![v423, v533] : Fin 2 → IVec S16 32) a x).toNat < S32x129.size a)
theorem k0_idx171_inb : ∀ (i : grid0.Coords) (k0_t3 : Fin k0_t3_loop.trips) (v423 : IVec S16 32) (v533 : IVec S16 32) (k0_hw173 : k0_chk173 i k0_t3 v423 v533), ∀ (k0_h1 : k0_cond1 i k0_t3 = 1#1), ∀ a x, ((![v423, v533] : Fin 2 → IVec S16 32) a x).toNat < S32x129.size a := fun i k0_t3 v423 v533 k0_hw173 k0_h1 => k0_hw173 k0_h1

def k0_chk174 (i : grid0.Coords) (k0_t3 : Fin k0_t3_loop.trips) (v428 : IVec S16 32) (v530 : IVec S16 32) (v531 : IVec S16 32) : Prop :=
  (∀ (k0_h1 : k0_cond1 i k0_t3 = 1#1), ∀ a x, ((![v530, v531, v428] : Fin 3 → IVec S16 32) a x).toNat < S8x8x1024.size a)
theorem k0_idx172_inb : ∀ (i : grid0.Coords) (k0_t3 : Fin k0_t3_loop.trips) (v428 : IVec S16 32) (v530 : IVec S16 32) (v531 : IVec S16 32) (k0_hw174 : k0_chk174 i k0_t3 v428 v530 v531), ∀ (k0_h1 : k0_cond1 i k0_t3 = 1#1), ∀ a x, ((![v530, v531, v428] : Fin 3 → IVec S16 32) a x).toNat < S8x8x1024.size a := fun i k0_t3 v428 v530 v531 k0_hw174 k0_h1 => k0_hw174 k0_h1

def k0_chk175 (i : grid0.Coords) (k0_t3 : Fin k0_t3_loop.trips) (v423 : IVec S16 32) (v538 : IVec S16 32) : Prop :=
  (∀ (k0_h1 : k0_cond1 i k0_t3 = 1#1), ∀ a x, ((![v423, v538] : Fin 2 → IVec S16 32) a x).toNat < S32x129.size a)
theorem k0_idx173_inb : ∀ (i : grid0.Coords) (k0_t3 : Fin k0_t3_loop.trips) (v423 : IVec S16 32) (v538 : IVec S16 32) (k0_hw175 : k0_chk175 i k0_t3 v423 v538), ∀ (k0_h1 : k0_cond1 i k0_t3 = 1#1), ∀ a x, ((![v423, v538] : Fin 2 → IVec S16 32) a x).toNat < S32x129.size a := fun i k0_t3 v423 v538 k0_hw175 k0_h1 => k0_hw175 k0_h1

def k0_chk176 (i : grid0.Coords) (k0_t3 : Fin k0_t3_loop.trips) (v428 : IVec S16 32) (v535 : IVec S16 32) (v536 : IVec S16 32) : Prop :=
  (∀ (k0_h1 : k0_cond1 i k0_t3 = 1#1), ∀ a x, ((![v535, v536, v428] : Fin 3 → IVec S16 32) a x).toNat < S8x8x1024.size a)
theorem k0_idx174_inb : ∀ (i : grid0.Coords) (k0_t3 : Fin k0_t3_loop.trips) (v428 : IVec S16 32) (v535 : IVec S16 32) (v536 : IVec S16 32) (k0_hw176 : k0_chk176 i k0_t3 v428 v535 v536), ∀ (k0_h1 : k0_cond1 i k0_t3 = 1#1), ∀ a x, ((![v535, v536, v428] : Fin 3 → IVec S16 32) a x).toNat < S8x8x1024.size a := fun i k0_t3 v428 v535 v536 k0_hw176 k0_h1 => k0_hw176 k0_h1

def k0_chk177 (i : grid0.Coords) (k0_t3 : Fin k0_t3_loop.trips) (v423 : IVec S16 32) (v543 : IVec S16 32) : Prop :=
  (∀ (k0_h1 : k0_cond1 i k0_t3 = 1#1), ∀ a x, ((![v423, v543] : Fin 2 → IVec S16 32) a x).toNat < S32x129.size a)
theorem k0_idx175_inb : ∀ (i : grid0.Coords) (k0_t3 : Fin k0_t3_loop.trips) (v423 : IVec S16 32) (v543 : IVec S16 32) (k0_hw177 : k0_chk177 i k0_t3 v423 v543), ∀ (k0_h1 : k0_cond1 i k0_t3 = 1#1), ∀ a x, ((![v423, v543] : Fin 2 → IVec S16 32) a x).toNat < S32x129.size a := fun i k0_t3 v423 v543 k0_hw177 k0_h1 => k0_hw177 k0_h1

def k0_chk178 (i : grid0.Coords) (k0_t3 : Fin k0_t3_loop.trips) (v428 : IVec S16 32) (v540 : IVec S16 32) (v541 : IVec S16 32) : Prop :=
  (∀ (k0_h1 : k0_cond1 i k0_t3 = 1#1), ∀ a x, ((![v540, v541, v428] : Fin 3 → IVec S16 32) a x).toNat < S8x8x1024.size a)
theorem k0_idx176_inb : ∀ (i : grid0.Coords) (k0_t3 : Fin k0_t3_loop.trips) (v428 : IVec S16 32) (v540 : IVec S16 32) (v541 : IVec S16 32) (k0_hw178 : k0_chk178 i k0_t3 v428 v540 v541), ∀ (k0_h1 : k0_cond1 i k0_t3 = 1#1), ∀ a x, ((![v540, v541, v428] : Fin 3 → IVec S16 32) a x).toNat < S8x8x1024.size a := fun i k0_t3 v428 v540 v541 k0_hw178 k0_h1 => k0_hw178 k0_h1

def k0_chk179 (i : grid0.Coords) (k0_t3 : Fin k0_t3_loop.trips) (v423 : IVec S16 32) (v548 : IVec S16 32) : Prop :=
  (∀ (k0_h1 : k0_cond1 i k0_t3 = 1#1), ∀ a x, ((![v423, v548] : Fin 2 → IVec S16 32) a x).toNat < S32x129.size a)
theorem k0_idx177_inb : ∀ (i : grid0.Coords) (k0_t3 : Fin k0_t3_loop.trips) (v423 : IVec S16 32) (v548 : IVec S16 32) (k0_hw179 : k0_chk179 i k0_t3 v423 v548), ∀ (k0_h1 : k0_cond1 i k0_t3 = 1#1), ∀ a x, ((![v423, v548] : Fin 2 → IVec S16 32) a x).toNat < S32x129.size a := fun i k0_t3 v423 v548 k0_hw179 k0_h1 => k0_hw179 k0_h1

def k0_chk180 (i : grid0.Coords) (k0_t3 : Fin k0_t3_loop.trips) (v428 : IVec S16 32) (v545 : IVec S16 32) (v546 : IVec S16 32) : Prop :=
  (∀ (k0_h1 : k0_cond1 i k0_t3 = 1#1), ∀ a x, ((![v545, v546, v428] : Fin 3 → IVec S16 32) a x).toNat < S8x8x1024.size a)
theorem k0_idx178_inb : ∀ (i : grid0.Coords) (k0_t3 : Fin k0_t3_loop.trips) (v428 : IVec S16 32) (v545 : IVec S16 32) (v546 : IVec S16 32) (k0_hw180 : k0_chk180 i k0_t3 v428 v545 v546), ∀ (k0_h1 : k0_cond1 i k0_t3 = 1#1), ∀ a x, ((![v545, v546, v428] : Fin 3 → IVec S16 32) a x).toNat < S8x8x1024.size a := fun i k0_t3 v428 v545 v546 k0_hw180 k0_h1 => k0_hw180 k0_h1

def k0_chk181 (i : grid0.Coords) (k0_t3 : Fin k0_t3_loop.trips) (v423 : IVec S16 32) (v553 : IVec S16 32) : Prop :=
  (∀ (k0_h1 : k0_cond1 i k0_t3 = 1#1), ∀ a x, ((![v423, v553] : Fin 2 → IVec S16 32) a x).toNat < S32x129.size a)
theorem k0_idx179_inb : ∀ (i : grid0.Coords) (k0_t3 : Fin k0_t3_loop.trips) (v423 : IVec S16 32) (v553 : IVec S16 32) (k0_hw181 : k0_chk181 i k0_t3 v423 v553), ∀ (k0_h1 : k0_cond1 i k0_t3 = 1#1), ∀ a x, ((![v423, v553] : Fin 2 → IVec S16 32) a x).toNat < S32x129.size a := fun i k0_t3 v423 v553 k0_hw181 k0_h1 => k0_hw181 k0_h1

def k0_chk182 (i : grid0.Coords) (k0_t3 : Fin k0_t3_loop.trips) (v428 : IVec S16 32) (v550 : IVec S16 32) (v551 : IVec S16 32) : Prop :=
  (∀ (k0_h1 : k0_cond1 i k0_t3 = 1#1), ∀ a x, ((![v550, v551, v428] : Fin 3 → IVec S16 32) a x).toNat < S8x8x1024.size a)
theorem k0_idx180_inb : ∀ (i : grid0.Coords) (k0_t3 : Fin k0_t3_loop.trips) (v428 : IVec S16 32) (v550 : IVec S16 32) (v551 : IVec S16 32) (k0_hw182 : k0_chk182 i k0_t3 v428 v550 v551), ∀ (k0_h1 : k0_cond1 i k0_t3 = 1#1), ∀ a x, ((![v550, v551, v428] : Fin 3 → IVec S16 32) a x).toNat < S8x8x1024.size a := fun i k0_t3 v428 v550 v551 k0_hw182 k0_h1 => k0_hw182 k0_h1

def k0_chk183 (i : grid0.Coords) (k0_t3 : Fin k0_t3_loop.trips) (v423 : IVec S16 32) (v558 : IVec S16 32) : Prop :=
  (∀ (k0_h1 : k0_cond1 i k0_t3 = 1#1), ∀ a x, ((![v423, v558] : Fin 2 → IVec S16 32) a x).toNat < S32x129.size a)
theorem k0_idx181_inb : ∀ (i : grid0.Coords) (k0_t3 : Fin k0_t3_loop.trips) (v423 : IVec S16 32) (v558 : IVec S16 32) (k0_hw183 : k0_chk183 i k0_t3 v423 v558), ∀ (k0_h1 : k0_cond1 i k0_t3 = 1#1), ∀ a x, ((![v423, v558] : Fin 2 → IVec S16 32) a x).toNat < S32x129.size a := fun i k0_t3 v423 v558 k0_hw183 k0_h1 => k0_hw183 k0_h1

def k0_chk184 (i : grid0.Coords) (k0_t3 : Fin k0_t3_loop.trips) (v428 : IVec S16 32) (v555 : IVec S16 32) (v556 : IVec S16 32) : Prop :=
  (∀ (k0_h1 : k0_cond1 i k0_t3 = 1#1), ∀ a x, ((![v555, v556, v428] : Fin 3 → IVec S16 32) a x).toNat < S8x8x1024.size a)
theorem k0_idx182_inb : ∀ (i : grid0.Coords) (k0_t3 : Fin k0_t3_loop.trips) (v428 : IVec S16 32) (v555 : IVec S16 32) (v556 : IVec S16 32) (k0_hw184 : k0_chk184 i k0_t3 v428 v555 v556), ∀ (k0_h1 : k0_cond1 i k0_t3 = 1#1), ∀ a x, ((![v555, v556, v428] : Fin 3 → IVec S16 32) a x).toNat < S8x8x1024.size a := fun i k0_t3 v428 v555 v556 k0_hw184 k0_h1 => k0_hw184 k0_h1

def k0_chk185 (i : grid0.Coords) (k0_t3 : Fin k0_t3_loop.trips) (v423 : IVec S16 32) (v563 : IVec S16 32) : Prop :=
  (∀ (k0_h1 : k0_cond1 i k0_t3 = 1#1), ∀ a x, ((![v423, v563] : Fin 2 → IVec S16 32) a x).toNat < S32x129.size a)
theorem k0_idx183_inb : ∀ (i : grid0.Coords) (k0_t3 : Fin k0_t3_loop.trips) (v423 : IVec S16 32) (v563 : IVec S16 32) (k0_hw185 : k0_chk185 i k0_t3 v423 v563), ∀ (k0_h1 : k0_cond1 i k0_t3 = 1#1), ∀ a x, ((![v423, v563] : Fin 2 → IVec S16 32) a x).toNat < S32x129.size a := fun i k0_t3 v423 v563 k0_hw185 k0_h1 => k0_hw185 k0_h1

def k0_chk186 (i : grid0.Coords) (k0_t3 : Fin k0_t3_loop.trips) (v428 : IVec S16 32) (v560 : IVec S16 32) (v561 : IVec S16 32) : Prop :=
  (∀ (k0_h1 : k0_cond1 i k0_t3 = 1#1), ∀ a x, ((![v560, v561, v428] : Fin 3 → IVec S16 32) a x).toNat < S8x8x1024.size a)
theorem k0_idx184_inb : ∀ (i : grid0.Coords) (k0_t3 : Fin k0_t3_loop.trips) (v428 : IVec S16 32) (v560 : IVec S16 32) (v561 : IVec S16 32) (k0_hw186 : k0_chk186 i k0_t3 v428 v560 v561), ∀ (k0_h1 : k0_cond1 i k0_t3 = 1#1), ∀ a x, ((![v560, v561, v428] : Fin 3 → IVec S16 32) a x).toNat < S8x8x1024.size a := fun i k0_t3 v428 v560 v561 k0_hw186 k0_h1 => k0_hw186 k0_h1

def k0_chk187 (i : grid0.Coords) (k0_t3 : Fin k0_t3_loop.trips) (v423 : IVec S16 32) (v568 : IVec S16 32) : Prop :=
  (∀ (k0_h1 : k0_cond1 i k0_t3 = 1#1), ∀ a x, ((![v423, v568] : Fin 2 → IVec S16 32) a x).toNat < S32x129.size a)
theorem k0_idx185_inb : ∀ (i : grid0.Coords) (k0_t3 : Fin k0_t3_loop.trips) (v423 : IVec S16 32) (v568 : IVec S16 32) (k0_hw187 : k0_chk187 i k0_t3 v423 v568), ∀ (k0_h1 : k0_cond1 i k0_t3 = 1#1), ∀ a x, ((![v423, v568] : Fin 2 → IVec S16 32) a x).toNat < S32x129.size a := fun i k0_t3 v423 v568 k0_hw187 k0_h1 => k0_hw187 k0_h1

def k0_chk188 (i : grid0.Coords) (k0_t3 : Fin k0_t3_loop.trips) (v428 : IVec S16 32) (v565 : IVec S16 32) (v566 : IVec S16 32) : Prop :=
  (∀ (k0_h1 : k0_cond1 i k0_t3 = 1#1), ∀ a x, ((![v565, v566, v428] : Fin 3 → IVec S16 32) a x).toNat < S8x8x1024.size a)
theorem k0_idx186_inb : ∀ (i : grid0.Coords) (k0_t3 : Fin k0_t3_loop.trips) (v428 : IVec S16 32) (v565 : IVec S16 32) (v566 : IVec S16 32) (k0_hw188 : k0_chk188 i k0_t3 v428 v565 v566), ∀ (k0_h1 : k0_cond1 i k0_t3 = 1#1), ∀ a x, ((![v565, v566, v428] : Fin 3 → IVec S16 32) a x).toNat < S8x8x1024.size a := fun i k0_t3 v428 v565 v566 k0_hw188 k0_h1 => k0_hw188 k0_h1

def k0_chk189 (i : grid0.Coords) (k0_t3 : Fin k0_t3_loop.trips) (v423 : IVec S16 32) (v573 : IVec S16 32) : Prop :=
  (∀ (k0_h1 : k0_cond1 i k0_t3 = 1#1), ∀ a x, ((![v423, v573] : Fin 2 → IVec S16 32) a x).toNat < S32x129.size a)
theorem k0_idx187_inb : ∀ (i : grid0.Coords) (k0_t3 : Fin k0_t3_loop.trips) (v423 : IVec S16 32) (v573 : IVec S16 32) (k0_hw189 : k0_chk189 i k0_t3 v423 v573), ∀ (k0_h1 : k0_cond1 i k0_t3 = 1#1), ∀ a x, ((![v423, v573] : Fin 2 → IVec S16 32) a x).toNat < S32x129.size a := fun i k0_t3 v423 v573 k0_hw189 k0_h1 => k0_hw189 k0_h1

def k0_chk190 (i : grid0.Coords) (k0_t3 : Fin k0_t3_loop.trips) (v428 : IVec S16 32) (v570 : IVec S16 32) (v571 : IVec S16 32) : Prop :=
  (∀ (k0_h1 : k0_cond1 i k0_t3 = 1#1), ∀ a x, ((![v570, v571, v428] : Fin 3 → IVec S16 32) a x).toNat < S8x8x1024.size a)
theorem k0_idx188_inb : ∀ (i : grid0.Coords) (k0_t3 : Fin k0_t3_loop.trips) (v428 : IVec S16 32) (v570 : IVec S16 32) (v571 : IVec S16 32) (k0_hw190 : k0_chk190 i k0_t3 v428 v570 v571), ∀ (k0_h1 : k0_cond1 i k0_t3 = 1#1), ∀ a x, ((![v570, v571, v428] : Fin 3 → IVec S16 32) a x).toNat < S8x8x1024.size a := fun i k0_t3 v428 v570 v571 k0_hw190 k0_h1 => k0_hw190 k0_h1

def k0_chk191 (i : grid0.Coords) (k0_t3 : Fin k0_t3_loop.trips) (v423 : IVec S16 32) (v578 : IVec S16 32) : Prop :=
  (∀ (k0_h1 : k0_cond1 i k0_t3 = 1#1), ∀ a x, ((![v423, v578] : Fin 2 → IVec S16 32) a x).toNat < S32x129.size a)
theorem k0_idx189_inb : ∀ (i : grid0.Coords) (k0_t3 : Fin k0_t3_loop.trips) (v423 : IVec S16 32) (v578 : IVec S16 32) (k0_hw191 : k0_chk191 i k0_t3 v423 v578), ∀ (k0_h1 : k0_cond1 i k0_t3 = 1#1), ∀ a x, ((![v423, v578] : Fin 2 → IVec S16 32) a x).toNat < S32x129.size a := fun i k0_t3 v423 v578 k0_hw191 k0_h1 => k0_hw191 k0_h1

def k0_chk192 (i : grid0.Coords) (k0_t3 : Fin k0_t3_loop.trips) (v428 : IVec S16 32) (v575 : IVec S16 32) (v576 : IVec S16 32) : Prop :=
  (∀ (k0_h1 : k0_cond1 i k0_t3 = 1#1), ∀ a x, ((![v575, v576, v428] : Fin 3 → IVec S16 32) a x).toNat < S8x8x1024.size a)
theorem k0_idx190_inb : ∀ (i : grid0.Coords) (k0_t3 : Fin k0_t3_loop.trips) (v428 : IVec S16 32) (v575 : IVec S16 32) (v576 : IVec S16 32) (k0_hw192 : k0_chk192 i k0_t3 v428 v575 v576), ∀ (k0_h1 : k0_cond1 i k0_t3 = 1#1), ∀ a x, ((![v575, v576, v428] : Fin 3 → IVec S16 32) a x).toNat < S8x8x1024.size a := fun i k0_t3 v428 v575 v576 k0_hw192 k0_h1 => k0_hw192 k0_h1

def k0_chk193 (i : grid0.Coords) (k0_t3 : Fin k0_t3_loop.trips) (v423 : IVec S16 32) (v583 : IVec S16 32) : Prop :=
  (∀ (k0_h1 : k0_cond1 i k0_t3 = 1#1), ∀ a x, ((![v423, v583] : Fin 2 → IVec S16 32) a x).toNat < S32x129.size a)
theorem k0_idx191_inb : ∀ (i : grid0.Coords) (k0_t3 : Fin k0_t3_loop.trips) (v423 : IVec S16 32) (v583 : IVec S16 32) (k0_hw193 : k0_chk193 i k0_t3 v423 v583), ∀ (k0_h1 : k0_cond1 i k0_t3 = 1#1), ∀ a x, ((![v423, v583] : Fin 2 → IVec S16 32) a x).toNat < S32x129.size a := fun i k0_t3 v423 v583 k0_hw193 k0_h1 => k0_hw193 k0_h1

def k0_chk194 (i : grid0.Coords) (k0_t3 : Fin k0_t3_loop.trips) (v428 : IVec S16 32) (v580 : IVec S16 32) (v581 : IVec S16 32) : Prop :=
  (∀ (k0_h1 : k0_cond1 i k0_t3 = 1#1), ∀ a x, ((![v580, v581, v428] : Fin 3 → IVec S16 32) a x).toNat < S8x8x1024.size a)
theorem k0_idx192_inb : ∀ (i : grid0.Coords) (k0_t3 : Fin k0_t3_loop.trips) (v428 : IVec S16 32) (v580 : IVec S16 32) (v581 : IVec S16 32) (k0_hw194 : k0_chk194 i k0_t3 v428 v580 v581), ∀ (k0_h1 : k0_cond1 i k0_t3 = 1#1), ∀ a x, ((![v580, v581, v428] : Fin 3 → IVec S16 32) a x).toNat < S8x8x1024.size a := fun i k0_t3 v428 v580 v581 k0_hw194 k0_h1 => k0_hw194 k0_h1

def k0_chk195 (i : grid0.Coords) (k0_t3 : Fin k0_t3_loop.trips) (v423 : IVec S16 32) (v588 : IVec S16 32) : Prop :=
  (∀ (k0_h1 : k0_cond1 i k0_t3 = 1#1), ∀ a x, ((![v423, v588] : Fin 2 → IVec S16 32) a x).toNat < S32x129.size a)
theorem k0_idx193_inb : ∀ (i : grid0.Coords) (k0_t3 : Fin k0_t3_loop.trips) (v423 : IVec S16 32) (v588 : IVec S16 32) (k0_hw195 : k0_chk195 i k0_t3 v423 v588), ∀ (k0_h1 : k0_cond1 i k0_t3 = 1#1), ∀ a x, ((![v423, v588] : Fin 2 → IVec S16 32) a x).toNat < S32x129.size a := fun i k0_t3 v423 v588 k0_hw195 k0_h1 => k0_hw195 k0_h1

def k0_chk196 (i : grid0.Coords) (k0_t3 : Fin k0_t3_loop.trips) (v428 : IVec S16 32) (v585 : IVec S16 32) (v586 : IVec S16 32) : Prop :=
  (∀ (k0_h1 : k0_cond1 i k0_t3 = 1#1), ∀ a x, ((![v585, v586, v428] : Fin 3 → IVec S16 32) a x).toNat < S8x8x1024.size a)
theorem k0_idx194_inb : ∀ (i : grid0.Coords) (k0_t3 : Fin k0_t3_loop.trips) (v428 : IVec S16 32) (v585 : IVec S16 32) (v586 : IVec S16 32) (k0_hw196 : k0_chk196 i k0_t3 v428 v585 v586), ∀ (k0_h1 : k0_cond1 i k0_t3 = 1#1), ∀ a x, ((![v585, v586, v428] : Fin 3 → IVec S16 32) a x).toNat < S8x8x1024.size a := fun i k0_t3 v428 v585 v586 k0_hw196 k0_h1 => k0_hw196 k0_h1

def k0_chk197 (i : grid0.Coords) (k0_t3 : Fin k0_t3_loop.trips) (v423 : IVec S16 32) (v593 : IVec S16 32) : Prop :=
  (∀ (k0_h1 : k0_cond1 i k0_t3 = 1#1), ∀ a x, ((![v423, v593] : Fin 2 → IVec S16 32) a x).toNat < S32x129.size a)
theorem k0_idx195_inb : ∀ (i : grid0.Coords) (k0_t3 : Fin k0_t3_loop.trips) (v423 : IVec S16 32) (v593 : IVec S16 32) (k0_hw197 : k0_chk197 i k0_t3 v423 v593), ∀ (k0_h1 : k0_cond1 i k0_t3 = 1#1), ∀ a x, ((![v423, v593] : Fin 2 → IVec S16 32) a x).toNat < S32x129.size a := fun i k0_t3 v423 v593 k0_hw197 k0_h1 => k0_hw197 k0_h1

def k0_chk198 (i : grid0.Coords) (k0_t3 : Fin k0_t3_loop.trips) (v428 : IVec S16 32) (v590 : IVec S16 32) (v591 : IVec S16 32) : Prop :=
  (∀ (k0_h1 : k0_cond1 i k0_t3 = 1#1), ∀ a x, ((![v590, v591, v428] : Fin 3 → IVec S16 32) a x).toNat < S8x8x1024.size a)
theorem k0_idx196_inb : ∀ (i : grid0.Coords) (k0_t3 : Fin k0_t3_loop.trips) (v428 : IVec S16 32) (v590 : IVec S16 32) (v591 : IVec S16 32) (k0_hw198 : k0_chk198 i k0_t3 v428 v590 v591), ∀ (k0_h1 : k0_cond1 i k0_t3 = 1#1), ∀ a x, ((![v590, v591, v428] : Fin 3 → IVec S16 32) a x).toNat < S8x8x1024.size a := fun i k0_t3 v428 v590 v591 k0_hw198 k0_h1 => k0_hw198 k0_h1

def k0_chk199 (i : grid0.Coords) (k0_t3 : Fin k0_t3_loop.trips) (v423 : IVec S16 32) (v598 : IVec S16 32) : Prop :=
  (∀ (k0_h1 : k0_cond1 i k0_t3 = 1#1), ∀ a x, ((![v423, v598] : Fin 2 → IVec S16 32) a x).toNat < S32x129.size a)
theorem k0_idx197_inb : ∀ (i : grid0.Coords) (k0_t3 : Fin k0_t3_loop.trips) (v423 : IVec S16 32) (v598 : IVec S16 32) (k0_hw199 : k0_chk199 i k0_t3 v423 v598), ∀ (k0_h1 : k0_cond1 i k0_t3 = 1#1), ∀ a x, ((![v423, v598] : Fin 2 → IVec S16 32) a x).toNat < S32x129.size a := fun i k0_t3 v423 v598 k0_hw199 k0_h1 => k0_hw199 k0_h1

def k0_chk200 (i : grid0.Coords) (k0_t3 : Fin k0_t3_loop.trips) (v428 : IVec S16 32) (v595 : IVec S16 32) (v596 : IVec S16 32) : Prop :=
  (∀ (k0_h1 : k0_cond1 i k0_t3 = 1#1), ∀ a x, ((![v595, v596, v428] : Fin 3 → IVec S16 32) a x).toNat < S8x8x1024.size a)
theorem k0_idx198_inb : ∀ (i : grid0.Coords) (k0_t3 : Fin k0_t3_loop.trips) (v428 : IVec S16 32) (v595 : IVec S16 32) (v596 : IVec S16 32) (k0_hw200 : k0_chk200 i k0_t3 v428 v595 v596), ∀ (k0_h1 : k0_cond1 i k0_t3 = 1#1), ∀ a x, ((![v595, v596, v428] : Fin 3 → IVec S16 32) a x).toNat < S8x8x1024.size a := fun i k0_t3 v428 v595 v596 k0_hw200 k0_h1 => k0_hw200 k0_h1

def k0_chk201 (i : grid0.Coords) (k0_t3 : Fin k0_t3_loop.trips) (v423 : IVec S16 32) (v603 : IVec S16 32) : Prop :=
  (∀ (k0_h1 : k0_cond1 i k0_t3 = 1#1), ∀ a x, ((![v423, v603] : Fin 2 → IVec S16 32) a x).toNat < S32x129.size a)
theorem k0_idx199_inb : ∀ (i : grid0.Coords) (k0_t3 : Fin k0_t3_loop.trips) (v423 : IVec S16 32) (v603 : IVec S16 32) (k0_hw201 : k0_chk201 i k0_t3 v423 v603), ∀ (k0_h1 : k0_cond1 i k0_t3 = 1#1), ∀ a x, ((![v423, v603] : Fin 2 → IVec S16 32) a x).toNat < S32x129.size a := fun i k0_t3 v423 v603 k0_hw201 k0_h1 => k0_hw201 k0_h1

def k0_chk202 (i : grid0.Coords) (k0_t3 : Fin k0_t3_loop.trips) (v428 : IVec S16 32) (v600 : IVec S16 32) (v601 : IVec S16 32) : Prop :=
  (∀ (k0_h1 : k0_cond1 i k0_t3 = 1#1), ∀ a x, ((![v600, v601, v428] : Fin 3 → IVec S16 32) a x).toNat < S8x8x1024.size a)
theorem k0_idx200_inb : ∀ (i : grid0.Coords) (k0_t3 : Fin k0_t3_loop.trips) (v428 : IVec S16 32) (v600 : IVec S16 32) (v601 : IVec S16 32) (k0_hw202 : k0_chk202 i k0_t3 v428 v600 v601), ∀ (k0_h1 : k0_cond1 i k0_t3 = 1#1), ∀ a x, ((![v600, v601, v428] : Fin 3 → IVec S16 32) a x).toNat < S8x8x1024.size a := fun i k0_t3 v428 v600 v601 k0_hw202 k0_h1 => k0_hw202 k0_h1

def k0_chk203 (i : grid0.Coords) (k0_t3 : Fin k0_t3_loop.trips) (v423 : IVec S16 32) (v608 : IVec S16 32) : Prop :=
  (∀ (k0_h1 : k0_cond1 i k0_t3 = 1#1), ∀ a x, ((![v423, v608] : Fin 2 → IVec S16 32) a x).toNat < S32x129.size a)
theorem k0_idx201_inb : ∀ (i : grid0.Coords) (k0_t3 : Fin k0_t3_loop.trips) (v423 : IVec S16 32) (v608 : IVec S16 32) (k0_hw203 : k0_chk203 i k0_t3 v423 v608), ∀ (k0_h1 : k0_cond1 i k0_t3 = 1#1), ∀ a x, ((![v423, v608] : Fin 2 → IVec S16 32) a x).toNat < S32x129.size a := fun i k0_t3 v423 v608 k0_hw203 k0_h1 => k0_hw203 k0_h1

def k0_chk204 (i : grid0.Coords) (k0_t3 : Fin k0_t3_loop.trips) (v428 : IVec S16 32) (v605 : IVec S16 32) (v606 : IVec S16 32) : Prop :=
  (∀ (k0_h1 : k0_cond1 i k0_t3 = 1#1), ∀ a x, ((![v605, v606, v428] : Fin 3 → IVec S16 32) a x).toNat < S8x8x1024.size a)
theorem k0_idx202_inb : ∀ (i : grid0.Coords) (k0_t3 : Fin k0_t3_loop.trips) (v428 : IVec S16 32) (v605 : IVec S16 32) (v606 : IVec S16 32) (k0_hw204 : k0_chk204 i k0_t3 v428 v605 v606), ∀ (k0_h1 : k0_cond1 i k0_t3 = 1#1), ∀ a x, ((![v605, v606, v428] : Fin 3 → IVec S16 32) a x).toNat < S8x8x1024.size a := fun i k0_t3 v428 v605 v606 k0_hw204 k0_h1 => k0_hw204 k0_h1

def k0_chk205 (i : grid0.Coords) (k0_t3 : Fin k0_t3_loop.trips) (v423 : IVec S16 32) (v613 : IVec S16 32) : Prop :=
  (∀ (k0_h1 : k0_cond1 i k0_t3 = 1#1), ∀ a x, ((![v423, v613] : Fin 2 → IVec S16 32) a x).toNat < S32x129.size a)
theorem k0_idx203_inb : ∀ (i : grid0.Coords) (k0_t3 : Fin k0_t3_loop.trips) (v423 : IVec S16 32) (v613 : IVec S16 32) (k0_hw205 : k0_chk205 i k0_t3 v423 v613), ∀ (k0_h1 : k0_cond1 i k0_t3 = 1#1), ∀ a x, ((![v423, v613] : Fin 2 → IVec S16 32) a x).toNat < S32x129.size a := fun i k0_t3 v423 v613 k0_hw205 k0_h1 => k0_hw205 k0_h1

def k0_chk206 (i : grid0.Coords) (k0_t3 : Fin k0_t3_loop.trips) (v428 : IVec S16 32) (v610 : IVec S16 32) (v611 : IVec S16 32) : Prop :=
  (∀ (k0_h1 : k0_cond1 i k0_t3 = 1#1), ∀ a x, ((![v610, v611, v428] : Fin 3 → IVec S16 32) a x).toNat < S8x8x1024.size a)
theorem k0_idx204_inb : ∀ (i : grid0.Coords) (k0_t3 : Fin k0_t3_loop.trips) (v428 : IVec S16 32) (v610 : IVec S16 32) (v611 : IVec S16 32) (k0_hw206 : k0_chk206 i k0_t3 v428 v610 v611), ∀ (k0_h1 : k0_cond1 i k0_t3 = 1#1), ∀ a x, ((![v610, v611, v428] : Fin 3 → IVec S16 32) a x).toNat < S8x8x1024.size a := fun i k0_t3 v428 v610 v611 k0_hw206 k0_h1 => k0_hw206 k0_h1

def k0_chk207 (i : grid0.Coords) (k0_t3 : Fin k0_t3_loop.trips) (v423 : IVec S16 32) (v618 : IVec S16 32) : Prop :=
  (∀ (k0_h1 : k0_cond1 i k0_t3 = 1#1), ∀ a x, ((![v423, v618] : Fin 2 → IVec S16 32) a x).toNat < S32x129.size a)
theorem k0_idx205_inb : ∀ (i : grid0.Coords) (k0_t3 : Fin k0_t3_loop.trips) (v423 : IVec S16 32) (v618 : IVec S16 32) (k0_hw207 : k0_chk207 i k0_t3 v423 v618), ∀ (k0_h1 : k0_cond1 i k0_t3 = 1#1), ∀ a x, ((![v423, v618] : Fin 2 → IVec S16 32) a x).toNat < S32x129.size a := fun i k0_t3 v423 v618 k0_hw207 k0_h1 => k0_hw207 k0_h1

def k0_chk208 (i : grid0.Coords) (k0_t3 : Fin k0_t3_loop.trips) (v428 : IVec S16 32) (v615 : IVec S16 32) (v616 : IVec S16 32) : Prop :=
  (∀ (k0_h1 : k0_cond1 i k0_t3 = 1#1), ∀ a x, ((![v615, v616, v428] : Fin 3 → IVec S16 32) a x).toNat < S8x8x1024.size a)
theorem k0_idx206_inb : ∀ (i : grid0.Coords) (k0_t3 : Fin k0_t3_loop.trips) (v428 : IVec S16 32) (v615 : IVec S16 32) (v616 : IVec S16 32) (k0_hw208 : k0_chk208 i k0_t3 v428 v615 v616), ∀ (k0_h1 : k0_cond1 i k0_t3 = 1#1), ∀ a x, ((![v615, v616, v428] : Fin 3 → IVec S16 32) a x).toNat < S8x8x1024.size a := fun i k0_t3 v428 v615 v616 k0_hw208 k0_h1 => k0_hw208 k0_h1

def k0_chk209 (i : grid0.Coords) (k0_t3 : Fin k0_t3_loop.trips) (v423 : IVec S16 32) (v623 : IVec S16 32) : Prop :=
  (∀ (k0_h1 : k0_cond1 i k0_t3 = 1#1), ∀ a x, ((![v423, v623] : Fin 2 → IVec S16 32) a x).toNat < S32x129.size a)
theorem k0_idx207_inb : ∀ (i : grid0.Coords) (k0_t3 : Fin k0_t3_loop.trips) (v423 : IVec S16 32) (v623 : IVec S16 32) (k0_hw209 : k0_chk209 i k0_t3 v423 v623), ∀ (k0_h1 : k0_cond1 i k0_t3 = 1#1), ∀ a x, ((![v423, v623] : Fin 2 → IVec S16 32) a x).toNat < S32x129.size a := fun i k0_t3 v423 v623 k0_hw209 k0_h1 => k0_hw209 k0_h1

def k0_chk210 (i : grid0.Coords) (k0_t3 : Fin k0_t3_loop.trips) (v428 : IVec S16 32) (v620 : IVec S16 32) (v621 : IVec S16 32) : Prop :=
  (∀ (k0_h1 : k0_cond1 i k0_t3 = 1#1), ∀ a x, ((![v620, v621, v428] : Fin 3 → IVec S16 32) a x).toNat < S8x8x1024.size a)
theorem k0_idx208_inb : ∀ (i : grid0.Coords) (k0_t3 : Fin k0_t3_loop.trips) (v428 : IVec S16 32) (v620 : IVec S16 32) (v621 : IVec S16 32) (k0_hw210 : k0_chk210 i k0_t3 v428 v620 v621), ∀ (k0_h1 : k0_cond1 i k0_t3 = 1#1), ∀ a x, ((![v620, v621, v428] : Fin 3 → IVec S16 32) a x).toNat < S8x8x1024.size a := fun i k0_t3 v428 v620 v621 k0_hw210 k0_h1 => k0_hw210 k0_h1

def k0_chk211 (i : grid0.Coords) (k0_t3 : Fin k0_t3_loop.trips) (v423 : IVec S16 32) (v628 : IVec S16 32) : Prop :=
  (∀ (k0_h1 : k0_cond1 i k0_t3 = 1#1), ∀ a x, ((![v423, v628] : Fin 2 → IVec S16 32) a x).toNat < S32x129.size a)
theorem k0_idx209_inb : ∀ (i : grid0.Coords) (k0_t3 : Fin k0_t3_loop.trips) (v423 : IVec S16 32) (v628 : IVec S16 32) (k0_hw211 : k0_chk211 i k0_t3 v423 v628), ∀ (k0_h1 : k0_cond1 i k0_t3 = 1#1), ∀ a x, ((![v423, v628] : Fin 2 → IVec S16 32) a x).toNat < S32x129.size a := fun i k0_t3 v423 v628 k0_hw211 k0_h1 => k0_hw211 k0_h1

def k0_chk212 (i : grid0.Coords) (k0_t3 : Fin k0_t3_loop.trips) (v428 : IVec S16 32) (v625 : IVec S16 32) (v626 : IVec S16 32) : Prop :=
  (∀ (k0_h1 : k0_cond1 i k0_t3 = 1#1), ∀ a x, ((![v625, v626, v428] : Fin 3 → IVec S16 32) a x).toNat < S8x8x1024.size a)
theorem k0_idx210_inb : ∀ (i : grid0.Coords) (k0_t3 : Fin k0_t3_loop.trips) (v428 : IVec S16 32) (v625 : IVec S16 32) (v626 : IVec S16 32) (k0_hw212 : k0_chk212 i k0_t3 v428 v625 v626), ∀ (k0_h1 : k0_cond1 i k0_t3 = 1#1), ∀ a x, ((![v625, v626, v428] : Fin 3 → IVec S16 32) a x).toNat < S8x8x1024.size a := fun i k0_t3 v428 v625 v626 k0_hw212 k0_h1 => k0_hw212 k0_h1

def k0_chk213 (i : grid0.Coords) (k0_t3 : Fin k0_t3_loop.trips) (v423 : IVec S16 32) (v633 : IVec S16 32) : Prop :=
  (∀ (k0_h1 : k0_cond1 i k0_t3 = 1#1), ∀ a x, ((![v423, v633] : Fin 2 → IVec S16 32) a x).toNat < S32x129.size a)
theorem k0_idx211_inb : ∀ (i : grid0.Coords) (k0_t3 : Fin k0_t3_loop.trips) (v423 : IVec S16 32) (v633 : IVec S16 32) (k0_hw213 : k0_chk213 i k0_t3 v423 v633), ∀ (k0_h1 : k0_cond1 i k0_t3 = 1#1), ∀ a x, ((![v423, v633] : Fin 2 → IVec S16 32) a x).toNat < S32x129.size a := fun i k0_t3 v423 v633 k0_hw213 k0_h1 => k0_hw213 k0_h1

def k0_chk214 (i : grid0.Coords) (k0_t3 : Fin k0_t3_loop.trips) (v428 : IVec S16 32) (v630 : IVec S16 32) (v631 : IVec S16 32) : Prop :=
  (∀ (k0_h1 : k0_cond1 i k0_t3 = 1#1), ∀ a x, ((![v630, v631, v428] : Fin 3 → IVec S16 32) a x).toNat < S8x8x1024.size a)
theorem k0_idx212_inb : ∀ (i : grid0.Coords) (k0_t3 : Fin k0_t3_loop.trips) (v428 : IVec S16 32) (v630 : IVec S16 32) (v631 : IVec S16 32) (k0_hw214 : k0_chk214 i k0_t3 v428 v630 v631), ∀ (k0_h1 : k0_cond1 i k0_t3 = 1#1), ∀ a x, ((![v630, v631, v428] : Fin 3 → IVec S16 32) a x).toNat < S8x8x1024.size a := fun i k0_t3 v428 v630 v631 k0_hw214 k0_h1 => k0_hw214 k0_h1

def k0_chk215 (i : grid0.Coords) (k0_t3 : Fin k0_t3_loop.trips) (v423 : IVec S16 32) (v638 : IVec S16 32) : Prop :=
  (∀ (k0_h1 : k0_cond1 i k0_t3 = 1#1), ∀ a x, ((![v423, v638] : Fin 2 → IVec S16 32) a x).toNat < S32x129.size a)
theorem k0_idx213_inb : ∀ (i : grid0.Coords) (k0_t3 : Fin k0_t3_loop.trips) (v423 : IVec S16 32) (v638 : IVec S16 32) (k0_hw215 : k0_chk215 i k0_t3 v423 v638), ∀ (k0_h1 : k0_cond1 i k0_t3 = 1#1), ∀ a x, ((![v423, v638] : Fin 2 → IVec S16 32) a x).toNat < S32x129.size a := fun i k0_t3 v423 v638 k0_hw215 k0_h1 => k0_hw215 k0_h1

def k0_chk216 (i : grid0.Coords) (k0_t3 : Fin k0_t3_loop.trips) (v428 : IVec S16 32) (v635 : IVec S16 32) (v636 : IVec S16 32) : Prop :=
  (∀ (k0_h1 : k0_cond1 i k0_t3 = 1#1), ∀ a x, ((![v635, v636, v428] : Fin 3 → IVec S16 32) a x).toNat < S8x8x1024.size a)
theorem k0_idx214_inb : ∀ (i : grid0.Coords) (k0_t3 : Fin k0_t3_loop.trips) (v428 : IVec S16 32) (v635 : IVec S16 32) (v636 : IVec S16 32) (k0_hw216 : k0_chk216 i k0_t3 v428 v635 v636), ∀ (k0_h1 : k0_cond1 i k0_t3 = 1#1), ∀ a x, ((![v635, v636, v428] : Fin 3 → IVec S16 32) a x).toNat < S8x8x1024.size a := fun i k0_t3 v428 v635 v636 k0_hw216 k0_h1 => k0_hw216 k0_h1

def k0_chk217 (i : grid0.Coords) (k0_t3 : Fin k0_t3_loop.trips) (v423 : IVec S16 32) (v643 : IVec S16 32) : Prop :=
  (∀ (k0_h1 : k0_cond1 i k0_t3 = 1#1), ∀ a x, ((![v423, v643] : Fin 2 → IVec S16 32) a x).toNat < S32x129.size a)
theorem k0_idx215_inb : ∀ (i : grid0.Coords) (k0_t3 : Fin k0_t3_loop.trips) (v423 : IVec S16 32) (v643 : IVec S16 32) (k0_hw217 : k0_chk217 i k0_t3 v423 v643), ∀ (k0_h1 : k0_cond1 i k0_t3 = 1#1), ∀ a x, ((![v423, v643] : Fin 2 → IVec S16 32) a x).toNat < S32x129.size a := fun i k0_t3 v423 v643 k0_hw217 k0_h1 => k0_hw217 k0_h1

def k0_chk218 (i : grid0.Coords) (k0_t3 : Fin k0_t3_loop.trips) (v428 : IVec S16 32) (v640 : IVec S16 32) (v641 : IVec S16 32) : Prop :=
  (∀ (k0_h1 : k0_cond1 i k0_t3 = 1#1), ∀ a x, ((![v640, v641, v428] : Fin 3 → IVec S16 32) a x).toNat < S8x8x1024.size a)
theorem k0_idx216_inb : ∀ (i : grid0.Coords) (k0_t3 : Fin k0_t3_loop.trips) (v428 : IVec S16 32) (v640 : IVec S16 32) (v641 : IVec S16 32) (k0_hw218 : k0_chk218 i k0_t3 v428 v640 v641), ∀ (k0_h1 : k0_cond1 i k0_t3 = 1#1), ∀ a x, ((![v640, v641, v428] : Fin 3 → IVec S16 32) a x).toNat < S8x8x1024.size a := fun i k0_t3 v428 v640 v641 k0_hw218 k0_h1 => k0_hw218 k0_h1

def k0_chk219 (i : grid0.Coords) (k0_t3 : Fin k0_t3_loop.trips) (v423 : IVec S16 32) (v648 : IVec S16 32) : Prop :=
  (∀ (k0_h1 : k0_cond1 i k0_t3 = 1#1), ∀ a x, ((![v423, v648] : Fin 2 → IVec S16 32) a x).toNat < S32x129.size a)
theorem k0_idx217_inb : ∀ (i : grid0.Coords) (k0_t3 : Fin k0_t3_loop.trips) (v423 : IVec S16 32) (v648 : IVec S16 32) (k0_hw219 : k0_chk219 i k0_t3 v423 v648), ∀ (k0_h1 : k0_cond1 i k0_t3 = 1#1), ∀ a x, ((![v423, v648] : Fin 2 → IVec S16 32) a x).toNat < S32x129.size a := fun i k0_t3 v423 v648 k0_hw219 k0_h1 => k0_hw219 k0_h1

def k0_chk220 (i : grid0.Coords) (k0_t3 : Fin k0_t3_loop.trips) (v428 : IVec S16 32) (v645 : IVec S16 32) (v646 : IVec S16 32) : Prop :=
  (∀ (k0_h1 : k0_cond1 i k0_t3 = 1#1), ∀ a x, ((![v645, v646, v428] : Fin 3 → IVec S16 32) a x).toNat < S8x8x1024.size a)
theorem k0_idx218_inb : ∀ (i : grid0.Coords) (k0_t3 : Fin k0_t3_loop.trips) (v428 : IVec S16 32) (v645 : IVec S16 32) (v646 : IVec S16 32) (k0_hw220 : k0_chk220 i k0_t3 v428 v645 v646), ∀ (k0_h1 : k0_cond1 i k0_t3 = 1#1), ∀ a x, ((![v645, v646, v428] : Fin 3 → IVec S16 32) a x).toNat < S8x8x1024.size a := fun i k0_t3 v428 v645 v646 k0_hw220 k0_h1 => k0_hw220 k0_h1

def k0_chk221 (i : grid0.Coords) (k0_t3 : Fin k0_t3_loop.trips) (v423 : IVec S16 32) (v653 : IVec S16 32) : Prop :=
  (∀ (k0_h1 : k0_cond1 i k0_t3 = 1#1), ∀ a x, ((![v423, v653] : Fin 2 → IVec S16 32) a x).toNat < S32x129.size a)
theorem k0_idx219_inb : ∀ (i : grid0.Coords) (k0_t3 : Fin k0_t3_loop.trips) (v423 : IVec S16 32) (v653 : IVec S16 32) (k0_hw221 : k0_chk221 i k0_t3 v423 v653), ∀ (k0_h1 : k0_cond1 i k0_t3 = 1#1), ∀ a x, ((![v423, v653] : Fin 2 → IVec S16 32) a x).toNat < S32x129.size a := fun i k0_t3 v423 v653 k0_hw221 k0_h1 => k0_hw221 k0_h1

def k0_chk222 (i : grid0.Coords) (k0_t3 : Fin k0_t3_loop.trips) (v428 : IVec S16 32) (v650 : IVec S16 32) (v651 : IVec S16 32) : Prop :=
  (∀ (k0_h1 : k0_cond1 i k0_t3 = 1#1), ∀ a x, ((![v650, v651, v428] : Fin 3 → IVec S16 32) a x).toNat < S8x8x1024.size a)
theorem k0_idx220_inb : ∀ (i : grid0.Coords) (k0_t3 : Fin k0_t3_loop.trips) (v428 : IVec S16 32) (v650 : IVec S16 32) (v651 : IVec S16 32) (k0_hw222 : k0_chk222 i k0_t3 v428 v650 v651), ∀ (k0_h1 : k0_cond1 i k0_t3 = 1#1), ∀ a x, ((![v650, v651, v428] : Fin 3 → IVec S16 32) a x).toNat < S8x8x1024.size a := fun i k0_t3 v428 v650 v651 k0_hw222 k0_h1 => k0_hw222 k0_h1

def k0_chk223 (i : grid0.Coords) (k0_t3 : Fin k0_t3_loop.trips) (v423 : IVec S16 32) (v658 : IVec S16 32) : Prop :=
  (∀ (k0_h1 : k0_cond1 i k0_t3 = 1#1), ∀ a x, ((![v423, v658] : Fin 2 → IVec S16 32) a x).toNat < S32x129.size a)
theorem k0_idx221_inb : ∀ (i : grid0.Coords) (k0_t3 : Fin k0_t3_loop.trips) (v423 : IVec S16 32) (v658 : IVec S16 32) (k0_hw223 : k0_chk223 i k0_t3 v423 v658), ∀ (k0_h1 : k0_cond1 i k0_t3 = 1#1), ∀ a x, ((![v423, v658] : Fin 2 → IVec S16 32) a x).toNat < S32x129.size a := fun i k0_t3 v423 v658 k0_hw223 k0_h1 => k0_hw223 k0_h1

def k0_chk224 (i : grid0.Coords) (k0_t3 : Fin k0_t3_loop.trips) (v428 : IVec S16 32) (v655 : IVec S16 32) (v656 : IVec S16 32) : Prop :=
  (∀ (k0_h1 : k0_cond1 i k0_t3 = 1#1), ∀ a x, ((![v655, v656, v428] : Fin 3 → IVec S16 32) a x).toNat < S8x8x1024.size a)
theorem k0_idx222_inb : ∀ (i : grid0.Coords) (k0_t3 : Fin k0_t3_loop.trips) (v428 : IVec S16 32) (v655 : IVec S16 32) (v656 : IVec S16 32) (k0_hw224 : k0_chk224 i k0_t3 v428 v655 v656), ∀ (k0_h1 : k0_cond1 i k0_t3 = 1#1), ∀ a x, ((![v655, v656, v428] : Fin 3 → IVec S16 32) a x).toNat < S8x8x1024.size a := fun i k0_t3 v428 v655 v656 k0_hw224 k0_h1 => k0_hw224 k0_h1

def k0_chk225 (i : grid0.Coords) (k0_t3 : Fin k0_t3_loop.trips) (v423 : IVec S16 32) (v663 : IVec S16 32) : Prop :=
  (∀ (k0_h1 : k0_cond1 i k0_t3 = 1#1), ∀ a x, ((![v423, v663] : Fin 2 → IVec S16 32) a x).toNat < S32x129.size a)
theorem k0_idx223_inb : ∀ (i : grid0.Coords) (k0_t3 : Fin k0_t3_loop.trips) (v423 : IVec S16 32) (v663 : IVec S16 32) (k0_hw225 : k0_chk225 i k0_t3 v423 v663), ∀ (k0_h1 : k0_cond1 i k0_t3 = 1#1), ∀ a x, ((![v423, v663] : Fin 2 → IVec S16 32) a x).toNat < S32x129.size a := fun i k0_t3 v423 v663 k0_hw225 k0_h1 => k0_hw225 k0_h1

def k0_chk226 (i : grid0.Coords) (k0_t3 : Fin k0_t3_loop.trips) (v428 : IVec S16 32) (v660 : IVec S16 32) (v661 : IVec S16 32) : Prop :=
  (∀ (k0_h1 : k0_cond1 i k0_t3 = 1#1), ∀ a x, ((![v660, v661, v428] : Fin 3 → IVec S16 32) a x).toNat < S8x8x1024.size a)
theorem k0_idx224_inb : ∀ (i : grid0.Coords) (k0_t3 : Fin k0_t3_loop.trips) (v428 : IVec S16 32) (v660 : IVec S16 32) (v661 : IVec S16 32) (k0_hw226 : k0_chk226 i k0_t3 v428 v660 v661), ∀ (k0_h1 : k0_cond1 i k0_t3 = 1#1), ∀ a x, ((![v660, v661, v428] : Fin 3 → IVec S16 32) a x).toNat < S8x8x1024.size a := fun i k0_t3 v428 v660 v661 k0_hw226 k0_h1 => k0_hw226 k0_h1

def k0_chk227 (i : grid0.Coords) (k0_t3 : Fin k0_t3_loop.trips) (v423 : IVec S16 32) (v668 : IVec S16 32) : Prop :=
  (∀ (k0_h1 : k0_cond1 i k0_t3 = 1#1), ∀ a x, ((![v423, v668] : Fin 2 → IVec S16 32) a x).toNat < S32x129.size a)
theorem k0_idx225_inb : ∀ (i : grid0.Coords) (k0_t3 : Fin k0_t3_loop.trips) (v423 : IVec S16 32) (v668 : IVec S16 32) (k0_hw227 : k0_chk227 i k0_t3 v423 v668), ∀ (k0_h1 : k0_cond1 i k0_t3 = 1#1), ∀ a x, ((![v423, v668] : Fin 2 → IVec S16 32) a x).toNat < S32x129.size a := fun i k0_t3 v423 v668 k0_hw227 k0_h1 => k0_hw227 k0_h1

def k0_chk228 (i : grid0.Coords) (k0_t3 : Fin k0_t3_loop.trips) (v428 : IVec S16 32) (v665 : IVec S16 32) (v666 : IVec S16 32) : Prop :=
  (∀ (k0_h1 : k0_cond1 i k0_t3 = 1#1), ∀ a x, ((![v665, v666, v428] : Fin 3 → IVec S16 32) a x).toNat < S8x8x1024.size a)
theorem k0_idx226_inb : ∀ (i : grid0.Coords) (k0_t3 : Fin k0_t3_loop.trips) (v428 : IVec S16 32) (v665 : IVec S16 32) (v666 : IVec S16 32) (k0_hw228 : k0_chk228 i k0_t3 v428 v665 v666), ∀ (k0_h1 : k0_cond1 i k0_t3 = 1#1), ∀ a x, ((![v665, v666, v428] : Fin 3 → IVec S16 32) a x).toNat < S8x8x1024.size a := fun i k0_t3 v428 v665 v666 k0_hw228 k0_h1 => k0_hw228 k0_h1

def k0_chk229 (i : grid0.Coords) (k0_t3 : Fin k0_t3_loop.trips) (v423 : IVec S16 32) (v673 : IVec S16 32) : Prop :=
  (∀ (k0_h1 : k0_cond1 i k0_t3 = 1#1), ∀ a x, ((![v423, v673] : Fin 2 → IVec S16 32) a x).toNat < S32x129.size a)
theorem k0_idx227_inb : ∀ (i : grid0.Coords) (k0_t3 : Fin k0_t3_loop.trips) (v423 : IVec S16 32) (v673 : IVec S16 32) (k0_hw229 : k0_chk229 i k0_t3 v423 v673), ∀ (k0_h1 : k0_cond1 i k0_t3 = 1#1), ∀ a x, ((![v423, v673] : Fin 2 → IVec S16 32) a x).toNat < S32x129.size a := fun i k0_t3 v423 v673 k0_hw229 k0_h1 => k0_hw229 k0_h1

def k0_chk230 (i : grid0.Coords) (k0_t3 : Fin k0_t3_loop.trips) (v428 : IVec S16 32) (v670 : IVec S16 32) (v671 : IVec S16 32) : Prop :=
  (∀ (k0_h1 : k0_cond1 i k0_t3 = 1#1), ∀ a x, ((![v670, v671, v428] : Fin 3 → IVec S16 32) a x).toNat < S8x8x1024.size a)
theorem k0_idx228_inb : ∀ (i : grid0.Coords) (k0_t3 : Fin k0_t3_loop.trips) (v428 : IVec S16 32) (v670 : IVec S16 32) (v671 : IVec S16 32) (k0_hw230 : k0_chk230 i k0_t3 v428 v670 v671), ∀ (k0_h1 : k0_cond1 i k0_t3 = 1#1), ∀ a x, ((![v670, v671, v428] : Fin 3 → IVec S16 32) a x).toNat < S8x8x1024.size a := fun i k0_t3 v428 v670 v671 k0_hw230 k0_h1 => k0_hw230 k0_h1

def k0_chk231 (i : grid0.Coords) (k0_t3 : Fin k0_t3_loop.trips) (v423 : IVec S16 32) (v678 : IVec S16 32) : Prop :=
  (∀ (k0_h1 : k0_cond1 i k0_t3 = 1#1), ∀ a x, ((![v423, v678] : Fin 2 → IVec S16 32) a x).toNat < S32x129.size a)
theorem k0_idx229_inb : ∀ (i : grid0.Coords) (k0_t3 : Fin k0_t3_loop.trips) (v423 : IVec S16 32) (v678 : IVec S16 32) (k0_hw231 : k0_chk231 i k0_t3 v423 v678), ∀ (k0_h1 : k0_cond1 i k0_t3 = 1#1), ∀ a x, ((![v423, v678] : Fin 2 → IVec S16 32) a x).toNat < S32x129.size a := fun i k0_t3 v423 v678 k0_hw231 k0_h1 => k0_hw231 k0_h1

def k0_chk232 (i : grid0.Coords) (k0_t3 : Fin k0_t3_loop.trips) (v428 : IVec S16 32) (v675 : IVec S16 32) (v676 : IVec S16 32) : Prop :=
  (∀ (k0_h1 : k0_cond1 i k0_t3 = 1#1), ∀ a x, ((![v675, v676, v428] : Fin 3 → IVec S16 32) a x).toNat < S8x8x1024.size a)
theorem k0_idx230_inb : ∀ (i : grid0.Coords) (k0_t3 : Fin k0_t3_loop.trips) (v428 : IVec S16 32) (v675 : IVec S16 32) (v676 : IVec S16 32) (k0_hw232 : k0_chk232 i k0_t3 v428 v675 v676), ∀ (k0_h1 : k0_cond1 i k0_t3 = 1#1), ∀ a x, ((![v675, v676, v428] : Fin 3 → IVec S16 32) a x).toNat < S8x8x1024.size a := fun i k0_t3 v428 v675 v676 k0_hw232 k0_h1 => k0_hw232 k0_h1

def k0_chk233 (i : grid0.Coords) (k0_t3 : Fin k0_t3_loop.trips) (v423 : IVec S16 32) (v683 : IVec S16 32) : Prop :=
  (∀ (k0_h1 : k0_cond1 i k0_t3 = 1#1), ∀ a x, ((![v423, v683] : Fin 2 → IVec S16 32) a x).toNat < S32x129.size a)
theorem k0_idx231_inb : ∀ (i : grid0.Coords) (k0_t3 : Fin k0_t3_loop.trips) (v423 : IVec S16 32) (v683 : IVec S16 32) (k0_hw233 : k0_chk233 i k0_t3 v423 v683), ∀ (k0_h1 : k0_cond1 i k0_t3 = 1#1), ∀ a x, ((![v423, v683] : Fin 2 → IVec S16 32) a x).toNat < S32x129.size a := fun i k0_t3 v423 v683 k0_hw233 k0_h1 => k0_hw233 k0_h1

def k0_chk234 (i : grid0.Coords) (k0_t3 : Fin k0_t3_loop.trips) (v428 : IVec S16 32) (v680 : IVec S16 32) (v681 : IVec S16 32) : Prop :=
  (∀ (k0_h1 : k0_cond1 i k0_t3 = 1#1), ∀ a x, ((![v680, v681, v428] : Fin 3 → IVec S16 32) a x).toNat < S8x8x1024.size a)
theorem k0_idx232_inb : ∀ (i : grid0.Coords) (k0_t3 : Fin k0_t3_loop.trips) (v428 : IVec S16 32) (v680 : IVec S16 32) (v681 : IVec S16 32) (k0_hw234 : k0_chk234 i k0_t3 v428 v680 v681), ∀ (k0_h1 : k0_cond1 i k0_t3 = 1#1), ∀ a x, ((![v680, v681, v428] : Fin 3 → IVec S16 32) a x).toNat < S8x8x1024.size a := fun i k0_t3 v428 v680 v681 k0_hw234 k0_h1 => k0_hw234 k0_h1

def k0_chk235 (i : grid0.Coords) (k0_t3 : Fin k0_t3_loop.trips) (v423 : IVec S16 32) (v688 : IVec S16 32) : Prop :=
  (∀ (k0_h1 : k0_cond1 i k0_t3 = 1#1), ∀ a x, ((![v423, v688] : Fin 2 → IVec S16 32) a x).toNat < S32x129.size a)
theorem k0_idx233_inb : ∀ (i : grid0.Coords) (k0_t3 : Fin k0_t3_loop.trips) (v423 : IVec S16 32) (v688 : IVec S16 32) (k0_hw235 : k0_chk235 i k0_t3 v423 v688), ∀ (k0_h1 : k0_cond1 i k0_t3 = 1#1), ∀ a x, ((![v423, v688] : Fin 2 → IVec S16 32) a x).toNat < S32x129.size a := fun i k0_t3 v423 v688 k0_hw235 k0_h1 => k0_hw235 k0_h1

def k0_chk236 (i : grid0.Coords) (k0_t3 : Fin k0_t3_loop.trips) (v428 : IVec S16 32) (v685 : IVec S16 32) (v686 : IVec S16 32) : Prop :=
  (∀ (k0_h1 : k0_cond1 i k0_t3 = 1#1), ∀ a x, ((![v685, v686, v428] : Fin 3 → IVec S16 32) a x).toNat < S8x8x1024.size a)
theorem k0_idx234_inb : ∀ (i : grid0.Coords) (k0_t3 : Fin k0_t3_loop.trips) (v428 : IVec S16 32) (v685 : IVec S16 32) (v686 : IVec S16 32) (k0_hw236 : k0_chk236 i k0_t3 v428 v685 v686), ∀ (k0_h1 : k0_cond1 i k0_t3 = 1#1), ∀ a x, ((![v685, v686, v428] : Fin 3 → IVec S16 32) a x).toNat < S8x8x1024.size a := fun i k0_t3 v428 v685 v686 k0_hw236 k0_h1 => k0_hw236 k0_h1

def k0_chk237 (i : grid0.Coords) (k0_t3 : Fin k0_t3_loop.trips) (v423 : IVec S16 32) (v693 : IVec S16 32) : Prop :=
  (∀ (k0_h1 : k0_cond1 i k0_t3 = 1#1), ∀ a x, ((![v423, v693] : Fin 2 → IVec S16 32) a x).toNat < S32x129.size a)
theorem k0_idx235_inb : ∀ (i : grid0.Coords) (k0_t3 : Fin k0_t3_loop.trips) (v423 : IVec S16 32) (v693 : IVec S16 32) (k0_hw237 : k0_chk237 i k0_t3 v423 v693), ∀ (k0_h1 : k0_cond1 i k0_t3 = 1#1), ∀ a x, ((![v423, v693] : Fin 2 → IVec S16 32) a x).toNat < S32x129.size a := fun i k0_t3 v423 v693 k0_hw237 k0_h1 => k0_hw237 k0_h1

def k0_chk238 (i : grid0.Coords) (k0_t3 : Fin k0_t3_loop.trips) (v428 : IVec S16 32) (v690 : IVec S16 32) (v691 : IVec S16 32) : Prop :=
  (∀ (k0_h1 : k0_cond1 i k0_t3 = 1#1), ∀ a x, ((![v690, v691, v428] : Fin 3 → IVec S16 32) a x).toNat < S8x8x1024.size a)
theorem k0_idx236_inb : ∀ (i : grid0.Coords) (k0_t3 : Fin k0_t3_loop.trips) (v428 : IVec S16 32) (v690 : IVec S16 32) (v691 : IVec S16 32) (k0_hw238 : k0_chk238 i k0_t3 v428 v690 v691), ∀ (k0_h1 : k0_cond1 i k0_t3 = 1#1), ∀ a x, ((![v690, v691, v428] : Fin 3 → IVec S16 32) a x).toNat < S8x8x1024.size a := fun i k0_t3 v428 v690 v691 k0_hw238 k0_h1 => k0_hw238 k0_h1

def k0_chk239 (i : grid0.Coords) (k0_t3 : Fin k0_t3_loop.trips) (v423 : IVec S16 32) (v698 : IVec S16 32) : Prop :=
  (∀ (k0_h1 : k0_cond1 i k0_t3 = 1#1), ∀ a x, ((![v423, v698] : Fin 2 → IVec S16 32) a x).toNat < S32x129.size a)
theorem k0_idx237_inb : ∀ (i : grid0.Coords) (k0_t3 : Fin k0_t3_loop.trips) (v423 : IVec S16 32) (v698 : IVec S16 32) (k0_hw239 : k0_chk239 i k0_t3 v423 v698), ∀ (k0_h1 : k0_cond1 i k0_t3 = 1#1), ∀ a x, ((![v423, v698] : Fin 2 → IVec S16 32) a x).toNat < S32x129.size a := fun i k0_t3 v423 v698 k0_hw239 k0_h1 => k0_hw239 k0_h1

def k0_chk240 (i : grid0.Coords) (k0_t3 : Fin k0_t3_loop.trips) (v428 : IVec S16 32) (v695 : IVec S16 32) (v696 : IVec S16 32) : Prop :=
  (∀ (k0_h1 : k0_cond1 i k0_t3 = 1#1), ∀ a x, ((![v695, v696, v428] : Fin 3 → IVec S16 32) a x).toNat < S8x8x1024.size a)
theorem k0_idx238_inb : ∀ (i : grid0.Coords) (k0_t3 : Fin k0_t3_loop.trips) (v428 : IVec S16 32) (v695 : IVec S16 32) (v696 : IVec S16 32) (k0_hw240 : k0_chk240 i k0_t3 v428 v695 v696), ∀ (k0_h1 : k0_cond1 i k0_t3 = 1#1), ∀ a x, ((![v695, v696, v428] : Fin 3 → IVec S16 32) a x).toNat < S8x8x1024.size a := fun i k0_t3 v428 v695 v696 k0_hw240 k0_h1 => k0_hw240 k0_h1

def k0_chk241 (i : grid0.Coords) (k0_t3 : Fin k0_t3_loop.trips) (v423 : IVec S16 32) (v703 : IVec S16 32) : Prop :=
  (∀ (k0_h1 : k0_cond1 i k0_t3 = 1#1), ∀ a x, ((![v423, v703] : Fin 2 → IVec S16 32) a x).toNat < S32x129.size a)
theorem k0_idx239_inb : ∀ (i : grid0.Coords) (k0_t3 : Fin k0_t3_loop.trips) (v423 : IVec S16 32) (v703 : IVec S16 32) (k0_hw241 : k0_chk241 i k0_t3 v423 v703), ∀ (k0_h1 : k0_cond1 i k0_t3 = 1#1), ∀ a x, ((![v423, v703] : Fin 2 → IVec S16 32) a x).toNat < S32x129.size a := fun i k0_t3 v423 v703 k0_hw241 k0_h1 => k0_hw241 k0_h1

def k0_chk242 (i : grid0.Coords) (k0_t3 : Fin k0_t3_loop.trips) (v428 : IVec S16 32) (v700 : IVec S16 32) (v701 : IVec S16 32) : Prop :=
  (∀ (k0_h1 : k0_cond1 i k0_t3 = 1#1), ∀ a x, ((![v700, v701, v428] : Fin 3 → IVec S16 32) a x).toNat < S8x8x1024.size a)
theorem k0_idx240_inb : ∀ (i : grid0.Coords) (k0_t3 : Fin k0_t3_loop.trips) (v428 : IVec S16 32) (v700 : IVec S16 32) (v701 : IVec S16 32) (k0_hw242 : k0_chk242 i k0_t3 v428 v700 v701), ∀ (k0_h1 : k0_cond1 i k0_t3 = 1#1), ∀ a x, ((![v700, v701, v428] : Fin 3 → IVec S16 32) a x).toNat < S8x8x1024.size a := fun i k0_t3 v428 v700 v701 k0_hw242 k0_h1 => k0_hw242 k0_h1

def k0_chk243 (i : grid0.Coords) (k0_t3 : Fin k0_t3_loop.trips) (v423 : IVec S16 32) (v708 : IVec S16 32) : Prop :=
  (∀ (k0_h1 : k0_cond1 i k0_t3 = 1#1), ∀ a x, ((![v423, v708] : Fin 2 → IVec S16 32) a x).toNat < S32x129.size a)
theorem k0_idx241_inb : ∀ (i : grid0.Coords) (k0_t3 : Fin k0_t3_loop.trips) (v423 : IVec S16 32) (v708 : IVec S16 32) (k0_hw243 : k0_chk243 i k0_t3 v423 v708), ∀ (k0_h1 : k0_cond1 i k0_t3 = 1#1), ∀ a x, ((![v423, v708] : Fin 2 → IVec S16 32) a x).toNat < S32x129.size a := fun i k0_t3 v423 v708 k0_hw243 k0_h1 => k0_hw243 k0_h1

def k0_chk244 (i : grid0.Coords) (k0_t3 : Fin k0_t3_loop.trips) (v428 : IVec S16 32) (v705 : IVec S16 32) (v706 : IVec S16 32) : Prop :=
  (∀ (k0_h1 : k0_cond1 i k0_t3 = 1#1), ∀ a x, ((![v705, v706, v428] : Fin 3 → IVec S16 32) a x).toNat < S8x8x1024.size a)
theorem k0_idx242_inb : ∀ (i : grid0.Coords) (k0_t3 : Fin k0_t3_loop.trips) (v428 : IVec S16 32) (v705 : IVec S16 32) (v706 : IVec S16 32) (k0_hw244 : k0_chk244 i k0_t3 v428 v705 v706), ∀ (k0_h1 : k0_cond1 i k0_t3 = 1#1), ∀ a x, ((![v705, v706, v428] : Fin 3 → IVec S16 32) a x).toNat < S8x8x1024.size a := fun i k0_t3 v428 v705 v706 k0_hw244 k0_h1 => k0_hw244 k0_h1

def k0_chk245 (i : grid0.Coords) (k0_t3 : Fin k0_t3_loop.trips) (v423 : IVec S16 32) (v713 : IVec S16 32) : Prop :=
  (∀ (k0_h1 : k0_cond1 i k0_t3 = 1#1), ∀ a x, ((![v423, v713] : Fin 2 → IVec S16 32) a x).toNat < S32x129.size a)
theorem k0_idx243_inb : ∀ (i : grid0.Coords) (k0_t3 : Fin k0_t3_loop.trips) (v423 : IVec S16 32) (v713 : IVec S16 32) (k0_hw245 : k0_chk245 i k0_t3 v423 v713), ∀ (k0_h1 : k0_cond1 i k0_t3 = 1#1), ∀ a x, ((![v423, v713] : Fin 2 → IVec S16 32) a x).toNat < S32x129.size a := fun i k0_t3 v423 v713 k0_hw245 k0_h1 => k0_hw245 k0_h1

def k0_chk246 (i : grid0.Coords) (k0_t3 : Fin k0_t3_loop.trips) (v428 : IVec S16 32) (v710 : IVec S16 32) (v711 : IVec S16 32) : Prop :=
  (∀ (k0_h1 : k0_cond1 i k0_t3 = 1#1), ∀ a x, ((![v710, v711, v428] : Fin 3 → IVec S16 32) a x).toNat < S8x8x1024.size a)
theorem k0_idx244_inb : ∀ (i : grid0.Coords) (k0_t3 : Fin k0_t3_loop.trips) (v428 : IVec S16 32) (v710 : IVec S16 32) (v711 : IVec S16 32) (k0_hw246 : k0_chk246 i k0_t3 v428 v710 v711), ∀ (k0_h1 : k0_cond1 i k0_t3 = 1#1), ∀ a x, ((![v710, v711, v428] : Fin 3 → IVec S16 32) a x).toNat < S8x8x1024.size a := fun i k0_t3 v428 v710 v711 k0_hw246 k0_h1 => k0_hw246 k0_h1

def k0_chk247 (i : grid0.Coords) (k0_t3 : Fin k0_t3_loop.trips) (v423 : IVec S16 32) (v718 : IVec S16 32) : Prop :=
  (∀ (k0_h1 : k0_cond1 i k0_t3 = 1#1), ∀ a x, ((![v423, v718] : Fin 2 → IVec S16 32) a x).toNat < S32x129.size a)
theorem k0_idx245_inb : ∀ (i : grid0.Coords) (k0_t3 : Fin k0_t3_loop.trips) (v423 : IVec S16 32) (v718 : IVec S16 32) (k0_hw247 : k0_chk247 i k0_t3 v423 v718), ∀ (k0_h1 : k0_cond1 i k0_t3 = 1#1), ∀ a x, ((![v423, v718] : Fin 2 → IVec S16 32) a x).toNat < S32x129.size a := fun i k0_t3 v423 v718 k0_hw247 k0_h1 => k0_hw247 k0_h1

def k0_chk248 (i : grid0.Coords) (k0_t3 : Fin k0_t3_loop.trips) (v428 : IVec S16 32) (v715 : IVec S16 32) (v716 : IVec S16 32) : Prop :=
  (∀ (k0_h1 : k0_cond1 i k0_t3 = 1#1), ∀ a x, ((![v715, v716, v428] : Fin 3 → IVec S16 32) a x).toNat < S8x8x1024.size a)
theorem k0_idx246_inb : ∀ (i : grid0.Coords) (k0_t3 : Fin k0_t3_loop.trips) (v428 : IVec S16 32) (v715 : IVec S16 32) (v716 : IVec S16 32) (k0_hw248 : k0_chk248 i k0_t3 v428 v715 v716), ∀ (k0_h1 : k0_cond1 i k0_t3 = 1#1), ∀ a x, ((![v715, v716, v428] : Fin 3 → IVec S16 32) a x).toNat < S8x8x1024.size a := fun i k0_t3 v428 v715 v716 k0_hw248 k0_h1 => k0_hw248 k0_h1

def k0_chk249 (i : grid0.Coords) (k0_t3 : Fin k0_t3_loop.trips) (v423 : IVec S16 32) (v723 : IVec S16 32) : Prop :=
  (∀ (k0_h1 : k0_cond1 i k0_t3 = 1#1), ∀ a x, ((![v423, v723] : Fin 2 → IVec S16 32) a x).toNat < S32x129.size a)
theorem k0_idx247_inb : ∀ (i : grid0.Coords) (k0_t3 : Fin k0_t3_loop.trips) (v423 : IVec S16 32) (v723 : IVec S16 32) (k0_hw249 : k0_chk249 i k0_t3 v423 v723), ∀ (k0_h1 : k0_cond1 i k0_t3 = 1#1), ∀ a x, ((![v423, v723] : Fin 2 → IVec S16 32) a x).toNat < S32x129.size a := fun i k0_t3 v423 v723 k0_hw249 k0_h1 => k0_hw249 k0_h1

def k0_chk250 (i : grid0.Coords) (k0_t3 : Fin k0_t3_loop.trips) (v428 : IVec S16 32) (v720 : IVec S16 32) (v721 : IVec S16 32) : Prop :=
  (∀ (k0_h1 : k0_cond1 i k0_t3 = 1#1), ∀ a x, ((![v720, v721, v428] : Fin 3 → IVec S16 32) a x).toNat < S8x8x1024.size a)
theorem k0_idx248_inb : ∀ (i : grid0.Coords) (k0_t3 : Fin k0_t3_loop.trips) (v428 : IVec S16 32) (v720 : IVec S16 32) (v721 : IVec S16 32) (k0_hw250 : k0_chk250 i k0_t3 v428 v720 v721), ∀ (k0_h1 : k0_cond1 i k0_t3 = 1#1), ∀ a x, ((![v720, v721, v428] : Fin 3 → IVec S16 32) a x).toNat < S8x8x1024.size a := fun i k0_t3 v428 v720 v721 k0_hw250 k0_h1 => k0_hw250 k0_h1

def k0_chk251 (i : grid0.Coords) (k0_t3 : Fin k0_t3_loop.trips) (v423 : IVec S16 32) (v728 : IVec S16 32) : Prop :=
  (∀ (k0_h1 : k0_cond1 i k0_t3 = 1#1), ∀ a x, ((![v423, v728] : Fin 2 → IVec S16 32) a x).toNat < S32x129.size a)
theorem k0_idx249_inb : ∀ (i : grid0.Coords) (k0_t3 : Fin k0_t3_loop.trips) (v423 : IVec S16 32) (v728 : IVec S16 32) (k0_hw251 : k0_chk251 i k0_t3 v423 v728), ∀ (k0_h1 : k0_cond1 i k0_t3 = 1#1), ∀ a x, ((![v423, v728] : Fin 2 → IVec S16 32) a x).toNat < S32x129.size a := fun i k0_t3 v423 v728 k0_hw251 k0_h1 => k0_hw251 k0_h1

def k0_chk252 (i : grid0.Coords) (k0_t3 : Fin k0_t3_loop.trips) (v428 : IVec S16 32) (v725 : IVec S16 32) (v726 : IVec S16 32) : Prop :=
  (∀ (k0_h1 : k0_cond1 i k0_t3 = 1#1), ∀ a x, ((![v725, v726, v428] : Fin 3 → IVec S16 32) a x).toNat < S8x8x1024.size a)
theorem k0_idx250_inb : ∀ (i : grid0.Coords) (k0_t3 : Fin k0_t3_loop.trips) (v428 : IVec S16 32) (v725 : IVec S16 32) (v726 : IVec S16 32) (k0_hw252 : k0_chk252 i k0_t3 v428 v725 v726), ∀ (k0_h1 : k0_cond1 i k0_t3 = 1#1), ∀ a x, ((![v725, v726, v428] : Fin 3 → IVec S16 32) a x).toNat < S8x8x1024.size a := fun i k0_t3 v428 v725 v726 k0_hw252 k0_h1 => k0_hw252 k0_h1

def k0_chk253 (i : grid0.Coords) (k0_t3 : Fin k0_t3_loop.trips) (v423 : IVec S16 32) (v733 : IVec S16 32) : Prop :=
  (∀ (k0_h1 : k0_cond1 i k0_t3 = 1#1), ∀ a x, ((![v423, v733] : Fin 2 → IVec S16 32) a x).toNat < S32x129.size a)
theorem k0_idx251_inb : ∀ (i : grid0.Coords) (k0_t3 : Fin k0_t3_loop.trips) (v423 : IVec S16 32) (v733 : IVec S16 32) (k0_hw253 : k0_chk253 i k0_t3 v423 v733), ∀ (k0_h1 : k0_cond1 i k0_t3 = 1#1), ∀ a x, ((![v423, v733] : Fin 2 → IVec S16 32) a x).toNat < S32x129.size a := fun i k0_t3 v423 v733 k0_hw253 k0_h1 => k0_hw253 k0_h1

def k0_chk254 (i : grid0.Coords) (k0_t3 : Fin k0_t3_loop.trips) (v428 : IVec S16 32) (v730 : IVec S16 32) (v731 : IVec S16 32) : Prop :=
  (∀ (k0_h1 : k0_cond1 i k0_t3 = 1#1), ∀ a x, ((![v730, v731, v428] : Fin 3 → IVec S16 32) a x).toNat < S8x8x1024.size a)
theorem k0_idx252_inb : ∀ (i : grid0.Coords) (k0_t3 : Fin k0_t3_loop.trips) (v428 : IVec S16 32) (v730 : IVec S16 32) (v731 : IVec S16 32) (k0_hw254 : k0_chk254 i k0_t3 v428 v730 v731), ∀ (k0_h1 : k0_cond1 i k0_t3 = 1#1), ∀ a x, ((![v730, v731, v428] : Fin 3 → IVec S16 32) a x).toNat < S8x8x1024.size a := fun i k0_t3 v428 v730 v731 k0_hw254 k0_h1 => k0_hw254 k0_h1

def k0_chk255 (i : grid0.Coords) (k0_t3 : Fin k0_t3_loop.trips) (v423 : IVec S16 32) (v738 : IVec S16 32) : Prop :=
  (∀ (k0_h1 : k0_cond1 i k0_t3 = 1#1), ∀ a x, ((![v423, v738] : Fin 2 → IVec S16 32) a x).toNat < S32x129.size a)
theorem k0_idx253_inb : ∀ (i : grid0.Coords) (k0_t3 : Fin k0_t3_loop.trips) (v423 : IVec S16 32) (v738 : IVec S16 32) (k0_hw255 : k0_chk255 i k0_t3 v423 v738), ∀ (k0_h1 : k0_cond1 i k0_t3 = 1#1), ∀ a x, ((![v423, v738] : Fin 2 → IVec S16 32) a x).toNat < S32x129.size a := fun i k0_t3 v423 v738 k0_hw255 k0_h1 => k0_hw255 k0_h1

def k0_chk256 (i : grid0.Coords) (k0_t3 : Fin k0_t3_loop.trips) (v428 : IVec S16 32) (v735 : IVec S16 32) (v736 : IVec S16 32) : Prop :=
  (∀ (k0_h1 : k0_cond1 i k0_t3 = 1#1), ∀ a x, ((![v735, v736, v428] : Fin 3 → IVec S16 32) a x).toNat < S8x8x1024.size a)
theorem k0_idx254_inb : ∀ (i : grid0.Coords) (k0_t3 : Fin k0_t3_loop.trips) (v428 : IVec S16 32) (v735 : IVec S16 32) (v736 : IVec S16 32) (k0_hw256 : k0_chk256 i k0_t3 v428 v735 v736), ∀ (k0_h1 : k0_cond1 i k0_t3 = 1#1), ∀ a x, ((![v735, v736, v428] : Fin 3 → IVec S16 32) a x).toNat < S8x8x1024.size a := fun i k0_t3 v428 v735 v736 k0_hw256 k0_h1 => k0_hw256 k0_h1

def k0_chk257 (i : grid0.Coords) (k0_t3 : Fin k0_t3_loop.trips) (v423 : IVec S16 32) (v743 : IVec S16 32) : Prop :=
  (∀ (k0_h1 : k0_cond1 i k0_t3 = 1#1), ∀ a x, ((![v423, v743] : Fin 2 → IVec S16 32) a x).toNat < S32x129.size a)
theorem k0_idx255_inb : ∀ (i : grid0.Coords) (k0_t3 : Fin k0_t3_loop.trips) (v423 : IVec S16 32) (v743 : IVec S16 32) (k0_hw257 : k0_chk257 i k0_t3 v423 v743), ∀ (k0_h1 : k0_cond1 i k0_t3 = 1#1), ∀ a x, ((![v423, v743] : Fin 2 → IVec S16 32) a x).toNat < S32x129.size a := fun i k0_t3 v423 v743 k0_hw257 k0_h1 => k0_hw257 k0_h1

def k0_chk258 (i : grid0.Coords) (k0_t3 : Fin k0_t3_loop.trips) (v428 : IVec S16 32) (v740 : IVec S16 32) (v741 : IVec S16 32) : Prop :=
  (∀ (k0_h1 : k0_cond1 i k0_t3 = 1#1), ∀ a x, ((![v740, v741, v428] : Fin 3 → IVec S16 32) a x).toNat < S8x8x1024.size a)
theorem k0_idx256_inb : ∀ (i : grid0.Coords) (k0_t3 : Fin k0_t3_loop.trips) (v428 : IVec S16 32) (v740 : IVec S16 32) (v741 : IVec S16 32) (k0_hw258 : k0_chk258 i k0_t3 v428 v740 v741), ∀ (k0_h1 : k0_cond1 i k0_t3 = 1#1), ∀ a x, ((![v740, v741, v428] : Fin 3 → IVec S16 32) a x).toNat < S8x8x1024.size a := fun i k0_t3 v428 v740 v741 k0_hw258 k0_h1 => k0_hw258 k0_h1

def k0_chk259 (i : grid0.Coords) (k0_t3 : Fin k0_t3_loop.trips) (v423 : IVec S16 32) (v748 : IVec S16 32) : Prop :=
  (∀ (k0_h1 : k0_cond1 i k0_t3 = 1#1), ∀ a x, ((![v423, v748] : Fin 2 → IVec S16 32) a x).toNat < S32x129.size a)
theorem k0_idx257_inb : ∀ (i : grid0.Coords) (k0_t3 : Fin k0_t3_loop.trips) (v423 : IVec S16 32) (v748 : IVec S16 32) (k0_hw259 : k0_chk259 i k0_t3 v423 v748), ∀ (k0_h1 : k0_cond1 i k0_t3 = 1#1), ∀ a x, ((![v423, v748] : Fin 2 → IVec S16 32) a x).toNat < S32x129.size a := fun i k0_t3 v423 v748 k0_hw259 k0_h1 => k0_hw259 k0_h1

def k0_chk260 (i : grid0.Coords) (k0_t3 : Fin k0_t3_loop.trips) (v428 : IVec S16 32) (v745 : IVec S16 32) (v746 : IVec S16 32) : Prop :=
  (∀ (k0_h1 : k0_cond1 i k0_t3 = 1#1), ∀ a x, ((![v745, v746, v428] : Fin 3 → IVec S16 32) a x).toNat < S8x8x1024.size a)
theorem k0_idx258_inb : ∀ (i : grid0.Coords) (k0_t3 : Fin k0_t3_loop.trips) (v428 : IVec S16 32) (v745 : IVec S16 32) (v746 : IVec S16 32) (k0_hw260 : k0_chk260 i k0_t3 v428 v745 v746), ∀ (k0_h1 : k0_cond1 i k0_t3 = 1#1), ∀ a x, ((![v745, v746, v428] : Fin 3 → IVec S16 32) a x).toNat < S8x8x1024.size a := fun i k0_t3 v428 v745 v746 k0_hw260 k0_h1 => k0_hw260 k0_h1

def k0_chk261 (i : grid0.Coords) (k0_t3 : Fin k0_t3_loop.trips) (v423 : IVec S16 32) (v753 : IVec S16 32) : Prop :=
  (∀ (k0_h1 : k0_cond1 i k0_t3 = 1#1), ∀ a x, ((![v423, v753] : Fin 2 → IVec S16 32) a x).toNat < S32x129.size a)
theorem k0_idx259_inb : ∀ (i : grid0.Coords) (k0_t3 : Fin k0_t3_loop.trips) (v423 : IVec S16 32) (v753 : IVec S16 32) (k0_hw261 : k0_chk261 i k0_t3 v423 v753), ∀ (k0_h1 : k0_cond1 i k0_t3 = 1#1), ∀ a x, ((![v423, v753] : Fin 2 → IVec S16 32) a x).toNat < S32x129.size a := fun i k0_t3 v423 v753 k0_hw261 k0_h1 => k0_hw261 k0_h1

def k0_chk262 (i : grid0.Coords) (k0_t3 : Fin k0_t3_loop.trips) (v428 : IVec S16 32) (v750 : IVec S16 32) (v751 : IVec S16 32) : Prop :=
  (∀ (k0_h1 : k0_cond1 i k0_t3 = 1#1), ∀ a x, ((![v750, v751, v428] : Fin 3 → IVec S16 32) a x).toNat < S8x8x1024.size a)
theorem k0_idx260_inb : ∀ (i : grid0.Coords) (k0_t3 : Fin k0_t3_loop.trips) (v428 : IVec S16 32) (v750 : IVec S16 32) (v751 : IVec S16 32) (k0_hw262 : k0_chk262 i k0_t3 v428 v750 v751), ∀ (k0_h1 : k0_cond1 i k0_t3 = 1#1), ∀ a x, ((![v750, v751, v428] : Fin 3 → IVec S16 32) a x).toNat < S8x8x1024.size a := fun i k0_t3 v428 v750 v751 k0_hw262 k0_h1 => k0_hw262 k0_h1

def k0_chk263 (i : grid0.Coords) (k0_t3 : Fin k0_t3_loop.trips) (v423 : IVec S16 32) (v758 : IVec S16 32) : Prop :=
  (∀ (k0_h1 : k0_cond1 i k0_t3 = 1#1), ∀ a x, ((![v423, v758] : Fin 2 → IVec S16 32) a x).toNat < S32x129.size a)
theorem k0_idx261_inb : ∀ (i : grid0.Coords) (k0_t3 : Fin k0_t3_loop.trips) (v423 : IVec S16 32) (v758 : IVec S16 32) (k0_hw263 : k0_chk263 i k0_t3 v423 v758), ∀ (k0_h1 : k0_cond1 i k0_t3 = 1#1), ∀ a x, ((![v423, v758] : Fin 2 → IVec S16 32) a x).toNat < S32x129.size a := fun i k0_t3 v423 v758 k0_hw263 k0_h1 => k0_hw263 k0_h1

def k0_chk264 (i : grid0.Coords) (k0_t3 : Fin k0_t3_loop.trips) (v428 : IVec S16 32) (v755 : IVec S16 32) (v756 : IVec S16 32) : Prop :=
  (∀ (k0_h1 : k0_cond1 i k0_t3 = 1#1), ∀ a x, ((![v755, v756, v428] : Fin 3 → IVec S16 32) a x).toNat < S8x8x1024.size a)
theorem k0_idx262_inb : ∀ (i : grid0.Coords) (k0_t3 : Fin k0_t3_loop.trips) (v428 : IVec S16 32) (v755 : IVec S16 32) (v756 : IVec S16 32) (k0_hw264 : k0_chk264 i k0_t3 v428 v755 v756), ∀ (k0_h1 : k0_cond1 i k0_t3 = 1#1), ∀ a x, ((![v755, v756, v428] : Fin 3 → IVec S16 32) a x).toNat < S8x8x1024.size a := fun i k0_t3 v428 v755 v756 k0_hw264 k0_h1 => k0_hw264 k0_h1
@[reducible] def k0_t7_loop (v32 : BitVec 32) : Scf.Loop 32 :=
  let c0_i32_30 : BitVec 32 := 0#32
  let c31_i32_23 : BitVec 32 := 31#32
  let v33 : BitVec 32 := Scalar.addi v32 c31_i32_23
  let c0_i32_24 : BitVec 32 := 0#32
  let v35 : BitVec 1 := Scalar.cmpi .sgt v33 c0_i32_24
  let v36 : BitVec 32 := Scalar.extui v35
  let c0_i32_25 : BitVec 32 := 0#32
  let v37 : BitVec 1 := Scalar.cmpi .slt v33 c0_i32_25
  let v38 : BitVec 32 := Scalar.extui v37
  let v39 : BitVec 32 := Scalar.subi v36 v38
  let c32_i32 : BitVec 32 := 32#32
  let c0_i32_26 : BitVec 32 := 0#32
  let v40 : BitVec 1 := Scalar.cmpi .sgt c32_i32 c0_i32_26
  let v41 : BitVec 32 := Scalar.extui v40
  let c0_i32_27 : BitVec 32 := 0#32
  let v42 : BitVec 1 := Scalar.cmpi .slt c32_i32 c0_i32_27
  let v43 : BitVec 32 := Scalar.extui v42
  let v44 : BitVec 32 := Scalar.subi v41 v43
  let v45 : BitVec 1 := Scalar.cmpi .ne v39 v44
  let v46 : BitVec 32 := Scalar.remsi v33 c32_i32
  let c0_i32_28 : BitVec 32 := 0#32
  let v47 : BitVec 1 := Scalar.cmpi .ne v46 c0_i32_28
  let v48 : BitVec 1 := Scalar.andi v45 v47
  let v34 : BitVec 32 := Scalar.divsi v33 c32_i32
  let c1_i32_29 : BitVec 32 := 1#32
  let v49 : BitVec 32 := Scalar.subi v34 c1_i32_29
  let v50 : BitVec 32 := Scalar.select v48 v49 v34
  let v51 : BitVec 32 := Scalar.subi v50 c0_i32_30
  let c1_i32_32 : BitVec 32 := 1#32
  let v53 : BitVec 32 := Scalar.divsi v51 c1_i32_32
  let v54 : BitVec 32 := Scalar.muli v53 c1_i32_32
  let v55 : BitVec 32 := Scalar.addi c0_i32_30 v54
  let v52 : BitVec 32 := Scalar.addi c0_i32_30 v51
  let c1_i32_34 : BitVec 32 := 1#32
  ⟨v55, v52, c1_i32_34⟩
def k0_off73 (v32 : BitVec 32) (k0_t7 : Fin (k0_t7_loop v32).trips) (c0_i32_44 : BitVec 32) : Fin 1 → Nat :=
  let c0_i32_30 : BitVec 32 := 0#32
  let c31_i32_23 : BitVec 32 := 31#32
  let v33 : BitVec 32 := Scalar.addi v32 c31_i32_23
  let c0_i32_24 : BitVec 32 := 0#32
  let v35 : BitVec 1 := Scalar.cmpi .sgt v33 c0_i32_24
  let v36 : BitVec 32 := Scalar.extui v35
  let c0_i32_25 : BitVec 32 := 0#32
  let v37 : BitVec 1 := Scalar.cmpi .slt v33 c0_i32_25
  let v38 : BitVec 32 := Scalar.extui v37
  let v39 : BitVec 32 := Scalar.subi v36 v38
  let c32_i32 : BitVec 32 := 32#32
  let c0_i32_26 : BitVec 32 := 0#32
  let v40 : BitVec 1 := Scalar.cmpi .sgt c32_i32 c0_i32_26
  let v41 : BitVec 32 := Scalar.extui v40
  let c0_i32_27 : BitVec 32 := 0#32
  let v42 : BitVec 1 := Scalar.cmpi .slt c32_i32 c0_i32_27
  let v43 : BitVec 32 := Scalar.extui v42
  let v44 : BitVec 32 := Scalar.subi v41 v43
  let v45 : BitVec 1 := Scalar.cmpi .ne v39 v44
  let v46 : BitVec 32 := Scalar.remsi v33 c32_i32
  let c0_i32_28 : BitVec 32 := 0#32
  let v47 : BitVec 1 := Scalar.cmpi .ne v46 c0_i32_28
  let v48 : BitVec 1 := Scalar.andi v45 v47
  let v34 : BitVec 32 := Scalar.divsi v33 c32_i32
  let c1_i32_29 : BitVec 32 := 1#32
  let v49 : BitVec 32 := Scalar.subi v34 c1_i32_29
  let v50 : BitVec 32 := Scalar.select v48 v49 v34
  let v51 : BitVec 32 := Scalar.subi v50 c0_i32_30
  let c1_i32_32 : BitVec 32 := 1#32
  let v53 : BitVec 32 := Scalar.divsi v51 c1_i32_32
  let v54 : BitVec 32 := Scalar.muli v53 c1_i32_32
  let v55 : BitVec 32 := Scalar.addi c0_i32_30 v54
  let c1_i32_34 : BitVec 32 := 1#32
  let arg14 : BitVec 32 := Scf.iv v55 c1_i32_34 k0_t7
  let c32_i32_43 : BitVec 32 := 32#32
  let v71 : BitVec 32 := Scalar.muli arg14 c32_i32_43
  let v72 : BitVec 32 := Scalar.addi v71 c0_i32_44
  let v73 : Index := Scalar.indexCast v72
  ![v73.toNat]

def k0_chk265 (i : grid0.Coords) (k0_t3 : Fin k0_t3_loop.trips) (v85 : IVec S16 32) (v105 : IVec S16 32) : Prop :=
  (∀ (k0_h1 : k0_cond1 i k0_t3 = 1#1), ∀ a x, ((![v85, v105] : Fin 2 → IVec S16 32) a x).toNat < S32x129.size a)
theorem k0_idx263_inb : ∀ (i : grid0.Coords) (k0_t3 : Fin k0_t3_loop.trips) (v85 : IVec S16 32) (v105 : IVec S16 32) (k0_hw265 : k0_chk265 i k0_t3 v85 v105), ∀ (k0_h1 : k0_cond1 i k0_t3 = 1#1), ∀ a x, ((![v85, v105] : Fin 2 → IVec S16 32) a x).toNat < S32x129.size a := fun i k0_t3 v85 v105 k0_hw265 k0_h1 => k0_hw265 k0_h1

def k0_chk266 (i : grid0.Coords) (k0_t3 : Fin k0_t3_loop.trips) (v90 : IVec S16 32) (v102 : IVec S16 32) (v103 : IVec S16 32) : Prop :=
  (∀ (k0_h1 : k0_cond1 i k0_t3 = 1#1), ∀ a x, ((![v102, v103, v90] : Fin 3 → IVec S16 32) a x).toNat < S8x8x1024.size a)
theorem k0_idx264_inb : ∀ (i : grid0.Coords) (k0_t3 : Fin k0_t3_loop.trips) (v90 : IVec S16 32) (v102 : IVec S16 32) (v103 : IVec S16 32) (k0_hw266 : k0_chk266 i k0_t3 v90 v102 v103), ∀ (k0_h1 : k0_cond1 i k0_t3 = 1#1), ∀ a x, ((![v102, v103, v90] : Fin 3 → IVec S16 32) a x).toNat < S8x8x1024.size a := fun i k0_t3 v90 v102 v103 k0_hw266 k0_h1 => k0_hw266 k0_h1

def k0_chk267 (i : grid0.Coords) (k0_t3 : Fin k0_t3_loop.trips) (v85 : IVec S16 32) (v110 : IVec S16 32) : Prop :=
  (∀ (k0_h1 : k0_cond1 i k0_t3 = 1#1), ∀ a x, ((![v85, v110] : Fin 2 → IVec S16 32) a x).toNat < S32x129.size a)
theorem k0_idx265_inb : ∀ (i : grid0.Coords) (k0_t3 : Fin k0_t3_loop.trips) (v85 : IVec S16 32) (v110 : IVec S16 32) (k0_hw267 : k0_chk267 i k0_t3 v85 v110), ∀ (k0_h1 : k0_cond1 i k0_t3 = 1#1), ∀ a x, ((![v85, v110] : Fin 2 → IVec S16 32) a x).toNat < S32x129.size a := fun i k0_t3 v85 v110 k0_hw267 k0_h1 => k0_hw267 k0_h1

def k0_chk268 (i : grid0.Coords) (k0_t3 : Fin k0_t3_loop.trips) (v90 : IVec S16 32) (v107 : IVec S16 32) (v108 : IVec S16 32) : Prop :=
  (∀ (k0_h1 : k0_cond1 i k0_t3 = 1#1), ∀ a x, ((![v107, v108, v90] : Fin 3 → IVec S16 32) a x).toNat < S8x8x1024.size a)
theorem k0_idx266_inb : ∀ (i : grid0.Coords) (k0_t3 : Fin k0_t3_loop.trips) (v90 : IVec S16 32) (v107 : IVec S16 32) (v108 : IVec S16 32) (k0_hw268 : k0_chk268 i k0_t3 v90 v107 v108), ∀ (k0_h1 : k0_cond1 i k0_t3 = 1#1), ∀ a x, ((![v107, v108, v90] : Fin 3 → IVec S16 32) a x).toNat < S8x8x1024.size a := fun i k0_t3 v90 v107 v108 k0_hw268 k0_h1 => k0_hw268 k0_h1

def k0_chk269 (i : grid0.Coords) (k0_t3 : Fin k0_t3_loop.trips) (v85 : IVec S16 32) (v115 : IVec S16 32) : Prop :=
  (∀ (k0_h1 : k0_cond1 i k0_t3 = 1#1), ∀ a x, ((![v85, v115] : Fin 2 → IVec S16 32) a x).toNat < S32x129.size a)
theorem k0_idx267_inb : ∀ (i : grid0.Coords) (k0_t3 : Fin k0_t3_loop.trips) (v85 : IVec S16 32) (v115 : IVec S16 32) (k0_hw269 : k0_chk269 i k0_t3 v85 v115), ∀ (k0_h1 : k0_cond1 i k0_t3 = 1#1), ∀ a x, ((![v85, v115] : Fin 2 → IVec S16 32) a x).toNat < S32x129.size a := fun i k0_t3 v85 v115 k0_hw269 k0_h1 => k0_hw269 k0_h1

def k0_chk270 (i : grid0.Coords) (k0_t3 : Fin k0_t3_loop.trips) (v90 : IVec S16 32) (v112 : IVec S16 32) (v113 : IVec S16 32) : Prop :=
  (∀ (k0_h1 : k0_cond1 i k0_t3 = 1#1), ∀ a x, ((![v112, v113, v90] : Fin 3 → IVec S16 32) a x).toNat < S8x8x1024.size a)
theorem k0_idx268_inb : ∀ (i : grid0.Coords) (k0_t3 : Fin k0_t3_loop.trips) (v90 : IVec S16 32) (v112 : IVec S16 32) (v113 : IVec S16 32) (k0_hw270 : k0_chk270 i k0_t3 v90 v112 v113), ∀ (k0_h1 : k0_cond1 i k0_t3 = 1#1), ∀ a x, ((![v112, v113, v90] : Fin 3 → IVec S16 32) a x).toNat < S8x8x1024.size a := fun i k0_t3 v90 v112 v113 k0_hw270 k0_h1 => k0_hw270 k0_h1

def k0_chk271 (i : grid0.Coords) (k0_t3 : Fin k0_t3_loop.trips) (v85 : IVec S16 32) (v120 : IVec S16 32) : Prop :=
  (∀ (k0_h1 : k0_cond1 i k0_t3 = 1#1), ∀ a x, ((![v85, v120] : Fin 2 → IVec S16 32) a x).toNat < S32x129.size a)
theorem k0_idx269_inb : ∀ (i : grid0.Coords) (k0_t3 : Fin k0_t3_loop.trips) (v85 : IVec S16 32) (v120 : IVec S16 32) (k0_hw271 : k0_chk271 i k0_t3 v85 v120), ∀ (k0_h1 : k0_cond1 i k0_t3 = 1#1), ∀ a x, ((![v85, v120] : Fin 2 → IVec S16 32) a x).toNat < S32x129.size a := fun i k0_t3 v85 v120 k0_hw271 k0_h1 => k0_hw271 k0_h1

def k0_chk272 (i : grid0.Coords) (k0_t3 : Fin k0_t3_loop.trips) (v90 : IVec S16 32) (v117 : IVec S16 32) (v118 : IVec S16 32) : Prop :=
  (∀ (k0_h1 : k0_cond1 i k0_t3 = 1#1), ∀ a x, ((![v117, v118, v90] : Fin 3 → IVec S16 32) a x).toNat < S8x8x1024.size a)
theorem k0_idx270_inb : ∀ (i : grid0.Coords) (k0_t3 : Fin k0_t3_loop.trips) (v90 : IVec S16 32) (v117 : IVec S16 32) (v118 : IVec S16 32) (k0_hw272 : k0_chk272 i k0_t3 v90 v117 v118), ∀ (k0_h1 : k0_cond1 i k0_t3 = 1#1), ∀ a x, ((![v117, v118, v90] : Fin 3 → IVec S16 32) a x).toNat < S8x8x1024.size a := fun i k0_t3 v90 v117 v118 k0_hw272 k0_h1 => k0_hw272 k0_h1

def k0_chk273 (i : grid0.Coords) (k0_t3 : Fin k0_t3_loop.trips) (v85 : IVec S16 32) (v125 : IVec S16 32) : Prop :=
  (∀ (k0_h1 : k0_cond1 i k0_t3 = 1#1), ∀ a x, ((![v85, v125] : Fin 2 → IVec S16 32) a x).toNat < S32x129.size a)
theorem k0_idx271_inb : ∀ (i : grid0.Coords) (k0_t3 : Fin k0_t3_loop.trips) (v85 : IVec S16 32) (v125 : IVec S16 32) (k0_hw273 : k0_chk273 i k0_t3 v85 v125), ∀ (k0_h1 : k0_cond1 i k0_t3 = 1#1), ∀ a x, ((![v85, v125] : Fin 2 → IVec S16 32) a x).toNat < S32x129.size a := fun i k0_t3 v85 v125 k0_hw273 k0_h1 => k0_hw273 k0_h1

def k0_chk274 (i : grid0.Coords) (k0_t3 : Fin k0_t3_loop.trips) (v90 : IVec S16 32) (v122 : IVec S16 32) (v123 : IVec S16 32) : Prop :=
  (∀ (k0_h1 : k0_cond1 i k0_t3 = 1#1), ∀ a x, ((![v122, v123, v90] : Fin 3 → IVec S16 32) a x).toNat < S8x8x1024.size a)
theorem k0_idx272_inb : ∀ (i : grid0.Coords) (k0_t3 : Fin k0_t3_loop.trips) (v90 : IVec S16 32) (v122 : IVec S16 32) (v123 : IVec S16 32) (k0_hw274 : k0_chk274 i k0_t3 v90 v122 v123), ∀ (k0_h1 : k0_cond1 i k0_t3 = 1#1), ∀ a x, ((![v122, v123, v90] : Fin 3 → IVec S16 32) a x).toNat < S8x8x1024.size a := fun i k0_t3 v90 v122 v123 k0_hw274 k0_h1 => k0_hw274 k0_h1

def k0_chk275 (i : grid0.Coords) (k0_t3 : Fin k0_t3_loop.trips) (v85 : IVec S16 32) (v130 : IVec S16 32) : Prop :=
  (∀ (k0_h1 : k0_cond1 i k0_t3 = 1#1), ∀ a x, ((![v85, v130] : Fin 2 → IVec S16 32) a x).toNat < S32x129.size a)
theorem k0_idx273_inb : ∀ (i : grid0.Coords) (k0_t3 : Fin k0_t3_loop.trips) (v85 : IVec S16 32) (v130 : IVec S16 32) (k0_hw275 : k0_chk275 i k0_t3 v85 v130), ∀ (k0_h1 : k0_cond1 i k0_t3 = 1#1), ∀ a x, ((![v85, v130] : Fin 2 → IVec S16 32) a x).toNat < S32x129.size a := fun i k0_t3 v85 v130 k0_hw275 k0_h1 => k0_hw275 k0_h1

def k0_chk276 (i : grid0.Coords) (k0_t3 : Fin k0_t3_loop.trips) (v90 : IVec S16 32) (v127 : IVec S16 32) (v128 : IVec S16 32) : Prop :=
  (∀ (k0_h1 : k0_cond1 i k0_t3 = 1#1), ∀ a x, ((![v127, v128, v90] : Fin 3 → IVec S16 32) a x).toNat < S8x8x1024.size a)
theorem k0_idx274_inb : ∀ (i : grid0.Coords) (k0_t3 : Fin k0_t3_loop.trips) (v90 : IVec S16 32) (v127 : IVec S16 32) (v128 : IVec S16 32) (k0_hw276 : k0_chk276 i k0_t3 v90 v127 v128), ∀ (k0_h1 : k0_cond1 i k0_t3 = 1#1), ∀ a x, ((![v127, v128, v90] : Fin 3 → IVec S16 32) a x).toNat < S8x8x1024.size a := fun i k0_t3 v90 v127 v128 k0_hw276 k0_h1 => k0_hw276 k0_h1

def k0_chk277 (i : grid0.Coords) (k0_t3 : Fin k0_t3_loop.trips) (v85 : IVec S16 32) (v135 : IVec S16 32) : Prop :=
  (∀ (k0_h1 : k0_cond1 i k0_t3 = 1#1), ∀ a x, ((![v85, v135] : Fin 2 → IVec S16 32) a x).toNat < S32x129.size a)
theorem k0_idx275_inb : ∀ (i : grid0.Coords) (k0_t3 : Fin k0_t3_loop.trips) (v85 : IVec S16 32) (v135 : IVec S16 32) (k0_hw277 : k0_chk277 i k0_t3 v85 v135), ∀ (k0_h1 : k0_cond1 i k0_t3 = 1#1), ∀ a x, ((![v85, v135] : Fin 2 → IVec S16 32) a x).toNat < S32x129.size a := fun i k0_t3 v85 v135 k0_hw277 k0_h1 => k0_hw277 k0_h1

def k0_chk278 (i : grid0.Coords) (k0_t3 : Fin k0_t3_loop.trips) (v90 : IVec S16 32) (v132 : IVec S16 32) (v133 : IVec S16 32) : Prop :=
  (∀ (k0_h1 : k0_cond1 i k0_t3 = 1#1), ∀ a x, ((![v132, v133, v90] : Fin 3 → IVec S16 32) a x).toNat < S8x8x1024.size a)
theorem k0_idx276_inb : ∀ (i : grid0.Coords) (k0_t3 : Fin k0_t3_loop.trips) (v90 : IVec S16 32) (v132 : IVec S16 32) (v133 : IVec S16 32) (k0_hw278 : k0_chk278 i k0_t3 v90 v132 v133), ∀ (k0_h1 : k0_cond1 i k0_t3 = 1#1), ∀ a x, ((![v132, v133, v90] : Fin 3 → IVec S16 32) a x).toNat < S8x8x1024.size a := fun i k0_t3 v90 v132 v133 k0_hw278 k0_h1 => k0_hw278 k0_h1

def k0_chk279 (i : grid0.Coords) (k0_t3 : Fin k0_t3_loop.trips) (v85 : IVec S16 32) (v140 : IVec S16 32) : Prop :=
  (∀ (k0_h1 : k0_cond1 i k0_t3 = 1#1), ∀ a x, ((![v85, v140] : Fin 2 → IVec S16 32) a x).toNat < S32x129.size a)
theorem k0_idx277_inb : ∀ (i : grid0.Coords) (k0_t3 : Fin k0_t3_loop.trips) (v85 : IVec S16 32) (v140 : IVec S16 32) (k0_hw279 : k0_chk279 i k0_t3 v85 v140), ∀ (k0_h1 : k0_cond1 i k0_t3 = 1#1), ∀ a x, ((![v85, v140] : Fin 2 → IVec S16 32) a x).toNat < S32x129.size a := fun i k0_t3 v85 v140 k0_hw279 k0_h1 => k0_hw279 k0_h1

def k0_chk280 (i : grid0.Coords) (k0_t3 : Fin k0_t3_loop.trips) (v90 : IVec S16 32) (v137 : IVec S16 32) (v138 : IVec S16 32) : Prop :=
  (∀ (k0_h1 : k0_cond1 i k0_t3 = 1#1), ∀ a x, ((![v137, v138, v90] : Fin 3 → IVec S16 32) a x).toNat < S8x8x1024.size a)
theorem k0_idx278_inb : ∀ (i : grid0.Coords) (k0_t3 : Fin k0_t3_loop.trips) (v90 : IVec S16 32) (v137 : IVec S16 32) (v138 : IVec S16 32) (k0_hw280 : k0_chk280 i k0_t3 v90 v137 v138), ∀ (k0_h1 : k0_cond1 i k0_t3 = 1#1), ∀ a x, ((![v137, v138, v90] : Fin 3 → IVec S16 32) a x).toNat < S8x8x1024.size a := fun i k0_t3 v90 v137 v138 k0_hw280 k0_h1 => k0_hw280 k0_h1

def k0_chk281 (i : grid0.Coords) (k0_t3 : Fin k0_t3_loop.trips) (v85 : IVec S16 32) (v145 : IVec S16 32) : Prop :=
  (∀ (k0_h1 : k0_cond1 i k0_t3 = 1#1), ∀ a x, ((![v85, v145] : Fin 2 → IVec S16 32) a x).toNat < S32x129.size a)
theorem k0_idx279_inb : ∀ (i : grid0.Coords) (k0_t3 : Fin k0_t3_loop.trips) (v85 : IVec S16 32) (v145 : IVec S16 32) (k0_hw281 : k0_chk281 i k0_t3 v85 v145), ∀ (k0_h1 : k0_cond1 i k0_t3 = 1#1), ∀ a x, ((![v85, v145] : Fin 2 → IVec S16 32) a x).toNat < S32x129.size a := fun i k0_t3 v85 v145 k0_hw281 k0_h1 => k0_hw281 k0_h1

def k0_chk282 (i : grid0.Coords) (k0_t3 : Fin k0_t3_loop.trips) (v90 : IVec S16 32) (v142 : IVec S16 32) (v143 : IVec S16 32) : Prop :=
  (∀ (k0_h1 : k0_cond1 i k0_t3 = 1#1), ∀ a x, ((![v142, v143, v90] : Fin 3 → IVec S16 32) a x).toNat < S8x8x1024.size a)
theorem k0_idx280_inb : ∀ (i : grid0.Coords) (k0_t3 : Fin k0_t3_loop.trips) (v90 : IVec S16 32) (v142 : IVec S16 32) (v143 : IVec S16 32) (k0_hw282 : k0_chk282 i k0_t3 v90 v142 v143), ∀ (k0_h1 : k0_cond1 i k0_t3 = 1#1), ∀ a x, ((![v142, v143, v90] : Fin 3 → IVec S16 32) a x).toNat < S8x8x1024.size a := fun i k0_t3 v90 v142 v143 k0_hw282 k0_h1 => k0_hw282 k0_h1

def k0_chk283 (i : grid0.Coords) (k0_t3 : Fin k0_t3_loop.trips) (v85 : IVec S16 32) (v150 : IVec S16 32) : Prop :=
  (∀ (k0_h1 : k0_cond1 i k0_t3 = 1#1), ∀ a x, ((![v85, v150] : Fin 2 → IVec S16 32) a x).toNat < S32x129.size a)
theorem k0_idx281_inb : ∀ (i : grid0.Coords) (k0_t3 : Fin k0_t3_loop.trips) (v85 : IVec S16 32) (v150 : IVec S16 32) (k0_hw283 : k0_chk283 i k0_t3 v85 v150), ∀ (k0_h1 : k0_cond1 i k0_t3 = 1#1), ∀ a x, ((![v85, v150] : Fin 2 → IVec S16 32) a x).toNat < S32x129.size a := fun i k0_t3 v85 v150 k0_hw283 k0_h1 => k0_hw283 k0_h1

def k0_chk284 (i : grid0.Coords) (k0_t3 : Fin k0_t3_loop.trips) (v90 : IVec S16 32) (v147 : IVec S16 32) (v148 : IVec S16 32) : Prop :=
  (∀ (k0_h1 : k0_cond1 i k0_t3 = 1#1), ∀ a x, ((![v147, v148, v90] : Fin 3 → IVec S16 32) a x).toNat < S8x8x1024.size a)
theorem k0_idx282_inb : ∀ (i : grid0.Coords) (k0_t3 : Fin k0_t3_loop.trips) (v90 : IVec S16 32) (v147 : IVec S16 32) (v148 : IVec S16 32) (k0_hw284 : k0_chk284 i k0_t3 v90 v147 v148), ∀ (k0_h1 : k0_cond1 i k0_t3 = 1#1), ∀ a x, ((![v147, v148, v90] : Fin 3 → IVec S16 32) a x).toNat < S8x8x1024.size a := fun i k0_t3 v90 v147 v148 k0_hw284 k0_h1 => k0_hw284 k0_h1

def k0_chk285 (i : grid0.Coords) (k0_t3 : Fin k0_t3_loop.trips) (v85 : IVec S16 32) (v155 : IVec S16 32) : Prop :=
  (∀ (k0_h1 : k0_cond1 i k0_t3 = 1#1), ∀ a x, ((![v85, v155] : Fin 2 → IVec S16 32) a x).toNat < S32x129.size a)
theorem k0_idx283_inb : ∀ (i : grid0.Coords) (k0_t3 : Fin k0_t3_loop.trips) (v85 : IVec S16 32) (v155 : IVec S16 32) (k0_hw285 : k0_chk285 i k0_t3 v85 v155), ∀ (k0_h1 : k0_cond1 i k0_t3 = 1#1), ∀ a x, ((![v85, v155] : Fin 2 → IVec S16 32) a x).toNat < S32x129.size a := fun i k0_t3 v85 v155 k0_hw285 k0_h1 => k0_hw285 k0_h1

def k0_chk286 (i : grid0.Coords) (k0_t3 : Fin k0_t3_loop.trips) (v90 : IVec S16 32) (v152 : IVec S16 32) (v153 : IVec S16 32) : Prop :=
  (∀ (k0_h1 : k0_cond1 i k0_t3 = 1#1), ∀ a x, ((![v152, v153, v90] : Fin 3 → IVec S16 32) a x).toNat < S8x8x1024.size a)
theorem k0_idx284_inb : ∀ (i : grid0.Coords) (k0_t3 : Fin k0_t3_loop.trips) (v90 : IVec S16 32) (v152 : IVec S16 32) (v153 : IVec S16 32) (k0_hw286 : k0_chk286 i k0_t3 v90 v152 v153), ∀ (k0_h1 : k0_cond1 i k0_t3 = 1#1), ∀ a x, ((![v152, v153, v90] : Fin 3 → IVec S16 32) a x).toNat < S8x8x1024.size a := fun i k0_t3 v90 v152 v153 k0_hw286 k0_h1 => k0_hw286 k0_h1

def k0_chk287 (i : grid0.Coords) (k0_t3 : Fin k0_t3_loop.trips) (v85 : IVec S16 32) (v160 : IVec S16 32) : Prop :=
  (∀ (k0_h1 : k0_cond1 i k0_t3 = 1#1), ∀ a x, ((![v85, v160] : Fin 2 → IVec S16 32) a x).toNat < S32x129.size a)
theorem k0_idx285_inb : ∀ (i : grid0.Coords) (k0_t3 : Fin k0_t3_loop.trips) (v85 : IVec S16 32) (v160 : IVec S16 32) (k0_hw287 : k0_chk287 i k0_t3 v85 v160), ∀ (k0_h1 : k0_cond1 i k0_t3 = 1#1), ∀ a x, ((![v85, v160] : Fin 2 → IVec S16 32) a x).toNat < S32x129.size a := fun i k0_t3 v85 v160 k0_hw287 k0_h1 => k0_hw287 k0_h1

def k0_chk288 (i : grid0.Coords) (k0_t3 : Fin k0_t3_loop.trips) (v90 : IVec S16 32) (v157 : IVec S16 32) (v158 : IVec S16 32) : Prop :=
  (∀ (k0_h1 : k0_cond1 i k0_t3 = 1#1), ∀ a x, ((![v157, v158, v90] : Fin 3 → IVec S16 32) a x).toNat < S8x8x1024.size a)
theorem k0_idx286_inb : ∀ (i : grid0.Coords) (k0_t3 : Fin k0_t3_loop.trips) (v90 : IVec S16 32) (v157 : IVec S16 32) (v158 : IVec S16 32) (k0_hw288 : k0_chk288 i k0_t3 v90 v157 v158), ∀ (k0_h1 : k0_cond1 i k0_t3 = 1#1), ∀ a x, ((![v157, v158, v90] : Fin 3 → IVec S16 32) a x).toNat < S8x8x1024.size a := fun i k0_t3 v90 v157 v158 k0_hw288 k0_h1 => k0_hw288 k0_h1

def k0_chk289 (i : grid0.Coords) (k0_t3 : Fin k0_t3_loop.trips) (v85 : IVec S16 32) (v165 : IVec S16 32) : Prop :=
  (∀ (k0_h1 : k0_cond1 i k0_t3 = 1#1), ∀ a x, ((![v85, v165] : Fin 2 → IVec S16 32) a x).toNat < S32x129.size a)
theorem k0_idx287_inb : ∀ (i : grid0.Coords) (k0_t3 : Fin k0_t3_loop.trips) (v85 : IVec S16 32) (v165 : IVec S16 32) (k0_hw289 : k0_chk289 i k0_t3 v85 v165), ∀ (k0_h1 : k0_cond1 i k0_t3 = 1#1), ∀ a x, ((![v85, v165] : Fin 2 → IVec S16 32) a x).toNat < S32x129.size a := fun i k0_t3 v85 v165 k0_hw289 k0_h1 => k0_hw289 k0_h1

def k0_chk290 (i : grid0.Coords) (k0_t3 : Fin k0_t3_loop.trips) (v90 : IVec S16 32) (v162 : IVec S16 32) (v163 : IVec S16 32) : Prop :=
  (∀ (k0_h1 : k0_cond1 i k0_t3 = 1#1), ∀ a x, ((![v162, v163, v90] : Fin 3 → IVec S16 32) a x).toNat < S8x8x1024.size a)
theorem k0_idx288_inb : ∀ (i : grid0.Coords) (k0_t3 : Fin k0_t3_loop.trips) (v90 : IVec S16 32) (v162 : IVec S16 32) (v163 : IVec S16 32) (k0_hw290 : k0_chk290 i k0_t3 v90 v162 v163), ∀ (k0_h1 : k0_cond1 i k0_t3 = 1#1), ∀ a x, ((![v162, v163, v90] : Fin 3 → IVec S16 32) a x).toNat < S8x8x1024.size a := fun i k0_t3 v90 v162 v163 k0_hw290 k0_h1 => k0_hw290 k0_h1

def k0_chk291 (i : grid0.Coords) (k0_t3 : Fin k0_t3_loop.trips) (v85 : IVec S16 32) (v170 : IVec S16 32) : Prop :=
  (∀ (k0_h1 : k0_cond1 i k0_t3 = 1#1), ∀ a x, ((![v85, v170] : Fin 2 → IVec S16 32) a x).toNat < S32x129.size a)
theorem k0_idx289_inb : ∀ (i : grid0.Coords) (k0_t3 : Fin k0_t3_loop.trips) (v85 : IVec S16 32) (v170 : IVec S16 32) (k0_hw291 : k0_chk291 i k0_t3 v85 v170), ∀ (k0_h1 : k0_cond1 i k0_t3 = 1#1), ∀ a x, ((![v85, v170] : Fin 2 → IVec S16 32) a x).toNat < S32x129.size a := fun i k0_t3 v85 v170 k0_hw291 k0_h1 => k0_hw291 k0_h1

def k0_chk292 (i : grid0.Coords) (k0_t3 : Fin k0_t3_loop.trips) (v90 : IVec S16 32) (v167 : IVec S16 32) (v168 : IVec S16 32) : Prop :=
  (∀ (k0_h1 : k0_cond1 i k0_t3 = 1#1), ∀ a x, ((![v167, v168, v90] : Fin 3 → IVec S16 32) a x).toNat < S8x8x1024.size a)
theorem k0_idx290_inb : ∀ (i : grid0.Coords) (k0_t3 : Fin k0_t3_loop.trips) (v90 : IVec S16 32) (v167 : IVec S16 32) (v168 : IVec S16 32) (k0_hw292 : k0_chk292 i k0_t3 v90 v167 v168), ∀ (k0_h1 : k0_cond1 i k0_t3 = 1#1), ∀ a x, ((![v167, v168, v90] : Fin 3 → IVec S16 32) a x).toNat < S8x8x1024.size a := fun i k0_t3 v90 v167 v168 k0_hw292 k0_h1 => k0_hw292 k0_h1

def k0_chk293 (i : grid0.Coords) (k0_t3 : Fin k0_t3_loop.trips) (v85 : IVec S16 32) (v175 : IVec S16 32) : Prop :=
  (∀ (k0_h1 : k0_cond1 i k0_t3 = 1#1), ∀ a x, ((![v85, v175] : Fin 2 → IVec S16 32) a x).toNat < S32x129.size a)
theorem k0_idx291_inb : ∀ (i : grid0.Coords) (k0_t3 : Fin k0_t3_loop.trips) (v85 : IVec S16 32) (v175 : IVec S16 32) (k0_hw293 : k0_chk293 i k0_t3 v85 v175), ∀ (k0_h1 : k0_cond1 i k0_t3 = 1#1), ∀ a x, ((![v85, v175] : Fin 2 → IVec S16 32) a x).toNat < S32x129.size a := fun i k0_t3 v85 v175 k0_hw293 k0_h1 => k0_hw293 k0_h1

def k0_chk294 (i : grid0.Coords) (k0_t3 : Fin k0_t3_loop.trips) (v90 : IVec S16 32) (v172 : IVec S16 32) (v173 : IVec S16 32) : Prop :=
  (∀ (k0_h1 : k0_cond1 i k0_t3 = 1#1), ∀ a x, ((![v172, v173, v90] : Fin 3 → IVec S16 32) a x).toNat < S8x8x1024.size a)
theorem k0_idx292_inb : ∀ (i : grid0.Coords) (k0_t3 : Fin k0_t3_loop.trips) (v90 : IVec S16 32) (v172 : IVec S16 32) (v173 : IVec S16 32) (k0_hw294 : k0_chk294 i k0_t3 v90 v172 v173), ∀ (k0_h1 : k0_cond1 i k0_t3 = 1#1), ∀ a x, ((![v172, v173, v90] : Fin 3 → IVec S16 32) a x).toNat < S8x8x1024.size a := fun i k0_t3 v90 v172 v173 k0_hw294 k0_h1 => k0_hw294 k0_h1

def k0_chk295 (i : grid0.Coords) (k0_t3 : Fin k0_t3_loop.trips) (v85 : IVec S16 32) (v180 : IVec S16 32) : Prop :=
  (∀ (k0_h1 : k0_cond1 i k0_t3 = 1#1), ∀ a x, ((![v85, v180] : Fin 2 → IVec S16 32) a x).toNat < S32x129.size a)
theorem k0_idx293_inb : ∀ (i : grid0.Coords) (k0_t3 : Fin k0_t3_loop.trips) (v85 : IVec S16 32) (v180 : IVec S16 32) (k0_hw295 : k0_chk295 i k0_t3 v85 v180), ∀ (k0_h1 : k0_cond1 i k0_t3 = 1#1), ∀ a x, ((![v85, v180] : Fin 2 → IVec S16 32) a x).toNat < S32x129.size a := fun i k0_t3 v85 v180 k0_hw295 k0_h1 => k0_hw295 k0_h1

def k0_chk296 (i : grid0.Coords) (k0_t3 : Fin k0_t3_loop.trips) (v90 : IVec S16 32) (v177 : IVec S16 32) (v178 : IVec S16 32) : Prop :=
  (∀ (k0_h1 : k0_cond1 i k0_t3 = 1#1), ∀ a x, ((![v177, v178, v90] : Fin 3 → IVec S16 32) a x).toNat < S8x8x1024.size a)
theorem k0_idx294_inb : ∀ (i : grid0.Coords) (k0_t3 : Fin k0_t3_loop.trips) (v90 : IVec S16 32) (v177 : IVec S16 32) (v178 : IVec S16 32) (k0_hw296 : k0_chk296 i k0_t3 v90 v177 v178), ∀ (k0_h1 : k0_cond1 i k0_t3 = 1#1), ∀ a x, ((![v177, v178, v90] : Fin 3 → IVec S16 32) a x).toNat < S8x8x1024.size a := fun i k0_t3 v90 v177 v178 k0_hw296 k0_h1 => k0_hw296 k0_h1

def k0_chk297 (i : grid0.Coords) (k0_t3 : Fin k0_t3_loop.trips) (v85 : IVec S16 32) (v185 : IVec S16 32) : Prop :=
  (∀ (k0_h1 : k0_cond1 i k0_t3 = 1#1), ∀ a x, ((![v85, v185] : Fin 2 → IVec S16 32) a x).toNat < S32x129.size a)
theorem k0_idx295_inb : ∀ (i : grid0.Coords) (k0_t3 : Fin k0_t3_loop.trips) (v85 : IVec S16 32) (v185 : IVec S16 32) (k0_hw297 : k0_chk297 i k0_t3 v85 v185), ∀ (k0_h1 : k0_cond1 i k0_t3 = 1#1), ∀ a x, ((![v85, v185] : Fin 2 → IVec S16 32) a x).toNat < S32x129.size a := fun i k0_t3 v85 v185 k0_hw297 k0_h1 => k0_hw297 k0_h1

def k0_chk298 (i : grid0.Coords) (k0_t3 : Fin k0_t3_loop.trips) (v90 : IVec S16 32) (v182 : IVec S16 32) (v183 : IVec S16 32) : Prop :=
  (∀ (k0_h1 : k0_cond1 i k0_t3 = 1#1), ∀ a x, ((![v182, v183, v90] : Fin 3 → IVec S16 32) a x).toNat < S8x8x1024.size a)
theorem k0_idx296_inb : ∀ (i : grid0.Coords) (k0_t3 : Fin k0_t3_loop.trips) (v90 : IVec S16 32) (v182 : IVec S16 32) (v183 : IVec S16 32) (k0_hw298 : k0_chk298 i k0_t3 v90 v182 v183), ∀ (k0_h1 : k0_cond1 i k0_t3 = 1#1), ∀ a x, ((![v182, v183, v90] : Fin 3 → IVec S16 32) a x).toNat < S8x8x1024.size a := fun i k0_t3 v90 v182 v183 k0_hw298 k0_h1 => k0_hw298 k0_h1

def k0_chk299 (i : grid0.Coords) (k0_t3 : Fin k0_t3_loop.trips) (v85 : IVec S16 32) (v190 : IVec S16 32) : Prop :=
  (∀ (k0_h1 : k0_cond1 i k0_t3 = 1#1), ∀ a x, ((![v85, v190] : Fin 2 → IVec S16 32) a x).toNat < S32x129.size a)
theorem k0_idx297_inb : ∀ (i : grid0.Coords) (k0_t3 : Fin k0_t3_loop.trips) (v85 : IVec S16 32) (v190 : IVec S16 32) (k0_hw299 : k0_chk299 i k0_t3 v85 v190), ∀ (k0_h1 : k0_cond1 i k0_t3 = 1#1), ∀ a x, ((![v85, v190] : Fin 2 → IVec S16 32) a x).toNat < S32x129.size a := fun i k0_t3 v85 v190 k0_hw299 k0_h1 => k0_hw299 k0_h1

def k0_chk300 (i : grid0.Coords) (k0_t3 : Fin k0_t3_loop.trips) (v90 : IVec S16 32) (v187 : IVec S16 32) (v188 : IVec S16 32) : Prop :=
  (∀ (k0_h1 : k0_cond1 i k0_t3 = 1#1), ∀ a x, ((![v187, v188, v90] : Fin 3 → IVec S16 32) a x).toNat < S8x8x1024.size a)
theorem k0_idx298_inb : ∀ (i : grid0.Coords) (k0_t3 : Fin k0_t3_loop.trips) (v90 : IVec S16 32) (v187 : IVec S16 32) (v188 : IVec S16 32) (k0_hw300 : k0_chk300 i k0_t3 v90 v187 v188), ∀ (k0_h1 : k0_cond1 i k0_t3 = 1#1), ∀ a x, ((![v187, v188, v90] : Fin 3 → IVec S16 32) a x).toNat < S8x8x1024.size a := fun i k0_t3 v90 v187 v188 k0_hw300 k0_h1 => k0_hw300 k0_h1

def k0_chk301 (i : grid0.Coords) (k0_t3 : Fin k0_t3_loop.trips) (v85 : IVec S16 32) (v195 : IVec S16 32) : Prop :=
  (∀ (k0_h1 : k0_cond1 i k0_t3 = 1#1), ∀ a x, ((![v85, v195] : Fin 2 → IVec S16 32) a x).toNat < S32x129.size a)
theorem k0_idx299_inb : ∀ (i : grid0.Coords) (k0_t3 : Fin k0_t3_loop.trips) (v85 : IVec S16 32) (v195 : IVec S16 32) (k0_hw301 : k0_chk301 i k0_t3 v85 v195), ∀ (k0_h1 : k0_cond1 i k0_t3 = 1#1), ∀ a x, ((![v85, v195] : Fin 2 → IVec S16 32) a x).toNat < S32x129.size a := fun i k0_t3 v85 v195 k0_hw301 k0_h1 => k0_hw301 k0_h1

def k0_chk302 (i : grid0.Coords) (k0_t3 : Fin k0_t3_loop.trips) (v90 : IVec S16 32) (v192 : IVec S16 32) (v193 : IVec S16 32) : Prop :=
  (∀ (k0_h1 : k0_cond1 i k0_t3 = 1#1), ∀ a x, ((![v192, v193, v90] : Fin 3 → IVec S16 32) a x).toNat < S8x8x1024.size a)
theorem k0_idx300_inb : ∀ (i : grid0.Coords) (k0_t3 : Fin k0_t3_loop.trips) (v90 : IVec S16 32) (v192 : IVec S16 32) (v193 : IVec S16 32) (k0_hw302 : k0_chk302 i k0_t3 v90 v192 v193), ∀ (k0_h1 : k0_cond1 i k0_t3 = 1#1), ∀ a x, ((![v192, v193, v90] : Fin 3 → IVec S16 32) a x).toNat < S8x8x1024.size a := fun i k0_t3 v90 v192 v193 k0_hw302 k0_h1 => k0_hw302 k0_h1

def k0_chk303 (i : grid0.Coords) (k0_t3 : Fin k0_t3_loop.trips) (v85 : IVec S16 32) (v200 : IVec S16 32) : Prop :=
  (∀ (k0_h1 : k0_cond1 i k0_t3 = 1#1), ∀ a x, ((![v85, v200] : Fin 2 → IVec S16 32) a x).toNat < S32x129.size a)
theorem k0_idx301_inb : ∀ (i : grid0.Coords) (k0_t3 : Fin k0_t3_loop.trips) (v85 : IVec S16 32) (v200 : IVec S16 32) (k0_hw303 : k0_chk303 i k0_t3 v85 v200), ∀ (k0_h1 : k0_cond1 i k0_t3 = 1#1), ∀ a x, ((![v85, v200] : Fin 2 → IVec S16 32) a x).toNat < S32x129.size a := fun i k0_t3 v85 v200 k0_hw303 k0_h1 => k0_hw303 k0_h1

def k0_chk304 (i : grid0.Coords) (k0_t3 : Fin k0_t3_loop.trips) (v90 : IVec S16 32) (v197 : IVec S16 32) (v198 : IVec S16 32) : Prop :=
  (∀ (k0_h1 : k0_cond1 i k0_t3 = 1#1), ∀ a x, ((![v197, v198, v90] : Fin 3 → IVec S16 32) a x).toNat < S8x8x1024.size a)
theorem k0_idx302_inb : ∀ (i : grid0.Coords) (k0_t3 : Fin k0_t3_loop.trips) (v90 : IVec S16 32) (v197 : IVec S16 32) (v198 : IVec S16 32) (k0_hw304 : k0_chk304 i k0_t3 v90 v197 v198), ∀ (k0_h1 : k0_cond1 i k0_t3 = 1#1), ∀ a x, ((![v197, v198, v90] : Fin 3 → IVec S16 32) a x).toNat < S8x8x1024.size a := fun i k0_t3 v90 v197 v198 k0_hw304 k0_h1 => k0_hw304 k0_h1

def k0_chk305 (i : grid0.Coords) (k0_t3 : Fin k0_t3_loop.trips) (v85 : IVec S16 32) (v205 : IVec S16 32) : Prop :=
  (∀ (k0_h1 : k0_cond1 i k0_t3 = 1#1), ∀ a x, ((![v85, v205] : Fin 2 → IVec S16 32) a x).toNat < S32x129.size a)
theorem k0_idx303_inb : ∀ (i : grid0.Coords) (k0_t3 : Fin k0_t3_loop.trips) (v85 : IVec S16 32) (v205 : IVec S16 32) (k0_hw305 : k0_chk305 i k0_t3 v85 v205), ∀ (k0_h1 : k0_cond1 i k0_t3 = 1#1), ∀ a x, ((![v85, v205] : Fin 2 → IVec S16 32) a x).toNat < S32x129.size a := fun i k0_t3 v85 v205 k0_hw305 k0_h1 => k0_hw305 k0_h1

def k0_chk306 (i : grid0.Coords) (k0_t3 : Fin k0_t3_loop.trips) (v90 : IVec S16 32) (v202 : IVec S16 32) (v203 : IVec S16 32) : Prop :=
  (∀ (k0_h1 : k0_cond1 i k0_t3 = 1#1), ∀ a x, ((![v202, v203, v90] : Fin 3 → IVec S16 32) a x).toNat < S8x8x1024.size a)
theorem k0_idx304_inb : ∀ (i : grid0.Coords) (k0_t3 : Fin k0_t3_loop.trips) (v90 : IVec S16 32) (v202 : IVec S16 32) (v203 : IVec S16 32) (k0_hw306 : k0_chk306 i k0_t3 v90 v202 v203), ∀ (k0_h1 : k0_cond1 i k0_t3 = 1#1), ∀ a x, ((![v202, v203, v90] : Fin 3 → IVec S16 32) a x).toNat < S8x8x1024.size a := fun i k0_t3 v90 v202 v203 k0_hw306 k0_h1 => k0_hw306 k0_h1

def k0_chk307 (i : grid0.Coords) (k0_t3 : Fin k0_t3_loop.trips) (v85 : IVec S16 32) (v210 : IVec S16 32) : Prop :=
  (∀ (k0_h1 : k0_cond1 i k0_t3 = 1#1), ∀ a x, ((![v85, v210] : Fin 2 → IVec S16 32) a x).toNat < S32x129.size a)
theorem k0_idx305_inb : ∀ (i : grid0.Coords) (k0_t3 : Fin k0_t3_loop.trips) (v85 : IVec S16 32) (v210 : IVec S16 32) (k0_hw307 : k0_chk307 i k0_t3 v85 v210), ∀ (k0_h1 : k0_cond1 i k0_t3 = 1#1), ∀ a x, ((![v85, v210] : Fin 2 → IVec S16 32) a x).toNat < S32x129.size a := fun i k0_t3 v85 v210 k0_hw307 k0_h1 => k0_hw307 k0_h1

def k0_chk308 (i : grid0.Coords) (k0_t3 : Fin k0_t3_loop.trips) (v90 : IVec S16 32) (v207 : IVec S16 32) (v208 : IVec S16 32) : Prop :=
  (∀ (k0_h1 : k0_cond1 i k0_t3 = 1#1), ∀ a x, ((![v207, v208, v90] : Fin 3 → IVec S16 32) a x).toNat < S8x8x1024.size a)
theorem k0_idx306_inb : ∀ (i : grid0.Coords) (k0_t3 : Fin k0_t3_loop.trips) (v90 : IVec S16 32) (v207 : IVec S16 32) (v208 : IVec S16 32) (k0_hw308 : k0_chk308 i k0_t3 v90 v207 v208), ∀ (k0_h1 : k0_cond1 i k0_t3 = 1#1), ∀ a x, ((![v207, v208, v90] : Fin 3 → IVec S16 32) a x).toNat < S8x8x1024.size a := fun i k0_t3 v90 v207 v208 k0_hw308 k0_h1 => k0_hw308 k0_h1

def k0_chk309 (i : grid0.Coords) (k0_t3 : Fin k0_t3_loop.trips) (v85 : IVec S16 32) (v215 : IVec S16 32) : Prop :=
  (∀ (k0_h1 : k0_cond1 i k0_t3 = 1#1), ∀ a x, ((![v85, v215] : Fin 2 → IVec S16 32) a x).toNat < S32x129.size a)
theorem k0_idx307_inb : ∀ (i : grid0.Coords) (k0_t3 : Fin k0_t3_loop.trips) (v85 : IVec S16 32) (v215 : IVec S16 32) (k0_hw309 : k0_chk309 i k0_t3 v85 v215), ∀ (k0_h1 : k0_cond1 i k0_t3 = 1#1), ∀ a x, ((![v85, v215] : Fin 2 → IVec S16 32) a x).toNat < S32x129.size a := fun i k0_t3 v85 v215 k0_hw309 k0_h1 => k0_hw309 k0_h1

def k0_chk310 (i : grid0.Coords) (k0_t3 : Fin k0_t3_loop.trips) (v90 : IVec S16 32) (v212 : IVec S16 32) (v213 : IVec S16 32) : Prop :=
  (∀ (k0_h1 : k0_cond1 i k0_t3 = 1#1), ∀ a x, ((![v212, v213, v90] : Fin 3 → IVec S16 32) a x).toNat < S8x8x1024.size a)
theorem k0_idx308_inb : ∀ (i : grid0.Coords) (k0_t3 : Fin k0_t3_loop.trips) (v90 : IVec S16 32) (v212 : IVec S16 32) (v213 : IVec S16 32) (k0_hw310 : k0_chk310 i k0_t3 v90 v212 v213), ∀ (k0_h1 : k0_cond1 i k0_t3 = 1#1), ∀ a x, ((![v212, v213, v90] : Fin 3 → IVec S16 32) a x).toNat < S8x8x1024.size a := fun i k0_t3 v90 v212 v213 k0_hw310 k0_h1 => k0_hw310 k0_h1

def k0_chk311 (i : grid0.Coords) (k0_t3 : Fin k0_t3_loop.trips) (v85 : IVec S16 32) (v220 : IVec S16 32) : Prop :=
  (∀ (k0_h1 : k0_cond1 i k0_t3 = 1#1), ∀ a x, ((![v85, v220] : Fin 2 → IVec S16 32) a x).toNat < S32x129.size a)
theorem k0_idx309_inb : ∀ (i : grid0.Coords) (k0_t3 : Fin k0_t3_loop.trips) (v85 : IVec S16 32) (v220 : IVec S16 32) (k0_hw311 : k0_chk311 i k0_t3 v85 v220), ∀ (k0_h1 : k0_cond1 i k0_t3 = 1#1), ∀ a x, ((![v85, v220] : Fin 2 → IVec S16 32) a x).toNat < S32x129.size a := fun i k0_t3 v85 v220 k0_hw311 k0_h1 => k0_hw311 k0_h1

def k0_chk312 (i : grid0.Coords) (k0_t3 : Fin k0_t3_loop.trips) (v90 : IVec S16 32) (v217 : IVec S16 32) (v218 : IVec S16 32) : Prop :=
  (∀ (k0_h1 : k0_cond1 i k0_t3 = 1#1), ∀ a x, ((![v217, v218, v90] : Fin 3 → IVec S16 32) a x).toNat < S8x8x1024.size a)
theorem k0_idx310_inb : ∀ (i : grid0.Coords) (k0_t3 : Fin k0_t3_loop.trips) (v90 : IVec S16 32) (v217 : IVec S16 32) (v218 : IVec S16 32) (k0_hw312 : k0_chk312 i k0_t3 v90 v217 v218), ∀ (k0_h1 : k0_cond1 i k0_t3 = 1#1), ∀ a x, ((![v217, v218, v90] : Fin 3 → IVec S16 32) a x).toNat < S8x8x1024.size a := fun i k0_t3 v90 v217 v218 k0_hw312 k0_h1 => k0_hw312 k0_h1

def k0_chk313 (i : grid0.Coords) (k0_t3 : Fin k0_t3_loop.trips) (v85 : IVec S16 32) (v225 : IVec S16 32) : Prop :=
  (∀ (k0_h1 : k0_cond1 i k0_t3 = 1#1), ∀ a x, ((![v85, v225] : Fin 2 → IVec S16 32) a x).toNat < S32x129.size a)
theorem k0_idx311_inb : ∀ (i : grid0.Coords) (k0_t3 : Fin k0_t3_loop.trips) (v85 : IVec S16 32) (v225 : IVec S16 32) (k0_hw313 : k0_chk313 i k0_t3 v85 v225), ∀ (k0_h1 : k0_cond1 i k0_t3 = 1#1), ∀ a x, ((![v85, v225] : Fin 2 → IVec S16 32) a x).toNat < S32x129.size a := fun i k0_t3 v85 v225 k0_hw313 k0_h1 => k0_hw313 k0_h1

def k0_chk314 (i : grid0.Coords) (k0_t3 : Fin k0_t3_loop.trips) (v90 : IVec S16 32) (v222 : IVec S16 32) (v223 : IVec S16 32) : Prop :=
  (∀ (k0_h1 : k0_cond1 i k0_t3 = 1#1), ∀ a x, ((![v222, v223, v90] : Fin 3 → IVec S16 32) a x).toNat < S8x8x1024.size a)
theorem k0_idx312_inb : ∀ (i : grid0.Coords) (k0_t3 : Fin k0_t3_loop.trips) (v90 : IVec S16 32) (v222 : IVec S16 32) (v223 : IVec S16 32) (k0_hw314 : k0_chk314 i k0_t3 v90 v222 v223), ∀ (k0_h1 : k0_cond1 i k0_t3 = 1#1), ∀ a x, ((![v222, v223, v90] : Fin 3 → IVec S16 32) a x).toNat < S8x8x1024.size a := fun i k0_t3 v90 v222 v223 k0_hw314 k0_h1 => k0_hw314 k0_h1

def k0_chk315 (i : grid0.Coords) (k0_t3 : Fin k0_t3_loop.trips) (v85 : IVec S16 32) (v230 : IVec S16 32) : Prop :=
  (∀ (k0_h1 : k0_cond1 i k0_t3 = 1#1), ∀ a x, ((![v85, v230] : Fin 2 → IVec S16 32) a x).toNat < S32x129.size a)
theorem k0_idx313_inb : ∀ (i : grid0.Coords) (k0_t3 : Fin k0_t3_loop.trips) (v85 : IVec S16 32) (v230 : IVec S16 32) (k0_hw315 : k0_chk315 i k0_t3 v85 v230), ∀ (k0_h1 : k0_cond1 i k0_t3 = 1#1), ∀ a x, ((![v85, v230] : Fin 2 → IVec S16 32) a x).toNat < S32x129.size a := fun i k0_t3 v85 v230 k0_hw315 k0_h1 => k0_hw315 k0_h1

def k0_chk316 (i : grid0.Coords) (k0_t3 : Fin k0_t3_loop.trips) (v90 : IVec S16 32) (v227 : IVec S16 32) (v228 : IVec S16 32) : Prop :=
  (∀ (k0_h1 : k0_cond1 i k0_t3 = 1#1), ∀ a x, ((![v227, v228, v90] : Fin 3 → IVec S16 32) a x).toNat < S8x8x1024.size a)
theorem k0_idx314_inb : ∀ (i : grid0.Coords) (k0_t3 : Fin k0_t3_loop.trips) (v90 : IVec S16 32) (v227 : IVec S16 32) (v228 : IVec S16 32) (k0_hw316 : k0_chk316 i k0_t3 v90 v227 v228), ∀ (k0_h1 : k0_cond1 i k0_t3 = 1#1), ∀ a x, ((![v227, v228, v90] : Fin 3 → IVec S16 32) a x).toNat < S8x8x1024.size a := fun i k0_t3 v90 v227 v228 k0_hw316 k0_h1 => k0_hw316 k0_h1

def k0_chk317 (i : grid0.Coords) (k0_t3 : Fin k0_t3_loop.trips) (v85 : IVec S16 32) (v235 : IVec S16 32) : Prop :=
  (∀ (k0_h1 : k0_cond1 i k0_t3 = 1#1), ∀ a x, ((![v85, v235] : Fin 2 → IVec S16 32) a x).toNat < S32x129.size a)
theorem k0_idx315_inb : ∀ (i : grid0.Coords) (k0_t3 : Fin k0_t3_loop.trips) (v85 : IVec S16 32) (v235 : IVec S16 32) (k0_hw317 : k0_chk317 i k0_t3 v85 v235), ∀ (k0_h1 : k0_cond1 i k0_t3 = 1#1), ∀ a x, ((![v85, v235] : Fin 2 → IVec S16 32) a x).toNat < S32x129.size a := fun i k0_t3 v85 v235 k0_hw317 k0_h1 => k0_hw317 k0_h1

def k0_chk318 (i : grid0.Coords) (k0_t3 : Fin k0_t3_loop.trips) (v90 : IVec S16 32) (v232 : IVec S16 32) (v233 : IVec S16 32) : Prop :=
  (∀ (k0_h1 : k0_cond1 i k0_t3 = 1#1), ∀ a x, ((![v232, v233, v90] : Fin 3 → IVec S16 32) a x).toNat < S8x8x1024.size a)
theorem k0_idx316_inb : ∀ (i : grid0.Coords) (k0_t3 : Fin k0_t3_loop.trips) (v90 : IVec S16 32) (v232 : IVec S16 32) (v233 : IVec S16 32) (k0_hw318 : k0_chk318 i k0_t3 v90 v232 v233), ∀ (k0_h1 : k0_cond1 i k0_t3 = 1#1), ∀ a x, ((![v232, v233, v90] : Fin 3 → IVec S16 32) a x).toNat < S8x8x1024.size a := fun i k0_t3 v90 v232 v233 k0_hw318 k0_h1 => k0_hw318 k0_h1

def k0_chk319 (i : grid0.Coords) (k0_t3 : Fin k0_t3_loop.trips) (v85 : IVec S16 32) (v240 : IVec S16 32) : Prop :=
  (∀ (k0_h1 : k0_cond1 i k0_t3 = 1#1), ∀ a x, ((![v85, v240] : Fin 2 → IVec S16 32) a x).toNat < S32x129.size a)
theorem k0_idx317_inb : ∀ (i : grid0.Coords) (k0_t3 : Fin k0_t3_loop.trips) (v85 : IVec S16 32) (v240 : IVec S16 32) (k0_hw319 : k0_chk319 i k0_t3 v85 v240), ∀ (k0_h1 : k0_cond1 i k0_t3 = 1#1), ∀ a x, ((![v85, v240] : Fin 2 → IVec S16 32) a x).toNat < S32x129.size a := fun i k0_t3 v85 v240 k0_hw319 k0_h1 => k0_hw319 k0_h1

def k0_chk320 (i : grid0.Coords) (k0_t3 : Fin k0_t3_loop.trips) (v90 : IVec S16 32) (v237 : IVec S16 32) (v238 : IVec S16 32) : Prop :=
  (∀ (k0_h1 : k0_cond1 i k0_t3 = 1#1), ∀ a x, ((![v237, v238, v90] : Fin 3 → IVec S16 32) a x).toNat < S8x8x1024.size a)
theorem k0_idx318_inb : ∀ (i : grid0.Coords) (k0_t3 : Fin k0_t3_loop.trips) (v90 : IVec S16 32) (v237 : IVec S16 32) (v238 : IVec S16 32) (k0_hw320 : k0_chk320 i k0_t3 v90 v237 v238), ∀ (k0_h1 : k0_cond1 i k0_t3 = 1#1), ∀ a x, ((![v237, v238, v90] : Fin 3 → IVec S16 32) a x).toNat < S8x8x1024.size a := fun i k0_t3 v90 v237 v238 k0_hw320 k0_h1 => k0_hw320 k0_h1

def k0_chk321 (i : grid0.Coords) (k0_t3 : Fin k0_t3_loop.trips) (v85 : IVec S16 32) (v245 : IVec S16 32) : Prop :=
  (∀ (k0_h1 : k0_cond1 i k0_t3 = 1#1), ∀ a x, ((![v85, v245] : Fin 2 → IVec S16 32) a x).toNat < S32x129.size a)
theorem k0_idx319_inb : ∀ (i : grid0.Coords) (k0_t3 : Fin k0_t3_loop.trips) (v85 : IVec S16 32) (v245 : IVec S16 32) (k0_hw321 : k0_chk321 i k0_t3 v85 v245), ∀ (k0_h1 : k0_cond1 i k0_t3 = 1#1), ∀ a x, ((![v85, v245] : Fin 2 → IVec S16 32) a x).toNat < S32x129.size a := fun i k0_t3 v85 v245 k0_hw321 k0_h1 => k0_hw321 k0_h1

def k0_chk322 (i : grid0.Coords) (k0_t3 : Fin k0_t3_loop.trips) (v90 : IVec S16 32) (v242 : IVec S16 32) (v243 : IVec S16 32) : Prop :=
  (∀ (k0_h1 : k0_cond1 i k0_t3 = 1#1), ∀ a x, ((![v242, v243, v90] : Fin 3 → IVec S16 32) a x).toNat < S8x8x1024.size a)
theorem k0_idx320_inb : ∀ (i : grid0.Coords) (k0_t3 : Fin k0_t3_loop.trips) (v90 : IVec S16 32) (v242 : IVec S16 32) (v243 : IVec S16 32) (k0_hw322 : k0_chk322 i k0_t3 v90 v242 v243), ∀ (k0_h1 : k0_cond1 i k0_t3 = 1#1), ∀ a x, ((![v242, v243, v90] : Fin 3 → IVec S16 32) a x).toNat < S8x8x1024.size a := fun i k0_t3 v90 v242 v243 k0_hw322 k0_h1 => k0_hw322 k0_h1

def k0_chk323 (i : grid0.Coords) (k0_t3 : Fin k0_t3_loop.trips) (v85 : IVec S16 32) (v250 : IVec S16 32) : Prop :=
  (∀ (k0_h1 : k0_cond1 i k0_t3 = 1#1), ∀ a x, ((![v85, v250] : Fin 2 → IVec S16 32) a x).toNat < S32x129.size a)
theorem k0_idx321_inb : ∀ (i : grid0.Coords) (k0_t3 : Fin k0_t3_loop.trips) (v85 : IVec S16 32) (v250 : IVec S16 32) (k0_hw323 : k0_chk323 i k0_t3 v85 v250), ∀ (k0_h1 : k0_cond1 i k0_t3 = 1#1), ∀ a x, ((![v85, v250] : Fin 2 → IVec S16 32) a x).toNat < S32x129.size a := fun i k0_t3 v85 v250 k0_hw323 k0_h1 => k0_hw323 k0_h1

def k0_chk324 (i : grid0.Coords) (k0_t3 : Fin k0_t3_loop.trips) (v90 : IVec S16 32) (v247 : IVec S16 32) (v248 : IVec S16 32) : Prop :=
  (∀ (k0_h1 : k0_cond1 i k0_t3 = 1#1), ∀ a x, ((![v247, v248, v90] : Fin 3 → IVec S16 32) a x).toNat < S8x8x1024.size a)
theorem k0_idx322_inb : ∀ (i : grid0.Coords) (k0_t3 : Fin k0_t3_loop.trips) (v90 : IVec S16 32) (v247 : IVec S16 32) (v248 : IVec S16 32) (k0_hw324 : k0_chk324 i k0_t3 v90 v247 v248), ∀ (k0_h1 : k0_cond1 i k0_t3 = 1#1), ∀ a x, ((![v247, v248, v90] : Fin 3 → IVec S16 32) a x).toNat < S8x8x1024.size a := fun i k0_t3 v90 v247 v248 k0_hw324 k0_h1 => k0_hw324 k0_h1

def k0_chk325 (i : grid0.Coords) (k0_t3 : Fin k0_t3_loop.trips) (v85 : IVec S16 32) (v255 : IVec S16 32) : Prop :=
  (∀ (k0_h1 : k0_cond1 i k0_t3 = 1#1), ∀ a x, ((![v85, v255] : Fin 2 → IVec S16 32) a x).toNat < S32x129.size a)
theorem k0_idx323_inb : ∀ (i : grid0.Coords) (k0_t3 : Fin k0_t3_loop.trips) (v85 : IVec S16 32) (v255 : IVec S16 32) (k0_hw325 : k0_chk325 i k0_t3 v85 v255), ∀ (k0_h1 : k0_cond1 i k0_t3 = 1#1), ∀ a x, ((![v85, v255] : Fin 2 → IVec S16 32) a x).toNat < S32x129.size a := fun i k0_t3 v85 v255 k0_hw325 k0_h1 => k0_hw325 k0_h1

def k0_chk326 (i : grid0.Coords) (k0_t3 : Fin k0_t3_loop.trips) (v90 : IVec S16 32) (v252 : IVec S16 32) (v253 : IVec S16 32) : Prop :=
  (∀ (k0_h1 : k0_cond1 i k0_t3 = 1#1), ∀ a x, ((![v252, v253, v90] : Fin 3 → IVec S16 32) a x).toNat < S8x8x1024.size a)
theorem k0_idx324_inb : ∀ (i : grid0.Coords) (k0_t3 : Fin k0_t3_loop.trips) (v90 : IVec S16 32) (v252 : IVec S16 32) (v253 : IVec S16 32) (k0_hw326 : k0_chk326 i k0_t3 v90 v252 v253), ∀ (k0_h1 : k0_cond1 i k0_t3 = 1#1), ∀ a x, ((![v252, v253, v90] : Fin 3 → IVec S16 32) a x).toNat < S8x8x1024.size a := fun i k0_t3 v90 v252 v253 k0_hw326 k0_h1 => k0_hw326 k0_h1

def k0_chk327 (i : grid0.Coords) (k0_t3 : Fin k0_t3_loop.trips) (v85 : IVec S16 32) (v260 : IVec S16 32) : Prop :=
  (∀ (k0_h1 : k0_cond1 i k0_t3 = 1#1), ∀ a x, ((![v85, v260] : Fin 2 → IVec S16 32) a x).toNat < S32x129.size a)
theorem k0_idx325_inb : ∀ (i : grid0.Coords) (k0_t3 : Fin k0_t3_loop.trips) (v85 : IVec S16 32) (v260 : IVec S16 32) (k0_hw327 : k0_chk327 i k0_t3 v85 v260), ∀ (k0_h1 : k0_cond1 i k0_t3 = 1#1), ∀ a x, ((![v85, v260] : Fin 2 → IVec S16 32) a x).toNat < S32x129.size a := fun i k0_t3 v85 v260 k0_hw327 k0_h1 => k0_hw327 k0_h1

def k0_chk328 (i : grid0.Coords) (k0_t3 : Fin k0_t3_loop.trips) (v90 : IVec S16 32) (v257 : IVec S16 32) (v258 : IVec S16 32) : Prop :=
  (∀ (k0_h1 : k0_cond1 i k0_t3 = 1#1), ∀ a x, ((![v257, v258, v90] : Fin 3 → IVec S16 32) a x).toNat < S8x8x1024.size a)
theorem k0_idx326_inb : ∀ (i : grid0.Coords) (k0_t3 : Fin k0_t3_loop.trips) (v90 : IVec S16 32) (v257 : IVec S16 32) (v258 : IVec S16 32) (k0_hw328 : k0_chk328 i k0_t3 v90 v257 v258), ∀ (k0_h1 : k0_cond1 i k0_t3 = 1#1), ∀ a x, ((![v257, v258, v90] : Fin 3 → IVec S16 32) a x).toNat < S8x8x1024.size a := fun i k0_t3 v90 v257 v258 k0_hw328 k0_h1 => k0_hw328 k0_h1

def k0_chk329 (i : grid0.Coords) (k0_t3 : Fin k0_t3_loop.trips) (v85 : IVec S16 32) (v265 : IVec S16 32) : Prop :=
  (∀ (k0_h1 : k0_cond1 i k0_t3 = 1#1), ∀ a x, ((![v85, v265] : Fin 2 → IVec S16 32) a x).toNat < S32x129.size a)
theorem k0_idx327_inb : ∀ (i : grid0.Coords) (k0_t3 : Fin k0_t3_loop.trips) (v85 : IVec S16 32) (v265 : IVec S16 32) (k0_hw329 : k0_chk329 i k0_t3 v85 v265), ∀ (k0_h1 : k0_cond1 i k0_t3 = 1#1), ∀ a x, ((![v85, v265] : Fin 2 → IVec S16 32) a x).toNat < S32x129.size a := fun i k0_t3 v85 v265 k0_hw329 k0_h1 => k0_hw329 k0_h1

def k0_chk330 (i : grid0.Coords) (k0_t3 : Fin k0_t3_loop.trips) (v90 : IVec S16 32) (v262 : IVec S16 32) (v263 : IVec S16 32) : Prop :=
  (∀ (k0_h1 : k0_cond1 i k0_t3 = 1#1), ∀ a x, ((![v262, v263, v90] : Fin 3 → IVec S16 32) a x).toNat < S8x8x1024.size a)
theorem k0_idx328_inb : ∀ (i : grid0.Coords) (k0_t3 : Fin k0_t3_loop.trips) (v90 : IVec S16 32) (v262 : IVec S16 32) (v263 : IVec S16 32) (k0_hw330 : k0_chk330 i k0_t3 v90 v262 v263), ∀ (k0_h1 : k0_cond1 i k0_t3 = 1#1), ∀ a x, ((![v262, v263, v90] : Fin 3 → IVec S16 32) a x).toNat < S8x8x1024.size a := fun i k0_t3 v90 v262 v263 k0_hw330 k0_h1 => k0_hw330 k0_h1

def k0_chk331 (i : grid0.Coords) (k0_t3 : Fin k0_t3_loop.trips) (v85 : IVec S16 32) (v270 : IVec S16 32) : Prop :=
  (∀ (k0_h1 : k0_cond1 i k0_t3 = 1#1), ∀ a x, ((![v85, v270] : Fin 2 → IVec S16 32) a x).toNat < S32x129.size a)
theorem k0_idx329_inb : ∀ (i : grid0.Coords) (k0_t3 : Fin k0_t3_loop.trips) (v85 : IVec S16 32) (v270 : IVec S16 32) (k0_hw331 : k0_chk331 i k0_t3 v85 v270), ∀ (k0_h1 : k0_cond1 i k0_t3 = 1#1), ∀ a x, ((![v85, v270] : Fin 2 → IVec S16 32) a x).toNat < S32x129.size a := fun i k0_t3 v85 v270 k0_hw331 k0_h1 => k0_hw331 k0_h1

def k0_chk332 (i : grid0.Coords) (k0_t3 : Fin k0_t3_loop.trips) (v90 : IVec S16 32) (v267 : IVec S16 32) (v268 : IVec S16 32) : Prop :=
  (∀ (k0_h1 : k0_cond1 i k0_t3 = 1#1), ∀ a x, ((![v267, v268, v90] : Fin 3 → IVec S16 32) a x).toNat < S8x8x1024.size a)
theorem k0_idx330_inb : ∀ (i : grid0.Coords) (k0_t3 : Fin k0_t3_loop.trips) (v90 : IVec S16 32) (v267 : IVec S16 32) (v268 : IVec S16 32) (k0_hw332 : k0_chk332 i k0_t3 v90 v267 v268), ∀ (k0_h1 : k0_cond1 i k0_t3 = 1#1), ∀ a x, ((![v267, v268, v90] : Fin 3 → IVec S16 32) a x).toNat < S8x8x1024.size a := fun i k0_t3 v90 v267 v268 k0_hw332 k0_h1 => k0_hw332 k0_h1

def k0_chk333 (i : grid0.Coords) (k0_t3 : Fin k0_t3_loop.trips) (v85 : IVec S16 32) (v275 : IVec S16 32) : Prop :=
  (∀ (k0_h1 : k0_cond1 i k0_t3 = 1#1), ∀ a x, ((![v85, v275] : Fin 2 → IVec S16 32) a x).toNat < S32x129.size a)
theorem k0_idx331_inb : ∀ (i : grid0.Coords) (k0_t3 : Fin k0_t3_loop.trips) (v85 : IVec S16 32) (v275 : IVec S16 32) (k0_hw333 : k0_chk333 i k0_t3 v85 v275), ∀ (k0_h1 : k0_cond1 i k0_t3 = 1#1), ∀ a x, ((![v85, v275] : Fin 2 → IVec S16 32) a x).toNat < S32x129.size a := fun i k0_t3 v85 v275 k0_hw333 k0_h1 => k0_hw333 k0_h1

def k0_chk334 (i : grid0.Coords) (k0_t3 : Fin k0_t3_loop.trips) (v90 : IVec S16 32) (v272 : IVec S16 32) (v273 : IVec S16 32) : Prop :=
  (∀ (k0_h1 : k0_cond1 i k0_t3 = 1#1), ∀ a x, ((![v272, v273, v90] : Fin 3 → IVec S16 32) a x).toNat < S8x8x1024.size a)
theorem k0_idx332_inb : ∀ (i : grid0.Coords) (k0_t3 : Fin k0_t3_loop.trips) (v90 : IVec S16 32) (v272 : IVec S16 32) (v273 : IVec S16 32) (k0_hw334 : k0_chk334 i k0_t3 v90 v272 v273), ∀ (k0_h1 : k0_cond1 i k0_t3 = 1#1), ∀ a x, ((![v272, v273, v90] : Fin 3 → IVec S16 32) a x).toNat < S8x8x1024.size a := fun i k0_t3 v90 v272 v273 k0_hw334 k0_h1 => k0_hw334 k0_h1

def k0_chk335 (i : grid0.Coords) (k0_t3 : Fin k0_t3_loop.trips) (v85 : IVec S16 32) (v280 : IVec S16 32) : Prop :=
  (∀ (k0_h1 : k0_cond1 i k0_t3 = 1#1), ∀ a x, ((![v85, v280] : Fin 2 → IVec S16 32) a x).toNat < S32x129.size a)
theorem k0_idx333_inb : ∀ (i : grid0.Coords) (k0_t3 : Fin k0_t3_loop.trips) (v85 : IVec S16 32) (v280 : IVec S16 32) (k0_hw335 : k0_chk335 i k0_t3 v85 v280), ∀ (k0_h1 : k0_cond1 i k0_t3 = 1#1), ∀ a x, ((![v85, v280] : Fin 2 → IVec S16 32) a x).toNat < S32x129.size a := fun i k0_t3 v85 v280 k0_hw335 k0_h1 => k0_hw335 k0_h1

def k0_chk336 (i : grid0.Coords) (k0_t3 : Fin k0_t3_loop.trips) (v90 : IVec S16 32) (v277 : IVec S16 32) (v278 : IVec S16 32) : Prop :=
  (∀ (k0_h1 : k0_cond1 i k0_t3 = 1#1), ∀ a x, ((![v277, v278, v90] : Fin 3 → IVec S16 32) a x).toNat < S8x8x1024.size a)
theorem k0_idx334_inb : ∀ (i : grid0.Coords) (k0_t3 : Fin k0_t3_loop.trips) (v90 : IVec S16 32) (v277 : IVec S16 32) (v278 : IVec S16 32) (k0_hw336 : k0_chk336 i k0_t3 v90 v277 v278), ∀ (k0_h1 : k0_cond1 i k0_t3 = 1#1), ∀ a x, ((![v277, v278, v90] : Fin 3 → IVec S16 32) a x).toNat < S8x8x1024.size a := fun i k0_t3 v90 v277 v278 k0_hw336 k0_h1 => k0_hw336 k0_h1

def k0_chk337 (i : grid0.Coords) (k0_t3 : Fin k0_t3_loop.trips) (v85 : IVec S16 32) (v285 : IVec S16 32) : Prop :=
  (∀ (k0_h1 : k0_cond1 i k0_t3 = 1#1), ∀ a x, ((![v85, v285] : Fin 2 → IVec S16 32) a x).toNat < S32x129.size a)
theorem k0_idx335_inb : ∀ (i : grid0.Coords) (k0_t3 : Fin k0_t3_loop.trips) (v85 : IVec S16 32) (v285 : IVec S16 32) (k0_hw337 : k0_chk337 i k0_t3 v85 v285), ∀ (k0_h1 : k0_cond1 i k0_t3 = 1#1), ∀ a x, ((![v85, v285] : Fin 2 → IVec S16 32) a x).toNat < S32x129.size a := fun i k0_t3 v85 v285 k0_hw337 k0_h1 => k0_hw337 k0_h1

def k0_chk338 (i : grid0.Coords) (k0_t3 : Fin k0_t3_loop.trips) (v90 : IVec S16 32) (v282 : IVec S16 32) (v283 : IVec S16 32) : Prop :=
  (∀ (k0_h1 : k0_cond1 i k0_t3 = 1#1), ∀ a x, ((![v282, v283, v90] : Fin 3 → IVec S16 32) a x).toNat < S8x8x1024.size a)
theorem k0_idx336_inb : ∀ (i : grid0.Coords) (k0_t3 : Fin k0_t3_loop.trips) (v90 : IVec S16 32) (v282 : IVec S16 32) (v283 : IVec S16 32) (k0_hw338 : k0_chk338 i k0_t3 v90 v282 v283), ∀ (k0_h1 : k0_cond1 i k0_t3 = 1#1), ∀ a x, ((![v282, v283, v90] : Fin 3 → IVec S16 32) a x).toNat < S8x8x1024.size a := fun i k0_t3 v90 v282 v283 k0_hw338 k0_h1 => k0_hw338 k0_h1

def k0_chk339 (i : grid0.Coords) (k0_t3 : Fin k0_t3_loop.trips) (v85 : IVec S16 32) (v290 : IVec S16 32) : Prop :=
  (∀ (k0_h1 : k0_cond1 i k0_t3 = 1#1), ∀ a x, ((![v85, v290] : Fin 2 → IVec S16 32) a x).toNat < S32x129.size a)
theorem k0_idx337_inb : ∀ (i : grid0.Coords) (k0_t3 : Fin k0_t3_loop.trips) (v85 : IVec S16 32) (v290 : IVec S16 32) (k0_hw339 : k0_chk339 i k0_t3 v85 v290), ∀ (k0_h1 : k0_cond1 i k0_t3 = 1#1), ∀ a x, ((![v85, v290] : Fin 2 → IVec S16 32) a x).toNat < S32x129.size a := fun i k0_t3 v85 v290 k0_hw339 k0_h1 => k0_hw339 k0_h1

def k0_chk340 (i : grid0.Coords) (k0_t3 : Fin k0_t3_loop.trips) (v90 : IVec S16 32) (v287 : IVec S16 32) (v288 : IVec S16 32) : Prop :=
  (∀ (k0_h1 : k0_cond1 i k0_t3 = 1#1), ∀ a x, ((![v287, v288, v90] : Fin 3 → IVec S16 32) a x).toNat < S8x8x1024.size a)
theorem k0_idx338_inb : ∀ (i : grid0.Coords) (k0_t3 : Fin k0_t3_loop.trips) (v90 : IVec S16 32) (v287 : IVec S16 32) (v288 : IVec S16 32) (k0_hw340 : k0_chk340 i k0_t3 v90 v287 v288), ∀ (k0_h1 : k0_cond1 i k0_t3 = 1#1), ∀ a x, ((![v287, v288, v90] : Fin 3 → IVec S16 32) a x).toNat < S8x8x1024.size a := fun i k0_t3 v90 v287 v288 k0_hw340 k0_h1 => k0_hw340 k0_h1

def k0_chk341 (i : grid0.Coords) (k0_t3 : Fin k0_t3_loop.trips) (v85 : IVec S16 32) (v295 : IVec S16 32) : Prop :=
  (∀ (k0_h1 : k0_cond1 i k0_t3 = 1#1), ∀ a x, ((![v85, v295] : Fin 2 → IVec S16 32) a x).toNat < S32x129.size a)
theorem k0_idx339_inb : ∀ (i : grid0.Coords) (k0_t3 : Fin k0_t3_loop.trips) (v85 : IVec S16 32) (v295 : IVec S16 32) (k0_hw341 : k0_chk341 i k0_t3 v85 v295), ∀ (k0_h1 : k0_cond1 i k0_t3 = 1#1), ∀ a x, ((![v85, v295] : Fin 2 → IVec S16 32) a x).toNat < S32x129.size a := fun i k0_t3 v85 v295 k0_hw341 k0_h1 => k0_hw341 k0_h1

def k0_chk342 (i : grid0.Coords) (k0_t3 : Fin k0_t3_loop.trips) (v90 : IVec S16 32) (v292 : IVec S16 32) (v293 : IVec S16 32) : Prop :=
  (∀ (k0_h1 : k0_cond1 i k0_t3 = 1#1), ∀ a x, ((![v292, v293, v90] : Fin 3 → IVec S16 32) a x).toNat < S8x8x1024.size a)
theorem k0_idx340_inb : ∀ (i : grid0.Coords) (k0_t3 : Fin k0_t3_loop.trips) (v90 : IVec S16 32) (v292 : IVec S16 32) (v293 : IVec S16 32) (k0_hw342 : k0_chk342 i k0_t3 v90 v292 v293), ∀ (k0_h1 : k0_cond1 i k0_t3 = 1#1), ∀ a x, ((![v292, v293, v90] : Fin 3 → IVec S16 32) a x).toNat < S8x8x1024.size a := fun i k0_t3 v90 v292 v293 k0_hw342 k0_h1 => k0_hw342 k0_h1

def k0_chk343 (i : grid0.Coords) (k0_t3 : Fin k0_t3_loop.trips) (v85 : IVec S16 32) (v300 : IVec S16 32) : Prop :=
  (∀ (k0_h1 : k0_cond1 i k0_t3 = 1#1), ∀ a x, ((![v85, v300] : Fin 2 → IVec S16 32) a x).toNat < S32x129.size a)
theorem k0_idx341_inb : ∀ (i : grid0.Coords) (k0_t3 : Fin k0_t3_loop.trips) (v85 : IVec S16 32) (v300 : IVec S16 32) (k0_hw343 : k0_chk343 i k0_t3 v85 v300), ∀ (k0_h1 : k0_cond1 i k0_t3 = 1#1), ∀ a x, ((![v85, v300] : Fin 2 → IVec S16 32) a x).toNat < S32x129.size a := fun i k0_t3 v85 v300 k0_hw343 k0_h1 => k0_hw343 k0_h1

def k0_chk344 (i : grid0.Coords) (k0_t3 : Fin k0_t3_loop.trips) (v90 : IVec S16 32) (v297 : IVec S16 32) (v298 : IVec S16 32) : Prop :=
  (∀ (k0_h1 : k0_cond1 i k0_t3 = 1#1), ∀ a x, ((![v297, v298, v90] : Fin 3 → IVec S16 32) a x).toNat < S8x8x1024.size a)
theorem k0_idx342_inb : ∀ (i : grid0.Coords) (k0_t3 : Fin k0_t3_loop.trips) (v90 : IVec S16 32) (v297 : IVec S16 32) (v298 : IVec S16 32) (k0_hw344 : k0_chk344 i k0_t3 v90 v297 v298), ∀ (k0_h1 : k0_cond1 i k0_t3 = 1#1), ∀ a x, ((![v297, v298, v90] : Fin 3 → IVec S16 32) a x).toNat < S8x8x1024.size a := fun i k0_t3 v90 v297 v298 k0_hw344 k0_h1 => k0_hw344 k0_h1

def k0_chk345 (i : grid0.Coords) (k0_t3 : Fin k0_t3_loop.trips) (v85 : IVec S16 32) (v305 : IVec S16 32) : Prop :=
  (∀ (k0_h1 : k0_cond1 i k0_t3 = 1#1), ∀ a x, ((![v85, v305] : Fin 2 → IVec S16 32) a x).toNat < S32x129.size a)
theorem k0_idx343_inb : ∀ (i : grid0.Coords) (k0_t3 : Fin k0_t3_loop.trips) (v85 : IVec S16 32) (v305 : IVec S16 32) (k0_hw345 : k0_chk345 i k0_t3 v85 v305), ∀ (k0_h1 : k0_cond1 i k0_t3 = 1#1), ∀ a x, ((![v85, v305] : Fin 2 → IVec S16 32) a x).toNat < S32x129.size a := fun i k0_t3 v85 v305 k0_hw345 k0_h1 => k0_hw345 k0_h1

def k0_chk346 (i : grid0.Coords) (k0_t3 : Fin k0_t3_loop.trips) (v90 : IVec S16 32) (v302 : IVec S16 32) (v303 : IVec S16 32) : Prop :=
  (∀ (k0_h1 : k0_cond1 i k0_t3 = 1#1), ∀ a x, ((![v302, v303, v90] : Fin 3 → IVec S16 32) a x).toNat < S8x8x1024.size a)
theorem k0_idx344_inb : ∀ (i : grid0.Coords) (k0_t3 : Fin k0_t3_loop.trips) (v90 : IVec S16 32) (v302 : IVec S16 32) (v303 : IVec S16 32) (k0_hw346 : k0_chk346 i k0_t3 v90 v302 v303), ∀ (k0_h1 : k0_cond1 i k0_t3 = 1#1), ∀ a x, ((![v302, v303, v90] : Fin 3 → IVec S16 32) a x).toNat < S8x8x1024.size a := fun i k0_t3 v90 v302 v303 k0_hw346 k0_h1 => k0_hw346 k0_h1

def k0_chk347 (i : grid0.Coords) (k0_t3 : Fin k0_t3_loop.trips) (v85 : IVec S16 32) (v310 : IVec S16 32) : Prop :=
  (∀ (k0_h1 : k0_cond1 i k0_t3 = 1#1), ∀ a x, ((![v85, v310] : Fin 2 → IVec S16 32) a x).toNat < S32x129.size a)
theorem k0_idx345_inb : ∀ (i : grid0.Coords) (k0_t3 : Fin k0_t3_loop.trips) (v85 : IVec S16 32) (v310 : IVec S16 32) (k0_hw347 : k0_chk347 i k0_t3 v85 v310), ∀ (k0_h1 : k0_cond1 i k0_t3 = 1#1), ∀ a x, ((![v85, v310] : Fin 2 → IVec S16 32) a x).toNat < S32x129.size a := fun i k0_t3 v85 v310 k0_hw347 k0_h1 => k0_hw347 k0_h1

def k0_chk348 (i : grid0.Coords) (k0_t3 : Fin k0_t3_loop.trips) (v90 : IVec S16 32) (v307 : IVec S16 32) (v308 : IVec S16 32) : Prop :=
  (∀ (k0_h1 : k0_cond1 i k0_t3 = 1#1), ∀ a x, ((![v307, v308, v90] : Fin 3 → IVec S16 32) a x).toNat < S8x8x1024.size a)
theorem k0_idx346_inb : ∀ (i : grid0.Coords) (k0_t3 : Fin k0_t3_loop.trips) (v90 : IVec S16 32) (v307 : IVec S16 32) (v308 : IVec S16 32) (k0_hw348 : k0_chk348 i k0_t3 v90 v307 v308), ∀ (k0_h1 : k0_cond1 i k0_t3 = 1#1), ∀ a x, ((![v307, v308, v90] : Fin 3 → IVec S16 32) a x).toNat < S8x8x1024.size a := fun i k0_t3 v90 v307 v308 k0_hw348 k0_h1 => k0_hw348 k0_h1

def k0_chk349 (i : grid0.Coords) (k0_t3 : Fin k0_t3_loop.trips) (v85 : IVec S16 32) (v315 : IVec S16 32) : Prop :=
  (∀ (k0_h1 : k0_cond1 i k0_t3 = 1#1), ∀ a x, ((![v85, v315] : Fin 2 → IVec S16 32) a x).toNat < S32x129.size a)
theorem k0_idx347_inb : ∀ (i : grid0.Coords) (k0_t3 : Fin k0_t3_loop.trips) (v85 : IVec S16 32) (v315 : IVec S16 32) (k0_hw349 : k0_chk349 i k0_t3 v85 v315), ∀ (k0_h1 : k0_cond1 i k0_t3 = 1#1), ∀ a x, ((![v85, v315] : Fin 2 → IVec S16 32) a x).toNat < S32x129.size a := fun i k0_t3 v85 v315 k0_hw349 k0_h1 => k0_hw349 k0_h1

def k0_chk350 (i : grid0.Coords) (k0_t3 : Fin k0_t3_loop.trips) (v90 : IVec S16 32) (v312 : IVec S16 32) (v313 : IVec S16 32) : Prop :=
  (∀ (k0_h1 : k0_cond1 i k0_t3 = 1#1), ∀ a x, ((![v312, v313, v90] : Fin 3 → IVec S16 32) a x).toNat < S8x8x1024.size a)
theorem k0_idx348_inb : ∀ (i : grid0.Coords) (k0_t3 : Fin k0_t3_loop.trips) (v90 : IVec S16 32) (v312 : IVec S16 32) (v313 : IVec S16 32) (k0_hw350 : k0_chk350 i k0_t3 v90 v312 v313), ∀ (k0_h1 : k0_cond1 i k0_t3 = 1#1), ∀ a x, ((![v312, v313, v90] : Fin 3 → IVec S16 32) a x).toNat < S8x8x1024.size a := fun i k0_t3 v90 v312 v313 k0_hw350 k0_h1 => k0_hw350 k0_h1

def k0_chk351 (i : grid0.Coords) (k0_t3 : Fin k0_t3_loop.trips) (v85 : IVec S16 32) (v320 : IVec S16 32) : Prop :=
  (∀ (k0_h1 : k0_cond1 i k0_t3 = 1#1), ∀ a x, ((![v85, v320] : Fin 2 → IVec S16 32) a x).toNat < S32x129.size a)
theorem k0_idx349_inb : ∀ (i : grid0.Coords) (k0_t3 : Fin k0_t3_loop.trips) (v85 : IVec S16 32) (v320 : IVec S16 32) (k0_hw351 : k0_chk351 i k0_t3 v85 v320), ∀ (k0_h1 : k0_cond1 i k0_t3 = 1#1), ∀ a x, ((![v85, v320] : Fin 2 → IVec S16 32) a x).toNat < S32x129.size a := fun i k0_t3 v85 v320 k0_hw351 k0_h1 => k0_hw351 k0_h1

def k0_chk352 (i : grid0.Coords) (k0_t3 : Fin k0_t3_loop.trips) (v90 : IVec S16 32) (v317 : IVec S16 32) (v318 : IVec S16 32) : Prop :=
  (∀ (k0_h1 : k0_cond1 i k0_t3 = 1#1), ∀ a x, ((![v317, v318, v90] : Fin 3 → IVec S16 32) a x).toNat < S8x8x1024.size a)
theorem k0_idx350_inb : ∀ (i : grid0.Coords) (k0_t3 : Fin k0_t3_loop.trips) (v90 : IVec S16 32) (v317 : IVec S16 32) (v318 : IVec S16 32) (k0_hw352 : k0_chk352 i k0_t3 v90 v317 v318), ∀ (k0_h1 : k0_cond1 i k0_t3 = 1#1), ∀ a x, ((![v317, v318, v90] : Fin 3 → IVec S16 32) a x).toNat < S8x8x1024.size a := fun i k0_t3 v90 v317 v318 k0_hw352 k0_h1 => k0_hw352 k0_h1

def k0_chk353 (i : grid0.Coords) (k0_t3 : Fin k0_t3_loop.trips) (v85 : IVec S16 32) (v325 : IVec S16 32) : Prop :=
  (∀ (k0_h1 : k0_cond1 i k0_t3 = 1#1), ∀ a x, ((![v85, v325] : Fin 2 → IVec S16 32) a x).toNat < S32x129.size a)
theorem k0_idx351_inb : ∀ (i : grid0.Coords) (k0_t3 : Fin k0_t3_loop.trips) (v85 : IVec S16 32) (v325 : IVec S16 32) (k0_hw353 : k0_chk353 i k0_t3 v85 v325), ∀ (k0_h1 : k0_cond1 i k0_t3 = 1#1), ∀ a x, ((![v85, v325] : Fin 2 → IVec S16 32) a x).toNat < S32x129.size a := fun i k0_t3 v85 v325 k0_hw353 k0_h1 => k0_hw353 k0_h1

def k0_chk354 (i : grid0.Coords) (k0_t3 : Fin k0_t3_loop.trips) (v90 : IVec S16 32) (v322 : IVec S16 32) (v323 : IVec S16 32) : Prop :=
  (∀ (k0_h1 : k0_cond1 i k0_t3 = 1#1), ∀ a x, ((![v322, v323, v90] : Fin 3 → IVec S16 32) a x).toNat < S8x8x1024.size a)
theorem k0_idx352_inb : ∀ (i : grid0.Coords) (k0_t3 : Fin k0_t3_loop.trips) (v90 : IVec S16 32) (v322 : IVec S16 32) (v323 : IVec S16 32) (k0_hw354 : k0_chk354 i k0_t3 v90 v322 v323), ∀ (k0_h1 : k0_cond1 i k0_t3 = 1#1), ∀ a x, ((![v322, v323, v90] : Fin 3 → IVec S16 32) a x).toNat < S8x8x1024.size a := fun i k0_t3 v90 v322 v323 k0_hw354 k0_h1 => k0_hw354 k0_h1

def k0_chk355 (i : grid0.Coords) (k0_t3 : Fin k0_t3_loop.trips) (v85 : IVec S16 32) (v330 : IVec S16 32) : Prop :=
  (∀ (k0_h1 : k0_cond1 i k0_t3 = 1#1), ∀ a x, ((![v85, v330] : Fin 2 → IVec S16 32) a x).toNat < S32x129.size a)
theorem k0_idx353_inb : ∀ (i : grid0.Coords) (k0_t3 : Fin k0_t3_loop.trips) (v85 : IVec S16 32) (v330 : IVec S16 32) (k0_hw355 : k0_chk355 i k0_t3 v85 v330), ∀ (k0_h1 : k0_cond1 i k0_t3 = 1#1), ∀ a x, ((![v85, v330] : Fin 2 → IVec S16 32) a x).toNat < S32x129.size a := fun i k0_t3 v85 v330 k0_hw355 k0_h1 => k0_hw355 k0_h1

def k0_chk356 (i : grid0.Coords) (k0_t3 : Fin k0_t3_loop.trips) (v90 : IVec S16 32) (v327 : IVec S16 32) (v328 : IVec S16 32) : Prop :=
  (∀ (k0_h1 : k0_cond1 i k0_t3 = 1#1), ∀ a x, ((![v327, v328, v90] : Fin 3 → IVec S16 32) a x).toNat < S8x8x1024.size a)
theorem k0_idx354_inb : ∀ (i : grid0.Coords) (k0_t3 : Fin k0_t3_loop.trips) (v90 : IVec S16 32) (v327 : IVec S16 32) (v328 : IVec S16 32) (k0_hw356 : k0_chk356 i k0_t3 v90 v327 v328), ∀ (k0_h1 : k0_cond1 i k0_t3 = 1#1), ∀ a x, ((![v327, v328, v90] : Fin 3 → IVec S16 32) a x).toNat < S8x8x1024.size a := fun i k0_t3 v90 v327 v328 k0_hw356 k0_h1 => k0_hw356 k0_h1

def k0_chk357 (i : grid0.Coords) (k0_t3 : Fin k0_t3_loop.trips) (v85 : IVec S16 32) (v335 : IVec S16 32) : Prop :=
  (∀ (k0_h1 : k0_cond1 i k0_t3 = 1#1), ∀ a x, ((![v85, v335] : Fin 2 → IVec S16 32) a x).toNat < S32x129.size a)
theorem k0_idx355_inb : ∀ (i : grid0.Coords) (k0_t3 : Fin k0_t3_loop.trips) (v85 : IVec S16 32) (v335 : IVec S16 32) (k0_hw357 : k0_chk357 i k0_t3 v85 v335), ∀ (k0_h1 : k0_cond1 i k0_t3 = 1#1), ∀ a x, ((![v85, v335] : Fin 2 → IVec S16 32) a x).toNat < S32x129.size a := fun i k0_t3 v85 v335 k0_hw357 k0_h1 => k0_hw357 k0_h1

def k0_chk358 (i : grid0.Coords) (k0_t3 : Fin k0_t3_loop.trips) (v90 : IVec S16 32) (v332 : IVec S16 32) (v333 : IVec S16 32) : Prop :=
  (∀ (k0_h1 : k0_cond1 i k0_t3 = 1#1), ∀ a x, ((![v332, v333, v90] : Fin 3 → IVec S16 32) a x).toNat < S8x8x1024.size a)
theorem k0_idx356_inb : ∀ (i : grid0.Coords) (k0_t3 : Fin k0_t3_loop.trips) (v90 : IVec S16 32) (v332 : IVec S16 32) (v333 : IVec S16 32) (k0_hw358 : k0_chk358 i k0_t3 v90 v332 v333), ∀ (k0_h1 : k0_cond1 i k0_t3 = 1#1), ∀ a x, ((![v332, v333, v90] : Fin 3 → IVec S16 32) a x).toNat < S8x8x1024.size a := fun i k0_t3 v90 v332 v333 k0_hw358 k0_h1 => k0_hw358 k0_h1

def k0_chk359 (i : grid0.Coords) (k0_t3 : Fin k0_t3_loop.trips) (v85 : IVec S16 32) (v340 : IVec S16 32) : Prop :=
  (∀ (k0_h1 : k0_cond1 i k0_t3 = 1#1), ∀ a x, ((![v85, v340] : Fin 2 → IVec S16 32) a x).toNat < S32x129.size a)
theorem k0_idx357_inb : ∀ (i : grid0.Coords) (k0_t3 : Fin k0_t3_loop.trips) (v85 : IVec S16 32) (v340 : IVec S16 32) (k0_hw359 : k0_chk359 i k0_t3 v85 v340), ∀ (k0_h1 : k0_cond1 i k0_t3 = 1#1), ∀ a x, ((![v85, v340] : Fin 2 → IVec S16 32) a x).toNat < S32x129.size a := fun i k0_t3 v85 v340 k0_hw359 k0_h1 => k0_hw359 k0_h1

def k0_chk360 (i : grid0.Coords) (k0_t3 : Fin k0_t3_loop.trips) (v90 : IVec S16 32) (v337 : IVec S16 32) (v338 : IVec S16 32) : Prop :=
  (∀ (k0_h1 : k0_cond1 i k0_t3 = 1#1), ∀ a x, ((![v337, v338, v90] : Fin 3 → IVec S16 32) a x).toNat < S8x8x1024.size a)
theorem k0_idx358_inb : ∀ (i : grid0.Coords) (k0_t3 : Fin k0_t3_loop.trips) (v90 : IVec S16 32) (v337 : IVec S16 32) (v338 : IVec S16 32) (k0_hw360 : k0_chk360 i k0_t3 v90 v337 v338), ∀ (k0_h1 : k0_cond1 i k0_t3 = 1#1), ∀ a x, ((![v337, v338, v90] : Fin 3 → IVec S16 32) a x).toNat < S8x8x1024.size a := fun i k0_t3 v90 v337 v338 k0_hw360 k0_h1 => k0_hw360 k0_h1

def k0_chk361 (i : grid0.Coords) (k0_t3 : Fin k0_t3_loop.trips) (v85 : IVec S16 32) (v345 : IVec S16 32) : Prop :=
  (∀ (k0_h1 : k0_cond1 i k0_t3 = 1#1), ∀ a x, ((![v85, v345] : Fin 2 → IVec S16 32) a x).toNat < S32x129.size a)
theorem k0_idx359_inb : ∀ (i : grid0.Coords) (k0_t3 : Fin k0_t3_loop.trips) (v85 : IVec S16 32) (v345 : IVec S16 32) (k0_hw361 : k0_chk361 i k0_t3 v85 v345), ∀ (k0_h1 : k0_cond1 i k0_t3 = 1#1), ∀ a x, ((![v85, v345] : Fin 2 → IVec S16 32) a x).toNat < S32x129.size a := fun i k0_t3 v85 v345 k0_hw361 k0_h1 => k0_hw361 k0_h1

def k0_chk362 (i : grid0.Coords) (k0_t3 : Fin k0_t3_loop.trips) (v90 : IVec S16 32) (v342 : IVec S16 32) (v343 : IVec S16 32) : Prop :=
  (∀ (k0_h1 : k0_cond1 i k0_t3 = 1#1), ∀ a x, ((![v342, v343, v90] : Fin 3 → IVec S16 32) a x).toNat < S8x8x1024.size a)
theorem k0_idx360_inb : ∀ (i : grid0.Coords) (k0_t3 : Fin k0_t3_loop.trips) (v90 : IVec S16 32) (v342 : IVec S16 32) (v343 : IVec S16 32) (k0_hw362 : k0_chk362 i k0_t3 v90 v342 v343), ∀ (k0_h1 : k0_cond1 i k0_t3 = 1#1), ∀ a x, ((![v342, v343, v90] : Fin 3 → IVec S16 32) a x).toNat < S8x8x1024.size a := fun i k0_t3 v90 v342 v343 k0_hw362 k0_h1 => k0_hw362 k0_h1

def k0_chk363 (i : grid0.Coords) (k0_t3 : Fin k0_t3_loop.trips) (v85 : IVec S16 32) (v350 : IVec S16 32) : Prop :=
  (∀ (k0_h1 : k0_cond1 i k0_t3 = 1#1), ∀ a x, ((![v85, v350] : Fin 2 → IVec S16 32) a x).toNat < S32x129.size a)
theorem k0_idx361_inb : ∀ (i : grid0.Coords) (k0_t3 : Fin k0_t3_loop.trips) (v85 : IVec S16 32) (v350 : IVec S16 32) (k0_hw363 : k0_chk363 i k0_t3 v85 v350), ∀ (k0_h1 : k0_cond1 i k0_t3 = 1#1), ∀ a x, ((![v85, v350] : Fin 2 → IVec S16 32) a x).toNat < S32x129.size a := fun i k0_t3 v85 v350 k0_hw363 k0_h1 => k0_hw363 k0_h1

def k0_chk364 (i : grid0.Coords) (k0_t3 : Fin k0_t3_loop.trips) (v90 : IVec S16 32) (v347 : IVec S16 32) (v348 : IVec S16 32) : Prop :=
  (∀ (k0_h1 : k0_cond1 i k0_t3 = 1#1), ∀ a x, ((![v347, v348, v90] : Fin 3 → IVec S16 32) a x).toNat < S8x8x1024.size a)
theorem k0_idx362_inb : ∀ (i : grid0.Coords) (k0_t3 : Fin k0_t3_loop.trips) (v90 : IVec S16 32) (v347 : IVec S16 32) (v348 : IVec S16 32) (k0_hw364 : k0_chk364 i k0_t3 v90 v347 v348), ∀ (k0_h1 : k0_cond1 i k0_t3 = 1#1), ∀ a x, ((![v347, v348, v90] : Fin 3 → IVec S16 32) a x).toNat < S8x8x1024.size a := fun i k0_t3 v90 v347 v348 k0_hw364 k0_h1 => k0_hw364 k0_h1

def k0_chk365 (i : grid0.Coords) (k0_t3 : Fin k0_t3_loop.trips) (v85 : IVec S16 32) (v355 : IVec S16 32) : Prop :=
  (∀ (k0_h1 : k0_cond1 i k0_t3 = 1#1), ∀ a x, ((![v85, v355] : Fin 2 → IVec S16 32) a x).toNat < S32x129.size a)
theorem k0_idx363_inb : ∀ (i : grid0.Coords) (k0_t3 : Fin k0_t3_loop.trips) (v85 : IVec S16 32) (v355 : IVec S16 32) (k0_hw365 : k0_chk365 i k0_t3 v85 v355), ∀ (k0_h1 : k0_cond1 i k0_t3 = 1#1), ∀ a x, ((![v85, v355] : Fin 2 → IVec S16 32) a x).toNat < S32x129.size a := fun i k0_t3 v85 v355 k0_hw365 k0_h1 => k0_hw365 k0_h1

def k0_chk366 (i : grid0.Coords) (k0_t3 : Fin k0_t3_loop.trips) (v90 : IVec S16 32) (v352 : IVec S16 32) (v353 : IVec S16 32) : Prop :=
  (∀ (k0_h1 : k0_cond1 i k0_t3 = 1#1), ∀ a x, ((![v352, v353, v90] : Fin 3 → IVec S16 32) a x).toNat < S8x8x1024.size a)
theorem k0_idx364_inb : ∀ (i : grid0.Coords) (k0_t3 : Fin k0_t3_loop.trips) (v90 : IVec S16 32) (v352 : IVec S16 32) (v353 : IVec S16 32) (k0_hw366 : k0_chk366 i k0_t3 v90 v352 v353), ∀ (k0_h1 : k0_cond1 i k0_t3 = 1#1), ∀ a x, ((![v352, v353, v90] : Fin 3 → IVec S16 32) a x).toNat < S8x8x1024.size a := fun i k0_t3 v90 v352 v353 k0_hw366 k0_h1 => k0_hw366 k0_h1

def k0_chk367 (i : grid0.Coords) (k0_t3 : Fin k0_t3_loop.trips) (v85 : IVec S16 32) (v360 : IVec S16 32) : Prop :=
  (∀ (k0_h1 : k0_cond1 i k0_t3 = 1#1), ∀ a x, ((![v85, v360] : Fin 2 → IVec S16 32) a x).toNat < S32x129.size a)
theorem k0_idx365_inb : ∀ (i : grid0.Coords) (k0_t3 : Fin k0_t3_loop.trips) (v85 : IVec S16 32) (v360 : IVec S16 32) (k0_hw367 : k0_chk367 i k0_t3 v85 v360), ∀ (k0_h1 : k0_cond1 i k0_t3 = 1#1), ∀ a x, ((![v85, v360] : Fin 2 → IVec S16 32) a x).toNat < S32x129.size a := fun i k0_t3 v85 v360 k0_hw367 k0_h1 => k0_hw367 k0_h1

def k0_chk368 (i : grid0.Coords) (k0_t3 : Fin k0_t3_loop.trips) (v90 : IVec S16 32) (v357 : IVec S16 32) (v358 : IVec S16 32) : Prop :=
  (∀ (k0_h1 : k0_cond1 i k0_t3 = 1#1), ∀ a x, ((![v357, v358, v90] : Fin 3 → IVec S16 32) a x).toNat < S8x8x1024.size a)
theorem k0_idx366_inb : ∀ (i : grid0.Coords) (k0_t3 : Fin k0_t3_loop.trips) (v90 : IVec S16 32) (v357 : IVec S16 32) (v358 : IVec S16 32) (k0_hw368 : k0_chk368 i k0_t3 v90 v357 v358), ∀ (k0_h1 : k0_cond1 i k0_t3 = 1#1), ∀ a x, ((![v357, v358, v90] : Fin 3 → IVec S16 32) a x).toNat < S8x8x1024.size a := fun i k0_t3 v90 v357 v358 k0_hw368 k0_h1 => k0_hw368 k0_h1

def k0_chk369 (i : grid0.Coords) (k0_t3 : Fin k0_t3_loop.trips) (v85 : IVec S16 32) (v365 : IVec S16 32) : Prop :=
  (∀ (k0_h1 : k0_cond1 i k0_t3 = 1#1), ∀ a x, ((![v85, v365] : Fin 2 → IVec S16 32) a x).toNat < S32x129.size a)
theorem k0_idx367_inb : ∀ (i : grid0.Coords) (k0_t3 : Fin k0_t3_loop.trips) (v85 : IVec S16 32) (v365 : IVec S16 32) (k0_hw369 : k0_chk369 i k0_t3 v85 v365), ∀ (k0_h1 : k0_cond1 i k0_t3 = 1#1), ∀ a x, ((![v85, v365] : Fin 2 → IVec S16 32) a x).toNat < S32x129.size a := fun i k0_t3 v85 v365 k0_hw369 k0_h1 => k0_hw369 k0_h1

def k0_chk370 (i : grid0.Coords) (k0_t3 : Fin k0_t3_loop.trips) (v90 : IVec S16 32) (v362 : IVec S16 32) (v363 : IVec S16 32) : Prop :=
  (∀ (k0_h1 : k0_cond1 i k0_t3 = 1#1), ∀ a x, ((![v362, v363, v90] : Fin 3 → IVec S16 32) a x).toNat < S8x8x1024.size a)
theorem k0_idx368_inb : ∀ (i : grid0.Coords) (k0_t3 : Fin k0_t3_loop.trips) (v90 : IVec S16 32) (v362 : IVec S16 32) (v363 : IVec S16 32) (k0_hw370 : k0_chk370 i k0_t3 v90 v362 v363), ∀ (k0_h1 : k0_cond1 i k0_t3 = 1#1), ∀ a x, ((![v362, v363, v90] : Fin 3 → IVec S16 32) a x).toNat < S8x8x1024.size a := fun i k0_t3 v90 v362 v363 k0_hw370 k0_h1 => k0_hw370 k0_h1

def k0_chk371 (i : grid0.Coords) (k0_t3 : Fin k0_t3_loop.trips) (v85 : IVec S16 32) (v370 : IVec S16 32) : Prop :=
  (∀ (k0_h1 : k0_cond1 i k0_t3 = 1#1), ∀ a x, ((![v85, v370] : Fin 2 → IVec S16 32) a x).toNat < S32x129.size a)
theorem k0_idx369_inb : ∀ (i : grid0.Coords) (k0_t3 : Fin k0_t3_loop.trips) (v85 : IVec S16 32) (v370 : IVec S16 32) (k0_hw371 : k0_chk371 i k0_t3 v85 v370), ∀ (k0_h1 : k0_cond1 i k0_t3 = 1#1), ∀ a x, ((![v85, v370] : Fin 2 → IVec S16 32) a x).toNat < S32x129.size a := fun i k0_t3 v85 v370 k0_hw371 k0_h1 => k0_hw371 k0_h1

def k0_chk372 (i : grid0.Coords) (k0_t3 : Fin k0_t3_loop.trips) (v90 : IVec S16 32) (v367 : IVec S16 32) (v368 : IVec S16 32) : Prop :=
  (∀ (k0_h1 : k0_cond1 i k0_t3 = 1#1), ∀ a x, ((![v367, v368, v90] : Fin 3 → IVec S16 32) a x).toNat < S8x8x1024.size a)
theorem k0_idx370_inb : ∀ (i : grid0.Coords) (k0_t3 : Fin k0_t3_loop.trips) (v90 : IVec S16 32) (v367 : IVec S16 32) (v368 : IVec S16 32) (k0_hw372 : k0_chk372 i k0_t3 v90 v367 v368), ∀ (k0_h1 : k0_cond1 i k0_t3 = 1#1), ∀ a x, ((![v367, v368, v90] : Fin 3 → IVec S16 32) a x).toNat < S8x8x1024.size a := fun i k0_t3 v90 v367 v368 k0_hw372 k0_h1 => k0_hw372 k0_h1

def k0_chk373 (i : grid0.Coords) (k0_t3 : Fin k0_t3_loop.trips) (v85 : IVec S16 32) (v375 : IVec S16 32) : Prop :=
  (∀ (k0_h1 : k0_cond1 i k0_t3 = 1#1), ∀ a x, ((![v85, v375] : Fin 2 → IVec S16 32) a x).toNat < S32x129.size a)
theorem k0_idx371_inb : ∀ (i : grid0.Coords) (k0_t3 : Fin k0_t3_loop.trips) (v85 : IVec S16 32) (v375 : IVec S16 32) (k0_hw373 : k0_chk373 i k0_t3 v85 v375), ∀ (k0_h1 : k0_cond1 i k0_t3 = 1#1), ∀ a x, ((![v85, v375] : Fin 2 → IVec S16 32) a x).toNat < S32x129.size a := fun i k0_t3 v85 v375 k0_hw373 k0_h1 => k0_hw373 k0_h1

def k0_chk374 (i : grid0.Coords) (k0_t3 : Fin k0_t3_loop.trips) (v90 : IVec S16 32) (v372 : IVec S16 32) (v373 : IVec S16 32) : Prop :=
  (∀ (k0_h1 : k0_cond1 i k0_t3 = 1#1), ∀ a x, ((![v372, v373, v90] : Fin 3 → IVec S16 32) a x).toNat < S8x8x1024.size a)
theorem k0_idx372_inb : ∀ (i : grid0.Coords) (k0_t3 : Fin k0_t3_loop.trips) (v90 : IVec S16 32) (v372 : IVec S16 32) (v373 : IVec S16 32) (k0_hw374 : k0_chk374 i k0_t3 v90 v372 v373), ∀ (k0_h1 : k0_cond1 i k0_t3 = 1#1), ∀ a x, ((![v372, v373, v90] : Fin 3 → IVec S16 32) a x).toNat < S8x8x1024.size a := fun i k0_t3 v90 v372 v373 k0_hw374 k0_h1 => k0_hw374 k0_h1

def k0_chk375 (i : grid0.Coords) (k0_t3 : Fin k0_t3_loop.trips) (v85 : IVec S16 32) (v380 : IVec S16 32) : Prop :=
  (∀ (k0_h1 : k0_cond1 i k0_t3 = 1#1), ∀ a x, ((![v85, v380] : Fin 2 → IVec S16 32) a x).toNat < S32x129.size a)
theorem k0_idx373_inb : ∀ (i : grid0.Coords) (k0_t3 : Fin k0_t3_loop.trips) (v85 : IVec S16 32) (v380 : IVec S16 32) (k0_hw375 : k0_chk375 i k0_t3 v85 v380), ∀ (k0_h1 : k0_cond1 i k0_t3 = 1#1), ∀ a x, ((![v85, v380] : Fin 2 → IVec S16 32) a x).toNat < S32x129.size a := fun i k0_t3 v85 v380 k0_hw375 k0_h1 => k0_hw375 k0_h1

def k0_chk376 (i : grid0.Coords) (k0_t3 : Fin k0_t3_loop.trips) (v90 : IVec S16 32) (v377 : IVec S16 32) (v378 : IVec S16 32) : Prop :=
  (∀ (k0_h1 : k0_cond1 i k0_t3 = 1#1), ∀ a x, ((![v377, v378, v90] : Fin 3 → IVec S16 32) a x).toNat < S8x8x1024.size a)
theorem k0_idx374_inb : ∀ (i : grid0.Coords) (k0_t3 : Fin k0_t3_loop.trips) (v90 : IVec S16 32) (v377 : IVec S16 32) (v378 : IVec S16 32) (k0_hw376 : k0_chk376 i k0_t3 v90 v377 v378), ∀ (k0_h1 : k0_cond1 i k0_t3 = 1#1), ∀ a x, ((![v377, v378, v90] : Fin 3 → IVec S16 32) a x).toNat < S8x8x1024.size a := fun i k0_t3 v90 v377 v378 k0_hw376 k0_h1 => k0_hw376 k0_h1

def k0_chk377 (i : grid0.Coords) (k0_t3 : Fin k0_t3_loop.trips) (v85 : IVec S16 32) (v385 : IVec S16 32) : Prop :=
  (∀ (k0_h1 : k0_cond1 i k0_t3 = 1#1), ∀ a x, ((![v85, v385] : Fin 2 → IVec S16 32) a x).toNat < S32x129.size a)
theorem k0_idx375_inb : ∀ (i : grid0.Coords) (k0_t3 : Fin k0_t3_loop.trips) (v85 : IVec S16 32) (v385 : IVec S16 32) (k0_hw377 : k0_chk377 i k0_t3 v85 v385), ∀ (k0_h1 : k0_cond1 i k0_t3 = 1#1), ∀ a x, ((![v85, v385] : Fin 2 → IVec S16 32) a x).toNat < S32x129.size a := fun i k0_t3 v85 v385 k0_hw377 k0_h1 => k0_hw377 k0_h1

def k0_chk378 (i : grid0.Coords) (k0_t3 : Fin k0_t3_loop.trips) (v90 : IVec S16 32) (v382 : IVec S16 32) (v383 : IVec S16 32) : Prop :=
  (∀ (k0_h1 : k0_cond1 i k0_t3 = 1#1), ∀ a x, ((![v382, v383, v90] : Fin 3 → IVec S16 32) a x).toNat < S8x8x1024.size a)
theorem k0_idx376_inb : ∀ (i : grid0.Coords) (k0_t3 : Fin k0_t3_loop.trips) (v90 : IVec S16 32) (v382 : IVec S16 32) (v383 : IVec S16 32) (k0_hw378 : k0_chk378 i k0_t3 v90 v382 v383), ∀ (k0_h1 : k0_cond1 i k0_t3 = 1#1), ∀ a x, ((![v382, v383, v90] : Fin 3 → IVec S16 32) a x).toNat < S8x8x1024.size a := fun i k0_t3 v90 v382 v383 k0_hw378 k0_h1 => k0_hw378 k0_h1

def k0_chk379 (i : grid0.Coords) (k0_t3 : Fin k0_t3_loop.trips) (v85 : IVec S16 32) (v390 : IVec S16 32) : Prop :=
  (∀ (k0_h1 : k0_cond1 i k0_t3 = 1#1), ∀ a x, ((![v85, v390] : Fin 2 → IVec S16 32) a x).toNat < S32x129.size a)
theorem k0_idx377_inb : ∀ (i : grid0.Coords) (k0_t3 : Fin k0_t3_loop.trips) (v85 : IVec S16 32) (v390 : IVec S16 32) (k0_hw379 : k0_chk379 i k0_t3 v85 v390), ∀ (k0_h1 : k0_cond1 i k0_t3 = 1#1), ∀ a x, ((![v85, v390] : Fin 2 → IVec S16 32) a x).toNat < S32x129.size a := fun i k0_t3 v85 v390 k0_hw379 k0_h1 => k0_hw379 k0_h1

def k0_chk380 (i : grid0.Coords) (k0_t3 : Fin k0_t3_loop.trips) (v90 : IVec S16 32) (v387 : IVec S16 32) (v388 : IVec S16 32) : Prop :=
  (∀ (k0_h1 : k0_cond1 i k0_t3 = 1#1), ∀ a x, ((![v387, v388, v90] : Fin 3 → IVec S16 32) a x).toNat < S8x8x1024.size a)
theorem k0_idx378_inb : ∀ (i : grid0.Coords) (k0_t3 : Fin k0_t3_loop.trips) (v90 : IVec S16 32) (v387 : IVec S16 32) (v388 : IVec S16 32) (k0_hw380 : k0_chk380 i k0_t3 v90 v387 v388), ∀ (k0_h1 : k0_cond1 i k0_t3 = 1#1), ∀ a x, ((![v387, v388, v90] : Fin 3 → IVec S16 32) a x).toNat < S8x8x1024.size a := fun i k0_t3 v90 v387 v388 k0_hw380 k0_h1 => k0_hw380 k0_h1

def k0_chk381 (i : grid0.Coords) (k0_t3 : Fin k0_t3_loop.trips) (v85 : IVec S16 32) (v395 : IVec S16 32) : Prop :=
  (∀ (k0_h1 : k0_cond1 i k0_t3 = 1#1), ∀ a x, ((![v85, v395] : Fin 2 → IVec S16 32) a x).toNat < S32x129.size a)
theorem k0_idx379_inb : ∀ (i : grid0.Coords) (k0_t3 : Fin k0_t3_loop.trips) (v85 : IVec S16 32) (v395 : IVec S16 32) (k0_hw381 : k0_chk381 i k0_t3 v85 v395), ∀ (k0_h1 : k0_cond1 i k0_t3 = 1#1), ∀ a x, ((![v85, v395] : Fin 2 → IVec S16 32) a x).toNat < S32x129.size a := fun i k0_t3 v85 v395 k0_hw381 k0_h1 => k0_hw381 k0_h1

def k0_chk382 (i : grid0.Coords) (k0_t3 : Fin k0_t3_loop.trips) (v90 : IVec S16 32) (v392 : IVec S16 32) (v393 : IVec S16 32) : Prop :=
  (∀ (k0_h1 : k0_cond1 i k0_t3 = 1#1), ∀ a x, ((![v392, v393, v90] : Fin 3 → IVec S16 32) a x).toNat < S8x8x1024.size a)
theorem k0_idx380_inb : ∀ (i : grid0.Coords) (k0_t3 : Fin k0_t3_loop.trips) (v90 : IVec S16 32) (v392 : IVec S16 32) (v393 : IVec S16 32) (k0_hw382 : k0_chk382 i k0_t3 v90 v392 v393), ∀ (k0_h1 : k0_cond1 i k0_t3 = 1#1), ∀ a x, ((![v392, v393, v90] : Fin 3 → IVec S16 32) a x).toNat < S8x8x1024.size a := fun i k0_t3 v90 v392 v393 k0_hw382 k0_h1 => k0_hw382 k0_h1

def k0_chk383 (i : grid0.Coords) (k0_t3 : Fin k0_t3_loop.trips) (v85 : IVec S16 32) (v400 : IVec S16 32) : Prop :=
  (∀ (k0_h1 : k0_cond1 i k0_t3 = 1#1), ∀ a x, ((![v85, v400] : Fin 2 → IVec S16 32) a x).toNat < S32x129.size a)
theorem k0_idx381_inb : ∀ (i : grid0.Coords) (k0_t3 : Fin k0_t3_loop.trips) (v85 : IVec S16 32) (v400 : IVec S16 32) (k0_hw383 : k0_chk383 i k0_t3 v85 v400), ∀ (k0_h1 : k0_cond1 i k0_t3 = 1#1), ∀ a x, ((![v85, v400] : Fin 2 → IVec S16 32) a x).toNat < S32x129.size a := fun i k0_t3 v85 v400 k0_hw383 k0_h1 => k0_hw383 k0_h1

def k0_chk384 (i : grid0.Coords) (k0_t3 : Fin k0_t3_loop.trips) (v90 : IVec S16 32) (v397 : IVec S16 32) (v398 : IVec S16 32) : Prop :=
  (∀ (k0_h1 : k0_cond1 i k0_t3 = 1#1), ∀ a x, ((![v397, v398, v90] : Fin 3 → IVec S16 32) a x).toNat < S8x8x1024.size a)
theorem k0_idx382_inb : ∀ (i : grid0.Coords) (k0_t3 : Fin k0_t3_loop.trips) (v90 : IVec S16 32) (v397 : IVec S16 32) (v398 : IVec S16 32) (k0_hw384 : k0_chk384 i k0_t3 v90 v397 v398), ∀ (k0_h1 : k0_cond1 i k0_t3 = 1#1), ∀ a x, ((![v397, v398, v90] : Fin 3 → IVec S16 32) a x).toNat < S8x8x1024.size a := fun i k0_t3 v90 v397 v398 k0_hw384 k0_h1 => k0_hw384 k0_h1

def k0_chk385 (i : grid0.Coords) (k0_t3 : Fin k0_t3_loop.trips) (v85 : IVec S16 32) (v405 : IVec S16 32) : Prop :=
  (∀ (k0_h1 : k0_cond1 i k0_t3 = 1#1), ∀ a x, ((![v85, v405] : Fin 2 → IVec S16 32) a x).toNat < S32x129.size a)
theorem k0_idx383_inb : ∀ (i : grid0.Coords) (k0_t3 : Fin k0_t3_loop.trips) (v85 : IVec S16 32) (v405 : IVec S16 32) (k0_hw385 : k0_chk385 i k0_t3 v85 v405), ∀ (k0_h1 : k0_cond1 i k0_t3 = 1#1), ∀ a x, ((![v85, v405] : Fin 2 → IVec S16 32) a x).toNat < S32x129.size a := fun i k0_t3 v85 v405 k0_hw385 k0_h1 => k0_hw385 k0_h1

def k0_chk386 (i : grid0.Coords) (k0_t3 : Fin k0_t3_loop.trips) (v90 : IVec S16 32) (v402 : IVec S16 32) (v403 : IVec S16 32) : Prop :=
  (∀ (k0_h1 : k0_cond1 i k0_t3 = 1#1), ∀ a x, ((![v402, v403, v90] : Fin 3 → IVec S16 32) a x).toNat < S8x8x1024.size a)
theorem k0_idx384_inb : ∀ (i : grid0.Coords) (k0_t3 : Fin k0_t3_loop.trips) (v90 : IVec S16 32) (v402 : IVec S16 32) (v403 : IVec S16 32) (k0_hw386 : k0_chk386 i k0_t3 v90 v402 v403), ∀ (k0_h1 : k0_cond1 i k0_t3 = 1#1), ∀ a x, ((![v402, v403, v90] : Fin 3 → IVec S16 32) a x).toNat < S8x8x1024.size a := fun i k0_t3 v90 v402 v403 k0_hw386 k0_h1 => k0_hw386 k0_h1

def k0_chk387 (i : grid0.Coords) (k0_t3 : Fin k0_t3_loop.trips) (v85 : IVec S16 32) (v410 : IVec S16 32) : Prop :=
  (∀ (k0_h1 : k0_cond1 i k0_t3 = 1#1), ∀ a x, ((![v85, v410] : Fin 2 → IVec S16 32) a x).toNat < S32x129.size a)
theorem k0_idx385_inb : ∀ (i : grid0.Coords) (k0_t3 : Fin k0_t3_loop.trips) (v85 : IVec S16 32) (v410 : IVec S16 32) (k0_hw387 : k0_chk387 i k0_t3 v85 v410), ∀ (k0_h1 : k0_cond1 i k0_t3 = 1#1), ∀ a x, ((![v85, v410] : Fin 2 → IVec S16 32) a x).toNat < S32x129.size a := fun i k0_t3 v85 v410 k0_hw387 k0_h1 => k0_hw387 k0_h1

def k0_chk388 (i : grid0.Coords) (k0_t3 : Fin k0_t3_loop.trips) (v90 : IVec S16 32) (v407 : IVec S16 32) (v408 : IVec S16 32) : Prop :=
  (∀ (k0_h1 : k0_cond1 i k0_t3 = 1#1), ∀ a x, ((![v407, v408, v90] : Fin 3 → IVec S16 32) a x).toNat < S8x8x1024.size a)
theorem k0_idx386_inb : ∀ (i : grid0.Coords) (k0_t3 : Fin k0_t3_loop.trips) (v90 : IVec S16 32) (v407 : IVec S16 32) (v408 : IVec S16 32) (k0_hw388 : k0_chk388 i k0_t3 v90 v407 v408), ∀ (k0_h1 : k0_cond1 i k0_t3 = 1#1), ∀ a x, ((![v407, v408, v90] : Fin 3 → IVec S16 32) a x).toNat < S8x8x1024.size a := fun i k0_t3 v90 v407 v408 k0_hw388 k0_h1 => k0_hw388 k0_h1

def k0_chk389 (i : grid0.Coords) (k0_t3 : Fin k0_t3_loop.trips) (v85 : IVec S16 32) (v415 : IVec S16 32) : Prop :=
  (∀ (k0_h1 : k0_cond1 i k0_t3 = 1#1), ∀ a x, ((![v85, v415] : Fin 2 → IVec S16 32) a x).toNat < S32x129.size a)
theorem k0_idx387_inb : ∀ (i : grid0.Coords) (k0_t3 : Fin k0_t3_loop.trips) (v85 : IVec S16 32) (v415 : IVec S16 32) (k0_hw389 : k0_chk389 i k0_t3 v85 v415), ∀ (k0_h1 : k0_cond1 i k0_t3 = 1#1), ∀ a x, ((![v85, v415] : Fin 2 → IVec S16 32) a x).toNat < S32x129.size a := fun i k0_t3 v85 v415 k0_hw389 k0_h1 => k0_hw389 k0_h1

def k0_chk390 (i : grid0.Coords) (k0_t3 : Fin k0_t3_loop.trips) (v90 : IVec S16 32) (v412 : IVec S16 32) (v413 : IVec S16 32) : Prop :=
  (∀ (k0_h1 : k0_cond1 i k0_t3 = 1#1), ∀ a x, ((![v412, v413, v90] : Fin 3 → IVec S16 32) a x).toNat < S8x8x1024.size a)
theorem k0_idx388_inb : ∀ (i : grid0.Coords) (k0_t3 : Fin k0_t3_loop.trips) (v90 : IVec S16 32) (v412 : IVec S16 32) (v413 : IVec S16 32) (k0_hw390 : k0_chk390 i k0_t3 v90 v412 v413), ∀ (k0_h1 : k0_cond1 i k0_t3 = 1#1), ∀ a x, ((![v412, v413, v90] : Fin 3 → IVec S16 32) a x).toNat < S8x8x1024.size a := fun i k0_t3 v90 v412 v413 k0_hw390 k0_h1 => k0_hw390 k0_h1

def k0_chk391 (i : grid0.Coords) (k0_t3 : Fin k0_t3_loop.trips) (v85 : IVec S16 32) (v420 : IVec S16 32) : Prop :=
  (∀ (k0_h1 : k0_cond1 i k0_t3 = 1#1), ∀ a x, ((![v85, v420] : Fin 2 → IVec S16 32) a x).toNat < S32x129.size a)
theorem k0_idx389_inb : ∀ (i : grid0.Coords) (k0_t3 : Fin k0_t3_loop.trips) (v85 : IVec S16 32) (v420 : IVec S16 32) (k0_hw391 : k0_chk391 i k0_t3 v85 v420), ∀ (k0_h1 : k0_cond1 i k0_t3 = 1#1), ∀ a x, ((![v85, v420] : Fin 2 → IVec S16 32) a x).toNat < S32x129.size a := fun i k0_t3 v85 v420 k0_hw391 k0_h1 => k0_hw391 k0_h1

def k0_chk392 (i : grid0.Coords) (k0_t3 : Fin k0_t3_loop.trips) (v90 : IVec S16 32) (v417 : IVec S16 32) (v418 : IVec S16 32) : Prop :=
  (∀ (k0_h1 : k0_cond1 i k0_t3 = 1#1), ∀ a x, ((![v417, v418, v90] : Fin 3 → IVec S16 32) a x).toNat < S8x8x1024.size a)
theorem k0_idx390_inb : ∀ (i : grid0.Coords) (k0_t3 : Fin k0_t3_loop.trips) (v90 : IVec S16 32) (v417 : IVec S16 32) (v418 : IVec S16 32) (k0_hw392 : k0_chk392 i k0_t3 v90 v417 v418), ∀ (k0_h1 : k0_cond1 i k0_t3 = 1#1), ∀ a x, ((![v417, v418, v90] : Fin 3 → IVec S16 32) a x).toNat < S8x8x1024.size a := fun i k0_t3 v90 v417 v418 k0_hw392 k0_h1 => k0_hw392 k0_h1
def k0_off74 (v32 : BitVec 32) (k0_t7 : Fin (k0_t7_loop v32).trips) : Fin 1 → Nat :=
  let c0_i32_30 : BitVec 32 := 0#32
  let c31_i32_23 : BitVec 32 := 31#32
  let v33 : BitVec 32 := Scalar.addi v32 c31_i32_23
  let c0_i32_24 : BitVec 32 := 0#32
  let v35 : BitVec 1 := Scalar.cmpi .sgt v33 c0_i32_24
  let v36 : BitVec 32 := Scalar.extui v35
  let c0_i32_25 : BitVec 32 := 0#32
  let v37 : BitVec 1 := Scalar.cmpi .slt v33 c0_i32_25
  let v38 : BitVec 32 := Scalar.extui v37
  let v39 : BitVec 32 := Scalar.subi v36 v38
  let c32_i32 : BitVec 32 := 32#32
  let c0_i32_26 : BitVec 32 := 0#32
  let v40 : BitVec 1 := Scalar.cmpi .sgt c32_i32 c0_i32_26
  let v41 : BitVec 32 := Scalar.extui v40
  let c0_i32_27 : BitVec 32 := 0#32
  let v42 : BitVec 1 := Scalar.cmpi .slt c32_i32 c0_i32_27
  let v43 : BitVec 32 := Scalar.extui v42
  let v44 : BitVec 32 := Scalar.subi v41 v43
  let v45 : BitVec 1 := Scalar.cmpi .ne v39 v44
  let v46 : BitVec 32 := Scalar.remsi v33 c32_i32
  let c0_i32_28 : BitVec 32 := 0#32
  let v47 : BitVec 1 := Scalar.cmpi .ne v46 c0_i32_28
  let v48 : BitVec 1 := Scalar.andi v45 v47
  let v34 : BitVec 32 := Scalar.divsi v33 c32_i32
  let c1_i32_29 : BitVec 32 := 1#32
  let v49 : BitVec 32 := Scalar.subi v34 c1_i32_29
  let v50 : BitVec 32 := Scalar.select v48 v49 v34
  let v51 : BitVec 32 := Scalar.subi v50 c0_i32_30
  let c1_i32_32 : BitVec 32 := 1#32
  let v53 : BitVec 32 := Scalar.divsi v51 c1_i32_32
  let v54 : BitVec 32 := Scalar.muli v53 c1_i32_32
  let v55 : BitVec 32 := Scalar.addi c0_i32_30 v54
  let c1_i32_34 : BitVec 32 := 1#32
  let arg14 : BitVec 32 := Scf.iv v55 c1_i32_34 k0_t7
  let c32_i32_43 : BitVec 32 := 32#32
  let v71 : BitVec 32 := Scalar.muli arg14 c32_i32_43
  let c16_i32_192 : BitVec 32 := 16#32
  let v424 : BitVec 32 := Scalar.addi v71 c16_i32_192
  let v425 : Index := Scalar.indexCast v424
  ![v425.toNat]

def k0_chk393 (i : grid0.Coords) (k0_t3 : Fin k0_t3_loop.trips) (v423 : IVec S16 32) (v443 : IVec S16 32) : Prop :=
  (∀ (k0_h1 : k0_cond1 i k0_t3 = 1#1), ∀ a x, ((![v423, v443] : Fin 2 → IVec S16 32) a x).toNat < S32x129.size a)
theorem k0_idx391_inb : ∀ (i : grid0.Coords) (k0_t3 : Fin k0_t3_loop.trips) (v423 : IVec S16 32) (v443 : IVec S16 32) (k0_hw393 : k0_chk393 i k0_t3 v423 v443), ∀ (k0_h1 : k0_cond1 i k0_t3 = 1#1), ∀ a x, ((![v423, v443] : Fin 2 → IVec S16 32) a x).toNat < S32x129.size a := fun i k0_t3 v423 v443 k0_hw393 k0_h1 => k0_hw393 k0_h1

def k0_chk394 (i : grid0.Coords) (k0_t3 : Fin k0_t3_loop.trips) (v428 : IVec S16 32) (v440 : IVec S16 32) (v441 : IVec S16 32) : Prop :=
  (∀ (k0_h1 : k0_cond1 i k0_t3 = 1#1), ∀ a x, ((![v440, v441, v428] : Fin 3 → IVec S16 32) a x).toNat < S8x8x1024.size a)
theorem k0_idx392_inb : ∀ (i : grid0.Coords) (k0_t3 : Fin k0_t3_loop.trips) (v428 : IVec S16 32) (v440 : IVec S16 32) (v441 : IVec S16 32) (k0_hw394 : k0_chk394 i k0_t3 v428 v440 v441), ∀ (k0_h1 : k0_cond1 i k0_t3 = 1#1), ∀ a x, ((![v440, v441, v428] : Fin 3 → IVec S16 32) a x).toNat < S8x8x1024.size a := fun i k0_t3 v428 v440 v441 k0_hw394 k0_h1 => k0_hw394 k0_h1

def k0_chk395 (i : grid0.Coords) (k0_t3 : Fin k0_t3_loop.trips) (v423 : IVec S16 32) (v448 : IVec S16 32) : Prop :=
  (∀ (k0_h1 : k0_cond1 i k0_t3 = 1#1), ∀ a x, ((![v423, v448] : Fin 2 → IVec S16 32) a x).toNat < S32x129.size a)
theorem k0_idx393_inb : ∀ (i : grid0.Coords) (k0_t3 : Fin k0_t3_loop.trips) (v423 : IVec S16 32) (v448 : IVec S16 32) (k0_hw395 : k0_chk395 i k0_t3 v423 v448), ∀ (k0_h1 : k0_cond1 i k0_t3 = 1#1), ∀ a x, ((![v423, v448] : Fin 2 → IVec S16 32) a x).toNat < S32x129.size a := fun i k0_t3 v423 v448 k0_hw395 k0_h1 => k0_hw395 k0_h1

def k0_chk396 (i : grid0.Coords) (k0_t3 : Fin k0_t3_loop.trips) (v428 : IVec S16 32) (v445 : IVec S16 32) (v446 : IVec S16 32) : Prop :=
  (∀ (k0_h1 : k0_cond1 i k0_t3 = 1#1), ∀ a x, ((![v445, v446, v428] : Fin 3 → IVec S16 32) a x).toNat < S8x8x1024.size a)
theorem k0_idx394_inb : ∀ (i : grid0.Coords) (k0_t3 : Fin k0_t3_loop.trips) (v428 : IVec S16 32) (v445 : IVec S16 32) (v446 : IVec S16 32) (k0_hw396 : k0_chk396 i k0_t3 v428 v445 v446), ∀ (k0_h1 : k0_cond1 i k0_t3 = 1#1), ∀ a x, ((![v445, v446, v428] : Fin 3 → IVec S16 32) a x).toNat < S8x8x1024.size a := fun i k0_t3 v428 v445 v446 k0_hw396 k0_h1 => k0_hw396 k0_h1

def k0_chk397 (i : grid0.Coords) (k0_t3 : Fin k0_t3_loop.trips) (v423 : IVec S16 32) (v453 : IVec S16 32) : Prop :=
  (∀ (k0_h1 : k0_cond1 i k0_t3 = 1#1), ∀ a x, ((![v423, v453] : Fin 2 → IVec S16 32) a x).toNat < S32x129.size a)
theorem k0_idx395_inb : ∀ (i : grid0.Coords) (k0_t3 : Fin k0_t3_loop.trips) (v423 : IVec S16 32) (v453 : IVec S16 32) (k0_hw397 : k0_chk397 i k0_t3 v423 v453), ∀ (k0_h1 : k0_cond1 i k0_t3 = 1#1), ∀ a x, ((![v423, v453] : Fin 2 → IVec S16 32) a x).toNat < S32x129.size a := fun i k0_t3 v423 v453 k0_hw397 k0_h1 => k0_hw397 k0_h1

def k0_chk398 (i : grid0.Coords) (k0_t3 : Fin k0_t3_loop.trips) (v428 : IVec S16 32) (v450 : IVec S16 32) (v451 : IVec S16 32) : Prop :=
  (∀ (k0_h1 : k0_cond1 i k0_t3 = 1#1), ∀ a x, ((![v450, v451, v428] : Fin 3 → IVec S16 32) a x).toNat < S8x8x1024.size a)
theorem k0_idx396_inb : ∀ (i : grid0.Coords) (k0_t3 : Fin k0_t3_loop.trips) (v428 : IVec S16 32) (v450 : IVec S16 32) (v451 : IVec S16 32) (k0_hw398 : k0_chk398 i k0_t3 v428 v450 v451), ∀ (k0_h1 : k0_cond1 i k0_t3 = 1#1), ∀ a x, ((![v450, v451, v428] : Fin 3 → IVec S16 32) a x).toNat < S8x8x1024.size a := fun i k0_t3 v428 v450 v451 k0_hw398 k0_h1 => k0_hw398 k0_h1

def k0_chk399 (i : grid0.Coords) (k0_t3 : Fin k0_t3_loop.trips) (v423 : IVec S16 32) (v458 : IVec S16 32) : Prop :=
  (∀ (k0_h1 : k0_cond1 i k0_t3 = 1#1), ∀ a x, ((![v423, v458] : Fin 2 → IVec S16 32) a x).toNat < S32x129.size a)
theorem k0_idx397_inb : ∀ (i : grid0.Coords) (k0_t3 : Fin k0_t3_loop.trips) (v423 : IVec S16 32) (v458 : IVec S16 32) (k0_hw399 : k0_chk399 i k0_t3 v423 v458), ∀ (k0_h1 : k0_cond1 i k0_t3 = 1#1), ∀ a x, ((![v423, v458] : Fin 2 → IVec S16 32) a x).toNat < S32x129.size a := fun i k0_t3 v423 v458 k0_hw399 k0_h1 => k0_hw399 k0_h1

def k0_chk400 (i : grid0.Coords) (k0_t3 : Fin k0_t3_loop.trips) (v428 : IVec S16 32) (v455 : IVec S16 32) (v456 : IVec S16 32) : Prop :=
  (∀ (k0_h1 : k0_cond1 i k0_t3 = 1#1), ∀ a x, ((![v455, v456, v428] : Fin 3 → IVec S16 32) a x).toNat < S8x8x1024.size a)
theorem k0_idx398_inb : ∀ (i : grid0.Coords) (k0_t3 : Fin k0_t3_loop.trips) (v428 : IVec S16 32) (v455 : IVec S16 32) (v456 : IVec S16 32) (k0_hw400 : k0_chk400 i k0_t3 v428 v455 v456), ∀ (k0_h1 : k0_cond1 i k0_t3 = 1#1), ∀ a x, ((![v455, v456, v428] : Fin 3 → IVec S16 32) a x).toNat < S8x8x1024.size a := fun i k0_t3 v428 v455 v456 k0_hw400 k0_h1 => k0_hw400 k0_h1

def k0_chk401 (i : grid0.Coords) (k0_t3 : Fin k0_t3_loop.trips) (v423 : IVec S16 32) (v463 : IVec S16 32) : Prop :=
  (∀ (k0_h1 : k0_cond1 i k0_t3 = 1#1), ∀ a x, ((![v423, v463] : Fin 2 → IVec S16 32) a x).toNat < S32x129.size a)
theorem k0_idx399_inb : ∀ (i : grid0.Coords) (k0_t3 : Fin k0_t3_loop.trips) (v423 : IVec S16 32) (v463 : IVec S16 32) (k0_hw401 : k0_chk401 i k0_t3 v423 v463), ∀ (k0_h1 : k0_cond1 i k0_t3 = 1#1), ∀ a x, ((![v423, v463] : Fin 2 → IVec S16 32) a x).toNat < S32x129.size a := fun i k0_t3 v423 v463 k0_hw401 k0_h1 => k0_hw401 k0_h1

def k0_chk402 (i : grid0.Coords) (k0_t3 : Fin k0_t3_loop.trips) (v428 : IVec S16 32) (v460 : IVec S16 32) (v461 : IVec S16 32) : Prop :=
  (∀ (k0_h1 : k0_cond1 i k0_t3 = 1#1), ∀ a x, ((![v460, v461, v428] : Fin 3 → IVec S16 32) a x).toNat < S8x8x1024.size a)
theorem k0_idx400_inb : ∀ (i : grid0.Coords) (k0_t3 : Fin k0_t3_loop.trips) (v428 : IVec S16 32) (v460 : IVec S16 32) (v461 : IVec S16 32) (k0_hw402 : k0_chk402 i k0_t3 v428 v460 v461), ∀ (k0_h1 : k0_cond1 i k0_t3 = 1#1), ∀ a x, ((![v460, v461, v428] : Fin 3 → IVec S16 32) a x).toNat < S8x8x1024.size a := fun i k0_t3 v428 v460 v461 k0_hw402 k0_h1 => k0_hw402 k0_h1

def k0_chk403 (i : grid0.Coords) (k0_t3 : Fin k0_t3_loop.trips) (v423 : IVec S16 32) (v468 : IVec S16 32) : Prop :=
  (∀ (k0_h1 : k0_cond1 i k0_t3 = 1#1), ∀ a x, ((![v423, v468] : Fin 2 → IVec S16 32) a x).toNat < S32x129.size a)
theorem k0_idx401_inb : ∀ (i : grid0.Coords) (k0_t3 : Fin k0_t3_loop.trips) (v423 : IVec S16 32) (v468 : IVec S16 32) (k0_hw403 : k0_chk403 i k0_t3 v423 v468), ∀ (k0_h1 : k0_cond1 i k0_t3 = 1#1), ∀ a x, ((![v423, v468] : Fin 2 → IVec S16 32) a x).toNat < S32x129.size a := fun i k0_t3 v423 v468 k0_hw403 k0_h1 => k0_hw403 k0_h1

def k0_chk404 (i : grid0.Coords) (k0_t3 : Fin k0_t3_loop.trips) (v428 : IVec S16 32) (v465 : IVec S16 32) (v466 : IVec S16 32) : Prop :=
  (∀ (k0_h1 : k0_cond1 i k0_t3 = 1#1), ∀ a x, ((![v465, v466, v428] : Fin 3 → IVec S16 32) a x).toNat < S8x8x1024.size a)
theorem k0_idx402_inb : ∀ (i : grid0.Coords) (k0_t3 : Fin k0_t3_loop.trips) (v428 : IVec S16 32) (v465 : IVec S16 32) (v466 : IVec S16 32) (k0_hw404 : k0_chk404 i k0_t3 v428 v465 v466), ∀ (k0_h1 : k0_cond1 i k0_t3 = 1#1), ∀ a x, ((![v465, v466, v428] : Fin 3 → IVec S16 32) a x).toNat < S8x8x1024.size a := fun i k0_t3 v428 v465 v466 k0_hw404 k0_h1 => k0_hw404 k0_h1

def k0_chk405 (i : grid0.Coords) (k0_t3 : Fin k0_t3_loop.trips) (v423 : IVec S16 32) (v473 : IVec S16 32) : Prop :=
  (∀ (k0_h1 : k0_cond1 i k0_t3 = 1#1), ∀ a x, ((![v423, v473] : Fin 2 → IVec S16 32) a x).toNat < S32x129.size a)
theorem k0_idx403_inb : ∀ (i : grid0.Coords) (k0_t3 : Fin k0_t3_loop.trips) (v423 : IVec S16 32) (v473 : IVec S16 32) (k0_hw405 : k0_chk405 i k0_t3 v423 v473), ∀ (k0_h1 : k0_cond1 i k0_t3 = 1#1), ∀ a x, ((![v423, v473] : Fin 2 → IVec S16 32) a x).toNat < S32x129.size a := fun i k0_t3 v423 v473 k0_hw405 k0_h1 => k0_hw405 k0_h1

def k0_chk406 (i : grid0.Coords) (k0_t3 : Fin k0_t3_loop.trips) (v428 : IVec S16 32) (v470 : IVec S16 32) (v471 : IVec S16 32) : Prop :=
  (∀ (k0_h1 : k0_cond1 i k0_t3 = 1#1), ∀ a x, ((![v470, v471, v428] : Fin 3 → IVec S16 32) a x).toNat < S8x8x1024.size a)
theorem k0_idx404_inb : ∀ (i : grid0.Coords) (k0_t3 : Fin k0_t3_loop.trips) (v428 : IVec S16 32) (v470 : IVec S16 32) (v471 : IVec S16 32) (k0_hw406 : k0_chk406 i k0_t3 v428 v470 v471), ∀ (k0_h1 : k0_cond1 i k0_t3 = 1#1), ∀ a x, ((![v470, v471, v428] : Fin 3 → IVec S16 32) a x).toNat < S8x8x1024.size a := fun i k0_t3 v428 v470 v471 k0_hw406 k0_h1 => k0_hw406 k0_h1

def k0_chk407 (i : grid0.Coords) (k0_t3 : Fin k0_t3_loop.trips) (v423 : IVec S16 32) (v478 : IVec S16 32) : Prop :=
  (∀ (k0_h1 : k0_cond1 i k0_t3 = 1#1), ∀ a x, ((![v423, v478] : Fin 2 → IVec S16 32) a x).toNat < S32x129.size a)
theorem k0_idx405_inb : ∀ (i : grid0.Coords) (k0_t3 : Fin k0_t3_loop.trips) (v423 : IVec S16 32) (v478 : IVec S16 32) (k0_hw407 : k0_chk407 i k0_t3 v423 v478), ∀ (k0_h1 : k0_cond1 i k0_t3 = 1#1), ∀ a x, ((![v423, v478] : Fin 2 → IVec S16 32) a x).toNat < S32x129.size a := fun i k0_t3 v423 v478 k0_hw407 k0_h1 => k0_hw407 k0_h1

def k0_chk408 (i : grid0.Coords) (k0_t3 : Fin k0_t3_loop.trips) (v428 : IVec S16 32) (v475 : IVec S16 32) (v476 : IVec S16 32) : Prop :=
  (∀ (k0_h1 : k0_cond1 i k0_t3 = 1#1), ∀ a x, ((![v475, v476, v428] : Fin 3 → IVec S16 32) a x).toNat < S8x8x1024.size a)
theorem k0_idx406_inb : ∀ (i : grid0.Coords) (k0_t3 : Fin k0_t3_loop.trips) (v428 : IVec S16 32) (v475 : IVec S16 32) (v476 : IVec S16 32) (k0_hw408 : k0_chk408 i k0_t3 v428 v475 v476), ∀ (k0_h1 : k0_cond1 i k0_t3 = 1#1), ∀ a x, ((![v475, v476, v428] : Fin 3 → IVec S16 32) a x).toNat < S8x8x1024.size a := fun i k0_t3 v428 v475 v476 k0_hw408 k0_h1 => k0_hw408 k0_h1

def k0_chk409 (i : grid0.Coords) (k0_t3 : Fin k0_t3_loop.trips) (v423 : IVec S16 32) (v483 : IVec S16 32) : Prop :=
  (∀ (k0_h1 : k0_cond1 i k0_t3 = 1#1), ∀ a x, ((![v423, v483] : Fin 2 → IVec S16 32) a x).toNat < S32x129.size a)
theorem k0_idx407_inb : ∀ (i : grid0.Coords) (k0_t3 : Fin k0_t3_loop.trips) (v423 : IVec S16 32) (v483 : IVec S16 32) (k0_hw409 : k0_chk409 i k0_t3 v423 v483), ∀ (k0_h1 : k0_cond1 i k0_t3 = 1#1), ∀ a x, ((![v423, v483] : Fin 2 → IVec S16 32) a x).toNat < S32x129.size a := fun i k0_t3 v423 v483 k0_hw409 k0_h1 => k0_hw409 k0_h1

def k0_chk410 (i : grid0.Coords) (k0_t3 : Fin k0_t3_loop.trips) (v428 : IVec S16 32) (v480 : IVec S16 32) (v481 : IVec S16 32) : Prop :=
  (∀ (k0_h1 : k0_cond1 i k0_t3 = 1#1), ∀ a x, ((![v480, v481, v428] : Fin 3 → IVec S16 32) a x).toNat < S8x8x1024.size a)
theorem k0_idx408_inb : ∀ (i : grid0.Coords) (k0_t3 : Fin k0_t3_loop.trips) (v428 : IVec S16 32) (v480 : IVec S16 32) (v481 : IVec S16 32) (k0_hw410 : k0_chk410 i k0_t3 v428 v480 v481), ∀ (k0_h1 : k0_cond1 i k0_t3 = 1#1), ∀ a x, ((![v480, v481, v428] : Fin 3 → IVec S16 32) a x).toNat < S8x8x1024.size a := fun i k0_t3 v428 v480 v481 k0_hw410 k0_h1 => k0_hw410 k0_h1

def k0_chk411 (i : grid0.Coords) (k0_t3 : Fin k0_t3_loop.trips) (v423 : IVec S16 32) (v488 : IVec S16 32) : Prop :=
  (∀ (k0_h1 : k0_cond1 i k0_t3 = 1#1), ∀ a x, ((![v423, v488] : Fin 2 → IVec S16 32) a x).toNat < S32x129.size a)
theorem k0_idx409_inb : ∀ (i : grid0.Coords) (k0_t3 : Fin k0_t3_loop.trips) (v423 : IVec S16 32) (v488 : IVec S16 32) (k0_hw411 : k0_chk411 i k0_t3 v423 v488), ∀ (k0_h1 : k0_cond1 i k0_t3 = 1#1), ∀ a x, ((![v423, v488] : Fin 2 → IVec S16 32) a x).toNat < S32x129.size a := fun i k0_t3 v423 v488 k0_hw411 k0_h1 => k0_hw411 k0_h1

def k0_chk412 (i : grid0.Coords) (k0_t3 : Fin k0_t3_loop.trips) (v428 : IVec S16 32) (v485 : IVec S16 32) (v486 : IVec S16 32) : Prop :=
  (∀ (k0_h1 : k0_cond1 i k0_t3 = 1#1), ∀ a x, ((![v485, v486, v428] : Fin 3 → IVec S16 32) a x).toNat < S8x8x1024.size a)
theorem k0_idx410_inb : ∀ (i : grid0.Coords) (k0_t3 : Fin k0_t3_loop.trips) (v428 : IVec S16 32) (v485 : IVec S16 32) (v486 : IVec S16 32) (k0_hw412 : k0_chk412 i k0_t3 v428 v485 v486), ∀ (k0_h1 : k0_cond1 i k0_t3 = 1#1), ∀ a x, ((![v485, v486, v428] : Fin 3 → IVec S16 32) a x).toNat < S8x8x1024.size a := fun i k0_t3 v428 v485 v486 k0_hw412 k0_h1 => k0_hw412 k0_h1

def k0_chk413 (i : grid0.Coords) (k0_t3 : Fin k0_t3_loop.trips) (v423 : IVec S16 32) (v493 : IVec S16 32) : Prop :=
  (∀ (k0_h1 : k0_cond1 i k0_t3 = 1#1), ∀ a x, ((![v423, v493] : Fin 2 → IVec S16 32) a x).toNat < S32x129.size a)
theorem k0_idx411_inb : ∀ (i : grid0.Coords) (k0_t3 : Fin k0_t3_loop.trips) (v423 : IVec S16 32) (v493 : IVec S16 32) (k0_hw413 : k0_chk413 i k0_t3 v423 v493), ∀ (k0_h1 : k0_cond1 i k0_t3 = 1#1), ∀ a x, ((![v423, v493] : Fin 2 → IVec S16 32) a x).toNat < S32x129.size a := fun i k0_t3 v423 v493 k0_hw413 k0_h1 => k0_hw413 k0_h1

def k0_chk414 (i : grid0.Coords) (k0_t3 : Fin k0_t3_loop.trips) (v428 : IVec S16 32) (v490 : IVec S16 32) (v491 : IVec S16 32) : Prop :=
  (∀ (k0_h1 : k0_cond1 i k0_t3 = 1#1), ∀ a x, ((![v490, v491, v428] : Fin 3 → IVec S16 32) a x).toNat < S8x8x1024.size a)
theorem k0_idx412_inb : ∀ (i : grid0.Coords) (k0_t3 : Fin k0_t3_loop.trips) (v428 : IVec S16 32) (v490 : IVec S16 32) (v491 : IVec S16 32) (k0_hw414 : k0_chk414 i k0_t3 v428 v490 v491), ∀ (k0_h1 : k0_cond1 i k0_t3 = 1#1), ∀ a x, ((![v490, v491, v428] : Fin 3 → IVec S16 32) a x).toNat < S8x8x1024.size a := fun i k0_t3 v428 v490 v491 k0_hw414 k0_h1 => k0_hw414 k0_h1

def k0_chk415 (i : grid0.Coords) (k0_t3 : Fin k0_t3_loop.trips) (v423 : IVec S16 32) (v498 : IVec S16 32) : Prop :=
  (∀ (k0_h1 : k0_cond1 i k0_t3 = 1#1), ∀ a x, ((![v423, v498] : Fin 2 → IVec S16 32) a x).toNat < S32x129.size a)
theorem k0_idx413_inb : ∀ (i : grid0.Coords) (k0_t3 : Fin k0_t3_loop.trips) (v423 : IVec S16 32) (v498 : IVec S16 32) (k0_hw415 : k0_chk415 i k0_t3 v423 v498), ∀ (k0_h1 : k0_cond1 i k0_t3 = 1#1), ∀ a x, ((![v423, v498] : Fin 2 → IVec S16 32) a x).toNat < S32x129.size a := fun i k0_t3 v423 v498 k0_hw415 k0_h1 => k0_hw415 k0_h1

def k0_chk416 (i : grid0.Coords) (k0_t3 : Fin k0_t3_loop.trips) (v428 : IVec S16 32) (v495 : IVec S16 32) (v496 : IVec S16 32) : Prop :=
  (∀ (k0_h1 : k0_cond1 i k0_t3 = 1#1), ∀ a x, ((![v495, v496, v428] : Fin 3 → IVec S16 32) a x).toNat < S8x8x1024.size a)
theorem k0_idx414_inb : ∀ (i : grid0.Coords) (k0_t3 : Fin k0_t3_loop.trips) (v428 : IVec S16 32) (v495 : IVec S16 32) (v496 : IVec S16 32) (k0_hw416 : k0_chk416 i k0_t3 v428 v495 v496), ∀ (k0_h1 : k0_cond1 i k0_t3 = 1#1), ∀ a x, ((![v495, v496, v428] : Fin 3 → IVec S16 32) a x).toNat < S8x8x1024.size a := fun i k0_t3 v428 v495 v496 k0_hw416 k0_h1 => k0_hw416 k0_h1

def k0_chk417 (i : grid0.Coords) (k0_t3 : Fin k0_t3_loop.trips) (v423 : IVec S16 32) (v503 : IVec S16 32) : Prop :=
  (∀ (k0_h1 : k0_cond1 i k0_t3 = 1#1), ∀ a x, ((![v423, v503] : Fin 2 → IVec S16 32) a x).toNat < S32x129.size a)
theorem k0_idx415_inb : ∀ (i : grid0.Coords) (k0_t3 : Fin k0_t3_loop.trips) (v423 : IVec S16 32) (v503 : IVec S16 32) (k0_hw417 : k0_chk417 i k0_t3 v423 v503), ∀ (k0_h1 : k0_cond1 i k0_t3 = 1#1), ∀ a x, ((![v423, v503] : Fin 2 → IVec S16 32) a x).toNat < S32x129.size a := fun i k0_t3 v423 v503 k0_hw417 k0_h1 => k0_hw417 k0_h1

def k0_chk418 (i : grid0.Coords) (k0_t3 : Fin k0_t3_loop.trips) (v428 : IVec S16 32) (v500 : IVec S16 32) (v501 : IVec S16 32) : Prop :=
  (∀ (k0_h1 : k0_cond1 i k0_t3 = 1#1), ∀ a x, ((![v500, v501, v428] : Fin 3 → IVec S16 32) a x).toNat < S8x8x1024.size a)
theorem k0_idx416_inb : ∀ (i : grid0.Coords) (k0_t3 : Fin k0_t3_loop.trips) (v428 : IVec S16 32) (v500 : IVec S16 32) (v501 : IVec S16 32) (k0_hw418 : k0_chk418 i k0_t3 v428 v500 v501), ∀ (k0_h1 : k0_cond1 i k0_t3 = 1#1), ∀ a x, ((![v500, v501, v428] : Fin 3 → IVec S16 32) a x).toNat < S8x8x1024.size a := fun i k0_t3 v428 v500 v501 k0_hw418 k0_h1 => k0_hw418 k0_h1

def k0_chk419 (i : grid0.Coords) (k0_t3 : Fin k0_t3_loop.trips) (v423 : IVec S16 32) (v508 : IVec S16 32) : Prop :=
  (∀ (k0_h1 : k0_cond1 i k0_t3 = 1#1), ∀ a x, ((![v423, v508] : Fin 2 → IVec S16 32) a x).toNat < S32x129.size a)
theorem k0_idx417_inb : ∀ (i : grid0.Coords) (k0_t3 : Fin k0_t3_loop.trips) (v423 : IVec S16 32) (v508 : IVec S16 32) (k0_hw419 : k0_chk419 i k0_t3 v423 v508), ∀ (k0_h1 : k0_cond1 i k0_t3 = 1#1), ∀ a x, ((![v423, v508] : Fin 2 → IVec S16 32) a x).toNat < S32x129.size a := fun i k0_t3 v423 v508 k0_hw419 k0_h1 => k0_hw419 k0_h1

def k0_chk420 (i : grid0.Coords) (k0_t3 : Fin k0_t3_loop.trips) (v428 : IVec S16 32) (v505 : IVec S16 32) (v506 : IVec S16 32) : Prop :=
  (∀ (k0_h1 : k0_cond1 i k0_t3 = 1#1), ∀ a x, ((![v505, v506, v428] : Fin 3 → IVec S16 32) a x).toNat < S8x8x1024.size a)
theorem k0_idx418_inb : ∀ (i : grid0.Coords) (k0_t3 : Fin k0_t3_loop.trips) (v428 : IVec S16 32) (v505 : IVec S16 32) (v506 : IVec S16 32) (k0_hw420 : k0_chk420 i k0_t3 v428 v505 v506), ∀ (k0_h1 : k0_cond1 i k0_t3 = 1#1), ∀ a x, ((![v505, v506, v428] : Fin 3 → IVec S16 32) a x).toNat < S8x8x1024.size a := fun i k0_t3 v428 v505 v506 k0_hw420 k0_h1 => k0_hw420 k0_h1

def k0_chk421 (i : grid0.Coords) (k0_t3 : Fin k0_t3_loop.trips) (v423 : IVec S16 32) (v513 : IVec S16 32) : Prop :=
  (∀ (k0_h1 : k0_cond1 i k0_t3 = 1#1), ∀ a x, ((![v423, v513] : Fin 2 → IVec S16 32) a x).toNat < S32x129.size a)
theorem k0_idx419_inb : ∀ (i : grid0.Coords) (k0_t3 : Fin k0_t3_loop.trips) (v423 : IVec S16 32) (v513 : IVec S16 32) (k0_hw421 : k0_chk421 i k0_t3 v423 v513), ∀ (k0_h1 : k0_cond1 i k0_t3 = 1#1), ∀ a x, ((![v423, v513] : Fin 2 → IVec S16 32) a x).toNat < S32x129.size a := fun i k0_t3 v423 v513 k0_hw421 k0_h1 => k0_hw421 k0_h1

def k0_chk422 (i : grid0.Coords) (k0_t3 : Fin k0_t3_loop.trips) (v428 : IVec S16 32) (v510 : IVec S16 32) (v511 : IVec S16 32) : Prop :=
  (∀ (k0_h1 : k0_cond1 i k0_t3 = 1#1), ∀ a x, ((![v510, v511, v428] : Fin 3 → IVec S16 32) a x).toNat < S8x8x1024.size a)
theorem k0_idx420_inb : ∀ (i : grid0.Coords) (k0_t3 : Fin k0_t3_loop.trips) (v428 : IVec S16 32) (v510 : IVec S16 32) (v511 : IVec S16 32) (k0_hw422 : k0_chk422 i k0_t3 v428 v510 v511), ∀ (k0_h1 : k0_cond1 i k0_t3 = 1#1), ∀ a x, ((![v510, v511, v428] : Fin 3 → IVec S16 32) a x).toNat < S8x8x1024.size a := fun i k0_t3 v428 v510 v511 k0_hw422 k0_h1 => k0_hw422 k0_h1

def k0_chk423 (i : grid0.Coords) (k0_t3 : Fin k0_t3_loop.trips) (v423 : IVec S16 32) (v518 : IVec S16 32) : Prop :=
  (∀ (k0_h1 : k0_cond1 i k0_t3 = 1#1), ∀ a x, ((![v423, v518] : Fin 2 → IVec S16 32) a x).toNat < S32x129.size a)
theorem k0_idx421_inb : ∀ (i : grid0.Coords) (k0_t3 : Fin k0_t3_loop.trips) (v423 : IVec S16 32) (v518 : IVec S16 32) (k0_hw423 : k0_chk423 i k0_t3 v423 v518), ∀ (k0_h1 : k0_cond1 i k0_t3 = 1#1), ∀ a x, ((![v423, v518] : Fin 2 → IVec S16 32) a x).toNat < S32x129.size a := fun i k0_t3 v423 v518 k0_hw423 k0_h1 => k0_hw423 k0_h1

def k0_chk424 (i : grid0.Coords) (k0_t3 : Fin k0_t3_loop.trips) (v428 : IVec S16 32) (v515 : IVec S16 32) (v516 : IVec S16 32) : Prop :=
  (∀ (k0_h1 : k0_cond1 i k0_t3 = 1#1), ∀ a x, ((![v515, v516, v428] : Fin 3 → IVec S16 32) a x).toNat < S8x8x1024.size a)
theorem k0_idx422_inb : ∀ (i : grid0.Coords) (k0_t3 : Fin k0_t3_loop.trips) (v428 : IVec S16 32) (v515 : IVec S16 32) (v516 : IVec S16 32) (k0_hw424 : k0_chk424 i k0_t3 v428 v515 v516), ∀ (k0_h1 : k0_cond1 i k0_t3 = 1#1), ∀ a x, ((![v515, v516, v428] : Fin 3 → IVec S16 32) a x).toNat < S8x8x1024.size a := fun i k0_t3 v428 v515 v516 k0_hw424 k0_h1 => k0_hw424 k0_h1

def k0_chk425 (i : grid0.Coords) (k0_t3 : Fin k0_t3_loop.trips) (v423 : IVec S16 32) (v523 : IVec S16 32) : Prop :=
  (∀ (k0_h1 : k0_cond1 i k0_t3 = 1#1), ∀ a x, ((![v423, v523] : Fin 2 → IVec S16 32) a x).toNat < S32x129.size a)
theorem k0_idx423_inb : ∀ (i : grid0.Coords) (k0_t3 : Fin k0_t3_loop.trips) (v423 : IVec S16 32) (v523 : IVec S16 32) (k0_hw425 : k0_chk425 i k0_t3 v423 v523), ∀ (k0_h1 : k0_cond1 i k0_t3 = 1#1), ∀ a x, ((![v423, v523] : Fin 2 → IVec S16 32) a x).toNat < S32x129.size a := fun i k0_t3 v423 v523 k0_hw425 k0_h1 => k0_hw425 k0_h1

def k0_chk426 (i : grid0.Coords) (k0_t3 : Fin k0_t3_loop.trips) (v428 : IVec S16 32) (v520 : IVec S16 32) (v521 : IVec S16 32) : Prop :=
  (∀ (k0_h1 : k0_cond1 i k0_t3 = 1#1), ∀ a x, ((![v520, v521, v428] : Fin 3 → IVec S16 32) a x).toNat < S8x8x1024.size a)
theorem k0_idx424_inb : ∀ (i : grid0.Coords) (k0_t3 : Fin k0_t3_loop.trips) (v428 : IVec S16 32) (v520 : IVec S16 32) (v521 : IVec S16 32) (k0_hw426 : k0_chk426 i k0_t3 v428 v520 v521), ∀ (k0_h1 : k0_cond1 i k0_t3 = 1#1), ∀ a x, ((![v520, v521, v428] : Fin 3 → IVec S16 32) a x).toNat < S8x8x1024.size a := fun i k0_t3 v428 v520 v521 k0_hw426 k0_h1 => k0_hw426 k0_h1

def k0_chk427 (i : grid0.Coords) (k0_t3 : Fin k0_t3_loop.trips) (v423 : IVec S16 32) (v528 : IVec S16 32) : Prop :=
  (∀ (k0_h1 : k0_cond1 i k0_t3 = 1#1), ∀ a x, ((![v423, v528] : Fin 2 → IVec S16 32) a x).toNat < S32x129.size a)
theorem k0_idx425_inb : ∀ (i : grid0.Coords) (k0_t3 : Fin k0_t3_loop.trips) (v423 : IVec S16 32) (v528 : IVec S16 32) (k0_hw427 : k0_chk427 i k0_t3 v423 v528), ∀ (k0_h1 : k0_cond1 i k0_t3 = 1#1), ∀ a x, ((![v423, v528] : Fin 2 → IVec S16 32) a x).toNat < S32x129.size a := fun i k0_t3 v423 v528 k0_hw427 k0_h1 => k0_hw427 k0_h1

def k0_chk428 (i : grid0.Coords) (k0_t3 : Fin k0_t3_loop.trips) (v428 : IVec S16 32) (v525 : IVec S16 32) (v526 : IVec S16 32) : Prop :=
  (∀ (k0_h1 : k0_cond1 i k0_t3 = 1#1), ∀ a x, ((![v525, v526, v428] : Fin 3 → IVec S16 32) a x).toNat < S8x8x1024.size a)
theorem k0_idx426_inb : ∀ (i : grid0.Coords) (k0_t3 : Fin k0_t3_loop.trips) (v428 : IVec S16 32) (v525 : IVec S16 32) (v526 : IVec S16 32) (k0_hw428 : k0_chk428 i k0_t3 v428 v525 v526), ∀ (k0_h1 : k0_cond1 i k0_t3 = 1#1), ∀ a x, ((![v525, v526, v428] : Fin 3 → IVec S16 32) a x).toNat < S8x8x1024.size a := fun i k0_t3 v428 v525 v526 k0_hw428 k0_h1 => k0_hw428 k0_h1

def k0_chk429 (i : grid0.Coords) (k0_t3 : Fin k0_t3_loop.trips) (v423 : IVec S16 32) (v533 : IVec S16 32) : Prop :=
  (∀ (k0_h1 : k0_cond1 i k0_t3 = 1#1), ∀ a x, ((![v423, v533] : Fin 2 → IVec S16 32) a x).toNat < S32x129.size a)
theorem k0_idx427_inb : ∀ (i : grid0.Coords) (k0_t3 : Fin k0_t3_loop.trips) (v423 : IVec S16 32) (v533 : IVec S16 32) (k0_hw429 : k0_chk429 i k0_t3 v423 v533), ∀ (k0_h1 : k0_cond1 i k0_t3 = 1#1), ∀ a x, ((![v423, v533] : Fin 2 → IVec S16 32) a x).toNat < S32x129.size a := fun i k0_t3 v423 v533 k0_hw429 k0_h1 => k0_hw429 k0_h1

def k0_chk430 (i : grid0.Coords) (k0_t3 : Fin k0_t3_loop.trips) (v428 : IVec S16 32) (v530 : IVec S16 32) (v531 : IVec S16 32) : Prop :=
  (∀ (k0_h1 : k0_cond1 i k0_t3 = 1#1), ∀ a x, ((![v530, v531, v428] : Fin 3 → IVec S16 32) a x).toNat < S8x8x1024.size a)
theorem k0_idx428_inb : ∀ (i : grid0.Coords) (k0_t3 : Fin k0_t3_loop.trips) (v428 : IVec S16 32) (v530 : IVec S16 32) (v531 : IVec S16 32) (k0_hw430 : k0_chk430 i k0_t3 v428 v530 v531), ∀ (k0_h1 : k0_cond1 i k0_t3 = 1#1), ∀ a x, ((![v530, v531, v428] : Fin 3 → IVec S16 32) a x).toNat < S8x8x1024.size a := fun i k0_t3 v428 v530 v531 k0_hw430 k0_h1 => k0_hw430 k0_h1

def k0_chk431 (i : grid0.Coords) (k0_t3 : Fin k0_t3_loop.trips) (v423 : IVec S16 32) (v538 : IVec S16 32) : Prop :=
  (∀ (k0_h1 : k0_cond1 i k0_t3 = 1#1), ∀ a x, ((![v423, v538] : Fin 2 → IVec S16 32) a x).toNat < S32x129.size a)
theorem k0_idx429_inb : ∀ (i : grid0.Coords) (k0_t3 : Fin k0_t3_loop.trips) (v423 : IVec S16 32) (v538 : IVec S16 32) (k0_hw431 : k0_chk431 i k0_t3 v423 v538), ∀ (k0_h1 : k0_cond1 i k0_t3 = 1#1), ∀ a x, ((![v423, v538] : Fin 2 → IVec S16 32) a x).toNat < S32x129.size a := fun i k0_t3 v423 v538 k0_hw431 k0_h1 => k0_hw431 k0_h1

def k0_chk432 (i : grid0.Coords) (k0_t3 : Fin k0_t3_loop.trips) (v428 : IVec S16 32) (v535 : IVec S16 32) (v536 : IVec S16 32) : Prop :=
  (∀ (k0_h1 : k0_cond1 i k0_t3 = 1#1), ∀ a x, ((![v535, v536, v428] : Fin 3 → IVec S16 32) a x).toNat < S8x8x1024.size a)
theorem k0_idx430_inb : ∀ (i : grid0.Coords) (k0_t3 : Fin k0_t3_loop.trips) (v428 : IVec S16 32) (v535 : IVec S16 32) (v536 : IVec S16 32) (k0_hw432 : k0_chk432 i k0_t3 v428 v535 v536), ∀ (k0_h1 : k0_cond1 i k0_t3 = 1#1), ∀ a x, ((![v535, v536, v428] : Fin 3 → IVec S16 32) a x).toNat < S8x8x1024.size a := fun i k0_t3 v428 v535 v536 k0_hw432 k0_h1 => k0_hw432 k0_h1

def k0_chk433 (i : grid0.Coords) (k0_t3 : Fin k0_t3_loop.trips) (v423 : IVec S16 32) (v543 : IVec S16 32) : Prop :=
  (∀ (k0_h1 : k0_cond1 i k0_t3 = 1#1), ∀ a x, ((![v423, v543] : Fin 2 → IVec S16 32) a x).toNat < S32x129.size a)
theorem k0_idx431_inb : ∀ (i : grid0.Coords) (k0_t3 : Fin k0_t3_loop.trips) (v423 : IVec S16 32) (v543 : IVec S16 32) (k0_hw433 : k0_chk433 i k0_t3 v423 v543), ∀ (k0_h1 : k0_cond1 i k0_t3 = 1#1), ∀ a x, ((![v423, v543] : Fin 2 → IVec S16 32) a x).toNat < S32x129.size a := fun i k0_t3 v423 v543 k0_hw433 k0_h1 => k0_hw433 k0_h1

def k0_chk434 (i : grid0.Coords) (k0_t3 : Fin k0_t3_loop.trips) (v428 : IVec S16 32) (v540 : IVec S16 32) (v541 : IVec S16 32) : Prop :=
  (∀ (k0_h1 : k0_cond1 i k0_t3 = 1#1), ∀ a x, ((![v540, v541, v428] : Fin 3 → IVec S16 32) a x).toNat < S8x8x1024.size a)
theorem k0_idx432_inb : ∀ (i : grid0.Coords) (k0_t3 : Fin k0_t3_loop.trips) (v428 : IVec S16 32) (v540 : IVec S16 32) (v541 : IVec S16 32) (k0_hw434 : k0_chk434 i k0_t3 v428 v540 v541), ∀ (k0_h1 : k0_cond1 i k0_t3 = 1#1), ∀ a x, ((![v540, v541, v428] : Fin 3 → IVec S16 32) a x).toNat < S8x8x1024.size a := fun i k0_t3 v428 v540 v541 k0_hw434 k0_h1 => k0_hw434 k0_h1

def k0_chk435 (i : grid0.Coords) (k0_t3 : Fin k0_t3_loop.trips) (v423 : IVec S16 32) (v548 : IVec S16 32) : Prop :=
  (∀ (k0_h1 : k0_cond1 i k0_t3 = 1#1), ∀ a x, ((![v423, v548] : Fin 2 → IVec S16 32) a x).toNat < S32x129.size a)
theorem k0_idx433_inb : ∀ (i : grid0.Coords) (k0_t3 : Fin k0_t3_loop.trips) (v423 : IVec S16 32) (v548 : IVec S16 32) (k0_hw435 : k0_chk435 i k0_t3 v423 v548), ∀ (k0_h1 : k0_cond1 i k0_t3 = 1#1), ∀ a x, ((![v423, v548] : Fin 2 → IVec S16 32) a x).toNat < S32x129.size a := fun i k0_t3 v423 v548 k0_hw435 k0_h1 => k0_hw435 k0_h1

def k0_chk436 (i : grid0.Coords) (k0_t3 : Fin k0_t3_loop.trips) (v428 : IVec S16 32) (v545 : IVec S16 32) (v546 : IVec S16 32) : Prop :=
  (∀ (k0_h1 : k0_cond1 i k0_t3 = 1#1), ∀ a x, ((![v545, v546, v428] : Fin 3 → IVec S16 32) a x).toNat < S8x8x1024.size a)
theorem k0_idx434_inb : ∀ (i : grid0.Coords) (k0_t3 : Fin k0_t3_loop.trips) (v428 : IVec S16 32) (v545 : IVec S16 32) (v546 : IVec S16 32) (k0_hw436 : k0_chk436 i k0_t3 v428 v545 v546), ∀ (k0_h1 : k0_cond1 i k0_t3 = 1#1), ∀ a x, ((![v545, v546, v428] : Fin 3 → IVec S16 32) a x).toNat < S8x8x1024.size a := fun i k0_t3 v428 v545 v546 k0_hw436 k0_h1 => k0_hw436 k0_h1

def k0_chk437 (i : grid0.Coords) (k0_t3 : Fin k0_t3_loop.trips) (v423 : IVec S16 32) (v553 : IVec S16 32) : Prop :=
  (∀ (k0_h1 : k0_cond1 i k0_t3 = 1#1), ∀ a x, ((![v423, v553] : Fin 2 → IVec S16 32) a x).toNat < S32x129.size a)
theorem k0_idx435_inb : ∀ (i : grid0.Coords) (k0_t3 : Fin k0_t3_loop.trips) (v423 : IVec S16 32) (v553 : IVec S16 32) (k0_hw437 : k0_chk437 i k0_t3 v423 v553), ∀ (k0_h1 : k0_cond1 i k0_t3 = 1#1), ∀ a x, ((![v423, v553] : Fin 2 → IVec S16 32) a x).toNat < S32x129.size a := fun i k0_t3 v423 v553 k0_hw437 k0_h1 => k0_hw437 k0_h1

def k0_chk438 (i : grid0.Coords) (k0_t3 : Fin k0_t3_loop.trips) (v428 : IVec S16 32) (v550 : IVec S16 32) (v551 : IVec S16 32) : Prop :=
  (∀ (k0_h1 : k0_cond1 i k0_t3 = 1#1), ∀ a x, ((![v550, v551, v428] : Fin 3 → IVec S16 32) a x).toNat < S8x8x1024.size a)
theorem k0_idx436_inb : ∀ (i : grid0.Coords) (k0_t3 : Fin k0_t3_loop.trips) (v428 : IVec S16 32) (v550 : IVec S16 32) (v551 : IVec S16 32) (k0_hw438 : k0_chk438 i k0_t3 v428 v550 v551), ∀ (k0_h1 : k0_cond1 i k0_t3 = 1#1), ∀ a x, ((![v550, v551, v428] : Fin 3 → IVec S16 32) a x).toNat < S8x8x1024.size a := fun i k0_t3 v428 v550 v551 k0_hw438 k0_h1 => k0_hw438 k0_h1

def k0_chk439 (i : grid0.Coords) (k0_t3 : Fin k0_t3_loop.trips) (v423 : IVec S16 32) (v558 : IVec S16 32) : Prop :=
  (∀ (k0_h1 : k0_cond1 i k0_t3 = 1#1), ∀ a x, ((![v423, v558] : Fin 2 → IVec S16 32) a x).toNat < S32x129.size a)
theorem k0_idx437_inb : ∀ (i : grid0.Coords) (k0_t3 : Fin k0_t3_loop.trips) (v423 : IVec S16 32) (v558 : IVec S16 32) (k0_hw439 : k0_chk439 i k0_t3 v423 v558), ∀ (k0_h1 : k0_cond1 i k0_t3 = 1#1), ∀ a x, ((![v423, v558] : Fin 2 → IVec S16 32) a x).toNat < S32x129.size a := fun i k0_t3 v423 v558 k0_hw439 k0_h1 => k0_hw439 k0_h1

def k0_chk440 (i : grid0.Coords) (k0_t3 : Fin k0_t3_loop.trips) (v428 : IVec S16 32) (v555 : IVec S16 32) (v556 : IVec S16 32) : Prop :=
  (∀ (k0_h1 : k0_cond1 i k0_t3 = 1#1), ∀ a x, ((![v555, v556, v428] : Fin 3 → IVec S16 32) a x).toNat < S8x8x1024.size a)
theorem k0_idx438_inb : ∀ (i : grid0.Coords) (k0_t3 : Fin k0_t3_loop.trips) (v428 : IVec S16 32) (v555 : IVec S16 32) (v556 : IVec S16 32) (k0_hw440 : k0_chk440 i k0_t3 v428 v555 v556), ∀ (k0_h1 : k0_cond1 i k0_t3 = 1#1), ∀ a x, ((![v555, v556, v428] : Fin 3 → IVec S16 32) a x).toNat < S8x8x1024.size a := fun i k0_t3 v428 v555 v556 k0_hw440 k0_h1 => k0_hw440 k0_h1

def k0_chk441 (i : grid0.Coords) (k0_t3 : Fin k0_t3_loop.trips) (v423 : IVec S16 32) (v563 : IVec S16 32) : Prop :=
  (∀ (k0_h1 : k0_cond1 i k0_t3 = 1#1), ∀ a x, ((![v423, v563] : Fin 2 → IVec S16 32) a x).toNat < S32x129.size a)
theorem k0_idx439_inb : ∀ (i : grid0.Coords) (k0_t3 : Fin k0_t3_loop.trips) (v423 : IVec S16 32) (v563 : IVec S16 32) (k0_hw441 : k0_chk441 i k0_t3 v423 v563), ∀ (k0_h1 : k0_cond1 i k0_t3 = 1#1), ∀ a x, ((![v423, v563] : Fin 2 → IVec S16 32) a x).toNat < S32x129.size a := fun i k0_t3 v423 v563 k0_hw441 k0_h1 => k0_hw441 k0_h1

def k0_chk442 (i : grid0.Coords) (k0_t3 : Fin k0_t3_loop.trips) (v428 : IVec S16 32) (v560 : IVec S16 32) (v561 : IVec S16 32) : Prop :=
  (∀ (k0_h1 : k0_cond1 i k0_t3 = 1#1), ∀ a x, ((![v560, v561, v428] : Fin 3 → IVec S16 32) a x).toNat < S8x8x1024.size a)
theorem k0_idx440_inb : ∀ (i : grid0.Coords) (k0_t3 : Fin k0_t3_loop.trips) (v428 : IVec S16 32) (v560 : IVec S16 32) (v561 : IVec S16 32) (k0_hw442 : k0_chk442 i k0_t3 v428 v560 v561), ∀ (k0_h1 : k0_cond1 i k0_t3 = 1#1), ∀ a x, ((![v560, v561, v428] : Fin 3 → IVec S16 32) a x).toNat < S8x8x1024.size a := fun i k0_t3 v428 v560 v561 k0_hw442 k0_h1 => k0_hw442 k0_h1

def k0_chk443 (i : grid0.Coords) (k0_t3 : Fin k0_t3_loop.trips) (v423 : IVec S16 32) (v568 : IVec S16 32) : Prop :=
  (∀ (k0_h1 : k0_cond1 i k0_t3 = 1#1), ∀ a x, ((![v423, v568] : Fin 2 → IVec S16 32) a x).toNat < S32x129.size a)
theorem k0_idx441_inb : ∀ (i : grid0.Coords) (k0_t3 : Fin k0_t3_loop.trips) (v423 : IVec S16 32) (v568 : IVec S16 32) (k0_hw443 : k0_chk443 i k0_t3 v423 v568), ∀ (k0_h1 : k0_cond1 i k0_t3 = 1#1), ∀ a x, ((![v423, v568] : Fin 2 → IVec S16 32) a x).toNat < S32x129.size a := fun i k0_t3 v423 v568 k0_hw443 k0_h1 => k0_hw443 k0_h1

def k0_chk444 (i : grid0.Coords) (k0_t3 : Fin k0_t3_loop.trips) (v428 : IVec S16 32) (v565 : IVec S16 32) (v566 : IVec S16 32) : Prop :=
  (∀ (k0_h1 : k0_cond1 i k0_t3 = 1#1), ∀ a x, ((![v565, v566, v428] : Fin 3 → IVec S16 32) a x).toNat < S8x8x1024.size a)
theorem k0_idx442_inb : ∀ (i : grid0.Coords) (k0_t3 : Fin k0_t3_loop.trips) (v428 : IVec S16 32) (v565 : IVec S16 32) (v566 : IVec S16 32) (k0_hw444 : k0_chk444 i k0_t3 v428 v565 v566), ∀ (k0_h1 : k0_cond1 i k0_t3 = 1#1), ∀ a x, ((![v565, v566, v428] : Fin 3 → IVec S16 32) a x).toNat < S8x8x1024.size a := fun i k0_t3 v428 v565 v566 k0_hw444 k0_h1 => k0_hw444 k0_h1

def k0_chk445 (i : grid0.Coords) (k0_t3 : Fin k0_t3_loop.trips) (v423 : IVec S16 32) (v573 : IVec S16 32) : Prop :=
  (∀ (k0_h1 : k0_cond1 i k0_t3 = 1#1), ∀ a x, ((![v423, v573] : Fin 2 → IVec S16 32) a x).toNat < S32x129.size a)
theorem k0_idx443_inb : ∀ (i : grid0.Coords) (k0_t3 : Fin k0_t3_loop.trips) (v423 : IVec S16 32) (v573 : IVec S16 32) (k0_hw445 : k0_chk445 i k0_t3 v423 v573), ∀ (k0_h1 : k0_cond1 i k0_t3 = 1#1), ∀ a x, ((![v423, v573] : Fin 2 → IVec S16 32) a x).toNat < S32x129.size a := fun i k0_t3 v423 v573 k0_hw445 k0_h1 => k0_hw445 k0_h1

def k0_chk446 (i : grid0.Coords) (k0_t3 : Fin k0_t3_loop.trips) (v428 : IVec S16 32) (v570 : IVec S16 32) (v571 : IVec S16 32) : Prop :=
  (∀ (k0_h1 : k0_cond1 i k0_t3 = 1#1), ∀ a x, ((![v570, v571, v428] : Fin 3 → IVec S16 32) a x).toNat < S8x8x1024.size a)
theorem k0_idx444_inb : ∀ (i : grid0.Coords) (k0_t3 : Fin k0_t3_loop.trips) (v428 : IVec S16 32) (v570 : IVec S16 32) (v571 : IVec S16 32) (k0_hw446 : k0_chk446 i k0_t3 v428 v570 v571), ∀ (k0_h1 : k0_cond1 i k0_t3 = 1#1), ∀ a x, ((![v570, v571, v428] : Fin 3 → IVec S16 32) a x).toNat < S8x8x1024.size a := fun i k0_t3 v428 v570 v571 k0_hw446 k0_h1 => k0_hw446 k0_h1

def k0_chk447 (i : grid0.Coords) (k0_t3 : Fin k0_t3_loop.trips) (v423 : IVec S16 32) (v578 : IVec S16 32) : Prop :=
  (∀ (k0_h1 : k0_cond1 i k0_t3 = 1#1), ∀ a x, ((![v423, v578] : Fin 2 → IVec S16 32) a x).toNat < S32x129.size a)
theorem k0_idx445_inb : ∀ (i : grid0.Coords) (k0_t3 : Fin k0_t3_loop.trips) (v423 : IVec S16 32) (v578 : IVec S16 32) (k0_hw447 : k0_chk447 i k0_t3 v423 v578), ∀ (k0_h1 : k0_cond1 i k0_t3 = 1#1), ∀ a x, ((![v423, v578] : Fin 2 → IVec S16 32) a x).toNat < S32x129.size a := fun i k0_t3 v423 v578 k0_hw447 k0_h1 => k0_hw447 k0_h1

def k0_chk448 (i : grid0.Coords) (k0_t3 : Fin k0_t3_loop.trips) (v428 : IVec S16 32) (v575 : IVec S16 32) (v576 : IVec S16 32) : Prop :=
  (∀ (k0_h1 : k0_cond1 i k0_t3 = 1#1), ∀ a x, ((![v575, v576, v428] : Fin 3 → IVec S16 32) a x).toNat < S8x8x1024.size a)
theorem k0_idx446_inb : ∀ (i : grid0.Coords) (k0_t3 : Fin k0_t3_loop.trips) (v428 : IVec S16 32) (v575 : IVec S16 32) (v576 : IVec S16 32) (k0_hw448 : k0_chk448 i k0_t3 v428 v575 v576), ∀ (k0_h1 : k0_cond1 i k0_t3 = 1#1), ∀ a x, ((![v575, v576, v428] : Fin 3 → IVec S16 32) a x).toNat < S8x8x1024.size a := fun i k0_t3 v428 v575 v576 k0_hw448 k0_h1 => k0_hw448 k0_h1

def k0_chk449 (i : grid0.Coords) (k0_t3 : Fin k0_t3_loop.trips) (v423 : IVec S16 32) (v583 : IVec S16 32) : Prop :=
  (∀ (k0_h1 : k0_cond1 i k0_t3 = 1#1), ∀ a x, ((![v423, v583] : Fin 2 → IVec S16 32) a x).toNat < S32x129.size a)
theorem k0_idx447_inb : ∀ (i : grid0.Coords) (k0_t3 : Fin k0_t3_loop.trips) (v423 : IVec S16 32) (v583 : IVec S16 32) (k0_hw449 : k0_chk449 i k0_t3 v423 v583), ∀ (k0_h1 : k0_cond1 i k0_t3 = 1#1), ∀ a x, ((![v423, v583] : Fin 2 → IVec S16 32) a x).toNat < S32x129.size a := fun i k0_t3 v423 v583 k0_hw449 k0_h1 => k0_hw449 k0_h1

def k0_chk450 (i : grid0.Coords) (k0_t3 : Fin k0_t3_loop.trips) (v428 : IVec S16 32) (v580 : IVec S16 32) (v581 : IVec S16 32) : Prop :=
  (∀ (k0_h1 : k0_cond1 i k0_t3 = 1#1), ∀ a x, ((![v580, v581, v428] : Fin 3 → IVec S16 32) a x).toNat < S8x8x1024.size a)
theorem k0_idx448_inb : ∀ (i : grid0.Coords) (k0_t3 : Fin k0_t3_loop.trips) (v428 : IVec S16 32) (v580 : IVec S16 32) (v581 : IVec S16 32) (k0_hw450 : k0_chk450 i k0_t3 v428 v580 v581), ∀ (k0_h1 : k0_cond1 i k0_t3 = 1#1), ∀ a x, ((![v580, v581, v428] : Fin 3 → IVec S16 32) a x).toNat < S8x8x1024.size a := fun i k0_t3 v428 v580 v581 k0_hw450 k0_h1 => k0_hw450 k0_h1

def k0_chk451 (i : grid0.Coords) (k0_t3 : Fin k0_t3_loop.trips) (v423 : IVec S16 32) (v588 : IVec S16 32) : Prop :=
  (∀ (k0_h1 : k0_cond1 i k0_t3 = 1#1), ∀ a x, ((![v423, v588] : Fin 2 → IVec S16 32) a x).toNat < S32x129.size a)
theorem k0_idx449_inb : ∀ (i : grid0.Coords) (k0_t3 : Fin k0_t3_loop.trips) (v423 : IVec S16 32) (v588 : IVec S16 32) (k0_hw451 : k0_chk451 i k0_t3 v423 v588), ∀ (k0_h1 : k0_cond1 i k0_t3 = 1#1), ∀ a x, ((![v423, v588] : Fin 2 → IVec S16 32) a x).toNat < S32x129.size a := fun i k0_t3 v423 v588 k0_hw451 k0_h1 => k0_hw451 k0_h1

def k0_chk452 (i : grid0.Coords) (k0_t3 : Fin k0_t3_loop.trips) (v428 : IVec S16 32) (v585 : IVec S16 32) (v586 : IVec S16 32) : Prop :=
  (∀ (k0_h1 : k0_cond1 i k0_t3 = 1#1), ∀ a x, ((![v585, v586, v428] : Fin 3 → IVec S16 32) a x).toNat < S8x8x1024.size a)
theorem k0_idx450_inb : ∀ (i : grid0.Coords) (k0_t3 : Fin k0_t3_loop.trips) (v428 : IVec S16 32) (v585 : IVec S16 32) (v586 : IVec S16 32) (k0_hw452 : k0_chk452 i k0_t3 v428 v585 v586), ∀ (k0_h1 : k0_cond1 i k0_t3 = 1#1), ∀ a x, ((![v585, v586, v428] : Fin 3 → IVec S16 32) a x).toNat < S8x8x1024.size a := fun i k0_t3 v428 v585 v586 k0_hw452 k0_h1 => k0_hw452 k0_h1

def k0_chk453 (i : grid0.Coords) (k0_t3 : Fin k0_t3_loop.trips) (v423 : IVec S16 32) (v593 : IVec S16 32) : Prop :=
  (∀ (k0_h1 : k0_cond1 i k0_t3 = 1#1), ∀ a x, ((![v423, v593] : Fin 2 → IVec S16 32) a x).toNat < S32x129.size a)
theorem k0_idx451_inb : ∀ (i : grid0.Coords) (k0_t3 : Fin k0_t3_loop.trips) (v423 : IVec S16 32) (v593 : IVec S16 32) (k0_hw453 : k0_chk453 i k0_t3 v423 v593), ∀ (k0_h1 : k0_cond1 i k0_t3 = 1#1), ∀ a x, ((![v423, v593] : Fin 2 → IVec S16 32) a x).toNat < S32x129.size a := fun i k0_t3 v423 v593 k0_hw453 k0_h1 => k0_hw453 k0_h1

def k0_chk454 (i : grid0.Coords) (k0_t3 : Fin k0_t3_loop.trips) (v428 : IVec S16 32) (v590 : IVec S16 32) (v591 : IVec S16 32) : Prop :=
  (∀ (k0_h1 : k0_cond1 i k0_t3 = 1#1), ∀ a x, ((![v590, v591, v428] : Fin 3 → IVec S16 32) a x).toNat < S8x8x1024.size a)
theorem k0_idx452_inb : ∀ (i : grid0.Coords) (k0_t3 : Fin k0_t3_loop.trips) (v428 : IVec S16 32) (v590 : IVec S16 32) (v591 : IVec S16 32) (k0_hw454 : k0_chk454 i k0_t3 v428 v590 v591), ∀ (k0_h1 : k0_cond1 i k0_t3 = 1#1), ∀ a x, ((![v590, v591, v428] : Fin 3 → IVec S16 32) a x).toNat < S8x8x1024.size a := fun i k0_t3 v428 v590 v591 k0_hw454 k0_h1 => k0_hw454 k0_h1

def k0_chk455 (i : grid0.Coords) (k0_t3 : Fin k0_t3_loop.trips) (v423 : IVec S16 32) (v598 : IVec S16 32) : Prop :=
  (∀ (k0_h1 : k0_cond1 i k0_t3 = 1#1), ∀ a x, ((![v423, v598] : Fin 2 → IVec S16 32) a x).toNat < S32x129.size a)
theorem k0_idx453_inb : ∀ (i : grid0.Coords) (k0_t3 : Fin k0_t3_loop.trips) (v423 : IVec S16 32) (v598 : IVec S16 32) (k0_hw455 : k0_chk455 i k0_t3 v423 v598), ∀ (k0_h1 : k0_cond1 i k0_t3 = 1#1), ∀ a x, ((![v423, v598] : Fin 2 → IVec S16 32) a x).toNat < S32x129.size a := fun i k0_t3 v423 v598 k0_hw455 k0_h1 => k0_hw455 k0_h1

def k0_chk456 (i : grid0.Coords) (k0_t3 : Fin k0_t3_loop.trips) (v428 : IVec S16 32) (v595 : IVec S16 32) (v596 : IVec S16 32) : Prop :=
  (∀ (k0_h1 : k0_cond1 i k0_t3 = 1#1), ∀ a x, ((![v595, v596, v428] : Fin 3 → IVec S16 32) a x).toNat < S8x8x1024.size a)
theorem k0_idx454_inb : ∀ (i : grid0.Coords) (k0_t3 : Fin k0_t3_loop.trips) (v428 : IVec S16 32) (v595 : IVec S16 32) (v596 : IVec S16 32) (k0_hw456 : k0_chk456 i k0_t3 v428 v595 v596), ∀ (k0_h1 : k0_cond1 i k0_t3 = 1#1), ∀ a x, ((![v595, v596, v428] : Fin 3 → IVec S16 32) a x).toNat < S8x8x1024.size a := fun i k0_t3 v428 v595 v596 k0_hw456 k0_h1 => k0_hw456 k0_h1

def k0_chk457 (i : grid0.Coords) (k0_t3 : Fin k0_t3_loop.trips) (v423 : IVec S16 32) (v603 : IVec S16 32) : Prop :=
  (∀ (k0_h1 : k0_cond1 i k0_t3 = 1#1), ∀ a x, ((![v423, v603] : Fin 2 → IVec S16 32) a x).toNat < S32x129.size a)
theorem k0_idx455_inb : ∀ (i : grid0.Coords) (k0_t3 : Fin k0_t3_loop.trips) (v423 : IVec S16 32) (v603 : IVec S16 32) (k0_hw457 : k0_chk457 i k0_t3 v423 v603), ∀ (k0_h1 : k0_cond1 i k0_t3 = 1#1), ∀ a x, ((![v423, v603] : Fin 2 → IVec S16 32) a x).toNat < S32x129.size a := fun i k0_t3 v423 v603 k0_hw457 k0_h1 => k0_hw457 k0_h1

def k0_chk458 (i : grid0.Coords) (k0_t3 : Fin k0_t3_loop.trips) (v428 : IVec S16 32) (v600 : IVec S16 32) (v601 : IVec S16 32) : Prop :=
  (∀ (k0_h1 : k0_cond1 i k0_t3 = 1#1), ∀ a x, ((![v600, v601, v428] : Fin 3 → IVec S16 32) a x).toNat < S8x8x1024.size a)
theorem k0_idx456_inb : ∀ (i : grid0.Coords) (k0_t3 : Fin k0_t3_loop.trips) (v428 : IVec S16 32) (v600 : IVec S16 32) (v601 : IVec S16 32) (k0_hw458 : k0_chk458 i k0_t3 v428 v600 v601), ∀ (k0_h1 : k0_cond1 i k0_t3 = 1#1), ∀ a x, ((![v600, v601, v428] : Fin 3 → IVec S16 32) a x).toNat < S8x8x1024.size a := fun i k0_t3 v428 v600 v601 k0_hw458 k0_h1 => k0_hw458 k0_h1

def k0_chk459 (i : grid0.Coords) (k0_t3 : Fin k0_t3_loop.trips) (v423 : IVec S16 32) (v608 : IVec S16 32) : Prop :=
  (∀ (k0_h1 : k0_cond1 i k0_t3 = 1#1), ∀ a x, ((![v423, v608] : Fin 2 → IVec S16 32) a x).toNat < S32x129.size a)
theorem k0_idx457_inb : ∀ (i : grid0.Coords) (k0_t3 : Fin k0_t3_loop.trips) (v423 : IVec S16 32) (v608 : IVec S16 32) (k0_hw459 : k0_chk459 i k0_t3 v423 v608), ∀ (k0_h1 : k0_cond1 i k0_t3 = 1#1), ∀ a x, ((![v423, v608] : Fin 2 → IVec S16 32) a x).toNat < S32x129.size a := fun i k0_t3 v423 v608 k0_hw459 k0_h1 => k0_hw459 k0_h1

def k0_chk460 (i : grid0.Coords) (k0_t3 : Fin k0_t3_loop.trips) (v428 : IVec S16 32) (v605 : IVec S16 32) (v606 : IVec S16 32) : Prop :=
  (∀ (k0_h1 : k0_cond1 i k0_t3 = 1#1), ∀ a x, ((![v605, v606, v428] : Fin 3 → IVec S16 32) a x).toNat < S8x8x1024.size a)
theorem k0_idx458_inb : ∀ (i : grid0.Coords) (k0_t3 : Fin k0_t3_loop.trips) (v428 : IVec S16 32) (v605 : IVec S16 32) (v606 : IVec S16 32) (k0_hw460 : k0_chk460 i k0_t3 v428 v605 v606), ∀ (k0_h1 : k0_cond1 i k0_t3 = 1#1), ∀ a x, ((![v605, v606, v428] : Fin 3 → IVec S16 32) a x).toNat < S8x8x1024.size a := fun i k0_t3 v428 v605 v606 k0_hw460 k0_h1 => k0_hw460 k0_h1

def k0_chk461 (i : grid0.Coords) (k0_t3 : Fin k0_t3_loop.trips) (v423 : IVec S16 32) (v613 : IVec S16 32) : Prop :=
  (∀ (k0_h1 : k0_cond1 i k0_t3 = 1#1), ∀ a x, ((![v423, v613] : Fin 2 → IVec S16 32) a x).toNat < S32x129.size a)
theorem k0_idx459_inb : ∀ (i : grid0.Coords) (k0_t3 : Fin k0_t3_loop.trips) (v423 : IVec S16 32) (v613 : IVec S16 32) (k0_hw461 : k0_chk461 i k0_t3 v423 v613), ∀ (k0_h1 : k0_cond1 i k0_t3 = 1#1), ∀ a x, ((![v423, v613] : Fin 2 → IVec S16 32) a x).toNat < S32x129.size a := fun i k0_t3 v423 v613 k0_hw461 k0_h1 => k0_hw461 k0_h1

def k0_chk462 (i : grid0.Coords) (k0_t3 : Fin k0_t3_loop.trips) (v428 : IVec S16 32) (v610 : IVec S16 32) (v611 : IVec S16 32) : Prop :=
  (∀ (k0_h1 : k0_cond1 i k0_t3 = 1#1), ∀ a x, ((![v610, v611, v428] : Fin 3 → IVec S16 32) a x).toNat < S8x8x1024.size a)
theorem k0_idx460_inb : ∀ (i : grid0.Coords) (k0_t3 : Fin k0_t3_loop.trips) (v428 : IVec S16 32) (v610 : IVec S16 32) (v611 : IVec S16 32) (k0_hw462 : k0_chk462 i k0_t3 v428 v610 v611), ∀ (k0_h1 : k0_cond1 i k0_t3 = 1#1), ∀ a x, ((![v610, v611, v428] : Fin 3 → IVec S16 32) a x).toNat < S8x8x1024.size a := fun i k0_t3 v428 v610 v611 k0_hw462 k0_h1 => k0_hw462 k0_h1

def k0_chk463 (i : grid0.Coords) (k0_t3 : Fin k0_t3_loop.trips) (v423 : IVec S16 32) (v618 : IVec S16 32) : Prop :=
  (∀ (k0_h1 : k0_cond1 i k0_t3 = 1#1), ∀ a x, ((![v423, v618] : Fin 2 → IVec S16 32) a x).toNat < S32x129.size a)
theorem k0_idx461_inb : ∀ (i : grid0.Coords) (k0_t3 : Fin k0_t3_loop.trips) (v423 : IVec S16 32) (v618 : IVec S16 32) (k0_hw463 : k0_chk463 i k0_t3 v423 v618), ∀ (k0_h1 : k0_cond1 i k0_t3 = 1#1), ∀ a x, ((![v423, v618] : Fin 2 → IVec S16 32) a x).toNat < S32x129.size a := fun i k0_t3 v423 v618 k0_hw463 k0_h1 => k0_hw463 k0_h1

def k0_chk464 (i : grid0.Coords) (k0_t3 : Fin k0_t3_loop.trips) (v428 : IVec S16 32) (v615 : IVec S16 32) (v616 : IVec S16 32) : Prop :=
  (∀ (k0_h1 : k0_cond1 i k0_t3 = 1#1), ∀ a x, ((![v615, v616, v428] : Fin 3 → IVec S16 32) a x).toNat < S8x8x1024.size a)
theorem k0_idx462_inb : ∀ (i : grid0.Coords) (k0_t3 : Fin k0_t3_loop.trips) (v428 : IVec S16 32) (v615 : IVec S16 32) (v616 : IVec S16 32) (k0_hw464 : k0_chk464 i k0_t3 v428 v615 v616), ∀ (k0_h1 : k0_cond1 i k0_t3 = 1#1), ∀ a x, ((![v615, v616, v428] : Fin 3 → IVec S16 32) a x).toNat < S8x8x1024.size a := fun i k0_t3 v428 v615 v616 k0_hw464 k0_h1 => k0_hw464 k0_h1

def k0_chk465 (i : grid0.Coords) (k0_t3 : Fin k0_t3_loop.trips) (v423 : IVec S16 32) (v623 : IVec S16 32) : Prop :=
  (∀ (k0_h1 : k0_cond1 i k0_t3 = 1#1), ∀ a x, ((![v423, v623] : Fin 2 → IVec S16 32) a x).toNat < S32x129.size a)
theorem k0_idx463_inb : ∀ (i : grid0.Coords) (k0_t3 : Fin k0_t3_loop.trips) (v423 : IVec S16 32) (v623 : IVec S16 32) (k0_hw465 : k0_chk465 i k0_t3 v423 v623), ∀ (k0_h1 : k0_cond1 i k0_t3 = 1#1), ∀ a x, ((![v423, v623] : Fin 2 → IVec S16 32) a x).toNat < S32x129.size a := fun i k0_t3 v423 v623 k0_hw465 k0_h1 => k0_hw465 k0_h1

def k0_chk466 (i : grid0.Coords) (k0_t3 : Fin k0_t3_loop.trips) (v428 : IVec S16 32) (v620 : IVec S16 32) (v621 : IVec S16 32) : Prop :=
  (∀ (k0_h1 : k0_cond1 i k0_t3 = 1#1), ∀ a x, ((![v620, v621, v428] : Fin 3 → IVec S16 32) a x).toNat < S8x8x1024.size a)
theorem k0_idx464_inb : ∀ (i : grid0.Coords) (k0_t3 : Fin k0_t3_loop.trips) (v428 : IVec S16 32) (v620 : IVec S16 32) (v621 : IVec S16 32) (k0_hw466 : k0_chk466 i k0_t3 v428 v620 v621), ∀ (k0_h1 : k0_cond1 i k0_t3 = 1#1), ∀ a x, ((![v620, v621, v428] : Fin 3 → IVec S16 32) a x).toNat < S8x8x1024.size a := fun i k0_t3 v428 v620 v621 k0_hw466 k0_h1 => k0_hw466 k0_h1

def k0_chk467 (i : grid0.Coords) (k0_t3 : Fin k0_t3_loop.trips) (v423 : IVec S16 32) (v628 : IVec S16 32) : Prop :=
  (∀ (k0_h1 : k0_cond1 i k0_t3 = 1#1), ∀ a x, ((![v423, v628] : Fin 2 → IVec S16 32) a x).toNat < S32x129.size a)
theorem k0_idx465_inb : ∀ (i : grid0.Coords) (k0_t3 : Fin k0_t3_loop.trips) (v423 : IVec S16 32) (v628 : IVec S16 32) (k0_hw467 : k0_chk467 i k0_t3 v423 v628), ∀ (k0_h1 : k0_cond1 i k0_t3 = 1#1), ∀ a x, ((![v423, v628] : Fin 2 → IVec S16 32) a x).toNat < S32x129.size a := fun i k0_t3 v423 v628 k0_hw467 k0_h1 => k0_hw467 k0_h1

def k0_chk468 (i : grid0.Coords) (k0_t3 : Fin k0_t3_loop.trips) (v428 : IVec S16 32) (v625 : IVec S16 32) (v626 : IVec S16 32) : Prop :=
  (∀ (k0_h1 : k0_cond1 i k0_t3 = 1#1), ∀ a x, ((![v625, v626, v428] : Fin 3 → IVec S16 32) a x).toNat < S8x8x1024.size a)
theorem k0_idx466_inb : ∀ (i : grid0.Coords) (k0_t3 : Fin k0_t3_loop.trips) (v428 : IVec S16 32) (v625 : IVec S16 32) (v626 : IVec S16 32) (k0_hw468 : k0_chk468 i k0_t3 v428 v625 v626), ∀ (k0_h1 : k0_cond1 i k0_t3 = 1#1), ∀ a x, ((![v625, v626, v428] : Fin 3 → IVec S16 32) a x).toNat < S8x8x1024.size a := fun i k0_t3 v428 v625 v626 k0_hw468 k0_h1 => k0_hw468 k0_h1

def k0_chk469 (i : grid0.Coords) (k0_t3 : Fin k0_t3_loop.trips) (v423 : IVec S16 32) (v633 : IVec S16 32) : Prop :=
  (∀ (k0_h1 : k0_cond1 i k0_t3 = 1#1), ∀ a x, ((![v423, v633] : Fin 2 → IVec S16 32) a x).toNat < S32x129.size a)
theorem k0_idx467_inb : ∀ (i : grid0.Coords) (k0_t3 : Fin k0_t3_loop.trips) (v423 : IVec S16 32) (v633 : IVec S16 32) (k0_hw469 : k0_chk469 i k0_t3 v423 v633), ∀ (k0_h1 : k0_cond1 i k0_t3 = 1#1), ∀ a x, ((![v423, v633] : Fin 2 → IVec S16 32) a x).toNat < S32x129.size a := fun i k0_t3 v423 v633 k0_hw469 k0_h1 => k0_hw469 k0_h1

def k0_chk470 (i : grid0.Coords) (k0_t3 : Fin k0_t3_loop.trips) (v428 : IVec S16 32) (v630 : IVec S16 32) (v631 : IVec S16 32) : Prop :=
  (∀ (k0_h1 : k0_cond1 i k0_t3 = 1#1), ∀ a x, ((![v630, v631, v428] : Fin 3 → IVec S16 32) a x).toNat < S8x8x1024.size a)
theorem k0_idx468_inb : ∀ (i : grid0.Coords) (k0_t3 : Fin k0_t3_loop.trips) (v428 : IVec S16 32) (v630 : IVec S16 32) (v631 : IVec S16 32) (k0_hw470 : k0_chk470 i k0_t3 v428 v630 v631), ∀ (k0_h1 : k0_cond1 i k0_t3 = 1#1), ∀ a x, ((![v630, v631, v428] : Fin 3 → IVec S16 32) a x).toNat < S8x8x1024.size a := fun i k0_t3 v428 v630 v631 k0_hw470 k0_h1 => k0_hw470 k0_h1

def k0_chk471 (i : grid0.Coords) (k0_t3 : Fin k0_t3_loop.trips) (v423 : IVec S16 32) (v638 : IVec S16 32) : Prop :=
  (∀ (k0_h1 : k0_cond1 i k0_t3 = 1#1), ∀ a x, ((![v423, v638] : Fin 2 → IVec S16 32) a x).toNat < S32x129.size a)
theorem k0_idx469_inb : ∀ (i : grid0.Coords) (k0_t3 : Fin k0_t3_loop.trips) (v423 : IVec S16 32) (v638 : IVec S16 32) (k0_hw471 : k0_chk471 i k0_t3 v423 v638), ∀ (k0_h1 : k0_cond1 i k0_t3 = 1#1), ∀ a x, ((![v423, v638] : Fin 2 → IVec S16 32) a x).toNat < S32x129.size a := fun i k0_t3 v423 v638 k0_hw471 k0_h1 => k0_hw471 k0_h1

def k0_chk472 (i : grid0.Coords) (k0_t3 : Fin k0_t3_loop.trips) (v428 : IVec S16 32) (v635 : IVec S16 32) (v636 : IVec S16 32) : Prop :=
  (∀ (k0_h1 : k0_cond1 i k0_t3 = 1#1), ∀ a x, ((![v635, v636, v428] : Fin 3 → IVec S16 32) a x).toNat < S8x8x1024.size a)
theorem k0_idx470_inb : ∀ (i : grid0.Coords) (k0_t3 : Fin k0_t3_loop.trips) (v428 : IVec S16 32) (v635 : IVec S16 32) (v636 : IVec S16 32) (k0_hw472 : k0_chk472 i k0_t3 v428 v635 v636), ∀ (k0_h1 : k0_cond1 i k0_t3 = 1#1), ∀ a x, ((![v635, v636, v428] : Fin 3 → IVec S16 32) a x).toNat < S8x8x1024.size a := fun i k0_t3 v428 v635 v636 k0_hw472 k0_h1 => k0_hw472 k0_h1

def k0_chk473 (i : grid0.Coords) (k0_t3 : Fin k0_t3_loop.trips) (v423 : IVec S16 32) (v643 : IVec S16 32) : Prop :=
  (∀ (k0_h1 : k0_cond1 i k0_t3 = 1#1), ∀ a x, ((![v423, v643] : Fin 2 → IVec S16 32) a x).toNat < S32x129.size a)
theorem k0_idx471_inb : ∀ (i : grid0.Coords) (k0_t3 : Fin k0_t3_loop.trips) (v423 : IVec S16 32) (v643 : IVec S16 32) (k0_hw473 : k0_chk473 i k0_t3 v423 v643), ∀ (k0_h1 : k0_cond1 i k0_t3 = 1#1), ∀ a x, ((![v423, v643] : Fin 2 → IVec S16 32) a x).toNat < S32x129.size a := fun i k0_t3 v423 v643 k0_hw473 k0_h1 => k0_hw473 k0_h1

def k0_chk474 (i : grid0.Coords) (k0_t3 : Fin k0_t3_loop.trips) (v428 : IVec S16 32) (v640 : IVec S16 32) (v641 : IVec S16 32) : Prop :=
  (∀ (k0_h1 : k0_cond1 i k0_t3 = 1#1), ∀ a x, ((![v640, v641, v428] : Fin 3 → IVec S16 32) a x).toNat < S8x8x1024.size a)
theorem k0_idx472_inb : ∀ (i : grid0.Coords) (k0_t3 : Fin k0_t3_loop.trips) (v428 : IVec S16 32) (v640 : IVec S16 32) (v641 : IVec S16 32) (k0_hw474 : k0_chk474 i k0_t3 v428 v640 v641), ∀ (k0_h1 : k0_cond1 i k0_t3 = 1#1), ∀ a x, ((![v640, v641, v428] : Fin 3 → IVec S16 32) a x).toNat < S8x8x1024.size a := fun i k0_t3 v428 v640 v641 k0_hw474 k0_h1 => k0_hw474 k0_h1

def k0_chk475 (i : grid0.Coords) (k0_t3 : Fin k0_t3_loop.trips) (v423 : IVec S16 32) (v648 : IVec S16 32) : Prop :=
  (∀ (k0_h1 : k0_cond1 i k0_t3 = 1#1), ∀ a x, ((![v423, v648] : Fin 2 → IVec S16 32) a x).toNat < S32x129.size a)
theorem k0_idx473_inb : ∀ (i : grid0.Coords) (k0_t3 : Fin k0_t3_loop.trips) (v423 : IVec S16 32) (v648 : IVec S16 32) (k0_hw475 : k0_chk475 i k0_t3 v423 v648), ∀ (k0_h1 : k0_cond1 i k0_t3 = 1#1), ∀ a x, ((![v423, v648] : Fin 2 → IVec S16 32) a x).toNat < S32x129.size a := fun i k0_t3 v423 v648 k0_hw475 k0_h1 => k0_hw475 k0_h1

def k0_chk476 (i : grid0.Coords) (k0_t3 : Fin k0_t3_loop.trips) (v428 : IVec S16 32) (v645 : IVec S16 32) (v646 : IVec S16 32) : Prop :=
  (∀ (k0_h1 : k0_cond1 i k0_t3 = 1#1), ∀ a x, ((![v645, v646, v428] : Fin 3 → IVec S16 32) a x).toNat < S8x8x1024.size a)
theorem k0_idx474_inb : ∀ (i : grid0.Coords) (k0_t3 : Fin k0_t3_loop.trips) (v428 : IVec S16 32) (v645 : IVec S16 32) (v646 : IVec S16 32) (k0_hw476 : k0_chk476 i k0_t3 v428 v645 v646), ∀ (k0_h1 : k0_cond1 i k0_t3 = 1#1), ∀ a x, ((![v645, v646, v428] : Fin 3 → IVec S16 32) a x).toNat < S8x8x1024.size a := fun i k0_t3 v428 v645 v646 k0_hw476 k0_h1 => k0_hw476 k0_h1

def k0_chk477 (i : grid0.Coords) (k0_t3 : Fin k0_t3_loop.trips) (v423 : IVec S16 32) (v653 : IVec S16 32) : Prop :=
  (∀ (k0_h1 : k0_cond1 i k0_t3 = 1#1), ∀ a x, ((![v423, v653] : Fin 2 → IVec S16 32) a x).toNat < S32x129.size a)
theorem k0_idx475_inb : ∀ (i : grid0.Coords) (k0_t3 : Fin k0_t3_loop.trips) (v423 : IVec S16 32) (v653 : IVec S16 32) (k0_hw477 : k0_chk477 i k0_t3 v423 v653), ∀ (k0_h1 : k0_cond1 i k0_t3 = 1#1), ∀ a x, ((![v423, v653] : Fin 2 → IVec S16 32) a x).toNat < S32x129.size a := fun i k0_t3 v423 v653 k0_hw477 k0_h1 => k0_hw477 k0_h1

def k0_chk478 (i : grid0.Coords) (k0_t3 : Fin k0_t3_loop.trips) (v428 : IVec S16 32) (v650 : IVec S16 32) (v651 : IVec S16 32) : Prop :=
  (∀ (k0_h1 : k0_cond1 i k0_t3 = 1#1), ∀ a x, ((![v650, v651, v428] : Fin 3 → IVec S16 32) a x).toNat < S8x8x1024.size a)
theorem k0_idx476_inb : ∀ (i : grid0.Coords) (k0_t3 : Fin k0_t3_loop.trips) (v428 : IVec S16 32) (v650 : IVec S16 32) (v651 : IVec S16 32) (k0_hw478 : k0_chk478 i k0_t3 v428 v650 v651), ∀ (k0_h1 : k0_cond1 i k0_t3 = 1#1), ∀ a x, ((![v650, v651, v428] : Fin 3 → IVec S16 32) a x).toNat < S8x8x1024.size a := fun i k0_t3 v428 v650 v651 k0_hw478 k0_h1 => k0_hw478 k0_h1

def k0_chk479 (i : grid0.Coords) (k0_t3 : Fin k0_t3_loop.trips) (v423 : IVec S16 32) (v658 : IVec S16 32) : Prop :=
  (∀ (k0_h1 : k0_cond1 i k0_t3 = 1#1), ∀ a x, ((![v423, v658] : Fin 2 → IVec S16 32) a x).toNat < S32x129.size a)
theorem k0_idx477_inb : ∀ (i : grid0.Coords) (k0_t3 : Fin k0_t3_loop.trips) (v423 : IVec S16 32) (v658 : IVec S16 32) (k0_hw479 : k0_chk479 i k0_t3 v423 v658), ∀ (k0_h1 : k0_cond1 i k0_t3 = 1#1), ∀ a x, ((![v423, v658] : Fin 2 → IVec S16 32) a x).toNat < S32x129.size a := fun i k0_t3 v423 v658 k0_hw479 k0_h1 => k0_hw479 k0_h1

def k0_chk480 (i : grid0.Coords) (k0_t3 : Fin k0_t3_loop.trips) (v428 : IVec S16 32) (v655 : IVec S16 32) (v656 : IVec S16 32) : Prop :=
  (∀ (k0_h1 : k0_cond1 i k0_t3 = 1#1), ∀ a x, ((![v655, v656, v428] : Fin 3 → IVec S16 32) a x).toNat < S8x8x1024.size a)
theorem k0_idx478_inb : ∀ (i : grid0.Coords) (k0_t3 : Fin k0_t3_loop.trips) (v428 : IVec S16 32) (v655 : IVec S16 32) (v656 : IVec S16 32) (k0_hw480 : k0_chk480 i k0_t3 v428 v655 v656), ∀ (k0_h1 : k0_cond1 i k0_t3 = 1#1), ∀ a x, ((![v655, v656, v428] : Fin 3 → IVec S16 32) a x).toNat < S8x8x1024.size a := fun i k0_t3 v428 v655 v656 k0_hw480 k0_h1 => k0_hw480 k0_h1

def k0_chk481 (i : grid0.Coords) (k0_t3 : Fin k0_t3_loop.trips) (v423 : IVec S16 32) (v663 : IVec S16 32) : Prop :=
  (∀ (k0_h1 : k0_cond1 i k0_t3 = 1#1), ∀ a x, ((![v423, v663] : Fin 2 → IVec S16 32) a x).toNat < S32x129.size a)
theorem k0_idx479_inb : ∀ (i : grid0.Coords) (k0_t3 : Fin k0_t3_loop.trips) (v423 : IVec S16 32) (v663 : IVec S16 32) (k0_hw481 : k0_chk481 i k0_t3 v423 v663), ∀ (k0_h1 : k0_cond1 i k0_t3 = 1#1), ∀ a x, ((![v423, v663] : Fin 2 → IVec S16 32) a x).toNat < S32x129.size a := fun i k0_t3 v423 v663 k0_hw481 k0_h1 => k0_hw481 k0_h1

def k0_chk482 (i : grid0.Coords) (k0_t3 : Fin k0_t3_loop.trips) (v428 : IVec S16 32) (v660 : IVec S16 32) (v661 : IVec S16 32) : Prop :=
  (∀ (k0_h1 : k0_cond1 i k0_t3 = 1#1), ∀ a x, ((![v660, v661, v428] : Fin 3 → IVec S16 32) a x).toNat < S8x8x1024.size a)
theorem k0_idx480_inb : ∀ (i : grid0.Coords) (k0_t3 : Fin k0_t3_loop.trips) (v428 : IVec S16 32) (v660 : IVec S16 32) (v661 : IVec S16 32) (k0_hw482 : k0_chk482 i k0_t3 v428 v660 v661), ∀ (k0_h1 : k0_cond1 i k0_t3 = 1#1), ∀ a x, ((![v660, v661, v428] : Fin 3 → IVec S16 32) a x).toNat < S8x8x1024.size a := fun i k0_t3 v428 v660 v661 k0_hw482 k0_h1 => k0_hw482 k0_h1

def k0_chk483 (i : grid0.Coords) (k0_t3 : Fin k0_t3_loop.trips) (v423 : IVec S16 32) (v668 : IVec S16 32) : Prop :=
  (∀ (k0_h1 : k0_cond1 i k0_t3 = 1#1), ∀ a x, ((![v423, v668] : Fin 2 → IVec S16 32) a x).toNat < S32x129.size a)
theorem k0_idx481_inb : ∀ (i : grid0.Coords) (k0_t3 : Fin k0_t3_loop.trips) (v423 : IVec S16 32) (v668 : IVec S16 32) (k0_hw483 : k0_chk483 i k0_t3 v423 v668), ∀ (k0_h1 : k0_cond1 i k0_t3 = 1#1), ∀ a x, ((![v423, v668] : Fin 2 → IVec S16 32) a x).toNat < S32x129.size a := fun i k0_t3 v423 v668 k0_hw483 k0_h1 => k0_hw483 k0_h1

def k0_chk484 (i : grid0.Coords) (k0_t3 : Fin k0_t3_loop.trips) (v428 : IVec S16 32) (v665 : IVec S16 32) (v666 : IVec S16 32) : Prop :=
  (∀ (k0_h1 : k0_cond1 i k0_t3 = 1#1), ∀ a x, ((![v665, v666, v428] : Fin 3 → IVec S16 32) a x).toNat < S8x8x1024.size a)
theorem k0_idx482_inb : ∀ (i : grid0.Coords) (k0_t3 : Fin k0_t3_loop.trips) (v428 : IVec S16 32) (v665 : IVec S16 32) (v666 : IVec S16 32) (k0_hw484 : k0_chk484 i k0_t3 v428 v665 v666), ∀ (k0_h1 : k0_cond1 i k0_t3 = 1#1), ∀ a x, ((![v665, v666, v428] : Fin 3 → IVec S16 32) a x).toNat < S8x8x1024.size a := fun i k0_t3 v428 v665 v666 k0_hw484 k0_h1 => k0_hw484 k0_h1

def k0_chk485 (i : grid0.Coords) (k0_t3 : Fin k0_t3_loop.trips) (v423 : IVec S16 32) (v673 : IVec S16 32) : Prop :=
  (∀ (k0_h1 : k0_cond1 i k0_t3 = 1#1), ∀ a x, ((![v423, v673] : Fin 2 → IVec S16 32) a x).toNat < S32x129.size a)
theorem k0_idx483_inb : ∀ (i : grid0.Coords) (k0_t3 : Fin k0_t3_loop.trips) (v423 : IVec S16 32) (v673 : IVec S16 32) (k0_hw485 : k0_chk485 i k0_t3 v423 v673), ∀ (k0_h1 : k0_cond1 i k0_t3 = 1#1), ∀ a x, ((![v423, v673] : Fin 2 → IVec S16 32) a x).toNat < S32x129.size a := fun i k0_t3 v423 v673 k0_hw485 k0_h1 => k0_hw485 k0_h1

def k0_chk486 (i : grid0.Coords) (k0_t3 : Fin k0_t3_loop.trips) (v428 : IVec S16 32) (v670 : IVec S16 32) (v671 : IVec S16 32) : Prop :=
  (∀ (k0_h1 : k0_cond1 i k0_t3 = 1#1), ∀ a x, ((![v670, v671, v428] : Fin 3 → IVec S16 32) a x).toNat < S8x8x1024.size a)
theorem k0_idx484_inb : ∀ (i : grid0.Coords) (k0_t3 : Fin k0_t3_loop.trips) (v428 : IVec S16 32) (v670 : IVec S16 32) (v671 : IVec S16 32) (k0_hw486 : k0_chk486 i k0_t3 v428 v670 v671), ∀ (k0_h1 : k0_cond1 i k0_t3 = 1#1), ∀ a x, ((![v670, v671, v428] : Fin 3 → IVec S16 32) a x).toNat < S8x8x1024.size a := fun i k0_t3 v428 v670 v671 k0_hw486 k0_h1 => k0_hw486 k0_h1

def k0_chk487 (i : grid0.Coords) (k0_t3 : Fin k0_t3_loop.trips) (v423 : IVec S16 32) (v678 : IVec S16 32) : Prop :=
  (∀ (k0_h1 : k0_cond1 i k0_t3 = 1#1), ∀ a x, ((![v423, v678] : Fin 2 → IVec S16 32) a x).toNat < S32x129.size a)
theorem k0_idx485_inb : ∀ (i : grid0.Coords) (k0_t3 : Fin k0_t3_loop.trips) (v423 : IVec S16 32) (v678 : IVec S16 32) (k0_hw487 : k0_chk487 i k0_t3 v423 v678), ∀ (k0_h1 : k0_cond1 i k0_t3 = 1#1), ∀ a x, ((![v423, v678] : Fin 2 → IVec S16 32) a x).toNat < S32x129.size a := fun i k0_t3 v423 v678 k0_hw487 k0_h1 => k0_hw487 k0_h1

def k0_chk488 (i : grid0.Coords) (k0_t3 : Fin k0_t3_loop.trips) (v428 : IVec S16 32) (v675 : IVec S16 32) (v676 : IVec S16 32) : Prop :=
  (∀ (k0_h1 : k0_cond1 i k0_t3 = 1#1), ∀ a x, ((![v675, v676, v428] : Fin 3 → IVec S16 32) a x).toNat < S8x8x1024.size a)
theorem k0_idx486_inb : ∀ (i : grid0.Coords) (k0_t3 : Fin k0_t3_loop.trips) (v428 : IVec S16 32) (v675 : IVec S16 32) (v676 : IVec S16 32) (k0_hw488 : k0_chk488 i k0_t3 v428 v675 v676), ∀ (k0_h1 : k0_cond1 i k0_t3 = 1#1), ∀ a x, ((![v675, v676, v428] : Fin 3 → IVec S16 32) a x).toNat < S8x8x1024.size a := fun i k0_t3 v428 v675 v676 k0_hw488 k0_h1 => k0_hw488 k0_h1

def k0_chk489 (i : grid0.Coords) (k0_t3 : Fin k0_t3_loop.trips) (v423 : IVec S16 32) (v683 : IVec S16 32) : Prop :=
  (∀ (k0_h1 : k0_cond1 i k0_t3 = 1#1), ∀ a x, ((![v423, v683] : Fin 2 → IVec S16 32) a x).toNat < S32x129.size a)
theorem k0_idx487_inb : ∀ (i : grid0.Coords) (k0_t3 : Fin k0_t3_loop.trips) (v423 : IVec S16 32) (v683 : IVec S16 32) (k0_hw489 : k0_chk489 i k0_t3 v423 v683), ∀ (k0_h1 : k0_cond1 i k0_t3 = 1#1), ∀ a x, ((![v423, v683] : Fin 2 → IVec S16 32) a x).toNat < S32x129.size a := fun i k0_t3 v423 v683 k0_hw489 k0_h1 => k0_hw489 k0_h1

def k0_chk490 (i : grid0.Coords) (k0_t3 : Fin k0_t3_loop.trips) (v428 : IVec S16 32) (v680 : IVec S16 32) (v681 : IVec S16 32) : Prop :=
  (∀ (k0_h1 : k0_cond1 i k0_t3 = 1#1), ∀ a x, ((![v680, v681, v428] : Fin 3 → IVec S16 32) a x).toNat < S8x8x1024.size a)
theorem k0_idx488_inb : ∀ (i : grid0.Coords) (k0_t3 : Fin k0_t3_loop.trips) (v428 : IVec S16 32) (v680 : IVec S16 32) (v681 : IVec S16 32) (k0_hw490 : k0_chk490 i k0_t3 v428 v680 v681), ∀ (k0_h1 : k0_cond1 i k0_t3 = 1#1), ∀ a x, ((![v680, v681, v428] : Fin 3 → IVec S16 32) a x).toNat < S8x8x1024.size a := fun i k0_t3 v428 v680 v681 k0_hw490 k0_h1 => k0_hw490 k0_h1

def k0_chk491 (i : grid0.Coords) (k0_t3 : Fin k0_t3_loop.trips) (v423 : IVec S16 32) (v688 : IVec S16 32) : Prop :=
  (∀ (k0_h1 : k0_cond1 i k0_t3 = 1#1), ∀ a x, ((![v423, v688] : Fin 2 → IVec S16 32) a x).toNat < S32x129.size a)
theorem k0_idx489_inb : ∀ (i : grid0.Coords) (k0_t3 : Fin k0_t3_loop.trips) (v423 : IVec S16 32) (v688 : IVec S16 32) (k0_hw491 : k0_chk491 i k0_t3 v423 v688), ∀ (k0_h1 : k0_cond1 i k0_t3 = 1#1), ∀ a x, ((![v423, v688] : Fin 2 → IVec S16 32) a x).toNat < S32x129.size a := fun i k0_t3 v423 v688 k0_hw491 k0_h1 => k0_hw491 k0_h1

def k0_chk492 (i : grid0.Coords) (k0_t3 : Fin k0_t3_loop.trips) (v428 : IVec S16 32) (v685 : IVec S16 32) (v686 : IVec S16 32) : Prop :=
  (∀ (k0_h1 : k0_cond1 i k0_t3 = 1#1), ∀ a x, ((![v685, v686, v428] : Fin 3 → IVec S16 32) a x).toNat < S8x8x1024.size a)
theorem k0_idx490_inb : ∀ (i : grid0.Coords) (k0_t3 : Fin k0_t3_loop.trips) (v428 : IVec S16 32) (v685 : IVec S16 32) (v686 : IVec S16 32) (k0_hw492 : k0_chk492 i k0_t3 v428 v685 v686), ∀ (k0_h1 : k0_cond1 i k0_t3 = 1#1), ∀ a x, ((![v685, v686, v428] : Fin 3 → IVec S16 32) a x).toNat < S8x8x1024.size a := fun i k0_t3 v428 v685 v686 k0_hw492 k0_h1 => k0_hw492 k0_h1

def k0_chk493 (i : grid0.Coords) (k0_t3 : Fin k0_t3_loop.trips) (v423 : IVec S16 32) (v693 : IVec S16 32) : Prop :=
  (∀ (k0_h1 : k0_cond1 i k0_t3 = 1#1), ∀ a x, ((![v423, v693] : Fin 2 → IVec S16 32) a x).toNat < S32x129.size a)
theorem k0_idx491_inb : ∀ (i : grid0.Coords) (k0_t3 : Fin k0_t3_loop.trips) (v423 : IVec S16 32) (v693 : IVec S16 32) (k0_hw493 : k0_chk493 i k0_t3 v423 v693), ∀ (k0_h1 : k0_cond1 i k0_t3 = 1#1), ∀ a x, ((![v423, v693] : Fin 2 → IVec S16 32) a x).toNat < S32x129.size a := fun i k0_t3 v423 v693 k0_hw493 k0_h1 => k0_hw493 k0_h1

def k0_chk494 (i : grid0.Coords) (k0_t3 : Fin k0_t3_loop.trips) (v428 : IVec S16 32) (v690 : IVec S16 32) (v691 : IVec S16 32) : Prop :=
  (∀ (k0_h1 : k0_cond1 i k0_t3 = 1#1), ∀ a x, ((![v690, v691, v428] : Fin 3 → IVec S16 32) a x).toNat < S8x8x1024.size a)
theorem k0_idx492_inb : ∀ (i : grid0.Coords) (k0_t3 : Fin k0_t3_loop.trips) (v428 : IVec S16 32) (v690 : IVec S16 32) (v691 : IVec S16 32) (k0_hw494 : k0_chk494 i k0_t3 v428 v690 v691), ∀ (k0_h1 : k0_cond1 i k0_t3 = 1#1), ∀ a x, ((![v690, v691, v428] : Fin 3 → IVec S16 32) a x).toNat < S8x8x1024.size a := fun i k0_t3 v428 v690 v691 k0_hw494 k0_h1 => k0_hw494 k0_h1

def k0_chk495 (i : grid0.Coords) (k0_t3 : Fin k0_t3_loop.trips) (v423 : IVec S16 32) (v698 : IVec S16 32) : Prop :=
  (∀ (k0_h1 : k0_cond1 i k0_t3 = 1#1), ∀ a x, ((![v423, v698] : Fin 2 → IVec S16 32) a x).toNat < S32x129.size a)
theorem k0_idx493_inb : ∀ (i : grid0.Coords) (k0_t3 : Fin k0_t3_loop.trips) (v423 : IVec S16 32) (v698 : IVec S16 32) (k0_hw495 : k0_chk495 i k0_t3 v423 v698), ∀ (k0_h1 : k0_cond1 i k0_t3 = 1#1), ∀ a x, ((![v423, v698] : Fin 2 → IVec S16 32) a x).toNat < S32x129.size a := fun i k0_t3 v423 v698 k0_hw495 k0_h1 => k0_hw495 k0_h1

def k0_chk496 (i : grid0.Coords) (k0_t3 : Fin k0_t3_loop.trips) (v428 : IVec S16 32) (v695 : IVec S16 32) (v696 : IVec S16 32) : Prop :=
  (∀ (k0_h1 : k0_cond1 i k0_t3 = 1#1), ∀ a x, ((![v695, v696, v428] : Fin 3 → IVec S16 32) a x).toNat < S8x8x1024.size a)
theorem k0_idx494_inb : ∀ (i : grid0.Coords) (k0_t3 : Fin k0_t3_loop.trips) (v428 : IVec S16 32) (v695 : IVec S16 32) (v696 : IVec S16 32) (k0_hw496 : k0_chk496 i k0_t3 v428 v695 v696), ∀ (k0_h1 : k0_cond1 i k0_t3 = 1#1), ∀ a x, ((![v695, v696, v428] : Fin 3 → IVec S16 32) a x).toNat < S8x8x1024.size a := fun i k0_t3 v428 v695 v696 k0_hw496 k0_h1 => k0_hw496 k0_h1

def k0_chk497 (i : grid0.Coords) (k0_t3 : Fin k0_t3_loop.trips) (v423 : IVec S16 32) (v703 : IVec S16 32) : Prop :=
  (∀ (k0_h1 : k0_cond1 i k0_t3 = 1#1), ∀ a x, ((![v423, v703] : Fin 2 → IVec S16 32) a x).toNat < S32x129.size a)
theorem k0_idx495_inb : ∀ (i : grid0.Coords) (k0_t3 : Fin k0_t3_loop.trips) (v423 : IVec S16 32) (v703 : IVec S16 32) (k0_hw497 : k0_chk497 i k0_t3 v423 v703), ∀ (k0_h1 : k0_cond1 i k0_t3 = 1#1), ∀ a x, ((![v423, v703] : Fin 2 → IVec S16 32) a x).toNat < S32x129.size a := fun i k0_t3 v423 v703 k0_hw497 k0_h1 => k0_hw497 k0_h1

def k0_chk498 (i : grid0.Coords) (k0_t3 : Fin k0_t3_loop.trips) (v428 : IVec S16 32) (v700 : IVec S16 32) (v701 : IVec S16 32) : Prop :=
  (∀ (k0_h1 : k0_cond1 i k0_t3 = 1#1), ∀ a x, ((![v700, v701, v428] : Fin 3 → IVec S16 32) a x).toNat < S8x8x1024.size a)
theorem k0_idx496_inb : ∀ (i : grid0.Coords) (k0_t3 : Fin k0_t3_loop.trips) (v428 : IVec S16 32) (v700 : IVec S16 32) (v701 : IVec S16 32) (k0_hw498 : k0_chk498 i k0_t3 v428 v700 v701), ∀ (k0_h1 : k0_cond1 i k0_t3 = 1#1), ∀ a x, ((![v700, v701, v428] : Fin 3 → IVec S16 32) a x).toNat < S8x8x1024.size a := fun i k0_t3 v428 v700 v701 k0_hw498 k0_h1 => k0_hw498 k0_h1

def k0_chk499 (i : grid0.Coords) (k0_t3 : Fin k0_t3_loop.trips) (v423 : IVec S16 32) (v708 : IVec S16 32) : Prop :=
  (∀ (k0_h1 : k0_cond1 i k0_t3 = 1#1), ∀ a x, ((![v423, v708] : Fin 2 → IVec S16 32) a x).toNat < S32x129.size a)
theorem k0_idx497_inb : ∀ (i : grid0.Coords) (k0_t3 : Fin k0_t3_loop.trips) (v423 : IVec S16 32) (v708 : IVec S16 32) (k0_hw499 : k0_chk499 i k0_t3 v423 v708), ∀ (k0_h1 : k0_cond1 i k0_t3 = 1#1), ∀ a x, ((![v423, v708] : Fin 2 → IVec S16 32) a x).toNat < S32x129.size a := fun i k0_t3 v423 v708 k0_hw499 k0_h1 => k0_hw499 k0_h1

def k0_chk500 (i : grid0.Coords) (k0_t3 : Fin k0_t3_loop.trips) (v428 : IVec S16 32) (v705 : IVec S16 32) (v706 : IVec S16 32) : Prop :=
  (∀ (k0_h1 : k0_cond1 i k0_t3 = 1#1), ∀ a x, ((![v705, v706, v428] : Fin 3 → IVec S16 32) a x).toNat < S8x8x1024.size a)
theorem k0_idx498_inb : ∀ (i : grid0.Coords) (k0_t3 : Fin k0_t3_loop.trips) (v428 : IVec S16 32) (v705 : IVec S16 32) (v706 : IVec S16 32) (k0_hw500 : k0_chk500 i k0_t3 v428 v705 v706), ∀ (k0_h1 : k0_cond1 i k0_t3 = 1#1), ∀ a x, ((![v705, v706, v428] : Fin 3 → IVec S16 32) a x).toNat < S8x8x1024.size a := fun i k0_t3 v428 v705 v706 k0_hw500 k0_h1 => k0_hw500 k0_h1

def k0_chk501 (i : grid0.Coords) (k0_t3 : Fin k0_t3_loop.trips) (v423 : IVec S16 32) (v713 : IVec S16 32) : Prop :=
  (∀ (k0_h1 : k0_cond1 i k0_t3 = 1#1), ∀ a x, ((![v423, v713] : Fin 2 → IVec S16 32) a x).toNat < S32x129.size a)
theorem k0_idx499_inb : ∀ (i : grid0.Coords) (k0_t3 : Fin k0_t3_loop.trips) (v423 : IVec S16 32) (v713 : IVec S16 32) (k0_hw501 : k0_chk501 i k0_t3 v423 v713), ∀ (k0_h1 : k0_cond1 i k0_t3 = 1#1), ∀ a x, ((![v423, v713] : Fin 2 → IVec S16 32) a x).toNat < S32x129.size a := fun i k0_t3 v423 v713 k0_hw501 k0_h1 => k0_hw501 k0_h1

def k0_chk502 (i : grid0.Coords) (k0_t3 : Fin k0_t3_loop.trips) (v428 : IVec S16 32) (v710 : IVec S16 32) (v711 : IVec S16 32) : Prop :=
  (∀ (k0_h1 : k0_cond1 i k0_t3 = 1#1), ∀ a x, ((![v710, v711, v428] : Fin 3 → IVec S16 32) a x).toNat < S8x8x1024.size a)
theorem k0_idx500_inb : ∀ (i : grid0.Coords) (k0_t3 : Fin k0_t3_loop.trips) (v428 : IVec S16 32) (v710 : IVec S16 32) (v711 : IVec S16 32) (k0_hw502 : k0_chk502 i k0_t3 v428 v710 v711), ∀ (k0_h1 : k0_cond1 i k0_t3 = 1#1), ∀ a x, ((![v710, v711, v428] : Fin 3 → IVec S16 32) a x).toNat < S8x8x1024.size a := fun i k0_t3 v428 v710 v711 k0_hw502 k0_h1 => k0_hw502 k0_h1

def k0_chk503 (i : grid0.Coords) (k0_t3 : Fin k0_t3_loop.trips) (v423 : IVec S16 32) (v718 : IVec S16 32) : Prop :=
  (∀ (k0_h1 : k0_cond1 i k0_t3 = 1#1), ∀ a x, ((![v423, v718] : Fin 2 → IVec S16 32) a x).toNat < S32x129.size a)
theorem k0_idx501_inb : ∀ (i : grid0.Coords) (k0_t3 : Fin k0_t3_loop.trips) (v423 : IVec S16 32) (v718 : IVec S16 32) (k0_hw503 : k0_chk503 i k0_t3 v423 v718), ∀ (k0_h1 : k0_cond1 i k0_t3 = 1#1), ∀ a x, ((![v423, v718] : Fin 2 → IVec S16 32) a x).toNat < S32x129.size a := fun i k0_t3 v423 v718 k0_hw503 k0_h1 => k0_hw503 k0_h1

def k0_chk504 (i : grid0.Coords) (k0_t3 : Fin k0_t3_loop.trips) (v428 : IVec S16 32) (v715 : IVec S16 32) (v716 : IVec S16 32) : Prop :=
  (∀ (k0_h1 : k0_cond1 i k0_t3 = 1#1), ∀ a x, ((![v715, v716, v428] : Fin 3 → IVec S16 32) a x).toNat < S8x8x1024.size a)
theorem k0_idx502_inb : ∀ (i : grid0.Coords) (k0_t3 : Fin k0_t3_loop.trips) (v428 : IVec S16 32) (v715 : IVec S16 32) (v716 : IVec S16 32) (k0_hw504 : k0_chk504 i k0_t3 v428 v715 v716), ∀ (k0_h1 : k0_cond1 i k0_t3 = 1#1), ∀ a x, ((![v715, v716, v428] : Fin 3 → IVec S16 32) a x).toNat < S8x8x1024.size a := fun i k0_t3 v428 v715 v716 k0_hw504 k0_h1 => k0_hw504 k0_h1

def k0_chk505 (i : grid0.Coords) (k0_t3 : Fin k0_t3_loop.trips) (v423 : IVec S16 32) (v723 : IVec S16 32) : Prop :=
  (∀ (k0_h1 : k0_cond1 i k0_t3 = 1#1), ∀ a x, ((![v423, v723] : Fin 2 → IVec S16 32) a x).toNat < S32x129.size a)
theorem k0_idx503_inb : ∀ (i : grid0.Coords) (k0_t3 : Fin k0_t3_loop.trips) (v423 : IVec S16 32) (v723 : IVec S16 32) (k0_hw505 : k0_chk505 i k0_t3 v423 v723), ∀ (k0_h1 : k0_cond1 i k0_t3 = 1#1), ∀ a x, ((![v423, v723] : Fin 2 → IVec S16 32) a x).toNat < S32x129.size a := fun i k0_t3 v423 v723 k0_hw505 k0_h1 => k0_hw505 k0_h1

def k0_chk506 (i : grid0.Coords) (k0_t3 : Fin k0_t3_loop.trips) (v428 : IVec S16 32) (v720 : IVec S16 32) (v721 : IVec S16 32) : Prop :=
  (∀ (k0_h1 : k0_cond1 i k0_t3 = 1#1), ∀ a x, ((![v720, v721, v428] : Fin 3 → IVec S16 32) a x).toNat < S8x8x1024.size a)
theorem k0_idx504_inb : ∀ (i : grid0.Coords) (k0_t3 : Fin k0_t3_loop.trips) (v428 : IVec S16 32) (v720 : IVec S16 32) (v721 : IVec S16 32) (k0_hw506 : k0_chk506 i k0_t3 v428 v720 v721), ∀ (k0_h1 : k0_cond1 i k0_t3 = 1#1), ∀ a x, ((![v720, v721, v428] : Fin 3 → IVec S16 32) a x).toNat < S8x8x1024.size a := fun i k0_t3 v428 v720 v721 k0_hw506 k0_h1 => k0_hw506 k0_h1

def k0_chk507 (i : grid0.Coords) (k0_t3 : Fin k0_t3_loop.trips) (v423 : IVec S16 32) (v728 : IVec S16 32) : Prop :=
  (∀ (k0_h1 : k0_cond1 i k0_t3 = 1#1), ∀ a x, ((![v423, v728] : Fin 2 → IVec S16 32) a x).toNat < S32x129.size a)
theorem k0_idx505_inb : ∀ (i : grid0.Coords) (k0_t3 : Fin k0_t3_loop.trips) (v423 : IVec S16 32) (v728 : IVec S16 32) (k0_hw507 : k0_chk507 i k0_t3 v423 v728), ∀ (k0_h1 : k0_cond1 i k0_t3 = 1#1), ∀ a x, ((![v423, v728] : Fin 2 → IVec S16 32) a x).toNat < S32x129.size a := fun i k0_t3 v423 v728 k0_hw507 k0_h1 => k0_hw507 k0_h1

def k0_chk508 (i : grid0.Coords) (k0_t3 : Fin k0_t3_loop.trips) (v428 : IVec S16 32) (v725 : IVec S16 32) (v726 : IVec S16 32) : Prop :=
  (∀ (k0_h1 : k0_cond1 i k0_t3 = 1#1), ∀ a x, ((![v725, v726, v428] : Fin 3 → IVec S16 32) a x).toNat < S8x8x1024.size a)
theorem k0_idx506_inb : ∀ (i : grid0.Coords) (k0_t3 : Fin k0_t3_loop.trips) (v428 : IVec S16 32) (v725 : IVec S16 32) (v726 : IVec S16 32) (k0_hw508 : k0_chk508 i k0_t3 v428 v725 v726), ∀ (k0_h1 : k0_cond1 i k0_t3 = 1#1), ∀ a x, ((![v725, v726, v428] : Fin 3 → IVec S16 32) a x).toNat < S8x8x1024.size a := fun i k0_t3 v428 v725 v726 k0_hw508 k0_h1 => k0_hw508 k0_h1

def k0_chk509 (i : grid0.Coords) (k0_t3 : Fin k0_t3_loop.trips) (v423 : IVec S16 32) (v733 : IVec S16 32) : Prop :=
  (∀ (k0_h1 : k0_cond1 i k0_t3 = 1#1), ∀ a x, ((![v423, v733] : Fin 2 → IVec S16 32) a x).toNat < S32x129.size a)
theorem k0_idx507_inb : ∀ (i : grid0.Coords) (k0_t3 : Fin k0_t3_loop.trips) (v423 : IVec S16 32) (v733 : IVec S16 32) (k0_hw509 : k0_chk509 i k0_t3 v423 v733), ∀ (k0_h1 : k0_cond1 i k0_t3 = 1#1), ∀ a x, ((![v423, v733] : Fin 2 → IVec S16 32) a x).toNat < S32x129.size a := fun i k0_t3 v423 v733 k0_hw509 k0_h1 => k0_hw509 k0_h1

def k0_chk510 (i : grid0.Coords) (k0_t3 : Fin k0_t3_loop.trips) (v428 : IVec S16 32) (v730 : IVec S16 32) (v731 : IVec S16 32) : Prop :=
  (∀ (k0_h1 : k0_cond1 i k0_t3 = 1#1), ∀ a x, ((![v730, v731, v428] : Fin 3 → IVec S16 32) a x).toNat < S8x8x1024.size a)
theorem k0_idx508_inb : ∀ (i : grid0.Coords) (k0_t3 : Fin k0_t3_loop.trips) (v428 : IVec S16 32) (v730 : IVec S16 32) (v731 : IVec S16 32) (k0_hw510 : k0_chk510 i k0_t3 v428 v730 v731), ∀ (k0_h1 : k0_cond1 i k0_t3 = 1#1), ∀ a x, ((![v730, v731, v428] : Fin 3 → IVec S16 32) a x).toNat < S8x8x1024.size a := fun i k0_t3 v428 v730 v731 k0_hw510 k0_h1 => k0_hw510 k0_h1

def k0_chk511 (i : grid0.Coords) (k0_t3 : Fin k0_t3_loop.trips) (v423 : IVec S16 32) (v738 : IVec S16 32) : Prop :=
  (∀ (k0_h1 : k0_cond1 i k0_t3 = 1#1), ∀ a x, ((![v423, v738] : Fin 2 → IVec S16 32) a x).toNat < S32x129.size a)
theorem k0_idx509_inb : ∀ (i : grid0.Coords) (k0_t3 : Fin k0_t3_loop.trips) (v423 : IVec S16 32) (v738 : IVec S16 32) (k0_hw511 : k0_chk511 i k0_t3 v423 v738), ∀ (k0_h1 : k0_cond1 i k0_t3 = 1#1), ∀ a x, ((![v423, v738] : Fin 2 → IVec S16 32) a x).toNat < S32x129.size a := fun i k0_t3 v423 v738 k0_hw511 k0_h1 => k0_hw511 k0_h1

def k0_chk512 (i : grid0.Coords) (k0_t3 : Fin k0_t3_loop.trips) (v428 : IVec S16 32) (v735 : IVec S16 32) (v736 : IVec S16 32) : Prop :=
  (∀ (k0_h1 : k0_cond1 i k0_t3 = 1#1), ∀ a x, ((![v735, v736, v428] : Fin 3 → IVec S16 32) a x).toNat < S8x8x1024.size a)
theorem k0_idx510_inb : ∀ (i : grid0.Coords) (k0_t3 : Fin k0_t3_loop.trips) (v428 : IVec S16 32) (v735 : IVec S16 32) (v736 : IVec S16 32) (k0_hw512 : k0_chk512 i k0_t3 v428 v735 v736), ∀ (k0_h1 : k0_cond1 i k0_t3 = 1#1), ∀ a x, ((![v735, v736, v428] : Fin 3 → IVec S16 32) a x).toNat < S8x8x1024.size a := fun i k0_t3 v428 v735 v736 k0_hw512 k0_h1 => k0_hw512 k0_h1

def k0_chk513 (i : grid0.Coords) (k0_t3 : Fin k0_t3_loop.trips) (v423 : IVec S16 32) (v743 : IVec S16 32) : Prop :=
  (∀ (k0_h1 : k0_cond1 i k0_t3 = 1#1), ∀ a x, ((![v423, v743] : Fin 2 → IVec S16 32) a x).toNat < S32x129.size a)
theorem k0_idx511_inb : ∀ (i : grid0.Coords) (k0_t3 : Fin k0_t3_loop.trips) (v423 : IVec S16 32) (v743 : IVec S16 32) (k0_hw513 : k0_chk513 i k0_t3 v423 v743), ∀ (k0_h1 : k0_cond1 i k0_t3 = 1#1), ∀ a x, ((![v423, v743] : Fin 2 → IVec S16 32) a x).toNat < S32x129.size a := fun i k0_t3 v423 v743 k0_hw513 k0_h1 => k0_hw513 k0_h1

def k0_chk514 (i : grid0.Coords) (k0_t3 : Fin k0_t3_loop.trips) (v428 : IVec S16 32) (v740 : IVec S16 32) (v741 : IVec S16 32) : Prop :=
  (∀ (k0_h1 : k0_cond1 i k0_t3 = 1#1), ∀ a x, ((![v740, v741, v428] : Fin 3 → IVec S16 32) a x).toNat < S8x8x1024.size a)
theorem k0_idx512_inb : ∀ (i : grid0.Coords) (k0_t3 : Fin k0_t3_loop.trips) (v428 : IVec S16 32) (v740 : IVec S16 32) (v741 : IVec S16 32) (k0_hw514 : k0_chk514 i k0_t3 v428 v740 v741), ∀ (k0_h1 : k0_cond1 i k0_t3 = 1#1), ∀ a x, ((![v740, v741, v428] : Fin 3 → IVec S16 32) a x).toNat < S8x8x1024.size a := fun i k0_t3 v428 v740 v741 k0_hw514 k0_h1 => k0_hw514 k0_h1

def k0_chk515 (i : grid0.Coords) (k0_t3 : Fin k0_t3_loop.trips) (v423 : IVec S16 32) (v748 : IVec S16 32) : Prop :=
  (∀ (k0_h1 : k0_cond1 i k0_t3 = 1#1), ∀ a x, ((![v423, v748] : Fin 2 → IVec S16 32) a x).toNat < S32x129.size a)
theorem k0_idx513_inb : ∀ (i : grid0.Coords) (k0_t3 : Fin k0_t3_loop.trips) (v423 : IVec S16 32) (v748 : IVec S16 32) (k0_hw515 : k0_chk515 i k0_t3 v423 v748), ∀ (k0_h1 : k0_cond1 i k0_t3 = 1#1), ∀ a x, ((![v423, v748] : Fin 2 → IVec S16 32) a x).toNat < S32x129.size a := fun i k0_t3 v423 v748 k0_hw515 k0_h1 => k0_hw515 k0_h1

def k0_chk516 (i : grid0.Coords) (k0_t3 : Fin k0_t3_loop.trips) (v428 : IVec S16 32) (v745 : IVec S16 32) (v746 : IVec S16 32) : Prop :=
  (∀ (k0_h1 : k0_cond1 i k0_t3 = 1#1), ∀ a x, ((![v745, v746, v428] : Fin 3 → IVec S16 32) a x).toNat < S8x8x1024.size a)
theorem k0_idx514_inb : ∀ (i : grid0.Coords) (k0_t3 : Fin k0_t3_loop.trips) (v428 : IVec S16 32) (v745 : IVec S16 32) (v746 : IVec S16 32) (k0_hw516 : k0_chk516 i k0_t3 v428 v745 v746), ∀ (k0_h1 : k0_cond1 i k0_t3 = 1#1), ∀ a x, ((![v745, v746, v428] : Fin 3 → IVec S16 32) a x).toNat < S8x8x1024.size a := fun i k0_t3 v428 v745 v746 k0_hw516 k0_h1 => k0_hw516 k0_h1

def k0_chk517 (i : grid0.Coords) (k0_t3 : Fin k0_t3_loop.trips) (v423 : IVec S16 32) (v753 : IVec S16 32) : Prop :=
  (∀ (k0_h1 : k0_cond1 i k0_t3 = 1#1), ∀ a x, ((![v423, v753] : Fin 2 → IVec S16 32) a x).toNat < S32x129.size a)
theorem k0_idx515_inb : ∀ (i : grid0.Coords) (k0_t3 : Fin k0_t3_loop.trips) (v423 : IVec S16 32) (v753 : IVec S16 32) (k0_hw517 : k0_chk517 i k0_t3 v423 v753), ∀ (k0_h1 : k0_cond1 i k0_t3 = 1#1), ∀ a x, ((![v423, v753] : Fin 2 → IVec S16 32) a x).toNat < S32x129.size a := fun i k0_t3 v423 v753 k0_hw517 k0_h1 => k0_hw517 k0_h1

def k0_chk518 (i : grid0.Coords) (k0_t3 : Fin k0_t3_loop.trips) (v428 : IVec S16 32) (v750 : IVec S16 32) (v751 : IVec S16 32) : Prop :=
  (∀ (k0_h1 : k0_cond1 i k0_t3 = 1#1), ∀ a x, ((![v750, v751, v428] : Fin 3 → IVec S16 32) a x).toNat < S8x8x1024.size a)
theorem k0_idx516_inb : ∀ (i : grid0.Coords) (k0_t3 : Fin k0_t3_loop.trips) (v428 : IVec S16 32) (v750 : IVec S16 32) (v751 : IVec S16 32) (k0_hw518 : k0_chk518 i k0_t3 v428 v750 v751), ∀ (k0_h1 : k0_cond1 i k0_t3 = 1#1), ∀ a x, ((![v750, v751, v428] : Fin 3 → IVec S16 32) a x).toNat < S8x8x1024.size a := fun i k0_t3 v428 v750 v751 k0_hw518 k0_h1 => k0_hw518 k0_h1

def k0_chk519 (i : grid0.Coords) (k0_t3 : Fin k0_t3_loop.trips) (v423 : IVec S16 32) (v758 : IVec S16 32) : Prop :=
  (∀ (k0_h1 : k0_cond1 i k0_t3 = 1#1), ∀ a x, ((![v423, v758] : Fin 2 → IVec S16 32) a x).toNat < S32x129.size a)
theorem k0_idx517_inb : ∀ (i : grid0.Coords) (k0_t3 : Fin k0_t3_loop.trips) (v423 : IVec S16 32) (v758 : IVec S16 32) (k0_hw519 : k0_chk519 i k0_t3 v423 v758), ∀ (k0_h1 : k0_cond1 i k0_t3 = 1#1), ∀ a x, ((![v423, v758] : Fin 2 → IVec S16 32) a x).toNat < S32x129.size a := fun i k0_t3 v423 v758 k0_hw519 k0_h1 => k0_hw519 k0_h1

def k0_chk520 (i : grid0.Coords) (k0_t3 : Fin k0_t3_loop.trips) (v428 : IVec S16 32) (v755 : IVec S16 32) (v756 : IVec S16 32) : Prop :=
  (∀ (k0_h1 : k0_cond1 i k0_t3 = 1#1), ∀ a x, ((![v755, v756, v428] : Fin 3 → IVec S16 32) a x).toNat < S8x8x1024.size a)
theorem k0_idx518_inb : ∀ (i : grid0.Coords) (k0_t3 : Fin k0_t3_loop.trips) (v428 : IVec S16 32) (v755 : IVec S16 32) (v756 : IVec S16 32) (k0_hw520 : k0_chk520 i k0_t3 v428 v755 v756), ∀ (k0_h1 : k0_cond1 i k0_t3 = 1#1), ∀ a x, ((![v755, v756, v428] : Fin 3 → IVec S16 32) a x).toNat < S8x8x1024.size a := fun i k0_t3 v428 v755 v756 k0_hw520 k0_h1 => k0_hw520 k0_h1
def k0_cond2 (i : grid0.Coords) (k0_t3 : Fin k0_t3_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_2 : BitVec 32 := 30#32
  let v8 : BitVec 32 := Scalar.muli v1 c30_i32_2
  let c17_i32_3 : BitVec 32 := 17#32
  let v9 : BitVec 32 := Scalar.minsi v1 c17_i32_3
  let v10 : BitVec 32 := Scalar.addi v8 v9
  let c0_i32_10 : BitVec 32 := 0#32
  let c1_i32_12 : BitVec 32 := 1#32
  let arg12 : BitVec 32 := Scf.iv c0_i32_10 c1_i32_12 k0_t3
  let v20 : BitVec 32 := Scalar.addi v10 arg12
  let c976_i32 : BitVec 32 := 976#32
  let v58 : BitVec 1 := Scalar.cmpi .ne v20 c976_i32
  let v59 : BitVec 32 := Scalar.extui v58
  let c0_i32_35 : BitVec 32 := 0#32
  let v60 : BitVec 1 := Scalar.cmpi .ne v59 c0_i32_35
  v60

def k0_off75 (i : grid0.Coords) (k0_t3 : Fin k0_t3_loop.trips) : Fin 2 → Nat :=
  let c0_i32_46 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_2 : BitVec 32 := 30#32
  let v8 : BitVec 32 := Scalar.muli v1 c30_i32_2
  let c17_i32_3 : BitVec 32 := 17#32
  let v9 : BitVec 32 := Scalar.minsi v1 c17_i32_3
  let v10 : BitVec 32 := Scalar.addi v8 v9
  let c0_i32_10 : BitVec 32 := 0#32
  let c1_i32_12 : BitVec 32 := 1#32
  let arg12 : BitVec 32 := Scf.iv c0_i32_10 c1_i32_12 k0_t3
  let v20 : BitVec 32 := Scalar.addi v10 arg12
  let c1024_i32_16 : BitVec 32 := 1024#32
  let v24 : BitVec 32 := Scalar.muli v20 c1024_i32_16
  ![0, v24.toNat]
def k0_off76 (i : grid0.Coords) (k0_t3 : Fin k0_t3_loop.trips) : Fin 2 → Nat :=
  let c8_i32 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_2 : BitVec 32 := 30#32
  let v8 : BitVec 32 := Scalar.muli v1 c30_i32_2
  let c17_i32_3 : BitVec 32 := 17#32
  let v9 : BitVec 32 := Scalar.minsi v1 c17_i32_3
  let v10 : BitVec 32 := Scalar.addi v8 v9
  let c0_i32_10 : BitVec 32 := 0#32
  let c1_i32_12 : BitVec 32 := 1#32
  let arg12 : BitVec 32 := Scf.iv c0_i32_10 c1_i32_12 k0_t3
  let v20 : BitVec 32 := Scalar.addi v10 arg12
  let c1024_i32_16 : BitVec 32 := 1024#32
  let v24 : BitVec 32 := Scalar.muli v20 c1024_i32_16
  ![8, v24.toNat]
def k0_off77 (i : grid0.Coords) (k0_t3 : Fin k0_t3_loop.trips) : Fin 2 → Nat :=
  let c16_i32 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_2 : BitVec 32 := 30#32
  let v8 : BitVec 32 := Scalar.muli v1 c30_i32_2
  let c17_i32_3 : BitVec 32 := 17#32
  let v9 : BitVec 32 := Scalar.minsi v1 c17_i32_3
  let v10 : BitVec 32 := Scalar.addi v8 v9
  let c0_i32_10 : BitVec 32 := 0#32
  let c1_i32_12 : BitVec 32 := 1#32
  let arg12 : BitVec 32 := Scf.iv c0_i32_10 c1_i32_12 k0_t3
  let v20 : BitVec 32 := Scalar.addi v10 arg12
  let c1024_i32_16 : BitVec 32 := 1024#32
  let v24 : BitVec 32 := Scalar.muli v20 c1024_i32_16
  ![16, v24.toNat]
def k0_off78 (i : grid0.Coords) (k0_t3 : Fin k0_t3_loop.trips) : Fin 2 → Nat :=
  let c24_i32 : BitVec 32 := 24#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_2 : BitVec 32 := 30#32
  let v8 : BitVec 32 := Scalar.muli v1 c30_i32_2
  let c17_i32_3 : BitVec 32 := 17#32
  let v9 : BitVec 32 := Scalar.minsi v1 c17_i32_3
  let v10 : BitVec 32 := Scalar.addi v8 v9
  let c0_i32_10 : BitVec 32 := 0#32
  let c1_i32_12 : BitVec 32 := 1#32
  let arg12 : BitVec 32 := Scf.iv c0_i32_10 c1_i32_12 k0_t3
  let v20 : BitVec 32 := Scalar.addi v10 arg12
  let c1024_i32_16 : BitVec 32 := 1024#32
  let v24 : BitVec 32 := Scalar.muli v20 c1024_i32_16
  ![24, v24.toNat]
def k0_off79 (i : grid0.Coords) (k0_t3 : Fin k0_t3_loop.trips) : Fin 2 → Nat :=
  let c32_i32_70 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_2 : BitVec 32 := 30#32
  let v8 : BitVec 32 := Scalar.muli v1 c30_i32_2
  let c17_i32_3 : BitVec 32 := 17#32
  let v9 : BitVec 32 := Scalar.minsi v1 c17_i32_3
  let v10 : BitVec 32 := Scalar.addi v8 v9
  let c0_i32_10 : BitVec 32 := 0#32
  let c1_i32_12 : BitVec 32 := 1#32
  let arg12 : BitVec 32 := Scf.iv c0_i32_10 c1_i32_12 k0_t3
  let v20 : BitVec 32 := Scalar.addi v10 arg12
  let c1024_i32_16 : BitVec 32 := 1024#32
  let v24 : BitVec 32 := Scalar.muli v20 c1024_i32_16
  ![32, v24.toNat]
def k0_off80 (i : grid0.Coords) (k0_t3 : Fin k0_t3_loop.trips) : Fin 2 → Nat :=
  let c40_i32 : BitVec 32 := 40#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_2 : BitVec 32 := 30#32
  let v8 : BitVec 32 := Scalar.muli v1 c30_i32_2
  let c17_i32_3 : BitVec 32 := 17#32
  let v9 : BitVec 32 := Scalar.minsi v1 c17_i32_3
  let v10 : BitVec 32 := Scalar.addi v8 v9
  let c0_i32_10 : BitVec 32 := 0#32
  let c1_i32_12 : BitVec 32 := 1#32
  let arg12 : BitVec 32 := Scf.iv c0_i32_10 c1_i32_12 k0_t3
  let v20 : BitVec 32 := Scalar.addi v10 arg12
  let c1024_i32_16 : BitVec 32 := 1024#32
  let v24 : BitVec 32 := Scalar.muli v20 c1024_i32_16
  ![40, v24.toNat]
def k0_off81 (i : grid0.Coords) (k0_t3 : Fin k0_t3_loop.trips) : Fin 2 → Nat :=
  let c48_i32 : BitVec 32 := 48#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_2 : BitVec 32 := 30#32
  let v8 : BitVec 32 := Scalar.muli v1 c30_i32_2
  let c17_i32_3 : BitVec 32 := 17#32
  let v9 : BitVec 32 := Scalar.minsi v1 c17_i32_3
  let v10 : BitVec 32 := Scalar.addi v8 v9
  let c0_i32_10 : BitVec 32 := 0#32
  let c1_i32_12 : BitVec 32 := 1#32
  let arg12 : BitVec 32 := Scf.iv c0_i32_10 c1_i32_12 k0_t3
  let v20 : BitVec 32 := Scalar.addi v10 arg12
  let c1024_i32_16 : BitVec 32 := 1024#32
  let v24 : BitVec 32 := Scalar.muli v20 c1024_i32_16
  ![48, v24.toNat]
def k0_off82 (i : grid0.Coords) (k0_t3 : Fin k0_t3_loop.trips) : Fin 2 → Nat :=
  let c56_i32 : BitVec 32 := 56#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_2 : BitVec 32 := 30#32
  let v8 : BitVec 32 := Scalar.muli v1 c30_i32_2
  let c17_i32_3 : BitVec 32 := 17#32
  let v9 : BitVec 32 := Scalar.minsi v1 c17_i32_3
  let v10 : BitVec 32 := Scalar.addi v8 v9
  let c0_i32_10 : BitVec 32 := 0#32
  let c1_i32_12 : BitVec 32 := 1#32
  let arg12 : BitVec 32 := Scf.iv c0_i32_10 c1_i32_12 k0_t3
  let v20 : BitVec 32 := Scalar.addi v10 arg12
  let c1024_i32_16 : BitVec 32 := 1024#32
  let v24 : BitVec 32 := Scalar.muli v20 c1024_i32_16
  ![56, v24.toNat]
def k0_cond3 (i : grid0.Coords) (k0_t3 : Fin k0_t3_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_2 : BitVec 32 := 30#32
  let v8 : BitVec 32 := Scalar.muli v1 c30_i32_2
  let c17_i32_3 : BitVec 32 := 17#32
  let v9 : BitVec 32 := Scalar.minsi v1 c17_i32_3
  let v10 : BitVec 32 := Scalar.addi v8 v9
  let c0_i32_10 : BitVec 32 := 0#32
  let c1_i32_12 : BitVec 32 := 1#32
  let arg12 : BitVec 32 := Scf.iv c0_i32_10 c1_i32_12 k0_t3
  let v20 : BitVec 32 := Scalar.addi v10 arg12
  let c976_i32_36 : BitVec 32 := 976#32
  let v61 : BitVec 1 := Scalar.cmpi .eq v20 c976_i32_36
  let v62 : BitVec 32 := Scalar.extui v61
  let c0_i32_37 : BitVec 32 := 0#32
  let v63 : BitVec 1 := Scalar.cmpi .ne v62 c0_i32_37
  v63

def k0_off83 (i : grid0.Coords) (k0_t3 : Fin k0_t3_loop.trips) : Fin 2 → Nat :=
  let c0_i32_46 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_2 : BitVec 32 := 30#32
  let v8 : BitVec 32 := Scalar.muli v1 c30_i32_2
  let c17_i32_3 : BitVec 32 := 17#32
  let v9 : BitVec 32 := Scalar.minsi v1 c17_i32_3
  let v10 : BitVec 32 := Scalar.addi v8 v9
  let c0_i32_10 : BitVec 32 := 0#32
  let c1_i32_12 : BitVec 32 := 1#32
  let arg12 : BitVec 32 := Scf.iv c0_i32_10 c1_i32_12 k0_t3
  let v20 : BitVec 32 := Scalar.addi v10 arg12
  let c1024_i32_16 : BitVec 32 := 1024#32
  let v24 : BitVec 32 := Scalar.muli v20 c1024_i32_16
  ![0, v24.toNat]
def k0_off84 (i : grid0.Coords) (k0_t3 : Fin k0_t3_loop.trips) : Fin 2 → Nat :=
  let c8_i32 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_2 : BitVec 32 := 30#32
  let v8 : BitVec 32 := Scalar.muli v1 c30_i32_2
  let c17_i32_3 : BitVec 32 := 17#32
  let v9 : BitVec 32 := Scalar.minsi v1 c17_i32_3
  let v10 : BitVec 32 := Scalar.addi v8 v9
  let c0_i32_10 : BitVec 32 := 0#32
  let c1_i32_12 : BitVec 32 := 1#32
  let arg12 : BitVec 32 := Scf.iv c0_i32_10 c1_i32_12 k0_t3
  let v20 : BitVec 32 := Scalar.addi v10 arg12
  let c1024_i32_16 : BitVec 32 := 1024#32
  let v24 : BitVec 32 := Scalar.muli v20 c1024_i32_16
  ![8, v24.toNat]
def k0_off85 (i : grid0.Coords) (k0_t3 : Fin k0_t3_loop.trips) : Fin 2 → Nat :=
  let c16_i32 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_2 : BitVec 32 := 30#32
  let v8 : BitVec 32 := Scalar.muli v1 c30_i32_2
  let c17_i32_3 : BitVec 32 := 17#32
  let v9 : BitVec 32 := Scalar.minsi v1 c17_i32_3
  let v10 : BitVec 32 := Scalar.addi v8 v9
  let c0_i32_10 : BitVec 32 := 0#32
  let c1_i32_12 : BitVec 32 := 1#32
  let arg12 : BitVec 32 := Scf.iv c0_i32_10 c1_i32_12 k0_t3
  let v20 : BitVec 32 := Scalar.addi v10 arg12
  let c1024_i32_16 : BitVec 32 := 1024#32
  let v24 : BitVec 32 := Scalar.muli v20 c1024_i32_16
  ![16, v24.toNat]
def k0_off86 (i : grid0.Coords) (k0_t3 : Fin k0_t3_loop.trips) : Fin 2 → Nat :=
  let c24_i32 : BitVec 32 := 24#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_2 : BitVec 32 := 30#32
  let v8 : BitVec 32 := Scalar.muli v1 c30_i32_2
  let c17_i32_3 : BitVec 32 := 17#32
  let v9 : BitVec 32 := Scalar.minsi v1 c17_i32_3
  let v10 : BitVec 32 := Scalar.addi v8 v9
  let c0_i32_10 : BitVec 32 := 0#32
  let c1_i32_12 : BitVec 32 := 1#32
  let arg12 : BitVec 32 := Scf.iv c0_i32_10 c1_i32_12 k0_t3
  let v20 : BitVec 32 := Scalar.addi v10 arg12
  let c1024_i32_16 : BitVec 32 := 1024#32
  let v24 : BitVec 32 := Scalar.muli v20 c1024_i32_16
  ![24, v24.toNat]
def k0_off87 (i : grid0.Coords) (k0_t3 : Fin k0_t3_loop.trips) : Fin 2 → Nat :=
  let c32_i32_70 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_2 : BitVec 32 := 30#32
  let v8 : BitVec 32 := Scalar.muli v1 c30_i32_2
  let c17_i32_3 : BitVec 32 := 17#32
  let v9 : BitVec 32 := Scalar.minsi v1 c17_i32_3
  let v10 : BitVec 32 := Scalar.addi v8 v9
  let c0_i32_10 : BitVec 32 := 0#32
  let c1_i32_12 : BitVec 32 := 1#32
  let arg12 : BitVec 32 := Scf.iv c0_i32_10 c1_i32_12 k0_t3
  let v20 : BitVec 32 := Scalar.addi v10 arg12
  let c1024_i32_16 : BitVec 32 := 1024#32
  let v24 : BitVec 32 := Scalar.muli v20 c1024_i32_16
  ![32, v24.toNat]
def k0_off88 (i : grid0.Coords) (k0_t3 : Fin k0_t3_loop.trips) : Fin 2 → Nat :=
  let c40_i32 : BitVec 32 := 40#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_2 : BitVec 32 := 30#32
  let v8 : BitVec 32 := Scalar.muli v1 c30_i32_2
  let c17_i32_3 : BitVec 32 := 17#32
  let v9 : BitVec 32 := Scalar.minsi v1 c17_i32_3
  let v10 : BitVec 32 := Scalar.addi v8 v9
  let c0_i32_10 : BitVec 32 := 0#32
  let c1_i32_12 : BitVec 32 := 1#32
  let arg12 : BitVec 32 := Scf.iv c0_i32_10 c1_i32_12 k0_t3
  let v20 : BitVec 32 := Scalar.addi v10 arg12
  let c1024_i32_16 : BitVec 32 := 1024#32
  let v24 : BitVec 32 := Scalar.muli v20 c1024_i32_16
  ![40, v24.toNat]
def k0_off89 (i : grid0.Coords) (k0_t3 : Fin k0_t3_loop.trips) : Fin 2 → Nat :=
  let c48_i32 : BitVec 32 := 48#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_2 : BitVec 32 := 30#32
  let v8 : BitVec 32 := Scalar.muli v1 c30_i32_2
  let c17_i32_3 : BitVec 32 := 17#32
  let v9 : BitVec 32 := Scalar.minsi v1 c17_i32_3
  let v10 : BitVec 32 := Scalar.addi v8 v9
  let c0_i32_10 : BitVec 32 := 0#32
  let c1_i32_12 : BitVec 32 := 1#32
  let arg12 : BitVec 32 := Scf.iv c0_i32_10 c1_i32_12 k0_t3
  let v20 : BitVec 32 := Scalar.addi v10 arg12
  let c1024_i32_16 : BitVec 32 := 1024#32
  let v24 : BitVec 32 := Scalar.muli v20 c1024_i32_16
  ![48, v24.toNat]
def k0_off90 (i : grid0.Coords) (k0_t3 : Fin k0_t3_loop.trips) : Fin 2 → Nat :=
  let c56_i32 : BitVec 32 := 56#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_2 : BitVec 32 := 30#32
  let v8 : BitVec 32 := Scalar.muli v1 c30_i32_2
  let c17_i32_3 : BitVec 32 := 17#32
  let v9 : BitVec 32 := Scalar.minsi v1 c17_i32_3
  let v10 : BitVec 32 := Scalar.addi v8 v9
  let c0_i32_10 : BitVec 32 := 0#32
  let c1_i32_12 : BitVec 32 := 1#32
  let arg12 : BitVec 32 := Scf.iv c0_i32_10 c1_i32_12 k0_t3
  let v20 : BitVec 32 := Scalar.addi v10 arg12
  let c1024_i32_16 : BitVec 32 := 1024#32
  let v24 : BitVec 32 := Scalar.muli v20 c1024_i32_16
  ![56, v24.toNat]
@[reducible] def k0_t8_loop (v32 : BitVec 32) : Scf.Loop 32 :=
  let c0_i32_38 : BitVec 32 := 0#32
  let c31_i32_23 : BitVec 32 := 31#32
  let v33 : BitVec 32 := Scalar.addi v32 c31_i32_23
  let c0_i32_24 : BitVec 32 := 0#32
  let v35 : BitVec 1 := Scalar.cmpi .sgt v33 c0_i32_24
  let v36 : BitVec 32 := Scalar.extui v35
  let c0_i32_25 : BitVec 32 := 0#32
  let v37 : BitVec 1 := Scalar.cmpi .slt v33 c0_i32_25
  let v38 : BitVec 32 := Scalar.extui v37
  let v39 : BitVec 32 := Scalar.subi v36 v38
  let c32_i32 : BitVec 32 := 32#32
  let c0_i32_26 : BitVec 32 := 0#32
  let v40 : BitVec 1 := Scalar.cmpi .sgt c32_i32 c0_i32_26
  let v41 : BitVec 32 := Scalar.extui v40
  let c0_i32_27 : BitVec 32 := 0#32
  let v42 : BitVec 1 := Scalar.cmpi .slt c32_i32 c0_i32_27
  let v43 : BitVec 32 := Scalar.extui v42
  let v44 : BitVec 32 := Scalar.subi v41 v43
  let v45 : BitVec 1 := Scalar.cmpi .ne v39 v44
  let v46 : BitVec 32 := Scalar.remsi v33 c32_i32
  let c0_i32_28 : BitVec 32 := 0#32
  let v47 : BitVec 1 := Scalar.cmpi .ne v46 c0_i32_28
  let v48 : BitVec 1 := Scalar.andi v45 v47
  let v34 : BitVec 32 := Scalar.divsi v33 c32_i32
  let c1_i32_29 : BitVec 32 := 1#32
  let v49 : BitVec 32 := Scalar.subi v34 c1_i32_29
  let v50 : BitVec 32 := Scalar.select v48 v49 v34
  let v64 : BitVec 32 := Scalar.subi v50 c0_i32_38
  let c1_i32_40 : BitVec 32 := 1#32
  let v66 : BitVec 32 := Scalar.divsi v64 c1_i32_40
  let v67 : BitVec 32 := Scalar.muli v66 c1_i32_40
  let v68 : BitVec 32 := Scalar.addi c0_i32_38 v67
  let c1_i32_41 : BitVec 32 := 1#32
  ⟨c0_i32_38, v68, c1_i32_41⟩
def k0_off91 (v32 : BitVec 32) (k0_t8 : Fin (k0_t8_loop v32).trips) : Fin 1 → Nat :=
  let c0_i32_38 : BitVec 32 := 0#32
  let c1_i32_41 : BitVec 32 := 1#32
  let arg14 : BitVec 32 := Scf.iv c0_i32_38 c1_i32_41 k0_t8
  let c32_i32_43 : BitVec 32 := 32#32
  let v71 : BitVec 32 := Scalar.muli arg14 c32_i32_43
  let c0_i32_44 : BitVec 32 := 0#32
  let v72 : BitVec 32 := Scalar.addi v71 c0_i32_44
  let v73 : Index := Scalar.indexCast v72
  ![v73.toNat]

def k0_chk521 (i : grid0.Coords) (k0_t3 : Fin k0_t3_loop.trips) (v76 : IVec S16 32) (v82 : IVec S16 32) (v83 : IVec S16 32) : Prop :=
  (∀ (k0_h1 : k0_cond1 i k0_t3 = 1#1), ∀ a x, ((![v82, v83, v76] : Fin 3 → IVec S16 32) a x).toNat < S8x8x1024.size a)
theorem k0_idx519_inb : ∀ (i : grid0.Coords) (k0_t3 : Fin k0_t3_loop.trips) (v76 : IVec S16 32) (v82 : IVec S16 32) (v83 : IVec S16 32) (k0_hw521 : k0_chk521 i k0_t3 v76 v82 v83), ∀ (k0_h1 : k0_cond1 i k0_t3 = 1#1), ∀ a x, ((![v82, v83, v76] : Fin 3 → IVec S16 32) a x).toNat < S8x8x1024.size a := fun i k0_t3 v76 v82 v83 k0_hw521 k0_h1 => k0_hw521 k0_h1

def k0_chk522 (i : grid0.Coords) (k0_t3 : Fin k0_t3_loop.trips) (v76 : IVec S16 32) (v84 : IVec S16 32) (v85 : IVec S16 32) : Prop :=
  (∀ (k0_h1 : k0_cond1 i k0_t3 = 1#1), ∀ a x, ((![v84, v85, v76] : Fin 3 → IVec S16 32) a x).toNat < S8x8x1024.size a)
theorem k0_idx520_inb : ∀ (i : grid0.Coords) (k0_t3 : Fin k0_t3_loop.trips) (v76 : IVec S16 32) (v84 : IVec S16 32) (v85 : IVec S16 32) (k0_hw522 : k0_chk522 i k0_t3 v76 v84 v85), ∀ (k0_h1 : k0_cond1 i k0_t3 = 1#1), ∀ a x, ((![v84, v85, v76] : Fin 3 → IVec S16 32) a x).toNat < S8x8x1024.size a := fun i k0_t3 v76 v84 v85 k0_hw522 k0_h1 => k0_hw522 k0_h1

def k0_chk523 (i : grid0.Coords) (k0_t3 : Fin k0_t3_loop.trips) (v76 : IVec S16 32) (v86 : IVec S16 32) (v87 : IVec S16 32) : Prop :=
  (∀ (k0_h1 : k0_cond1 i k0_t3 = 1#1), ∀ a x, ((![v86, v87, v76] : Fin 3 → IVec S16 32) a x).toNat < S8x8x1024.size a)
theorem k0_idx521_inb : ∀ (i : grid0.Coords) (k0_t3 : Fin k0_t3_loop.trips) (v76 : IVec S16 32) (v86 : IVec S16 32) (v87 : IVec S16 32) (k0_hw523 : k0_chk523 i k0_t3 v76 v86 v87), ∀ (k0_h1 : k0_cond1 i k0_t3 = 1#1), ∀ a x, ((![v86, v87, v76] : Fin 3 → IVec S16 32) a x).toNat < S8x8x1024.size a := fun i k0_t3 v76 v86 v87 k0_hw523 k0_h1 => k0_hw523 k0_h1

def k0_chk524 (i : grid0.Coords) (k0_t3 : Fin k0_t3_loop.trips) (v76 : IVec S16 32) (v88 : IVec S16 32) (v89 : IVec S16 32) : Prop :=
  (∀ (k0_h1 : k0_cond1 i k0_t3 = 1#1), ∀ a x, ((![v88, v89, v76] : Fin 3 → IVec S16 32) a x).toNat < S8x8x1024.size a)
theorem k0_idx522_inb : ∀ (i : grid0.Coords) (k0_t3 : Fin k0_t3_loop.trips) (v76 : IVec S16 32) (v88 : IVec S16 32) (v89 : IVec S16 32) (k0_hw524 : k0_chk524 i k0_t3 v76 v88 v89), ∀ (k0_h1 : k0_cond1 i k0_t3 = 1#1), ∀ a x, ((![v88, v89, v76] : Fin 3 → IVec S16 32) a x).toNat < S8x8x1024.size a := fun i k0_t3 v76 v88 v89 k0_hw524 k0_h1 => k0_hw524 k0_h1

def k0_chk525 (i : grid0.Coords) (k0_t3 : Fin k0_t3_loop.trips) (v76 : IVec S16 32) (v90 : IVec S16 32) (v91 : IVec S16 32) : Prop :=
  (∀ (k0_h1 : k0_cond1 i k0_t3 = 1#1), ∀ a x, ((![v90, v91, v76] : Fin 3 → IVec S16 32) a x).toNat < S8x8x1024.size a)
theorem k0_idx523_inb : ∀ (i : grid0.Coords) (k0_t3 : Fin k0_t3_loop.trips) (v76 : IVec S16 32) (v90 : IVec S16 32) (v91 : IVec S16 32) (k0_hw525 : k0_chk525 i k0_t3 v76 v90 v91), ∀ (k0_h1 : k0_cond1 i k0_t3 = 1#1), ∀ a x, ((![v90, v91, v76] : Fin 3 → IVec S16 32) a x).toNat < S8x8x1024.size a := fun i k0_t3 v76 v90 v91 k0_hw525 k0_h1 => k0_hw525 k0_h1

def k0_chk526 (i : grid0.Coords) (k0_t3 : Fin k0_t3_loop.trips) (v76 : IVec S16 32) (v92 : IVec S16 32) (v93 : IVec S16 32) : Prop :=
  (∀ (k0_h1 : k0_cond1 i k0_t3 = 1#1), ∀ a x, ((![v92, v93, v76] : Fin 3 → IVec S16 32) a x).toNat < S8x8x1024.size a)
theorem k0_idx524_inb : ∀ (i : grid0.Coords) (k0_t3 : Fin k0_t3_loop.trips) (v76 : IVec S16 32) (v92 : IVec S16 32) (v93 : IVec S16 32) (k0_hw526 : k0_chk526 i k0_t3 v76 v92 v93), ∀ (k0_h1 : k0_cond1 i k0_t3 = 1#1), ∀ a x, ((![v92, v93, v76] : Fin 3 → IVec S16 32) a x).toNat < S8x8x1024.size a := fun i k0_t3 v76 v92 v93 k0_hw526 k0_h1 => k0_hw526 k0_h1

def k0_chk527 (i : grid0.Coords) (k0_t3 : Fin k0_t3_loop.trips) (v76 : IVec S16 32) (v94 : IVec S16 32) (v95 : IVec S16 32) : Prop :=
  (∀ (k0_h1 : k0_cond1 i k0_t3 = 1#1), ∀ a x, ((![v94, v95, v76] : Fin 3 → IVec S16 32) a x).toNat < S8x8x1024.size a)
theorem k0_idx525_inb : ∀ (i : grid0.Coords) (k0_t3 : Fin k0_t3_loop.trips) (v76 : IVec S16 32) (v94 : IVec S16 32) (v95 : IVec S16 32) (k0_hw527 : k0_chk527 i k0_t3 v76 v94 v95), ∀ (k0_h1 : k0_cond1 i k0_t3 = 1#1), ∀ a x, ((![v94, v95, v76] : Fin 3 → IVec S16 32) a x).toNat < S8x8x1024.size a := fun i k0_t3 v76 v94 v95 k0_hw527 k0_h1 => k0_hw527 k0_h1

def k0_chk528 (i : grid0.Coords) (k0_t3 : Fin k0_t3_loop.trips) (v76 : IVec S16 32) (v96 : IVec S16 32) (v97 : IVec S16 32) : Prop :=
  (∀ (k0_h1 : k0_cond1 i k0_t3 = 1#1), ∀ a x, ((![v96, v97, v76] : Fin 3 → IVec S16 32) a x).toNat < S8x8x1024.size a)
theorem k0_idx526_inb : ∀ (i : grid0.Coords) (k0_t3 : Fin k0_t3_loop.trips) (v76 : IVec S16 32) (v96 : IVec S16 32) (v97 : IVec S16 32) (k0_hw528 : k0_chk528 i k0_t3 v76 v96 v97), ∀ (k0_h1 : k0_cond1 i k0_t3 = 1#1), ∀ a x, ((![v96, v97, v76] : Fin 3 → IVec S16 32) a x).toNat < S8x8x1024.size a := fun i k0_t3 v76 v96 v97 k0_hw528 k0_h1 => k0_hw528 k0_h1

def k0_chk529 (i : grid0.Coords) (k0_t3 : Fin k0_t3_loop.trips) (v76 : IVec S16 32) (v98 : IVec S16 32) (v99 : IVec S16 32) : Prop :=
  (∀ (k0_h1 : k0_cond1 i k0_t3 = 1#1), ∀ a x, ((![v98, v99, v76] : Fin 3 → IVec S16 32) a x).toNat < S8x8x1024.size a)
theorem k0_idx527_inb : ∀ (i : grid0.Coords) (k0_t3 : Fin k0_t3_loop.trips) (v76 : IVec S16 32) (v98 : IVec S16 32) (v99 : IVec S16 32) (k0_hw529 : k0_chk529 i k0_t3 v76 v98 v99), ∀ (k0_h1 : k0_cond1 i k0_t3 = 1#1), ∀ a x, ((![v98, v99, v76] : Fin 3 → IVec S16 32) a x).toNat < S8x8x1024.size a := fun i k0_t3 v76 v98 v99 k0_hw529 k0_h1 => k0_hw529 k0_h1

def k0_chk530 (i : grid0.Coords) (k0_t3 : Fin k0_t3_loop.trips) (v76 : IVec S16 32) (v100 : IVec S16 32) (v101 : IVec S16 32) : Prop :=
  (∀ (k0_h1 : k0_cond1 i k0_t3 = 1#1), ∀ a x, ((![v100, v101, v76] : Fin 3 → IVec S16 32) a x).toNat < S8x8x1024.size a)
theorem k0_idx528_inb : ∀ (i : grid0.Coords) (k0_t3 : Fin k0_t3_loop.trips) (v76 : IVec S16 32) (v100 : IVec S16 32) (v101 : IVec S16 32) (k0_hw530 : k0_chk530 i k0_t3 v76 v100 v101), ∀ (k0_h1 : k0_cond1 i k0_t3 = 1#1), ∀ a x, ((![v100, v101, v76] : Fin 3 → IVec S16 32) a x).toNat < S8x8x1024.size a := fun i k0_t3 v76 v100 v101 k0_hw530 k0_h1 => k0_hw530 k0_h1

def k0_chk531 (i : grid0.Coords) (k0_t3 : Fin k0_t3_loop.trips) (v76 : IVec S16 32) (v102 : IVec S16 32) (v103 : IVec S16 32) : Prop :=
  (∀ (k0_h1 : k0_cond1 i k0_t3 = 1#1), ∀ a x, ((![v102, v103, v76] : Fin 3 → IVec S16 32) a x).toNat < S8x8x1024.size a)
theorem k0_idx529_inb : ∀ (i : grid0.Coords) (k0_t3 : Fin k0_t3_loop.trips) (v76 : IVec S16 32) (v102 : IVec S16 32) (v103 : IVec S16 32) (k0_hw531 : k0_chk531 i k0_t3 v76 v102 v103), ∀ (k0_h1 : k0_cond1 i k0_t3 = 1#1), ∀ a x, ((![v102, v103, v76] : Fin 3 → IVec S16 32) a x).toNat < S8x8x1024.size a := fun i k0_t3 v76 v102 v103 k0_hw531 k0_h1 => k0_hw531 k0_h1

def k0_chk532 (i : grid0.Coords) (k0_t3 : Fin k0_t3_loop.trips) (v76 : IVec S16 32) (v104 : IVec S16 32) (v105 : IVec S16 32) : Prop :=
  (∀ (k0_h1 : k0_cond1 i k0_t3 = 1#1), ∀ a x, ((![v104, v105, v76] : Fin 3 → IVec S16 32) a x).toNat < S8x8x1024.size a)
theorem k0_idx530_inb : ∀ (i : grid0.Coords) (k0_t3 : Fin k0_t3_loop.trips) (v76 : IVec S16 32) (v104 : IVec S16 32) (v105 : IVec S16 32) (k0_hw532 : k0_chk532 i k0_t3 v76 v104 v105), ∀ (k0_h1 : k0_cond1 i k0_t3 = 1#1), ∀ a x, ((![v104, v105, v76] : Fin 3 → IVec S16 32) a x).toNat < S8x8x1024.size a := fun i k0_t3 v76 v104 v105 k0_hw532 k0_h1 => k0_hw532 k0_h1

def k0_chk533 (i : grid0.Coords) (k0_t3 : Fin k0_t3_loop.trips) (v76 : IVec S16 32) (v106 : IVec S16 32) (v107 : IVec S16 32) : Prop :=
  (∀ (k0_h1 : k0_cond1 i k0_t3 = 1#1), ∀ a x, ((![v106, v107, v76] : Fin 3 → IVec S16 32) a x).toNat < S8x8x1024.size a)
theorem k0_idx531_inb : ∀ (i : grid0.Coords) (k0_t3 : Fin k0_t3_loop.trips) (v76 : IVec S16 32) (v106 : IVec S16 32) (v107 : IVec S16 32) (k0_hw533 : k0_chk533 i k0_t3 v76 v106 v107), ∀ (k0_h1 : k0_cond1 i k0_t3 = 1#1), ∀ a x, ((![v106, v107, v76] : Fin 3 → IVec S16 32) a x).toNat < S8x8x1024.size a := fun i k0_t3 v76 v106 v107 k0_hw533 k0_h1 => k0_hw533 k0_h1

def k0_chk534 (i : grid0.Coords) (k0_t3 : Fin k0_t3_loop.trips) (v76 : IVec S16 32) (v108 : IVec S16 32) (v109 : IVec S16 32) : Prop :=
  (∀ (k0_h1 : k0_cond1 i k0_t3 = 1#1), ∀ a x, ((![v108, v109, v76] : Fin 3 → IVec S16 32) a x).toNat < S8x8x1024.size a)
theorem k0_idx532_inb : ∀ (i : grid0.Coords) (k0_t3 : Fin k0_t3_loop.trips) (v76 : IVec S16 32) (v108 : IVec S16 32) (v109 : IVec S16 32) (k0_hw534 : k0_chk534 i k0_t3 v76 v108 v109), ∀ (k0_h1 : k0_cond1 i k0_t3 = 1#1), ∀ a x, ((![v108, v109, v76] : Fin 3 → IVec S16 32) a x).toNat < S8x8x1024.size a := fun i k0_t3 v76 v108 v109 k0_hw534 k0_h1 => k0_hw534 k0_h1

def k0_chk535 (i : grid0.Coords) (k0_t3 : Fin k0_t3_loop.trips) (v76 : IVec S16 32) (v110 : IVec S16 32) (v111 : IVec S16 32) : Prop :=
  (∀ (k0_h1 : k0_cond1 i k0_t3 = 1#1), ∀ a x, ((![v110, v111, v76] : Fin 3 → IVec S16 32) a x).toNat < S8x8x1024.size a)
theorem k0_idx533_inb : ∀ (i : grid0.Coords) (k0_t3 : Fin k0_t3_loop.trips) (v76 : IVec S16 32) (v110 : IVec S16 32) (v111 : IVec S16 32) (k0_hw535 : k0_chk535 i k0_t3 v76 v110 v111), ∀ (k0_h1 : k0_cond1 i k0_t3 = 1#1), ∀ a x, ((![v110, v111, v76] : Fin 3 → IVec S16 32) a x).toNat < S8x8x1024.size a := fun i k0_t3 v76 v110 v111 k0_hw535 k0_h1 => k0_hw535 k0_h1

def k0_chk536 (i : grid0.Coords) (k0_t3 : Fin k0_t3_loop.trips) (v76 : IVec S16 32) (v112 : IVec S16 32) (v113 : IVec S16 32) : Prop :=
  (∀ (k0_h1 : k0_cond1 i k0_t3 = 1#1), ∀ a x, ((![v112, v113, v76] : Fin 3 → IVec S16 32) a x).toNat < S8x8x1024.size a)
theorem k0_idx534_inb : ∀ (i : grid0.Coords) (k0_t3 : Fin k0_t3_loop.trips) (v76 : IVec S16 32) (v112 : IVec S16 32) (v113 : IVec S16 32) (k0_hw536 : k0_chk536 i k0_t3 v76 v112 v113), ∀ (k0_h1 : k0_cond1 i k0_t3 = 1#1), ∀ a x, ((![v112, v113, v76] : Fin 3 → IVec S16 32) a x).toNat < S8x8x1024.size a := fun i k0_t3 v76 v112 v113 k0_hw536 k0_h1 => k0_hw536 k0_h1

def k0_chk537 (i : grid0.Coords) (k0_t3 : Fin k0_t3_loop.trips) (v76 : IVec S16 32) (v114 : IVec S16 32) (v115 : IVec S16 32) : Prop :=
  (∀ (k0_h1 : k0_cond1 i k0_t3 = 1#1), ∀ a x, ((![v114, v115, v76] : Fin 3 → IVec S16 32) a x).toNat < S8x8x1024.size a)
theorem k0_idx535_inb : ∀ (i : grid0.Coords) (k0_t3 : Fin k0_t3_loop.trips) (v76 : IVec S16 32) (v114 : IVec S16 32) (v115 : IVec S16 32) (k0_hw537 : k0_chk537 i k0_t3 v76 v114 v115), ∀ (k0_h1 : k0_cond1 i k0_t3 = 1#1), ∀ a x, ((![v114, v115, v76] : Fin 3 → IVec S16 32) a x).toNat < S8x8x1024.size a := fun i k0_t3 v76 v114 v115 k0_hw537 k0_h1 => k0_hw537 k0_h1

def k0_chk538 (i : grid0.Coords) (k0_t3 : Fin k0_t3_loop.trips) (v76 : IVec S16 32) (v116 : IVec S16 32) (v117 : IVec S16 32) : Prop :=
  (∀ (k0_h1 : k0_cond1 i k0_t3 = 1#1), ∀ a x, ((![v116, v117, v76] : Fin 3 → IVec S16 32) a x).toNat < S8x8x1024.size a)
theorem k0_idx536_inb : ∀ (i : grid0.Coords) (k0_t3 : Fin k0_t3_loop.trips) (v76 : IVec S16 32) (v116 : IVec S16 32) (v117 : IVec S16 32) (k0_hw538 : k0_chk538 i k0_t3 v76 v116 v117), ∀ (k0_h1 : k0_cond1 i k0_t3 = 1#1), ∀ a x, ((![v116, v117, v76] : Fin 3 → IVec S16 32) a x).toNat < S8x8x1024.size a := fun i k0_t3 v76 v116 v117 k0_hw538 k0_h1 => k0_hw538 k0_h1

def k0_chk539 (i : grid0.Coords) (k0_t3 : Fin k0_t3_loop.trips) (v76 : IVec S16 32) (v118 : IVec S16 32) (v119 : IVec S16 32) : Prop :=
  (∀ (k0_h1 : k0_cond1 i k0_t3 = 1#1), ∀ a x, ((![v118, v119, v76] : Fin 3 → IVec S16 32) a x).toNat < S8x8x1024.size a)
theorem k0_idx537_inb : ∀ (i : grid0.Coords) (k0_t3 : Fin k0_t3_loop.trips) (v76 : IVec S16 32) (v118 : IVec S16 32) (v119 : IVec S16 32) (k0_hw539 : k0_chk539 i k0_t3 v76 v118 v119), ∀ (k0_h1 : k0_cond1 i k0_t3 = 1#1), ∀ a x, ((![v118, v119, v76] : Fin 3 → IVec S16 32) a x).toNat < S8x8x1024.size a := fun i k0_t3 v76 v118 v119 k0_hw539 k0_h1 => k0_hw539 k0_h1

def k0_chk540 (i : grid0.Coords) (k0_t3 : Fin k0_t3_loop.trips) (v76 : IVec S16 32) (v120 : IVec S16 32) (v121 : IVec S16 32) : Prop :=
  (∀ (k0_h1 : k0_cond1 i k0_t3 = 1#1), ∀ a x, ((![v120, v121, v76] : Fin 3 → IVec S16 32) a x).toNat < S8x8x1024.size a)
theorem k0_idx538_inb : ∀ (i : grid0.Coords) (k0_t3 : Fin k0_t3_loop.trips) (v76 : IVec S16 32) (v120 : IVec S16 32) (v121 : IVec S16 32) (k0_hw540 : k0_chk540 i k0_t3 v76 v120 v121), ∀ (k0_h1 : k0_cond1 i k0_t3 = 1#1), ∀ a x, ((![v120, v121, v76] : Fin 3 → IVec S16 32) a x).toNat < S8x8x1024.size a := fun i k0_t3 v76 v120 v121 k0_hw540 k0_h1 => k0_hw540 k0_h1

def k0_chk541 (i : grid0.Coords) (k0_t3 : Fin k0_t3_loop.trips) (v76 : IVec S16 32) (v122 : IVec S16 32) (v123 : IVec S16 32) : Prop :=
  (∀ (k0_h1 : k0_cond1 i k0_t3 = 1#1), ∀ a x, ((![v122, v123, v76] : Fin 3 → IVec S16 32) a x).toNat < S8x8x1024.size a)
theorem k0_idx539_inb : ∀ (i : grid0.Coords) (k0_t3 : Fin k0_t3_loop.trips) (v76 : IVec S16 32) (v122 : IVec S16 32) (v123 : IVec S16 32) (k0_hw541 : k0_chk541 i k0_t3 v76 v122 v123), ∀ (k0_h1 : k0_cond1 i k0_t3 = 1#1), ∀ a x, ((![v122, v123, v76] : Fin 3 → IVec S16 32) a x).toNat < S8x8x1024.size a := fun i k0_t3 v76 v122 v123 k0_hw541 k0_h1 => k0_hw541 k0_h1

def k0_chk542 (i : grid0.Coords) (k0_t3 : Fin k0_t3_loop.trips) (v76 : IVec S16 32) (v124 : IVec S16 32) (v125 : IVec S16 32) : Prop :=
  (∀ (k0_h1 : k0_cond1 i k0_t3 = 1#1), ∀ a x, ((![v124, v125, v76] : Fin 3 → IVec S16 32) a x).toNat < S8x8x1024.size a)
theorem k0_idx540_inb : ∀ (i : grid0.Coords) (k0_t3 : Fin k0_t3_loop.trips) (v76 : IVec S16 32) (v124 : IVec S16 32) (v125 : IVec S16 32) (k0_hw542 : k0_chk542 i k0_t3 v76 v124 v125), ∀ (k0_h1 : k0_cond1 i k0_t3 = 1#1), ∀ a x, ((![v124, v125, v76] : Fin 3 → IVec S16 32) a x).toNat < S8x8x1024.size a := fun i k0_t3 v76 v124 v125 k0_hw542 k0_h1 => k0_hw542 k0_h1

def k0_chk543 (i : grid0.Coords) (k0_t3 : Fin k0_t3_loop.trips) (v76 : IVec S16 32) (v126 : IVec S16 32) (v127 : IVec S16 32) : Prop :=
  (∀ (k0_h1 : k0_cond1 i k0_t3 = 1#1), ∀ a x, ((![v126, v127, v76] : Fin 3 → IVec S16 32) a x).toNat < S8x8x1024.size a)
theorem k0_idx541_inb : ∀ (i : grid0.Coords) (k0_t3 : Fin k0_t3_loop.trips) (v76 : IVec S16 32) (v126 : IVec S16 32) (v127 : IVec S16 32) (k0_hw543 : k0_chk543 i k0_t3 v76 v126 v127), ∀ (k0_h1 : k0_cond1 i k0_t3 = 1#1), ∀ a x, ((![v126, v127, v76] : Fin 3 → IVec S16 32) a x).toNat < S8x8x1024.size a := fun i k0_t3 v76 v126 v127 k0_hw543 k0_h1 => k0_hw543 k0_h1

def k0_chk544 (i : grid0.Coords) (k0_t3 : Fin k0_t3_loop.trips) (v76 : IVec S16 32) (v128 : IVec S16 32) (v129 : IVec S16 32) : Prop :=
  (∀ (k0_h1 : k0_cond1 i k0_t3 = 1#1), ∀ a x, ((![v128, v129, v76] : Fin 3 → IVec S16 32) a x).toNat < S8x8x1024.size a)
theorem k0_idx542_inb : ∀ (i : grid0.Coords) (k0_t3 : Fin k0_t3_loop.trips) (v76 : IVec S16 32) (v128 : IVec S16 32) (v129 : IVec S16 32) (k0_hw544 : k0_chk544 i k0_t3 v76 v128 v129), ∀ (k0_h1 : k0_cond1 i k0_t3 = 1#1), ∀ a x, ((![v128, v129, v76] : Fin 3 → IVec S16 32) a x).toNat < S8x8x1024.size a := fun i k0_t3 v76 v128 v129 k0_hw544 k0_h1 => k0_hw544 k0_h1

def k0_chk545 (i : grid0.Coords) (k0_t3 : Fin k0_t3_loop.trips) (v76 : IVec S16 32) (v130 : IVec S16 32) (v131 : IVec S16 32) : Prop :=
  (∀ (k0_h1 : k0_cond1 i k0_t3 = 1#1), ∀ a x, ((![v130, v131, v76] : Fin 3 → IVec S16 32) a x).toNat < S8x8x1024.size a)
theorem k0_idx543_inb : ∀ (i : grid0.Coords) (k0_t3 : Fin k0_t3_loop.trips) (v76 : IVec S16 32) (v130 : IVec S16 32) (v131 : IVec S16 32) (k0_hw545 : k0_chk545 i k0_t3 v76 v130 v131), ∀ (k0_h1 : k0_cond1 i k0_t3 = 1#1), ∀ a x, ((![v130, v131, v76] : Fin 3 → IVec S16 32) a x).toNat < S8x8x1024.size a := fun i k0_t3 v76 v130 v131 k0_hw545 k0_h1 => k0_hw545 k0_h1

def k0_chk546 (i : grid0.Coords) (k0_t3 : Fin k0_t3_loop.trips) (v76 : IVec S16 32) (v132 : IVec S16 32) (v133 : IVec S16 32) : Prop :=
  (∀ (k0_h1 : k0_cond1 i k0_t3 = 1#1), ∀ a x, ((![v132, v133, v76] : Fin 3 → IVec S16 32) a x).toNat < S8x8x1024.size a)
theorem k0_idx544_inb : ∀ (i : grid0.Coords) (k0_t3 : Fin k0_t3_loop.trips) (v76 : IVec S16 32) (v132 : IVec S16 32) (v133 : IVec S16 32) (k0_hw546 : k0_chk546 i k0_t3 v76 v132 v133), ∀ (k0_h1 : k0_cond1 i k0_t3 = 1#1), ∀ a x, ((![v132, v133, v76] : Fin 3 → IVec S16 32) a x).toNat < S8x8x1024.size a := fun i k0_t3 v76 v132 v133 k0_hw546 k0_h1 => k0_hw546 k0_h1

def k0_chk547 (i : grid0.Coords) (k0_t3 : Fin k0_t3_loop.trips) (v76 : IVec S16 32) (v134 : IVec S16 32) (v135 : IVec S16 32) : Prop :=
  (∀ (k0_h1 : k0_cond1 i k0_t3 = 1#1), ∀ a x, ((![v134, v135, v76] : Fin 3 → IVec S16 32) a x).toNat < S8x8x1024.size a)
theorem k0_idx545_inb : ∀ (i : grid0.Coords) (k0_t3 : Fin k0_t3_loop.trips) (v76 : IVec S16 32) (v134 : IVec S16 32) (v135 : IVec S16 32) (k0_hw547 : k0_chk547 i k0_t3 v76 v134 v135), ∀ (k0_h1 : k0_cond1 i k0_t3 = 1#1), ∀ a x, ((![v134, v135, v76] : Fin 3 → IVec S16 32) a x).toNat < S8x8x1024.size a := fun i k0_t3 v76 v134 v135 k0_hw547 k0_h1 => k0_hw547 k0_h1

def k0_chk548 (i : grid0.Coords) (k0_t3 : Fin k0_t3_loop.trips) (v76 : IVec S16 32) (v136 : IVec S16 32) (v137 : IVec S16 32) : Prop :=
  (∀ (k0_h1 : k0_cond1 i k0_t3 = 1#1), ∀ a x, ((![v136, v137, v76] : Fin 3 → IVec S16 32) a x).toNat < S8x8x1024.size a)
theorem k0_idx546_inb : ∀ (i : grid0.Coords) (k0_t3 : Fin k0_t3_loop.trips) (v76 : IVec S16 32) (v136 : IVec S16 32) (v137 : IVec S16 32) (k0_hw548 : k0_chk548 i k0_t3 v76 v136 v137), ∀ (k0_h1 : k0_cond1 i k0_t3 = 1#1), ∀ a x, ((![v136, v137, v76] : Fin 3 → IVec S16 32) a x).toNat < S8x8x1024.size a := fun i k0_t3 v76 v136 v137 k0_hw548 k0_h1 => k0_hw548 k0_h1

def k0_chk549 (i : grid0.Coords) (k0_t3 : Fin k0_t3_loop.trips) (v76 : IVec S16 32) (v138 : IVec S16 32) (v139 : IVec S16 32) : Prop :=
  (∀ (k0_h1 : k0_cond1 i k0_t3 = 1#1), ∀ a x, ((![v138, v139, v76] : Fin 3 → IVec S16 32) a x).toNat < S8x8x1024.size a)
theorem k0_idx547_inb : ∀ (i : grid0.Coords) (k0_t3 : Fin k0_t3_loop.trips) (v76 : IVec S16 32) (v138 : IVec S16 32) (v139 : IVec S16 32) (k0_hw549 : k0_chk549 i k0_t3 v76 v138 v139), ∀ (k0_h1 : k0_cond1 i k0_t3 = 1#1), ∀ a x, ((![v138, v139, v76] : Fin 3 → IVec S16 32) a x).toNat < S8x8x1024.size a := fun i k0_t3 v76 v138 v139 k0_hw549 k0_h1 => k0_hw549 k0_h1

def k0_chk550 (i : grid0.Coords) (k0_t3 : Fin k0_t3_loop.trips) (v76 : IVec S16 32) (v140 : IVec S16 32) (v141 : IVec S16 32) : Prop :=
  (∀ (k0_h1 : k0_cond1 i k0_t3 = 1#1), ∀ a x, ((![v140, v141, v76] : Fin 3 → IVec S16 32) a x).toNat < S8x8x1024.size a)
theorem k0_idx548_inb : ∀ (i : grid0.Coords) (k0_t3 : Fin k0_t3_loop.trips) (v76 : IVec S16 32) (v140 : IVec S16 32) (v141 : IVec S16 32) (k0_hw550 : k0_chk550 i k0_t3 v76 v140 v141), ∀ (k0_h1 : k0_cond1 i k0_t3 = 1#1), ∀ a x, ((![v140, v141, v76] : Fin 3 → IVec S16 32) a x).toNat < S8x8x1024.size a := fun i k0_t3 v76 v140 v141 k0_hw550 k0_h1 => k0_hw550 k0_h1

def k0_chk551 (i : grid0.Coords) (k0_t3 : Fin k0_t3_loop.trips) (v76 : IVec S16 32) (v142 : IVec S16 32) (v143 : IVec S16 32) : Prop :=
  (∀ (k0_h1 : k0_cond1 i k0_t3 = 1#1), ∀ a x, ((![v142, v143, v76] : Fin 3 → IVec S16 32) a x).toNat < S8x8x1024.size a)
theorem k0_idx549_inb : ∀ (i : grid0.Coords) (k0_t3 : Fin k0_t3_loop.trips) (v76 : IVec S16 32) (v142 : IVec S16 32) (v143 : IVec S16 32) (k0_hw551 : k0_chk551 i k0_t3 v76 v142 v143), ∀ (k0_h1 : k0_cond1 i k0_t3 = 1#1), ∀ a x, ((![v142, v143, v76] : Fin 3 → IVec S16 32) a x).toNat < S8x8x1024.size a := fun i k0_t3 v76 v142 v143 k0_hw551 k0_h1 => k0_hw551 k0_h1

def k0_chk552 (i : grid0.Coords) (k0_t3 : Fin k0_t3_loop.trips) (v76 : IVec S16 32) (v144 : IVec S16 32) (v145 : IVec S16 32) : Prop :=
  (∀ (k0_h1 : k0_cond1 i k0_t3 = 1#1), ∀ a x, ((![v144, v145, v76] : Fin 3 → IVec S16 32) a x).toNat < S8x8x1024.size a)
theorem k0_idx550_inb : ∀ (i : grid0.Coords) (k0_t3 : Fin k0_t3_loop.trips) (v76 : IVec S16 32) (v144 : IVec S16 32) (v145 : IVec S16 32) (k0_hw552 : k0_chk552 i k0_t3 v76 v144 v145), ∀ (k0_h1 : k0_cond1 i k0_t3 = 1#1), ∀ a x, ((![v144, v145, v76] : Fin 3 → IVec S16 32) a x).toNat < S8x8x1024.size a := fun i k0_t3 v76 v144 v145 k0_hw552 k0_h1 => k0_hw552 k0_h1

def k0_chk553 (i : grid0.Coords) (k0_t3 : Fin k0_t3_loop.trips) (v76 : IVec S16 32) (v146 : IVec S16 32) (v147 : IVec S16 32) : Prop :=
  (∀ (k0_h1 : k0_cond1 i k0_t3 = 1#1), ∀ a x, ((![v146, v147, v76] : Fin 3 → IVec S16 32) a x).toNat < S8x8x1024.size a)
theorem k0_idx551_inb : ∀ (i : grid0.Coords) (k0_t3 : Fin k0_t3_loop.trips) (v76 : IVec S16 32) (v146 : IVec S16 32) (v147 : IVec S16 32) (k0_hw553 : k0_chk553 i k0_t3 v76 v146 v147), ∀ (k0_h1 : k0_cond1 i k0_t3 = 1#1), ∀ a x, ((![v146, v147, v76] : Fin 3 → IVec S16 32) a x).toNat < S8x8x1024.size a := fun i k0_t3 v76 v146 v147 k0_hw553 k0_h1 => k0_hw553 k0_h1

def k0_chk554 (i : grid0.Coords) (k0_t3 : Fin k0_t3_loop.trips) (v76 : IVec S16 32) (v148 : IVec S16 32) (v149 : IVec S16 32) : Prop :=
  (∀ (k0_h1 : k0_cond1 i k0_t3 = 1#1), ∀ a x, ((![v148, v149, v76] : Fin 3 → IVec S16 32) a x).toNat < S8x8x1024.size a)
theorem k0_idx552_inb : ∀ (i : grid0.Coords) (k0_t3 : Fin k0_t3_loop.trips) (v76 : IVec S16 32) (v148 : IVec S16 32) (v149 : IVec S16 32) (k0_hw554 : k0_chk554 i k0_t3 v76 v148 v149), ∀ (k0_h1 : k0_cond1 i k0_t3 = 1#1), ∀ a x, ((![v148, v149, v76] : Fin 3 → IVec S16 32) a x).toNat < S8x8x1024.size a := fun i k0_t3 v76 v148 v149 k0_hw554 k0_h1 => k0_hw554 k0_h1

def k0_chk555 (i : grid0.Coords) (k0_t3 : Fin k0_t3_loop.trips) (v76 : IVec S16 32) (v150 : IVec S16 32) (v151 : IVec S16 32) : Prop :=
  (∀ (k0_h1 : k0_cond1 i k0_t3 = 1#1), ∀ a x, ((![v150, v151, v76] : Fin 3 → IVec S16 32) a x).toNat < S8x8x1024.size a)
theorem k0_idx553_inb : ∀ (i : grid0.Coords) (k0_t3 : Fin k0_t3_loop.trips) (v76 : IVec S16 32) (v150 : IVec S16 32) (v151 : IVec S16 32) (k0_hw555 : k0_chk555 i k0_t3 v76 v150 v151), ∀ (k0_h1 : k0_cond1 i k0_t3 = 1#1), ∀ a x, ((![v150, v151, v76] : Fin 3 → IVec S16 32) a x).toNat < S8x8x1024.size a := fun i k0_t3 v76 v150 v151 k0_hw555 k0_h1 => k0_hw555 k0_h1

def k0_chk556 (i : grid0.Coords) (k0_t3 : Fin k0_t3_loop.trips) (v76 : IVec S16 32) (v152 : IVec S16 32) (v153 : IVec S16 32) : Prop :=
  (∀ (k0_h1 : k0_cond1 i k0_t3 = 1#1), ∀ a x, ((![v152, v153, v76] : Fin 3 → IVec S16 32) a x).toNat < S8x8x1024.size a)
theorem k0_idx554_inb : ∀ (i : grid0.Coords) (k0_t3 : Fin k0_t3_loop.trips) (v76 : IVec S16 32) (v152 : IVec S16 32) (v153 : IVec S16 32) (k0_hw556 : k0_chk556 i k0_t3 v76 v152 v153), ∀ (k0_h1 : k0_cond1 i k0_t3 = 1#1), ∀ a x, ((![v152, v153, v76] : Fin 3 → IVec S16 32) a x).toNat < S8x8x1024.size a := fun i k0_t3 v76 v152 v153 k0_hw556 k0_h1 => k0_hw556 k0_h1

def k0_chk557 (i : grid0.Coords) (k0_t3 : Fin k0_t3_loop.trips) (v76 : IVec S16 32) (v154 : IVec S16 32) (v155 : IVec S16 32) : Prop :=
  (∀ (k0_h1 : k0_cond1 i k0_t3 = 1#1), ∀ a x, ((![v154, v155, v76] : Fin 3 → IVec S16 32) a x).toNat < S8x8x1024.size a)
theorem k0_idx555_inb : ∀ (i : grid0.Coords) (k0_t3 : Fin k0_t3_loop.trips) (v76 : IVec S16 32) (v154 : IVec S16 32) (v155 : IVec S16 32) (k0_hw557 : k0_chk557 i k0_t3 v76 v154 v155), ∀ (k0_h1 : k0_cond1 i k0_t3 = 1#1), ∀ a x, ((![v154, v155, v76] : Fin 3 → IVec S16 32) a x).toNat < S8x8x1024.size a := fun i k0_t3 v76 v154 v155 k0_hw557 k0_h1 => k0_hw557 k0_h1

def k0_chk558 (i : grid0.Coords) (k0_t3 : Fin k0_t3_loop.trips) (v76 : IVec S16 32) (v156 : IVec S16 32) (v157 : IVec S16 32) : Prop :=
  (∀ (k0_h1 : k0_cond1 i k0_t3 = 1#1), ∀ a x, ((![v156, v157, v76] : Fin 3 → IVec S16 32) a x).toNat < S8x8x1024.size a)
theorem k0_idx556_inb : ∀ (i : grid0.Coords) (k0_t3 : Fin k0_t3_loop.trips) (v76 : IVec S16 32) (v156 : IVec S16 32) (v157 : IVec S16 32) (k0_hw558 : k0_chk558 i k0_t3 v76 v156 v157), ∀ (k0_h1 : k0_cond1 i k0_t3 = 1#1), ∀ a x, ((![v156, v157, v76] : Fin 3 → IVec S16 32) a x).toNat < S8x8x1024.size a := fun i k0_t3 v76 v156 v157 k0_hw558 k0_h1 => k0_hw558 k0_h1

def k0_chk559 (i : grid0.Coords) (k0_t3 : Fin k0_t3_loop.trips) (v76 : IVec S16 32) (v158 : IVec S16 32) (v159 : IVec S16 32) : Prop :=
  (∀ (k0_h1 : k0_cond1 i k0_t3 = 1#1), ∀ a x, ((![v158, v159, v76] : Fin 3 → IVec S16 32) a x).toNat < S8x8x1024.size a)
theorem k0_idx557_inb : ∀ (i : grid0.Coords) (k0_t3 : Fin k0_t3_loop.trips) (v76 : IVec S16 32) (v158 : IVec S16 32) (v159 : IVec S16 32) (k0_hw559 : k0_chk559 i k0_t3 v76 v158 v159), ∀ (k0_h1 : k0_cond1 i k0_t3 = 1#1), ∀ a x, ((![v158, v159, v76] : Fin 3 → IVec S16 32) a x).toNat < S8x8x1024.size a := fun i k0_t3 v76 v158 v159 k0_hw559 k0_h1 => k0_hw559 k0_h1

def k0_chk560 (i : grid0.Coords) (k0_t3 : Fin k0_t3_loop.trips) (v76 : IVec S16 32) (v160 : IVec S16 32) (v161 : IVec S16 32) : Prop :=
  (∀ (k0_h1 : k0_cond1 i k0_t3 = 1#1), ∀ a x, ((![v160, v161, v76] : Fin 3 → IVec S16 32) a x).toNat < S8x8x1024.size a)
theorem k0_idx558_inb : ∀ (i : grid0.Coords) (k0_t3 : Fin k0_t3_loop.trips) (v76 : IVec S16 32) (v160 : IVec S16 32) (v161 : IVec S16 32) (k0_hw560 : k0_chk560 i k0_t3 v76 v160 v161), ∀ (k0_h1 : k0_cond1 i k0_t3 = 1#1), ∀ a x, ((![v160, v161, v76] : Fin 3 → IVec S16 32) a x).toNat < S8x8x1024.size a := fun i k0_t3 v76 v160 v161 k0_hw560 k0_h1 => k0_hw560 k0_h1

def k0_chk561 (i : grid0.Coords) (k0_t3 : Fin k0_t3_loop.trips) (v76 : IVec S16 32) (v162 : IVec S16 32) (v163 : IVec S16 32) : Prop :=
  (∀ (k0_h1 : k0_cond1 i k0_t3 = 1#1), ∀ a x, ((![v162, v163, v76] : Fin 3 → IVec S16 32) a x).toNat < S8x8x1024.size a)
theorem k0_idx559_inb : ∀ (i : grid0.Coords) (k0_t3 : Fin k0_t3_loop.trips) (v76 : IVec S16 32) (v162 : IVec S16 32) (v163 : IVec S16 32) (k0_hw561 : k0_chk561 i k0_t3 v76 v162 v163), ∀ (k0_h1 : k0_cond1 i k0_t3 = 1#1), ∀ a x, ((![v162, v163, v76] : Fin 3 → IVec S16 32) a x).toNat < S8x8x1024.size a := fun i k0_t3 v76 v162 v163 k0_hw561 k0_h1 => k0_hw561 k0_h1

def k0_chk562 (i : grid0.Coords) (k0_t3 : Fin k0_t3_loop.trips) (v76 : IVec S16 32) (v164 : IVec S16 32) (v165 : IVec S16 32) : Prop :=
  (∀ (k0_h1 : k0_cond1 i k0_t3 = 1#1), ∀ a x, ((![v164, v165, v76] : Fin 3 → IVec S16 32) a x).toNat < S8x8x1024.size a)
theorem k0_idx560_inb : ∀ (i : grid0.Coords) (k0_t3 : Fin k0_t3_loop.trips) (v76 : IVec S16 32) (v164 : IVec S16 32) (v165 : IVec S16 32) (k0_hw562 : k0_chk562 i k0_t3 v76 v164 v165), ∀ (k0_h1 : k0_cond1 i k0_t3 = 1#1), ∀ a x, ((![v164, v165, v76] : Fin 3 → IVec S16 32) a x).toNat < S8x8x1024.size a := fun i k0_t3 v76 v164 v165 k0_hw562 k0_h1 => k0_hw562 k0_h1

def k0_chk563 (i : grid0.Coords) (k0_t3 : Fin k0_t3_loop.trips) (v76 : IVec S16 32) (v166 : IVec S16 32) (v167 : IVec S16 32) : Prop :=
  (∀ (k0_h1 : k0_cond1 i k0_t3 = 1#1), ∀ a x, ((![v166, v167, v76] : Fin 3 → IVec S16 32) a x).toNat < S8x8x1024.size a)
theorem k0_idx561_inb : ∀ (i : grid0.Coords) (k0_t3 : Fin k0_t3_loop.trips) (v76 : IVec S16 32) (v166 : IVec S16 32) (v167 : IVec S16 32) (k0_hw563 : k0_chk563 i k0_t3 v76 v166 v167), ∀ (k0_h1 : k0_cond1 i k0_t3 = 1#1), ∀ a x, ((![v166, v167, v76] : Fin 3 → IVec S16 32) a x).toNat < S8x8x1024.size a := fun i k0_t3 v76 v166 v167 k0_hw563 k0_h1 => k0_hw563 k0_h1

def k0_chk564 (i : grid0.Coords) (k0_t3 : Fin k0_t3_loop.trips) (v76 : IVec S16 32) (v168 : IVec S16 32) (v169 : IVec S16 32) : Prop :=
  (∀ (k0_h1 : k0_cond1 i k0_t3 = 1#1), ∀ a x, ((![v168, v169, v76] : Fin 3 → IVec S16 32) a x).toNat < S8x8x1024.size a)
theorem k0_idx562_inb : ∀ (i : grid0.Coords) (k0_t3 : Fin k0_t3_loop.trips) (v76 : IVec S16 32) (v168 : IVec S16 32) (v169 : IVec S16 32) (k0_hw564 : k0_chk564 i k0_t3 v76 v168 v169), ∀ (k0_h1 : k0_cond1 i k0_t3 = 1#1), ∀ a x, ((![v168, v169, v76] : Fin 3 → IVec S16 32) a x).toNat < S8x8x1024.size a := fun i k0_t3 v76 v168 v169 k0_hw564 k0_h1 => k0_hw564 k0_h1

def k0_chk565 (i : grid0.Coords) (k0_t3 : Fin k0_t3_loop.trips) (v76 : IVec S16 32) (v170 : IVec S16 32) (v171 : IVec S16 32) : Prop :=
  (∀ (k0_h1 : k0_cond1 i k0_t3 = 1#1), ∀ a x, ((![v170, v171, v76] : Fin 3 → IVec S16 32) a x).toNat < S8x8x1024.size a)
theorem k0_idx563_inb : ∀ (i : grid0.Coords) (k0_t3 : Fin k0_t3_loop.trips) (v76 : IVec S16 32) (v170 : IVec S16 32) (v171 : IVec S16 32) (k0_hw565 : k0_chk565 i k0_t3 v76 v170 v171), ∀ (k0_h1 : k0_cond1 i k0_t3 = 1#1), ∀ a x, ((![v170, v171, v76] : Fin 3 → IVec S16 32) a x).toNat < S8x8x1024.size a := fun i k0_t3 v76 v170 v171 k0_hw565 k0_h1 => k0_hw565 k0_h1

def k0_chk566 (i : grid0.Coords) (k0_t3 : Fin k0_t3_loop.trips) (v76 : IVec S16 32) (v172 : IVec S16 32) (v173 : IVec S16 32) : Prop :=
  (∀ (k0_h1 : k0_cond1 i k0_t3 = 1#1), ∀ a x, ((![v172, v173, v76] : Fin 3 → IVec S16 32) a x).toNat < S8x8x1024.size a)
theorem k0_idx564_inb : ∀ (i : grid0.Coords) (k0_t3 : Fin k0_t3_loop.trips) (v76 : IVec S16 32) (v172 : IVec S16 32) (v173 : IVec S16 32) (k0_hw566 : k0_chk566 i k0_t3 v76 v172 v173), ∀ (k0_h1 : k0_cond1 i k0_t3 = 1#1), ∀ a x, ((![v172, v173, v76] : Fin 3 → IVec S16 32) a x).toNat < S8x8x1024.size a := fun i k0_t3 v76 v172 v173 k0_hw566 k0_h1 => k0_hw566 k0_h1

def k0_chk567 (i : grid0.Coords) (k0_t3 : Fin k0_t3_loop.trips) (v76 : IVec S16 32) (v174 : IVec S16 32) (v175 : IVec S16 32) : Prop :=
  (∀ (k0_h1 : k0_cond1 i k0_t3 = 1#1), ∀ a x, ((![v174, v175, v76] : Fin 3 → IVec S16 32) a x).toNat < S8x8x1024.size a)
theorem k0_idx565_inb : ∀ (i : grid0.Coords) (k0_t3 : Fin k0_t3_loop.trips) (v76 : IVec S16 32) (v174 : IVec S16 32) (v175 : IVec S16 32) (k0_hw567 : k0_chk567 i k0_t3 v76 v174 v175), ∀ (k0_h1 : k0_cond1 i k0_t3 = 1#1), ∀ a x, ((![v174, v175, v76] : Fin 3 → IVec S16 32) a x).toNat < S8x8x1024.size a := fun i k0_t3 v76 v174 v175 k0_hw567 k0_h1 => k0_hw567 k0_h1

def k0_chk568 (i : grid0.Coords) (k0_t3 : Fin k0_t3_loop.trips) (v76 : IVec S16 32) (v176 : IVec S16 32) (v177 : IVec S16 32) : Prop :=
  (∀ (k0_h1 : k0_cond1 i k0_t3 = 1#1), ∀ a x, ((![v176, v177, v76] : Fin 3 → IVec S16 32) a x).toNat < S8x8x1024.size a)
theorem k0_idx566_inb : ∀ (i : grid0.Coords) (k0_t3 : Fin k0_t3_loop.trips) (v76 : IVec S16 32) (v176 : IVec S16 32) (v177 : IVec S16 32) (k0_hw568 : k0_chk568 i k0_t3 v76 v176 v177), ∀ (k0_h1 : k0_cond1 i k0_t3 = 1#1), ∀ a x, ((![v176, v177, v76] : Fin 3 → IVec S16 32) a x).toNat < S8x8x1024.size a := fun i k0_t3 v76 v176 v177 k0_hw568 k0_h1 => k0_hw568 k0_h1

def k0_chk569 (i : grid0.Coords) (k0_t3 : Fin k0_t3_loop.trips) (v76 : IVec S16 32) (v178 : IVec S16 32) (v179 : IVec S16 32) : Prop :=
  (∀ (k0_h1 : k0_cond1 i k0_t3 = 1#1), ∀ a x, ((![v178, v179, v76] : Fin 3 → IVec S16 32) a x).toNat < S8x8x1024.size a)
theorem k0_idx567_inb : ∀ (i : grid0.Coords) (k0_t3 : Fin k0_t3_loop.trips) (v76 : IVec S16 32) (v178 : IVec S16 32) (v179 : IVec S16 32) (k0_hw569 : k0_chk569 i k0_t3 v76 v178 v179), ∀ (k0_h1 : k0_cond1 i k0_t3 = 1#1), ∀ a x, ((![v178, v179, v76] : Fin 3 → IVec S16 32) a x).toNat < S8x8x1024.size a := fun i k0_t3 v76 v178 v179 k0_hw569 k0_h1 => k0_hw569 k0_h1

def k0_chk570 (i : grid0.Coords) (k0_t3 : Fin k0_t3_loop.trips) (v76 : IVec S16 32) (v180 : IVec S16 32) (v181 : IVec S16 32) : Prop :=
  (∀ (k0_h1 : k0_cond1 i k0_t3 = 1#1), ∀ a x, ((![v180, v181, v76] : Fin 3 → IVec S16 32) a x).toNat < S8x8x1024.size a)
theorem k0_idx568_inb : ∀ (i : grid0.Coords) (k0_t3 : Fin k0_t3_loop.trips) (v76 : IVec S16 32) (v180 : IVec S16 32) (v181 : IVec S16 32) (k0_hw570 : k0_chk570 i k0_t3 v76 v180 v181), ∀ (k0_h1 : k0_cond1 i k0_t3 = 1#1), ∀ a x, ((![v180, v181, v76] : Fin 3 → IVec S16 32) a x).toNat < S8x8x1024.size a := fun i k0_t3 v76 v180 v181 k0_hw570 k0_h1 => k0_hw570 k0_h1

def k0_chk571 (i : grid0.Coords) (k0_t3 : Fin k0_t3_loop.trips) (v76 : IVec S16 32) (v182 : IVec S16 32) (v183 : IVec S16 32) : Prop :=
  (∀ (k0_h1 : k0_cond1 i k0_t3 = 1#1), ∀ a x, ((![v182, v183, v76] : Fin 3 → IVec S16 32) a x).toNat < S8x8x1024.size a)
theorem k0_idx569_inb : ∀ (i : grid0.Coords) (k0_t3 : Fin k0_t3_loop.trips) (v76 : IVec S16 32) (v182 : IVec S16 32) (v183 : IVec S16 32) (k0_hw571 : k0_chk571 i k0_t3 v76 v182 v183), ∀ (k0_h1 : k0_cond1 i k0_t3 = 1#1), ∀ a x, ((![v182, v183, v76] : Fin 3 → IVec S16 32) a x).toNat < S8x8x1024.size a := fun i k0_t3 v76 v182 v183 k0_hw571 k0_h1 => k0_hw571 k0_h1

def k0_chk572 (i : grid0.Coords) (k0_t3 : Fin k0_t3_loop.trips) (v76 : IVec S16 32) (v184 : IVec S16 32) (v185 : IVec S16 32) : Prop :=
  (∀ (k0_h1 : k0_cond1 i k0_t3 = 1#1), ∀ a x, ((![v184, v185, v76] : Fin 3 → IVec S16 32) a x).toNat < S8x8x1024.size a)
theorem k0_idx570_inb : ∀ (i : grid0.Coords) (k0_t3 : Fin k0_t3_loop.trips) (v76 : IVec S16 32) (v184 : IVec S16 32) (v185 : IVec S16 32) (k0_hw572 : k0_chk572 i k0_t3 v76 v184 v185), ∀ (k0_h1 : k0_cond1 i k0_t3 = 1#1), ∀ a x, ((![v184, v185, v76] : Fin 3 → IVec S16 32) a x).toNat < S8x8x1024.size a := fun i k0_t3 v76 v184 v185 k0_hw572 k0_h1 => k0_hw572 k0_h1

def k0_chk573 (i : grid0.Coords) (k0_t3 : Fin k0_t3_loop.trips) (v76 : IVec S16 32) (v186 : IVec S16 32) (v187 : IVec S16 32) : Prop :=
  (∀ (k0_h1 : k0_cond1 i k0_t3 = 1#1), ∀ a x, ((![v186, v187, v76] : Fin 3 → IVec S16 32) a x).toNat < S8x8x1024.size a)
theorem k0_idx571_inb : ∀ (i : grid0.Coords) (k0_t3 : Fin k0_t3_loop.trips) (v76 : IVec S16 32) (v186 : IVec S16 32) (v187 : IVec S16 32) (k0_hw573 : k0_chk573 i k0_t3 v76 v186 v187), ∀ (k0_h1 : k0_cond1 i k0_t3 = 1#1), ∀ a x, ((![v186, v187, v76] : Fin 3 → IVec S16 32) a x).toNat < S8x8x1024.size a := fun i k0_t3 v76 v186 v187 k0_hw573 k0_h1 => k0_hw573 k0_h1

def k0_chk574 (i : grid0.Coords) (k0_t3 : Fin k0_t3_loop.trips) (v76 : IVec S16 32) (v188 : IVec S16 32) (v189 : IVec S16 32) : Prop :=
  (∀ (k0_h1 : k0_cond1 i k0_t3 = 1#1), ∀ a x, ((![v188, v189, v76] : Fin 3 → IVec S16 32) a x).toNat < S8x8x1024.size a)
theorem k0_idx572_inb : ∀ (i : grid0.Coords) (k0_t3 : Fin k0_t3_loop.trips) (v76 : IVec S16 32) (v188 : IVec S16 32) (v189 : IVec S16 32) (k0_hw574 : k0_chk574 i k0_t3 v76 v188 v189), ∀ (k0_h1 : k0_cond1 i k0_t3 = 1#1), ∀ a x, ((![v188, v189, v76] : Fin 3 → IVec S16 32) a x).toNat < S8x8x1024.size a := fun i k0_t3 v76 v188 v189 k0_hw574 k0_h1 => k0_hw574 k0_h1

def k0_chk575 (i : grid0.Coords) (k0_t3 : Fin k0_t3_loop.trips) (v76 : IVec S16 32) (v190 : IVec S16 32) (v191 : IVec S16 32) : Prop :=
  (∀ (k0_h1 : k0_cond1 i k0_t3 = 1#1), ∀ a x, ((![v190, v191, v76] : Fin 3 → IVec S16 32) a x).toNat < S8x8x1024.size a)
theorem k0_idx573_inb : ∀ (i : grid0.Coords) (k0_t3 : Fin k0_t3_loop.trips) (v76 : IVec S16 32) (v190 : IVec S16 32) (v191 : IVec S16 32) (k0_hw575 : k0_chk575 i k0_t3 v76 v190 v191), ∀ (k0_h1 : k0_cond1 i k0_t3 = 1#1), ∀ a x, ((![v190, v191, v76] : Fin 3 → IVec S16 32) a x).toNat < S8x8x1024.size a := fun i k0_t3 v76 v190 v191 k0_hw575 k0_h1 => k0_hw575 k0_h1

def k0_chk576 (i : grid0.Coords) (k0_t3 : Fin k0_t3_loop.trips) (v76 : IVec S16 32) (v192 : IVec S16 32) (v193 : IVec S16 32) : Prop :=
  (∀ (k0_h1 : k0_cond1 i k0_t3 = 1#1), ∀ a x, ((![v192, v193, v76] : Fin 3 → IVec S16 32) a x).toNat < S8x8x1024.size a)
theorem k0_idx574_inb : ∀ (i : grid0.Coords) (k0_t3 : Fin k0_t3_loop.trips) (v76 : IVec S16 32) (v192 : IVec S16 32) (v193 : IVec S16 32) (k0_hw576 : k0_chk576 i k0_t3 v76 v192 v193), ∀ (k0_h1 : k0_cond1 i k0_t3 = 1#1), ∀ a x, ((![v192, v193, v76] : Fin 3 → IVec S16 32) a x).toNat < S8x8x1024.size a := fun i k0_t3 v76 v192 v193 k0_hw576 k0_h1 => k0_hw576 k0_h1

def k0_chk577 (i : grid0.Coords) (k0_t3 : Fin k0_t3_loop.trips) (v76 : IVec S16 32) (v194 : IVec S16 32) (v195 : IVec S16 32) : Prop :=
  (∀ (k0_h1 : k0_cond1 i k0_t3 = 1#1), ∀ a x, ((![v194, v195, v76] : Fin 3 → IVec S16 32) a x).toNat < S8x8x1024.size a)
theorem k0_idx575_inb : ∀ (i : grid0.Coords) (k0_t3 : Fin k0_t3_loop.trips) (v76 : IVec S16 32) (v194 : IVec S16 32) (v195 : IVec S16 32) (k0_hw577 : k0_chk577 i k0_t3 v76 v194 v195), ∀ (k0_h1 : k0_cond1 i k0_t3 = 1#1), ∀ a x, ((![v194, v195, v76] : Fin 3 → IVec S16 32) a x).toNat < S8x8x1024.size a := fun i k0_t3 v76 v194 v195 k0_hw577 k0_h1 => k0_hw577 k0_h1

def k0_chk578 (i : grid0.Coords) (k0_t3 : Fin k0_t3_loop.trips) (v76 : IVec S16 32) (v196 : IVec S16 32) (v197 : IVec S16 32) : Prop :=
  (∀ (k0_h1 : k0_cond1 i k0_t3 = 1#1), ∀ a x, ((![v196, v197, v76] : Fin 3 → IVec S16 32) a x).toNat < S8x8x1024.size a)
theorem k0_idx576_inb : ∀ (i : grid0.Coords) (k0_t3 : Fin k0_t3_loop.trips) (v76 : IVec S16 32) (v196 : IVec S16 32) (v197 : IVec S16 32) (k0_hw578 : k0_chk578 i k0_t3 v76 v196 v197), ∀ (k0_h1 : k0_cond1 i k0_t3 = 1#1), ∀ a x, ((![v196, v197, v76] : Fin 3 → IVec S16 32) a x).toNat < S8x8x1024.size a := fun i k0_t3 v76 v196 v197 k0_hw578 k0_h1 => k0_hw578 k0_h1

def k0_chk579 (i : grid0.Coords) (k0_t3 : Fin k0_t3_loop.trips) (v76 : IVec S16 32) (v198 : IVec S16 32) (v199 : IVec S16 32) : Prop :=
  (∀ (k0_h1 : k0_cond1 i k0_t3 = 1#1), ∀ a x, ((![v198, v199, v76] : Fin 3 → IVec S16 32) a x).toNat < S8x8x1024.size a)
theorem k0_idx577_inb : ∀ (i : grid0.Coords) (k0_t3 : Fin k0_t3_loop.trips) (v76 : IVec S16 32) (v198 : IVec S16 32) (v199 : IVec S16 32) (k0_hw579 : k0_chk579 i k0_t3 v76 v198 v199), ∀ (k0_h1 : k0_cond1 i k0_t3 = 1#1), ∀ a x, ((![v198, v199, v76] : Fin 3 → IVec S16 32) a x).toNat < S8x8x1024.size a := fun i k0_t3 v76 v198 v199 k0_hw579 k0_h1 => k0_hw579 k0_h1

def k0_chk580 (i : grid0.Coords) (k0_t3 : Fin k0_t3_loop.trips) (v76 : IVec S16 32) (v200 : IVec S16 32) (v201 : IVec S16 32) : Prop :=
  (∀ (k0_h1 : k0_cond1 i k0_t3 = 1#1), ∀ a x, ((![v200, v201, v76] : Fin 3 → IVec S16 32) a x).toNat < S8x8x1024.size a)
theorem k0_idx578_inb : ∀ (i : grid0.Coords) (k0_t3 : Fin k0_t3_loop.trips) (v76 : IVec S16 32) (v200 : IVec S16 32) (v201 : IVec S16 32) (k0_hw580 : k0_chk580 i k0_t3 v76 v200 v201), ∀ (k0_h1 : k0_cond1 i k0_t3 = 1#1), ∀ a x, ((![v200, v201, v76] : Fin 3 → IVec S16 32) a x).toNat < S8x8x1024.size a := fun i k0_t3 v76 v200 v201 k0_hw580 k0_h1 => k0_hw580 k0_h1

def k0_chk581 (i : grid0.Coords) (k0_t3 : Fin k0_t3_loop.trips) (v76 : IVec S16 32) (v202 : IVec S16 32) (v203 : IVec S16 32) : Prop :=
  (∀ (k0_h1 : k0_cond1 i k0_t3 = 1#1), ∀ a x, ((![v202, v203, v76] : Fin 3 → IVec S16 32) a x).toNat < S8x8x1024.size a)
theorem k0_idx579_inb : ∀ (i : grid0.Coords) (k0_t3 : Fin k0_t3_loop.trips) (v76 : IVec S16 32) (v202 : IVec S16 32) (v203 : IVec S16 32) (k0_hw581 : k0_chk581 i k0_t3 v76 v202 v203), ∀ (k0_h1 : k0_cond1 i k0_t3 = 1#1), ∀ a x, ((![v202, v203, v76] : Fin 3 → IVec S16 32) a x).toNat < S8x8x1024.size a := fun i k0_t3 v76 v202 v203 k0_hw581 k0_h1 => k0_hw581 k0_h1

def k0_chk582 (i : grid0.Coords) (k0_t3 : Fin k0_t3_loop.trips) (v76 : IVec S16 32) (v204 : IVec S16 32) (v205 : IVec S16 32) : Prop :=
  (∀ (k0_h1 : k0_cond1 i k0_t3 = 1#1), ∀ a x, ((![v204, v205, v76] : Fin 3 → IVec S16 32) a x).toNat < S8x8x1024.size a)
theorem k0_idx580_inb : ∀ (i : grid0.Coords) (k0_t3 : Fin k0_t3_loop.trips) (v76 : IVec S16 32) (v204 : IVec S16 32) (v205 : IVec S16 32) (k0_hw582 : k0_chk582 i k0_t3 v76 v204 v205), ∀ (k0_h1 : k0_cond1 i k0_t3 = 1#1), ∀ a x, ((![v204, v205, v76] : Fin 3 → IVec S16 32) a x).toNat < S8x8x1024.size a := fun i k0_t3 v76 v204 v205 k0_hw582 k0_h1 => k0_hw582 k0_h1

def k0_chk583 (i : grid0.Coords) (k0_t3 : Fin k0_t3_loop.trips) (v76 : IVec S16 32) (v206 : IVec S16 32) (v207 : IVec S16 32) : Prop :=
  (∀ (k0_h1 : k0_cond1 i k0_t3 = 1#1), ∀ a x, ((![v206, v207, v76] : Fin 3 → IVec S16 32) a x).toNat < S8x8x1024.size a)
theorem k0_idx581_inb : ∀ (i : grid0.Coords) (k0_t3 : Fin k0_t3_loop.trips) (v76 : IVec S16 32) (v206 : IVec S16 32) (v207 : IVec S16 32) (k0_hw583 : k0_chk583 i k0_t3 v76 v206 v207), ∀ (k0_h1 : k0_cond1 i k0_t3 = 1#1), ∀ a x, ((![v206, v207, v76] : Fin 3 → IVec S16 32) a x).toNat < S8x8x1024.size a := fun i k0_t3 v76 v206 v207 k0_hw583 k0_h1 => k0_hw583 k0_h1

def k0_chk584 (i : grid0.Coords) (k0_t3 : Fin k0_t3_loop.trips) (v76 : IVec S16 32) (v208 : IVec S16 32) (v209 : IVec S16 32) : Prop :=
  (∀ (k0_h1 : k0_cond1 i k0_t3 = 1#1), ∀ a x, ((![v208, v209, v76] : Fin 3 → IVec S16 32) a x).toNat < S8x8x1024.size a)
theorem k0_idx582_inb : ∀ (i : grid0.Coords) (k0_t3 : Fin k0_t3_loop.trips) (v76 : IVec S16 32) (v208 : IVec S16 32) (v209 : IVec S16 32) (k0_hw584 : k0_chk584 i k0_t3 v76 v208 v209), ∀ (k0_h1 : k0_cond1 i k0_t3 = 1#1), ∀ a x, ((![v208, v209, v76] : Fin 3 → IVec S16 32) a x).toNat < S8x8x1024.size a := fun i k0_t3 v76 v208 v209 k0_hw584 k0_h1 => k0_hw584 k0_h1
def k0_off92 (v32 : BitVec 32) (k0_t8 : Fin (k0_t8_loop v32).trips) : Fin 1 → Nat :=
  let c0_i32_38 : BitVec 32 := 0#32
  let c1_i32_41 : BitVec 32 := 1#32
  let arg14 : BitVec 32 := Scf.iv c0_i32_38 c1_i32_41 k0_t8
  let c32_i32_43 : BitVec 32 := 32#32
  let v71 : BitVec 32 := Scalar.muli arg14 c32_i32_43
  let c16_i32 : BitVec 32 := 16#32
  let v210 : BitVec 32 := Scalar.addi v71 c16_i32
  let v211 : Index := Scalar.indexCast v210
  ![v211.toNat]

def k0_chk585 (i : grid0.Coords) (k0_t3 : Fin k0_t3_loop.trips) (v214 : IVec S16 32) (v220 : IVec S16 32) (v221 : IVec S16 32) : Prop :=
  (∀ (k0_h1 : k0_cond1 i k0_t3 = 1#1), ∀ a x, ((![v220, v221, v214] : Fin 3 → IVec S16 32) a x).toNat < S8x8x1024.size a)
theorem k0_idx583_inb : ∀ (i : grid0.Coords) (k0_t3 : Fin k0_t3_loop.trips) (v214 : IVec S16 32) (v220 : IVec S16 32) (v221 : IVec S16 32) (k0_hw585 : k0_chk585 i k0_t3 v214 v220 v221), ∀ (k0_h1 : k0_cond1 i k0_t3 = 1#1), ∀ a x, ((![v220, v221, v214] : Fin 3 → IVec S16 32) a x).toNat < S8x8x1024.size a := fun i k0_t3 v214 v220 v221 k0_hw585 k0_h1 => k0_hw585 k0_h1

def k0_chk586 (i : grid0.Coords) (k0_t3 : Fin k0_t3_loop.trips) (v214 : IVec S16 32) (v222 : IVec S16 32) (v223 : IVec S16 32) : Prop :=
  (∀ (k0_h1 : k0_cond1 i k0_t3 = 1#1), ∀ a x, ((![v222, v223, v214] : Fin 3 → IVec S16 32) a x).toNat < S8x8x1024.size a)
theorem k0_idx584_inb : ∀ (i : grid0.Coords) (k0_t3 : Fin k0_t3_loop.trips) (v214 : IVec S16 32) (v222 : IVec S16 32) (v223 : IVec S16 32) (k0_hw586 : k0_chk586 i k0_t3 v214 v222 v223), ∀ (k0_h1 : k0_cond1 i k0_t3 = 1#1), ∀ a x, ((![v222, v223, v214] : Fin 3 → IVec S16 32) a x).toNat < S8x8x1024.size a := fun i k0_t3 v214 v222 v223 k0_hw586 k0_h1 => k0_hw586 k0_h1

def k0_chk587 (i : grid0.Coords) (k0_t3 : Fin k0_t3_loop.trips) (v214 : IVec S16 32) (v224 : IVec S16 32) (v225 : IVec S16 32) : Prop :=
  (∀ (k0_h1 : k0_cond1 i k0_t3 = 1#1), ∀ a x, ((![v224, v225, v214] : Fin 3 → IVec S16 32) a x).toNat < S8x8x1024.size a)
theorem k0_idx585_inb : ∀ (i : grid0.Coords) (k0_t3 : Fin k0_t3_loop.trips) (v214 : IVec S16 32) (v224 : IVec S16 32) (v225 : IVec S16 32) (k0_hw587 : k0_chk587 i k0_t3 v214 v224 v225), ∀ (k0_h1 : k0_cond1 i k0_t3 = 1#1), ∀ a x, ((![v224, v225, v214] : Fin 3 → IVec S16 32) a x).toNat < S8x8x1024.size a := fun i k0_t3 v214 v224 v225 k0_hw587 k0_h1 => k0_hw587 k0_h1

def k0_chk588 (i : grid0.Coords) (k0_t3 : Fin k0_t3_loop.trips) (v214 : IVec S16 32) (v226 : IVec S16 32) (v227 : IVec S16 32) : Prop :=
  (∀ (k0_h1 : k0_cond1 i k0_t3 = 1#1), ∀ a x, ((![v226, v227, v214] : Fin 3 → IVec S16 32) a x).toNat < S8x8x1024.size a)
theorem k0_idx586_inb : ∀ (i : grid0.Coords) (k0_t3 : Fin k0_t3_loop.trips) (v214 : IVec S16 32) (v226 : IVec S16 32) (v227 : IVec S16 32) (k0_hw588 : k0_chk588 i k0_t3 v214 v226 v227), ∀ (k0_h1 : k0_cond1 i k0_t3 = 1#1), ∀ a x, ((![v226, v227, v214] : Fin 3 → IVec S16 32) a x).toNat < S8x8x1024.size a := fun i k0_t3 v214 v226 v227 k0_hw588 k0_h1 => k0_hw588 k0_h1

def k0_chk589 (i : grid0.Coords) (k0_t3 : Fin k0_t3_loop.trips) (v214 : IVec S16 32) (v228 : IVec S16 32) (v229 : IVec S16 32) : Prop :=
  (∀ (k0_h1 : k0_cond1 i k0_t3 = 1#1), ∀ a x, ((![v228, v229, v214] : Fin 3 → IVec S16 32) a x).toNat < S8x8x1024.size a)
theorem k0_idx587_inb : ∀ (i : grid0.Coords) (k0_t3 : Fin k0_t3_loop.trips) (v214 : IVec S16 32) (v228 : IVec S16 32) (v229 : IVec S16 32) (k0_hw589 : k0_chk589 i k0_t3 v214 v228 v229), ∀ (k0_h1 : k0_cond1 i k0_t3 = 1#1), ∀ a x, ((![v228, v229, v214] : Fin 3 → IVec S16 32) a x).toNat < S8x8x1024.size a := fun i k0_t3 v214 v228 v229 k0_hw589 k0_h1 => k0_hw589 k0_h1

def k0_chk590 (i : grid0.Coords) (k0_t3 : Fin k0_t3_loop.trips) (v214 : IVec S16 32) (v230 : IVec S16 32) (v231 : IVec S16 32) : Prop :=
  (∀ (k0_h1 : k0_cond1 i k0_t3 = 1#1), ∀ a x, ((![v230, v231, v214] : Fin 3 → IVec S16 32) a x).toNat < S8x8x1024.size a)
theorem k0_idx588_inb : ∀ (i : grid0.Coords) (k0_t3 : Fin k0_t3_loop.trips) (v214 : IVec S16 32) (v230 : IVec S16 32) (v231 : IVec S16 32) (k0_hw590 : k0_chk590 i k0_t3 v214 v230 v231), ∀ (k0_h1 : k0_cond1 i k0_t3 = 1#1), ∀ a x, ((![v230, v231, v214] : Fin 3 → IVec S16 32) a x).toNat < S8x8x1024.size a := fun i k0_t3 v214 v230 v231 k0_hw590 k0_h1 => k0_hw590 k0_h1

def k0_chk591 (i : grid0.Coords) (k0_t3 : Fin k0_t3_loop.trips) (v214 : IVec S16 32) (v232 : IVec S16 32) (v233 : IVec S16 32) : Prop :=
  (∀ (k0_h1 : k0_cond1 i k0_t3 = 1#1), ∀ a x, ((![v232, v233, v214] : Fin 3 → IVec S16 32) a x).toNat < S8x8x1024.size a)
theorem k0_idx589_inb : ∀ (i : grid0.Coords) (k0_t3 : Fin k0_t3_loop.trips) (v214 : IVec S16 32) (v232 : IVec S16 32) (v233 : IVec S16 32) (k0_hw591 : k0_chk591 i k0_t3 v214 v232 v233), ∀ (k0_h1 : k0_cond1 i k0_t3 = 1#1), ∀ a x, ((![v232, v233, v214] : Fin 3 → IVec S16 32) a x).toNat < S8x8x1024.size a := fun i k0_t3 v214 v232 v233 k0_hw591 k0_h1 => k0_hw591 k0_h1

def k0_chk592 (i : grid0.Coords) (k0_t3 : Fin k0_t3_loop.trips) (v214 : IVec S16 32) (v234 : IVec S16 32) (v235 : IVec S16 32) : Prop :=
  (∀ (k0_h1 : k0_cond1 i k0_t3 = 1#1), ∀ a x, ((![v234, v235, v214] : Fin 3 → IVec S16 32) a x).toNat < S8x8x1024.size a)
theorem k0_idx590_inb : ∀ (i : grid0.Coords) (k0_t3 : Fin k0_t3_loop.trips) (v214 : IVec S16 32) (v234 : IVec S16 32) (v235 : IVec S16 32) (k0_hw592 : k0_chk592 i k0_t3 v214 v234 v235), ∀ (k0_h1 : k0_cond1 i k0_t3 = 1#1), ∀ a x, ((![v234, v235, v214] : Fin 3 → IVec S16 32) a x).toNat < S8x8x1024.size a := fun i k0_t3 v214 v234 v235 k0_hw592 k0_h1 => k0_hw592 k0_h1

def k0_chk593 (i : grid0.Coords) (k0_t3 : Fin k0_t3_loop.trips) (v214 : IVec S16 32) (v236 : IVec S16 32) (v237 : IVec S16 32) : Prop :=
  (∀ (k0_h1 : k0_cond1 i k0_t3 = 1#1), ∀ a x, ((![v236, v237, v214] : Fin 3 → IVec S16 32) a x).toNat < S8x8x1024.size a)
theorem k0_idx591_inb : ∀ (i : grid0.Coords) (k0_t3 : Fin k0_t3_loop.trips) (v214 : IVec S16 32) (v236 : IVec S16 32) (v237 : IVec S16 32) (k0_hw593 : k0_chk593 i k0_t3 v214 v236 v237), ∀ (k0_h1 : k0_cond1 i k0_t3 = 1#1), ∀ a x, ((![v236, v237, v214] : Fin 3 → IVec S16 32) a x).toNat < S8x8x1024.size a := fun i k0_t3 v214 v236 v237 k0_hw593 k0_h1 => k0_hw593 k0_h1

def k0_chk594 (i : grid0.Coords) (k0_t3 : Fin k0_t3_loop.trips) (v214 : IVec S16 32) (v238 : IVec S16 32) (v239 : IVec S16 32) : Prop :=
  (∀ (k0_h1 : k0_cond1 i k0_t3 = 1#1), ∀ a x, ((![v238, v239, v214] : Fin 3 → IVec S16 32) a x).toNat < S8x8x1024.size a)
theorem k0_idx592_inb : ∀ (i : grid0.Coords) (k0_t3 : Fin k0_t3_loop.trips) (v214 : IVec S16 32) (v238 : IVec S16 32) (v239 : IVec S16 32) (k0_hw594 : k0_chk594 i k0_t3 v214 v238 v239), ∀ (k0_h1 : k0_cond1 i k0_t3 = 1#1), ∀ a x, ((![v238, v239, v214] : Fin 3 → IVec S16 32) a x).toNat < S8x8x1024.size a := fun i k0_t3 v214 v238 v239 k0_hw594 k0_h1 => k0_hw594 k0_h1

def k0_chk595 (i : grid0.Coords) (k0_t3 : Fin k0_t3_loop.trips) (v214 : IVec S16 32) (v240 : IVec S16 32) (v241 : IVec S16 32) : Prop :=
  (∀ (k0_h1 : k0_cond1 i k0_t3 = 1#1), ∀ a x, ((![v240, v241, v214] : Fin 3 → IVec S16 32) a x).toNat < S8x8x1024.size a)
theorem k0_idx593_inb : ∀ (i : grid0.Coords) (k0_t3 : Fin k0_t3_loop.trips) (v214 : IVec S16 32) (v240 : IVec S16 32) (v241 : IVec S16 32) (k0_hw595 : k0_chk595 i k0_t3 v214 v240 v241), ∀ (k0_h1 : k0_cond1 i k0_t3 = 1#1), ∀ a x, ((![v240, v241, v214] : Fin 3 → IVec S16 32) a x).toNat < S8x8x1024.size a := fun i k0_t3 v214 v240 v241 k0_hw595 k0_h1 => k0_hw595 k0_h1

def k0_chk596 (i : grid0.Coords) (k0_t3 : Fin k0_t3_loop.trips) (v214 : IVec S16 32) (v242 : IVec S16 32) (v243 : IVec S16 32) : Prop :=
  (∀ (k0_h1 : k0_cond1 i k0_t3 = 1#1), ∀ a x, ((![v242, v243, v214] : Fin 3 → IVec S16 32) a x).toNat < S8x8x1024.size a)
theorem k0_idx594_inb : ∀ (i : grid0.Coords) (k0_t3 : Fin k0_t3_loop.trips) (v214 : IVec S16 32) (v242 : IVec S16 32) (v243 : IVec S16 32) (k0_hw596 : k0_chk596 i k0_t3 v214 v242 v243), ∀ (k0_h1 : k0_cond1 i k0_t3 = 1#1), ∀ a x, ((![v242, v243, v214] : Fin 3 → IVec S16 32) a x).toNat < S8x8x1024.size a := fun i k0_t3 v214 v242 v243 k0_hw596 k0_h1 => k0_hw596 k0_h1

def k0_chk597 (i : grid0.Coords) (k0_t3 : Fin k0_t3_loop.trips) (v214 : IVec S16 32) (v244 : IVec S16 32) (v245 : IVec S16 32) : Prop :=
  (∀ (k0_h1 : k0_cond1 i k0_t3 = 1#1), ∀ a x, ((![v244, v245, v214] : Fin 3 → IVec S16 32) a x).toNat < S8x8x1024.size a)
theorem k0_idx595_inb : ∀ (i : grid0.Coords) (k0_t3 : Fin k0_t3_loop.trips) (v214 : IVec S16 32) (v244 : IVec S16 32) (v245 : IVec S16 32) (k0_hw597 : k0_chk597 i k0_t3 v214 v244 v245), ∀ (k0_h1 : k0_cond1 i k0_t3 = 1#1), ∀ a x, ((![v244, v245, v214] : Fin 3 → IVec S16 32) a x).toNat < S8x8x1024.size a := fun i k0_t3 v214 v244 v245 k0_hw597 k0_h1 => k0_hw597 k0_h1

def k0_chk598 (i : grid0.Coords) (k0_t3 : Fin k0_t3_loop.trips) (v214 : IVec S16 32) (v246 : IVec S16 32) (v247 : IVec S16 32) : Prop :=
  (∀ (k0_h1 : k0_cond1 i k0_t3 = 1#1), ∀ a x, ((![v246, v247, v214] : Fin 3 → IVec S16 32) a x).toNat < S8x8x1024.size a)
theorem k0_idx596_inb : ∀ (i : grid0.Coords) (k0_t3 : Fin k0_t3_loop.trips) (v214 : IVec S16 32) (v246 : IVec S16 32) (v247 : IVec S16 32) (k0_hw598 : k0_chk598 i k0_t3 v214 v246 v247), ∀ (k0_h1 : k0_cond1 i k0_t3 = 1#1), ∀ a x, ((![v246, v247, v214] : Fin 3 → IVec S16 32) a x).toNat < S8x8x1024.size a := fun i k0_t3 v214 v246 v247 k0_hw598 k0_h1 => k0_hw598 k0_h1

def k0_chk599 (i : grid0.Coords) (k0_t3 : Fin k0_t3_loop.trips) (v214 : IVec S16 32) (v248 : IVec S16 32) (v249 : IVec S16 32) : Prop :=
  (∀ (k0_h1 : k0_cond1 i k0_t3 = 1#1), ∀ a x, ((![v248, v249, v214] : Fin 3 → IVec S16 32) a x).toNat < S8x8x1024.size a)
theorem k0_idx597_inb : ∀ (i : grid0.Coords) (k0_t3 : Fin k0_t3_loop.trips) (v214 : IVec S16 32) (v248 : IVec S16 32) (v249 : IVec S16 32) (k0_hw599 : k0_chk599 i k0_t3 v214 v248 v249), ∀ (k0_h1 : k0_cond1 i k0_t3 = 1#1), ∀ a x, ((![v248, v249, v214] : Fin 3 → IVec S16 32) a x).toNat < S8x8x1024.size a := fun i k0_t3 v214 v248 v249 k0_hw599 k0_h1 => k0_hw599 k0_h1

def k0_chk600 (i : grid0.Coords) (k0_t3 : Fin k0_t3_loop.trips) (v214 : IVec S16 32) (v250 : IVec S16 32) (v251 : IVec S16 32) : Prop :=
  (∀ (k0_h1 : k0_cond1 i k0_t3 = 1#1), ∀ a x, ((![v250, v251, v214] : Fin 3 → IVec S16 32) a x).toNat < S8x8x1024.size a)
theorem k0_idx598_inb : ∀ (i : grid0.Coords) (k0_t3 : Fin k0_t3_loop.trips) (v214 : IVec S16 32) (v250 : IVec S16 32) (v251 : IVec S16 32) (k0_hw600 : k0_chk600 i k0_t3 v214 v250 v251), ∀ (k0_h1 : k0_cond1 i k0_t3 = 1#1), ∀ a x, ((![v250, v251, v214] : Fin 3 → IVec S16 32) a x).toNat < S8x8x1024.size a := fun i k0_t3 v214 v250 v251 k0_hw600 k0_h1 => k0_hw600 k0_h1

def k0_chk601 (i : grid0.Coords) (k0_t3 : Fin k0_t3_loop.trips) (v214 : IVec S16 32) (v252 : IVec S16 32) (v253 : IVec S16 32) : Prop :=
  (∀ (k0_h1 : k0_cond1 i k0_t3 = 1#1), ∀ a x, ((![v252, v253, v214] : Fin 3 → IVec S16 32) a x).toNat < S8x8x1024.size a)
theorem k0_idx599_inb : ∀ (i : grid0.Coords) (k0_t3 : Fin k0_t3_loop.trips) (v214 : IVec S16 32) (v252 : IVec S16 32) (v253 : IVec S16 32) (k0_hw601 : k0_chk601 i k0_t3 v214 v252 v253), ∀ (k0_h1 : k0_cond1 i k0_t3 = 1#1), ∀ a x, ((![v252, v253, v214] : Fin 3 → IVec S16 32) a x).toNat < S8x8x1024.size a := fun i k0_t3 v214 v252 v253 k0_hw601 k0_h1 => k0_hw601 k0_h1

def k0_chk602 (i : grid0.Coords) (k0_t3 : Fin k0_t3_loop.trips) (v214 : IVec S16 32) (v254 : IVec S16 32) (v255 : IVec S16 32) : Prop :=
  (∀ (k0_h1 : k0_cond1 i k0_t3 = 1#1), ∀ a x, ((![v254, v255, v214] : Fin 3 → IVec S16 32) a x).toNat < S8x8x1024.size a)
theorem k0_idx600_inb : ∀ (i : grid0.Coords) (k0_t3 : Fin k0_t3_loop.trips) (v214 : IVec S16 32) (v254 : IVec S16 32) (v255 : IVec S16 32) (k0_hw602 : k0_chk602 i k0_t3 v214 v254 v255), ∀ (k0_h1 : k0_cond1 i k0_t3 = 1#1), ∀ a x, ((![v254, v255, v214] : Fin 3 → IVec S16 32) a x).toNat < S8x8x1024.size a := fun i k0_t3 v214 v254 v255 k0_hw602 k0_h1 => k0_hw602 k0_h1

def k0_chk603 (i : grid0.Coords) (k0_t3 : Fin k0_t3_loop.trips) (v214 : IVec S16 32) (v256 : IVec S16 32) (v257 : IVec S16 32) : Prop :=
  (∀ (k0_h1 : k0_cond1 i k0_t3 = 1#1), ∀ a x, ((![v256, v257, v214] : Fin 3 → IVec S16 32) a x).toNat < S8x8x1024.size a)
theorem k0_idx601_inb : ∀ (i : grid0.Coords) (k0_t3 : Fin k0_t3_loop.trips) (v214 : IVec S16 32) (v256 : IVec S16 32) (v257 : IVec S16 32) (k0_hw603 : k0_chk603 i k0_t3 v214 v256 v257), ∀ (k0_h1 : k0_cond1 i k0_t3 = 1#1), ∀ a x, ((![v256, v257, v214] : Fin 3 → IVec S16 32) a x).toNat < S8x8x1024.size a := fun i k0_t3 v214 v256 v257 k0_hw603 k0_h1 => k0_hw603 k0_h1

def k0_chk604 (i : grid0.Coords) (k0_t3 : Fin k0_t3_loop.trips) (v214 : IVec S16 32) (v258 : IVec S16 32) (v259 : IVec S16 32) : Prop :=
  (∀ (k0_h1 : k0_cond1 i k0_t3 = 1#1), ∀ a x, ((![v258, v259, v214] : Fin 3 → IVec S16 32) a x).toNat < S8x8x1024.size a)
theorem k0_idx602_inb : ∀ (i : grid0.Coords) (k0_t3 : Fin k0_t3_loop.trips) (v214 : IVec S16 32) (v258 : IVec S16 32) (v259 : IVec S16 32) (k0_hw604 : k0_chk604 i k0_t3 v214 v258 v259), ∀ (k0_h1 : k0_cond1 i k0_t3 = 1#1), ∀ a x, ((![v258, v259, v214] : Fin 3 → IVec S16 32) a x).toNat < S8x8x1024.size a := fun i k0_t3 v214 v258 v259 k0_hw604 k0_h1 => k0_hw604 k0_h1

def k0_chk605 (i : grid0.Coords) (k0_t3 : Fin k0_t3_loop.trips) (v214 : IVec S16 32) (v260 : IVec S16 32) (v261 : IVec S16 32) : Prop :=
  (∀ (k0_h1 : k0_cond1 i k0_t3 = 1#1), ∀ a x, ((![v260, v261, v214] : Fin 3 → IVec S16 32) a x).toNat < S8x8x1024.size a)
theorem k0_idx603_inb : ∀ (i : grid0.Coords) (k0_t3 : Fin k0_t3_loop.trips) (v214 : IVec S16 32) (v260 : IVec S16 32) (v261 : IVec S16 32) (k0_hw605 : k0_chk605 i k0_t3 v214 v260 v261), ∀ (k0_h1 : k0_cond1 i k0_t3 = 1#1), ∀ a x, ((![v260, v261, v214] : Fin 3 → IVec S16 32) a x).toNat < S8x8x1024.size a := fun i k0_t3 v214 v260 v261 k0_hw605 k0_h1 => k0_hw605 k0_h1

def k0_chk606 (i : grid0.Coords) (k0_t3 : Fin k0_t3_loop.trips) (v214 : IVec S16 32) (v262 : IVec S16 32) (v263 : IVec S16 32) : Prop :=
  (∀ (k0_h1 : k0_cond1 i k0_t3 = 1#1), ∀ a x, ((![v262, v263, v214] : Fin 3 → IVec S16 32) a x).toNat < S8x8x1024.size a)
theorem k0_idx604_inb : ∀ (i : grid0.Coords) (k0_t3 : Fin k0_t3_loop.trips) (v214 : IVec S16 32) (v262 : IVec S16 32) (v263 : IVec S16 32) (k0_hw606 : k0_chk606 i k0_t3 v214 v262 v263), ∀ (k0_h1 : k0_cond1 i k0_t3 = 1#1), ∀ a x, ((![v262, v263, v214] : Fin 3 → IVec S16 32) a x).toNat < S8x8x1024.size a := fun i k0_t3 v214 v262 v263 k0_hw606 k0_h1 => k0_hw606 k0_h1

def k0_chk607 (i : grid0.Coords) (k0_t3 : Fin k0_t3_loop.trips) (v214 : IVec S16 32) (v264 : IVec S16 32) (v265 : IVec S16 32) : Prop :=
  (∀ (k0_h1 : k0_cond1 i k0_t3 = 1#1), ∀ a x, ((![v264, v265, v214] : Fin 3 → IVec S16 32) a x).toNat < S8x8x1024.size a)
theorem k0_idx605_inb : ∀ (i : grid0.Coords) (k0_t3 : Fin k0_t3_loop.trips) (v214 : IVec S16 32) (v264 : IVec S16 32) (v265 : IVec S16 32) (k0_hw607 : k0_chk607 i k0_t3 v214 v264 v265), ∀ (k0_h1 : k0_cond1 i k0_t3 = 1#1), ∀ a x, ((![v264, v265, v214] : Fin 3 → IVec S16 32) a x).toNat < S8x8x1024.size a := fun i k0_t3 v214 v264 v265 k0_hw607 k0_h1 => k0_hw607 k0_h1

def k0_chk608 (i : grid0.Coords) (k0_t3 : Fin k0_t3_loop.trips) (v214 : IVec S16 32) (v266 : IVec S16 32) (v267 : IVec S16 32) : Prop :=
  (∀ (k0_h1 : k0_cond1 i k0_t3 = 1#1), ∀ a x, ((![v266, v267, v214] : Fin 3 → IVec S16 32) a x).toNat < S8x8x1024.size a)
theorem k0_idx606_inb : ∀ (i : grid0.Coords) (k0_t3 : Fin k0_t3_loop.trips) (v214 : IVec S16 32) (v266 : IVec S16 32) (v267 : IVec S16 32) (k0_hw608 : k0_chk608 i k0_t3 v214 v266 v267), ∀ (k0_h1 : k0_cond1 i k0_t3 = 1#1), ∀ a x, ((![v266, v267, v214] : Fin 3 → IVec S16 32) a x).toNat < S8x8x1024.size a := fun i k0_t3 v214 v266 v267 k0_hw608 k0_h1 => k0_hw608 k0_h1

def k0_chk609 (i : grid0.Coords) (k0_t3 : Fin k0_t3_loop.trips) (v214 : IVec S16 32) (v268 : IVec S16 32) (v269 : IVec S16 32) : Prop :=
  (∀ (k0_h1 : k0_cond1 i k0_t3 = 1#1), ∀ a x, ((![v268, v269, v214] : Fin 3 → IVec S16 32) a x).toNat < S8x8x1024.size a)
theorem k0_idx607_inb : ∀ (i : grid0.Coords) (k0_t3 : Fin k0_t3_loop.trips) (v214 : IVec S16 32) (v268 : IVec S16 32) (v269 : IVec S16 32) (k0_hw609 : k0_chk609 i k0_t3 v214 v268 v269), ∀ (k0_h1 : k0_cond1 i k0_t3 = 1#1), ∀ a x, ((![v268, v269, v214] : Fin 3 → IVec S16 32) a x).toNat < S8x8x1024.size a := fun i k0_t3 v214 v268 v269 k0_hw609 k0_h1 => k0_hw609 k0_h1

def k0_chk610 (i : grid0.Coords) (k0_t3 : Fin k0_t3_loop.trips) (v214 : IVec S16 32) (v270 : IVec S16 32) (v271 : IVec S16 32) : Prop :=
  (∀ (k0_h1 : k0_cond1 i k0_t3 = 1#1), ∀ a x, ((![v270, v271, v214] : Fin 3 → IVec S16 32) a x).toNat < S8x8x1024.size a)
theorem k0_idx608_inb : ∀ (i : grid0.Coords) (k0_t3 : Fin k0_t3_loop.trips) (v214 : IVec S16 32) (v270 : IVec S16 32) (v271 : IVec S16 32) (k0_hw610 : k0_chk610 i k0_t3 v214 v270 v271), ∀ (k0_h1 : k0_cond1 i k0_t3 = 1#1), ∀ a x, ((![v270, v271, v214] : Fin 3 → IVec S16 32) a x).toNat < S8x8x1024.size a := fun i k0_t3 v214 v270 v271 k0_hw610 k0_h1 => k0_hw610 k0_h1

def k0_chk611 (i : grid0.Coords) (k0_t3 : Fin k0_t3_loop.trips) (v214 : IVec S16 32) (v272 : IVec S16 32) (v273 : IVec S16 32) : Prop :=
  (∀ (k0_h1 : k0_cond1 i k0_t3 = 1#1), ∀ a x, ((![v272, v273, v214] : Fin 3 → IVec S16 32) a x).toNat < S8x8x1024.size a)
theorem k0_idx609_inb : ∀ (i : grid0.Coords) (k0_t3 : Fin k0_t3_loop.trips) (v214 : IVec S16 32) (v272 : IVec S16 32) (v273 : IVec S16 32) (k0_hw611 : k0_chk611 i k0_t3 v214 v272 v273), ∀ (k0_h1 : k0_cond1 i k0_t3 = 1#1), ∀ a x, ((![v272, v273, v214] : Fin 3 → IVec S16 32) a x).toNat < S8x8x1024.size a := fun i k0_t3 v214 v272 v273 k0_hw611 k0_h1 => k0_hw611 k0_h1

def k0_chk612 (i : grid0.Coords) (k0_t3 : Fin k0_t3_loop.trips) (v214 : IVec S16 32) (v274 : IVec S16 32) (v275 : IVec S16 32) : Prop :=
  (∀ (k0_h1 : k0_cond1 i k0_t3 = 1#1), ∀ a x, ((![v274, v275, v214] : Fin 3 → IVec S16 32) a x).toNat < S8x8x1024.size a)
theorem k0_idx610_inb : ∀ (i : grid0.Coords) (k0_t3 : Fin k0_t3_loop.trips) (v214 : IVec S16 32) (v274 : IVec S16 32) (v275 : IVec S16 32) (k0_hw612 : k0_chk612 i k0_t3 v214 v274 v275), ∀ (k0_h1 : k0_cond1 i k0_t3 = 1#1), ∀ a x, ((![v274, v275, v214] : Fin 3 → IVec S16 32) a x).toNat < S8x8x1024.size a := fun i k0_t3 v214 v274 v275 k0_hw612 k0_h1 => k0_hw612 k0_h1

def k0_chk613 (i : grid0.Coords) (k0_t3 : Fin k0_t3_loop.trips) (v214 : IVec S16 32) (v276 : IVec S16 32) (v277 : IVec S16 32) : Prop :=
  (∀ (k0_h1 : k0_cond1 i k0_t3 = 1#1), ∀ a x, ((![v276, v277, v214] : Fin 3 → IVec S16 32) a x).toNat < S8x8x1024.size a)
theorem k0_idx611_inb : ∀ (i : grid0.Coords) (k0_t3 : Fin k0_t3_loop.trips) (v214 : IVec S16 32) (v276 : IVec S16 32) (v277 : IVec S16 32) (k0_hw613 : k0_chk613 i k0_t3 v214 v276 v277), ∀ (k0_h1 : k0_cond1 i k0_t3 = 1#1), ∀ a x, ((![v276, v277, v214] : Fin 3 → IVec S16 32) a x).toNat < S8x8x1024.size a := fun i k0_t3 v214 v276 v277 k0_hw613 k0_h1 => k0_hw613 k0_h1

def k0_chk614 (i : grid0.Coords) (k0_t3 : Fin k0_t3_loop.trips) (v214 : IVec S16 32) (v278 : IVec S16 32) (v279 : IVec S16 32) : Prop :=
  (∀ (k0_h1 : k0_cond1 i k0_t3 = 1#1), ∀ a x, ((![v278, v279, v214] : Fin 3 → IVec S16 32) a x).toNat < S8x8x1024.size a)
theorem k0_idx612_inb : ∀ (i : grid0.Coords) (k0_t3 : Fin k0_t3_loop.trips) (v214 : IVec S16 32) (v278 : IVec S16 32) (v279 : IVec S16 32) (k0_hw614 : k0_chk614 i k0_t3 v214 v278 v279), ∀ (k0_h1 : k0_cond1 i k0_t3 = 1#1), ∀ a x, ((![v278, v279, v214] : Fin 3 → IVec S16 32) a x).toNat < S8x8x1024.size a := fun i k0_t3 v214 v278 v279 k0_hw614 k0_h1 => k0_hw614 k0_h1

def k0_chk615 (i : grid0.Coords) (k0_t3 : Fin k0_t3_loop.trips) (v214 : IVec S16 32) (v280 : IVec S16 32) (v281 : IVec S16 32) : Prop :=
  (∀ (k0_h1 : k0_cond1 i k0_t3 = 1#1), ∀ a x, ((![v280, v281, v214] : Fin 3 → IVec S16 32) a x).toNat < S8x8x1024.size a)
theorem k0_idx613_inb : ∀ (i : grid0.Coords) (k0_t3 : Fin k0_t3_loop.trips) (v214 : IVec S16 32) (v280 : IVec S16 32) (v281 : IVec S16 32) (k0_hw615 : k0_chk615 i k0_t3 v214 v280 v281), ∀ (k0_h1 : k0_cond1 i k0_t3 = 1#1), ∀ a x, ((![v280, v281, v214] : Fin 3 → IVec S16 32) a x).toNat < S8x8x1024.size a := fun i k0_t3 v214 v280 v281 k0_hw615 k0_h1 => k0_hw615 k0_h1

def k0_chk616 (i : grid0.Coords) (k0_t3 : Fin k0_t3_loop.trips) (v214 : IVec S16 32) (v282 : IVec S16 32) (v283 : IVec S16 32) : Prop :=
  (∀ (k0_h1 : k0_cond1 i k0_t3 = 1#1), ∀ a x, ((![v282, v283, v214] : Fin 3 → IVec S16 32) a x).toNat < S8x8x1024.size a)
theorem k0_idx614_inb : ∀ (i : grid0.Coords) (k0_t3 : Fin k0_t3_loop.trips) (v214 : IVec S16 32) (v282 : IVec S16 32) (v283 : IVec S16 32) (k0_hw616 : k0_chk616 i k0_t3 v214 v282 v283), ∀ (k0_h1 : k0_cond1 i k0_t3 = 1#1), ∀ a x, ((![v282, v283, v214] : Fin 3 → IVec S16 32) a x).toNat < S8x8x1024.size a := fun i k0_t3 v214 v282 v283 k0_hw616 k0_h1 => k0_hw616 k0_h1

def k0_chk617 (i : grid0.Coords) (k0_t3 : Fin k0_t3_loop.trips) (v214 : IVec S16 32) (v284 : IVec S16 32) (v285 : IVec S16 32) : Prop :=
  (∀ (k0_h1 : k0_cond1 i k0_t3 = 1#1), ∀ a x, ((![v284, v285, v214] : Fin 3 → IVec S16 32) a x).toNat < S8x8x1024.size a)
theorem k0_idx615_inb : ∀ (i : grid0.Coords) (k0_t3 : Fin k0_t3_loop.trips) (v214 : IVec S16 32) (v284 : IVec S16 32) (v285 : IVec S16 32) (k0_hw617 : k0_chk617 i k0_t3 v214 v284 v285), ∀ (k0_h1 : k0_cond1 i k0_t3 = 1#1), ∀ a x, ((![v284, v285, v214] : Fin 3 → IVec S16 32) a x).toNat < S8x8x1024.size a := fun i k0_t3 v214 v284 v285 k0_hw617 k0_h1 => k0_hw617 k0_h1

def k0_chk618 (i : grid0.Coords) (k0_t3 : Fin k0_t3_loop.trips) (v214 : IVec S16 32) (v286 : IVec S16 32) (v287 : IVec S16 32) : Prop :=
  (∀ (k0_h1 : k0_cond1 i k0_t3 = 1#1), ∀ a x, ((![v286, v287, v214] : Fin 3 → IVec S16 32) a x).toNat < S8x8x1024.size a)
theorem k0_idx616_inb : ∀ (i : grid0.Coords) (k0_t3 : Fin k0_t3_loop.trips) (v214 : IVec S16 32) (v286 : IVec S16 32) (v287 : IVec S16 32) (k0_hw618 : k0_chk618 i k0_t3 v214 v286 v287), ∀ (k0_h1 : k0_cond1 i k0_t3 = 1#1), ∀ a x, ((![v286, v287, v214] : Fin 3 → IVec S16 32) a x).toNat < S8x8x1024.size a := fun i k0_t3 v214 v286 v287 k0_hw618 k0_h1 => k0_hw618 k0_h1

def k0_chk619 (i : grid0.Coords) (k0_t3 : Fin k0_t3_loop.trips) (v214 : IVec S16 32) (v288 : IVec S16 32) (v289 : IVec S16 32) : Prop :=
  (∀ (k0_h1 : k0_cond1 i k0_t3 = 1#1), ∀ a x, ((![v288, v289, v214] : Fin 3 → IVec S16 32) a x).toNat < S8x8x1024.size a)
theorem k0_idx617_inb : ∀ (i : grid0.Coords) (k0_t3 : Fin k0_t3_loop.trips) (v214 : IVec S16 32) (v288 : IVec S16 32) (v289 : IVec S16 32) (k0_hw619 : k0_chk619 i k0_t3 v214 v288 v289), ∀ (k0_h1 : k0_cond1 i k0_t3 = 1#1), ∀ a x, ((![v288, v289, v214] : Fin 3 → IVec S16 32) a x).toNat < S8x8x1024.size a := fun i k0_t3 v214 v288 v289 k0_hw619 k0_h1 => k0_hw619 k0_h1

def k0_chk620 (i : grid0.Coords) (k0_t3 : Fin k0_t3_loop.trips) (v214 : IVec S16 32) (v290 : IVec S16 32) (v291 : IVec S16 32) : Prop :=
  (∀ (k0_h1 : k0_cond1 i k0_t3 = 1#1), ∀ a x, ((![v290, v291, v214] : Fin 3 → IVec S16 32) a x).toNat < S8x8x1024.size a)
theorem k0_idx618_inb : ∀ (i : grid0.Coords) (k0_t3 : Fin k0_t3_loop.trips) (v214 : IVec S16 32) (v290 : IVec S16 32) (v291 : IVec S16 32) (k0_hw620 : k0_chk620 i k0_t3 v214 v290 v291), ∀ (k0_h1 : k0_cond1 i k0_t3 = 1#1), ∀ a x, ((![v290, v291, v214] : Fin 3 → IVec S16 32) a x).toNat < S8x8x1024.size a := fun i k0_t3 v214 v290 v291 k0_hw620 k0_h1 => k0_hw620 k0_h1

def k0_chk621 (i : grid0.Coords) (k0_t3 : Fin k0_t3_loop.trips) (v214 : IVec S16 32) (v292 : IVec S16 32) (v293 : IVec S16 32) : Prop :=
  (∀ (k0_h1 : k0_cond1 i k0_t3 = 1#1), ∀ a x, ((![v292, v293, v214] : Fin 3 → IVec S16 32) a x).toNat < S8x8x1024.size a)
theorem k0_idx619_inb : ∀ (i : grid0.Coords) (k0_t3 : Fin k0_t3_loop.trips) (v214 : IVec S16 32) (v292 : IVec S16 32) (v293 : IVec S16 32) (k0_hw621 : k0_chk621 i k0_t3 v214 v292 v293), ∀ (k0_h1 : k0_cond1 i k0_t3 = 1#1), ∀ a x, ((![v292, v293, v214] : Fin 3 → IVec S16 32) a x).toNat < S8x8x1024.size a := fun i k0_t3 v214 v292 v293 k0_hw621 k0_h1 => k0_hw621 k0_h1

def k0_chk622 (i : grid0.Coords) (k0_t3 : Fin k0_t3_loop.trips) (v214 : IVec S16 32) (v294 : IVec S16 32) (v295 : IVec S16 32) : Prop :=
  (∀ (k0_h1 : k0_cond1 i k0_t3 = 1#1), ∀ a x, ((![v294, v295, v214] : Fin 3 → IVec S16 32) a x).toNat < S8x8x1024.size a)
theorem k0_idx620_inb : ∀ (i : grid0.Coords) (k0_t3 : Fin k0_t3_loop.trips) (v214 : IVec S16 32) (v294 : IVec S16 32) (v295 : IVec S16 32) (k0_hw622 : k0_chk622 i k0_t3 v214 v294 v295), ∀ (k0_h1 : k0_cond1 i k0_t3 = 1#1), ∀ a x, ((![v294, v295, v214] : Fin 3 → IVec S16 32) a x).toNat < S8x8x1024.size a := fun i k0_t3 v214 v294 v295 k0_hw622 k0_h1 => k0_hw622 k0_h1

def k0_chk623 (i : grid0.Coords) (k0_t3 : Fin k0_t3_loop.trips) (v214 : IVec S16 32) (v296 : IVec S16 32) (v297 : IVec S16 32) : Prop :=
  (∀ (k0_h1 : k0_cond1 i k0_t3 = 1#1), ∀ a x, ((![v296, v297, v214] : Fin 3 → IVec S16 32) a x).toNat < S8x8x1024.size a)
theorem k0_idx621_inb : ∀ (i : grid0.Coords) (k0_t3 : Fin k0_t3_loop.trips) (v214 : IVec S16 32) (v296 : IVec S16 32) (v297 : IVec S16 32) (k0_hw623 : k0_chk623 i k0_t3 v214 v296 v297), ∀ (k0_h1 : k0_cond1 i k0_t3 = 1#1), ∀ a x, ((![v296, v297, v214] : Fin 3 → IVec S16 32) a x).toNat < S8x8x1024.size a := fun i k0_t3 v214 v296 v297 k0_hw623 k0_h1 => k0_hw623 k0_h1

def k0_chk624 (i : grid0.Coords) (k0_t3 : Fin k0_t3_loop.trips) (v214 : IVec S16 32) (v298 : IVec S16 32) (v299 : IVec S16 32) : Prop :=
  (∀ (k0_h1 : k0_cond1 i k0_t3 = 1#1), ∀ a x, ((![v298, v299, v214] : Fin 3 → IVec S16 32) a x).toNat < S8x8x1024.size a)
theorem k0_idx622_inb : ∀ (i : grid0.Coords) (k0_t3 : Fin k0_t3_loop.trips) (v214 : IVec S16 32) (v298 : IVec S16 32) (v299 : IVec S16 32) (k0_hw624 : k0_chk624 i k0_t3 v214 v298 v299), ∀ (k0_h1 : k0_cond1 i k0_t3 = 1#1), ∀ a x, ((![v298, v299, v214] : Fin 3 → IVec S16 32) a x).toNat < S8x8x1024.size a := fun i k0_t3 v214 v298 v299 k0_hw624 k0_h1 => k0_hw624 k0_h1

def k0_chk625 (i : grid0.Coords) (k0_t3 : Fin k0_t3_loop.trips) (v214 : IVec S16 32) (v300 : IVec S16 32) (v301 : IVec S16 32) : Prop :=
  (∀ (k0_h1 : k0_cond1 i k0_t3 = 1#1), ∀ a x, ((![v300, v301, v214] : Fin 3 → IVec S16 32) a x).toNat < S8x8x1024.size a)
theorem k0_idx623_inb : ∀ (i : grid0.Coords) (k0_t3 : Fin k0_t3_loop.trips) (v214 : IVec S16 32) (v300 : IVec S16 32) (v301 : IVec S16 32) (k0_hw625 : k0_chk625 i k0_t3 v214 v300 v301), ∀ (k0_h1 : k0_cond1 i k0_t3 = 1#1), ∀ a x, ((![v300, v301, v214] : Fin 3 → IVec S16 32) a x).toNat < S8x8x1024.size a := fun i k0_t3 v214 v300 v301 k0_hw625 k0_h1 => k0_hw625 k0_h1

def k0_chk626 (i : grid0.Coords) (k0_t3 : Fin k0_t3_loop.trips) (v214 : IVec S16 32) (v302 : IVec S16 32) (v303 : IVec S16 32) : Prop :=
  (∀ (k0_h1 : k0_cond1 i k0_t3 = 1#1), ∀ a x, ((![v302, v303, v214] : Fin 3 → IVec S16 32) a x).toNat < S8x8x1024.size a)
theorem k0_idx624_inb : ∀ (i : grid0.Coords) (k0_t3 : Fin k0_t3_loop.trips) (v214 : IVec S16 32) (v302 : IVec S16 32) (v303 : IVec S16 32) (k0_hw626 : k0_chk626 i k0_t3 v214 v302 v303), ∀ (k0_h1 : k0_cond1 i k0_t3 = 1#1), ∀ a x, ((![v302, v303, v214] : Fin 3 → IVec S16 32) a x).toNat < S8x8x1024.size a := fun i k0_t3 v214 v302 v303 k0_hw626 k0_h1 => k0_hw626 k0_h1

def k0_chk627 (i : grid0.Coords) (k0_t3 : Fin k0_t3_loop.trips) (v214 : IVec S16 32) (v304 : IVec S16 32) (v305 : IVec S16 32) : Prop :=
  (∀ (k0_h1 : k0_cond1 i k0_t3 = 1#1), ∀ a x, ((![v304, v305, v214] : Fin 3 → IVec S16 32) a x).toNat < S8x8x1024.size a)
theorem k0_idx625_inb : ∀ (i : grid0.Coords) (k0_t3 : Fin k0_t3_loop.trips) (v214 : IVec S16 32) (v304 : IVec S16 32) (v305 : IVec S16 32) (k0_hw627 : k0_chk627 i k0_t3 v214 v304 v305), ∀ (k0_h1 : k0_cond1 i k0_t3 = 1#1), ∀ a x, ((![v304, v305, v214] : Fin 3 → IVec S16 32) a x).toNat < S8x8x1024.size a := fun i k0_t3 v214 v304 v305 k0_hw627 k0_h1 => k0_hw627 k0_h1

def k0_chk628 (i : grid0.Coords) (k0_t3 : Fin k0_t3_loop.trips) (v214 : IVec S16 32) (v306 : IVec S16 32) (v307 : IVec S16 32) : Prop :=
  (∀ (k0_h1 : k0_cond1 i k0_t3 = 1#1), ∀ a x, ((![v306, v307, v214] : Fin 3 → IVec S16 32) a x).toNat < S8x8x1024.size a)
theorem k0_idx626_inb : ∀ (i : grid0.Coords) (k0_t3 : Fin k0_t3_loop.trips) (v214 : IVec S16 32) (v306 : IVec S16 32) (v307 : IVec S16 32) (k0_hw628 : k0_chk628 i k0_t3 v214 v306 v307), ∀ (k0_h1 : k0_cond1 i k0_t3 = 1#1), ∀ a x, ((![v306, v307, v214] : Fin 3 → IVec S16 32) a x).toNat < S8x8x1024.size a := fun i k0_t3 v214 v306 v307 k0_hw628 k0_h1 => k0_hw628 k0_h1

def k0_chk629 (i : grid0.Coords) (k0_t3 : Fin k0_t3_loop.trips) (v214 : IVec S16 32) (v308 : IVec S16 32) (v309 : IVec S16 32) : Prop :=
  (∀ (k0_h1 : k0_cond1 i k0_t3 = 1#1), ∀ a x, ((![v308, v309, v214] : Fin 3 → IVec S16 32) a x).toNat < S8x8x1024.size a)
theorem k0_idx627_inb : ∀ (i : grid0.Coords) (k0_t3 : Fin k0_t3_loop.trips) (v214 : IVec S16 32) (v308 : IVec S16 32) (v309 : IVec S16 32) (k0_hw629 : k0_chk629 i k0_t3 v214 v308 v309), ∀ (k0_h1 : k0_cond1 i k0_t3 = 1#1), ∀ a x, ((![v308, v309, v214] : Fin 3 → IVec S16 32) a x).toNat < S8x8x1024.size a := fun i k0_t3 v214 v308 v309 k0_hw629 k0_h1 => k0_hw629 k0_h1

def k0_chk630 (i : grid0.Coords) (k0_t3 : Fin k0_t3_loop.trips) (v214 : IVec S16 32) (v310 : IVec S16 32) (v311 : IVec S16 32) : Prop :=
  (∀ (k0_h1 : k0_cond1 i k0_t3 = 1#1), ∀ a x, ((![v310, v311, v214] : Fin 3 → IVec S16 32) a x).toNat < S8x8x1024.size a)
theorem k0_idx628_inb : ∀ (i : grid0.Coords) (k0_t3 : Fin k0_t3_loop.trips) (v214 : IVec S16 32) (v310 : IVec S16 32) (v311 : IVec S16 32) (k0_hw630 : k0_chk630 i k0_t3 v214 v310 v311), ∀ (k0_h1 : k0_cond1 i k0_t3 = 1#1), ∀ a x, ((![v310, v311, v214] : Fin 3 → IVec S16 32) a x).toNat < S8x8x1024.size a := fun i k0_t3 v214 v310 v311 k0_hw630 k0_h1 => k0_hw630 k0_h1

def k0_chk631 (i : grid0.Coords) (k0_t3 : Fin k0_t3_loop.trips) (v214 : IVec S16 32) (v312 : IVec S16 32) (v313 : IVec S16 32) : Prop :=
  (∀ (k0_h1 : k0_cond1 i k0_t3 = 1#1), ∀ a x, ((![v312, v313, v214] : Fin 3 → IVec S16 32) a x).toNat < S8x8x1024.size a)
theorem k0_idx629_inb : ∀ (i : grid0.Coords) (k0_t3 : Fin k0_t3_loop.trips) (v214 : IVec S16 32) (v312 : IVec S16 32) (v313 : IVec S16 32) (k0_hw631 : k0_chk631 i k0_t3 v214 v312 v313), ∀ (k0_h1 : k0_cond1 i k0_t3 = 1#1), ∀ a x, ((![v312, v313, v214] : Fin 3 → IVec S16 32) a x).toNat < S8x8x1024.size a := fun i k0_t3 v214 v312 v313 k0_hw631 k0_h1 => k0_hw631 k0_h1

def k0_chk632 (i : grid0.Coords) (k0_t3 : Fin k0_t3_loop.trips) (v214 : IVec S16 32) (v314 : IVec S16 32) (v315 : IVec S16 32) : Prop :=
  (∀ (k0_h1 : k0_cond1 i k0_t3 = 1#1), ∀ a x, ((![v314, v315, v214] : Fin 3 → IVec S16 32) a x).toNat < S8x8x1024.size a)
theorem k0_idx630_inb : ∀ (i : grid0.Coords) (k0_t3 : Fin k0_t3_loop.trips) (v214 : IVec S16 32) (v314 : IVec S16 32) (v315 : IVec S16 32) (k0_hw632 : k0_chk632 i k0_t3 v214 v314 v315), ∀ (k0_h1 : k0_cond1 i k0_t3 = 1#1), ∀ a x, ((![v314, v315, v214] : Fin 3 → IVec S16 32) a x).toNat < S8x8x1024.size a := fun i k0_t3 v214 v314 v315 k0_hw632 k0_h1 => k0_hw632 k0_h1

def k0_chk633 (i : grid0.Coords) (k0_t3 : Fin k0_t3_loop.trips) (v214 : IVec S16 32) (v316 : IVec S16 32) (v317 : IVec S16 32) : Prop :=
  (∀ (k0_h1 : k0_cond1 i k0_t3 = 1#1), ∀ a x, ((![v316, v317, v214] : Fin 3 → IVec S16 32) a x).toNat < S8x8x1024.size a)
theorem k0_idx631_inb : ∀ (i : grid0.Coords) (k0_t3 : Fin k0_t3_loop.trips) (v214 : IVec S16 32) (v316 : IVec S16 32) (v317 : IVec S16 32) (k0_hw633 : k0_chk633 i k0_t3 v214 v316 v317), ∀ (k0_h1 : k0_cond1 i k0_t3 = 1#1), ∀ a x, ((![v316, v317, v214] : Fin 3 → IVec S16 32) a x).toNat < S8x8x1024.size a := fun i k0_t3 v214 v316 v317 k0_hw633 k0_h1 => k0_hw633 k0_h1

def k0_chk634 (i : grid0.Coords) (k0_t3 : Fin k0_t3_loop.trips) (v214 : IVec S16 32) (v318 : IVec S16 32) (v319 : IVec S16 32) : Prop :=
  (∀ (k0_h1 : k0_cond1 i k0_t3 = 1#1), ∀ a x, ((![v318, v319, v214] : Fin 3 → IVec S16 32) a x).toNat < S8x8x1024.size a)
theorem k0_idx632_inb : ∀ (i : grid0.Coords) (k0_t3 : Fin k0_t3_loop.trips) (v214 : IVec S16 32) (v318 : IVec S16 32) (v319 : IVec S16 32) (k0_hw634 : k0_chk634 i k0_t3 v214 v318 v319), ∀ (k0_h1 : k0_cond1 i k0_t3 = 1#1), ∀ a x, ((![v318, v319, v214] : Fin 3 → IVec S16 32) a x).toNat < S8x8x1024.size a := fun i k0_t3 v214 v318 v319 k0_hw634 k0_h1 => k0_hw634 k0_h1

def k0_chk635 (i : grid0.Coords) (k0_t3 : Fin k0_t3_loop.trips) (v214 : IVec S16 32) (v320 : IVec S16 32) (v321 : IVec S16 32) : Prop :=
  (∀ (k0_h1 : k0_cond1 i k0_t3 = 1#1), ∀ a x, ((![v320, v321, v214] : Fin 3 → IVec S16 32) a x).toNat < S8x8x1024.size a)
theorem k0_idx633_inb : ∀ (i : grid0.Coords) (k0_t3 : Fin k0_t3_loop.trips) (v214 : IVec S16 32) (v320 : IVec S16 32) (v321 : IVec S16 32) (k0_hw635 : k0_chk635 i k0_t3 v214 v320 v321), ∀ (k0_h1 : k0_cond1 i k0_t3 = 1#1), ∀ a x, ((![v320, v321, v214] : Fin 3 → IVec S16 32) a x).toNat < S8x8x1024.size a := fun i k0_t3 v214 v320 v321 k0_hw635 k0_h1 => k0_hw635 k0_h1

def k0_chk636 (i : grid0.Coords) (k0_t3 : Fin k0_t3_loop.trips) (v214 : IVec S16 32) (v322 : IVec S16 32) (v323 : IVec S16 32) : Prop :=
  (∀ (k0_h1 : k0_cond1 i k0_t3 = 1#1), ∀ a x, ((![v322, v323, v214] : Fin 3 → IVec S16 32) a x).toNat < S8x8x1024.size a)
theorem k0_idx634_inb : ∀ (i : grid0.Coords) (k0_t3 : Fin k0_t3_loop.trips) (v214 : IVec S16 32) (v322 : IVec S16 32) (v323 : IVec S16 32) (k0_hw636 : k0_chk636 i k0_t3 v214 v322 v323), ∀ (k0_h1 : k0_cond1 i k0_t3 = 1#1), ∀ a x, ((![v322, v323, v214] : Fin 3 → IVec S16 32) a x).toNat < S8x8x1024.size a := fun i k0_t3 v214 v322 v323 k0_hw636 k0_h1 => k0_hw636 k0_h1

def k0_chk637 (i : grid0.Coords) (k0_t3 : Fin k0_t3_loop.trips) (v214 : IVec S16 32) (v324 : IVec S16 32) (v325 : IVec S16 32) : Prop :=
  (∀ (k0_h1 : k0_cond1 i k0_t3 = 1#1), ∀ a x, ((![v324, v325, v214] : Fin 3 → IVec S16 32) a x).toNat < S8x8x1024.size a)
theorem k0_idx635_inb : ∀ (i : grid0.Coords) (k0_t3 : Fin k0_t3_loop.trips) (v214 : IVec S16 32) (v324 : IVec S16 32) (v325 : IVec S16 32) (k0_hw637 : k0_chk637 i k0_t3 v214 v324 v325), ∀ (k0_h1 : k0_cond1 i k0_t3 = 1#1), ∀ a x, ((![v324, v325, v214] : Fin 3 → IVec S16 32) a x).toNat < S8x8x1024.size a := fun i k0_t3 v214 v324 v325 k0_hw637 k0_h1 => k0_hw637 k0_h1

def k0_chk638 (i : grid0.Coords) (k0_t3 : Fin k0_t3_loop.trips) (v214 : IVec S16 32) (v326 : IVec S16 32) (v327 : IVec S16 32) : Prop :=
  (∀ (k0_h1 : k0_cond1 i k0_t3 = 1#1), ∀ a x, ((![v326, v327, v214] : Fin 3 → IVec S16 32) a x).toNat < S8x8x1024.size a)
theorem k0_idx636_inb : ∀ (i : grid0.Coords) (k0_t3 : Fin k0_t3_loop.trips) (v214 : IVec S16 32) (v326 : IVec S16 32) (v327 : IVec S16 32) (k0_hw638 : k0_chk638 i k0_t3 v214 v326 v327), ∀ (k0_h1 : k0_cond1 i k0_t3 = 1#1), ∀ a x, ((![v326, v327, v214] : Fin 3 → IVec S16 32) a x).toNat < S8x8x1024.size a := fun i k0_t3 v214 v326 v327 k0_hw638 k0_h1 => k0_hw638 k0_h1

def k0_chk639 (i : grid0.Coords) (k0_t3 : Fin k0_t3_loop.trips) (v214 : IVec S16 32) (v328 : IVec S16 32) (v329 : IVec S16 32) : Prop :=
  (∀ (k0_h1 : k0_cond1 i k0_t3 = 1#1), ∀ a x, ((![v328, v329, v214] : Fin 3 → IVec S16 32) a x).toNat < S8x8x1024.size a)
theorem k0_idx637_inb : ∀ (i : grid0.Coords) (k0_t3 : Fin k0_t3_loop.trips) (v214 : IVec S16 32) (v328 : IVec S16 32) (v329 : IVec S16 32) (k0_hw639 : k0_chk639 i k0_t3 v214 v328 v329), ∀ (k0_h1 : k0_cond1 i k0_t3 = 1#1), ∀ a x, ((![v328, v329, v214] : Fin 3 → IVec S16 32) a x).toNat < S8x8x1024.size a := fun i k0_t3 v214 v328 v329 k0_hw639 k0_h1 => k0_hw639 k0_h1

def k0_chk640 (i : grid0.Coords) (k0_t3 : Fin k0_t3_loop.trips) (v214 : IVec S16 32) (v330 : IVec S16 32) (v331 : IVec S16 32) : Prop :=
  (∀ (k0_h1 : k0_cond1 i k0_t3 = 1#1), ∀ a x, ((![v330, v331, v214] : Fin 3 → IVec S16 32) a x).toNat < S8x8x1024.size a)
theorem k0_idx638_inb : ∀ (i : grid0.Coords) (k0_t3 : Fin k0_t3_loop.trips) (v214 : IVec S16 32) (v330 : IVec S16 32) (v331 : IVec S16 32) (k0_hw640 : k0_chk640 i k0_t3 v214 v330 v331), ∀ (k0_h1 : k0_cond1 i k0_t3 = 1#1), ∀ a x, ((![v330, v331, v214] : Fin 3 → IVec S16 32) a x).toNat < S8x8x1024.size a := fun i k0_t3 v214 v330 v331 k0_hw640 k0_h1 => k0_hw640 k0_h1

def k0_chk641 (i : grid0.Coords) (k0_t3 : Fin k0_t3_loop.trips) (v214 : IVec S16 32) (v332 : IVec S16 32) (v333 : IVec S16 32) : Prop :=
  (∀ (k0_h1 : k0_cond1 i k0_t3 = 1#1), ∀ a x, ((![v332, v333, v214] : Fin 3 → IVec S16 32) a x).toNat < S8x8x1024.size a)
theorem k0_idx639_inb : ∀ (i : grid0.Coords) (k0_t3 : Fin k0_t3_loop.trips) (v214 : IVec S16 32) (v332 : IVec S16 32) (v333 : IVec S16 32) (k0_hw641 : k0_chk641 i k0_t3 v214 v332 v333), ∀ (k0_h1 : k0_cond1 i k0_t3 = 1#1), ∀ a x, ((![v332, v333, v214] : Fin 3 → IVec S16 32) a x).toNat < S8x8x1024.size a := fun i k0_t3 v214 v332 v333 k0_hw641 k0_h1 => k0_hw641 k0_h1

def k0_chk642 (i : grid0.Coords) (k0_t3 : Fin k0_t3_loop.trips) (v214 : IVec S16 32) (v334 : IVec S16 32) (v335 : IVec S16 32) : Prop :=
  (∀ (k0_h1 : k0_cond1 i k0_t3 = 1#1), ∀ a x, ((![v334, v335, v214] : Fin 3 → IVec S16 32) a x).toNat < S8x8x1024.size a)
theorem k0_idx640_inb : ∀ (i : grid0.Coords) (k0_t3 : Fin k0_t3_loop.trips) (v214 : IVec S16 32) (v334 : IVec S16 32) (v335 : IVec S16 32) (k0_hw642 : k0_chk642 i k0_t3 v214 v334 v335), ∀ (k0_h1 : k0_cond1 i k0_t3 = 1#1), ∀ a x, ((![v334, v335, v214] : Fin 3 → IVec S16 32) a x).toNat < S8x8x1024.size a := fun i k0_t3 v214 v334 v335 k0_hw642 k0_h1 => k0_hw642 k0_h1

def k0_chk643 (i : grid0.Coords) (k0_t3 : Fin k0_t3_loop.trips) (v214 : IVec S16 32) (v336 : IVec S16 32) (v337 : IVec S16 32) : Prop :=
  (∀ (k0_h1 : k0_cond1 i k0_t3 = 1#1), ∀ a x, ((![v336, v337, v214] : Fin 3 → IVec S16 32) a x).toNat < S8x8x1024.size a)
theorem k0_idx641_inb : ∀ (i : grid0.Coords) (k0_t3 : Fin k0_t3_loop.trips) (v214 : IVec S16 32) (v336 : IVec S16 32) (v337 : IVec S16 32) (k0_hw643 : k0_chk643 i k0_t3 v214 v336 v337), ∀ (k0_h1 : k0_cond1 i k0_t3 = 1#1), ∀ a x, ((![v336, v337, v214] : Fin 3 → IVec S16 32) a x).toNat < S8x8x1024.size a := fun i k0_t3 v214 v336 v337 k0_hw643 k0_h1 => k0_hw643 k0_h1

def k0_chk644 (i : grid0.Coords) (k0_t3 : Fin k0_t3_loop.trips) (v214 : IVec S16 32) (v338 : IVec S16 32) (v339 : IVec S16 32) : Prop :=
  (∀ (k0_h1 : k0_cond1 i k0_t3 = 1#1), ∀ a x, ((![v338, v339, v214] : Fin 3 → IVec S16 32) a x).toNat < S8x8x1024.size a)
theorem k0_idx642_inb : ∀ (i : grid0.Coords) (k0_t3 : Fin k0_t3_loop.trips) (v214 : IVec S16 32) (v338 : IVec S16 32) (v339 : IVec S16 32) (k0_hw644 : k0_chk644 i k0_t3 v214 v338 v339), ∀ (k0_h1 : k0_cond1 i k0_t3 = 1#1), ∀ a x, ((![v338, v339, v214] : Fin 3 → IVec S16 32) a x).toNat < S8x8x1024.size a := fun i k0_t3 v214 v338 v339 k0_hw644 k0_h1 => k0_hw644 k0_h1

def k0_chk645 (i : grid0.Coords) (k0_t3 : Fin k0_t3_loop.trips) (v214 : IVec S16 32) (v340 : IVec S16 32) (v341 : IVec S16 32) : Prop :=
  (∀ (k0_h1 : k0_cond1 i k0_t3 = 1#1), ∀ a x, ((![v340, v341, v214] : Fin 3 → IVec S16 32) a x).toNat < S8x8x1024.size a)
theorem k0_idx643_inb : ∀ (i : grid0.Coords) (k0_t3 : Fin k0_t3_loop.trips) (v214 : IVec S16 32) (v340 : IVec S16 32) (v341 : IVec S16 32) (k0_hw645 : k0_chk645 i k0_t3 v214 v340 v341), ∀ (k0_h1 : k0_cond1 i k0_t3 = 1#1), ∀ a x, ((![v340, v341, v214] : Fin 3 → IVec S16 32) a x).toNat < S8x8x1024.size a := fun i k0_t3 v214 v340 v341 k0_hw645 k0_h1 => k0_hw645 k0_h1

def k0_chk646 (i : grid0.Coords) (k0_t3 : Fin k0_t3_loop.trips) (v214 : IVec S16 32) (v342 : IVec S16 32) (v343 : IVec S16 32) : Prop :=
  (∀ (k0_h1 : k0_cond1 i k0_t3 = 1#1), ∀ a x, ((![v342, v343, v214] : Fin 3 → IVec S16 32) a x).toNat < S8x8x1024.size a)
theorem k0_idx644_inb : ∀ (i : grid0.Coords) (k0_t3 : Fin k0_t3_loop.trips) (v214 : IVec S16 32) (v342 : IVec S16 32) (v343 : IVec S16 32) (k0_hw646 : k0_chk646 i k0_t3 v214 v342 v343), ∀ (k0_h1 : k0_cond1 i k0_t3 = 1#1), ∀ a x, ((![v342, v343, v214] : Fin 3 → IVec S16 32) a x).toNat < S8x8x1024.size a := fun i k0_t3 v214 v342 v343 k0_hw646 k0_h1 => k0_hw646 k0_h1

def k0_chk647 (i : grid0.Coords) (k0_t3 : Fin k0_t3_loop.trips) (v214 : IVec S16 32) (v344 : IVec S16 32) (v345 : IVec S16 32) : Prop :=
  (∀ (k0_h1 : k0_cond1 i k0_t3 = 1#1), ∀ a x, ((![v344, v345, v214] : Fin 3 → IVec S16 32) a x).toNat < S8x8x1024.size a)
theorem k0_idx645_inb : ∀ (i : grid0.Coords) (k0_t3 : Fin k0_t3_loop.trips) (v214 : IVec S16 32) (v344 : IVec S16 32) (v345 : IVec S16 32) (k0_hw647 : k0_chk647 i k0_t3 v214 v344 v345), ∀ (k0_h1 : k0_cond1 i k0_t3 = 1#1), ∀ a x, ((![v344, v345, v214] : Fin 3 → IVec S16 32) a x).toNat < S8x8x1024.size a := fun i k0_t3 v214 v344 v345 k0_hw647 k0_h1 => k0_hw647 k0_h1

def k0_chk648 (i : grid0.Coords) (k0_t3 : Fin k0_t3_loop.trips) (v214 : IVec S16 32) (v346 : IVec S16 32) (v347 : IVec S16 32) : Prop :=
  (∀ (k0_h1 : k0_cond1 i k0_t3 = 1#1), ∀ a x, ((![v346, v347, v214] : Fin 3 → IVec S16 32) a x).toNat < S8x8x1024.size a)
theorem k0_idx646_inb : ∀ (i : grid0.Coords) (k0_t3 : Fin k0_t3_loop.trips) (v214 : IVec S16 32) (v346 : IVec S16 32) (v347 : IVec S16 32) (k0_hw648 : k0_chk648 i k0_t3 v214 v346 v347), ∀ (k0_h1 : k0_cond1 i k0_t3 = 1#1), ∀ a x, ((![v346, v347, v214] : Fin 3 → IVec S16 32) a x).toNat < S8x8x1024.size a := fun i k0_t3 v214 v346 v347 k0_hw648 k0_h1 => k0_hw648 k0_h1
@[reducible] def k0_t9_loop (v32 : BitVec 32) : Scf.Loop 32 :=
  let c0_i32_38 : BitVec 32 := 0#32
  let c31_i32_23 : BitVec 32 := 31#32
  let v33 : BitVec 32 := Scalar.addi v32 c31_i32_23
  let c0_i32_24 : BitVec 32 := 0#32
  let v35 : BitVec 1 := Scalar.cmpi .sgt v33 c0_i32_24
  let v36 : BitVec 32 := Scalar.extui v35
  let c0_i32_25 : BitVec 32 := 0#32
  let v37 : BitVec 1 := Scalar.cmpi .slt v33 c0_i32_25
  let v38 : BitVec 32 := Scalar.extui v37
  let v39 : BitVec 32 := Scalar.subi v36 v38
  let c32_i32 : BitVec 32 := 32#32
  let c0_i32_26 : BitVec 32 := 0#32
  let v40 : BitVec 1 := Scalar.cmpi .sgt c32_i32 c0_i32_26
  let v41 : BitVec 32 := Scalar.extui v40
  let c0_i32_27 : BitVec 32 := 0#32
  let v42 : BitVec 1 := Scalar.cmpi .slt c32_i32 c0_i32_27
  let v43 : BitVec 32 := Scalar.extui v42
  let v44 : BitVec 32 := Scalar.subi v41 v43
  let v45 : BitVec 1 := Scalar.cmpi .ne v39 v44
  let v46 : BitVec 32 := Scalar.remsi v33 c32_i32
  let c0_i32_28 : BitVec 32 := 0#32
  let v47 : BitVec 1 := Scalar.cmpi .ne v46 c0_i32_28
  let v48 : BitVec 1 := Scalar.andi v45 v47
  let v34 : BitVec 32 := Scalar.divsi v33 c32_i32
  let c1_i32_29 : BitVec 32 := 1#32
  let v49 : BitVec 32 := Scalar.subi v34 c1_i32_29
  let v50 : BitVec 32 := Scalar.select v48 v49 v34
  let v64 : BitVec 32 := Scalar.subi v50 c0_i32_38
  let c1_i32_40 : BitVec 32 := 1#32
  let v66 : BitVec 32 := Scalar.divsi v64 c1_i32_40
  let v67 : BitVec 32 := Scalar.muli v66 c1_i32_40
  let v68 : BitVec 32 := Scalar.addi c0_i32_38 v67
  let v65 : BitVec 32 := Scalar.addi c0_i32_38 v64
  let c1_i32_42 : BitVec 32 := 1#32
  ⟨v68, v65, c1_i32_42⟩
def k0_off93 (v32 : BitVec 32) (k0_t9 : Fin (k0_t9_loop v32).trips) : Fin 1 → Nat :=
  let c0_i32_38 : BitVec 32 := 0#32
  let c31_i32_23 : BitVec 32 := 31#32
  let v33 : BitVec 32 := Scalar.addi v32 c31_i32_23
  let c0_i32_24 : BitVec 32 := 0#32
  let v35 : BitVec 1 := Scalar.cmpi .sgt v33 c0_i32_24
  let v36 : BitVec 32 := Scalar.extui v35
  let c0_i32_25 : BitVec 32 := 0#32
  let v37 : BitVec 1 := Scalar.cmpi .slt v33 c0_i32_25
  let v38 : BitVec 32 := Scalar.extui v37
  let v39 : BitVec 32 := Scalar.subi v36 v38
  let c32_i32 : BitVec 32 := 32#32
  let c0_i32_26 : BitVec 32 := 0#32
  let v40 : BitVec 1 := Scalar.cmpi .sgt c32_i32 c0_i32_26
  let v41 : BitVec 32 := Scalar.extui v40
  let c0_i32_27 : BitVec 32 := 0#32
  let v42 : BitVec 1 := Scalar.cmpi .slt c32_i32 c0_i32_27
  let v43 : BitVec 32 := Scalar.extui v42
  let v44 : BitVec 32 := Scalar.subi v41 v43
  let v45 : BitVec 1 := Scalar.cmpi .ne v39 v44
  let v46 : BitVec 32 := Scalar.remsi v33 c32_i32
  let c0_i32_28 : BitVec 32 := 0#32
  let v47 : BitVec 1 := Scalar.cmpi .ne v46 c0_i32_28
  let v48 : BitVec 1 := Scalar.andi v45 v47
  let v34 : BitVec 32 := Scalar.divsi v33 c32_i32
  let c1_i32_29 : BitVec 32 := 1#32
  let v49 : BitVec 32 := Scalar.subi v34 c1_i32_29
  let v50 : BitVec 32 := Scalar.select v48 v49 v34
  let v64 : BitVec 32 := Scalar.subi v50 c0_i32_38
  let c1_i32_40 : BitVec 32 := 1#32
  let v66 : BitVec 32 := Scalar.divsi v64 c1_i32_40
  let v67 : BitVec 32 := Scalar.muli v66 c1_i32_40
  let v68 : BitVec 32 := Scalar.addi c0_i32_38 v67
  let c1_i32_42 : BitVec 32 := 1#32
  let arg14 : BitVec 32 := Scf.iv v68 c1_i32_42 k0_t9
  let c32_i32_43 : BitVec 32 := 32#32
  let v71 : BitVec 32 := Scalar.muli arg14 c32_i32_43
  let c0_i32_44 : BitVec 32 := 0#32
  let v72 : BitVec 32 := Scalar.addi v71 c0_i32_44
  let v73 : Index := Scalar.indexCast v72
  ![v73.toNat]

def k0_chk649 (i : grid0.Coords) (k0_t3 : Fin k0_t3_loop.trips) (v76 : IVec S16 32) (v82 : IVec S16 32) (v83 : IVec S16 32) : Prop :=
  (∀ (k0_h1 : k0_cond1 i k0_t3 = 1#1), ∀ a x, ((![v82, v83, v76] : Fin 3 → IVec S16 32) a x).toNat < S8x8x1024.size a)
theorem k0_idx647_inb : ∀ (i : grid0.Coords) (k0_t3 : Fin k0_t3_loop.trips) (v76 : IVec S16 32) (v82 : IVec S16 32) (v83 : IVec S16 32) (k0_hw649 : k0_chk649 i k0_t3 v76 v82 v83), ∀ (k0_h1 : k0_cond1 i k0_t3 = 1#1), ∀ a x, ((![v82, v83, v76] : Fin 3 → IVec S16 32) a x).toNat < S8x8x1024.size a := fun i k0_t3 v76 v82 v83 k0_hw649 k0_h1 => k0_hw649 k0_h1

def k0_chk650 (i : grid0.Coords) (k0_t3 : Fin k0_t3_loop.trips) (v76 : IVec S16 32) (v84 : IVec S16 32) (v85 : IVec S16 32) : Prop :=
  (∀ (k0_h1 : k0_cond1 i k0_t3 = 1#1), ∀ a x, ((![v84, v85, v76] : Fin 3 → IVec S16 32) a x).toNat < S8x8x1024.size a)
theorem k0_idx648_inb : ∀ (i : grid0.Coords) (k0_t3 : Fin k0_t3_loop.trips) (v76 : IVec S16 32) (v84 : IVec S16 32) (v85 : IVec S16 32) (k0_hw650 : k0_chk650 i k0_t3 v76 v84 v85), ∀ (k0_h1 : k0_cond1 i k0_t3 = 1#1), ∀ a x, ((![v84, v85, v76] : Fin 3 → IVec S16 32) a x).toNat < S8x8x1024.size a := fun i k0_t3 v76 v84 v85 k0_hw650 k0_h1 => k0_hw650 k0_h1

def k0_chk651 (i : grid0.Coords) (k0_t3 : Fin k0_t3_loop.trips) (v76 : IVec S16 32) (v86 : IVec S16 32) (v87 : IVec S16 32) : Prop :=
  (∀ (k0_h1 : k0_cond1 i k0_t3 = 1#1), ∀ a x, ((![v86, v87, v76] : Fin 3 → IVec S16 32) a x).toNat < S8x8x1024.size a)
theorem k0_idx649_inb : ∀ (i : grid0.Coords) (k0_t3 : Fin k0_t3_loop.trips) (v76 : IVec S16 32) (v86 : IVec S16 32) (v87 : IVec S16 32) (k0_hw651 : k0_chk651 i k0_t3 v76 v86 v87), ∀ (k0_h1 : k0_cond1 i k0_t3 = 1#1), ∀ a x, ((![v86, v87, v76] : Fin 3 → IVec S16 32) a x).toNat < S8x8x1024.size a := fun i k0_t3 v76 v86 v87 k0_hw651 k0_h1 => k0_hw651 k0_h1

def k0_chk652 (i : grid0.Coords) (k0_t3 : Fin k0_t3_loop.trips) (v76 : IVec S16 32) (v88 : IVec S16 32) (v89 : IVec S16 32) : Prop :=
  (∀ (k0_h1 : k0_cond1 i k0_t3 = 1#1), ∀ a x, ((![v88, v89, v76] : Fin 3 → IVec S16 32) a x).toNat < S8x8x1024.size a)
theorem k0_idx650_inb : ∀ (i : grid0.Coords) (k0_t3 : Fin k0_t3_loop.trips) (v76 : IVec S16 32) (v88 : IVec S16 32) (v89 : IVec S16 32) (k0_hw652 : k0_chk652 i k0_t3 v76 v88 v89), ∀ (k0_h1 : k0_cond1 i k0_t3 = 1#1), ∀ a x, ((![v88, v89, v76] : Fin 3 → IVec S16 32) a x).toNat < S8x8x1024.size a := fun i k0_t3 v76 v88 v89 k0_hw652 k0_h1 => k0_hw652 k0_h1

def k0_chk653 (i : grid0.Coords) (k0_t3 : Fin k0_t3_loop.trips) (v76 : IVec S16 32) (v90 : IVec S16 32) (v91 : IVec S16 32) : Prop :=
  (∀ (k0_h1 : k0_cond1 i k0_t3 = 1#1), ∀ a x, ((![v90, v91, v76] : Fin 3 → IVec S16 32) a x).toNat < S8x8x1024.size a)
theorem k0_idx651_inb : ∀ (i : grid0.Coords) (k0_t3 : Fin k0_t3_loop.trips) (v76 : IVec S16 32) (v90 : IVec S16 32) (v91 : IVec S16 32) (k0_hw653 : k0_chk653 i k0_t3 v76 v90 v91), ∀ (k0_h1 : k0_cond1 i k0_t3 = 1#1), ∀ a x, ((![v90, v91, v76] : Fin 3 → IVec S16 32) a x).toNat < S8x8x1024.size a := fun i k0_t3 v76 v90 v91 k0_hw653 k0_h1 => k0_hw653 k0_h1

def k0_chk654 (i : grid0.Coords) (k0_t3 : Fin k0_t3_loop.trips) (v76 : IVec S16 32) (v92 : IVec S16 32) (v93 : IVec S16 32) : Prop :=
  (∀ (k0_h1 : k0_cond1 i k0_t3 = 1#1), ∀ a x, ((![v92, v93, v76] : Fin 3 → IVec S16 32) a x).toNat < S8x8x1024.size a)
theorem k0_idx652_inb : ∀ (i : grid0.Coords) (k0_t3 : Fin k0_t3_loop.trips) (v76 : IVec S16 32) (v92 : IVec S16 32) (v93 : IVec S16 32) (k0_hw654 : k0_chk654 i k0_t3 v76 v92 v93), ∀ (k0_h1 : k0_cond1 i k0_t3 = 1#1), ∀ a x, ((![v92, v93, v76] : Fin 3 → IVec S16 32) a x).toNat < S8x8x1024.size a := fun i k0_t3 v76 v92 v93 k0_hw654 k0_h1 => k0_hw654 k0_h1

def k0_chk655 (i : grid0.Coords) (k0_t3 : Fin k0_t3_loop.trips) (v76 : IVec S16 32) (v94 : IVec S16 32) (v95 : IVec S16 32) : Prop :=
  (∀ (k0_h1 : k0_cond1 i k0_t3 = 1#1), ∀ a x, ((![v94, v95, v76] : Fin 3 → IVec S16 32) a x).toNat < S8x8x1024.size a)
theorem k0_idx653_inb : ∀ (i : grid0.Coords) (k0_t3 : Fin k0_t3_loop.trips) (v76 : IVec S16 32) (v94 : IVec S16 32) (v95 : IVec S16 32) (k0_hw655 : k0_chk655 i k0_t3 v76 v94 v95), ∀ (k0_h1 : k0_cond1 i k0_t3 = 1#1), ∀ a x, ((![v94, v95, v76] : Fin 3 → IVec S16 32) a x).toNat < S8x8x1024.size a := fun i k0_t3 v76 v94 v95 k0_hw655 k0_h1 => k0_hw655 k0_h1

def k0_chk656 (i : grid0.Coords) (k0_t3 : Fin k0_t3_loop.trips) (v76 : IVec S16 32) (v96 : IVec S16 32) (v97 : IVec S16 32) : Prop :=
  (∀ (k0_h1 : k0_cond1 i k0_t3 = 1#1), ∀ a x, ((![v96, v97, v76] : Fin 3 → IVec S16 32) a x).toNat < S8x8x1024.size a)
theorem k0_idx654_inb : ∀ (i : grid0.Coords) (k0_t3 : Fin k0_t3_loop.trips) (v76 : IVec S16 32) (v96 : IVec S16 32) (v97 : IVec S16 32) (k0_hw656 : k0_chk656 i k0_t3 v76 v96 v97), ∀ (k0_h1 : k0_cond1 i k0_t3 = 1#1), ∀ a x, ((![v96, v97, v76] : Fin 3 → IVec S16 32) a x).toNat < S8x8x1024.size a := fun i k0_t3 v76 v96 v97 k0_hw656 k0_h1 => k0_hw656 k0_h1

def k0_chk657 (i : grid0.Coords) (k0_t3 : Fin k0_t3_loop.trips) (v76 : IVec S16 32) (v98 : IVec S16 32) (v99 : IVec S16 32) : Prop :=
  (∀ (k0_h1 : k0_cond1 i k0_t3 = 1#1), ∀ a x, ((![v98, v99, v76] : Fin 3 → IVec S16 32) a x).toNat < S8x8x1024.size a)
theorem k0_idx655_inb : ∀ (i : grid0.Coords) (k0_t3 : Fin k0_t3_loop.trips) (v76 : IVec S16 32) (v98 : IVec S16 32) (v99 : IVec S16 32) (k0_hw657 : k0_chk657 i k0_t3 v76 v98 v99), ∀ (k0_h1 : k0_cond1 i k0_t3 = 1#1), ∀ a x, ((![v98, v99, v76] : Fin 3 → IVec S16 32) a x).toNat < S8x8x1024.size a := fun i k0_t3 v76 v98 v99 k0_hw657 k0_h1 => k0_hw657 k0_h1

def k0_chk658 (i : grid0.Coords) (k0_t3 : Fin k0_t3_loop.trips) (v76 : IVec S16 32) (v100 : IVec S16 32) (v101 : IVec S16 32) : Prop :=
  (∀ (k0_h1 : k0_cond1 i k0_t3 = 1#1), ∀ a x, ((![v100, v101, v76] : Fin 3 → IVec S16 32) a x).toNat < S8x8x1024.size a)
theorem k0_idx656_inb : ∀ (i : grid0.Coords) (k0_t3 : Fin k0_t3_loop.trips) (v76 : IVec S16 32) (v100 : IVec S16 32) (v101 : IVec S16 32) (k0_hw658 : k0_chk658 i k0_t3 v76 v100 v101), ∀ (k0_h1 : k0_cond1 i k0_t3 = 1#1), ∀ a x, ((![v100, v101, v76] : Fin 3 → IVec S16 32) a x).toNat < S8x8x1024.size a := fun i k0_t3 v76 v100 v101 k0_hw658 k0_h1 => k0_hw658 k0_h1

def k0_chk659 (i : grid0.Coords) (k0_t3 : Fin k0_t3_loop.trips) (v76 : IVec S16 32) (v102 : IVec S16 32) (v103 : IVec S16 32) : Prop :=
  (∀ (k0_h1 : k0_cond1 i k0_t3 = 1#1), ∀ a x, ((![v102, v103, v76] : Fin 3 → IVec S16 32) a x).toNat < S8x8x1024.size a)
theorem k0_idx657_inb : ∀ (i : grid0.Coords) (k0_t3 : Fin k0_t3_loop.trips) (v76 : IVec S16 32) (v102 : IVec S16 32) (v103 : IVec S16 32) (k0_hw659 : k0_chk659 i k0_t3 v76 v102 v103), ∀ (k0_h1 : k0_cond1 i k0_t3 = 1#1), ∀ a x, ((![v102, v103, v76] : Fin 3 → IVec S16 32) a x).toNat < S8x8x1024.size a := fun i k0_t3 v76 v102 v103 k0_hw659 k0_h1 => k0_hw659 k0_h1

def k0_chk660 (i : grid0.Coords) (k0_t3 : Fin k0_t3_loop.trips) (v76 : IVec S16 32) (v104 : IVec S16 32) (v105 : IVec S16 32) : Prop :=
  (∀ (k0_h1 : k0_cond1 i k0_t3 = 1#1), ∀ a x, ((![v104, v105, v76] : Fin 3 → IVec S16 32) a x).toNat < S8x8x1024.size a)
theorem k0_idx658_inb : ∀ (i : grid0.Coords) (k0_t3 : Fin k0_t3_loop.trips) (v76 : IVec S16 32) (v104 : IVec S16 32) (v105 : IVec S16 32) (k0_hw660 : k0_chk660 i k0_t3 v76 v104 v105), ∀ (k0_h1 : k0_cond1 i k0_t3 = 1#1), ∀ a x, ((![v104, v105, v76] : Fin 3 → IVec S16 32) a x).toNat < S8x8x1024.size a := fun i k0_t3 v76 v104 v105 k0_hw660 k0_h1 => k0_hw660 k0_h1

def k0_chk661 (i : grid0.Coords) (k0_t3 : Fin k0_t3_loop.trips) (v76 : IVec S16 32) (v106 : IVec S16 32) (v107 : IVec S16 32) : Prop :=
  (∀ (k0_h1 : k0_cond1 i k0_t3 = 1#1), ∀ a x, ((![v106, v107, v76] : Fin 3 → IVec S16 32) a x).toNat < S8x8x1024.size a)
theorem k0_idx659_inb : ∀ (i : grid0.Coords) (k0_t3 : Fin k0_t3_loop.trips) (v76 : IVec S16 32) (v106 : IVec S16 32) (v107 : IVec S16 32) (k0_hw661 : k0_chk661 i k0_t3 v76 v106 v107), ∀ (k0_h1 : k0_cond1 i k0_t3 = 1#1), ∀ a x, ((![v106, v107, v76] : Fin 3 → IVec S16 32) a x).toNat < S8x8x1024.size a := fun i k0_t3 v76 v106 v107 k0_hw661 k0_h1 => k0_hw661 k0_h1

def k0_chk662 (i : grid0.Coords) (k0_t3 : Fin k0_t3_loop.trips) (v76 : IVec S16 32) (v108 : IVec S16 32) (v109 : IVec S16 32) : Prop :=
  (∀ (k0_h1 : k0_cond1 i k0_t3 = 1#1), ∀ a x, ((![v108, v109, v76] : Fin 3 → IVec S16 32) a x).toNat < S8x8x1024.size a)
theorem k0_idx660_inb : ∀ (i : grid0.Coords) (k0_t3 : Fin k0_t3_loop.trips) (v76 : IVec S16 32) (v108 : IVec S16 32) (v109 : IVec S16 32) (k0_hw662 : k0_chk662 i k0_t3 v76 v108 v109), ∀ (k0_h1 : k0_cond1 i k0_t3 = 1#1), ∀ a x, ((![v108, v109, v76] : Fin 3 → IVec S16 32) a x).toNat < S8x8x1024.size a := fun i k0_t3 v76 v108 v109 k0_hw662 k0_h1 => k0_hw662 k0_h1

def k0_chk663 (i : grid0.Coords) (k0_t3 : Fin k0_t3_loop.trips) (v76 : IVec S16 32) (v110 : IVec S16 32) (v111 : IVec S16 32) : Prop :=
  (∀ (k0_h1 : k0_cond1 i k0_t3 = 1#1), ∀ a x, ((![v110, v111, v76] : Fin 3 → IVec S16 32) a x).toNat < S8x8x1024.size a)
theorem k0_idx661_inb : ∀ (i : grid0.Coords) (k0_t3 : Fin k0_t3_loop.trips) (v76 : IVec S16 32) (v110 : IVec S16 32) (v111 : IVec S16 32) (k0_hw663 : k0_chk663 i k0_t3 v76 v110 v111), ∀ (k0_h1 : k0_cond1 i k0_t3 = 1#1), ∀ a x, ((![v110, v111, v76] : Fin 3 → IVec S16 32) a x).toNat < S8x8x1024.size a := fun i k0_t3 v76 v110 v111 k0_hw663 k0_h1 => k0_hw663 k0_h1

def k0_chk664 (i : grid0.Coords) (k0_t3 : Fin k0_t3_loop.trips) (v76 : IVec S16 32) (v112 : IVec S16 32) (v113 : IVec S16 32) : Prop :=
  (∀ (k0_h1 : k0_cond1 i k0_t3 = 1#1), ∀ a x, ((![v112, v113, v76] : Fin 3 → IVec S16 32) a x).toNat < S8x8x1024.size a)
theorem k0_idx662_inb : ∀ (i : grid0.Coords) (k0_t3 : Fin k0_t3_loop.trips) (v76 : IVec S16 32) (v112 : IVec S16 32) (v113 : IVec S16 32) (k0_hw664 : k0_chk664 i k0_t3 v76 v112 v113), ∀ (k0_h1 : k0_cond1 i k0_t3 = 1#1), ∀ a x, ((![v112, v113, v76] : Fin 3 → IVec S16 32) a x).toNat < S8x8x1024.size a := fun i k0_t3 v76 v112 v113 k0_hw664 k0_h1 => k0_hw664 k0_h1

def k0_chk665 (i : grid0.Coords) (k0_t3 : Fin k0_t3_loop.trips) (v76 : IVec S16 32) (v114 : IVec S16 32) (v115 : IVec S16 32) : Prop :=
  (∀ (k0_h1 : k0_cond1 i k0_t3 = 1#1), ∀ a x, ((![v114, v115, v76] : Fin 3 → IVec S16 32) a x).toNat < S8x8x1024.size a)
theorem k0_idx663_inb : ∀ (i : grid0.Coords) (k0_t3 : Fin k0_t3_loop.trips) (v76 : IVec S16 32) (v114 : IVec S16 32) (v115 : IVec S16 32) (k0_hw665 : k0_chk665 i k0_t3 v76 v114 v115), ∀ (k0_h1 : k0_cond1 i k0_t3 = 1#1), ∀ a x, ((![v114, v115, v76] : Fin 3 → IVec S16 32) a x).toNat < S8x8x1024.size a := fun i k0_t3 v76 v114 v115 k0_hw665 k0_h1 => k0_hw665 k0_h1

def k0_chk666 (i : grid0.Coords) (k0_t3 : Fin k0_t3_loop.trips) (v76 : IVec S16 32) (v116 : IVec S16 32) (v117 : IVec S16 32) : Prop :=
  (∀ (k0_h1 : k0_cond1 i k0_t3 = 1#1), ∀ a x, ((![v116, v117, v76] : Fin 3 → IVec S16 32) a x).toNat < S8x8x1024.size a)
theorem k0_idx664_inb : ∀ (i : grid0.Coords) (k0_t3 : Fin k0_t3_loop.trips) (v76 : IVec S16 32) (v116 : IVec S16 32) (v117 : IVec S16 32) (k0_hw666 : k0_chk666 i k0_t3 v76 v116 v117), ∀ (k0_h1 : k0_cond1 i k0_t3 = 1#1), ∀ a x, ((![v116, v117, v76] : Fin 3 → IVec S16 32) a x).toNat < S8x8x1024.size a := fun i k0_t3 v76 v116 v117 k0_hw666 k0_h1 => k0_hw666 k0_h1

def k0_chk667 (i : grid0.Coords) (k0_t3 : Fin k0_t3_loop.trips) (v76 : IVec S16 32) (v118 : IVec S16 32) (v119 : IVec S16 32) : Prop :=
  (∀ (k0_h1 : k0_cond1 i k0_t3 = 1#1), ∀ a x, ((![v118, v119, v76] : Fin 3 → IVec S16 32) a x).toNat < S8x8x1024.size a)
theorem k0_idx665_inb : ∀ (i : grid0.Coords) (k0_t3 : Fin k0_t3_loop.trips) (v76 : IVec S16 32) (v118 : IVec S16 32) (v119 : IVec S16 32) (k0_hw667 : k0_chk667 i k0_t3 v76 v118 v119), ∀ (k0_h1 : k0_cond1 i k0_t3 = 1#1), ∀ a x, ((![v118, v119, v76] : Fin 3 → IVec S16 32) a x).toNat < S8x8x1024.size a := fun i k0_t3 v76 v118 v119 k0_hw667 k0_h1 => k0_hw667 k0_h1

def k0_chk668 (i : grid0.Coords) (k0_t3 : Fin k0_t3_loop.trips) (v76 : IVec S16 32) (v120 : IVec S16 32) (v121 : IVec S16 32) : Prop :=
  (∀ (k0_h1 : k0_cond1 i k0_t3 = 1#1), ∀ a x, ((![v120, v121, v76] : Fin 3 → IVec S16 32) a x).toNat < S8x8x1024.size a)
theorem k0_idx666_inb : ∀ (i : grid0.Coords) (k0_t3 : Fin k0_t3_loop.trips) (v76 : IVec S16 32) (v120 : IVec S16 32) (v121 : IVec S16 32) (k0_hw668 : k0_chk668 i k0_t3 v76 v120 v121), ∀ (k0_h1 : k0_cond1 i k0_t3 = 1#1), ∀ a x, ((![v120, v121, v76] : Fin 3 → IVec S16 32) a x).toNat < S8x8x1024.size a := fun i k0_t3 v76 v120 v121 k0_hw668 k0_h1 => k0_hw668 k0_h1

def k0_chk669 (i : grid0.Coords) (k0_t3 : Fin k0_t3_loop.trips) (v76 : IVec S16 32) (v122 : IVec S16 32) (v123 : IVec S16 32) : Prop :=
  (∀ (k0_h1 : k0_cond1 i k0_t3 = 1#1), ∀ a x, ((![v122, v123, v76] : Fin 3 → IVec S16 32) a x).toNat < S8x8x1024.size a)
theorem k0_idx667_inb : ∀ (i : grid0.Coords) (k0_t3 : Fin k0_t3_loop.trips) (v76 : IVec S16 32) (v122 : IVec S16 32) (v123 : IVec S16 32) (k0_hw669 : k0_chk669 i k0_t3 v76 v122 v123), ∀ (k0_h1 : k0_cond1 i k0_t3 = 1#1), ∀ a x, ((![v122, v123, v76] : Fin 3 → IVec S16 32) a x).toNat < S8x8x1024.size a := fun i k0_t3 v76 v122 v123 k0_hw669 k0_h1 => k0_hw669 k0_h1

def k0_chk670 (i : grid0.Coords) (k0_t3 : Fin k0_t3_loop.trips) (v76 : IVec S16 32) (v124 : IVec S16 32) (v125 : IVec S16 32) : Prop :=
  (∀ (k0_h1 : k0_cond1 i k0_t3 = 1#1), ∀ a x, ((![v124, v125, v76] : Fin 3 → IVec S16 32) a x).toNat < S8x8x1024.size a)
theorem k0_idx668_inb : ∀ (i : grid0.Coords) (k0_t3 : Fin k0_t3_loop.trips) (v76 : IVec S16 32) (v124 : IVec S16 32) (v125 : IVec S16 32) (k0_hw670 : k0_chk670 i k0_t3 v76 v124 v125), ∀ (k0_h1 : k0_cond1 i k0_t3 = 1#1), ∀ a x, ((![v124, v125, v76] : Fin 3 → IVec S16 32) a x).toNat < S8x8x1024.size a := fun i k0_t3 v76 v124 v125 k0_hw670 k0_h1 => k0_hw670 k0_h1

def k0_chk671 (i : grid0.Coords) (k0_t3 : Fin k0_t3_loop.trips) (v76 : IVec S16 32) (v126 : IVec S16 32) (v127 : IVec S16 32) : Prop :=
  (∀ (k0_h1 : k0_cond1 i k0_t3 = 1#1), ∀ a x, ((![v126, v127, v76] : Fin 3 → IVec S16 32) a x).toNat < S8x8x1024.size a)
theorem k0_idx669_inb : ∀ (i : grid0.Coords) (k0_t3 : Fin k0_t3_loop.trips) (v76 : IVec S16 32) (v126 : IVec S16 32) (v127 : IVec S16 32) (k0_hw671 : k0_chk671 i k0_t3 v76 v126 v127), ∀ (k0_h1 : k0_cond1 i k0_t3 = 1#1), ∀ a x, ((![v126, v127, v76] : Fin 3 → IVec S16 32) a x).toNat < S8x8x1024.size a := fun i k0_t3 v76 v126 v127 k0_hw671 k0_h1 => k0_hw671 k0_h1

def k0_chk672 (i : grid0.Coords) (k0_t3 : Fin k0_t3_loop.trips) (v76 : IVec S16 32) (v128 : IVec S16 32) (v129 : IVec S16 32) : Prop :=
  (∀ (k0_h1 : k0_cond1 i k0_t3 = 1#1), ∀ a x, ((![v128, v129, v76] : Fin 3 → IVec S16 32) a x).toNat < S8x8x1024.size a)
theorem k0_idx670_inb : ∀ (i : grid0.Coords) (k0_t3 : Fin k0_t3_loop.trips) (v76 : IVec S16 32) (v128 : IVec S16 32) (v129 : IVec S16 32) (k0_hw672 : k0_chk672 i k0_t3 v76 v128 v129), ∀ (k0_h1 : k0_cond1 i k0_t3 = 1#1), ∀ a x, ((![v128, v129, v76] : Fin 3 → IVec S16 32) a x).toNat < S8x8x1024.size a := fun i k0_t3 v76 v128 v129 k0_hw672 k0_h1 => k0_hw672 k0_h1

def k0_chk673 (i : grid0.Coords) (k0_t3 : Fin k0_t3_loop.trips) (v76 : IVec S16 32) (v130 : IVec S16 32) (v131 : IVec S16 32) : Prop :=
  (∀ (k0_h1 : k0_cond1 i k0_t3 = 1#1), ∀ a x, ((![v130, v131, v76] : Fin 3 → IVec S16 32) a x).toNat < S8x8x1024.size a)
theorem k0_idx671_inb : ∀ (i : grid0.Coords) (k0_t3 : Fin k0_t3_loop.trips) (v76 : IVec S16 32) (v130 : IVec S16 32) (v131 : IVec S16 32) (k0_hw673 : k0_chk673 i k0_t3 v76 v130 v131), ∀ (k0_h1 : k0_cond1 i k0_t3 = 1#1), ∀ a x, ((![v130, v131, v76] : Fin 3 → IVec S16 32) a x).toNat < S8x8x1024.size a := fun i k0_t3 v76 v130 v131 k0_hw673 k0_h1 => k0_hw673 k0_h1

def k0_chk674 (i : grid0.Coords) (k0_t3 : Fin k0_t3_loop.trips) (v76 : IVec S16 32) (v132 : IVec S16 32) (v133 : IVec S16 32) : Prop :=
  (∀ (k0_h1 : k0_cond1 i k0_t3 = 1#1), ∀ a x, ((![v132, v133, v76] : Fin 3 → IVec S16 32) a x).toNat < S8x8x1024.size a)
theorem k0_idx672_inb : ∀ (i : grid0.Coords) (k0_t3 : Fin k0_t3_loop.trips) (v76 : IVec S16 32) (v132 : IVec S16 32) (v133 : IVec S16 32) (k0_hw674 : k0_chk674 i k0_t3 v76 v132 v133), ∀ (k0_h1 : k0_cond1 i k0_t3 = 1#1), ∀ a x, ((![v132, v133, v76] : Fin 3 → IVec S16 32) a x).toNat < S8x8x1024.size a := fun i k0_t3 v76 v132 v133 k0_hw674 k0_h1 => k0_hw674 k0_h1

def k0_chk675 (i : grid0.Coords) (k0_t3 : Fin k0_t3_loop.trips) (v76 : IVec S16 32) (v134 : IVec S16 32) (v135 : IVec S16 32) : Prop :=
  (∀ (k0_h1 : k0_cond1 i k0_t3 = 1#1), ∀ a x, ((![v134, v135, v76] : Fin 3 → IVec S16 32) a x).toNat < S8x8x1024.size a)
theorem k0_idx673_inb : ∀ (i : grid0.Coords) (k0_t3 : Fin k0_t3_loop.trips) (v76 : IVec S16 32) (v134 : IVec S16 32) (v135 : IVec S16 32) (k0_hw675 : k0_chk675 i k0_t3 v76 v134 v135), ∀ (k0_h1 : k0_cond1 i k0_t3 = 1#1), ∀ a x, ((![v134, v135, v76] : Fin 3 → IVec S16 32) a x).toNat < S8x8x1024.size a := fun i k0_t3 v76 v134 v135 k0_hw675 k0_h1 => k0_hw675 k0_h1

def k0_chk676 (i : grid0.Coords) (k0_t3 : Fin k0_t3_loop.trips) (v76 : IVec S16 32) (v136 : IVec S16 32) (v137 : IVec S16 32) : Prop :=
  (∀ (k0_h1 : k0_cond1 i k0_t3 = 1#1), ∀ a x, ((![v136, v137, v76] : Fin 3 → IVec S16 32) a x).toNat < S8x8x1024.size a)
theorem k0_idx674_inb : ∀ (i : grid0.Coords) (k0_t3 : Fin k0_t3_loop.trips) (v76 : IVec S16 32) (v136 : IVec S16 32) (v137 : IVec S16 32) (k0_hw676 : k0_chk676 i k0_t3 v76 v136 v137), ∀ (k0_h1 : k0_cond1 i k0_t3 = 1#1), ∀ a x, ((![v136, v137, v76] : Fin 3 → IVec S16 32) a x).toNat < S8x8x1024.size a := fun i k0_t3 v76 v136 v137 k0_hw676 k0_h1 => k0_hw676 k0_h1

def k0_chk677 (i : grid0.Coords) (k0_t3 : Fin k0_t3_loop.trips) (v76 : IVec S16 32) (v138 : IVec S16 32) (v139 : IVec S16 32) : Prop :=
  (∀ (k0_h1 : k0_cond1 i k0_t3 = 1#1), ∀ a x, ((![v138, v139, v76] : Fin 3 → IVec S16 32) a x).toNat < S8x8x1024.size a)
theorem k0_idx675_inb : ∀ (i : grid0.Coords) (k0_t3 : Fin k0_t3_loop.trips) (v76 : IVec S16 32) (v138 : IVec S16 32) (v139 : IVec S16 32) (k0_hw677 : k0_chk677 i k0_t3 v76 v138 v139), ∀ (k0_h1 : k0_cond1 i k0_t3 = 1#1), ∀ a x, ((![v138, v139, v76] : Fin 3 → IVec S16 32) a x).toNat < S8x8x1024.size a := fun i k0_t3 v76 v138 v139 k0_hw677 k0_h1 => k0_hw677 k0_h1

def k0_chk678 (i : grid0.Coords) (k0_t3 : Fin k0_t3_loop.trips) (v76 : IVec S16 32) (v140 : IVec S16 32) (v141 : IVec S16 32) : Prop :=
  (∀ (k0_h1 : k0_cond1 i k0_t3 = 1#1), ∀ a x, ((![v140, v141, v76] : Fin 3 → IVec S16 32) a x).toNat < S8x8x1024.size a)
theorem k0_idx676_inb : ∀ (i : grid0.Coords) (k0_t3 : Fin k0_t3_loop.trips) (v76 : IVec S16 32) (v140 : IVec S16 32) (v141 : IVec S16 32) (k0_hw678 : k0_chk678 i k0_t3 v76 v140 v141), ∀ (k0_h1 : k0_cond1 i k0_t3 = 1#1), ∀ a x, ((![v140, v141, v76] : Fin 3 → IVec S16 32) a x).toNat < S8x8x1024.size a := fun i k0_t3 v76 v140 v141 k0_hw678 k0_h1 => k0_hw678 k0_h1

def k0_chk679 (i : grid0.Coords) (k0_t3 : Fin k0_t3_loop.trips) (v76 : IVec S16 32) (v142 : IVec S16 32) (v143 : IVec S16 32) : Prop :=
  (∀ (k0_h1 : k0_cond1 i k0_t3 = 1#1), ∀ a x, ((![v142, v143, v76] : Fin 3 → IVec S16 32) a x).toNat < S8x8x1024.size a)
theorem k0_idx677_inb : ∀ (i : grid0.Coords) (k0_t3 : Fin k0_t3_loop.trips) (v76 : IVec S16 32) (v142 : IVec S16 32) (v143 : IVec S16 32) (k0_hw679 : k0_chk679 i k0_t3 v76 v142 v143), ∀ (k0_h1 : k0_cond1 i k0_t3 = 1#1), ∀ a x, ((![v142, v143, v76] : Fin 3 → IVec S16 32) a x).toNat < S8x8x1024.size a := fun i k0_t3 v76 v142 v143 k0_hw679 k0_h1 => k0_hw679 k0_h1

def k0_chk680 (i : grid0.Coords) (k0_t3 : Fin k0_t3_loop.trips) (v76 : IVec S16 32) (v144 : IVec S16 32) (v145 : IVec S16 32) : Prop :=
  (∀ (k0_h1 : k0_cond1 i k0_t3 = 1#1), ∀ a x, ((![v144, v145, v76] : Fin 3 → IVec S16 32) a x).toNat < S8x8x1024.size a)
theorem k0_idx678_inb : ∀ (i : grid0.Coords) (k0_t3 : Fin k0_t3_loop.trips) (v76 : IVec S16 32) (v144 : IVec S16 32) (v145 : IVec S16 32) (k0_hw680 : k0_chk680 i k0_t3 v76 v144 v145), ∀ (k0_h1 : k0_cond1 i k0_t3 = 1#1), ∀ a x, ((![v144, v145, v76] : Fin 3 → IVec S16 32) a x).toNat < S8x8x1024.size a := fun i k0_t3 v76 v144 v145 k0_hw680 k0_h1 => k0_hw680 k0_h1

def k0_chk681 (i : grid0.Coords) (k0_t3 : Fin k0_t3_loop.trips) (v76 : IVec S16 32) (v146 : IVec S16 32) (v147 : IVec S16 32) : Prop :=
  (∀ (k0_h1 : k0_cond1 i k0_t3 = 1#1), ∀ a x, ((![v146, v147, v76] : Fin 3 → IVec S16 32) a x).toNat < S8x8x1024.size a)
theorem k0_idx679_inb : ∀ (i : grid0.Coords) (k0_t3 : Fin k0_t3_loop.trips) (v76 : IVec S16 32) (v146 : IVec S16 32) (v147 : IVec S16 32) (k0_hw681 : k0_chk681 i k0_t3 v76 v146 v147), ∀ (k0_h1 : k0_cond1 i k0_t3 = 1#1), ∀ a x, ((![v146, v147, v76] : Fin 3 → IVec S16 32) a x).toNat < S8x8x1024.size a := fun i k0_t3 v76 v146 v147 k0_hw681 k0_h1 => k0_hw681 k0_h1

def k0_chk682 (i : grid0.Coords) (k0_t3 : Fin k0_t3_loop.trips) (v76 : IVec S16 32) (v148 : IVec S16 32) (v149 : IVec S16 32) : Prop :=
  (∀ (k0_h1 : k0_cond1 i k0_t3 = 1#1), ∀ a x, ((![v148, v149, v76] : Fin 3 → IVec S16 32) a x).toNat < S8x8x1024.size a)
theorem k0_idx680_inb : ∀ (i : grid0.Coords) (k0_t3 : Fin k0_t3_loop.trips) (v76 : IVec S16 32) (v148 : IVec S16 32) (v149 : IVec S16 32) (k0_hw682 : k0_chk682 i k0_t3 v76 v148 v149), ∀ (k0_h1 : k0_cond1 i k0_t3 = 1#1), ∀ a x, ((![v148, v149, v76] : Fin 3 → IVec S16 32) a x).toNat < S8x8x1024.size a := fun i k0_t3 v76 v148 v149 k0_hw682 k0_h1 => k0_hw682 k0_h1

def k0_chk683 (i : grid0.Coords) (k0_t3 : Fin k0_t3_loop.trips) (v76 : IVec S16 32) (v150 : IVec S16 32) (v151 : IVec S16 32) : Prop :=
  (∀ (k0_h1 : k0_cond1 i k0_t3 = 1#1), ∀ a x, ((![v150, v151, v76] : Fin 3 → IVec S16 32) a x).toNat < S8x8x1024.size a)
theorem k0_idx681_inb : ∀ (i : grid0.Coords) (k0_t3 : Fin k0_t3_loop.trips) (v76 : IVec S16 32) (v150 : IVec S16 32) (v151 : IVec S16 32) (k0_hw683 : k0_chk683 i k0_t3 v76 v150 v151), ∀ (k0_h1 : k0_cond1 i k0_t3 = 1#1), ∀ a x, ((![v150, v151, v76] : Fin 3 → IVec S16 32) a x).toNat < S8x8x1024.size a := fun i k0_t3 v76 v150 v151 k0_hw683 k0_h1 => k0_hw683 k0_h1

def k0_chk684 (i : grid0.Coords) (k0_t3 : Fin k0_t3_loop.trips) (v76 : IVec S16 32) (v152 : IVec S16 32) (v153 : IVec S16 32) : Prop :=
  (∀ (k0_h1 : k0_cond1 i k0_t3 = 1#1), ∀ a x, ((![v152, v153, v76] : Fin 3 → IVec S16 32) a x).toNat < S8x8x1024.size a)
theorem k0_idx682_inb : ∀ (i : grid0.Coords) (k0_t3 : Fin k0_t3_loop.trips) (v76 : IVec S16 32) (v152 : IVec S16 32) (v153 : IVec S16 32) (k0_hw684 : k0_chk684 i k0_t3 v76 v152 v153), ∀ (k0_h1 : k0_cond1 i k0_t3 = 1#1), ∀ a x, ((![v152, v153, v76] : Fin 3 → IVec S16 32) a x).toNat < S8x8x1024.size a := fun i k0_t3 v76 v152 v153 k0_hw684 k0_h1 => k0_hw684 k0_h1

def k0_chk685 (i : grid0.Coords) (k0_t3 : Fin k0_t3_loop.trips) (v76 : IVec S16 32) (v154 : IVec S16 32) (v155 : IVec S16 32) : Prop :=
  (∀ (k0_h1 : k0_cond1 i k0_t3 = 1#1), ∀ a x, ((![v154, v155, v76] : Fin 3 → IVec S16 32) a x).toNat < S8x8x1024.size a)
theorem k0_idx683_inb : ∀ (i : grid0.Coords) (k0_t3 : Fin k0_t3_loop.trips) (v76 : IVec S16 32) (v154 : IVec S16 32) (v155 : IVec S16 32) (k0_hw685 : k0_chk685 i k0_t3 v76 v154 v155), ∀ (k0_h1 : k0_cond1 i k0_t3 = 1#1), ∀ a x, ((![v154, v155, v76] : Fin 3 → IVec S16 32) a x).toNat < S8x8x1024.size a := fun i k0_t3 v76 v154 v155 k0_hw685 k0_h1 => k0_hw685 k0_h1

def k0_chk686 (i : grid0.Coords) (k0_t3 : Fin k0_t3_loop.trips) (v76 : IVec S16 32) (v156 : IVec S16 32) (v157 : IVec S16 32) : Prop :=
  (∀ (k0_h1 : k0_cond1 i k0_t3 = 1#1), ∀ a x, ((![v156, v157, v76] : Fin 3 → IVec S16 32) a x).toNat < S8x8x1024.size a)
theorem k0_idx684_inb : ∀ (i : grid0.Coords) (k0_t3 : Fin k0_t3_loop.trips) (v76 : IVec S16 32) (v156 : IVec S16 32) (v157 : IVec S16 32) (k0_hw686 : k0_chk686 i k0_t3 v76 v156 v157), ∀ (k0_h1 : k0_cond1 i k0_t3 = 1#1), ∀ a x, ((![v156, v157, v76] : Fin 3 → IVec S16 32) a x).toNat < S8x8x1024.size a := fun i k0_t3 v76 v156 v157 k0_hw686 k0_h1 => k0_hw686 k0_h1

def k0_chk687 (i : grid0.Coords) (k0_t3 : Fin k0_t3_loop.trips) (v76 : IVec S16 32) (v158 : IVec S16 32) (v159 : IVec S16 32) : Prop :=
  (∀ (k0_h1 : k0_cond1 i k0_t3 = 1#1), ∀ a x, ((![v158, v159, v76] : Fin 3 → IVec S16 32) a x).toNat < S8x8x1024.size a)
theorem k0_idx685_inb : ∀ (i : grid0.Coords) (k0_t3 : Fin k0_t3_loop.trips) (v76 : IVec S16 32) (v158 : IVec S16 32) (v159 : IVec S16 32) (k0_hw687 : k0_chk687 i k0_t3 v76 v158 v159), ∀ (k0_h1 : k0_cond1 i k0_t3 = 1#1), ∀ a x, ((![v158, v159, v76] : Fin 3 → IVec S16 32) a x).toNat < S8x8x1024.size a := fun i k0_t3 v76 v158 v159 k0_hw687 k0_h1 => k0_hw687 k0_h1

def k0_chk688 (i : grid0.Coords) (k0_t3 : Fin k0_t3_loop.trips) (v76 : IVec S16 32) (v160 : IVec S16 32) (v161 : IVec S16 32) : Prop :=
  (∀ (k0_h1 : k0_cond1 i k0_t3 = 1#1), ∀ a x, ((![v160, v161, v76] : Fin 3 → IVec S16 32) a x).toNat < S8x8x1024.size a)
theorem k0_idx686_inb : ∀ (i : grid0.Coords) (k0_t3 : Fin k0_t3_loop.trips) (v76 : IVec S16 32) (v160 : IVec S16 32) (v161 : IVec S16 32) (k0_hw688 : k0_chk688 i k0_t3 v76 v160 v161), ∀ (k0_h1 : k0_cond1 i k0_t3 = 1#1), ∀ a x, ((![v160, v161, v76] : Fin 3 → IVec S16 32) a x).toNat < S8x8x1024.size a := fun i k0_t3 v76 v160 v161 k0_hw688 k0_h1 => k0_hw688 k0_h1

def k0_chk689 (i : grid0.Coords) (k0_t3 : Fin k0_t3_loop.trips) (v76 : IVec S16 32) (v162 : IVec S16 32) (v163 : IVec S16 32) : Prop :=
  (∀ (k0_h1 : k0_cond1 i k0_t3 = 1#1), ∀ a x, ((![v162, v163, v76] : Fin 3 → IVec S16 32) a x).toNat < S8x8x1024.size a)
theorem k0_idx687_inb : ∀ (i : grid0.Coords) (k0_t3 : Fin k0_t3_loop.trips) (v76 : IVec S16 32) (v162 : IVec S16 32) (v163 : IVec S16 32) (k0_hw689 : k0_chk689 i k0_t3 v76 v162 v163), ∀ (k0_h1 : k0_cond1 i k0_t3 = 1#1), ∀ a x, ((![v162, v163, v76] : Fin 3 → IVec S16 32) a x).toNat < S8x8x1024.size a := fun i k0_t3 v76 v162 v163 k0_hw689 k0_h1 => k0_hw689 k0_h1

def k0_chk690 (i : grid0.Coords) (k0_t3 : Fin k0_t3_loop.trips) (v76 : IVec S16 32) (v164 : IVec S16 32) (v165 : IVec S16 32) : Prop :=
  (∀ (k0_h1 : k0_cond1 i k0_t3 = 1#1), ∀ a x, ((![v164, v165, v76] : Fin 3 → IVec S16 32) a x).toNat < S8x8x1024.size a)
theorem k0_idx688_inb : ∀ (i : grid0.Coords) (k0_t3 : Fin k0_t3_loop.trips) (v76 : IVec S16 32) (v164 : IVec S16 32) (v165 : IVec S16 32) (k0_hw690 : k0_chk690 i k0_t3 v76 v164 v165), ∀ (k0_h1 : k0_cond1 i k0_t3 = 1#1), ∀ a x, ((![v164, v165, v76] : Fin 3 → IVec S16 32) a x).toNat < S8x8x1024.size a := fun i k0_t3 v76 v164 v165 k0_hw690 k0_h1 => k0_hw690 k0_h1

def k0_chk691 (i : grid0.Coords) (k0_t3 : Fin k0_t3_loop.trips) (v76 : IVec S16 32) (v166 : IVec S16 32) (v167 : IVec S16 32) : Prop :=
  (∀ (k0_h1 : k0_cond1 i k0_t3 = 1#1), ∀ a x, ((![v166, v167, v76] : Fin 3 → IVec S16 32) a x).toNat < S8x8x1024.size a)
theorem k0_idx689_inb : ∀ (i : grid0.Coords) (k0_t3 : Fin k0_t3_loop.trips) (v76 : IVec S16 32) (v166 : IVec S16 32) (v167 : IVec S16 32) (k0_hw691 : k0_chk691 i k0_t3 v76 v166 v167), ∀ (k0_h1 : k0_cond1 i k0_t3 = 1#1), ∀ a x, ((![v166, v167, v76] : Fin 3 → IVec S16 32) a x).toNat < S8x8x1024.size a := fun i k0_t3 v76 v166 v167 k0_hw691 k0_h1 => k0_hw691 k0_h1

def k0_chk692 (i : grid0.Coords) (k0_t3 : Fin k0_t3_loop.trips) (v76 : IVec S16 32) (v168 : IVec S16 32) (v169 : IVec S16 32) : Prop :=
  (∀ (k0_h1 : k0_cond1 i k0_t3 = 1#1), ∀ a x, ((![v168, v169, v76] : Fin 3 → IVec S16 32) a x).toNat < S8x8x1024.size a)
theorem k0_idx690_inb : ∀ (i : grid0.Coords) (k0_t3 : Fin k0_t3_loop.trips) (v76 : IVec S16 32) (v168 : IVec S16 32) (v169 : IVec S16 32) (k0_hw692 : k0_chk692 i k0_t3 v76 v168 v169), ∀ (k0_h1 : k0_cond1 i k0_t3 = 1#1), ∀ a x, ((![v168, v169, v76] : Fin 3 → IVec S16 32) a x).toNat < S8x8x1024.size a := fun i k0_t3 v76 v168 v169 k0_hw692 k0_h1 => k0_hw692 k0_h1

def k0_chk693 (i : grid0.Coords) (k0_t3 : Fin k0_t3_loop.trips) (v76 : IVec S16 32) (v170 : IVec S16 32) (v171 : IVec S16 32) : Prop :=
  (∀ (k0_h1 : k0_cond1 i k0_t3 = 1#1), ∀ a x, ((![v170, v171, v76] : Fin 3 → IVec S16 32) a x).toNat < S8x8x1024.size a)
theorem k0_idx691_inb : ∀ (i : grid0.Coords) (k0_t3 : Fin k0_t3_loop.trips) (v76 : IVec S16 32) (v170 : IVec S16 32) (v171 : IVec S16 32) (k0_hw693 : k0_chk693 i k0_t3 v76 v170 v171), ∀ (k0_h1 : k0_cond1 i k0_t3 = 1#1), ∀ a x, ((![v170, v171, v76] : Fin 3 → IVec S16 32) a x).toNat < S8x8x1024.size a := fun i k0_t3 v76 v170 v171 k0_hw693 k0_h1 => k0_hw693 k0_h1

def k0_chk694 (i : grid0.Coords) (k0_t3 : Fin k0_t3_loop.trips) (v76 : IVec S16 32) (v172 : IVec S16 32) (v173 : IVec S16 32) : Prop :=
  (∀ (k0_h1 : k0_cond1 i k0_t3 = 1#1), ∀ a x, ((![v172, v173, v76] : Fin 3 → IVec S16 32) a x).toNat < S8x8x1024.size a)
theorem k0_idx692_inb : ∀ (i : grid0.Coords) (k0_t3 : Fin k0_t3_loop.trips) (v76 : IVec S16 32) (v172 : IVec S16 32) (v173 : IVec S16 32) (k0_hw694 : k0_chk694 i k0_t3 v76 v172 v173), ∀ (k0_h1 : k0_cond1 i k0_t3 = 1#1), ∀ a x, ((![v172, v173, v76] : Fin 3 → IVec S16 32) a x).toNat < S8x8x1024.size a := fun i k0_t3 v76 v172 v173 k0_hw694 k0_h1 => k0_hw694 k0_h1

def k0_chk695 (i : grid0.Coords) (k0_t3 : Fin k0_t3_loop.trips) (v76 : IVec S16 32) (v174 : IVec S16 32) (v175 : IVec S16 32) : Prop :=
  (∀ (k0_h1 : k0_cond1 i k0_t3 = 1#1), ∀ a x, ((![v174, v175, v76] : Fin 3 → IVec S16 32) a x).toNat < S8x8x1024.size a)
theorem k0_idx693_inb : ∀ (i : grid0.Coords) (k0_t3 : Fin k0_t3_loop.trips) (v76 : IVec S16 32) (v174 : IVec S16 32) (v175 : IVec S16 32) (k0_hw695 : k0_chk695 i k0_t3 v76 v174 v175), ∀ (k0_h1 : k0_cond1 i k0_t3 = 1#1), ∀ a x, ((![v174, v175, v76] : Fin 3 → IVec S16 32) a x).toNat < S8x8x1024.size a := fun i k0_t3 v76 v174 v175 k0_hw695 k0_h1 => k0_hw695 k0_h1

def k0_chk696 (i : grid0.Coords) (k0_t3 : Fin k0_t3_loop.trips) (v76 : IVec S16 32) (v176 : IVec S16 32) (v177 : IVec S16 32) : Prop :=
  (∀ (k0_h1 : k0_cond1 i k0_t3 = 1#1), ∀ a x, ((![v176, v177, v76] : Fin 3 → IVec S16 32) a x).toNat < S8x8x1024.size a)
theorem k0_idx694_inb : ∀ (i : grid0.Coords) (k0_t3 : Fin k0_t3_loop.trips) (v76 : IVec S16 32) (v176 : IVec S16 32) (v177 : IVec S16 32) (k0_hw696 : k0_chk696 i k0_t3 v76 v176 v177), ∀ (k0_h1 : k0_cond1 i k0_t3 = 1#1), ∀ a x, ((![v176, v177, v76] : Fin 3 → IVec S16 32) a x).toNat < S8x8x1024.size a := fun i k0_t3 v76 v176 v177 k0_hw696 k0_h1 => k0_hw696 k0_h1

def k0_chk697 (i : grid0.Coords) (k0_t3 : Fin k0_t3_loop.trips) (v76 : IVec S16 32) (v178 : IVec S16 32) (v179 : IVec S16 32) : Prop :=
  (∀ (k0_h1 : k0_cond1 i k0_t3 = 1#1), ∀ a x, ((![v178, v179, v76] : Fin 3 → IVec S16 32) a x).toNat < S8x8x1024.size a)
theorem k0_idx695_inb : ∀ (i : grid0.Coords) (k0_t3 : Fin k0_t3_loop.trips) (v76 : IVec S16 32) (v178 : IVec S16 32) (v179 : IVec S16 32) (k0_hw697 : k0_chk697 i k0_t3 v76 v178 v179), ∀ (k0_h1 : k0_cond1 i k0_t3 = 1#1), ∀ a x, ((![v178, v179, v76] : Fin 3 → IVec S16 32) a x).toNat < S8x8x1024.size a := fun i k0_t3 v76 v178 v179 k0_hw697 k0_h1 => k0_hw697 k0_h1

def k0_chk698 (i : grid0.Coords) (k0_t3 : Fin k0_t3_loop.trips) (v76 : IVec S16 32) (v180 : IVec S16 32) (v181 : IVec S16 32) : Prop :=
  (∀ (k0_h1 : k0_cond1 i k0_t3 = 1#1), ∀ a x, ((![v180, v181, v76] : Fin 3 → IVec S16 32) a x).toNat < S8x8x1024.size a)
theorem k0_idx696_inb : ∀ (i : grid0.Coords) (k0_t3 : Fin k0_t3_loop.trips) (v76 : IVec S16 32) (v180 : IVec S16 32) (v181 : IVec S16 32) (k0_hw698 : k0_chk698 i k0_t3 v76 v180 v181), ∀ (k0_h1 : k0_cond1 i k0_t3 = 1#1), ∀ a x, ((![v180, v181, v76] : Fin 3 → IVec S16 32) a x).toNat < S8x8x1024.size a := fun i k0_t3 v76 v180 v181 k0_hw698 k0_h1 => k0_hw698 k0_h1

def k0_chk699 (i : grid0.Coords) (k0_t3 : Fin k0_t3_loop.trips) (v76 : IVec S16 32) (v182 : IVec S16 32) (v183 : IVec S16 32) : Prop :=
  (∀ (k0_h1 : k0_cond1 i k0_t3 = 1#1), ∀ a x, ((![v182, v183, v76] : Fin 3 → IVec S16 32) a x).toNat < S8x8x1024.size a)
theorem k0_idx697_inb : ∀ (i : grid0.Coords) (k0_t3 : Fin k0_t3_loop.trips) (v76 : IVec S16 32) (v182 : IVec S16 32) (v183 : IVec S16 32) (k0_hw699 : k0_chk699 i k0_t3 v76 v182 v183), ∀ (k0_h1 : k0_cond1 i k0_t3 = 1#1), ∀ a x, ((![v182, v183, v76] : Fin 3 → IVec S16 32) a x).toNat < S8x8x1024.size a := fun i k0_t3 v76 v182 v183 k0_hw699 k0_h1 => k0_hw699 k0_h1

def k0_chk700 (i : grid0.Coords) (k0_t3 : Fin k0_t3_loop.trips) (v76 : IVec S16 32) (v184 : IVec S16 32) (v185 : IVec S16 32) : Prop :=
  (∀ (k0_h1 : k0_cond1 i k0_t3 = 1#1), ∀ a x, ((![v184, v185, v76] : Fin 3 → IVec S16 32) a x).toNat < S8x8x1024.size a)
theorem k0_idx698_inb : ∀ (i : grid0.Coords) (k0_t3 : Fin k0_t3_loop.trips) (v76 : IVec S16 32) (v184 : IVec S16 32) (v185 : IVec S16 32) (k0_hw700 : k0_chk700 i k0_t3 v76 v184 v185), ∀ (k0_h1 : k0_cond1 i k0_t3 = 1#1), ∀ a x, ((![v184, v185, v76] : Fin 3 → IVec S16 32) a x).toNat < S8x8x1024.size a := fun i k0_t3 v76 v184 v185 k0_hw700 k0_h1 => k0_hw700 k0_h1

def k0_chk701 (i : grid0.Coords) (k0_t3 : Fin k0_t3_loop.trips) (v76 : IVec S16 32) (v186 : IVec S16 32) (v187 : IVec S16 32) : Prop :=
  (∀ (k0_h1 : k0_cond1 i k0_t3 = 1#1), ∀ a x, ((![v186, v187, v76] : Fin 3 → IVec S16 32) a x).toNat < S8x8x1024.size a)
theorem k0_idx699_inb : ∀ (i : grid0.Coords) (k0_t3 : Fin k0_t3_loop.trips) (v76 : IVec S16 32) (v186 : IVec S16 32) (v187 : IVec S16 32) (k0_hw701 : k0_chk701 i k0_t3 v76 v186 v187), ∀ (k0_h1 : k0_cond1 i k0_t3 = 1#1), ∀ a x, ((![v186, v187, v76] : Fin 3 → IVec S16 32) a x).toNat < S8x8x1024.size a := fun i k0_t3 v76 v186 v187 k0_hw701 k0_h1 => k0_hw701 k0_h1

def k0_chk702 (i : grid0.Coords) (k0_t3 : Fin k0_t3_loop.trips) (v76 : IVec S16 32) (v188 : IVec S16 32) (v189 : IVec S16 32) : Prop :=
  (∀ (k0_h1 : k0_cond1 i k0_t3 = 1#1), ∀ a x, ((![v188, v189, v76] : Fin 3 → IVec S16 32) a x).toNat < S8x8x1024.size a)
theorem k0_idx700_inb : ∀ (i : grid0.Coords) (k0_t3 : Fin k0_t3_loop.trips) (v76 : IVec S16 32) (v188 : IVec S16 32) (v189 : IVec S16 32) (k0_hw702 : k0_chk702 i k0_t3 v76 v188 v189), ∀ (k0_h1 : k0_cond1 i k0_t3 = 1#1), ∀ a x, ((![v188, v189, v76] : Fin 3 → IVec S16 32) a x).toNat < S8x8x1024.size a := fun i k0_t3 v76 v188 v189 k0_hw702 k0_h1 => k0_hw702 k0_h1

def k0_chk703 (i : grid0.Coords) (k0_t3 : Fin k0_t3_loop.trips) (v76 : IVec S16 32) (v190 : IVec S16 32) (v191 : IVec S16 32) : Prop :=
  (∀ (k0_h1 : k0_cond1 i k0_t3 = 1#1), ∀ a x, ((![v190, v191, v76] : Fin 3 → IVec S16 32) a x).toNat < S8x8x1024.size a)
theorem k0_idx701_inb : ∀ (i : grid0.Coords) (k0_t3 : Fin k0_t3_loop.trips) (v76 : IVec S16 32) (v190 : IVec S16 32) (v191 : IVec S16 32) (k0_hw703 : k0_chk703 i k0_t3 v76 v190 v191), ∀ (k0_h1 : k0_cond1 i k0_t3 = 1#1), ∀ a x, ((![v190, v191, v76] : Fin 3 → IVec S16 32) a x).toNat < S8x8x1024.size a := fun i k0_t3 v76 v190 v191 k0_hw703 k0_h1 => k0_hw703 k0_h1

def k0_chk704 (i : grid0.Coords) (k0_t3 : Fin k0_t3_loop.trips) (v76 : IVec S16 32) (v192 : IVec S16 32) (v193 : IVec S16 32) : Prop :=
  (∀ (k0_h1 : k0_cond1 i k0_t3 = 1#1), ∀ a x, ((![v192, v193, v76] : Fin 3 → IVec S16 32) a x).toNat < S8x8x1024.size a)
theorem k0_idx702_inb : ∀ (i : grid0.Coords) (k0_t3 : Fin k0_t3_loop.trips) (v76 : IVec S16 32) (v192 : IVec S16 32) (v193 : IVec S16 32) (k0_hw704 : k0_chk704 i k0_t3 v76 v192 v193), ∀ (k0_h1 : k0_cond1 i k0_t3 = 1#1), ∀ a x, ((![v192, v193, v76] : Fin 3 → IVec S16 32) a x).toNat < S8x8x1024.size a := fun i k0_t3 v76 v192 v193 k0_hw704 k0_h1 => k0_hw704 k0_h1

def k0_chk705 (i : grid0.Coords) (k0_t3 : Fin k0_t3_loop.trips) (v76 : IVec S16 32) (v194 : IVec S16 32) (v195 : IVec S16 32) : Prop :=
  (∀ (k0_h1 : k0_cond1 i k0_t3 = 1#1), ∀ a x, ((![v194, v195, v76] : Fin 3 → IVec S16 32) a x).toNat < S8x8x1024.size a)
theorem k0_idx703_inb : ∀ (i : grid0.Coords) (k0_t3 : Fin k0_t3_loop.trips) (v76 : IVec S16 32) (v194 : IVec S16 32) (v195 : IVec S16 32) (k0_hw705 : k0_chk705 i k0_t3 v76 v194 v195), ∀ (k0_h1 : k0_cond1 i k0_t3 = 1#1), ∀ a x, ((![v194, v195, v76] : Fin 3 → IVec S16 32) a x).toNat < S8x8x1024.size a := fun i k0_t3 v76 v194 v195 k0_hw705 k0_h1 => k0_hw705 k0_h1

def k0_chk706 (i : grid0.Coords) (k0_t3 : Fin k0_t3_loop.trips) (v76 : IVec S16 32) (v196 : IVec S16 32) (v197 : IVec S16 32) : Prop :=
  (∀ (k0_h1 : k0_cond1 i k0_t3 = 1#1), ∀ a x, ((![v196, v197, v76] : Fin 3 → IVec S16 32) a x).toNat < S8x8x1024.size a)
theorem k0_idx704_inb : ∀ (i : grid0.Coords) (k0_t3 : Fin k0_t3_loop.trips) (v76 : IVec S16 32) (v196 : IVec S16 32) (v197 : IVec S16 32) (k0_hw706 : k0_chk706 i k0_t3 v76 v196 v197), ∀ (k0_h1 : k0_cond1 i k0_t3 = 1#1), ∀ a x, ((![v196, v197, v76] : Fin 3 → IVec S16 32) a x).toNat < S8x8x1024.size a := fun i k0_t3 v76 v196 v197 k0_hw706 k0_h1 => k0_hw706 k0_h1

def k0_chk707 (i : grid0.Coords) (k0_t3 : Fin k0_t3_loop.trips) (v76 : IVec S16 32) (v198 : IVec S16 32) (v199 : IVec S16 32) : Prop :=
  (∀ (k0_h1 : k0_cond1 i k0_t3 = 1#1), ∀ a x, ((![v198, v199, v76] : Fin 3 → IVec S16 32) a x).toNat < S8x8x1024.size a)
theorem k0_idx705_inb : ∀ (i : grid0.Coords) (k0_t3 : Fin k0_t3_loop.trips) (v76 : IVec S16 32) (v198 : IVec S16 32) (v199 : IVec S16 32) (k0_hw707 : k0_chk707 i k0_t3 v76 v198 v199), ∀ (k0_h1 : k0_cond1 i k0_t3 = 1#1), ∀ a x, ((![v198, v199, v76] : Fin 3 → IVec S16 32) a x).toNat < S8x8x1024.size a := fun i k0_t3 v76 v198 v199 k0_hw707 k0_h1 => k0_hw707 k0_h1

def k0_chk708 (i : grid0.Coords) (k0_t3 : Fin k0_t3_loop.trips) (v76 : IVec S16 32) (v200 : IVec S16 32) (v201 : IVec S16 32) : Prop :=
  (∀ (k0_h1 : k0_cond1 i k0_t3 = 1#1), ∀ a x, ((![v200, v201, v76] : Fin 3 → IVec S16 32) a x).toNat < S8x8x1024.size a)
theorem k0_idx706_inb : ∀ (i : grid0.Coords) (k0_t3 : Fin k0_t3_loop.trips) (v76 : IVec S16 32) (v200 : IVec S16 32) (v201 : IVec S16 32) (k0_hw708 : k0_chk708 i k0_t3 v76 v200 v201), ∀ (k0_h1 : k0_cond1 i k0_t3 = 1#1), ∀ a x, ((![v200, v201, v76] : Fin 3 → IVec S16 32) a x).toNat < S8x8x1024.size a := fun i k0_t3 v76 v200 v201 k0_hw708 k0_h1 => k0_hw708 k0_h1

def k0_chk709 (i : grid0.Coords) (k0_t3 : Fin k0_t3_loop.trips) (v76 : IVec S16 32) (v202 : IVec S16 32) (v203 : IVec S16 32) : Prop :=
  (∀ (k0_h1 : k0_cond1 i k0_t3 = 1#1), ∀ a x, ((![v202, v203, v76] : Fin 3 → IVec S16 32) a x).toNat < S8x8x1024.size a)
theorem k0_idx707_inb : ∀ (i : grid0.Coords) (k0_t3 : Fin k0_t3_loop.trips) (v76 : IVec S16 32) (v202 : IVec S16 32) (v203 : IVec S16 32) (k0_hw709 : k0_chk709 i k0_t3 v76 v202 v203), ∀ (k0_h1 : k0_cond1 i k0_t3 = 1#1), ∀ a x, ((![v202, v203, v76] : Fin 3 → IVec S16 32) a x).toNat < S8x8x1024.size a := fun i k0_t3 v76 v202 v203 k0_hw709 k0_h1 => k0_hw709 k0_h1

def k0_chk710 (i : grid0.Coords) (k0_t3 : Fin k0_t3_loop.trips) (v76 : IVec S16 32) (v204 : IVec S16 32) (v205 : IVec S16 32) : Prop :=
  (∀ (k0_h1 : k0_cond1 i k0_t3 = 1#1), ∀ a x, ((![v204, v205, v76] : Fin 3 → IVec S16 32) a x).toNat < S8x8x1024.size a)
theorem k0_idx708_inb : ∀ (i : grid0.Coords) (k0_t3 : Fin k0_t3_loop.trips) (v76 : IVec S16 32) (v204 : IVec S16 32) (v205 : IVec S16 32) (k0_hw710 : k0_chk710 i k0_t3 v76 v204 v205), ∀ (k0_h1 : k0_cond1 i k0_t3 = 1#1), ∀ a x, ((![v204, v205, v76] : Fin 3 → IVec S16 32) a x).toNat < S8x8x1024.size a := fun i k0_t3 v76 v204 v205 k0_hw710 k0_h1 => k0_hw710 k0_h1

def k0_chk711 (i : grid0.Coords) (k0_t3 : Fin k0_t3_loop.trips) (v76 : IVec S16 32) (v206 : IVec S16 32) (v207 : IVec S16 32) : Prop :=
  (∀ (k0_h1 : k0_cond1 i k0_t3 = 1#1), ∀ a x, ((![v206, v207, v76] : Fin 3 → IVec S16 32) a x).toNat < S8x8x1024.size a)
theorem k0_idx709_inb : ∀ (i : grid0.Coords) (k0_t3 : Fin k0_t3_loop.trips) (v76 : IVec S16 32) (v206 : IVec S16 32) (v207 : IVec S16 32) (k0_hw711 : k0_chk711 i k0_t3 v76 v206 v207), ∀ (k0_h1 : k0_cond1 i k0_t3 = 1#1), ∀ a x, ((![v206, v207, v76] : Fin 3 → IVec S16 32) a x).toNat < S8x8x1024.size a := fun i k0_t3 v76 v206 v207 k0_hw711 k0_h1 => k0_hw711 k0_h1

def k0_chk712 (i : grid0.Coords) (k0_t3 : Fin k0_t3_loop.trips) (v76 : IVec S16 32) (v208 : IVec S16 32) (v209 : IVec S16 32) : Prop :=
  (∀ (k0_h1 : k0_cond1 i k0_t3 = 1#1), ∀ a x, ((![v208, v209, v76] : Fin 3 → IVec S16 32) a x).toNat < S8x8x1024.size a)
theorem k0_idx710_inb : ∀ (i : grid0.Coords) (k0_t3 : Fin k0_t3_loop.trips) (v76 : IVec S16 32) (v208 : IVec S16 32) (v209 : IVec S16 32) (k0_hw712 : k0_chk712 i k0_t3 v76 v208 v209), ∀ (k0_h1 : k0_cond1 i k0_t3 = 1#1), ∀ a x, ((![v208, v209, v76] : Fin 3 → IVec S16 32) a x).toNat < S8x8x1024.size a := fun i k0_t3 v76 v208 v209 k0_hw712 k0_h1 => k0_hw712 k0_h1
def k0_off94 (v32 : BitVec 32) (k0_t9 : Fin (k0_t9_loop v32).trips) : Fin 1 → Nat :=
  let c0_i32_38 : BitVec 32 := 0#32
  let c31_i32_23 : BitVec 32 := 31#32
  let v33 : BitVec 32 := Scalar.addi v32 c31_i32_23
  let c0_i32_24 : BitVec 32 := 0#32
  let v35 : BitVec 1 := Scalar.cmpi .sgt v33 c0_i32_24
  let v36 : BitVec 32 := Scalar.extui v35
  let c0_i32_25 : BitVec 32 := 0#32
  let v37 : BitVec 1 := Scalar.cmpi .slt v33 c0_i32_25
  let v38 : BitVec 32 := Scalar.extui v37
  let v39 : BitVec 32 := Scalar.subi v36 v38
  let c32_i32 : BitVec 32 := 32#32
  let c0_i32_26 : BitVec 32 := 0#32
  let v40 : BitVec 1 := Scalar.cmpi .sgt c32_i32 c0_i32_26
  let v41 : BitVec 32 := Scalar.extui v40
  let c0_i32_27 : BitVec 32 := 0#32
  let v42 : BitVec 1 := Scalar.cmpi .slt c32_i32 c0_i32_27
  let v43 : BitVec 32 := Scalar.extui v42
  let v44 : BitVec 32 := Scalar.subi v41 v43
  let v45 : BitVec 1 := Scalar.cmpi .ne v39 v44
  let v46 : BitVec 32 := Scalar.remsi v33 c32_i32
  let c0_i32_28 : BitVec 32 := 0#32
  let v47 : BitVec 1 := Scalar.cmpi .ne v46 c0_i32_28
  let v48 : BitVec 1 := Scalar.andi v45 v47
  let v34 : BitVec 32 := Scalar.divsi v33 c32_i32
  let c1_i32_29 : BitVec 32 := 1#32
  let v49 : BitVec 32 := Scalar.subi v34 c1_i32_29
  let v50 : BitVec 32 := Scalar.select v48 v49 v34
  let v64 : BitVec 32 := Scalar.subi v50 c0_i32_38
  let c1_i32_40 : BitVec 32 := 1#32
  let v66 : BitVec 32 := Scalar.divsi v64 c1_i32_40
  let v67 : BitVec 32 := Scalar.muli v66 c1_i32_40
  let v68 : BitVec 32 := Scalar.addi c0_i32_38 v67
  let c1_i32_42 : BitVec 32 := 1#32
  let arg14 : BitVec 32 := Scf.iv v68 c1_i32_42 k0_t9
  let c32_i32_43 : BitVec 32 := 32#32
  let v71 : BitVec 32 := Scalar.muli arg14 c32_i32_43
  let c16_i32 : BitVec 32 := 16#32
  let v210 : BitVec 32 := Scalar.addi v71 c16_i32
  let v211 : Index := Scalar.indexCast v210
  ![v211.toNat]

def k0_chk8 (i : grid0.Coords) (k0_t3 : Fin k0_t3_loop.trips) (v32 : BitVec 32) : Prop :=
  (∀ (k0_h1 : k0_cond1 i k0_t3 = 1#1), (k0_t6_loop v32).OK) ∧
  (∀ k0_t6 : Fin (k0_t6_loop v32).trips, ∀ (k0_h1 : k0_cond1 i k0_t3 = 1#1), ∀ (r : Fin 2), ∀ a, (k0_off71 v32 k0_t6 (BitVec.ofNat 32 (16 * r.val))) a + S16.size a ≤ S16384.size a) ∧
  (∀ k0_t6 : Fin (k0_t6_loop v32).trips, ∀ (k0_h1 : k0_cond1 i k0_t3 = 1#1), ∀ a, (k0_off72 v32 k0_t6) a + S16.size a ≤ S16384.size a) ∧
  (∀ (k0_h1 : k0_cond1 i k0_t3 = 1#1), (k0_t7_loop v32).OK) ∧
  (∀ k0_t7 : Fin (k0_t7_loop v32).trips, ∀ (k0_h1 : k0_cond1 i k0_t3 = 1#1), ∀ (r : Fin 2), ∀ a, (k0_off73 v32 k0_t7 (BitVec.ofNat 32 (16 * r.val))) a + S16.size a ≤ S16384.size a) ∧
  (∀ k0_t7 : Fin (k0_t7_loop v32).trips, ∀ (k0_h1 : k0_cond1 i k0_t3 = 1#1), ∀ a, (k0_off74 v32 k0_t7) a + S16.size a ≤ S16384.size a) ∧
  (∀ (k0_h1 : k0_cond1 i k0_t3 = 1#1), (k0_t8_loop v32).OK) ∧
  (∀ k0_t8 : Fin (k0_t8_loop v32).trips, ∀ (k0_h1 : k0_cond1 i k0_t3 = 1#1), ∀ a, (k0_off91 v32 k0_t8) a + S16.size a ≤ S16384.size a) ∧
  (∀ k0_t8 : Fin (k0_t8_loop v32).trips, ∀ (k0_h1 : k0_cond1 i k0_t3 = 1#1), ∀ a, (k0_off92 v32 k0_t8) a + S16.size a ≤ S16384.size a) ∧
  (∀ (k0_h1 : k0_cond1 i k0_t3 = 1#1), (k0_t9_loop v32).OK) ∧
  (∀ k0_t9 : Fin (k0_t9_loop v32).trips, ∀ (k0_h1 : k0_cond1 i k0_t3 = 1#1), ∀ a, (k0_off93 v32 k0_t9) a + S16.size a ≤ S16384.size a) ∧
  (∀ k0_t9 : Fin (k0_t9_loop v32).trips, ∀ (k0_h1 : k0_cond1 i k0_t3 = 1#1), ∀ a, (k0_off94 v32 k0_t9) a + S16.size a ≤ S16384.size a)
theorem k0_t6_ok : ∀ (i : grid0.Coords) (k0_t3 : Fin k0_t3_loop.trips) (v32 : BitVec 32) (k0_hw8 : k0_chk8 i k0_t3 v32), ∀ (k0_h1 : k0_cond1 i k0_t3 = 1#1), (k0_t6_loop v32).OK := fun i k0_t3 v32 k0_hw8 k0_h1 => k0_hw8.1 k0_h1
theorem k0_off71_inb : ∀ (i : grid0.Coords) (k0_t3 : Fin k0_t3_loop.trips) (v32 : BitVec 32) (k0_hw8 : k0_chk8 i k0_t3 v32) (k0_t6 : Fin (k0_t6_loop v32).trips), ∀ (k0_h1 : k0_cond1 i k0_t3 = 1#1), ∀ (r : Fin 2), ∀ a, (k0_off71 v32 k0_t6 (BitVec.ofNat 32 (16 * r.val))) a + S16.size a ≤ S16384.size a := fun i k0_t3 v32 k0_hw8 k0_t6 k0_h1 r => k0_hw8.2.1 k0_t6 k0_h1 r
theorem k0_off72_inb : ∀ (i : grid0.Coords) (k0_t3 : Fin k0_t3_loop.trips) (v32 : BitVec 32) (k0_hw8 : k0_chk8 i k0_t3 v32) (k0_t6 : Fin (k0_t6_loop v32).trips), ∀ (k0_h1 : k0_cond1 i k0_t3 = 1#1), ∀ a, (k0_off72 v32 k0_t6) a + S16.size a ≤ S16384.size a := fun i k0_t3 v32 k0_hw8 k0_t6 k0_h1 => k0_hw8.2.2.1 k0_t6 k0_h1
theorem k0_t7_ok : ∀ (i : grid0.Coords) (k0_t3 : Fin k0_t3_loop.trips) (v32 : BitVec 32) (k0_hw8 : k0_chk8 i k0_t3 v32), ∀ (k0_h1 : k0_cond1 i k0_t3 = 1#1), (k0_t7_loop v32).OK := fun i k0_t3 v32 k0_hw8 k0_h1 => k0_hw8.2.2.2.1 k0_h1
theorem k0_off73_inb : ∀ (i : grid0.Coords) (k0_t3 : Fin k0_t3_loop.trips) (v32 : BitVec 32) (k0_hw8 : k0_chk8 i k0_t3 v32) (k0_t7 : Fin (k0_t7_loop v32).trips), ∀ (k0_h1 : k0_cond1 i k0_t3 = 1#1), ∀ (r : Fin 2), ∀ a, (k0_off73 v32 k0_t7 (BitVec.ofNat 32 (16 * r.val))) a + S16.size a ≤ S16384.size a := fun i k0_t3 v32 k0_hw8 k0_t7 k0_h1 r => k0_hw8.2.2.2.2.1 k0_t7 k0_h1 r
theorem k0_off74_inb : ∀ (i : grid0.Coords) (k0_t3 : Fin k0_t3_loop.trips) (v32 : BitVec 32) (k0_hw8 : k0_chk8 i k0_t3 v32) (k0_t7 : Fin (k0_t7_loop v32).trips), ∀ (k0_h1 : k0_cond1 i k0_t3 = 1#1), ∀ a, (k0_off74 v32 k0_t7) a + S16.size a ≤ S16384.size a := fun i k0_t3 v32 k0_hw8 k0_t7 k0_h1 => k0_hw8.2.2.2.2.2.1 k0_t7 k0_h1
theorem k0_t8_ok : ∀ (i : grid0.Coords) (k0_t3 : Fin k0_t3_loop.trips) (v32 : BitVec 32) (k0_hw8 : k0_chk8 i k0_t3 v32), ∀ (k0_h1 : k0_cond1 i k0_t3 = 1#1), (k0_t8_loop v32).OK := fun i k0_t3 v32 k0_hw8 k0_h1 => k0_hw8.2.2.2.2.2.2.1 k0_h1
theorem k0_off91_inb : ∀ (i : grid0.Coords) (k0_t3 : Fin k0_t3_loop.trips) (v32 : BitVec 32) (k0_hw8 : k0_chk8 i k0_t3 v32) (k0_t8 : Fin (k0_t8_loop v32).trips), ∀ (k0_h1 : k0_cond1 i k0_t3 = 1#1), ∀ a, (k0_off91 v32 k0_t8) a + S16.size a ≤ S16384.size a := fun i k0_t3 v32 k0_hw8 k0_t8 k0_h1 => k0_hw8.2.2.2.2.2.2.2.1 k0_t8 k0_h1
theorem k0_off92_inb : ∀ (i : grid0.Coords) (k0_t3 : Fin k0_t3_loop.trips) (v32 : BitVec 32) (k0_hw8 : k0_chk8 i k0_t3 v32) (k0_t8 : Fin (k0_t8_loop v32).trips), ∀ (k0_h1 : k0_cond1 i k0_t3 = 1#1), ∀ a, (k0_off92 v32 k0_t8) a + S16.size a ≤ S16384.size a := fun i k0_t3 v32 k0_hw8 k0_t8 k0_h1 => k0_hw8.2.2.2.2.2.2.2.2.1 k0_t8 k0_h1
theorem k0_t9_ok : ∀ (i : grid0.Coords) (k0_t3 : Fin k0_t3_loop.trips) (v32 : BitVec 32) (k0_hw8 : k0_chk8 i k0_t3 v32), ∀ (k0_h1 : k0_cond1 i k0_t3 = 1#1), (k0_t9_loop v32).OK := fun i k0_t3 v32 k0_hw8 k0_h1 => k0_hw8.2.2.2.2.2.2.2.2.2.1 k0_h1
theorem k0_off93_inb : ∀ (i : grid0.Coords) (k0_t3 : Fin k0_t3_loop.trips) (v32 : BitVec 32) (k0_hw8 : k0_chk8 i k0_t3 v32) (k0_t9 : Fin (k0_t9_loop v32).trips), ∀ (k0_h1 : k0_cond1 i k0_t3 = 1#1), ∀ a, (k0_off93 v32 k0_t9) a + S16.size a ≤ S16384.size a := fun i k0_t3 v32 k0_hw8 k0_t9 k0_h1 => k0_hw8.2.2.2.2.2.2.2.2.2.2.1 k0_t9 k0_h1
theorem k0_off94_inb : ∀ (i : grid0.Coords) (k0_t3 : Fin k0_t3_loop.trips) (v32 : BitVec 32) (k0_hw8 : k0_chk8 i k0_t3 v32) (k0_t9 : Fin (k0_t9_loop v32).trips), ∀ (k0_h1 : k0_cond1 i k0_t3 = 1#1), ∀ a, (k0_off94 v32 k0_t9) a + S16.size a ≤ S16384.size a := fun i k0_t3 v32 k0_hw8 k0_t9 k0_h1 => k0_hw8.2.2.2.2.2.2.2.2.2.2.2 k0_t9 k0_h1

def k0_chk713 (i : grid0.Coords) (k0_t3 : Fin k0_t3_loop.trips) (v214 : IVec S16 32) (v220 : IVec S16 32) (v221 : IVec S16 32) : Prop :=
  (∀ (k0_h1 : k0_cond1 i k0_t3 = 1#1), ∀ a x, ((![v220, v221, v214] : Fin 3 → IVec S16 32) a x).toNat < S8x8x1024.size a)
theorem k0_idx711_inb : ∀ (i : grid0.Coords) (k0_t3 : Fin k0_t3_loop.trips) (v214 : IVec S16 32) (v220 : IVec S16 32) (v221 : IVec S16 32) (k0_hw713 : k0_chk713 i k0_t3 v214 v220 v221), ∀ (k0_h1 : k0_cond1 i k0_t3 = 1#1), ∀ a x, ((![v220, v221, v214] : Fin 3 → IVec S16 32) a x).toNat < S8x8x1024.size a := fun i k0_t3 v214 v220 v221 k0_hw713 k0_h1 => k0_hw713 k0_h1

def k0_chk714 (i : grid0.Coords) (k0_t3 : Fin k0_t3_loop.trips) (v214 : IVec S16 32) (v222 : IVec S16 32) (v223 : IVec S16 32) : Prop :=
  (∀ (k0_h1 : k0_cond1 i k0_t3 = 1#1), ∀ a x, ((![v222, v223, v214] : Fin 3 → IVec S16 32) a x).toNat < S8x8x1024.size a)
theorem k0_idx712_inb : ∀ (i : grid0.Coords) (k0_t3 : Fin k0_t3_loop.trips) (v214 : IVec S16 32) (v222 : IVec S16 32) (v223 : IVec S16 32) (k0_hw714 : k0_chk714 i k0_t3 v214 v222 v223), ∀ (k0_h1 : k0_cond1 i k0_t3 = 1#1), ∀ a x, ((![v222, v223, v214] : Fin 3 → IVec S16 32) a x).toNat < S8x8x1024.size a := fun i k0_t3 v214 v222 v223 k0_hw714 k0_h1 => k0_hw714 k0_h1

def k0_chk715 (i : grid0.Coords) (k0_t3 : Fin k0_t3_loop.trips) (v214 : IVec S16 32) (v224 : IVec S16 32) (v225 : IVec S16 32) : Prop :=
  (∀ (k0_h1 : k0_cond1 i k0_t3 = 1#1), ∀ a x, ((![v224, v225, v214] : Fin 3 → IVec S16 32) a x).toNat < S8x8x1024.size a)
theorem k0_idx713_inb : ∀ (i : grid0.Coords) (k0_t3 : Fin k0_t3_loop.trips) (v214 : IVec S16 32) (v224 : IVec S16 32) (v225 : IVec S16 32) (k0_hw715 : k0_chk715 i k0_t3 v214 v224 v225), ∀ (k0_h1 : k0_cond1 i k0_t3 = 1#1), ∀ a x, ((![v224, v225, v214] : Fin 3 → IVec S16 32) a x).toNat < S8x8x1024.size a := fun i k0_t3 v214 v224 v225 k0_hw715 k0_h1 => k0_hw715 k0_h1

def k0_chk716 (i : grid0.Coords) (k0_t3 : Fin k0_t3_loop.trips) (v214 : IVec S16 32) (v226 : IVec S16 32) (v227 : IVec S16 32) : Prop :=
  (∀ (k0_h1 : k0_cond1 i k0_t3 = 1#1), ∀ a x, ((![v226, v227, v214] : Fin 3 → IVec S16 32) a x).toNat < S8x8x1024.size a)
theorem k0_idx714_inb : ∀ (i : grid0.Coords) (k0_t3 : Fin k0_t3_loop.trips) (v214 : IVec S16 32) (v226 : IVec S16 32) (v227 : IVec S16 32) (k0_hw716 : k0_chk716 i k0_t3 v214 v226 v227), ∀ (k0_h1 : k0_cond1 i k0_t3 = 1#1), ∀ a x, ((![v226, v227, v214] : Fin 3 → IVec S16 32) a x).toNat < S8x8x1024.size a := fun i k0_t3 v214 v226 v227 k0_hw716 k0_h1 => k0_hw716 k0_h1

def k0_chk717 (i : grid0.Coords) (k0_t3 : Fin k0_t3_loop.trips) (v214 : IVec S16 32) (v228 : IVec S16 32) (v229 : IVec S16 32) : Prop :=
  (∀ (k0_h1 : k0_cond1 i k0_t3 = 1#1), ∀ a x, ((![v228, v229, v214] : Fin 3 → IVec S16 32) a x).toNat < S8x8x1024.size a)
theorem k0_idx715_inb : ∀ (i : grid0.Coords) (k0_t3 : Fin k0_t3_loop.trips) (v214 : IVec S16 32) (v228 : IVec S16 32) (v229 : IVec S16 32) (k0_hw717 : k0_chk717 i k0_t3 v214 v228 v229), ∀ (k0_h1 : k0_cond1 i k0_t3 = 1#1), ∀ a x, ((![v228, v229, v214] : Fin 3 → IVec S16 32) a x).toNat < S8x8x1024.size a := fun i k0_t3 v214 v228 v229 k0_hw717 k0_h1 => k0_hw717 k0_h1

def k0_chk718 (i : grid0.Coords) (k0_t3 : Fin k0_t3_loop.trips) (v214 : IVec S16 32) (v230 : IVec S16 32) (v231 : IVec S16 32) : Prop :=
  (∀ (k0_h1 : k0_cond1 i k0_t3 = 1#1), ∀ a x, ((![v230, v231, v214] : Fin 3 → IVec S16 32) a x).toNat < S8x8x1024.size a)
theorem k0_idx716_inb : ∀ (i : grid0.Coords) (k0_t3 : Fin k0_t3_loop.trips) (v214 : IVec S16 32) (v230 : IVec S16 32) (v231 : IVec S16 32) (k0_hw718 : k0_chk718 i k0_t3 v214 v230 v231), ∀ (k0_h1 : k0_cond1 i k0_t3 = 1#1), ∀ a x, ((![v230, v231, v214] : Fin 3 → IVec S16 32) a x).toNat < S8x8x1024.size a := fun i k0_t3 v214 v230 v231 k0_hw718 k0_h1 => k0_hw718 k0_h1

def k0_chk719 (i : grid0.Coords) (k0_t3 : Fin k0_t3_loop.trips) (v214 : IVec S16 32) (v232 : IVec S16 32) (v233 : IVec S16 32) : Prop :=
  (∀ (k0_h1 : k0_cond1 i k0_t3 = 1#1), ∀ a x, ((![v232, v233, v214] : Fin 3 → IVec S16 32) a x).toNat < S8x8x1024.size a)
theorem k0_idx717_inb : ∀ (i : grid0.Coords) (k0_t3 : Fin k0_t3_loop.trips) (v214 : IVec S16 32) (v232 : IVec S16 32) (v233 : IVec S16 32) (k0_hw719 : k0_chk719 i k0_t3 v214 v232 v233), ∀ (k0_h1 : k0_cond1 i k0_t3 = 1#1), ∀ a x, ((![v232, v233, v214] : Fin 3 → IVec S16 32) a x).toNat < S8x8x1024.size a := fun i k0_t3 v214 v232 v233 k0_hw719 k0_h1 => k0_hw719 k0_h1

def k0_chk720 (i : grid0.Coords) (k0_t3 : Fin k0_t3_loop.trips) (v214 : IVec S16 32) (v234 : IVec S16 32) (v235 : IVec S16 32) : Prop :=
  (∀ (k0_h1 : k0_cond1 i k0_t3 = 1#1), ∀ a x, ((![v234, v235, v214] : Fin 3 → IVec S16 32) a x).toNat < S8x8x1024.size a)
theorem k0_idx718_inb : ∀ (i : grid0.Coords) (k0_t3 : Fin k0_t3_loop.trips) (v214 : IVec S16 32) (v234 : IVec S16 32) (v235 : IVec S16 32) (k0_hw720 : k0_chk720 i k0_t3 v214 v234 v235), ∀ (k0_h1 : k0_cond1 i k0_t3 = 1#1), ∀ a x, ((![v234, v235, v214] : Fin 3 → IVec S16 32) a x).toNat < S8x8x1024.size a := fun i k0_t3 v214 v234 v235 k0_hw720 k0_h1 => k0_hw720 k0_h1

def k0_chk721 (i : grid0.Coords) (k0_t3 : Fin k0_t3_loop.trips) (v214 : IVec S16 32) (v236 : IVec S16 32) (v237 : IVec S16 32) : Prop :=
  (∀ (k0_h1 : k0_cond1 i k0_t3 = 1#1), ∀ a x, ((![v236, v237, v214] : Fin 3 → IVec S16 32) a x).toNat < S8x8x1024.size a)
theorem k0_idx719_inb : ∀ (i : grid0.Coords) (k0_t3 : Fin k0_t3_loop.trips) (v214 : IVec S16 32) (v236 : IVec S16 32) (v237 : IVec S16 32) (k0_hw721 : k0_chk721 i k0_t3 v214 v236 v237), ∀ (k0_h1 : k0_cond1 i k0_t3 = 1#1), ∀ a x, ((![v236, v237, v214] : Fin 3 → IVec S16 32) a x).toNat < S8x8x1024.size a := fun i k0_t3 v214 v236 v237 k0_hw721 k0_h1 => k0_hw721 k0_h1

def k0_chk722 (i : grid0.Coords) (k0_t3 : Fin k0_t3_loop.trips) (v214 : IVec S16 32) (v238 : IVec S16 32) (v239 : IVec S16 32) : Prop :=
  (∀ (k0_h1 : k0_cond1 i k0_t3 = 1#1), ∀ a x, ((![v238, v239, v214] : Fin 3 → IVec S16 32) a x).toNat < S8x8x1024.size a)
theorem k0_idx720_inb : ∀ (i : grid0.Coords) (k0_t3 : Fin k0_t3_loop.trips) (v214 : IVec S16 32) (v238 : IVec S16 32) (v239 : IVec S16 32) (k0_hw722 : k0_chk722 i k0_t3 v214 v238 v239), ∀ (k0_h1 : k0_cond1 i k0_t3 = 1#1), ∀ a x, ((![v238, v239, v214] : Fin 3 → IVec S16 32) a x).toNat < S8x8x1024.size a := fun i k0_t3 v214 v238 v239 k0_hw722 k0_h1 => k0_hw722 k0_h1

def k0_chk723 (i : grid0.Coords) (k0_t3 : Fin k0_t3_loop.trips) (v214 : IVec S16 32) (v240 : IVec S16 32) (v241 : IVec S16 32) : Prop :=
  (∀ (k0_h1 : k0_cond1 i k0_t3 = 1#1), ∀ a x, ((![v240, v241, v214] : Fin 3 → IVec S16 32) a x).toNat < S8x8x1024.size a)
theorem k0_idx721_inb : ∀ (i : grid0.Coords) (k0_t3 : Fin k0_t3_loop.trips) (v214 : IVec S16 32) (v240 : IVec S16 32) (v241 : IVec S16 32) (k0_hw723 : k0_chk723 i k0_t3 v214 v240 v241), ∀ (k0_h1 : k0_cond1 i k0_t3 = 1#1), ∀ a x, ((![v240, v241, v214] : Fin 3 → IVec S16 32) a x).toNat < S8x8x1024.size a := fun i k0_t3 v214 v240 v241 k0_hw723 k0_h1 => k0_hw723 k0_h1

def k0_chk724 (i : grid0.Coords) (k0_t3 : Fin k0_t3_loop.trips) (v214 : IVec S16 32) (v242 : IVec S16 32) (v243 : IVec S16 32) : Prop :=
  (∀ (k0_h1 : k0_cond1 i k0_t3 = 1#1), ∀ a x, ((![v242, v243, v214] : Fin 3 → IVec S16 32) a x).toNat < S8x8x1024.size a)
theorem k0_idx722_inb : ∀ (i : grid0.Coords) (k0_t3 : Fin k0_t3_loop.trips) (v214 : IVec S16 32) (v242 : IVec S16 32) (v243 : IVec S16 32) (k0_hw724 : k0_chk724 i k0_t3 v214 v242 v243), ∀ (k0_h1 : k0_cond1 i k0_t3 = 1#1), ∀ a x, ((![v242, v243, v214] : Fin 3 → IVec S16 32) a x).toNat < S8x8x1024.size a := fun i k0_t3 v214 v242 v243 k0_hw724 k0_h1 => k0_hw724 k0_h1

def k0_chk725 (i : grid0.Coords) (k0_t3 : Fin k0_t3_loop.trips) (v214 : IVec S16 32) (v244 : IVec S16 32) (v245 : IVec S16 32) : Prop :=
  (∀ (k0_h1 : k0_cond1 i k0_t3 = 1#1), ∀ a x, ((![v244, v245, v214] : Fin 3 → IVec S16 32) a x).toNat < S8x8x1024.size a)
theorem k0_idx723_inb : ∀ (i : grid0.Coords) (k0_t3 : Fin k0_t3_loop.trips) (v214 : IVec S16 32) (v244 : IVec S16 32) (v245 : IVec S16 32) (k0_hw725 : k0_chk725 i k0_t3 v214 v244 v245), ∀ (k0_h1 : k0_cond1 i k0_t3 = 1#1), ∀ a x, ((![v244, v245, v214] : Fin 3 → IVec S16 32) a x).toNat < S8x8x1024.size a := fun i k0_t3 v214 v244 v245 k0_hw725 k0_h1 => k0_hw725 k0_h1

def k0_chk726 (i : grid0.Coords) (k0_t3 : Fin k0_t3_loop.trips) (v214 : IVec S16 32) (v246 : IVec S16 32) (v247 : IVec S16 32) : Prop :=
  (∀ (k0_h1 : k0_cond1 i k0_t3 = 1#1), ∀ a x, ((![v246, v247, v214] : Fin 3 → IVec S16 32) a x).toNat < S8x8x1024.size a)
theorem k0_idx724_inb : ∀ (i : grid0.Coords) (k0_t3 : Fin k0_t3_loop.trips) (v214 : IVec S16 32) (v246 : IVec S16 32) (v247 : IVec S16 32) (k0_hw726 : k0_chk726 i k0_t3 v214 v246 v247), ∀ (k0_h1 : k0_cond1 i k0_t3 = 1#1), ∀ a x, ((![v246, v247, v214] : Fin 3 → IVec S16 32) a x).toNat < S8x8x1024.size a := fun i k0_t3 v214 v246 v247 k0_hw726 k0_h1 => k0_hw726 k0_h1

def k0_chk727 (i : grid0.Coords) (k0_t3 : Fin k0_t3_loop.trips) (v214 : IVec S16 32) (v248 : IVec S16 32) (v249 : IVec S16 32) : Prop :=
  (∀ (k0_h1 : k0_cond1 i k0_t3 = 1#1), ∀ a x, ((![v248, v249, v214] : Fin 3 → IVec S16 32) a x).toNat < S8x8x1024.size a)
theorem k0_idx725_inb : ∀ (i : grid0.Coords) (k0_t3 : Fin k0_t3_loop.trips) (v214 : IVec S16 32) (v248 : IVec S16 32) (v249 : IVec S16 32) (k0_hw727 : k0_chk727 i k0_t3 v214 v248 v249), ∀ (k0_h1 : k0_cond1 i k0_t3 = 1#1), ∀ a x, ((![v248, v249, v214] : Fin 3 → IVec S16 32) a x).toNat < S8x8x1024.size a := fun i k0_t3 v214 v248 v249 k0_hw727 k0_h1 => k0_hw727 k0_h1

def k0_chk728 (i : grid0.Coords) (k0_t3 : Fin k0_t3_loop.trips) (v214 : IVec S16 32) (v250 : IVec S16 32) (v251 : IVec S16 32) : Prop :=
  (∀ (k0_h1 : k0_cond1 i k0_t3 = 1#1), ∀ a x, ((![v250, v251, v214] : Fin 3 → IVec S16 32) a x).toNat < S8x8x1024.size a)
theorem k0_idx726_inb : ∀ (i : grid0.Coords) (k0_t3 : Fin k0_t3_loop.trips) (v214 : IVec S16 32) (v250 : IVec S16 32) (v251 : IVec S16 32) (k0_hw728 : k0_chk728 i k0_t3 v214 v250 v251), ∀ (k0_h1 : k0_cond1 i k0_t3 = 1#1), ∀ a x, ((![v250, v251, v214] : Fin 3 → IVec S16 32) a x).toNat < S8x8x1024.size a := fun i k0_t3 v214 v250 v251 k0_hw728 k0_h1 => k0_hw728 k0_h1

def k0_chk729 (i : grid0.Coords) (k0_t3 : Fin k0_t3_loop.trips) (v214 : IVec S16 32) (v252 : IVec S16 32) (v253 : IVec S16 32) : Prop :=
  (∀ (k0_h1 : k0_cond1 i k0_t3 = 1#1), ∀ a x, ((![v252, v253, v214] : Fin 3 → IVec S16 32) a x).toNat < S8x8x1024.size a)
theorem k0_idx727_inb : ∀ (i : grid0.Coords) (k0_t3 : Fin k0_t3_loop.trips) (v214 : IVec S16 32) (v252 : IVec S16 32) (v253 : IVec S16 32) (k0_hw729 : k0_chk729 i k0_t3 v214 v252 v253), ∀ (k0_h1 : k0_cond1 i k0_t3 = 1#1), ∀ a x, ((![v252, v253, v214] : Fin 3 → IVec S16 32) a x).toNat < S8x8x1024.size a := fun i k0_t3 v214 v252 v253 k0_hw729 k0_h1 => k0_hw729 k0_h1

def k0_chk730 (i : grid0.Coords) (k0_t3 : Fin k0_t3_loop.trips) (v214 : IVec S16 32) (v254 : IVec S16 32) (v255 : IVec S16 32) : Prop :=
  (∀ (k0_h1 : k0_cond1 i k0_t3 = 1#1), ∀ a x, ((![v254, v255, v214] : Fin 3 → IVec S16 32) a x).toNat < S8x8x1024.size a)
theorem k0_idx728_inb : ∀ (i : grid0.Coords) (k0_t3 : Fin k0_t3_loop.trips) (v214 : IVec S16 32) (v254 : IVec S16 32) (v255 : IVec S16 32) (k0_hw730 : k0_chk730 i k0_t3 v214 v254 v255), ∀ (k0_h1 : k0_cond1 i k0_t3 = 1#1), ∀ a x, ((![v254, v255, v214] : Fin 3 → IVec S16 32) a x).toNat < S8x8x1024.size a := fun i k0_t3 v214 v254 v255 k0_hw730 k0_h1 => k0_hw730 k0_h1

def k0_chk731 (i : grid0.Coords) (k0_t3 : Fin k0_t3_loop.trips) (v214 : IVec S16 32) (v256 : IVec S16 32) (v257 : IVec S16 32) : Prop :=
  (∀ (k0_h1 : k0_cond1 i k0_t3 = 1#1), ∀ a x, ((![v256, v257, v214] : Fin 3 → IVec S16 32) a x).toNat < S8x8x1024.size a)
theorem k0_idx729_inb : ∀ (i : grid0.Coords) (k0_t3 : Fin k0_t3_loop.trips) (v214 : IVec S16 32) (v256 : IVec S16 32) (v257 : IVec S16 32) (k0_hw731 : k0_chk731 i k0_t3 v214 v256 v257), ∀ (k0_h1 : k0_cond1 i k0_t3 = 1#1), ∀ a x, ((![v256, v257, v214] : Fin 3 → IVec S16 32) a x).toNat < S8x8x1024.size a := fun i k0_t3 v214 v256 v257 k0_hw731 k0_h1 => k0_hw731 k0_h1

def k0_chk732 (i : grid0.Coords) (k0_t3 : Fin k0_t3_loop.trips) (v214 : IVec S16 32) (v258 : IVec S16 32) (v259 : IVec S16 32) : Prop :=
  (∀ (k0_h1 : k0_cond1 i k0_t3 = 1#1), ∀ a x, ((![v258, v259, v214] : Fin 3 → IVec S16 32) a x).toNat < S8x8x1024.size a)
theorem k0_idx730_inb : ∀ (i : grid0.Coords) (k0_t3 : Fin k0_t3_loop.trips) (v214 : IVec S16 32) (v258 : IVec S16 32) (v259 : IVec S16 32) (k0_hw732 : k0_chk732 i k0_t3 v214 v258 v259), ∀ (k0_h1 : k0_cond1 i k0_t3 = 1#1), ∀ a x, ((![v258, v259, v214] : Fin 3 → IVec S16 32) a x).toNat < S8x8x1024.size a := fun i k0_t3 v214 v258 v259 k0_hw732 k0_h1 => k0_hw732 k0_h1

def k0_chk733 (i : grid0.Coords) (k0_t3 : Fin k0_t3_loop.trips) (v214 : IVec S16 32) (v260 : IVec S16 32) (v261 : IVec S16 32) : Prop :=
  (∀ (k0_h1 : k0_cond1 i k0_t3 = 1#1), ∀ a x, ((![v260, v261, v214] : Fin 3 → IVec S16 32) a x).toNat < S8x8x1024.size a)
theorem k0_idx731_inb : ∀ (i : grid0.Coords) (k0_t3 : Fin k0_t3_loop.trips) (v214 : IVec S16 32) (v260 : IVec S16 32) (v261 : IVec S16 32) (k0_hw733 : k0_chk733 i k0_t3 v214 v260 v261), ∀ (k0_h1 : k0_cond1 i k0_t3 = 1#1), ∀ a x, ((![v260, v261, v214] : Fin 3 → IVec S16 32) a x).toNat < S8x8x1024.size a := fun i k0_t3 v214 v260 v261 k0_hw733 k0_h1 => k0_hw733 k0_h1

def k0_chk734 (i : grid0.Coords) (k0_t3 : Fin k0_t3_loop.trips) (v214 : IVec S16 32) (v262 : IVec S16 32) (v263 : IVec S16 32) : Prop :=
  (∀ (k0_h1 : k0_cond1 i k0_t3 = 1#1), ∀ a x, ((![v262, v263, v214] : Fin 3 → IVec S16 32) a x).toNat < S8x8x1024.size a)
theorem k0_idx732_inb : ∀ (i : grid0.Coords) (k0_t3 : Fin k0_t3_loop.trips) (v214 : IVec S16 32) (v262 : IVec S16 32) (v263 : IVec S16 32) (k0_hw734 : k0_chk734 i k0_t3 v214 v262 v263), ∀ (k0_h1 : k0_cond1 i k0_t3 = 1#1), ∀ a x, ((![v262, v263, v214] : Fin 3 → IVec S16 32) a x).toNat < S8x8x1024.size a := fun i k0_t3 v214 v262 v263 k0_hw734 k0_h1 => k0_hw734 k0_h1

def k0_chk735 (i : grid0.Coords) (k0_t3 : Fin k0_t3_loop.trips) (v214 : IVec S16 32) (v264 : IVec S16 32) (v265 : IVec S16 32) : Prop :=
  (∀ (k0_h1 : k0_cond1 i k0_t3 = 1#1), ∀ a x, ((![v264, v265, v214] : Fin 3 → IVec S16 32) a x).toNat < S8x8x1024.size a)
theorem k0_idx733_inb : ∀ (i : grid0.Coords) (k0_t3 : Fin k0_t3_loop.trips) (v214 : IVec S16 32) (v264 : IVec S16 32) (v265 : IVec S16 32) (k0_hw735 : k0_chk735 i k0_t3 v214 v264 v265), ∀ (k0_h1 : k0_cond1 i k0_t3 = 1#1), ∀ a x, ((![v264, v265, v214] : Fin 3 → IVec S16 32) a x).toNat < S8x8x1024.size a := fun i k0_t3 v214 v264 v265 k0_hw735 k0_h1 => k0_hw735 k0_h1

def k0_chk736 (i : grid0.Coords) (k0_t3 : Fin k0_t3_loop.trips) (v214 : IVec S16 32) (v266 : IVec S16 32) (v267 : IVec S16 32) : Prop :=
  (∀ (k0_h1 : k0_cond1 i k0_t3 = 1#1), ∀ a x, ((![v266, v267, v214] : Fin 3 → IVec S16 32) a x).toNat < S8x8x1024.size a)
theorem k0_idx734_inb : ∀ (i : grid0.Coords) (k0_t3 : Fin k0_t3_loop.trips) (v214 : IVec S16 32) (v266 : IVec S16 32) (v267 : IVec S16 32) (k0_hw736 : k0_chk736 i k0_t3 v214 v266 v267), ∀ (k0_h1 : k0_cond1 i k0_t3 = 1#1), ∀ a x, ((![v266, v267, v214] : Fin 3 → IVec S16 32) a x).toNat < S8x8x1024.size a := fun i k0_t3 v214 v266 v267 k0_hw736 k0_h1 => k0_hw736 k0_h1

def k0_chk737 (i : grid0.Coords) (k0_t3 : Fin k0_t3_loop.trips) (v214 : IVec S16 32) (v268 : IVec S16 32) (v269 : IVec S16 32) : Prop :=
  (∀ (k0_h1 : k0_cond1 i k0_t3 = 1#1), ∀ a x, ((![v268, v269, v214] : Fin 3 → IVec S16 32) a x).toNat < S8x8x1024.size a)
theorem k0_idx735_inb : ∀ (i : grid0.Coords) (k0_t3 : Fin k0_t3_loop.trips) (v214 : IVec S16 32) (v268 : IVec S16 32) (v269 : IVec S16 32) (k0_hw737 : k0_chk737 i k0_t3 v214 v268 v269), ∀ (k0_h1 : k0_cond1 i k0_t3 = 1#1), ∀ a x, ((![v268, v269, v214] : Fin 3 → IVec S16 32) a x).toNat < S8x8x1024.size a := fun i k0_t3 v214 v268 v269 k0_hw737 k0_h1 => k0_hw737 k0_h1

def k0_chk738 (i : grid0.Coords) (k0_t3 : Fin k0_t3_loop.trips) (v214 : IVec S16 32) (v270 : IVec S16 32) (v271 : IVec S16 32) : Prop :=
  (∀ (k0_h1 : k0_cond1 i k0_t3 = 1#1), ∀ a x, ((![v270, v271, v214] : Fin 3 → IVec S16 32) a x).toNat < S8x8x1024.size a)
theorem k0_idx736_inb : ∀ (i : grid0.Coords) (k0_t3 : Fin k0_t3_loop.trips) (v214 : IVec S16 32) (v270 : IVec S16 32) (v271 : IVec S16 32) (k0_hw738 : k0_chk738 i k0_t3 v214 v270 v271), ∀ (k0_h1 : k0_cond1 i k0_t3 = 1#1), ∀ a x, ((![v270, v271, v214] : Fin 3 → IVec S16 32) a x).toNat < S8x8x1024.size a := fun i k0_t3 v214 v270 v271 k0_hw738 k0_h1 => k0_hw738 k0_h1

def k0_chk739 (i : grid0.Coords) (k0_t3 : Fin k0_t3_loop.trips) (v214 : IVec S16 32) (v272 : IVec S16 32) (v273 : IVec S16 32) : Prop :=
  (∀ (k0_h1 : k0_cond1 i k0_t3 = 1#1), ∀ a x, ((![v272, v273, v214] : Fin 3 → IVec S16 32) a x).toNat < S8x8x1024.size a)
theorem k0_idx737_inb : ∀ (i : grid0.Coords) (k0_t3 : Fin k0_t3_loop.trips) (v214 : IVec S16 32) (v272 : IVec S16 32) (v273 : IVec S16 32) (k0_hw739 : k0_chk739 i k0_t3 v214 v272 v273), ∀ (k0_h1 : k0_cond1 i k0_t3 = 1#1), ∀ a x, ((![v272, v273, v214] : Fin 3 → IVec S16 32) a x).toNat < S8x8x1024.size a := fun i k0_t3 v214 v272 v273 k0_hw739 k0_h1 => k0_hw739 k0_h1

def k0_chk740 (i : grid0.Coords) (k0_t3 : Fin k0_t3_loop.trips) (v214 : IVec S16 32) (v274 : IVec S16 32) (v275 : IVec S16 32) : Prop :=
  (∀ (k0_h1 : k0_cond1 i k0_t3 = 1#1), ∀ a x, ((![v274, v275, v214] : Fin 3 → IVec S16 32) a x).toNat < S8x8x1024.size a)
theorem k0_idx738_inb : ∀ (i : grid0.Coords) (k0_t3 : Fin k0_t3_loop.trips) (v214 : IVec S16 32) (v274 : IVec S16 32) (v275 : IVec S16 32) (k0_hw740 : k0_chk740 i k0_t3 v214 v274 v275), ∀ (k0_h1 : k0_cond1 i k0_t3 = 1#1), ∀ a x, ((![v274, v275, v214] : Fin 3 → IVec S16 32) a x).toNat < S8x8x1024.size a := fun i k0_t3 v214 v274 v275 k0_hw740 k0_h1 => k0_hw740 k0_h1

def k0_chk741 (i : grid0.Coords) (k0_t3 : Fin k0_t3_loop.trips) (v214 : IVec S16 32) (v276 : IVec S16 32) (v277 : IVec S16 32) : Prop :=
  (∀ (k0_h1 : k0_cond1 i k0_t3 = 1#1), ∀ a x, ((![v276, v277, v214] : Fin 3 → IVec S16 32) a x).toNat < S8x8x1024.size a)
theorem k0_idx739_inb : ∀ (i : grid0.Coords) (k0_t3 : Fin k0_t3_loop.trips) (v214 : IVec S16 32) (v276 : IVec S16 32) (v277 : IVec S16 32) (k0_hw741 : k0_chk741 i k0_t3 v214 v276 v277), ∀ (k0_h1 : k0_cond1 i k0_t3 = 1#1), ∀ a x, ((![v276, v277, v214] : Fin 3 → IVec S16 32) a x).toNat < S8x8x1024.size a := fun i k0_t3 v214 v276 v277 k0_hw741 k0_h1 => k0_hw741 k0_h1

def k0_chk742 (i : grid0.Coords) (k0_t3 : Fin k0_t3_loop.trips) (v214 : IVec S16 32) (v278 : IVec S16 32) (v279 : IVec S16 32) : Prop :=
  (∀ (k0_h1 : k0_cond1 i k0_t3 = 1#1), ∀ a x, ((![v278, v279, v214] : Fin 3 → IVec S16 32) a x).toNat < S8x8x1024.size a)
theorem k0_idx740_inb : ∀ (i : grid0.Coords) (k0_t3 : Fin k0_t3_loop.trips) (v214 : IVec S16 32) (v278 : IVec S16 32) (v279 : IVec S16 32) (k0_hw742 : k0_chk742 i k0_t3 v214 v278 v279), ∀ (k0_h1 : k0_cond1 i k0_t3 = 1#1), ∀ a x, ((![v278, v279, v214] : Fin 3 → IVec S16 32) a x).toNat < S8x8x1024.size a := fun i k0_t3 v214 v278 v279 k0_hw742 k0_h1 => k0_hw742 k0_h1

def k0_chk743 (i : grid0.Coords) (k0_t3 : Fin k0_t3_loop.trips) (v214 : IVec S16 32) (v280 : IVec S16 32) (v281 : IVec S16 32) : Prop :=
  (∀ (k0_h1 : k0_cond1 i k0_t3 = 1#1), ∀ a x, ((![v280, v281, v214] : Fin 3 → IVec S16 32) a x).toNat < S8x8x1024.size a)
theorem k0_idx741_inb : ∀ (i : grid0.Coords) (k0_t3 : Fin k0_t3_loop.trips) (v214 : IVec S16 32) (v280 : IVec S16 32) (v281 : IVec S16 32) (k0_hw743 : k0_chk743 i k0_t3 v214 v280 v281), ∀ (k0_h1 : k0_cond1 i k0_t3 = 1#1), ∀ a x, ((![v280, v281, v214] : Fin 3 → IVec S16 32) a x).toNat < S8x8x1024.size a := fun i k0_t3 v214 v280 v281 k0_hw743 k0_h1 => k0_hw743 k0_h1

def k0_chk744 (i : grid0.Coords) (k0_t3 : Fin k0_t3_loop.trips) (v214 : IVec S16 32) (v282 : IVec S16 32) (v283 : IVec S16 32) : Prop :=
  (∀ (k0_h1 : k0_cond1 i k0_t3 = 1#1), ∀ a x, ((![v282, v283, v214] : Fin 3 → IVec S16 32) a x).toNat < S8x8x1024.size a)
theorem k0_idx742_inb : ∀ (i : grid0.Coords) (k0_t3 : Fin k0_t3_loop.trips) (v214 : IVec S16 32) (v282 : IVec S16 32) (v283 : IVec S16 32) (k0_hw744 : k0_chk744 i k0_t3 v214 v282 v283), ∀ (k0_h1 : k0_cond1 i k0_t3 = 1#1), ∀ a x, ((![v282, v283, v214] : Fin 3 → IVec S16 32) a x).toNat < S8x8x1024.size a := fun i k0_t3 v214 v282 v283 k0_hw744 k0_h1 => k0_hw744 k0_h1

def k0_chk745 (i : grid0.Coords) (k0_t3 : Fin k0_t3_loop.trips) (v214 : IVec S16 32) (v284 : IVec S16 32) (v285 : IVec S16 32) : Prop :=
  (∀ (k0_h1 : k0_cond1 i k0_t3 = 1#1), ∀ a x, ((![v284, v285, v214] : Fin 3 → IVec S16 32) a x).toNat < S8x8x1024.size a)
theorem k0_idx743_inb : ∀ (i : grid0.Coords) (k0_t3 : Fin k0_t3_loop.trips) (v214 : IVec S16 32) (v284 : IVec S16 32) (v285 : IVec S16 32) (k0_hw745 : k0_chk745 i k0_t3 v214 v284 v285), ∀ (k0_h1 : k0_cond1 i k0_t3 = 1#1), ∀ a x, ((![v284, v285, v214] : Fin 3 → IVec S16 32) a x).toNat < S8x8x1024.size a := fun i k0_t3 v214 v284 v285 k0_hw745 k0_h1 => k0_hw745 k0_h1

def k0_chk746 (i : grid0.Coords) (k0_t3 : Fin k0_t3_loop.trips) (v214 : IVec S16 32) (v286 : IVec S16 32) (v287 : IVec S16 32) : Prop :=
  (∀ (k0_h1 : k0_cond1 i k0_t3 = 1#1), ∀ a x, ((![v286, v287, v214] : Fin 3 → IVec S16 32) a x).toNat < S8x8x1024.size a)
theorem k0_idx744_inb : ∀ (i : grid0.Coords) (k0_t3 : Fin k0_t3_loop.trips) (v214 : IVec S16 32) (v286 : IVec S16 32) (v287 : IVec S16 32) (k0_hw746 : k0_chk746 i k0_t3 v214 v286 v287), ∀ (k0_h1 : k0_cond1 i k0_t3 = 1#1), ∀ a x, ((![v286, v287, v214] : Fin 3 → IVec S16 32) a x).toNat < S8x8x1024.size a := fun i k0_t3 v214 v286 v287 k0_hw746 k0_h1 => k0_hw746 k0_h1

def k0_chk747 (i : grid0.Coords) (k0_t3 : Fin k0_t3_loop.trips) (v214 : IVec S16 32) (v288 : IVec S16 32) (v289 : IVec S16 32) : Prop :=
  (∀ (k0_h1 : k0_cond1 i k0_t3 = 1#1), ∀ a x, ((![v288, v289, v214] : Fin 3 → IVec S16 32) a x).toNat < S8x8x1024.size a)
theorem k0_idx745_inb : ∀ (i : grid0.Coords) (k0_t3 : Fin k0_t3_loop.trips) (v214 : IVec S16 32) (v288 : IVec S16 32) (v289 : IVec S16 32) (k0_hw747 : k0_chk747 i k0_t3 v214 v288 v289), ∀ (k0_h1 : k0_cond1 i k0_t3 = 1#1), ∀ a x, ((![v288, v289, v214] : Fin 3 → IVec S16 32) a x).toNat < S8x8x1024.size a := fun i k0_t3 v214 v288 v289 k0_hw747 k0_h1 => k0_hw747 k0_h1

def k0_chk748 (i : grid0.Coords) (k0_t3 : Fin k0_t3_loop.trips) (v214 : IVec S16 32) (v290 : IVec S16 32) (v291 : IVec S16 32) : Prop :=
  (∀ (k0_h1 : k0_cond1 i k0_t3 = 1#1), ∀ a x, ((![v290, v291, v214] : Fin 3 → IVec S16 32) a x).toNat < S8x8x1024.size a)
theorem k0_idx746_inb : ∀ (i : grid0.Coords) (k0_t3 : Fin k0_t3_loop.trips) (v214 : IVec S16 32) (v290 : IVec S16 32) (v291 : IVec S16 32) (k0_hw748 : k0_chk748 i k0_t3 v214 v290 v291), ∀ (k0_h1 : k0_cond1 i k0_t3 = 1#1), ∀ a x, ((![v290, v291, v214] : Fin 3 → IVec S16 32) a x).toNat < S8x8x1024.size a := fun i k0_t3 v214 v290 v291 k0_hw748 k0_h1 => k0_hw748 k0_h1

def k0_chk749 (i : grid0.Coords) (k0_t3 : Fin k0_t3_loop.trips) (v214 : IVec S16 32) (v292 : IVec S16 32) (v293 : IVec S16 32) : Prop :=
  (∀ (k0_h1 : k0_cond1 i k0_t3 = 1#1), ∀ a x, ((![v292, v293, v214] : Fin 3 → IVec S16 32) a x).toNat < S8x8x1024.size a)
theorem k0_idx747_inb : ∀ (i : grid0.Coords) (k0_t3 : Fin k0_t3_loop.trips) (v214 : IVec S16 32) (v292 : IVec S16 32) (v293 : IVec S16 32) (k0_hw749 : k0_chk749 i k0_t3 v214 v292 v293), ∀ (k0_h1 : k0_cond1 i k0_t3 = 1#1), ∀ a x, ((![v292, v293, v214] : Fin 3 → IVec S16 32) a x).toNat < S8x8x1024.size a := fun i k0_t3 v214 v292 v293 k0_hw749 k0_h1 => k0_hw749 k0_h1

def k0_chk750 (i : grid0.Coords) (k0_t3 : Fin k0_t3_loop.trips) (v214 : IVec S16 32) (v294 : IVec S16 32) (v295 : IVec S16 32) : Prop :=
  (∀ (k0_h1 : k0_cond1 i k0_t3 = 1#1), ∀ a x, ((![v294, v295, v214] : Fin 3 → IVec S16 32) a x).toNat < S8x8x1024.size a)
theorem k0_idx748_inb : ∀ (i : grid0.Coords) (k0_t3 : Fin k0_t3_loop.trips) (v214 : IVec S16 32) (v294 : IVec S16 32) (v295 : IVec S16 32) (k0_hw750 : k0_chk750 i k0_t3 v214 v294 v295), ∀ (k0_h1 : k0_cond1 i k0_t3 = 1#1), ∀ a x, ((![v294, v295, v214] : Fin 3 → IVec S16 32) a x).toNat < S8x8x1024.size a := fun i k0_t3 v214 v294 v295 k0_hw750 k0_h1 => k0_hw750 k0_h1

def k0_chk751 (i : grid0.Coords) (k0_t3 : Fin k0_t3_loop.trips) (v214 : IVec S16 32) (v296 : IVec S16 32) (v297 : IVec S16 32) : Prop :=
  (∀ (k0_h1 : k0_cond1 i k0_t3 = 1#1), ∀ a x, ((![v296, v297, v214] : Fin 3 → IVec S16 32) a x).toNat < S8x8x1024.size a)
theorem k0_idx749_inb : ∀ (i : grid0.Coords) (k0_t3 : Fin k0_t3_loop.trips) (v214 : IVec S16 32) (v296 : IVec S16 32) (v297 : IVec S16 32) (k0_hw751 : k0_chk751 i k0_t3 v214 v296 v297), ∀ (k0_h1 : k0_cond1 i k0_t3 = 1#1), ∀ a x, ((![v296, v297, v214] : Fin 3 → IVec S16 32) a x).toNat < S8x8x1024.size a := fun i k0_t3 v214 v296 v297 k0_hw751 k0_h1 => k0_hw751 k0_h1

def k0_chk752 (i : grid0.Coords) (k0_t3 : Fin k0_t3_loop.trips) (v214 : IVec S16 32) (v298 : IVec S16 32) (v299 : IVec S16 32) : Prop :=
  (∀ (k0_h1 : k0_cond1 i k0_t3 = 1#1), ∀ a x, ((![v298, v299, v214] : Fin 3 → IVec S16 32) a x).toNat < S8x8x1024.size a)
theorem k0_idx750_inb : ∀ (i : grid0.Coords) (k0_t3 : Fin k0_t3_loop.trips) (v214 : IVec S16 32) (v298 : IVec S16 32) (v299 : IVec S16 32) (k0_hw752 : k0_chk752 i k0_t3 v214 v298 v299), ∀ (k0_h1 : k0_cond1 i k0_t3 = 1#1), ∀ a x, ((![v298, v299, v214] : Fin 3 → IVec S16 32) a x).toNat < S8x8x1024.size a := fun i k0_t3 v214 v298 v299 k0_hw752 k0_h1 => k0_hw752 k0_h1

def k0_chk753 (i : grid0.Coords) (k0_t3 : Fin k0_t3_loop.trips) (v214 : IVec S16 32) (v300 : IVec S16 32) (v301 : IVec S16 32) : Prop :=
  (∀ (k0_h1 : k0_cond1 i k0_t3 = 1#1), ∀ a x, ((![v300, v301, v214] : Fin 3 → IVec S16 32) a x).toNat < S8x8x1024.size a)
theorem k0_idx751_inb : ∀ (i : grid0.Coords) (k0_t3 : Fin k0_t3_loop.trips) (v214 : IVec S16 32) (v300 : IVec S16 32) (v301 : IVec S16 32) (k0_hw753 : k0_chk753 i k0_t3 v214 v300 v301), ∀ (k0_h1 : k0_cond1 i k0_t3 = 1#1), ∀ a x, ((![v300, v301, v214] : Fin 3 → IVec S16 32) a x).toNat < S8x8x1024.size a := fun i k0_t3 v214 v300 v301 k0_hw753 k0_h1 => k0_hw753 k0_h1

def k0_chk754 (i : grid0.Coords) (k0_t3 : Fin k0_t3_loop.trips) (v214 : IVec S16 32) (v302 : IVec S16 32) (v303 : IVec S16 32) : Prop :=
  (∀ (k0_h1 : k0_cond1 i k0_t3 = 1#1), ∀ a x, ((![v302, v303, v214] : Fin 3 → IVec S16 32) a x).toNat < S8x8x1024.size a)
theorem k0_idx752_inb : ∀ (i : grid0.Coords) (k0_t3 : Fin k0_t3_loop.trips) (v214 : IVec S16 32) (v302 : IVec S16 32) (v303 : IVec S16 32) (k0_hw754 : k0_chk754 i k0_t3 v214 v302 v303), ∀ (k0_h1 : k0_cond1 i k0_t3 = 1#1), ∀ a x, ((![v302, v303, v214] : Fin 3 → IVec S16 32) a x).toNat < S8x8x1024.size a := fun i k0_t3 v214 v302 v303 k0_hw754 k0_h1 => k0_hw754 k0_h1

def k0_chk755 (i : grid0.Coords) (k0_t3 : Fin k0_t3_loop.trips) (v214 : IVec S16 32) (v304 : IVec S16 32) (v305 : IVec S16 32) : Prop :=
  (∀ (k0_h1 : k0_cond1 i k0_t3 = 1#1), ∀ a x, ((![v304, v305, v214] : Fin 3 → IVec S16 32) a x).toNat < S8x8x1024.size a)
theorem k0_idx753_inb : ∀ (i : grid0.Coords) (k0_t3 : Fin k0_t3_loop.trips) (v214 : IVec S16 32) (v304 : IVec S16 32) (v305 : IVec S16 32) (k0_hw755 : k0_chk755 i k0_t3 v214 v304 v305), ∀ (k0_h1 : k0_cond1 i k0_t3 = 1#1), ∀ a x, ((![v304, v305, v214] : Fin 3 → IVec S16 32) a x).toNat < S8x8x1024.size a := fun i k0_t3 v214 v304 v305 k0_hw755 k0_h1 => k0_hw755 k0_h1

def k0_chk756 (i : grid0.Coords) (k0_t3 : Fin k0_t3_loop.trips) (v214 : IVec S16 32) (v306 : IVec S16 32) (v307 : IVec S16 32) : Prop :=
  (∀ (k0_h1 : k0_cond1 i k0_t3 = 1#1), ∀ a x, ((![v306, v307, v214] : Fin 3 → IVec S16 32) a x).toNat < S8x8x1024.size a)
theorem k0_idx754_inb : ∀ (i : grid0.Coords) (k0_t3 : Fin k0_t3_loop.trips) (v214 : IVec S16 32) (v306 : IVec S16 32) (v307 : IVec S16 32) (k0_hw756 : k0_chk756 i k0_t3 v214 v306 v307), ∀ (k0_h1 : k0_cond1 i k0_t3 = 1#1), ∀ a x, ((![v306, v307, v214] : Fin 3 → IVec S16 32) a x).toNat < S8x8x1024.size a := fun i k0_t3 v214 v306 v307 k0_hw756 k0_h1 => k0_hw756 k0_h1

def k0_chk757 (i : grid0.Coords) (k0_t3 : Fin k0_t3_loop.trips) (v214 : IVec S16 32) (v308 : IVec S16 32) (v309 : IVec S16 32) : Prop :=
  (∀ (k0_h1 : k0_cond1 i k0_t3 = 1#1), ∀ a x, ((![v308, v309, v214] : Fin 3 → IVec S16 32) a x).toNat < S8x8x1024.size a)
theorem k0_idx755_inb : ∀ (i : grid0.Coords) (k0_t3 : Fin k0_t3_loop.trips) (v214 : IVec S16 32) (v308 : IVec S16 32) (v309 : IVec S16 32) (k0_hw757 : k0_chk757 i k0_t3 v214 v308 v309), ∀ (k0_h1 : k0_cond1 i k0_t3 = 1#1), ∀ a x, ((![v308, v309, v214] : Fin 3 → IVec S16 32) a x).toNat < S8x8x1024.size a := fun i k0_t3 v214 v308 v309 k0_hw757 k0_h1 => k0_hw757 k0_h1

def k0_chk758 (i : grid0.Coords) (k0_t3 : Fin k0_t3_loop.trips) (v214 : IVec S16 32) (v310 : IVec S16 32) (v311 : IVec S16 32) : Prop :=
  (∀ (k0_h1 : k0_cond1 i k0_t3 = 1#1), ∀ a x, ((![v310, v311, v214] : Fin 3 → IVec S16 32) a x).toNat < S8x8x1024.size a)
theorem k0_idx756_inb : ∀ (i : grid0.Coords) (k0_t3 : Fin k0_t3_loop.trips) (v214 : IVec S16 32) (v310 : IVec S16 32) (v311 : IVec S16 32) (k0_hw758 : k0_chk758 i k0_t3 v214 v310 v311), ∀ (k0_h1 : k0_cond1 i k0_t3 = 1#1), ∀ a x, ((![v310, v311, v214] : Fin 3 → IVec S16 32) a x).toNat < S8x8x1024.size a := fun i k0_t3 v214 v310 v311 k0_hw758 k0_h1 => k0_hw758 k0_h1

def k0_chk759 (i : grid0.Coords) (k0_t3 : Fin k0_t3_loop.trips) (v214 : IVec S16 32) (v312 : IVec S16 32) (v313 : IVec S16 32) : Prop :=
  (∀ (k0_h1 : k0_cond1 i k0_t3 = 1#1), ∀ a x, ((![v312, v313, v214] : Fin 3 → IVec S16 32) a x).toNat < S8x8x1024.size a)
theorem k0_idx757_inb : ∀ (i : grid0.Coords) (k0_t3 : Fin k0_t3_loop.trips) (v214 : IVec S16 32) (v312 : IVec S16 32) (v313 : IVec S16 32) (k0_hw759 : k0_chk759 i k0_t3 v214 v312 v313), ∀ (k0_h1 : k0_cond1 i k0_t3 = 1#1), ∀ a x, ((![v312, v313, v214] : Fin 3 → IVec S16 32) a x).toNat < S8x8x1024.size a := fun i k0_t3 v214 v312 v313 k0_hw759 k0_h1 => k0_hw759 k0_h1

def k0_chk760 (i : grid0.Coords) (k0_t3 : Fin k0_t3_loop.trips) (v214 : IVec S16 32) (v314 : IVec S16 32) (v315 : IVec S16 32) : Prop :=
  (∀ (k0_h1 : k0_cond1 i k0_t3 = 1#1), ∀ a x, ((![v314, v315, v214] : Fin 3 → IVec S16 32) a x).toNat < S8x8x1024.size a)
theorem k0_idx758_inb : ∀ (i : grid0.Coords) (k0_t3 : Fin k0_t3_loop.trips) (v214 : IVec S16 32) (v314 : IVec S16 32) (v315 : IVec S16 32) (k0_hw760 : k0_chk760 i k0_t3 v214 v314 v315), ∀ (k0_h1 : k0_cond1 i k0_t3 = 1#1), ∀ a x, ((![v314, v315, v214] : Fin 3 → IVec S16 32) a x).toNat < S8x8x1024.size a := fun i k0_t3 v214 v314 v315 k0_hw760 k0_h1 => k0_hw760 k0_h1

def k0_chk761 (i : grid0.Coords) (k0_t3 : Fin k0_t3_loop.trips) (v214 : IVec S16 32) (v316 : IVec S16 32) (v317 : IVec S16 32) : Prop :=
  (∀ (k0_h1 : k0_cond1 i k0_t3 = 1#1), ∀ a x, ((![v316, v317, v214] : Fin 3 → IVec S16 32) a x).toNat < S8x8x1024.size a)
theorem k0_idx759_inb : ∀ (i : grid0.Coords) (k0_t3 : Fin k0_t3_loop.trips) (v214 : IVec S16 32) (v316 : IVec S16 32) (v317 : IVec S16 32) (k0_hw761 : k0_chk761 i k0_t3 v214 v316 v317), ∀ (k0_h1 : k0_cond1 i k0_t3 = 1#1), ∀ a x, ((![v316, v317, v214] : Fin 3 → IVec S16 32) a x).toNat < S8x8x1024.size a := fun i k0_t3 v214 v316 v317 k0_hw761 k0_h1 => k0_hw761 k0_h1

def k0_chk762 (i : grid0.Coords) (k0_t3 : Fin k0_t3_loop.trips) (v214 : IVec S16 32) (v318 : IVec S16 32) (v319 : IVec S16 32) : Prop :=
  (∀ (k0_h1 : k0_cond1 i k0_t3 = 1#1), ∀ a x, ((![v318, v319, v214] : Fin 3 → IVec S16 32) a x).toNat < S8x8x1024.size a)
theorem k0_idx760_inb : ∀ (i : grid0.Coords) (k0_t3 : Fin k0_t3_loop.trips) (v214 : IVec S16 32) (v318 : IVec S16 32) (v319 : IVec S16 32) (k0_hw762 : k0_chk762 i k0_t3 v214 v318 v319), ∀ (k0_h1 : k0_cond1 i k0_t3 = 1#1), ∀ a x, ((![v318, v319, v214] : Fin 3 → IVec S16 32) a x).toNat < S8x8x1024.size a := fun i k0_t3 v214 v318 v319 k0_hw762 k0_h1 => k0_hw762 k0_h1

def k0_chk763 (i : grid0.Coords) (k0_t3 : Fin k0_t3_loop.trips) (v214 : IVec S16 32) (v320 : IVec S16 32) (v321 : IVec S16 32) : Prop :=
  (∀ (k0_h1 : k0_cond1 i k0_t3 = 1#1), ∀ a x, ((![v320, v321, v214] : Fin 3 → IVec S16 32) a x).toNat < S8x8x1024.size a)
theorem k0_idx761_inb : ∀ (i : grid0.Coords) (k0_t3 : Fin k0_t3_loop.trips) (v214 : IVec S16 32) (v320 : IVec S16 32) (v321 : IVec S16 32) (k0_hw763 : k0_chk763 i k0_t3 v214 v320 v321), ∀ (k0_h1 : k0_cond1 i k0_t3 = 1#1), ∀ a x, ((![v320, v321, v214] : Fin 3 → IVec S16 32) a x).toNat < S8x8x1024.size a := fun i k0_t3 v214 v320 v321 k0_hw763 k0_h1 => k0_hw763 k0_h1

def k0_chk764 (i : grid0.Coords) (k0_t3 : Fin k0_t3_loop.trips) (v214 : IVec S16 32) (v322 : IVec S16 32) (v323 : IVec S16 32) : Prop :=
  (∀ (k0_h1 : k0_cond1 i k0_t3 = 1#1), ∀ a x, ((![v322, v323, v214] : Fin 3 → IVec S16 32) a x).toNat < S8x8x1024.size a)
theorem k0_idx762_inb : ∀ (i : grid0.Coords) (k0_t3 : Fin k0_t3_loop.trips) (v214 : IVec S16 32) (v322 : IVec S16 32) (v323 : IVec S16 32) (k0_hw764 : k0_chk764 i k0_t3 v214 v322 v323), ∀ (k0_h1 : k0_cond1 i k0_t3 = 1#1), ∀ a x, ((![v322, v323, v214] : Fin 3 → IVec S16 32) a x).toNat < S8x8x1024.size a := fun i k0_t3 v214 v322 v323 k0_hw764 k0_h1 => k0_hw764 k0_h1

def k0_chk765 (i : grid0.Coords) (k0_t3 : Fin k0_t3_loop.trips) (v214 : IVec S16 32) (v324 : IVec S16 32) (v325 : IVec S16 32) : Prop :=
  (∀ (k0_h1 : k0_cond1 i k0_t3 = 1#1), ∀ a x, ((![v324, v325, v214] : Fin 3 → IVec S16 32) a x).toNat < S8x8x1024.size a)
theorem k0_idx763_inb : ∀ (i : grid0.Coords) (k0_t3 : Fin k0_t3_loop.trips) (v214 : IVec S16 32) (v324 : IVec S16 32) (v325 : IVec S16 32) (k0_hw765 : k0_chk765 i k0_t3 v214 v324 v325), ∀ (k0_h1 : k0_cond1 i k0_t3 = 1#1), ∀ a x, ((![v324, v325, v214] : Fin 3 → IVec S16 32) a x).toNat < S8x8x1024.size a := fun i k0_t3 v214 v324 v325 k0_hw765 k0_h1 => k0_hw765 k0_h1

def k0_chk766 (i : grid0.Coords) (k0_t3 : Fin k0_t3_loop.trips) (v214 : IVec S16 32) (v326 : IVec S16 32) (v327 : IVec S16 32) : Prop :=
  (∀ (k0_h1 : k0_cond1 i k0_t3 = 1#1), ∀ a x, ((![v326, v327, v214] : Fin 3 → IVec S16 32) a x).toNat < S8x8x1024.size a)
theorem k0_idx764_inb : ∀ (i : grid0.Coords) (k0_t3 : Fin k0_t3_loop.trips) (v214 : IVec S16 32) (v326 : IVec S16 32) (v327 : IVec S16 32) (k0_hw766 : k0_chk766 i k0_t3 v214 v326 v327), ∀ (k0_h1 : k0_cond1 i k0_t3 = 1#1), ∀ a x, ((![v326, v327, v214] : Fin 3 → IVec S16 32) a x).toNat < S8x8x1024.size a := fun i k0_t3 v214 v326 v327 k0_hw766 k0_h1 => k0_hw766 k0_h1

def k0_chk767 (i : grid0.Coords) (k0_t3 : Fin k0_t3_loop.trips) (v214 : IVec S16 32) (v328 : IVec S16 32) (v329 : IVec S16 32) : Prop :=
  (∀ (k0_h1 : k0_cond1 i k0_t3 = 1#1), ∀ a x, ((![v328, v329, v214] : Fin 3 → IVec S16 32) a x).toNat < S8x8x1024.size a)
theorem k0_idx765_inb : ∀ (i : grid0.Coords) (k0_t3 : Fin k0_t3_loop.trips) (v214 : IVec S16 32) (v328 : IVec S16 32) (v329 : IVec S16 32) (k0_hw767 : k0_chk767 i k0_t3 v214 v328 v329), ∀ (k0_h1 : k0_cond1 i k0_t3 = 1#1), ∀ a x, ((![v328, v329, v214] : Fin 3 → IVec S16 32) a x).toNat < S8x8x1024.size a := fun i k0_t3 v214 v328 v329 k0_hw767 k0_h1 => k0_hw767 k0_h1

def k0_chk768 (i : grid0.Coords) (k0_t3 : Fin k0_t3_loop.trips) (v214 : IVec S16 32) (v330 : IVec S16 32) (v331 : IVec S16 32) : Prop :=
  (∀ (k0_h1 : k0_cond1 i k0_t3 = 1#1), ∀ a x, ((![v330, v331, v214] : Fin 3 → IVec S16 32) a x).toNat < S8x8x1024.size a)
theorem k0_idx766_inb : ∀ (i : grid0.Coords) (k0_t3 : Fin k0_t3_loop.trips) (v214 : IVec S16 32) (v330 : IVec S16 32) (v331 : IVec S16 32) (k0_hw768 : k0_chk768 i k0_t3 v214 v330 v331), ∀ (k0_h1 : k0_cond1 i k0_t3 = 1#1), ∀ a x, ((![v330, v331, v214] : Fin 3 → IVec S16 32) a x).toNat < S8x8x1024.size a := fun i k0_t3 v214 v330 v331 k0_hw768 k0_h1 => k0_hw768 k0_h1

def k0_chk769 (i : grid0.Coords) (k0_t3 : Fin k0_t3_loop.trips) (v214 : IVec S16 32) (v332 : IVec S16 32) (v333 : IVec S16 32) : Prop :=
  (∀ (k0_h1 : k0_cond1 i k0_t3 = 1#1), ∀ a x, ((![v332, v333, v214] : Fin 3 → IVec S16 32) a x).toNat < S8x8x1024.size a)
theorem k0_idx767_inb : ∀ (i : grid0.Coords) (k0_t3 : Fin k0_t3_loop.trips) (v214 : IVec S16 32) (v332 : IVec S16 32) (v333 : IVec S16 32) (k0_hw769 : k0_chk769 i k0_t3 v214 v332 v333), ∀ (k0_h1 : k0_cond1 i k0_t3 = 1#1), ∀ a x, ((![v332, v333, v214] : Fin 3 → IVec S16 32) a x).toNat < S8x8x1024.size a := fun i k0_t3 v214 v332 v333 k0_hw769 k0_h1 => k0_hw769 k0_h1

def k0_chk770 (i : grid0.Coords) (k0_t3 : Fin k0_t3_loop.trips) (v214 : IVec S16 32) (v334 : IVec S16 32) (v335 : IVec S16 32) : Prop :=
  (∀ (k0_h1 : k0_cond1 i k0_t3 = 1#1), ∀ a x, ((![v334, v335, v214] : Fin 3 → IVec S16 32) a x).toNat < S8x8x1024.size a)
theorem k0_idx768_inb : ∀ (i : grid0.Coords) (k0_t3 : Fin k0_t3_loop.trips) (v214 : IVec S16 32) (v334 : IVec S16 32) (v335 : IVec S16 32) (k0_hw770 : k0_chk770 i k0_t3 v214 v334 v335), ∀ (k0_h1 : k0_cond1 i k0_t3 = 1#1), ∀ a x, ((![v334, v335, v214] : Fin 3 → IVec S16 32) a x).toNat < S8x8x1024.size a := fun i k0_t3 v214 v334 v335 k0_hw770 k0_h1 => k0_hw770 k0_h1

def k0_chk771 (i : grid0.Coords) (k0_t3 : Fin k0_t3_loop.trips) (v214 : IVec S16 32) (v336 : IVec S16 32) (v337 : IVec S16 32) : Prop :=
  (∀ (k0_h1 : k0_cond1 i k0_t3 = 1#1), ∀ a x, ((![v336, v337, v214] : Fin 3 → IVec S16 32) a x).toNat < S8x8x1024.size a)
theorem k0_idx769_inb : ∀ (i : grid0.Coords) (k0_t3 : Fin k0_t3_loop.trips) (v214 : IVec S16 32) (v336 : IVec S16 32) (v337 : IVec S16 32) (k0_hw771 : k0_chk771 i k0_t3 v214 v336 v337), ∀ (k0_h1 : k0_cond1 i k0_t3 = 1#1), ∀ a x, ((![v336, v337, v214] : Fin 3 → IVec S16 32) a x).toNat < S8x8x1024.size a := fun i k0_t3 v214 v336 v337 k0_hw771 k0_h1 => k0_hw771 k0_h1

def k0_chk772 (i : grid0.Coords) (k0_t3 : Fin k0_t3_loop.trips) (v214 : IVec S16 32) (v338 : IVec S16 32) (v339 : IVec S16 32) : Prop :=
  (∀ (k0_h1 : k0_cond1 i k0_t3 = 1#1), ∀ a x, ((![v338, v339, v214] : Fin 3 → IVec S16 32) a x).toNat < S8x8x1024.size a)
theorem k0_idx770_inb : ∀ (i : grid0.Coords) (k0_t3 : Fin k0_t3_loop.trips) (v214 : IVec S16 32) (v338 : IVec S16 32) (v339 : IVec S16 32) (k0_hw772 : k0_chk772 i k0_t3 v214 v338 v339), ∀ (k0_h1 : k0_cond1 i k0_t3 = 1#1), ∀ a x, ((![v338, v339, v214] : Fin 3 → IVec S16 32) a x).toNat < S8x8x1024.size a := fun i k0_t3 v214 v338 v339 k0_hw772 k0_h1 => k0_hw772 k0_h1

def k0_chk773 (i : grid0.Coords) (k0_t3 : Fin k0_t3_loop.trips) (v214 : IVec S16 32) (v340 : IVec S16 32) (v341 : IVec S16 32) : Prop :=
  (∀ (k0_h1 : k0_cond1 i k0_t3 = 1#1), ∀ a x, ((![v340, v341, v214] : Fin 3 → IVec S16 32) a x).toNat < S8x8x1024.size a)
theorem k0_idx771_inb : ∀ (i : grid0.Coords) (k0_t3 : Fin k0_t3_loop.trips) (v214 : IVec S16 32) (v340 : IVec S16 32) (v341 : IVec S16 32) (k0_hw773 : k0_chk773 i k0_t3 v214 v340 v341), ∀ (k0_h1 : k0_cond1 i k0_t3 = 1#1), ∀ a x, ((![v340, v341, v214] : Fin 3 → IVec S16 32) a x).toNat < S8x8x1024.size a := fun i k0_t3 v214 v340 v341 k0_hw773 k0_h1 => k0_hw773 k0_h1

def k0_chk774 (i : grid0.Coords) (k0_t3 : Fin k0_t3_loop.trips) (v214 : IVec S16 32) (v342 : IVec S16 32) (v343 : IVec S16 32) : Prop :=
  (∀ (k0_h1 : k0_cond1 i k0_t3 = 1#1), ∀ a x, ((![v342, v343, v214] : Fin 3 → IVec S16 32) a x).toNat < S8x8x1024.size a)
theorem k0_idx772_inb : ∀ (i : grid0.Coords) (k0_t3 : Fin k0_t3_loop.trips) (v214 : IVec S16 32) (v342 : IVec S16 32) (v343 : IVec S16 32) (k0_hw774 : k0_chk774 i k0_t3 v214 v342 v343), ∀ (k0_h1 : k0_cond1 i k0_t3 = 1#1), ∀ a x, ((![v342, v343, v214] : Fin 3 → IVec S16 32) a x).toNat < S8x8x1024.size a := fun i k0_t3 v214 v342 v343 k0_hw774 k0_h1 => k0_hw774 k0_h1

def k0_chk775 (i : grid0.Coords) (k0_t3 : Fin k0_t3_loop.trips) (v214 : IVec S16 32) (v344 : IVec S16 32) (v345 : IVec S16 32) : Prop :=
  (∀ (k0_h1 : k0_cond1 i k0_t3 = 1#1), ∀ a x, ((![v344, v345, v214] : Fin 3 → IVec S16 32) a x).toNat < S8x8x1024.size a)
theorem k0_idx773_inb : ∀ (i : grid0.Coords) (k0_t3 : Fin k0_t3_loop.trips) (v214 : IVec S16 32) (v344 : IVec S16 32) (v345 : IVec S16 32) (k0_hw775 : k0_chk775 i k0_t3 v214 v344 v345), ∀ (k0_h1 : k0_cond1 i k0_t3 = 1#1), ∀ a x, ((![v344, v345, v214] : Fin 3 → IVec S16 32) a x).toNat < S8x8x1024.size a := fun i k0_t3 v214 v344 v345 k0_hw775 k0_h1 => k0_hw775 k0_h1

def k0_chk776 (i : grid0.Coords) (k0_t3 : Fin k0_t3_loop.trips) (v214 : IVec S16 32) (v346 : IVec S16 32) (v347 : IVec S16 32) : Prop :=
  (∀ (k0_h1 : k0_cond1 i k0_t3 = 1#1), ∀ a x, ((![v346, v347, v214] : Fin 3 → IVec S16 32) a x).toNat < S8x8x1024.size a)
theorem k0_idx774_inb : ∀ (i : grid0.Coords) (k0_t3 : Fin k0_t3_loop.trips) (v214 : IVec S16 32) (v346 : IVec S16 32) (v347 : IVec S16 32) (k0_hw776 : k0_chk776 i k0_t3 v214 v346 v347), ∀ (k0_h1 : k0_cond1 i k0_t3 = 1#1), ∀ a x, ((![v346, v347, v214] : Fin 3 → IVec S16 32) a x).toNat < S8x8x1024.size a := fun i k0_t3 v214 v346 v347 k0_hw776 k0_h1 => k0_hw776 k0_h1
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x64 : Shape := ⟨2, ![16384, 64]⟩
abbrev S16384x1 : Shape := ⟨2, ![16384, 1]⟩
abbrev S1000000x64 : Shape := ⟨2, ![1000000, 64]⟩
abbrev S16384 : Shape := ⟨1, ![16384]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x1, .i32⟩
  | .hbm, ⟨2, _⟩ => ⟨S1000000x64, .f32⟩
  | .hbm, ⟨3, _⟩ => ⟨S16384, .i32⟩
  | .hbm, ⟨4, _⟩ => ⟨S_, .f32⟩
  | .hbm, ⟨5, _⟩ => ⟨S1000000x64, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384x1, .i32⟩
  | .hbm, ⟨14, _⟩ => ⟨S1000000x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Proof.Base.lean ====
/- The program's parts as the launch theorem sees them, the ghost state, the tile's buffers by name, and the
   memory steps the tile program takes, each stated over whole buffers and as an entailment between `wp`s. -/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch handshakes' ghost state beside the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The tile -/

abbrev cV (L : grid0.Coords) : Fin τ.nSC := (L 0).castLE hcore0
abbrev jV (L : grid0.Coords) : Fin τ.nSub := (L 1).castLE hsub0
/-- Tile `L` of device `d`. -/
abbrev thr (d : Dev nD) (L : grid0.Coords) : Thread nD τ := V d (cV L) (jV L)

abbrev mX : Memref sig .scVector .hbm S8192x128 .f32 := Memref.whole main_v1_scv
abbrev mI : Memref sig .scVector .hbm S16384 .i32 := Memref.whole main_v0_scv
abbrev mO : Memref sig .scVector .hbm S64x1000064 .f32 := Memref.whole main_v2_scv
abbrev mMine : Memref sig .scVector .vmem S16384 .i32 := Memref.whole cc0_scratch0
abbrev mRnd : Memref sig .scVector .vmem S16384 .i32 := Memref.whole cc0_scratch1
abbrev mAcc : Memref sig .scVector .vmem S8x8x1024 .f32 := Memref.whole cc0_scratch2
abbrev mRow : Memref sig .scVector .vmem S32x129 .f32 := Memref.whole cc0_scratch3
abbrev mPos : Memref sig .scVector .vmem S32 .i32 := Memref.whole cc0_scratch4

section Buffers
variable (d : Dev nD) (L : grid0.Coords)
abbrev minePts (f : S16384.Idx → BitVec 32) : sProp 𝕄 := mMine.view.loc (thr d L) ↦{fullShare} (f : Buf (Elt F) (mMine.view.loc (thr d L)))
abbrev rndPts (f : S16384.Idx → BitVec 32) : sProp 𝕄 := mRnd.view.loc (thr d L) ↦{fullShare} (f : Buf (Elt F) (mRnd.view.loc (thr d L)))
abbrev accPts (f : S8x8x1024.Idx → F .f32) : sProp 𝕄 := mAcc.view.loc (thr d L) ↦{fullShare} (f : Buf (Elt F) (mAcc.view.loc (thr d L)))
abbrev rowPts (f : S32x129.Idx → F .f32) : sProp 𝕄 := mRow.view.loc (thr d L) ↦{fullShare} (f : Buf (Elt F) (mRow.view.loc (thr d L)))
abbrev posPts (f : S32.Idx → BitVec 32) : sProp 𝕄 := mPos.view.loc (thr d L) ↦{fullShare} (f : Buf (Elt F) (mPos.view.loc (thr d L)))
end Buffers

/-! ## Steps -/

variable [FloatOps F]

/-- A program of tile `L`, run from an assertion to a post-condition. -/
abbrev wpt (d : Dev nD) (L : grid0.Coords) {α : Type} (p : Prog (TpuEff nD τ sig (Elt F) Λ₀ (.scVector (cV L) (jV L))) α) (Q : α → sProp 𝕄) : sProp 𝕄 :=
  wp frame (wpE (defs₀ (F := F)) 𝒱₀ (thr d L) none) Set.univ p Q

section Steps
variable {d : Dev nD} {L : grid0.Coords} {α : Type} {Q : α → sProp (MT nD τ sig (HIx 1) (Elt F) ℕ UU ℕ)} {R R' : sProp (MT nD τ sig (HIx 1) (Elt F) ℕ UU ℕ)}

theorem step_pure {x : α} (h : R ⊢ Q x) : R ⊢ wpt (F := F) d L (pure x) Q := by
  unfold wpt; rw [wp_pure]; exact h.trans fupd_intro

theorem step_bind {β : Type} {p : Prog (TpuEff nD τ sig (Elt F) Λ₀ (.scVector (cV L) (jV L))) β} {k : β → Prog (TpuEff nD τ sig (Elt F) Λ₀ (.scVector (cV L) (jV L))) α}
    (h : R ⊢ wpt (F := F) d L p fun x => wpt (F := F) d L (k x) Q) : R ⊢ wpt (F := F) d L (p >>= k) Q := by
  unfold wpt at h ⊢; rw [wp_bind]; exact h

theorem step_assume {P : Prop} {dp : Decidable P} {k : PLift P → Prog (TpuEff nD τ sig (Elt F) Λ₀ (.scVector (cV L) (jV L))) α} (h : P)
    (hk : R ⊢ wpt (F := F) d L (k ⟨h⟩) Q) : R ⊢ wpt (F := F) d L (Prog.lift (TpuEff.assume P dp) >>= k) Q :=
  hk.trans (wp_assume 𝒱₀ (thr d L) none Set.univ h)

/-- A load of sixteen words of the round's entry list. -/
theorem step_load_rnd {f : S16384.Idx → BitVec 32} {r : LoadRect S16384} {hl : mRnd.view.LoadsAt r}
    {k : (r.shape.Idx → BitVec 32) → Prog (TpuEff nD τ sig (Elt F) Λ₀ (.scVector (cV L) (jV L))) α}
    (hk : iprop(rndPts (F := F) d L f ∗ R) ⊢ wpt (F := F) d L (k (mRnd.view.readAt (Elt F) r f)) Q) :
    iprop(rndPts (F := F) d L f ∗ R) ⊢ wpt (F := F) d L (Prog.lift (TpuEff.load mRnd r hl) >>= k) Q := by
  iintro ⟨H, HR⟩
  iapply (wp_load (defs := defs₀ (F := F)) 𝒱₀ (thr d L) none Set.univ (Q := Q) (m := mRnd) (r := r) (hl := hl) (k := k) (S := Finset.univ) (q := fullShare) (f := f) (Finset.subset_univ _)) $$ H
  iintro H
  iapply hk
  isplitl [H]
  · iexact H
  · iexact HR

/-- A load of sixteen words of the tile's entry list. -/
theorem step_load_mine {f : S16384.Idx → BitVec 32} {r : LoadRect S16384} {hl : mMine.view.LoadsAt r}
    {k : (r.shape.Idx → BitVec 32) → Prog (TpuEff nD τ sig (Elt F) Λ₀ (.scVector (cV L) (jV L))) α}
    (hk : iprop(minePts (F := F) d L f ∗ R) ⊢ wpt (F := F) d L (k (mMine.view.readAt (Elt F) r f)) Q) :
    iprop(minePts (F := F) d L f ∗ R) ⊢ wpt (F := F) d L (Prog.lift (TpuEff.load mMine r hl) >>= k) Q := by
  iintro ⟨H, HR⟩
  iapply (wp_load (defs := defs₀ (F := F)) 𝒱₀ (thr d L) none Set.univ (Q := Q) (m := mMine) (r := r) (hl := hl) (k := k) (S := Finset.univ) (q := fullShare) (f := f) (Finset.subset_univ _)) $$ H
  iintro H
  iapply hk
  isplitl [H]
  · iexact H
  · iexact HR

/-- A load of sixteen row numbers (the kernel never uses what it reads). -/
theorem step_load_pos {f : S32.Idx → BitVec 32} {r : LoadRect S32} {hl : mPos.view.LoadsAt r}
    {k : (r.shape.Idx → BitVec 32) → Prog (TpuEff nD τ sig (Elt F) Λ₀ (.scVector (cV L) (jV L))) α}
    (hk : iprop(posPts (F := F) d L f ∗ R) ⊢ wpt (F := F) d L (k (mPos.view.readAt (Elt F) r f)) Q) :
    iprop(posPts (F := F) d L f ∗ R) ⊢ wpt (F := F) d L (Prog.lift (TpuEff.load mPos r hl) >>= k) Q := by
  iintro ⟨H, HR⟩
  iapply (wp_load (defs := defs₀ (F := F)) 𝒱₀ (thr d L) none Set.univ (Q := Q) (m := mPos) (r := r) (hl := hl) (k := k) (S := Finset.univ) (q := fullShare) (f := f) (Finset.subset_univ _)) $$ H
  iintro H
  iapply hk
  isplitl [H]
  · iexact H
  · iexact HR

theorem step_store_pos {f : S32.Idx → BitVec 32} {r : Rect S32} {w : r.shape.Idx → BitVec 32} {hx : (mPos.access r).Stores Finset.univ} {hm}
    {k : PUnit → Prog (TpuEff nD τ sig (Elt F) Λ₀ (.scVector (cV L) (jV L))) α}
    (hk : iprop(posPts (F := F) d L ((mPos.access r).write (Elt F) f w Finset.univ) ∗ R) ⊢ wpt (F := F) d L (k ⟨⟩) Q) :
    iprop(posPts (F := F) d L f ∗ R) ⊢ wpt (F := F) d L (Prog.lift (TpuEff.store mPos r w Finset.univ hx hm) >>= k) Q := by
  iintro ⟨H, HR⟩
  iapply (wp_store (defs := defs₀ (F := F)) 𝒱₀ (thr d L) none Set.univ (Q := Q) (m := mPos) (r := r) (w := w) (Mk := Finset.univ) (hx := hx) (hm := hm) (k := k) (S := Finset.univ) (f := f) (Finset.subset_univ _)) $$ H
  iintro H
  iapply hk
  isplitl [H]
  · iexact H
  · iexact HR

theorem step_load_acc {f : S8x8x1024.Idx → F .f32} {r : LoadRect S8x8x1024} {hl : mAcc.view.LoadsAt r}
    {k : (r.shape.Idx → F .f32) → Prog (TpuEff nD τ sig (Elt F) Λ₀ (.scVector (cV L) (jV L))) α}
    (hk : iprop(accPts (F := F) d L f ∗ R) ⊢ wpt (F := F) d L (k (mAcc.view.readAt (Elt F) r f)) Q) :
    iprop(accPts (F := F) d L f ∗ R) ⊢ wpt (F := F) d L (Prog.lift (TpuEff.load mAcc r hl) >>= k) Q := by
  iintro ⟨H, HR⟩
  iapply (wp_load (defs := defs₀ (F := F)) 𝒱₀ (thr d L) none Set.univ (Q := Q) (m := mAcc) (r := r) (hl := hl) (k := k) (S := Finset.univ) (q := fullShare) (f := f) (Finset.subset_univ _)) $$ H
  iintro H
  iapply hk
  isplitl [H]
  · iexact H
  · iexact HR

theorem step_store_acc {f : S8x8x1024.Idx → F .f32} {r : Rect S8x8x1024} {w : r.shape.Idx → F .f32} {hx : (mAcc.access r).Stores Finset.univ} {hm}
    {k : PUnit → Prog (TpuEff nD τ sig (Elt F) Λ₀ (.scVector (cV L) (jV L))) α}
    (hk : iprop(accPts (F := F) d L ((mAcc.access r).write (Elt F) f w Finset.univ) ∗ R) ⊢ wpt (F := F) d L (k ⟨⟩) Q) :
    iprop(accPts (F := F) d L f ∗ R) ⊢ wpt (F := F) d L (Prog.lift (TpuEff.store mAcc r w Finset.univ hx hm) >>= k) Q := by
  iintro ⟨H, HR⟩
  iapply (wp_store (defs := defs₀ (F := F)) 𝒱₀ (thr d L) none Set.univ (Q := Q) (m := mAcc) (r := r) (w := w) (Mk := Finset.univ) (hx := hx) (hm := hm) (k := k) (S := Finset.univ) (f := f) (Finset.subset_univ _)) $$ H
  iintro H
  iapply hk
  isplitl [H]
  · iexact H
  · iexact HR

/-- A gather from the row buffer, which stands second. -/
theorem step_gather_row {f : S32x129.Idx → F .f32} {idxs : Fin S32x129.rank → IVec S16 32} {h : ∀ a x, (idxs a x).toNat < S32x129.size a} {hl : mRow.view.Loads}
    {k : Vec F S16 .f32 → Prog (TpuEff nD τ sig (Elt F) Λ₀ (.scVector (cV L) (jV L))) α}
    (hk : iprop(R' ∗ rowPts (F := F) d L f ∗ R) ⊢ wpt (F := F) d L (k (loadIdx f idxs h)) Q) :
    iprop(R' ∗ rowPts (F := F) d L f ∗ R) ⊢ wpt (F := F) d L (SparseCore.vectorLoadIdx mRow idxs h hl >>= k) Q := by
  iintro ⟨HR', H, HR⟩
  iapply (SparseCore.wp_vectorLoadIdx (defs := defs₀ (F := F)) 𝒱₀ (thr d L) none Set.univ (Q := Q) (base := mRow) (idxs := idxs) (h := h) (hl := hl) (k := k) (S := Finset.univ) (q := fullShare) (f := f) (Finset.subset_univ _)) $$ H
  iintro H
  rw [show (mRow.access (.whole S32x129)).read (Elt F) f = f from Memref.read_access_whole (Elt F) (cc0_scratch3 : Ref sig .scVector) f]
  iapply hk
  isplitl [HR']
  · iexact HR'
  isplitl [H]
  · iexact H
  · iexact HR

omit [FloatOps F] in
theorem acc_univ (f : S8x8x1024.Idx → F .f32) :
    (((mAcc.access (.whole S8x8x1024)).loc (thr d L) ↦[(mAcc.access (.whole S8x8x1024)).set]{fullShare} (f : Buf (Elt F) ((mAcc.access (.whole S8x8x1024)).loc (thr d L)))) : sProp 𝕄)
      = accPts (F := F) d L f := by
  rw [show (mAcc.access (.whole S8x8x1024)).set = Finset.univ from Memref.set_access_whole (cc0_scratch2 : Ref sig .scVector)]

omit [FloatOps F] in
theorem mine_univ (f : S16384.Idx → BitVec 32) :
    (((mMine.access (.whole S16384)).loc (thr d L) ↦[(mMine.access (.whole S16384)).set]{fullShare} (f : Buf (Elt F) ((mMine.access (.whole S16384)).loc (thr d L)))) : sProp 𝕄)
      = minePts (F := F) d L f := by
  rw [show (mMine.access (.whole S16384)).set = Finset.univ from Memref.set_access_whole (cc0_scratch0 : Ref sig .scVector)]

omit [FloatOps F] in
theorem rnd_univ (f : S16384.Idx → BitVec 32) :
    (((mRnd.access (.whole S16384)).loc (thr d L) ↦[(mRnd.access (.whole S16384)).set]{fullShare} (f : Buf (Elt F) ((mRnd.access (.whole S16384)).loc (thr d L)))) : sProp 𝕄)
      = rndPts (F := F) d L f := by
  rw [show (mRnd.access (.whole S16384)).set = Finset.univ from Memref.set_access_whole (cc0_scratch1 : Ref sig .scVector)]

/-- A masked scatter into the accumulator. -/
theorem step_scatter_acc {f : S8x8x1024.Idx → F .f32} {idxs : Fin S8x8x1024.rank → IVec S16 32} {v : Vec F S16 .f32} {mask : IVec S16 1} {add : Bool}
    {h : ∀ a x, (idxs a x).toNat < S8x8x1024.size a} {hs : (mAcc.access (.whole S8x8x1024)).Stores Finset.univ}
    {k : PUnit → Prog (TpuEff nD τ sig (Elt F) Λ₀ (.scVector (cV L) (jV L))) α}
    (hk : iprop(accPts (F := F) d L (storeIdx (F := F) (e := .f32) f idxs v mask add h) ∗ R) ⊢ wpt (F := F) d L (k ⟨⟩) Q) :
    iprop(accPts (F := F) d L f ∗ R) ⊢ wpt (F := F) d L (SparseCore.vectorStoreIdx mAcc idxs v mask add h hs >>= k) Q := by
  iintro ⟨H, HR⟩
  ihave H' := (Entails.of_eq (acc_univ (F := F) (d := d) (L := L) f).symm) $$ H
  iapply (SparseCore.wp_vectorStoreIdx (defs := defs₀ (F := F)) 𝒱₀ (thr d L) none Set.univ (Q := Q) (base := mAcc) (idxs := idxs) (v := v) (mask := mask) (add := add) (h := h) (hs := hs) (k := k) (f := f)) $$ H'
  iintro H
  rw [show (mAcc.access (.whole S8x8x1024)).read (Elt F) f = f from Memref.read_access_whole (Elt F) (cc0_scratch2 : Ref sig .scVector) f]
  rw [show ∀ w, (mAcc.access (.whole S8x8x1024)).write (Elt F) f w Finset.univ = w from Memref.write_access_whole_univ (Elt F) (cc0_scratch2 : Ref sig .scVector) f]
  ihave H' := (Entails.of_eq (acc_univ (F := F) (d := d) (L := L) _)) $$ H
  iapply hk
  isplitl [H']
  · iexact H'
  · iexact HR

/-- A masked scatter into the tile's entry list. -/
theorem step_scatter_mine {f : S16384.Idx → BitVec 32} {idxs : Fin S16384.rank → IVec S16 32} {v : IVec S16 32} {mask : IVec S16 1} {add : Bool}
    {h : ∀ a x, (idxs a x).toNat < S16384.size a} {hs : (mMine.access (.whole S16384)).Stores Finset.univ}
    {k : PUnit → Prog (TpuEff nD τ sig (Elt F) Λ₀ (.scVector (cV L) (jV L))) α}
    (hk : iprop(minePts (F := F) d L (storeIdx (F := F) (e := .i32) f idxs v mask add h) ∗ R) ⊢ wpt (F := F) d L (k ⟨⟩) Q) :
    iprop(minePts (F := F) d L f ∗ R) ⊢ wpt (F := F) d L (SparseCore.vectorStoreIdx mMine idxs v mask add h hs >>= k) Q := by
  iintro ⟨H, HR⟩
  ihave H' := (Entails.of_eq (mine_univ (F := F) (d := d) (L := L) f).symm) $$ H
  iapply (SparseCore.wp_vectorStoreIdx (defs := defs₀ (F := F)) 𝒱₀ (thr d L) none Set.univ (Q := Q) (base := mMine) (idxs := idxs) (v := v) (mask := mask) (add := add) (h := h) (hs := hs) (k := k) (f := f)) $$ H'
  iintro H
  rw [show (mMine.access (.whole S16384)).read (Elt F) f = f from Memref.read_access_whole (Elt F) (cc0_scratch0 : Ref sig .scVector) f]
  rw [show ∀ w, (mMine.access (.whole S16384)).write (Elt F) f w Finset.univ = w from Memref.write_access_whole_univ (Elt F) (cc0_scratch0 : Ref sig .scVector) f]
  ihave H' := (Entails.of_eq (mine_univ (F := F) (d := d) (L := L) _)) $$ H
  iapply hk
  isplitl [H']
  · iexact H'
  · iexact HR

/-- A masked scatter into the round's entry list. -/
theorem step_scatter_rnd {f : S16384.Idx → BitVec 32} {idxs : Fin S16384.rank → IVec S16 32} {v : IVec S16 32} {mask : IVec S16 1} {add : Bool}
    {h : ∀ a x, (idxs a x).toNat < S16384.size a} {hs : (mRnd.access (.whole S16384)).Stores Finset.univ}
    {k : PUnit → Prog (TpuEff nD τ sig (Elt F) Λ₀ (.scVector (cV L) (jV L))) α}
    (hk : iprop(rndPts (F := F) d L (storeIdx (F := F) (e := .i32) f idxs v mask add h) ∗ R) ⊢ wpt (F := F) d L (k ⟨⟩) Q) :
    iprop(rndPts (F := F) d L f ∗ R) ⊢ wpt (F := F) d L (SparseCore.vectorStoreIdx mRnd idxs v mask add h hs >>= k) Q := by
  iintro ⟨H, HR⟩
  ihave H' := (Entails.of_eq (rnd_univ (F := F) (d := d) (L := L) f).symm) $$ H
  iapply (SparseCore.wp_vectorStoreIdx (defs := defs₀ (F := F)) 𝒱₀ (thr d L) none Set.univ (Q := Q) (base := mRnd) (idxs := idxs) (v := v) (mask := mask) (add := add) (h := h) (hs := hs) (k := k) (f := f)) $$ H'
  iintro H
  rw [show (mRnd.access (.whole S16384)).read (Elt F) f = f from Memref.read_access_whole (Elt F) (cc0_scratch1 : Ref sig .scVector) f]
  rw [show ∀ w, (mRnd.access (.whole S16384)).write (Elt F) f w Finset.univ = w from Memref.write_access_whole_univ (Elt F) (cc0_scratch1 : Ref sig .scVector) f]
  ihave H' := (Entails.of_eq (rnd_univ (F := F) (d := d) (L := L) _)) $$ H
  iapply hk
  isplitl [H']
  · iexact H'
  · iexact HR

end Steps

end Cert.Proof
-- ==== Proof.Acc.lean ====
/- The accumulator as a pure value: what one masked scatter leaves at a cell, and what the sixty-four of them,
   one for each feature, leave after the first `k`. -/
module

public import proofs.«01_k».proof.Proof.Base

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A cell after a masked scatter: the lanes that name it, in ascending order, applied to what it held. -/
theorem storeIdx_apply {s : Shape} {e : EltTy} {n : Fin 1 → Nat} (f : Vec F s e) (idxs : Fin s.rank → IVec ⟨1, n⟩ 32) (v : Vec F ⟨1, n⟩ e) (mask : IVec ⟨1, n⟩ 1)
    (add : Bool) (h : ∀ a x, (idxs a x).toNat < s.size a) (j : s.Idx) :
    storeIdx f idxs v mask add h j
      = (List.finRange (n 0)).foldl (fun y k => if mask (Shape.ofLane k) = 1 ∧ ∀ a, (j a).val = (idxs a (Shape.ofLane k)).toNat then
          (if add then Elt.idxAdd e y (v (Shape.ofLane k)) else v (Shape.ofLane k)) else y) (f j) := by
  unfold storeIdx
  generalize List.finRange (n 0) = ls
  induction ls generalizing f with
  | nil => rfl
  | cons k ls ih =>
    rw [List.foldl_cons, List.foldl_cons, ih]
    congr 1
    by_cases hm : mask (Shape.ofLane k) = 1
    · by_cases hj : ∀ a, (j a).val = (idxs a (Shape.ofLane k)).toNat
      · have e' : idxAt idxs h (Shape.ofLane k) = j := by
          funext a; exact Fin.ext (hj a).symm
        rw [if_pos (c := _ ∧ _) ⟨hm, hj⟩]
        simp only [hm, if_true, e', implies_true]
      · rw [if_neg (c := _ ∧ _) (fun h' => hj h'.2)]
        simp only [hm, if_true]
        exact if_neg fun h' => hj h'
    · simp only [hm, if_false, false_and]

/-- Lane `k` of sixteen. -/
abbrev ln (k : Fin 16) : S16.Idx := Shape.ofLane (d := S16.size) k

/-- The lanes that name column `col`, applied in order to `y`; `V k c` is lane `k`'s value of feature `c`. -/
def lanesFold (add : Bool) (dv : IVec S16 32) (mask : IVec S16 1) (V : S16.Idx → ℕ → F .f32) (c col : ℕ) (y : F .f32) : F .f32 :=
  (List.finRange 16).foldl (fun y k => if mask (ln k) = 1 ∧ col = (dv (ln k)).toNat then (if add then FloatOps.idxAddf y (V (ln k) c) else V (ln k) c) else y) y

/-- The feature an accumulator cell belongs to. -/
def ft (j : S8x8x1024.Idx) : ℕ := 8 * (j 0).val + (j 1).val

/-- The accumulator once the scatters of the first `k` features are done. -/
def accK (add : Bool) (dv : IVec S16 32) (mask : IVec S16 1) (V : S16.Idx → ℕ → F .f32) (A : S8x8x1024.Idx → F .f32) (k : ℕ) : S8x8x1024.Idx → F .f32 :=
  fun j => if ft j < k then lanesFold add dv mask V (ft j) (j 2).val (A j) else A j

theorem accK_zero (add : Bool) (dv : IVec S16 32) (mask : IVec S16 1) (V : S16.Idx → ℕ → F .f32) (A : S8x8x1024.Idx → F .f32) :
    accK add dv mask V A 0 = A := by
  funext j; simp [accK]

theorem ft_lt (j : S8x8x1024.Idx) : ft j < 64 := by
  have h0 := (j 0).isLt; have h1 := (j 1).isLt
  change (j 0).val < 8 at h0; change (j 1).val < 8 at h1
  unfold ft; omega

theorem accK_full (add : Bool) (dv : IVec S16 32) (mask : IVec S16 1) (V : S16.Idx → ℕ → F .f32) (A : S8x8x1024.Idx → F .f32) :
    accK add dv mask V A 64 = fun j => lanesFold add dv mask V (ft j) (j 2).val (A j) := by
  funext j; simp [accK, ft_lt]

theorem accK_step {add : Bool} {dv : IVec S16 32} {mask : IVec S16 1} {V : S16.Idx → ℕ → F .f32} {A : S8x8x1024.Idx → F .f32} {k : ℕ}
    {av bv : IVec S16 32} {v : Vec F S16 .f32} {h : ∀ a x, ((![av, bv, dv] : Fin S8x8x1024.rank → IVec S16 32) a x).toNat < S8x8x1024.size a}
    (hab : ∀ x, (av x).toNat = k / 8 ∧ (bv x).toNat = k % 8) (hv : ∀ x, v x = V x k) :
    storeIdx (F := F) (e := .f32) (accK add dv mask V A k) (![av, bv, dv] : Fin S8x8x1024.rank → IVec S16 32) v mask add h = accK add dv mask V A (k + 1) := by
  funext j
  rw [storeIdx_apply]
  have h0 := (j 0).isLt; have h1 := (j 1).isLt
  change (j 0).val < 8 at h0; change (j 1).val < 8 at h1
  have hc : ∀ x : S16.Idx, (∀ a, (j a).val = ((![av, bv, dv] : Fin S8x8x1024.rank → IVec S16 32) a x).toNat) ↔ (ft j = k ∧ (j 2).val = (dv x).toNat) := by
    intro x
    obtain ⟨ha, hb⟩ := hab x
    constructor
    · intro hh
      have e0 : (j 0).val = (av x).toNat := hh 0
      have e1 : (j 1).val = (bv x).toNat := hh 1
      have e2 : (j 2).val = (dv x).toNat := hh 2
      refine ⟨?_, e2⟩
      unfold ft; omega
    · rintro ⟨hf, e2⟩ a
      unfold ft at hf
      have e0 : (j 0).val = (av x).toNat := by omega
      have e1 : (j 1).val = (bv x).toNat := by omega
      match a with
      | ⟨0, _⟩ => exact e0
      | ⟨1, _⟩ => exact e1
      | ⟨2, _⟩ => exact e2
  by_cases hk : ft j = k
  · have e1 : accK add dv mask V A k j = A j := by unfold accK; rw [if_neg (by omega)]
    have e2 : accK add dv mask V A (k + 1) j = lanesFold add dv mask V (ft j) (j 2).val (A j) := by unfold accK; rw [if_pos (by omega)]
    rw [e1, e2]
    unfold lanesFold
    refine congrArg (fun g => List.foldl g (A j) (List.finRange 16)) ?_
    funext y l
    have hcl := hc (ln l)
    by_cases hm : mask (ln l) = 1 ∧ (j 2).val = (dv (ln l)).toNat
    · rw [if_pos hm]
      refine (if_pos ⟨hm.1, hcl.2 ⟨hk, hm.2⟩⟩).trans ?_
      rw [hk]
      change (if add = true then FloatOps.idxAddf y (v (ln l)) else v (ln l)) = _
      rw [hv]
    · rw [if_neg hm]
      exact if_neg fun h' => hm ⟨h'.1, (hcl.1 h'.2).2⟩
  · have e1 : accK add dv mask V A (k + 1) j = accK add dv mask V A k j := by
      unfold accK
      by_cases hlt : ft j < k
      · rw [if_pos hlt, if_pos (by omega)]
      · rw [if_neg hlt, if_neg (by omega)]
    rw [e1]
    generalize accK add dv mask V A k j = y
    have : ∀ (ls : List (Fin 16)), ls.foldl (fun y k => if mask (ln k) = 1 ∧ (∀ a, (j a).val = ((![av, bv, dv] : Fin S8x8x1024.rank → IVec S16 32) a (ln k)).toNat) then
          (if add then Elt.idxAdd .f32 y (v (ln k)) else v (ln k)) else y) y = y := by
      intro ls
      induction ls with
      | nil => rfl
      | cons l ls ih => rw [List.foldl_cons, if_neg (fun h' => hk ((hc _).1 h'.2).1)]; exact ih
    exact this _

/-- An index of the row buffer. -/
def rowIx (r c : ℕ) (hr : r < 32) (hc : c < 129) : S32x129.Idx := fun a =>
  ⟨(![r, c] : Fin 2 → ℕ) a, match a with | ⟨0, _⟩ => hr | ⟨1, _⟩ => hc⟩

/-- The value a lane reads from the gathered rows: row `jv`, the feature `c` counted from column `cb`. -/
def rowV (row : S32x129.Idx → F .f32) (jv cb : IVec S16 32) : S16.Idx → ℕ → F .f32 :=
  fun x c => row (rowIx ((jv x).toNat % 32) (((cb x).toNat + c) % 129) (Nat.mod_lt _ (by decide)) (Nat.mod_lt _ (by decide)))

theorem rowV_of {row : S32x129.Idx → F .f32} {jv cb cv : IVec S16 32} {k : ℕ} (hk : k < 64) (hcb : ∀ x, (cb x).toNat ≤ 64) (hcv : ∀ x, cv x = cb x + BitVec.ofNat 32 k)
    {h : ∀ a x, ((![jv, cv] : Fin S32x129.rank → IVec S16 32) a x).toNat < S32x129.size a} (x : S16.Idx) :
    loadIdx (F := F) (e := .f32) row (![jv, cv] : Fin S32x129.rank → IVec S16 32) h x = rowV row jv cb x k := by
  unfold loadIdx rowV
  congr 1
  funext a
  apply Fin.ext
  have h0 : (jv x).toNat < 32 := h 0 x
  have h1 : (cv x).toNat < 129 := h 1 x
  have e1 : (cv x).toNat = (cb x).toNat + k := by
    have := hcb x
    rw [hcv, BitVec.toNat_add, BitVec.toNat_ofNat]; omega
  match a with
  | ⟨0, _⟩ => change (jv x).toNat = (jv x).toNat % 32; omega
  | ⟨1, _⟩ => change (cv x).toNat = ((cb x).toNat + k) % 129; omega

theorem chkAcc {av bv dv : IVec S16 32} {k : ℕ} (hk : k < 64) (hab : ∀ x, (av x).toNat = k / 8 ∧ (bv x).toNat = k % 8) (hdv : ∀ x, (dv x).toNat < 1024) :
    ∀ a x, ((![av, bv, dv] : Fin S8x8x1024.rank → IVec S16 32) a x).toNat < S8x8x1024.size a := by
  intro a x
  obtain ⟨ha, hb⟩ := hab x
  match a with
  | ⟨0, _⟩ => change (av x).toNat < 8; omega
  | ⟨1, _⟩ => change (bv x).toNat < 8; omega
  | ⟨2, _⟩ => exact hdv x

theorem chkRow {jv cb cv : IVec S16 32} {k : ℕ} (hk : k < 64) (hjv : ∀ x, (jv x).toNat < 32) (hcb : ∀ x, (cb x).toNat ≤ 64) (hcv : ∀ x, cv x = cb x + BitVec.ofNat 32 k) :
    ∀ a x, ((![jv, cv] : Fin S32x129.rank → IVec S16 32) a x).toNat < S32x129.size a := by
  intro a x
  match a with
  | ⟨0, _⟩ => exact hjv x
  | ⟨1, _⟩ =>
    change (cv x).toNat < 129
    have := hcb x
    rw [hcv, BitVec.toNat_add, BitVec.toNat_ofNat]; omega

section Steps
variable {d : Dev nD} {L : grid0.Coords} {α : Type} {Q : α → sProp (MT nD τ sig (HIx 1) (Elt F) ℕ UU ℕ)} {R : sProp (MT nD τ sig (HIx 1) (Elt F) ℕ UU ℕ)}

/-- One feature's scatter. -/
theorem step_feature {add : Bool} {dv : IVec S16 32} {mask : IVec S16 1} {V : S16.Idx → ℕ → F .f32} {A : S8x8x1024.Idx → F .f32} (k : ℕ)
    {av bv : IVec S16 32} {v : Vec F S16 .f32} {h : ∀ a x, ((![av, bv, dv] : Fin S8x8x1024.rank → IVec S16 32) a x).toNat < S8x8x1024.size a}
    {hs : (mAcc.access (.whole S8x8x1024)).Stores Finset.univ} {kk : PUnit → Prog (TpuEff nD τ sig (Elt F) Λ₀ (.scVector (cV L) (jV L))) α}
    (hab : ∀ x, (av x).toNat = k / 8 ∧ (bv x).toNat = k % 8) (hv : ∀ x, v x = V x k)
    (hk : iprop(accPts (F := F) d L (accK add dv mask V A (k + 1)) ∗ R) ⊢ wpt (F := F) d L (kk ⟨⟩) Q) :
    iprop(accPts (F := F) d L (accK add dv mask V A k) ∗ R) ⊢ wpt (F := F) d L (SparseCore.vectorStoreIdx mAcc ![av, bv, dv] v mask add h hs >>= kk) Q := by
  refine step_scatter_acc ?_
  rw [accK_step hab hv]
  exact hk

/-- The accumulator as it stands is the first state of the next sixteen entries. -/
theorem rebase {add : Bool} {dv : IVec S16 32} {mask : IVec S16 1} {V : S16.Idx → ℕ → F .f32} {A : S8x8x1024.Idx → F .f32} {X : sProp (MT nD τ sig (HIx 1) (Elt F) ℕ UU ℕ)}
    (h : iprop(accPts (F := F) d L (accK add dv mask V A 0) ∗ R) ⊢ X) : iprop(accPts (F := F) d L A ∗ R) ⊢ X := by
  rw [accK_zero] at h
  exact h
end Steps

end Cert.Proof
-- ==== Proof.Scan.lean ====
/- Compaction: the running count of set lanes, the places it gives them, and the list a masked scatter extends. -/
module

public import proofs.«01_k».proof.Proof.Acc

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The running count of set lanes. -/
def psum (mask : IVec S16 1) : IVec S16 32 := scan .sum (select mask (broadcast S16 1#32) (broadcast S16 0#32))

/-- The places of the set lanes, from place `off` on. -/
def tgtOf (off : BitVec 32) (mask : IVec S16 1) : IVec S16 32 :=
  maxsi (subi (addi (broadcast S16 off) (psum mask)) (broadcast S16 1#32)) (broadcast S16 0#32)

/-- The set lanes among `ls`. -/
def setIn (mask : IVec S16 1) (ls : List (Fin 16)) : List (Fin 16) := ls.filter fun k => decide (mask (ln k) = 1#1)

theorem foldl_count (mask : IVec S16 1) (u : Fin 16 → BitVec 32) (hu : ∀ k, u k = if mask (ln k) = 1#1 then 1#32 else 0#32) (ls : List (Fin 16)) (c : ℕ) :
    ls.foldl (fun r k => IntOp.addi r (u k)) (BitVec.ofNat 32 c) = BitVec.ofNat 32 (c + (setIn mask ls).length) := by
  induction ls generalizing c with
  | nil => simp [setIn]
  | cons k ls ih =>
    rw [List.foldl_cons]
    have : IntOp.addi (BitVec.ofNat 32 c) (u k) = BitVec.ofNat 32 (c + if mask (ln k) = 1#1 then 1 else 0) := by
      rw [hu]; change BitVec.ofNat 32 c + _ = _
      split <;> simp [BitVec.ofNat_add]
    rw [this, ih]
    congr 1
    unfold setIn
    rw [List.filter_cons]
    by_cases hm : mask (ln k) = 1#1
    · simp [hm]; omega
    · simp [hm]

theorem select_bit (mask : IVec S16 1) (k : Fin 16) :
    select mask (broadcast S16 1#32) (broadcast S16 0#32) (ln k) = if mask (ln k) = 1#1 then 1#32 else 0#32 := rfl

theorem psum_eq (mask : IVec S16 1) {pre suf : List (Fin 16)} {k : Fin 16} (hs : pre ++ k :: suf = List.finRange 16) :
    psum mask (ln k) = BitVec.ofNat 32 ((setIn mask (pre ++ [k])).length) := by
  have hpw : (List.finRange 16).Pairwise (· < ·) := List.pairwise_lt_finRange 16
  have e0 : psum mask (ln k) = ((List.finRange 16).filter fun j => decide (0 < j.val ∧ j.val ≤ k.val)).foldl
      (fun r j => IntOp.addi r (select mask (broadcast S16 1#32) (broadcast S16 0#32) (ln j))) (select mask (broadcast S16 1#32) (broadcast S16 0#32) (ln 0)) := rfl
  have e1 : select mask (broadcast S16 1#32) (broadcast S16 0#32) (ln 0) = BitVec.ofNat 32 (if mask (ln 0) = 1#1 then 1 else 0) := by
    rw [select_bit]; split <;> rfl
  rw [e0, e1, foldl_count mask _ (select_bit mask)]
  congr 1
  have e2 : (if mask (ln 0) = 1#1 then 1 else 0) = (setIn mask [0]).length := by
    unfold setIn; rw [List.filter_cons]; by_cases h : mask (ln 0) = 1#1 <;> simp [h]
  rw [e2, ← List.length_append]
  congr 1
  unfold setIn
  rw [← List.filter_append]
  congr 1
  have e3 : [(0 : Fin 16)] ++ ((List.finRange 16).filter fun j => decide (0 < j.val ∧ j.val ≤ k.val)) = (List.finRange 16).filter fun j => decide (j.val ≤ k.val) := by
    rw [List.finRange_succ, List.filter_cons, List.filter_cons]
    simp [List.filter_map]
    rfl
  rw [e3, ← hs, List.filter_append, List.filter_cons]
  rw [← hs, List.pairwise_append] at hpw
  obtain ⟨-, h2, h3⟩ := hpw
  rw [List.pairwise_cons] at h2
  have p1 : pre.filter (fun j => decide (j.val ≤ k.val)) = pre := by
    rw [List.filter_eq_self]; intro a ha
    have := h3 a ha k (by simp); simp; exact le_of_lt this
  have p2 : suf.filter (fun j => decide (j.val ≤ k.val)) = [] := by
    rw [List.filter_eq_nil_iff]; intro a ha
    have := h2.1 a ha; simp; exact this
  rw [p1, p2]; simp

theorem setIn_length_le (mask : IVec S16 1) (ls : List (Fin 16)) : (setIn mask ls).length ≤ ls.length := List.length_filter_le _ _

theorem maxsi_small {a : ℕ} (h : a < 2 ^ 31) : (IntOp.maxsi (BitVec.ofNat 32 a) 0#32) = BitVec.ofNat 32 a := by
  unfold IntOp.maxsi
  have : (BitVec.ofNat 32 a).toInt = a := by
    rw [BitVec.toInt_eq_toNat_of_lt] <;> rw [BitVec.toNat_ofNat] <;> omega
  simp only [BitVec.slt, this]
  split <;> first | rfl | (simp at *; subst_vars; rfl)

/-- The place of a set lane. -/
theorem tgt_set (mask : IVec S16 1) {off : BitVec 32} {pre suf : List (Fin 16)} {k : Fin 16} (hs : pre ++ k :: suf = List.finRange 16)
    (hm : mask (ln k) = 1#1) (hoff : off.toNat + 16 ≤ 16384) : (tgtOf off mask (ln k)).toNat = off.toNat + (setIn mask pre).length := by
  have hl : (setIn mask pre).length ≤ 16 := by
    refine (setIn_length_le _ _).trans ?_
    have := congrArg List.length hs; simp at this; omega
  have e : tgtOf off mask (ln k) = IntOp.maxsi (off + psum mask (ln k) - 1#32) 0#32 := rfl
  rw [e, psum_eq mask hs]
  have e2 : (setIn mask (pre ++ [k])).length = (setIn mask pre).length + 1 := by
    unfold setIn; rw [List.filter_append, List.filter_cons]; simp [hm]
  have e3 : off + BitVec.ofNat 32 ((setIn mask (pre ++ [k])).length) - 1#32 = BitVec.ofNat 32 (off.toNat + (setIn mask pre).length) := by
    rw [e2]; apply BitVec.eq_of_toNat_eq; simp [BitVec.toNat_sub, BitVec.toNat_add, BitVec.toNat_ofNat]; omega
  rw [e3, maxsi_small (by omega), BitVec.toNat_ofNat]; omega

theorem split_at (k : Fin 16) : ∃ pre suf, pre ++ k :: suf = List.finRange 16 := by
  obtain ⟨s, t, h⟩ := List.append_of_mem (List.mem_finRange k)
  exact ⟨s, t, h.symm⟩

/-- Every lane's place is inside the list's buffer. -/
theorem tgt_lt (mask : IVec S16 1) {off : BitVec 32} (hoff : off.toNat + 16 ≤ 16384) :
    ∀ a x, ((![tgtOf off mask] : Fin S16384.rank → IVec S16 32) a x).toNat < S16384.size a := by
  intro a x
  obtain ⟨k, rfl⟩ : ∃ k : Fin 16, ln k = x := ⟨x 0, by funext a; fin_cases a; rfl⟩
  match a with
  | ⟨0, _⟩ =>
    change (tgtOf off mask (ln k)).toNat < 16384
    obtain ⟨pre, suf, hs⟩ := split_at k
    have e : tgtOf off mask (ln k) = IntOp.maxsi (off + psum mask (ln k) - 1#32) 0#32 := rfl
    have hl : (setIn mask (pre ++ [k])).length ≤ 16 := by
      refine (setIn_length_le _ _).trans ?_
      have := congrArg List.length hs; simp at this ⊢; omega
    rw [e, psum_eq mask hs]
    generalize (setIn mask (pre ++ [k])).length = m at hl
    by_cases h0 : off.toNat + m = 0
    · have : off + BitVec.ofNat 32 m - 1#32 = 0xFFFFFFFF#32 := by
        apply BitVec.eq_of_toNat_eq; simp [BitVec.toNat_sub, BitVec.toNat_add, BitVec.toNat_ofNat]; omega
      rw [this]; decide
    · have : off + BitVec.ofNat 32 m - 1#32 = BitVec.ofNat 32 (off.toNat + m - 1) := by
        apply BitVec.eq_of_toNat_eq; simp [BitVec.toNat_sub, BitVec.toNat_add, BitVec.toNat_ofNat]; omega
      rw [this, maxsi_small (by omega), BitVec.toNat_ofNat]; omega

/-- The running count's last lane: how many lanes are set. -/
theorem psum_last (mask : IVec S16 1) : psum mask (ln 15) = BitVec.ofNat 32 (setIn mask (List.finRange 16)).length :=
  psum_eq mask (pre := (List.finRange 16).take 15) (suf := []) (k := 15) (by decide)

/-- Word `n` of a list's buffer. -/
def cell (f : S16384.Idx → BitVec 32) (n : ℕ) : BitVec 32 := if h : n < 16384 then f (Shape.ofLane (d := S16384.size) ⟨n, h⟩) else 0#32

/-- The buffer starts with the list. -/
def Pref (f : S16384.Idx → BitVec 32) (l : List (BitVec 32)) : Prop := l.length ≤ 16384 ∧ ∀ n, n < l.length → cell f n = l.getD n 0#32

theorem pref_nil (f : S16384.Idx → BitVec 32) : Pref f [] := ⟨by simp, by simp⟩

/-- One lane's write. -/
def put (mask : IVec S16 1) (tgt e : IVec S16 32) (g : ℕ → BitVec 32) (k : Fin 16) : ℕ → BitVec 32 :=
  fun n => if mask (ln k) = 1#1 ∧ n = (tgt (ln k)).toNat then e (ln k) else g n

theorem cell_storeIdx {f : S16384.Idx → BitVec 32} {tgt e : IVec S16 32} {mask : IVec S16 1} {h : ∀ a x, ((![tgt] : Fin S16384.rank → IVec S16 32) a x).toNat < S16384.size a}
    {n : ℕ} (hn : n < 16384) :
    cell (storeIdx (F := F) (e := .i32) f (![tgt] : Fin S16384.rank → IVec S16 32) e mask false h) n = (List.finRange 16).foldl (put mask tgt e) (cell f) n := by
  have e0 : ∀ g : S16384.Idx → BitVec 32, cell g n = g (Shape.ofLane (d := S16384.size) ⟨n, hn⟩) := fun g => by unfold cell; rw [dif_pos hn]
  rw [e0]
  refine (storeIdx_apply ..).trans ?_
  rw [show f (Shape.ofLane (d := S16384.size) ⟨n, hn⟩) = cell f n from (e0 f).symm]
  have : ∀ (ls : List (Fin 16)) (g : ℕ → BitVec 32), ls.foldl (fun y k => if mask (ln k) = 1#1 ∧ (∀ a, ((Shape.ofLane (d := S16384.size) ⟨n, hn⟩ : S16384.Idx) a).val = ((![tgt] : Fin S16384.rank → IVec S16 32) a (ln k)).toNat) then
      (if false = true then Elt.idxAdd (F := F) .i32 y (e (ln k)) else e (ln k)) else y) (g n) = ls.foldl (put mask tgt e) g n := by
    intro ls
    induction ls with
    | nil => intro g; rfl
    | cons k ls ih =>
      intro g
      rw [List.foldl_cons, List.foldl_cons, ← ih]
      congr 1
      unfold put
      by_cases hm : mask (ln k) = 1#1 ∧ n = (tgt (ln k)).toNat
      · rw [if_pos hm]
        refine (if_pos ⟨hm.1, ?_⟩).trans rfl
        intro a
        match a with
        | ⟨0, _⟩ => exact hm.2
      · rw [if_neg hm]
        exact if_neg fun h' => hm ⟨h'.1, h'.2 (0 : Fin 1)⟩
  exact this _ _

/-- The compaction: a masked scatter at the running count's places appends the set lanes' words. -/
theorem compact {f : S16384.Idx → BitVec 32} {l : List (BitVec 32)} {off : BitVec 32} {e : IVec S16 32} {mask : IVec S16 1}
    {h : ∀ a x, ((![tgtOf off mask] : Fin S16384.rank → IVec S16 32) a x).toNat < S16384.size a}
    (hP : Pref f l) (hoff : off.toNat = l.length) (hle : l.length + 16 ≤ 16384) :
    Pref (storeIdx (F := F) (e := .i32) f (![tgtOf off mask] : Fin S16384.rank → IVec S16 32) e mask false h) (l ++ (setIn mask (List.finRange 16)).map fun k => e (ln k)) := by
  have hl : (setIn mask (List.finRange 16)).length ≤ 16 := (setIn_length_le _ _).trans (by simp)
  refine ⟨by simp; omega, fun n hn => ?_⟩
  rw [cell_storeIdx (by simp at hn; omega)]
  have key : ∀ (suf pre : List (Fin 16)) (g : ℕ → BitVec 32), pre ++ suf = List.finRange 16 →
      (∀ n, n < (l ++ (setIn mask pre).map fun k => e (ln k)).length → g n = (l ++ (setIn mask pre).map fun k => e (ln k)).getD n 0#32) →
      ∀ n, n < (l ++ (setIn mask (List.finRange 16)).map fun k => e (ln k)).length → suf.foldl (put mask (tgtOf off mask) e) g n = (l ++ (setIn mask (List.finRange 16)).map fun k => e (ln k)).getD n 0#32 := by
    intro suf
    induction suf with
    | nil => intro pre g hps hg n hn; simp at hps; subst hps; exact hg n hn
    | cons k suf ih =>
      intro pre g hps hg n hn
      rw [List.foldl_cons]
      refine ih (pre ++ [k]) _ (by simpa using hps) ?_ n hn
      intro m hm
      by_cases hk : mask (ln k) = 1#1
      · have es : setIn mask (pre ++ [k]) = setIn mask pre ++ [k] := by unfold setIn; rw [List.filter_append, List.filter_cons]; simp [hk]
        rw [es, List.map_append, ← List.append_assoc] at hm ⊢
        have et := tgt_set (off := off) mask hps hk (by omega)
        unfold put
        rw [et, hoff]
        simp only [List.length_append, List.length_map, List.map_cons, List.map_nil, List.length_cons, List.length_nil] at hm
        by_cases hmm : m = l.length + (setIn mask pre).length
        · rw [if_pos ⟨hk, hmm⟩, List.getD_eq_getElem?_getD, List.getElem?_append_right (by simp; omega)]
          simp [hmm]
        · rw [if_neg (fun h' => hmm h'.2), List.getD_eq_getElem?_getD, List.getElem?_append_left (by simp; omega), ← List.getD_eq_getElem?_getD]
          exact hg m (by simp; omega)
      · have es : setIn mask (pre ++ [k]) = setIn mask pre := by unfold setIn; rw [List.filter_append, List.filter_cons]; simp [hk]
        rw [es] at hm ⊢
        unfold put
        rw [if_neg (fun h' => hk h'.1)]
        exact hg m hm
  exact key (List.finRange 16) [] (cell f) rfl (by simpa [setIn] using hP.2) n hn

/-- What a word of the buffer can be after the compaction. -/
theorem compact_word {f : S16384.Idx → BitVec 32} {tgt e : IVec S16 32} {mask : IVec S16 1}
    {h : ∀ a x, ((![tgt] : Fin S16384.rank → IVec S16 32) a x).toNat < S16384.size a} {P : BitVec 32 → Prop}
    (hf : ∀ n, n < 16384 → P (cell f n)) (he : ∀ k, mask (ln k) = 1#1 → P (e (ln k))) :
    ∀ n, n < 16384 → P (cell (storeIdx (F := F) (e := .i32) f (![tgt] : Fin S16384.rank → IVec S16 32) e mask false h) n) := by
  intro n hn
  rw [cell_storeIdx hn]
  have : ∀ (ls : List (Fin 16)) (g : ℕ → BitVec 32), P (g n) → P (ls.foldl (put mask tgt e) g n) := by
    intro ls
    induction ls with
    | nil => intro g hg; exact hg
    | cons k ls ih =>
      intro g hg
      rw [List.foldl_cons]
      refine ih _ ?_
      unfold put
      split
      · exact he k ‹_ ∧ _›.1
      · exact hg
  exact this _ _ (hf n hn)

end Cert.Proof
-- ==== Proof.Lists.lean ====
/- The lists the tile's buffers hold: the entries kept of the first `n` places, in order. -/
module

public import proofs.«01_k».proof.Proof.Scan

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The lane numbers. -/
abbrev laneV : IVec S16 32 := iota .scVector S16 32 [0] iota_S16_d0_w32_scVector

theorem laneV_ln (k : Fin 16) : laneV (ln k) = BitVec.ofNat 32 k.val := by
  fin_cases k <;> rfl

theorem ln_surj (x : S16.Idx) : ∃ k : Fin 16, ln k = x := ⟨x 0, by funext a; fin_cases a; rfl⟩

/-- What `g` gives at the places below `n` that `P` keeps. -/
def listOf (P : ℕ → Bool) (g : ℕ → BitVec 32) (n : ℕ) : List (BitVec 32) := ((List.range n).filter P).map g

theorem listOf_length_le (P : ℕ → Bool) (g : ℕ → BitVec 32) (n : ℕ) : (listOf P g n).length ≤ n := by
  unfold listOf; rw [List.length_map]; exact (List.length_filter_le _ _).trans (by simp)

theorem listOf_block (P : ℕ → Bool) (g : ℕ → BitVec 32) (n : ℕ) {mask : IVec S16 1} {e : IVec S16 32}
    (hm : ∀ k : Fin 16, mask (ln k) = 1#1 ↔ P (n + k.val) = true) (he : ∀ k : Fin 16, mask (ln k) = 1#1 → e (ln k) = g (n + k.val)) :
    listOf P g (n + 16) = listOf P g n ++ (setIn mask (List.finRange 16)).map fun k => e (ln k) := by
  unfold listOf setIn
  rw [List.range_add, List.filter_append, List.map_append]
  congr 1
  have h16 : (List.range 16).map (fun x => n + x) = (List.finRange 16).map fun k : Fin 16 => n + k.val := by
    rw [← List.map_coe_finRange_eq_range, List.map_map]; rfl
  rw [h16, List.filter_map, List.map_map]
  have hf : (List.finRange 16).filter (P ∘ fun k : Fin 16 => n + k.val) = (List.finRange 16).filter fun k => decide (mask (ln k) = 1#1) := by
    apply List.filter_congr
    intro k _
    have := hm k
    by_cases h : mask (ln k) = 1#1
    · simp [h, this.1 h]
    · have h2 : ¬ P (n + k.val) = true := fun h' => h (this.2 h')
      simp [h, h2]
  rw [hf]
  apply List.map_congr_left
  intro k hk
  have : mask (ln k) = 1#1 := by simpa using (List.mem_filter.1 hk).2
  exact (he k this).symm

/-- The buffer starts with the list of the first `n` places, and `off` is the list's length. -/
def Col (P : ℕ → Bool) (g : ℕ → BitVec 32) (f : S16384.Idx → BitVec 32) (off : BitVec 32) (n : ℕ) : Prop :=
  Pref f (listOf P g n) ∧ off = BitVec.ofNat 32 (listOf P g n).length

theorem col_zero (P : ℕ → Bool) (g : ℕ → BitVec 32) (f : S16384.Idx → BitVec 32) : Col P g f 0#32 0 := ⟨pref_nil f, rfl⟩

theorem col_off {P : ℕ → Bool} {g : ℕ → BitVec 32} {f : S16384.Idx → BitVec 32} {off : BitVec 32} {n : ℕ} (hC : Col P g f off n) (hn : n ≤ 16384) :
    off.toNat = (listOf P g n).length := by
  have := listOf_length_le P g n
  rw [hC.2, BitVec.toNat_ofNat]; omega

theorem col_tgt {P : ℕ → Bool} {g : ℕ → BitVec 32} {f : S16384.Idx → BitVec 32} {off : BitVec 32} {n : ℕ} (hC : Col P g f off n) (hn : n + 16 ≤ 16384) (mask : IVec S16 1) :
    ∀ a x, ((![tgtOf off mask] : Fin S16384.rank → IVec S16 32) a x).toNat < S16384.size a := by
  have := listOf_length_le P g n
  exact tgt_lt mask (by rw [col_off hC (by omega)]; omega)

theorem col_step {P : ℕ → Bool} {g : ℕ → BitVec 32} {f : S16384.Idx → BitVec 32} {off : BitVec 32} {n : ℕ} (hC : Col P g f off n) (hn : n + 16 ≤ 16384)
    {mask : IVec S16 1} {e : IVec S16 32} {h : ∀ a x, ((![tgtOf off mask] : Fin S16384.rank → IVec S16 32) a x).toNat < S16384.size a}
    (hm : ∀ k : Fin 16, mask (ln k) = 1#1 ↔ P (n + k.val) = true) (he : ∀ k : Fin 16, mask (ln k) = 1#1 → e (ln k) = g (n + k.val)) {m : ℕ} (hm' : m = n + 16) :
    Col P g (storeIdx (F := F) (e := .i32) f (![tgtOf off mask] : Fin S16384.rank → IVec S16 32) e mask false h) (off + psum mask (ln 15)) m := by
  subst hm'
  have hl := listOf_length_le P g n
  refine ⟨?_, ?_⟩
  · rw [listOf_block P g n hm he]
    exact compact hC.1 (col_off hC (by omega)) (by omega)
  · rw [listOf_block P g n hm he, psum_last, hC.2, List.length_append, List.length_map, BitVec.ofNat_add]

/-- The last lane of the running count, as the kernel reads it. -/
theorem last_lane (v : IVec S16 32) (h : Shape.Slices S16 ![15] S1) (h0) : extractAt ![0] (extractStridedSlice S1 ![15] v h) h0 = v (ln 15) := by
  change v _ = v _
  congr 1
  funext a
  apply Fin.ext
  match a with
  | ⟨0, _⟩ => rfl

theorem rnd_load {f : S16384.Idx → BitVec 32} {off : Fin 1 → ℕ} {h : ∀ a, off a + S16.size a ≤ S16384.size a} (k : Fin 16) {n : ℕ} (hn : off 0 = n) :
    mRnd.view.readAt (Elt F) (Rect.unit (s := S16384) off S16.size h).toLoadRect f (ln k) = cell f (n + k.val) := by
  have h0 := h 0
  change off 0 + 16 ≤ 16384 at h0
  unfold cell
  rw [dif_pos (by omega)]
  change f _ = f _
  congr 1
  funext a
  apply Fin.ext
  match a with
  | ⟨0, _⟩ =>
    change off 0 + 1 * _ = n + _
    rw [hn, Nat.one_mul]; rfl

theorem mine_load {f : S16384.Idx → BitVec 32} {off : Fin 1 → ℕ} {h : ∀ a, off a + S16.size a ≤ S16384.size a} (k : Fin 16) {n : ℕ} (hn : off 0 = n) :
    mMine.view.readAt (Elt F) (Rect.unit (s := S16384) off S16.size h).toLoadRect f (ln k) = cell f (n + k.val) :=
  rnd_load (F := F) (f := f) (off := off) (h := h) k hn

theorem of_ex {α : Type} {P : α → Prop} {S : α → sProp (MT nD τ sig (HIx 1) (Elt F) ℕ UU ℕ)} {W : sProp (MT nD τ sig (HIx 1) (Elt F) ℕ UU ℕ)} (h : ∀ x, P x → S x ⊢ W) :
    iprop(∃ x, ⌜P x⌝ ∗ S x) ⊢ W := by
  iintro ⟨%x, %hx, H⟩
  iapply (h x hx) $$ H

theorem to_ex {α : Type} {P : α → Prop} {S : α → sProp (MT nD τ sig (HIx 1) (Elt F) ℕ UU ℕ)} (x : α) (hx : P x) : S x ⊢ iprop(∃ x, ⌜P x⌝ ∗ S x) := by
  iintro H
  iexists x
  isplitr
  · ipureintro; exact hx
  · iexact H

section Loop
variable {d : Dev nD} {L : grid0.Coords} {α σ : Type} {Q : α → sProp (MT nD τ sig (HIx 1) (Elt F) ℕ UU ℕ)} {R : sProp (MT nD τ sig (HIx 1) (Elt F) ℕ UU ℕ)}

/-- A counted loop, by an invariant. -/
theorem step_for {l : Scf.Loop 32} {hok : l.OK} {init : σ} {body : Fin l.trips → σ → Prog (TpuEff nD τ sig (Elt F) Λ₀ (.scVector (cV L) (jV L))) σ}
    {kk : σ → Prog (TpuEff nD τ sig (Elt F) Λ₀ (.scVector (cV L) (jV L))) α} (I : ℕ → σ → sProp (MT nD τ sig (HIx 1) (Elt F) ℕ UU ℕ))
    (h0 : R ⊢ I 0 init) (hbody : ∀ (k : Fin l.trips) (acc : σ), I k.val acc ⊢ wpt (F := F) d L (body k acc) (I (k.val + 1)))
    (hk : ∀ acc, I l.trips acc ⊢ wpt (F := F) d L (kk acc) Q) : R ⊢ wpt (F := F) d L (Scf.Loop.for l hok init body >>= kk) Q := by
  iintro HR
  ihave HI := h0 $$ HR
  iapply (Scf.wp_for_bind (Fr := frame) (wpE := wpE (defs₀ (F := F)) 𝒱₀ (thr d L) none) (Es := Set.univ) l.lb l.ub l.st hok init body I hbody (kk := kk) (Q := Q)) $$ HI
  iintro %acc HI
  iapply (hk acc) $$ HI

/-- A loop without a trip. -/
theorem step_for_none {l : Scf.Loop 32} {hok : l.OK} {init : σ} {body : Fin l.trips → σ → Prog (TpuEff nD τ sig (Elt F) Λ₀ (.scVector (cV L) (jV L))) σ}
    {kk : σ → Prog (TpuEff nD τ sig (Elt F) Λ₀ (.scVector (cV L) (jV L))) α} (ht : l.trips = 0)
    (hk : R ⊢ wpt (F := F) d L (kk init) Q) : R ⊢ wpt (F := F) d L (Scf.Loop.for l hok init body >>= kk) Q :=
  step_for (F := F) (fun _ a => iprop(⌜a = init⌝ ∗ R)) (by
    iintro H; isplitr
    · ipureintro; rfl
    · iexact H)
    (fun k _ => absurd k.isLt (by omega))
    (fun a => by iintro ⟨%h, H⟩; subst h; iapply hk $$ H)

end Loop

end Cert.Proof
-- ==== Proof.Clear.lean ====
/- The zero loop: each run of the printed program's pieces carries the accumulator from one feature's cells cleared to a later one's. -/
module

public import proofs.«01_k».proof.Proof.Acc

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- A load from the round's entry list where it stands second. -/
theorem step_load_rnd2 {d : Dev nD} {L : grid0.Coords} {α : Type} {Q : α → sProp 𝕄} {R R₁ : sProp 𝕄} {f : S16384.Idx → BitVec 32} {r : LoadRect S16384} {hl : mRnd.view.LoadsAt r}
    {k : (r.shape.Idx → BitVec 32) → Prog (TpuEff nD τ sig (Elt F) Λ₀ (.scVector (cV L) (jV L))) α}
    (hk : iprop(R₁ ∗ rndPts (F := F) d L f ∗ R) ⊢ wpt (F := F) d L (k (mRnd.view.readAt (Elt F) r f)) Q) :
    iprop(R₁ ∗ rndPts (F := F) d L f ∗ R) ⊢ wpt (F := F) d L (Prog.lift (TpuEff.load mRnd r hl) >>= k) Q := by
  iintro ⟨H₁, H, HR⟩
  iapply (wp_load (defs := defs₀ (F := F)) 𝒱₀ (thr d L) none Set.univ (Q := Q) (m := mRnd) (r := r) (hl := hl) (k := k) (S := Finset.univ) (q := fullShare) (f := f) (Finset.subset_univ _)) $$ H
  iintro H
  iapply hk
  isplitl [H₁]
  · iexact H₁
  isplitl [H]
  · iexact H
  · iexact HR

theorem part70_run {d : Dev nD} {L : grid0.Coords} {R : sProp 𝕄} {A : S8x8x1024.Idx → F .f32} {rf : S16384.Idx → BitVec 32} (v2 : IVec S16 32) (v3 : FVec F S16 .f32) (k0_t3 : Fin k0_t3_loop.trips) (k0_h1 : k0_cond1 L k0_t3 = 1#1) (v32 : BitVec 32) (k0_hw8 : k0_chk8 L k0_t3 v32) (c0_i32_38 : BitVec 32) (c1_i32_41 : BitVec 32) (k0_t8 : Fin (k0_t8_loop v32).trips)
    (hdv : ∀ x, (((k0_pay320 (mRnd.view.readAt (Elt F) (Rect.unit (s := S16384) (k0_off91 v32 k0_t8) S16.size (k0_off91_inb L k0_t3 v32 k0_hw8 k0_t8 k0_h1)).toLoadRect rf))) x).toNat < 1024)
    {Q : _ → sProp 𝕄} (hQ : iprop(accPts (F := F) d L (accK false ((k0_pay320 (mRnd.view.readAt (Elt F) (Rect.unit (s := S16384) (k0_off91 v32 k0_t8) S16.size (k0_off91_inb L k0_t3 v32 k0_hw8 k0_t8 k0_h1)).toLoadRect rf))) (k0_pay321 v2 v32 c0_i32_38 c1_i32_41 k0_t8) (fun x _ => v3 x) A 7) ∗ rndPts (F := F) d L rf ∗ R) ⊢ Q ⟨(Scalar.muli (Scf.iv c0_i32_38 c1_i32_41 k0_t8) 32#32), (k0_pay320 (mRnd.view.readAt (Elt F) (Rect.unit (s := S16384) (k0_off91 v32 k0_t8) S16.size (k0_off91_inb L k0_t3 v32 k0_hw8 k0_t8 k0_h1)).toLoadRect rf)), k0_pay321 v2 v32 c0_i32_38 c1_i32_41 k0_t8, k0_pay322⟩) :
    iprop(accPts (F := F) d L (accK false ((k0_pay320 (mRnd.view.readAt (Elt F) (Rect.unit (s := S16384) (k0_off91 v32 k0_t8) S16.size (k0_off91_inb L k0_t3 v32 k0_hw8 k0_t8 k0_h1)).toLoadRect rf))) (k0_pay321 v2 v32 c0_i32_38 c1_i32_41 k0_t8) (fun x _ => v3 x) A 0) ∗ rndPts (F := F) d L rf ∗ R) ⊢ wpt (F := F) d L (k0_part70 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 v2 v3 k0_t3 k0_h1 v32 k0_hw8 c0_i32_38 c1_i32_41 k0_t8) Q := by
  rw [k0_part70_eq_skeleton]; unfold k0_part70_skel
  refine step_load_rnd2 ?_
  refine step_assume (fun _ => chkAcc (k := 0) (by decide) (fun _ => ⟨rfl, rfl⟩) hdv) ?_
  refine step_feature 0 (fun _ => ⟨rfl, rfl⟩) (fun _ => rfl) ?_
  refine step_assume (fun _ => chkAcc (k := 1) (by decide) (fun _ => ⟨rfl, rfl⟩) hdv) ?_
  refine step_feature 1 (fun _ => ⟨rfl, rfl⟩) (fun _ => rfl) ?_
  refine step_assume (fun _ => chkAcc (k := 2) (by decide) (fun _ => ⟨rfl, rfl⟩) hdv) ?_
  refine step_feature 2 (fun _ => ⟨rfl, rfl⟩) (fun _ => rfl) ?_
  refine step_assume (fun _ => chkAcc (k := 3) (by decide) (fun _ => ⟨rfl, rfl⟩) hdv) ?_
  refine step_feature 3 (fun _ => ⟨rfl, rfl⟩) (fun _ => rfl) ?_
  refine step_assume (fun _ => chkAcc (k := 4) (by decide) (fun _ => ⟨rfl, rfl⟩) hdv) ?_
  refine step_feature 4 (fun _ => ⟨rfl, rfl⟩) (fun _ => rfl) ?_
  refine step_assume (fun _ => chkAcc (k := 5) (by decide) (fun _ => ⟨rfl, rfl⟩) hdv) ?_
  refine step_feature 5 (fun _ => ⟨rfl, rfl⟩) (fun _ => rfl) ?_
  refine step_assume (fun _ => chkAcc (k := 6) (by decide) (fun _ => ⟨rfl, rfl⟩) hdv) ?_
  refine step_feature 6 (fun _ => ⟨rfl, rfl⟩) (fun _ => rfl) ?_
  exact step_pure (hQ )

theorem part71_run {d : Dev nD} {L : grid0.Coords} {R : sProp 𝕄} {A : S8x8x1024.Idx → F .f32} {rf : S16384.Idx → BitVec 32} (v3 : FVec F S16 .f32) (k0_t3 : Fin k0_t3_loop.trips) (k0_h1 : k0_cond1 L k0_t3 = 1#1) (v76 : IVec S16 32) (v81 : IVec S16 1)
    (hdv : ∀ x, ((v76) x).toNat < 1024)
    {Q : _ → sProp 𝕄} (hQ : iprop(accPts (F := F) d L (accK false (v76) (v81) (fun x _ => v3 x) A 17) ∗ rndPts (F := F) d L rf ∗ R) ⊢ Q (k0_pay323)) :
    iprop(accPts (F := F) d L (accK false (v76) (v81) (fun x _ => v3 x) A 7) ∗ rndPts (F := F) d L rf ∗ R) ⊢ wpt (F := F) d L (k0_part71 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 v3 k0_t3 k0_h1 v76 v81 k0_pay322) Q := by
  rw [k0_part71_eq_skeleton]; unfold k0_part71_skel
  refine step_assume (fun _ => chkAcc (k := 7) (by decide) (fun _ => ⟨rfl, rfl⟩) hdv) ?_
  refine step_feature 7 (fun _ => ⟨rfl, rfl⟩) (fun _ => rfl) ?_
  refine step_assume (fun _ => chkAcc (k := 8) (by decide) (fun _ => ⟨rfl, rfl⟩) hdv) ?_
  refine step_feature 8 (fun _ => ⟨rfl, rfl⟩) (fun _ => rfl) ?_
  refine step_assume (fun _ => chkAcc (k := 9) (by decide) (fun _ => ⟨rfl, rfl⟩) hdv) ?_
  refine step_feature 9 (fun _ => ⟨rfl, rfl⟩) (fun _ => rfl) ?_
  refine step_assume (fun _ => chkAcc (k := 10) (by decide) (fun _ => ⟨rfl, rfl⟩) hdv) ?_
  refine step_feature 10 (fun _ => ⟨rfl, rfl⟩) (fun _ => rfl) ?_
  refine step_assume (fun _ => chkAcc (k := 11) (by decide) (fun _ => ⟨rfl, rfl⟩) hdv) ?_
  refine step_feature 11 (fun _ => ⟨rfl, rfl⟩) (fun _ => rfl) ?_
  refine step_assume (fun _ => chkAcc (k := 12) (by decide) (fun _ => ⟨rfl, rfl⟩) hdv) ?_
  refine step_feature 12 (fun _ => ⟨rfl, rfl⟩) (fun _ => rfl) ?_
  refine step_assume (fun _ => chkAcc (k := 13) (by decide) (fun _ => ⟨rfl, rfl⟩) hdv) ?_
  refine step_feature 13 (fun _ => ⟨rfl, rfl⟩) (fun _ => rfl) ?_
  refine step_assume (fun _ => chkAcc (k := 14) (by decide) (fun _ => ⟨rfl, rfl⟩) hdv) ?_
  refine step_feature 14 (fun _ => ⟨rfl, rfl⟩) (fun _ => rfl) ?_
  refine step_assume (fun _ => chkAcc (k := 15) (by decide) (fun _ => ⟨rfl, rfl⟩) hdv) ?_
  refine step_feature 15 (fun _ => ⟨rfl, rfl⟩) (fun _ => rfl) ?_
  refine step_assume (fun _ => chkAcc (k := 16) (by decide) (fun _ => ⟨rfl, rfl⟩) hdv) ?_
  refine step_feature 16 (fun _ => ⟨rfl, rfl⟩) (fun _ => rfl) ?_
  exact step_pure (hQ )

theorem part72_run {d : Dev nD} {L : grid0.Coords} {R : sProp 𝕄} {A : S8x8x1024.Idx → F .f32} {rf : S16384.Idx → BitVec 32} (v3 : FVec F S16 .f32) (k0_t3 : Fin k0_t3_loop.trips) (k0_h1 : k0_cond1 L k0_t3 = 1#1) (v76 : IVec S16 32) (v81 : IVec S16 1)
    (hdv : ∀ x, ((v76) x).toNat < 1024)
    {Q : _ → sProp 𝕄} (hQ : iprop(accPts (F := F) d L (accK false (v76) (v81) (fun x _ => v3 x) A 27) ∗ rndPts (F := F) d L rf ∗ R) ⊢ Q (k0_pay324)) :
    iprop(accPts (F := F) d L (accK false (v76) (v81) (fun x _ => v3 x) A 17) ∗ rndPts (F := F) d L rf ∗ R) ⊢ wpt (F := F) d L (k0_part72 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 v3 k0_t3 k0_h1 v76 v81 k0_pay323) Q := by
  rw [k0_part72_eq_skeleton]; unfold k0_part72_skel
  refine step_assume (fun _ => chkAcc (k := 17) (by decide) (fun _ => ⟨rfl, rfl⟩) hdv) ?_
  refine step_feature 17 (fun _ => ⟨rfl, rfl⟩) (fun _ => rfl) ?_
  refine step_assume (fun _ => chkAcc (k := 18) (by decide) (fun _ => ⟨rfl, rfl⟩) hdv) ?_
  refine step_feature 18 (fun _ => ⟨rfl, rfl⟩) (fun _ => rfl) ?_
  refine step_assume (fun _ => chkAcc (k := 19) (by decide) (fun _ => ⟨rfl, rfl⟩) hdv) ?_
  refine step_feature 19 (fun _ => ⟨rfl, rfl⟩) (fun _ => rfl) ?_
  refine step_assume (fun _ => chkAcc (k := 20) (by decide) (fun _ => ⟨rfl, rfl⟩) hdv) ?_
  refine step_feature 20 (fun _ => ⟨rfl, rfl⟩) (fun _ => rfl) ?_
  refine step_assume (fun _ => chkAcc (k := 21) (by decide) (fun _ => ⟨rfl, rfl⟩) hdv) ?_
  refine step_feature 21 (fun _ => ⟨rfl, rfl⟩) (fun _ => rfl) ?_
  refine step_assume (fun _ => chkAcc (k := 22) (by decide) (fun _ => ⟨rfl, rfl⟩) hdv) ?_
  refine step_feature 22 (fun _ => ⟨rfl, rfl⟩) (fun _ => rfl) ?_
  refine step_assume (fun _ => chkAcc (k := 23) (by decide) (fun _ => ⟨rfl, rfl⟩) hdv) ?_
  refine step_feature 23 (fun _ => ⟨rfl, rfl⟩) (fun _ => rfl) ?_
  refine step_assume (fun _ => chkAcc (k := 24) (by decide) (fun _ => ⟨rfl, rfl⟩) hdv) ?_
  refine step_feature 24 (fun _ => ⟨rfl, rfl⟩) (fun _ => rfl) ?_
  refine step_assume (fun _ => chkAcc (k := 25) (by decide) (fun _ => ⟨rfl, rfl⟩) hdv) ?_
  refine step_feature 25 (fun _ => ⟨rfl, rfl⟩) (fun _ => rfl) ?_
  refine step_assume (fun _ => chkAcc (k := 26) (by decide) (fun _ => ⟨rfl, rfl⟩) hdv) ?_
  refine step_feature 26 (fun _ => ⟨rfl, rfl⟩) (fun _ => rfl) ?_
  exact step_pure (hQ )

theorem part73_run {d : Dev nD} {L : grid0.Coords} {R : sProp 𝕄} {A : S8x8x1024.Idx → F .f32} {rf : S16384.Idx → BitVec 32} (v3 : FVec F S16 .f32) (k0_t3 : Fin k0_t3_loop.trips) (k0_h1 : k0_cond1 L k0_t3 = 1#1) (v76 : IVec S16 32) (v81 : IVec S16 1)
    (hdv : ∀ x, ((v76) x).toNat < 1024)
    {Q : _ → sProp 𝕄} (hQ : iprop(accPts (F := F) d L (accK false (v76) (v81) (fun x _ => v3 x) A 37) ∗ rndPts (F := F) d L rf ∗ R) ⊢ Q (k0_pay325)) :
    iprop(accPts (F := F) d L (accK false (v76) (v81) (fun x _ => v3 x) A 27) ∗ rndPts (F := F) d L rf ∗ R) ⊢ wpt (F := F) d L (k0_part73 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 v3 k0_t3 k0_h1 v76 v81 k0_pay324) Q := by
  rw [k0_part73_eq_skeleton]; unfold k0_part73_skel
  refine step_assume (fun _ => chkAcc (k := 27) (by decide) (fun _ => ⟨rfl, rfl⟩) hdv) ?_
  refine step_feature 27 (fun _ => ⟨rfl, rfl⟩) (fun _ => rfl) ?_
  refine step_assume (fun _ => chkAcc (k := 28) (by decide) (fun _ => ⟨rfl, rfl⟩) hdv) ?_
  refine step_feature 28 (fun _ => ⟨rfl, rfl⟩) (fun _ => rfl) ?_
  refine step_assume (fun _ => chkAcc (k := 29) (by decide) (fun _ => ⟨rfl, rfl⟩) hdv) ?_
  refine step_feature 29 (fun _ => ⟨rfl, rfl⟩) (fun _ => rfl) ?_
  refine step_assume (fun _ => chkAcc (k := 30) (by decide) (fun _ => ⟨rfl, rfl⟩) hdv) ?_
  refine step_feature 30 (fun _ => ⟨rfl, rfl⟩) (fun _ => rfl) ?_
  refine step_assume (fun _ => chkAcc (k := 31) (by decide) (fun _ => ⟨rfl, rfl⟩) hdv) ?_
  refine step_feature 31 (fun _ => ⟨rfl, rfl⟩) (fun _ => rfl) ?_
  refine step_assume (fun _ => chkAcc (k := 32) (by decide) (fun _ => ⟨rfl, rfl⟩) hdv) ?_
  refine step_feature 32 (fun _ => ⟨rfl, rfl⟩) (fun _ => rfl) ?_
  refine step_assume (fun _ => chkAcc (k := 33) (by decide) (fun _ => ⟨rfl, rfl⟩) hdv) ?_
  refine step_feature 33 (fun _ => ⟨rfl, rfl⟩) (fun _ => rfl) ?_
  refine step_assume (fun _ => chkAcc (k := 34) (by decide) (fun _ => ⟨rfl, rfl⟩) hdv) ?_
  refine step_feature 34 (fun _ => ⟨rfl, rfl⟩) (fun _ => rfl) ?_
  refine step_assume (fun _ => chkAcc (k := 35) (by decide) (fun _ => ⟨rfl, rfl⟩) hdv) ?_
  refine step_feature 35 (fun _ => ⟨rfl, rfl⟩) (fun _ => rfl) ?_
  refine step_assume (fun _ => chkAcc (k := 36) (by decide) (fun _ => ⟨rfl, rfl⟩) hdv) ?_
  refine step_feature 36 (fun _ => ⟨rfl, rfl⟩) (fun _ => rfl) ?_
  exact step_pure (hQ )

theorem part74_run {d : Dev nD} {L : grid0.Coords} {R : sProp 𝕄} {A : S8x8x1024.Idx → F .f32} {rf : S16384.Idx → BitVec 32} (v3 : FVec F S16 .f32) (k0_t3 : Fin k0_t3_loop.trips) (k0_h1 : k0_cond1 L k0_t3 = 1#1) (v76 : IVec S16 32) (v81 : IVec S16 1)
    (hdv : ∀ x, ((v76) x).toNat < 1024)
    {Q : _ → sProp 𝕄} (hQ : iprop(accPts (F := F) d L (accK false (v76) (v81) (fun x _ => v3 x) A 47) ∗ rndPts (F := F) d L rf ∗ R) ⊢ Q (k0_pay326)) :
    iprop(accPts (F := F) d L (accK false (v76) (v81) (fun x _ => v3 x) A 37) ∗ rndPts (F := F) d L rf ∗ R) ⊢ wpt (F := F) d L (k0_part74 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 v3 k0_t3 k0_h1 v76 v81 k0_pay325) Q := by
  rw [k0_part74_eq_skeleton]; unfold k0_part74_skel
  refine step_assume (fun _ => chkAcc (k := 37) (by decide) (fun _ => ⟨rfl, rfl⟩) hdv) ?_
  refine step_feature 37 (fun _ => ⟨rfl, rfl⟩) (fun _ => rfl) ?_
  refine step_assume (fun _ => chkAcc (k := 38) (by decide) (fun _ => ⟨rfl, rfl⟩) hdv) ?_
  refine step_feature 38 (fun _ => ⟨rfl, rfl⟩) (fun _ => rfl) ?_
  refine step_assume (fun _ => chkAcc (k := 39) (by decide) (fun _ => ⟨rfl, rfl⟩) hdv) ?_
  refine step_feature 39 (fun _ => ⟨rfl, rfl⟩) (fun _ => rfl) ?_
  refine step_assume (fun _ => chkAcc (k := 40) (by decide) (fun _ => ⟨rfl, rfl⟩) hdv) ?_
  refine step_feature 40 (fun _ => ⟨rfl, rfl⟩) (fun _ => rfl) ?_
  refine step_assume (fun _ => chkAcc (k := 41) (by decide) (fun _ => ⟨rfl, rfl⟩) hdv) ?_
  refine step_feature 41 (fun _ => ⟨rfl, rfl⟩) (fun _ => rfl) ?_
  refine step_assume (fun _ => chkAcc (k := 42) (by decide) (fun _ => ⟨rfl, rfl⟩) hdv) ?_
  refine step_feature 42 (fun _ => ⟨rfl, rfl⟩) (fun _ => rfl) ?_
  refine step_assume (fun _ => chkAcc (k := 43) (by decide) (fun _ => ⟨rfl, rfl⟩) hdv) ?_
  refine step_feature 43 (fun _ => ⟨rfl, rfl⟩) (fun _ => rfl) ?_
  refine step_assume (fun _ => chkAcc (k := 44) (by decide) (fun _ => ⟨rfl, rfl⟩) hdv) ?_
  refine step_feature 44 (fun _ => ⟨rfl, rfl⟩) (fun _ => rfl) ?_
  refine step_assume (fun _ => chkAcc (k := 45) (by decide) (fun _ => ⟨rfl, rfl⟩) hdv) ?_
  refine step_feature 45 (fun _ => ⟨rfl, rfl⟩) (fun _ => rfl) ?_
  refine step_assume (fun _ => chkAcc (k := 46) (by decide) (fun _ => ⟨rfl, rfl⟩) hdv) ?_
  refine step_feature 46 (fun _ => ⟨rfl, rfl⟩) (fun _ => rfl) ?_
  exact step_pure (hQ )

theorem part75_run {d : Dev nD} {L : grid0.Coords} {R : sProp 𝕄} {A : S8x8x1024.Idx → F .f32} {rf : S16384.Idx → BitVec 32} (v3 : FVec F S16 .f32) (k0_t3 : Fin k0_t3_loop.trips) (k0_h1 : k0_cond1 L k0_t3 = 1#1) (v76 : IVec S16 32) (v81 : IVec S16 1)
    (hdv : ∀ x, ((v76) x).toNat < 1024)
    {Q : _ → sProp 𝕄} (hQ : iprop(accPts (F := F) d L (accK false (v76) (v81) (fun x _ => v3 x) A 57) ∗ rndPts (F := F) d L rf ∗ R) ⊢ Q (k0_pay327)) :
    iprop(accPts (F := F) d L (accK false (v76) (v81) (fun x _ => v3 x) A 47) ∗ rndPts (F := F) d L rf ∗ R) ⊢ wpt (F := F) d L (k0_part75 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 v3 k0_t3 k0_h1 v76 v81 k0_pay326) Q := by
  rw [k0_part75_eq_skeleton]; unfold k0_part75_skel
  refine step_assume (fun _ => chkAcc (k := 47) (by decide) (fun _ => ⟨rfl, rfl⟩) hdv) ?_
  refine step_feature 47 (fun _ => ⟨rfl, rfl⟩) (fun _ => rfl) ?_
  refine step_assume (fun _ => chkAcc (k := 48) (by decide) (fun _ => ⟨rfl, rfl⟩) hdv) ?_
  refine step_feature 48 (fun _ => ⟨rfl, rfl⟩) (fun _ => rfl) ?_
  refine step_assume (fun _ => chkAcc (k := 49) (by decide) (fun _ => ⟨rfl, rfl⟩) hdv) ?_
  refine step_feature 49 (fun _ => ⟨rfl, rfl⟩) (fun _ => rfl) ?_
  refine step_assume (fun _ => chkAcc (k := 50) (by decide) (fun _ => ⟨rfl, rfl⟩) hdv) ?_
  refine step_feature 50 (fun _ => ⟨rfl, rfl⟩) (fun _ => rfl) ?_
  refine step_assume (fun _ => chkAcc (k := 51) (by decide) (fun _ => ⟨rfl, rfl⟩) hdv) ?_
  refine step_feature 51 (fun _ => ⟨rfl, rfl⟩) (fun _ => rfl) ?_
  refine step_assume (fun _ => chkAcc (k := 52) (by decide) (fun _ => ⟨rfl, rfl⟩) hdv) ?_
  refine step_feature 52 (fun _ => ⟨rfl, rfl⟩) (fun _ => rfl) ?_
  refine step_assume (fun _ => chkAcc (k := 53) (by decide) (fun _ => ⟨rfl, rfl⟩) hdv) ?_
  refine step_feature 53 (fun _ => ⟨rfl, rfl⟩) (fun _ => rfl) ?_
  refine step_assume (fun _ => chkAcc (k := 54) (by decide) (fun _ => ⟨rfl, rfl⟩) hdv) ?_
  refine step_feature 54 (fun _ => ⟨rfl, rfl⟩) (fun _ => rfl) ?_
  refine step_assume (fun _ => chkAcc (k := 55) (by decide) (fun _ => ⟨rfl, rfl⟩) hdv) ?_
  refine step_feature 55 (fun _ => ⟨rfl, rfl⟩) (fun _ => rfl) ?_
  refine step_assume (fun _ => chkAcc (k := 56) (by decide) (fun _ => ⟨rfl, rfl⟩) hdv) ?_
  refine step_feature 56 (fun _ => ⟨rfl, rfl⟩) (fun _ => rfl) ?_
  exact step_pure (hQ )

theorem part76_run {d : Dev nD} {L : grid0.Coords} {R : sProp 𝕄} {A : S8x8x1024.Idx → F .f32} {rf : S16384.Idx → BitVec 32} (v2 : IVec S16 32) (v3 : FVec F S16 .f32) (k0_t3 : Fin k0_t3_loop.trips) (k0_h1 : k0_cond1 L k0_t3 = 1#1) (v32 : BitVec 32) (k0_hw8 : k0_chk8 L k0_t3 v32) (k0_t8 : Fin (k0_t8_loop v32).trips) (v71 : BitVec 32) (v76 : IVec S16 32) (v81 : IVec S16 1)
    (hdv : ∀ x, ((v76) x).toNat < 1024) (hdv2 : ∀ x, ((k0_pay328 (mRnd.view.readAt (Elt F) (Rect.unit (s := S16384) (k0_off92 v32 k0_t8) S16.size (k0_off92_inb L k0_t3 v32 k0_hw8 k0_t8 k0_h1)).toLoadRect rf)) x).toNat < 1024)
    {Q : _ → sProp 𝕄} (hQ : iprop(accPts (F := F) d L (accK false (k0_pay328 (mRnd.view.readAt (Elt F) (Rect.unit (s := S16384) (k0_off92 v32 k0_t8) S16.size (k0_off92_inb L k0_t3 v32 k0_hw8 k0_t8 k0_h1)).toLoadRect rf)) (k0_pay329 v2 v32 v71) (fun x _ => v3 x) (accK false (v76) (v81) (fun x _ => v3 x) A 64) 1) ∗ rndPts (F := F) d L rf ∗ R) ⊢ Q ⟨(k0_pay328 (mRnd.view.readAt (Elt F) (Rect.unit (s := S16384) (k0_off92 v32 k0_t8) S16.size (k0_off92_inb L k0_t3 v32 k0_hw8 k0_t8 k0_h1)).toLoadRect rf)), k0_pay329 v2 v32 v71, 0#32⟩) :
    iprop(accPts (F := F) d L (accK false (v76) (v81) (fun x _ => v3 x) A 57) ∗ rndPts (F := F) d L rf ∗ R) ⊢ wpt (F := F) d L (k0_part76 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 v2 v3 k0_t3 k0_h1 v32 k0_hw8 k0_t8 v71 v76 v81 k0_pay327) Q := by
  rw [k0_part76_eq_skeleton]; unfold k0_part76_skel
  refine step_assume (fun _ => chkAcc (k := 57) (by decide) (fun _ => ⟨rfl, rfl⟩) hdv) ?_
  refine step_feature 57 (fun _ => ⟨rfl, rfl⟩) (fun _ => rfl) ?_
  refine step_assume (fun _ => chkAcc (k := 58) (by decide) (fun _ => ⟨rfl, rfl⟩) hdv) ?_
  refine step_feature 58 (fun _ => ⟨rfl, rfl⟩) (fun _ => rfl) ?_
  refine step_assume (fun _ => chkAcc (k := 59) (by decide) (fun _ => ⟨rfl, rfl⟩) hdv) ?_
  refine step_feature 59 (fun _ => ⟨rfl, rfl⟩) (fun _ => rfl) ?_
  refine step_assume (fun _ => chkAcc (k := 60) (by decide) (fun _ => ⟨rfl, rfl⟩) hdv) ?_
  refine step_feature 60 (fun _ => ⟨rfl, rfl⟩) (fun _ => rfl) ?_
  refine step_assume (fun _ => chkAcc (k := 61) (by decide) (fun _ => ⟨rfl, rfl⟩) hdv) ?_
  refine step_feature 61 (fun _ => ⟨rfl, rfl⟩) (fun _ => rfl) ?_
  refine step_assume (fun _ => chkAcc (k := 62) (by decide) (fun _ => ⟨rfl, rfl⟩) hdv) ?_
  refine step_feature 62 (fun _ => ⟨rfl, rfl⟩) (fun _ => rfl) ?_
  refine step_assume (fun _ => chkAcc (k := 63) (by decide) (fun _ => ⟨rfl, rfl⟩) hdv) ?_
  refine step_feature 63 (fun _ => ⟨rfl, rfl⟩) (fun _ => rfl) ?_
  refine step_load_rnd2 ?_
  refine rebase (add := false) (dv := k0_pay328 (mRnd.view.readAt (Elt F) (Rect.unit (s := S16384) (k0_off92 v32 k0_t8) S16.size (k0_off92_inb L k0_t3 v32 k0_hw8 k0_t8 k0_h1)).toLoadRect rf)) (mask := k0_pay329 v2 v32 v71) (V := (fun x _ => v3 x)) ?_
  refine step_assume (fun _ => chkAcc (k := 0) (by decide) (fun _ => ⟨rfl, rfl⟩) hdv2) ?_
  refine step_feature 0 (fun _ => ⟨rfl, rfl⟩) (fun _ => rfl) ?_
  exact step_pure (hQ )

theorem part77_run {d : Dev nD} {L : grid0.Coords} {R : sProp 𝕄} {A : S8x8x1024.Idx → F .f32} {rf : S16384.Idx → BitVec 32} (v3 : FVec F S16 .f32) (k0_t3 : Fin k0_t3_loop.trips) (k0_h1 : k0_cond1 L k0_t3 = 1#1) (v214 : IVec S16 32) (v219 : IVec S16 1)
    (hdv : ∀ x, ((v214) x).toNat < 1024)
    {Q : _ → sProp 𝕄} (hQ : iprop(accPts (F := F) d L (accK false (v214) (v219) (fun x _ => v3 x) A 11) ∗ rndPts (F := F) d L rf ∗ R) ⊢ Q (1#32)) :
    iprop(accPts (F := F) d L (accK false (v214) (v219) (fun x _ => v3 x) A 1) ∗ rndPts (F := F) d L rf ∗ R) ⊢ wpt (F := F) d L (k0_part77 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 v3 k0_t3 k0_h1 v214 v219 0#32) Q := by
  rw [k0_part77_eq_skeleton]; unfold k0_part77_skel
  refine step_assume (fun _ => chkAcc (k := 1) (by decide) (fun _ => ⟨rfl, rfl⟩) hdv) ?_
  refine step_feature 1 (fun _ => ⟨rfl, rfl⟩) (fun _ => rfl) ?_
  refine step_assume (fun _ => chkAcc (k := 2) (by decide) (fun _ => ⟨rfl, rfl⟩) hdv) ?_
  refine step_feature 2 (fun _ => ⟨rfl, rfl⟩) (fun _ => rfl) ?_
  refine step_assume (fun _ => chkAcc (k := 3) (by decide) (fun _ => ⟨rfl, rfl⟩) hdv) ?_
  refine step_feature 3 (fun _ => ⟨rfl, rfl⟩) (fun _ => rfl) ?_
  refine step_assume (fun _ => chkAcc (k := 4) (by decide) (fun _ => ⟨rfl, rfl⟩) hdv) ?_
  refine step_feature 4 (fun _ => ⟨rfl, rfl⟩) (fun _ => rfl) ?_
  refine step_assume (fun _ => chkAcc (k := 5) (by decide) (fun _ => ⟨rfl, rfl⟩) hdv) ?_
  refine step_feature 5 (fun _ => ⟨rfl, rfl⟩) (fun _ => rfl) ?_
  refine step_assume (fun _ => chkAcc (k := 6) (by decide) (fun _ => ⟨rfl, rfl⟩) hdv) ?_
  refine step_feature 6 (fun _ => ⟨rfl, rfl⟩) (fun _ => rfl) ?_
  refine step_assume (fun _ => chkAcc (k := 7) (by decide) (fun _ => ⟨rfl, rfl⟩) hdv) ?_
  refine step_feature 7 (fun _ => ⟨rfl, rfl⟩) (fun _ => rfl) ?_
  refine step_assume (fun _ => chkAcc (k := 8) (by decide) (fun _ => ⟨rfl, rfl⟩) hdv) ?_
  refine step_feature 8 (fun _ => ⟨rfl, rfl⟩) (fun _ => rfl) ?_
  refine step_assume (fun _ => chkAcc (k := 9) (by decide) (fun _ => ⟨rfl, rfl⟩) hdv) ?_
  refine step_feature 9 (fun _ => ⟨rfl, rfl⟩) (fun _ => rfl) ?_
  refine step_assume (fun _ => chkAcc (k := 10) (by decide) (fun _ => ⟨rfl, rfl⟩) hdv) ?_
  refine step_feature 10 (fun _ => ⟨rfl, rfl⟩) (fun _ => rfl) ?_
  exact step_pure (hQ )

theorem part78_run {d : Dev nD} {L : grid0.Coords} {R : sProp 𝕄} {A : S8x8x1024.Idx → F .f32} {rf : S16384.Idx → BitVec 32} (v3 : FVec F S16 .f32) (k0_t3 : Fin k0_t3_loop.trips) (k0_h1 : k0_cond1 L k0_t3 = 1#1) (v214 : IVec S16 32) (v219 : IVec S16 1)
    (hdv : ∀ x, ((v214) x).toNat < 1024)
    {Q : _ → sProp 𝕄} (hQ : iprop(accPts (F := F) d L (accK false (v214) (v219) (fun x _ => v3 x) A 21) ∗ rndPts (F := F) d L rf ∗ R) ⊢ Q (2#32)) :
    iprop(accPts (F := F) d L (accK false (v214) (v219) (fun x _ => v3 x) A 11) ∗ rndPts (F := F) d L rf ∗ R) ⊢ wpt (F := F) d L (k0_part78 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 v3 k0_t3 k0_h1 v214 v219 1#32) Q := by
  rw [k0_part78_eq_skeleton]; unfold k0_part78_skel
  refine step_assume (fun _ => chkAcc (k := 11) (by decide) (fun _ => ⟨rfl, rfl⟩) hdv) ?_
  refine step_feature 11 (fun _ => ⟨rfl, rfl⟩) (fun _ => rfl) ?_
  refine step_assume (fun _ => chkAcc (k := 12) (by decide) (fun _ => ⟨rfl, rfl⟩) hdv) ?_
  refine step_feature 12 (fun _ => ⟨rfl, rfl⟩) (fun _ => rfl) ?_
  refine step_assume (fun _ => chkAcc (k := 13) (by decide) (fun _ => ⟨rfl, rfl⟩) hdv) ?_
  refine step_feature 13 (fun _ => ⟨rfl, rfl⟩) (fun _ => rfl) ?_
  refine step_assume (fun _ => chkAcc (k := 14) (by decide) (fun _ => ⟨rfl, rfl⟩) hdv) ?_
  refine step_feature 14 (fun _ => ⟨rfl, rfl⟩) (fun _ => rfl) ?_
  refine step_assume (fun _ => chkAcc (k := 15) (by decide) (fun _ => ⟨rfl, rfl⟩) hdv) ?_
  refine step_feature 15 (fun _ => ⟨rfl, rfl⟩) (fun _ => rfl) ?_
  refine step_assume (fun _ => chkAcc (k := 16) (by decide) (fun _ => ⟨rfl, rfl⟩) hdv) ?_
  refine step_feature 16 (fun _ => ⟨rfl, rfl⟩) (fun _ => rfl) ?_
  refine step_assume (fun _ => chkAcc (k := 17) (by decide) (fun _ => ⟨rfl, rfl⟩) hdv) ?_
  refine step_feature 17 (fun _ => ⟨rfl, rfl⟩) (fun _ => rfl) ?_
  refine step_assume (fun _ => chkAcc (k := 18) (by decide) (fun _ => ⟨rfl, rfl⟩) hdv) ?_
  refine step_feature 18 (fun _ => ⟨rfl, rfl⟩) (fun _ => rfl) ?_
  refine step_assume (fun _ => chkAcc (k := 19) (by decide) (fun _ => ⟨rfl, rfl⟩) hdv) ?_
  refine step_feature 19 (fun _ => ⟨rfl, rfl⟩) (fun _ => rfl) ?_
  refine step_assume (fun _ => chkAcc (k := 20) (by decide) (fun _ => ⟨rfl, rfl⟩) hdv) ?_
  refine step_feature 20 (fun _ => ⟨rfl, rfl⟩) (fun _ => rfl) ?_
  exact step_pure (hQ )

theorem part79_run {d : Dev nD} {L : grid0.Coords} {R : sProp 𝕄} {A : S8x8x1024.Idx → F .f32} {rf : S16384.Idx → BitVec 32} (v3 : FVec F S16 .f32) (k0_t3 : Fin k0_t3_loop.trips) (k0_h1 : k0_cond1 L k0_t3 = 1#1) (v214 : IVec S16 32) (v219 : IVec S16 1)
    (hdv : ∀ x, ((v214) x).toNat < 1024)
    {Q : _ → sProp 𝕄} (hQ : iprop(accPts (F := F) d L (accK false (v214) (v219) (fun x _ => v3 x) A 31) ∗ rndPts (F := F) d L rf ∗ R) ⊢ Q (3#32)) :
    iprop(accPts (F := F) d L (accK false (v214) (v219) (fun x _ => v3 x) A 21) ∗ rndPts (F := F) d L rf ∗ R) ⊢ wpt (F := F) d L (k0_part79 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 v3 k0_t3 k0_h1 v214 v219 2#32) Q := by
  rw [k0_part79_eq_skeleton]; unfold k0_part79_skel
  refine step_assume (fun _ => chkAcc (k := 21) (by decide) (fun _ => ⟨rfl, rfl⟩) hdv) ?_
  refine step_feature 21 (fun _ => ⟨rfl, rfl⟩) (fun _ => rfl) ?_
  refine step_assume (fun _ => chkAcc (k := 22) (by decide) (fun _ => ⟨rfl, rfl⟩) hdv) ?_
  refine step_feature 22 (fun _ => ⟨rfl, rfl⟩) (fun _ => rfl) ?_
  refine step_assume (fun _ => chkAcc (k := 23) (by decide) (fun _ => ⟨rfl, rfl⟩) hdv) ?_
  refine step_feature 23 (fun _ => ⟨rfl, rfl⟩) (fun _ => rfl) ?_
  refine step_assume (fun _ => chkAcc (k := 24) (by decide) (fun _ => ⟨rfl, rfl⟩) hdv) ?_
  refine step_feature 24 (fun _ => ⟨rfl, rfl⟩) (fun _ => rfl) ?_
  refine step_assume (fun _ => chkAcc (k := 25) (by decide) (fun _ => ⟨rfl, rfl⟩) hdv) ?_
  refine step_feature 25 (fun _ => ⟨rfl, rfl⟩) (fun _ => rfl) ?_
  refine step_assume (fun _ => chkAcc (k := 26) (by decide) (fun _ => ⟨rfl, rfl⟩) hdv) ?_
  refine step_feature 26 (fun _ => ⟨rfl, rfl⟩) (fun _ => rfl) ?_
  refine step_assume (fun _ => chkAcc (k := 27) (by decide) (fun _ => ⟨rfl, rfl⟩) hdv) ?_
  refine step_feature 27 (fun _ => ⟨rfl, rfl⟩) (fun _ => rfl) ?_
  refine step_assume (fun _ => chkAcc (k := 28) (by decide) (fun _ => ⟨rfl, rfl⟩) hdv) ?_
  refine step_feature 28 (fun _ => ⟨rfl, rfl⟩) (fun _ => rfl) ?_
  refine step_assume (fun _ => chkAcc (k := 29) (by decide) (fun _ => ⟨rfl, rfl⟩) hdv) ?_
  refine step_feature 29 (fun _ => ⟨rfl, rfl⟩) (fun _ => rfl) ?_
  refine step_assume (fun _ => chkAcc (k := 30) (by decide) (fun _ => ⟨rfl, rfl⟩) hdv) ?_
  refine step_feature 30 (fun _ => ⟨rfl, rfl⟩) (fun _ => rfl) ?_
  exact step_pure (hQ )

theorem part80_run {d : Dev nD} {L : grid0.Coords} {R : sProp 𝕄} {A : S8x8x1024.Idx → F .f32} {rf : S16384.Idx → BitVec 32} (v3 : FVec F S16 .f32) (k0_t3 : Fin k0_t3_loop.trips) (k0_h1 : k0_cond1 L k0_t3 = 1#1) (v214 : IVec S16 32) (v219 : IVec S16 1)
    (hdv : ∀ x, ((v214) x).toNat < 1024)
    {Q : _ → sProp 𝕄} (hQ : iprop(accPts (F := F) d L (accK false (v214) (v219) (fun x _ => v3 x) A 41) ∗ rndPts (F := F) d L rf ∗ R) ⊢ Q (5#32)) :
    iprop(accPts (F := F) d L (accK false (v214) (v219) (fun x _ => v3 x) A 31) ∗ rndPts (F := F) d L rf ∗ R) ⊢ wpt (F := F) d L (k0_part80 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 v3 k0_t3 k0_h1 v214 v219 3#32) Q := by
  rw [k0_part80_eq_skeleton]; unfold k0_part80_skel
  refine step_assume (fun _ => chkAcc (k := 31) (by decide) (fun _ => ⟨rfl, rfl⟩) hdv) ?_
  refine step_feature 31 (fun _ => ⟨rfl, rfl⟩) (fun _ => rfl) ?_
  refine step_assume (fun _ => chkAcc (k := 32) (by decide) (fun _ => ⟨rfl, rfl⟩) hdv) ?_
  refine step_feature 32 (fun _ => ⟨rfl, rfl⟩) (fun _ => rfl) ?_
  refine step_assume (fun _ => chkAcc (k := 33) (by decide) (fun _ => ⟨rfl, rfl⟩) hdv) ?_
  refine step_feature 33 (fun _ => ⟨rfl, rfl⟩) (fun _ => rfl) ?_
  refine step_assume (fun _ => chkAcc (k := 34) (by decide) (fun _ => ⟨rfl, rfl⟩) hdv) ?_
  refine step_feature 34 (fun _ => ⟨rfl, rfl⟩) (fun _ => rfl) ?_
  refine step_assume (fun _ => chkAcc (k := 35) (by decide) (fun _ => ⟨rfl, rfl⟩) hdv) ?_
  refine step_feature 35 (fun _ => ⟨rfl, rfl⟩) (fun _ => rfl) ?_
  refine step_assume (fun _ => chkAcc (k := 36) (by decide) (fun _ => ⟨rfl, rfl⟩) hdv) ?_
  refine step_feature 36 (fun _ => ⟨rfl, rfl⟩) (fun _ => rfl) ?_
  refine step_assume (fun _ => chkAcc (k := 37) (by decide) (fun _ => ⟨rfl, rfl⟩) hdv) ?_
  refine step_feature 37 (fun _ => ⟨rfl, rfl⟩) (fun _ => rfl) ?_
  refine step_assume (fun _ => chkAcc (k := 38) (by decide) (fun _ => ⟨rfl, rfl⟩) hdv) ?_
  refine step_feature 38 (fun _ => ⟨rfl, rfl⟩) (fun _ => rfl) ?_
  refine step_assume (fun _ => chkAcc (k := 39) (by decide) (fun _ => ⟨rfl, rfl⟩) hdv) ?_
  refine step_feature 39 (fun _ => ⟨rfl, rfl⟩) (fun _ => rfl) ?_
  refine step_assume (fun _ => chkAcc (k := 40) (by decide) (fun _ => ⟨rfl, rfl⟩) hdv) ?_
  refine step_feature 40 (fun _ => ⟨rfl, rfl⟩) (fun _ => rfl) ?_
  exact step_pure (hQ )

theorem part81_run {d : Dev nD} {L : grid0.Coords} {R : sProp 𝕄} {A : S8x8x1024.Idx → F .f32} {rf : S16384.Idx → BitVec 32} (v3 : FVec F S16 .f32) (k0_t3 : Fin k0_t3_loop.trips) (k0_h1 : k0_cond1 L k0_t3 = 1#1) (v214 : IVec S16 32) (v219 : IVec S16 1)
    (hdv : ∀ x, ((v214) x).toNat < 1024)
    {Q : _ → sProp 𝕄} (hQ : iprop(accPts (F := F) d L (accK false (v214) (v219) (fun x _ => v3 x) A 51) ∗ rndPts (F := F) d L rf ∗ R) ⊢ Q (6#32)) :
    iprop(accPts (F := F) d L (accK false (v214) (v219) (fun x _ => v3 x) A 41) ∗ rndPts (F := F) d L rf ∗ R) ⊢ wpt (F := F) d L (k0_part81 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 v3 k0_t3 k0_h1 v214 v219 5#32) Q := by
  rw [k0_part81_eq_skeleton]; unfold k0_part81_skel
  refine step_assume (fun _ => chkAcc (k := 41) (by decide) (fun _ => ⟨rfl, rfl⟩) hdv) ?_
  refine step_feature 41 (fun _ => ⟨rfl, rfl⟩) (fun _ => rfl) ?_
  refine step_assume (fun _ => chkAcc (k := 42) (by decide) (fun _ => ⟨rfl, rfl⟩) hdv) ?_
  refine step_feature 42 (fun _ => ⟨rfl, rfl⟩) (fun _ => rfl) ?_
  refine step_assume (fun _ => chkAcc (k := 43) (by decide) (fun _ => ⟨rfl, rfl⟩) hdv) ?_
  refine step_feature 43 (fun _ => ⟨rfl, rfl⟩) (fun _ => rfl) ?_
  refine step_assume (fun _ => chkAcc (k := 44) (by decide) (fun _ => ⟨rfl, rfl⟩) hdv) ?_
  refine step_feature 44 (fun _ => ⟨rfl, rfl⟩) (fun _ => rfl) ?_
  refine step_assume (fun _ => chkAcc (k := 45) (by decide) (fun _ => ⟨rfl, rfl⟩) hdv) ?_
  refine step_feature 45 (fun _ => ⟨rfl, rfl⟩) (fun _ => rfl) ?_
  refine step_assume (fun _ => chkAcc (k := 46) (by decide) (fun _ => ⟨rfl, rfl⟩) hdv) ?_
  refine step_feature 46 (fun _ => ⟨rfl, rfl⟩) (fun _ => rfl) ?_
  refine step_assume (fun _ => chkAcc (k := 47) (by decide) (fun _ => ⟨rfl, rfl⟩) hdv) ?_
  refine step_feature 47 (fun _ => ⟨rfl, rfl⟩) (fun _ => rfl) ?_
  refine step_assume (fun _ => chkAcc (k := 48) (by decide) (fun _ => ⟨rfl, rfl⟩) hdv) ?_
  refine step_feature 48 (fun _ => ⟨rfl, rfl⟩) (fun _ => rfl) ?_
  refine step_assume (fun _ => chkAcc (k := 49) (by decide) (fun _ => ⟨rfl, rfl⟩) hdv) ?_
  refine step_feature 49 (fun _ => ⟨rfl, rfl⟩) (fun _ => rfl) ?_
  refine step_assume (fun _ => chkAcc (k := 50) (by decide) (fun _ => ⟨rfl, rfl⟩) hdv) ?_
  refine step_feature 50 (fun _ => ⟨rfl, rfl⟩) (fun _ => rfl) ?_
  exact step_pure (hQ )

theorem part82_run {d : Dev nD} {L : grid0.Coords} {R : sProp 𝕄} {A : S8x8x1024.Idx → F .f32} {rf : S16384.Idx → BitVec 32} (v3 : FVec F S16 .f32) (k0_t3 : Fin k0_t3_loop.trips) (k0_h1 : k0_cond1 L k0_t3 = 1#1) (v214 : IVec S16 32) (v219 : IVec S16 1)
    (hdv : ∀ x, ((v214) x).toNat < 1024)
    {Q : _ → sProp 𝕄} (hQ : iprop(accPts (F := F) d L (accK false (v214) (v219) (fun x _ => v3 x) A 61) ∗ rndPts (F := F) d L rf ∗ R) ⊢ Q (7#32)) :
    iprop(accPts (F := F) d L (accK false (v214) (v219) (fun x _ => v3 x) A 51) ∗ rndPts (F := F) d L rf ∗ R) ⊢ wpt (F := F) d L (k0_part82 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 v3 k0_t3 k0_h1 v214 v219 6#32) Q := by
  rw [k0_part82_eq_skeleton]; unfold k0_part82_skel
  refine step_assume (fun _ => chkAcc (k := 51) (by decide) (fun _ => ⟨rfl, rfl⟩) hdv) ?_
  refine step_feature 51 (fun _ => ⟨rfl, rfl⟩) (fun _ => rfl) ?_
  refine step_assume (fun _ => chkAcc (k := 52) (by decide) (fun _ => ⟨rfl, rfl⟩) hdv) ?_
  refine step_feature 52 (fun _ => ⟨rfl, rfl⟩) (fun _ => rfl) ?_
  refine step_assume (fun _ => chkAcc (k := 53) (by decide) (fun _ => ⟨rfl, rfl⟩) hdv) ?_
  refine step_feature 53 (fun _ => ⟨rfl, rfl⟩) (fun _ => rfl) ?_
  refine step_assume (fun _ => chkAcc (k := 54) (by decide) (fun _ => ⟨rfl, rfl⟩) hdv) ?_
  refine step_feature 54 (fun _ => ⟨rfl, rfl⟩) (fun _ => rfl) ?_
  refine step_assume (fun _ => chkAcc (k := 55) (by decide) (fun _ => ⟨rfl, rfl⟩) hdv) ?_
  refine step_feature 55 (fun _ => ⟨rfl, rfl⟩) (fun _ => rfl) ?_
  refine step_assume (fun _ => chkAcc (k := 56) (by decide) (fun _ => ⟨rfl, rfl⟩) hdv) ?_
  refine step_feature 56 (fun _ => ⟨rfl, rfl⟩) (fun _ => rfl) ?_
  refine step_assume (fun _ => chkAcc (k := 57) (by decide) (fun _ => ⟨rfl, rfl⟩) hdv) ?_
  refine step_feature 57 (fun _ => ⟨rfl, rfl⟩) (fun _ => rfl) ?_
  refine step_assume (fun _ => chkAcc (k := 58) (by decide) (fun _ => ⟨rfl, rfl⟩) hdv) ?_
  refine step_feature 58 (fun _ => ⟨rfl, rfl⟩) (fun _ => rfl) ?_
  refine step_assume (fun _ => chkAcc (k := 59) (by decide) (fun _ => ⟨rfl, rfl⟩) hdv) ?_
  refine step_feature 59 (fun _ => ⟨rfl, rfl⟩) (fun _ => rfl) ?_
  refine step_assume (fun _ => chkAcc (k := 60) (by decide) (fun _ => ⟨rfl, rfl⟩) hdv) ?_
  refine step_feature 60 (fun _ => ⟨rfl, rfl⟩) (fun _ => rfl) ?_
  exact step_pure (hQ )

end Cert.Proof
-- ==== Proof.Collect.lean ====
/- The first pass: the entries of the tile's own row range, gathered in order. -/
module

public import proofs.«01_k».proof.Proof.Lists
public import proofs.«01_k».proof.Proof.Clear

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- Whether a word lies in the range `[lo, hi)`. -/
def inB (lo hi v : BitVec 32) : Bool := lo.sle v && v.slt hi

def inV (lo hi : BitVec 32) (v : IVec S16 32) : IVec S16 1 := andi (cmpi .sge v (broadcast S16 lo)) (cmpi .slt v (broadcast S16 hi))

theorem inV_iff (lo hi : BitVec 32) (v : IVec S16 32) (x : S16.Idx) : inV lo hi v x = 1#1 ↔ inB lo hi (v x) = true := by
  change BitVec.ofBool (lo.sle (v x)) &&& BitVec.ofBool ((v x).slt hi) = 1#1 ↔ (lo.sle (v x) && (v x).slt hi) = true
  cases lo.sle (v x) <;> cases (v x).slt hi <;> decide

/-- The entry of place `p` with destination `v`. -/
def encW (lo : BitVec 32) (p : BitVec 32) (v : BitVec 32) : BitVec 32 :=
  IntOp.ori (IntOp.ori (IntOp.shrsi .vector p 1#32) (IntOp.shli .vector (IntOp.andi p 1#32) 13#32)) (IntOp.shli .vector (IntOp.subi v lo) 14#32)

def encV (lo base : BitVec 32) (v : IVec S16 32) : IVec S16 32 := fun x => encW lo (base + laneV x) (v x)

/-- The entries of the range among the first `n` destinations. -/
abbrev keepP (lo hi : BitVec 32) (rf : S16384.Idx → BitVec 32) : ℕ → Bool := fun p => inB lo hi (cell rf p)
abbrev keepG (lo : BitVec 32) (rf : S16384.Idx → BitVec 32) : ℕ → BitVec 32 := fun p => encW lo (BitVec.ofNat 32 p) (cell rf p)

theorem keep_mask {lo hi : BitVec 32} {rf : S16384.Idx → BitVec 32} {v : IVec S16 32} {n : ℕ} (hv : ∀ k : Fin 16, v (ln k) = cell rf (n + k.val)) (k : Fin 16) :
    inV lo hi v (ln k) = 1#1 ↔ keepP lo hi rf (n + k.val) = true := by
  rw [inV_iff, hv]

theorem keep_word {lo base : BitVec 32} {rf : S16384.Idx → BitVec 32} {v : IVec S16 32} {n : ℕ} (hv : ∀ k : Fin 16, v (ln k) = cell rf (n + k.val)) (hb : base = BitVec.ofNat 32 n) (k : Fin 16) :
    encV lo base v (ln k) = keepG lo rf (n + k.val) := by
  unfold encV keepG
  rw [hv, hb, laneV_ln, BitVec.ofNat_add]

theorem collect_col {lo hi base off off' : BitVec 32} {rf f : S16384.Idx → BitVec 32} {v : IVec S16 32} {n m : ℕ} (hC : Col (keepP lo hi rf) (keepG lo rf) f off n) (hn : n + 16 ≤ 16384)
    (hv : ∀ k : Fin 16, v (ln k) = cell rf (n + k.val)) (hb : base = BitVec.ofNat 32 n)
    {h : ∀ a x, ((![tgtOf off (inV lo hi v)] : Fin S16384.rank → IVec S16 32) a x).toNat < S16384.size a} (ho : off' = off + psum (inV lo hi v) (ln 15)) (hm : m = n + 16) :
    Col (keepP lo hi rf) (keepG lo rf) (storeIdx (F := F) (e := .i32) f (![tgtOf off (inV lo hi v)] : Fin S16384.rank → IVec S16 32) (encV lo base v) (inV lo hi v) false h) off' m := by
  subst ho
  exact col_step hC hn (keep_mask hv) (fun k _ => keep_word hv hb k) hm

theorem off65_at : ∀ t : Fin k0_t2_loop.trips, k0_off65 t 0 = 64 * t.val := by decide +kernel
theorem off66_at : ∀ t : Fin k0_t2_loop.trips, k0_off66 t 0 = 64 * t.val + 16 := by decide +kernel
theorem off67_at : ∀ t : Fin k0_t2_loop.trips, k0_off67 t 0 = 64 * t.val + 32 := by decide +kernel
theorem off68_at : ∀ t : Fin k0_t2_loop.trips, k0_off68 t 0 = 64 * t.val + 48 := by decide +kernel
theorem base65 : ∀ t : Fin k0_t2_loop.trips, Scalar.muli (Scalar.addi (Scalar.muli (Scf.iv 0#32 1#32 t) 4#32) 0#32) 16#32 = BitVec.ofNat 32 (64 * t.val) := by decide +kernel
theorem base66 : ∀ t : Fin k0_t2_loop.trips, Scalar.muli (Scalar.addi (Scalar.muli (Scf.iv 0#32 1#32 t) 4#32) 1#32) 16#32 = BitVec.ofNat 32 (64 * t.val + 16) := by decide +kernel
theorem base67 : ∀ t : Fin k0_t2_loop.trips, Scalar.muli (Scalar.addi (Scalar.muli (Scf.iv 0#32 1#32 t) 4#32) 2#32) 16#32 = BitVec.ofNat 32 (64 * t.val + 32) := by decide +kernel
theorem base68 : ∀ t : Fin k0_t2_loop.trips, Scalar.muli (Scalar.addi (Scalar.muli (Scf.iv 0#32 1#32 t) 4#32) 3#32) 16#32 = BitVec.ofNat 32 (64 * t.val + 48) := by decide +kernel
theorem t2_lt (t : Fin k0_t2_loop.trips) : t.val < 256 := lt_of_lt_of_eq t.isLt (by decide)

section Runs
variable {d : Dev nD} {L : grid0.Coords} {R : sProp (MT nD τ sig (HIx 1) (Elt F) ℕ UU ℕ)} {rf : S16384.Idx → BitVec 32} {lo hi : BitVec 32}

theorem part11_run {f : S16384.Idx → BitVec 32} (t : Fin k0_t2_loop.trips) (off : BitVec 32) (hC : Col (keepP lo hi rf) (keepG lo rf) f off (64 * t.val)) {Q : _ → sProp 𝕄}
    (hQ : ∀ f' off', Col (keepP lo hi rf) (keepG lo rf) f' off' (64 * t.val + 16) → iprop(minePts (F := F) d L f' ∗ rndPts (F := F) d L rf ∗ R) ⊢ Q ⟨Scf.iv 0#32 1#32 t, off', Scalar.addi (Scalar.muli (Scf.iv 0#32 1#32 t) 4#32) 1#32, 16#32⟩) :
    iprop(minePts (F := F) d L f ∗ rndPts (F := F) d L rf ∗ R) ⊢ wpt (F := F) d L (k0_part11 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 laneV lo hi 0#32 1#32 t off) Q := by
  rw [k0_part11_eq_skeleton]; unfold k0_part11_skel
  have h1 := t2_lt t
  refine step_load_rnd2 ?_
  refine step_assume (col_tgt hC (by omega) (inV lo hi _)) ?_
  refine step_scatter_mine ?_
  exact step_pure (hQ _ _ (collect_col hC (by omega) (fun k => rnd_load (F := F) k (off65_at t)) (base65 t) (congrArg (off + ·) (last_lane _ slices_S16_o15_S1 inpos_S1_p0)) rfl))

theorem part12_run {f : S16384.Idx → BitVec 32} (t : Fin k0_t2_loop.trips) (off : BitVec 32) (hC : Col (keepP lo hi rf) (keepG lo rf) f off (64 * t.val + 16)) {Q : _ → sProp 𝕄}
    (hQ : ∀ f' off' (v : Vec F S16 .i32), (∀ k : Fin 16, v (ln k) = cell rf (64 * t.val + 32 + k.val)) → Col (keepP lo hi rf) (keepG lo rf) f' off' (64 * t.val + 32) →
      iprop(minePts (F := F) d L f' ∗ rndPts (F := F) d L rf ∗ R) ⊢ Q ⟨off', Scalar.addi (Scalar.muli (Scf.iv 0#32 1#32 t) 4#32) 2#32, v, k0_pay16 lo v, k0_pay17 hi⟩) :
    iprop(minePts (F := F) d L f ∗ rndPts (F := F) d L rf ∗ R) ⊢ wpt (F := F) d L (k0_part12 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 laneV lo hi t (Scf.iv 0#32 1#32 t) off (Scalar.addi (Scalar.muli (Scf.iv 0#32 1#32 t) 4#32) 1#32) 16#32) Q := by
  rw [k0_part12_eq_skeleton]; unfold k0_part12_skel
  have h1 := t2_lt t
  refine step_load_rnd2 ?_
  refine step_assume (col_tgt hC (by omega) (inV lo hi _)) ?_
  refine step_scatter_mine ?_
  refine step_load_rnd2 ?_
  exact step_pure (hQ _ _ _ (fun k => rnd_load (F := F) k (off67_at t)) (collect_col hC (by omega) (fun k => rnd_load (F := F) k (off66_at t)) (base66 t) (congrArg (off + ·) (last_lane _ slices_S16_o15_S1 inpos_S1_p0)) rfl))

theorem part13_run {f : S16384.Idx → BitVec 32} (t : Fin k0_t2_loop.trips) (off : BitVec 32) (v : Vec F S16 .i32) (hv : ∀ k : Fin 16, v (ln k) = cell rf (64 * t.val + 32 + k.val)) (hC : Col (keepP lo hi rf) (keepG lo rf) f off (64 * t.val + 32)) {Q : _ → sProp 𝕄}
    (hQ : ∀ f' off' (w : Vec F S16 .i32), (∀ k : Fin 16, w (ln k) = cell rf (64 * t.val + 48 + k.val)) → Col (keepP lo hi rf) (keepG lo rf) f' off' (64 * t.val + 48) →
      iprop(minePts (F := F) d L f' ∗ rndPts (F := F) d L rf ∗ R) ⊢ Q ⟨off', Scalar.addi (Scalar.muli (Scf.iv 0#32 1#32 t) 4#32) 3#32, w, k0_pay23 lo hi w, k0_pay24, k0_pay25⟩) :
    iprop(minePts (F := F) d L f ∗ rndPts (F := F) d L rf ∗ R) ⊢ wpt (F := F) d L (k0_part13 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 laneV lo hi t (Scf.iv 0#32 1#32 t) off (Scalar.addi (Scalar.muli (Scf.iv 0#32 1#32 t) 4#32) 2#32) v (k0_pay16 lo v) (k0_pay17 hi)) Q := by
  rw [k0_part13_eq_skeleton]; unfold k0_part13_skel
  have h1 := t2_lt t
  refine step_assume (col_tgt hC (by omega) (inV lo hi _)) ?_
  refine step_scatter_mine ?_
  refine step_load_rnd2 ?_
  exact step_pure (hQ _ _ _ (fun k => rnd_load (F := F) k (off68_at t)) (collect_col hC (by omega) hv (base67 t) (congrArg (off + ·) (last_lane _ slices_S16_o15_S1 inpos_S1_p0)) rfl))

/-- The lowest destination of tile `L`. -/
def loW (L : grid0.Coords) : BitVec 32 :=
  let v1 : BitVec 32 := Scalar.addi (Scalar.muli (BitVec.ofNat 32 (L 1).val) 2#32) (BitVec.ofNat 32 (L 0).val)
  Scalar.muli (Scalar.addi (Scalar.muli v1 30#32) (Scalar.minsi v1 17#32)) 1024#32

theorem t2_body_run (t : Fin k0_t2_loop.trips) (off : BitVec 32) :
    iprop(∃ f, ⌜Col (keepP (loW L) hi rf) (keepG (loW L) rf) f off (64 * t.val)⌝ ∗ minePts (F := F) d L f ∗ rndPts (F := F) d L rf ∗ R) ⊢
      wpt (F := F) d L (k0_t2_body L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 laneV (loW L) hi t off) fun off' =>
        iprop(∃ f, ⌜Col (keepP (loW L) hi rf) (keepG (loW L) rf) f off' (64 * (t.val + 1))⌝ ∗ minePts (F := F) d L f ∗ rndPts (F := F) d L rf ∗ R) := by
  refine of_ex (F := F) fun f hC => ?_
  have h1 := t2_lt t
  unfold k0_t2_body
  refine step_bind (part11_run (F := F) t off hC ?_)
  intro f1 off1 hC1
  refine step_bind (part12_run (F := F) t off1 hC1 ?_)
  intro f2 off2 v2 hv2 hC2
  refine step_bind (part13_run (F := F) t off2 v2 hv2 hC2 ?_)
  intro f3 off3 v3 hv3 hC3
  refine step_assume (col_tgt hC3 (by omega) (inV (loW L) hi _)) ?_
  refine step_scatter_mine ?_
  refine step_pure ?_
  have hC4 := collect_col (F := F) hC3 (by omega) hv3 (base68 t) (off' := _) (h := col_tgt hC3 (by omega) (inV (loW L) hi _)) (congrArg (off3 + ·) (last_lane _ slices_S16_o15_S1 inpos_S1_p0)) (m := 64 * (t.val + 1)) (by omega)
  exact to_ex (F := F) (P := fun f => Col (keepP (loW L) hi rf) (keepG (loW L) rf) f _ (64 * (t.val + 1))) (S := fun f => iprop(minePts (F := F) d L f ∗ rndPts (F := F) d L rf ∗ R)) _ hC4
end Runs

end Cert.Proof
-- ==== Proof.Words.lean ====
/- The scalar arithmetic of the inner loops: trip counts, offsets, and the checks on them. -/
module

public import proofs.«01_k».proof.Proof.Lists

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

open Idealize.ShloMosaic.Affine in
theorem isInt_out {x : BitVec 32} {e : ℤ} (h : IsInt x e) : x.toInt = e := by unfold Affine.IsInt at h; exact h

open Idealize.ShloMosaic.Affine in
theorem wrap1 (x : BitVec 32) : Scalar.addi 0#32 (Scalar.muli (Scalar.divsi (Scalar.subi x 0#32) 1#32) 1#32) = x := by
  have hr := Affine.word_range x
  have h0 : IsInt (0#32) 0 := Affine.ofNat 0 ⟨rfl, by decide⟩
  have h1 : IsInt (1#32) 1 := Affine.ofNat 1 ⟨rfl, by decide⟩
  have a : IsInt (Scalar.subi x 0#32) x.toInt := Affine.subi (Affine.word x) h0 ⟨by omega, hr.1, hr.2⟩
  have b : IsInt (Scalar.divsi (Scalar.subi x 0#32) 1#32) x.toInt := Affine.divsi_one a h1 ⟨rfl, rfl⟩
  have c : IsInt (Scalar.muli (Scalar.divsi (Scalar.subi x 0#32) 1#32) 1#32) x.toInt := Affine.muli b h1 ⟨by omega, hr.1, hr.2⟩
  have e : Affine.IsInt (Scalar.addi 0#32 (Scalar.muli (Scalar.divsi (Scalar.subi x 0#32) 1#32) 1#32)) x.toInt := Affine.addi h0 c ⟨by omega, hr.1, hr.2⟩
  exact BitVec.eq_of_toInt_eq (isInt_out e)

theorem wrap2 (x : BitVec 32) : Scalar.addi 0#32 (Scalar.subi x 0#32) = x := by
  change 0#32 + (x - 0#32) = x
  simp

open Idealize.ShloMosaic.Affine in
theorem eq_ofNat {x : BitVec 32} {n : ℕ} (h : IsInt x n) : x = BitVec.ofNat 32 n := by
  apply BitVec.eq_of_toInt_eq
  have h' : x.toInt = n := isInt_out h
  have hr := Affine.word_range x
  rw [h', BitVec.toInt_ofNat', Int.bmod_def]
  omega

open Idealize.ShloMosaic.Affine in
theorem isNat {n : ℕ} (h : n < 2 ^ 31) : IsInt (BitVec.ofNat 32 n) n := Affine.ofNat n ⟨rfl, h⟩

theorem trips_nat {n : ℕ} (h : n < 2 ^ 31) : Scf.trips 0#32 (BitVec.ofNat 32 n) 1#32 = n := by
  have e : (BitVec.ofNat 32 n).toInt = n := isInt_out (isNat h)
  unfold Scf.trips
  rw [e]
  simp

theorem ok_nat {n : ℕ} (h : n < 2 ^ 31) : Scf.OK 0#32 (BitVec.ofNat 32 n) 1#32 := by
  refine ⟨by decide, ?_⟩
  rw [trips_nat h]
  simp
  omega

theorem trips_none (x : BitVec 32) : Scf.trips x x 1#32 = 0 := by
  unfold Scf.trips
  simp

theorem ok_none (x : BitVec 32) : Scf.OK x x 1#32 := by
  refine ⟨by decide, ?_⟩
  rw [trips_none]
  have := BitVec.toInt_lt (x := x)
  simp
  omega

/-- The number of groups of sixteen. -/
theorem groups_eq {m : ℕ} (hm : m ≤ 16384) : Scalar.shrsi (Scalar.addi (BitVec.ofNat 32 m) 15#32) 4#32 = BitVec.ofNat 32 ((m + 15) / 16) := by
  apply eq_ofNat
  have a := Affine.addi (isNat (n := m) (by omega)) (isNat (n := 15) (by omega)) (e := ((m + 15 : ℕ) : ℤ)) ⟨by omega, by omega, by omega⟩
  exact Affine.shrsi a (isNat (n := 4) (by omega)) 4 16 (by decide) ⟨by omega, rfl, by omega⟩

/-- The number of batches of thirty-two, as the kernel rounds it up. -/
def nbW (v : BitVec 32) : BitVec 32 :=
  let v33 := Scalar.addi v 31#32
  let v39 := Scalar.subi (Scalar.extui (Scalar.cmpi .sgt v33 0#32)) (Scalar.extui (Scalar.cmpi .slt v33 0#32))
  let v44 := Scalar.subi (Scalar.extui (Scalar.cmpi .sgt 32#32 0#32)) (Scalar.extui (Scalar.cmpi .slt 32#32 0#32))
  let v34 := Scalar.divsi v33 32#32
  Scalar.select (Scalar.andi (Scalar.cmpi .ne v39 v44) (Scalar.cmpi .ne (Scalar.remsi v33 32#32) 0#32)) (Scalar.subi v34 1#32) v34

open Idealize.ShloMosaic.Affine in
theorem nbW_eq {m : ℕ} (hm : m ≤ 16384) : nbW (BitVec.ofNat 32 m) = BitVec.ofNat 32 ((m + 31) / 32) := by
  apply eq_ofNat
  unfold nbW
  have a := Affine.addi (isNat (n := m) (by omega)) (isNat (n := 31) (by omega)) (e := ((m + 31 : ℕ) : ℤ)) ⟨by omega, by omega, by omega⟩
  have z := isNat (n := 0) (by omega)
  have w := isNat (n := 32) (by omega)
  have o := isNat (n := 1) (by omega)
  have q := Affine.divsi a w (e := (((m + 31) / 32 : ℕ) : ℤ)) ⟨by omega, by omega, by omega⟩
  have p := Affine.subi (Affine.extui_holds (Affine.sgt_holds a z (by omega)) rfl) (Affine.extui_fails (Affine.slt_fails a z (by omega)) rfl) (e := 1) ⟨by omega, by omega, by omega⟩
  have p' : IsInt (Scalar.subi (Scalar.extui (Scalar.cmpi .sgt 32#32 0#32)) (Scalar.extui (Scalar.cmpi .slt 32#32 0#32))) 1 :=
    Affine.subi (Affine.extui_holds (Affine.sgt_holds w z (by omega)) rfl) (Affine.extui_fails (Affine.slt_fails w z (by omega)) rfl) (e := 1) ⟨by omega, by omega, by omega⟩
  exact Affine.select_fails (Affine.andi_fails_left (Affine.ne_fails p p' rfl) (Affine.cmpi_term _ (Affine.remsi a w (e := _) ⟨rfl, by omega, by omega⟩) z)) (Affine.subi q o (e := _) ⟨rfl, by omega, by omega⟩) q rfl

/-! ## The loops -/

section Loops
variable {m : ℕ} (hm : m ≤ 16384)
include hm

theorem t4_loop_eq : k0_t4_loop (BitVec.ofNat 32 m) = ⟨0#32, BitVec.ofNat 32 ((m + 15) / 16), 1#32⟩ := by
  unfold k0_t4_loop; dsimp only; rw [wrap1, groups_eq hm]
theorem t5_loop_eq : k0_t5_loop (BitVec.ofNat 32 m) = ⟨BitVec.ofNat 32 ((m + 15) / 16), BitVec.ofNat 32 ((m + 15) / 16), 1#32⟩ := by
  unfold k0_t5_loop; dsimp only; rw [wrap1, wrap2, groups_eq hm]
theorem t6_loop_eq : k0_t6_loop (BitVec.ofNat 32 m) = ⟨0#32, BitVec.ofNat 32 ((m + 31) / 32), 1#32⟩ := by
  rw [← nbW_eq hm, ← wrap1 (nbW _)]; rfl
theorem t7_loop_eq : k0_t7_loop (BitVec.ofNat 32 m) = ⟨BitVec.ofNat 32 ((m + 31) / 32), BitVec.ofNat 32 ((m + 31) / 32), 1#32⟩ := by
  have h : k0_t7_loop (BitVec.ofNat 32 m) = ⟨Scalar.addi 0#32 (Scalar.muli (Scalar.divsi (Scalar.subi (nbW (BitVec.ofNat 32 m)) 0#32) 1#32) 1#32), Scalar.addi 0#32 (Scalar.subi (nbW (BitVec.ofNat 32 m)) 0#32), 1#32⟩ := rfl
  rw [h, wrap1, wrap2, nbW_eq hm]
theorem t8_loop_eq : k0_t8_loop (BitVec.ofNat 32 m) = ⟨0#32, BitVec.ofNat 32 ((m + 31) / 32), 1#32⟩ := t6_loop_eq hm
theorem t9_loop_eq : k0_t9_loop (BitVec.ofNat 32 m) = ⟨BitVec.ofNat 32 ((m + 31) / 32), BitVec.ofNat 32 ((m + 31) / 32), 1#32⟩ := t7_loop_eq hm

theorem t4_trips : (k0_t4_loop (BitVec.ofNat 32 m)).trips = (m + 15) / 16 := by rw [t4_loop_eq hm]; exact trips_nat (by omega)
theorem t5_trips : (k0_t5_loop (BitVec.ofNat 32 m)).trips = 0 := by rw [t5_loop_eq hm]; exact trips_none _
theorem t6_trips : (k0_t6_loop (BitVec.ofNat 32 m)).trips = (m + 31) / 32 := by rw [t6_loop_eq hm]; exact trips_nat (by omega)
theorem t7_trips : (k0_t7_loop (BitVec.ofNat 32 m)).trips = 0 := by rw [t7_loop_eq hm]; exact trips_none _
theorem t8_trips : (k0_t8_loop (BitVec.ofNat 32 m)).trips = (m + 31) / 32 := t6_trips hm
theorem t9_trips : (k0_t9_loop (BitVec.ofNat 32 m)).trips = 0 := t7_trips hm
end Loops

/-- A trip of a loop from zero: its register is its number. -/
theorem iv_nat (t : ℕ) : Scf.iv 0#32 1#32 t = BitVec.ofNat 32 t := by unfold Scf.iv; simp

theorem muladd_nat {t c r : ℕ} (ht : t * c + r < 2 ^ 31) (hc : c < 2 ^ 31) : Scalar.addi (Scalar.muli (BitVec.ofNat 32 t) (BitVec.ofNat 32 c)) (BitVec.ofNat 32 r) = BitVec.ofNat 32 (t * c + r) := by
  change BitVec.ofNat 32 t * BitVec.ofNat 32 c + BitVec.ofNat 32 r = _
  rw [BitVec.ofNat_add, BitVec.ofNat_mul]

theorem off69_at {v : BitVec 32} (t : Fin (k0_t4_loop v).trips) (ht : t.val ≤ 1024) : k0_off69 v t 0 = 16 * t.val := by
  change (Scalar.muli (Scf.iv 0#32 1#32 t) 16#32).toNat = _
  rw [iv_nat]
  change (BitVec.ofNat 32 t.val * BitVec.ofNat 32 16).toNat = _
  rw [← BitVec.ofNat_mul, BitVec.toNat_ofNat]; omega
theorem off71_at {v : BitVec 32} (t : Fin (k0_t6_loop v).trips) (ht : t.val ≤ 512) {r : ℕ} (hr : r ≤ 16) : k0_off71 v t (BitVec.ofNat 32 r) 0 = 32 * t.val + r := by
  change (Scalar.addi (Scalar.muli (Scf.iv 0#32 1#32 t) 32#32) (BitVec.ofNat 32 r)).toNat = _
  rw [iv_nat, muladd_nat (by omega) (by omega), BitVec.toNat_ofNat]; omega
theorem off72_at {v : BitVec 32} (t : Fin (k0_t6_loop v).trips) (ht : t.val ≤ 512) : k0_off72 v t 0 = 32 * t.val + 16 := off71_at t ht (r := 16) (by omega)
theorem off91_at {v : BitVec 32} (t : Fin (k0_t8_loop v).trips) (ht : t.val ≤ 512) : k0_off91 v t 0 = 32 * t.val := off71_at t ht (r := 0) (by omega)
theorem off92_at {v : BitVec 32} (t : Fin (k0_t8_loop v).trips) (ht : t.val ≤ 512) : k0_off92 v t 0 = 32 * t.val + 16 := off71_at t ht (r := 16) (by omega)

theorem inb16 {off : Fin 1 → ℕ} (h : off 0 + 16 ≤ 16384) : ∀ a, off a + S16.size a ≤ S16384.size a := by
  intro a
  match a with
  | ⟨0, _⟩ => exact h

/-- The checks on the number of entries the tile keeps. -/
theorem chk5_of {m : ℕ} (hm : m ≤ 16384) (L : grid0.Coords) : k0_chk5 L (BitVec.ofNat 32 m) := by
  refine ⟨fun _ _ => ?_, fun _ t _ => ?_, fun _ _ => ?_, fun _ t _ => ?_⟩
  · rw [t4_loop_eq hm]; exact ok_nat (by omega)
  · have := t.isLt; have h4 := t4_trips hm
    refine inb16 ?_
    rw [off69_at t (by omega)]; omega
  · rw [t5_loop_eq hm]; exact ok_none _
  · have := t.isLt; have h5 := t5_trips hm; omega

/-- The checks on the number of entries of a chunk. -/
theorem chk8_of {m : ℕ} (hm : m ≤ 16384) (L : grid0.Coords) (t3 : Fin k0_t3_loop.trips) : k0_chk8 L t3 (BitVec.ofNat 32 m) := by
  have h6 := t6_trips hm
  have h7 := t7_trips hm
  have h8 := t8_trips hm
  have h9 := t9_trips hm
  refine ⟨fun _ => ?_, fun t _ r => ?_, fun t _ => ?_, fun _ => ?_, fun t => ?_, fun t => ?_, fun _ => ?_, fun t _ => ?_, fun t _ => ?_, fun _ => ?_, fun t => ?_, fun t => ?_⟩
  · rw [t6_loop_eq hm]; exact ok_nat (by omega)
  · have := t.isLt; have := r.isLt
    refine inb16 ?_
    rw [off71_at t (by omega) (by omega)]; omega
  · have := t.isLt
    refine inb16 ?_
    rw [off72_at t (by omega)]; omega
  · rw [t7_loop_eq hm]; exact ok_none _
  · exact absurd t.isLt (by omega)
  · exact absurd t.isLt (by omega)
  · rw [t8_loop_eq hm]; exact ok_nat (by omega)
  · have := t.isLt
    refine inb16 ?_
    rw [off91_at t (by omega)]; omega
  · have := t.isLt
    refine inb16 ?_
    rw [off92_at t (by omega)]; omega
  · rw [t9_loop_eq hm]; exact ok_none _
  · exact absurd t.isLt (by omega)
  · exact absurd t.isLt (by omega)

end Cert.Proof
-- ==== Proof.Bits.lean ====
/- The entry words: their three fields, and what packing and repacking do to them. -/
module

public import proofs.«01_k».proof.Proof.Collect
public import proofs.«01_k».proof.Proof.Words

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

theorem shl14 (x : BitVec 32) : IntOp.shli .vector x 14#32 = x <<< 14 := rfl
theorem shl13 (x : BitVec 32) : IntOp.shli .vector x 13#32 = x <<< 13 := rfl
theorem shr14 (x : BitVec 32) : IntOp.shrui .vector x 14#32 = x >>> 14 := rfl

theorem or_shift_toNat {k : ℕ} (a b : BitVec 32) (ha : a.toNat < 2 ^ k) (hb : b.toNat * 2 ^ k < 2 ^ 32) : (a ||| (b <<< k)).toNat = b.toNat * 2 ^ k + a.toNat := by
  rw [BitVec.toNat_or, BitVec.toNat_shiftLeft, Nat.shiftLeft_eq, Nat.mod_eq_of_lt hb, Nat.or_comm, ← Nat.shiftLeft_eq, ← Nat.shiftLeft_add_eq_or_of_lt ha]

/-- The packed word. -/
theorem encW_toNat {lo v : BitVec 32} {p : ℕ} (hp : p < 16384) (hv : (v - lo).toNat < 2 ^ 18) :
    (encW lo (BitVec.ofNat 32 p) v).toNat = (v - lo).toNat * 16384 + (p % 2 * 8192 + p / 2) := by
  unfold encW
  have hpn : (BitVec.ofNat 32 p).toNat = p := by rw [BitVec.toNat_ofNat]; omega
  have e1 : (IntOp.shrsi .vector (BitVec.ofNat 32 p) 1#32).toNat = p / 2 := by
    change ((BitVec.ofNat 32 p).sshiftRight' 1#32).toNat = _
    rw [BitVec.sshiftRight_eq', BitVec.sshiftRight_eq_of_msb_false, BitVec.toNat_ushiftRight, hpn]
    · rfl
    · rw [BitVec.msb_eq_false_iff_two_mul_lt, hpn]; omega
  have e2 : (IntOp.andi (BitVec.ofNat 32 p) 1#32).toNat = p % 2 := by
    change (BitVec.ofNat 32 p &&& 1#32).toNat = _
    rw [BitVec.toNat_and, hpn]; exact Nat.and_one_is_mod p
  have e3 : (IntOp.ori (IntOp.shrsi .vector (BitVec.ofNat 32 p) 1#32) (IntOp.shli .vector (IntOp.andi (BitVec.ofNat 32 p) 1#32) 13#32)).toNat = p % 2 * 8192 + p / 2 := by
    rw [shl13]
    refine (or_shift_toNat _ _ (by rw [e1]; omega) (by rw [e2]; omega)).trans ?_
    rw [e1, e2]; norm_num
  rw [shl14]
  refine (or_shift_toNat _ _ (by rw [e3]; omega) (by change (v - lo).toNat * _ < _; omega)).trans ?_
  rw [e3]
  rfl

/-- The word of an entry within its chunk: the row number counted from the chunk's first. -/
def reW (rb : BitVec 32) (w : BitVec 32) : BitVec 32 := IntOp.ori (IntOp.andi w 16383#32) (IntOp.shli .vector (IntOp.subi (IntOp.shrui .vector w 14#32) rb) 14#32)

theorem shr14_toNat (w : BitVec 32) : (IntOp.shrui .vector w 14#32).toNat = w.toNat / 16384 := by
  rw [shr14, BitVec.toNat_ushiftRight, Nat.shiftRight_eq_div_pow]

theorem reW_toNat {rb w : BitVec 32} (h : rb.toNat ≤ w.toNat / 16384) : (reW rb w).toNat = (w.toNat / 16384 - rb.toNat) * 16384 + w.toNat % 16384 := by
  unfold reW
  have hw := w.isLt
  have e1 : (IntOp.andi w 16383#32).toNat = w.toNat % 16384 := by
    change (w &&& 16383#32).toNat = _
    rw [BitVec.toNat_and]; exact Nat.and_two_pow_sub_one_eq_mod w.toNat 14
  have e2 : (IntOp.subi (IntOp.shrui .vector w 14#32) rb).toNat = w.toNat / 16384 - rb.toNat := by
    change (IntOp.shrui .vector w 14#32 - rb).toNat = _
    rw [BitVec.toNat_sub_of_le, shr14_toNat]
    rw [BitVec.le_def, shr14_toNat]; exact h
  rw [shl14]
  refine (or_shift_toNat _ _ (by rw [e1]; omega) (by rw [e2]; omega)).trans ?_
  rw [e1, e2]; norm_num

/-- A word between two small bounds, read signed or unsigned. -/
theorem inB_iff {lo hi v : BitVec 32} (hl : lo.toNat < 2 ^ 31) (hh : hi.toNat < 2 ^ 31) (hv : v.toNat < 2 ^ 31) :
    inB lo hi v = true ↔ lo.toNat ≤ v.toNat ∧ v.toNat < hi.toNat := by
  have e : ∀ x : BitVec 32, x.toNat < 2 ^ 31 → x.toInt = x.toNat := fun x hx => BitVec.toInt_eq_toNat_of_lt (by omega)
  unfold inB
  rw [Bool.and_eq_true, BitVec.sle_iff_toInt_le, BitVec.slt_iff_toInt_lt, e _ hl, e _ hh, e _ hv]
  omega

/-- A lane's place compared with a count. -/
theorem lane_lt {base : BitVec 32} {n m : ℕ} (hb : base = BitVec.ofNat 32 n) (hn : n < 2 ^ 20) (hm : m < 2 ^ 20) (k : Fin 16) :
    cmpi .slt (addi (broadcast S16 base) laneV) (broadcast S16 (BitVec.ofNat 32 m)) (ln k) = 1#1 ↔ n + k.val < m := by
  have e : (addi (broadcast S16 base) laneV) (ln k) = BitVec.ofNat 32 (n + k.val) := by
    change base + laneV (ln k) = _
    rw [laneV_ln, hb, BitVec.ofNat_add]
  change IntOp.cmpi .slt ((addi (broadcast S16 base) laneV) (ln k)) (BitVec.ofNat 32 m) = 1#1 ↔ _
  rw [e, IntOp.cmpi_slt, isInt_out (isNat (by omega)), isInt_out (isNat (by omega))]
  omega

theorem andi_iff (a b : IVec S16 1) (x : S16.Idx) : andi a b x = 1#1 ↔ a x = 1#1 ∧ b x = 1#1 := by
  change a x &&& b x = 1#1 ↔ _
  generalize a x = p
  generalize b x = q
  revert p q
  decide

end Cert.Proof
-- ==== Proof.Comp.lean ====
/- A round's first pass: the entries of its chunk, gathered in order out of the tile's own. -/
module

public import proofs.«01_k».proof.Proof.Bits

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The rows of round `r`: from `r * 1024` on, counted from the tile's first. -/
abbrev rbW (r : ℕ) : BitVec 32 := Scalar.muli (Scf.iv 0#32 1#32 r) 1024#32

theorem rbW_toNat {r : ℕ} (hr : r < 31) : (rbW r).toNat = r * 1024 := by
  unfold rbW
  rw [iv_nat]
  change (BitVec.ofNat 32 r * BitVec.ofNat 32 1024).toNat = _
  rw [← BitVec.ofNat_mul, BitVec.toNat_ofNat]; omega

theorem rbW_hi {r : ℕ} (hr : r < 31) : (Scalar.addi (rbW r) 1024#32).toNat = r * 1024 + 1024 := by
  change (rbW r + 1024#32).toNat = _
  rw [BitVec.toNat_add, rbW_toNat hr, BitVec.toNat_ofNat]; omega

abbrev inChunk (r : ℕ) (w : BitVec 32) : Bool := inB (rbW r) (Scalar.addi (rbW r) 1024#32) (IntOp.shrui .vector w 14#32)

theorem inChunk_iff {r : ℕ} (hr : r < 31) (w : BitVec 32) : inChunk r w = true ↔ r * 1024 ≤ w.toNat / 16384 ∧ w.toNat / 16384 < r * 1024 + 1024 := by
  have hw := w.isLt
  unfold inChunk
  rw [inB_iff (by rw [rbW_toNat hr]; omega) (by rw [rbW_hi hr]; omega) (by rw [shr14_toNat]; omega), rbW_toNat hr, rbW_hi hr, shr14_toNat]

/-- The entries of round `r` among the first `n` of the tile's `m`. -/
abbrev roundP (r m : ℕ) (mf : S16384.Idx → BitVec 32) : ℕ → Bool := fun p => inChunk r (cell mf p) && decide (p < m)
abbrev roundG (r : ℕ) (mf : S16384.Idx → BitVec 32) : ℕ → BitVec 32 := fun p => reW (rbW r) (cell mf p)

/-- Every word's row number is inside a chunk. -/
def RowsOK (f : S16384.Idx → BitVec 32) : Prop := ∀ n, n < 16384 → (cell f n).toNat / 16384 < 1024

theorem reW_row {r : ℕ} (hr : r < 31) {w : BitVec 32} (h : inChunk r w = true) : (reW (rbW r) w).toNat / 16384 < 1024 := by
  have h' := (inChunk_iff hr w).1 h
  have hw := w.isLt
  rw [reW_toNat (by rw [rbW_toNat hr]; omega), rbW_toNat hr]
  omega

theorem step_load_mine2 {d : Dev nD} {L : grid0.Coords} {α : Type} {Q : α → sProp 𝕄} {R R₁ : sProp 𝕄} {f : S16384.Idx → BitVec 32} {r : LoadRect S16384} {hl : mMine.view.LoadsAt r}
    {k : (r.shape.Idx → BitVec 32) → Prog (TpuEff nD τ sig (Elt F) Λ₀ (.scVector (cV L) (jV L))) α}
    (hk : iprop(R₁ ∗ minePts (F := F) d L f ∗ R) ⊢ wpt (F := F) d L (k (mMine.view.readAt (Elt F) r f)) Q) :
    iprop(R₁ ∗ minePts (F := F) d L f ∗ R) ⊢ wpt (F := F) d L (Prog.lift (TpuEff.load mMine r hl) >>= k) Q := by
  iintro ⟨H₁, H, HR⟩
  iapply (wp_load (defs := defs₀ (F := F)) 𝒱₀ (thr d L) none Set.univ (Q := Q) (m := mMine) (r := r) (hl := hl) (k := k) (S := Finset.univ) (q := fullShare) (f := f) (Finset.subset_univ _)) $$ H
  iintro H
  iapply hk
  isplitl [H₁]
  · iexact H₁
  isplitl [H]
  · iexact H
  · iexact HR

section Runs
variable {d : Dev nD} {L : grid0.Coords} {R : sProp (MT nD τ sig (HIx 1) (Elt F) ℕ UU ℕ)} {mf : S16384.Idx → BitVec 32} {m : ℕ}

theorem round_mask {r n : ℕ} (hn : n ≤ 16384) (hm : m ≤ 16384) {base : BitVec 32} (hb : base = BitVec.ofNat 32 n) {v : IVec S16 32} (hv : ∀ k : Fin 16, v (ln k) = cell mf (n + k.val)) (k : Fin 16) :
    andi (inV (rbW r) (Scalar.addi (rbW r) 1024#32) (shrui v (broadcast S16 14#32))) (cmpi .slt (addi (broadcast S16 base) laneV) (broadcast S16 (BitVec.ofNat 32 m))) (ln k) = 1#1
      ↔ roundP r m mf (n + k.val) = true := by
  rw [andi_iff, inV_iff, lane_lt hb (by omega) (by omega), roundP, Bool.and_eq_true, decide_eq_true_iff, ← hv]
  exact Iff.rfl

theorem base69 {v : BitVec 32} (t : Fin (k0_t4_loop v).trips) : Scalar.muli (Scf.iv 0#32 1#32 t) 16#32 = BitVec.ofNat 32 (16 * t.val) := by
  rw [iv_nat]
  change BitVec.ofNat 32 t.val * BitVec.ofNat 32 16 = _
  rw [← BitVec.ofNat_mul, Nat.mul_comm]

theorem t4_body_run (hm : m ≤ 16384) (hw5 : k0_chk5 L (BitVec.ofNat 32 m)) (v17 v20 : BitVec 32) (t3 : Fin k0_t3_loop.trips) (h1 : k0_cond1 L t3 = 1#1) (t : Fin (k0_t4_loop (BitVec.ofNat 32 m)).trips) (off : BitVec 32) :
    iprop(∃ f, ⌜Col (roundP t3 m mf) (roundG t3 mf) f off (16 * t.val) ∧ RowsOK f⌝ ∗ rndPts (F := F) d L f ∗ minePts (F := F) d L mf ∗ R) ⊢
      wpt (F := F) d L (k0_t4_body L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 laneV (BitVec.ofNat 32 m) hw5 v17 t3 (Scf.iv 0#32 1#32 t3) v20 h1 t off) fun off' =>
        iprop(∃ f, ⌜Col (roundP t3 m mf) (roundG t3 mf) f off' (16 * (t.val + 1)) ∧ RowsOK f⌝ ∗ rndPts (F := F) d L f ∗ minePts (F := F) d L mf ∗ R) := by
  refine of_ex (F := F) fun f ⟨hC, hR⟩ => ?_
  have ht := t.isLt
  have h4 := t4_trips hm
  have h3 : t3.val < 31 := lt_of_lt_of_eq t3.isLt (by decide)
  have hn : 16 * t.val + 16 ≤ 16384 := by omega
  have hv : ∀ k : Fin 16, mMine.view.readAt (Elt F) (Rect.unit (s := S16384) (k0_off69 (BitVec.ofNat 32 m) t) S16.size (k0_off69_inb L _ hw5 t3 t h1)).toLoadRect mf (ln k) = cell mf (16 * t.val + k.val) :=
    fun k => mine_load (F := F) k (off69_at t (by omega))
  have hmask := fun k => round_mask (r := t3.val) (m := m) (mf := mf) (by omega) hm (base69 t) hv k
  unfold k0_t4_body
  refine step_load_mine2 ?_
  refine step_assume (fun _ => col_tgt hC hn (k0_pay341 (F := F) laneV (BitVec.ofNat 32 m) (Scf.iv 0#32 1#32 t3) t _)) ?_
  refine step_scatter_rnd ?_
  refine step_pure ?_
  refine to_ex (F := F) (P := fun f => Col (roundP t3 m mf) (roundG t3 mf) f _ (16 * (t.val + 1)) ∧ RowsOK f) (S := fun f => iprop(rndPts (F := F) d L f ∗ minePts (F := F) d L mf ∗ R)) _ ⟨?_, ?_⟩
  · have hC4 := col_step (F := F) (h := col_tgt hC hn _) hC hn hmask (e := k0_pay344 (F := F) (Scf.iv 0#32 1#32 t3) (mMine.view.readAt (Elt F) (Rect.unit (s := S16384) (k0_off69 (BitVec.ofNat 32 m) t) S16.size (k0_off69_inb L _ hw5 t3 t h1)).toLoadRect mf))
      (fun k _ => congrArg (reW (rbW t3)) (hv k)) (m := 16 * (t.val + 1)) (by omega)
    rw [← last_lane (psum _) slices_S16_o15_S1 inpos_S1_p0] at hC4
    exact hC4
  · refine compact_word (F := F) (f := f) (P := fun w => w.toNat / 16384 < 1024) (tgt := tgtOf off _) (h := col_tgt hC hn _) hR ?_
    intro k hk
    have hk' := (hmask k).1 hk
    rw [roundP, Bool.and_eq_true] at hk'
    have e : k0_pay344 (F := F) (Scf.iv 0#32 1#32 t3) (mMine.view.readAt (Elt F) (Rect.unit (s := S16384) (k0_off69 (BitVec.ofNat 32 m) t) S16.size (k0_off69_inb L _ hw5 t3 t h1)).toLoadRect mf) (ln k) = reW (rbW t3) (cell mf (16 * t.val + k.val)) :=
      congrArg (reW (rbW t3)) (hv k)
    rw [e]
    exact reW_row h3 hk'.1
end Runs

end Cert.Proof
-- ==== Proof.Gather.lean ====
/- The gathered rows: one indexed copy of thirty-two rows of the table into the row buffer and its wait. -/
module

public import proofs.«01_k».proof.Proof.Comp

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- Row number `r` of the thirty-two in the list. -/
def pcell (pos : S32.Idx → BitVec 32) (r : ℕ) : BitVec 32 := pos (Shape.ofLane (d := S32.size) ⟨r % 32, Nat.mod_lt _ (by decide)⟩)

/-- Column `c` of row `r` of the table. -/
def xRow (x2 : S8192x128.Idx → F .f32) (r c : ℕ) : F .f32 := x2 fun a =>
  ⟨(![r % 8192, c % 128] : Fin 2 → ℕ) a, match a with | ⟨0, _⟩ => Nat.mod_lt _ (by decide) | ⟨1, _⟩ => Nat.mod_lt _ (by decide)⟩

/-- The row buffer's first 128 columns hold the rows the list names. -/
def Rows (x2 : S8192x128.Idx → F .f32) (pos : S32.Idx → BitVec 32) (row : S32x129.Idx → F .f32) : Prop :=
  ∀ r c (hr : r < 32) (hc : c < 129), c < 128 → row (rowIx r c hr hc) = xRow x2 (pcell pos r).toNat c

abbrev vRow : Memref sig .scVector .vmem S32x128 .f32 := mRow.slice (Rect.unit (s := S32x129) ![0, 0] S32x128.size inb_S32x129_S32x128_0_0) (fun _ => rfl)
abbrev vX : Memref sig .scVector .hbm S8192x128 .f32 := mX.slice (Rect.unit (s := S8192x128) ![0, 0] S8192x128.size inb_S8192x128_S8192x128_0_0) (fun _ => rfl)

/-- A share of the table. -/
abbrev xPts (d : Dev nD) (L : grid0.Coords) (q : PosShare TreeShare) (f : S8192x128.Idx → F .f32) : sProp 𝕄 := mX.view.loc (thr d L) ↦{q} (f : Buf (Elt F) (mX.view.loc (thr d L)))

/-- What a tile owes, with the evidence that it may wait. -/
def Tok (d : Dev nD) (L : grid0.Coords) (O : CellTallies nD τ sig (HIx 1)) (W : Waits sig (HIx 1)) : sProp 𝕄 :=
  iprop(levAts (K (F := F)).L (K (F := F)).lev ∗ ⌜∀ g, O g none = 0⌝ ∗ ∃ W', ⌜∀ p ∈ W', p ∈ W ∨ p.2 = none⌝ ∗ owes (thr d L) O W')

abbrev gRows (x2 : S8192x128.Idx → F .f32) (pos : S32.Idx → BitVec 32) (hin : ∀ x, ((mPos.view.read (Elt F) pos : S32.Idx → BitVec 32) x).toNat < S8192x128.size gathers_S8192x128_S32x128.axis) : S32x128.Idx → F .f32 :=
  SparseCore.gatherPayload (F := F) (e := .f32) gathers_S8192x128_S32x128 (vX.view.read (Elt F) x2) (SparseCore.rows (F := F) (si := S32) (mPos.view.read (Elt F) pos) rfl hin)

theorem rows_of {x2 : S8192x128.Idx → F .f32} {pos : S32.Idx → BitVec 32} {row : S32x129.Idx → F .f32} (hin) :
    Rows x2 pos (vRow.view.set.piecewise (vRow.view.write (Elt F) row (gRows x2 pos hin) Finset.univ) row) := by
  intro r c hr hc hc'
  let i : S32x128.Idx := fun a => ⟨(![r, c] : Fin 2 → ℕ) a, match a with | ⟨0, _⟩ => hr | ⟨1, _⟩ => hc'⟩
  have hi : rowIx r c hr hc = vRow.view.emb i := by
    funext a; apply Fin.ext
    match a with
    | ⟨0, _⟩ => change r = 0 + 1 * r; omega
    | ⟨1, _⟩ => change c = 0 + 1 * c; omega
  have hm : rowIx r c hr hc ∈ vRow.view.set := by
    rw [hi]; exact (View.mem_setOn _).2 (Finset.mem_univ i)
  rw [Finset.piecewise_eq_of_mem _ _ _ hm, hi, View.write_emb_of_mem _ _ (Finset.mem_univ i)]
  unfold gRows SparseCore.gatherPayload xRow
  refine (cast_eq _ _).trans ?_
  refine (View.read_apply _ _).trans ((cast_eq _ _).trans ?_)
  refine congrArg x2 ?_
  funext a; apply Fin.ext
  match a with
  | ⟨0, _⟩ =>
    change 0 + 1 * ((Shape.Gathers.idx gathers_S8192x128_S32x128 _ i) (Shape.Gathers.axis gathers_S8192x128_S32x128)).val = _
    rw [Shape.Gathers.idx_axis]
    change 0 + 1 * (pos (S32.rowMajor.symm _)).toNat = (pcell pos r).toNat % 8192
    have e : ∀ n : Fin S32.numel, n.val = r → S32.rowMajor.symm n = Shape.ofLane (d := S32.size) ⟨r % 32, Nat.mod_lt _ (by decide)⟩ := by
      intro n hn
      rw [Equiv.symm_apply_eq]
      apply Fin.ext
      rw [Shape.rowMajor_val_one, hn]
      exact (Nat.mod_eq_of_lt hr).symm
    rw [e _ rfl]
    have h8 : (pcell pos r).toNat < 8192 := hin _
    unfold pcell at h8 ⊢
    omega
  | ⟨1, _⟩ =>
    change 0 + 1 * ((Shape.Gathers.idx gathers_S8192x128_S32x128 _ i) 1).val = c % 128
    rw [Shape.Gathers.idx_of_ne _ _ _ 1 (by decide)]
    change 0 + 1 * c = c % 128
    omega

section Steps
variable {d : Dev nD} {L : grid0.Coords} {α : Type} {Q : α → sProp (MT nD τ sig (HIx 1) (Elt F) ℕ UU ℕ)} {R : sProp (MT nD τ sig (HIx 1) (Elt F) ℕ UU ℕ)}

theorem gatherN : ∀ h : S8192x128.Gathers 0 S32x128, ∑ j, (vRow.slice (S32x128.rowRect h.axis' j) (S32x128.stride_rowRect h.axis' j)).view.dmaCredit = vRow.view.dmaCredit := by decide

theorem step_gather {q : PosShare TreeShare} {x2 : S8192x128.Idx → F .f32} {pos : S32.Idx → BitVec 32} {row : S32x129.Idx → F .f32} {O : CellTallies nD τ sig (HIx 1)} {W : Waits sig (HIx 1)}
    {hp hn hsrc he hsp hr hsw hdw} {k : PUnit → Prog (TpuEff nD τ sig (Elt F) Λ₀ (.scVector (cV L) (jV L))) α}
    (hin : ∀ x, (pos x).toNat < 8192)
    (hk : ∀ row', Rows x2 pos row' → iprop(posPts (F := F) d L pos ∗ rowPts (F := F) d L row' ∗ xPts (F := F) d L q x2 ∗ semVal (thr d L, SemLoc.dma cc0_scoped1.sem) 0 ∗ Tok (F := F) d L O W ∗ R) ⊢ wpt (F := F) d L (k ⟨⟩) Q) :
    iprop(posPts (F := F) d L pos ∗ rowPts (F := F) d L row ∗ xPts (F := F) d L q x2 ∗ semVal (thr d L, SemLoc.dma cc0_scoped1.sem) 0 ∗ Tok (F := F) d L O W ∗ R) ⊢
      wpt (F := F) d L (SparseCore.enqueueIndirectGather hp vX vRow gathers_S8192x128_S32x128 mPos hn cc0_scoped1.sem hsrc he hsp hr >>= fun _ => SparseCore.waitIndirectGather cc0_scoped1.sem vX vRow hsw hdw >>= k) Q := by
  have hps : (mPos.view).set = Finset.univ := View.set_whole _
  have hin' : ∀ x, ((mPos.view.read (Elt F) pos : S32.Idx → BitVec 32) x).toNat < S8192x128.size gathers_S8192x128_S32x128.axis := hin
  iintro ⟨Hp, Hr, Hx, Hsem, Ht, HR⟩
  ihave Ht' := (Entails.of_eq (show Tok (F := F) d L O W = iprop(levAts (K (F := F)).L (K (F := F)).lev ∗ ⌜∀ g, O g none = 0⌝ ∗ ∃ W', ⌜∀ p ∈ W', p ∈ W ∨ p.2 = none⌝ ∗ owes (thr d L) O W') from rfl)) $$ Ht
  icases Ht' with ⟨#Hlv, %hO, %W', %hW, HO⟩
  ihave Hmw := (show levAts (K (F := F)).L (K (F := F)).lev ⊢ Transfers.MayWaits (thr d L) (default : HIx 1) O from
    (K (F := F)).mayWaits_none (thr := thr d L) hO) $$ Hlv
  ihave Hxs := (pointsTo_split_subset (ℓ := mX.view.loc (thr d L)) (q := q) (f := (x2 : Buf (Elt F) (mX.view.loc (thr d L)))) (S := Finset.univ) (Finset.subset_univ vX.view.set)).1 $$ Hx
  icases Hxs with ⟨Hxs, Hxr⟩
  ihave Hrs := (pointsTo_split_subset (q := fullShare) (f := (row : Buf (Elt F) (mRow.view.loc (thr d L)))) (S := Finset.univ) (Finset.subset_univ vRow.view.set)).1 $$ Hr
  icases Hrs with ⟨Hrs, Hrr⟩
  ihave Hp' := (Entails.of_eq (show (posPts (F := F) d L pos : sProp 𝕄) = mPos.view.loc (thr d L) ↦[mPos.view.set]{fullShare} (pos : Buf (Elt F) (mPos.view.loc (thr d L))) by rw [hps])) $$ Hp
  iapply (SparseCore.wp_indirectGatherLocal (defs := defs₀ (F := F)) (Q := Q) countersEmb 𝒱₀ (thr d L) none (src := vX) (dst := vRow) (hg := gathers_S8192x128_S32x128) (offs := mPos) (fs := x2) (fd := row) (fo := pos) (default : HIx 1)
      vRow.view.dmaCredit (gatherN _) (by decide) hin') $$ [Hxs Hrs Hp' Hsem]
  · isplitl [Hxs]; · iexact Hxs
    isplitl [Hrs]; · iexact Hrs
    isplitl [Hp']; · iexact Hp'
    iexact Hsem
  iintro Hfl
  iapply (Transfers.wp_waitLocalO (defs := defs₀ (F := F)) (Q := Q) countersEmb 𝒱₀ (thr d L) none (srcw := vX) (dstw := vRow) (k := k) (default : HIx 1) (rfl : vRow.view.dmaCredit = _)) $$ [Hfl HO]
  · isplitl [Hfl]; · iexact Hfl
    isplitl [HO]; · iexact HO
    iapply (Transfers.MayWaits.elim (SemLoc.dma cc0_scoped1.sem)) $$ Hmw
  iintro ⟨⟨Hrs, Hxs, Hp'⟩, Hsem, HO⟩
  ihave Hx := (pointsTo_split_subset (ℓ := mX.view.loc (thr d L)) (q := q) (f := (x2 : Buf (Elt F) (mX.view.loc (thr d L)))) (S := Finset.univ) (Finset.subset_univ vX.view.set)).2 $$ [Hxs Hxr]
  · isplitl [Hxs] <;> iassumption
  ihave Hr := (pointsTo_join_subset (ℓ := mRow.view.loc (thr d L)) (q := fullShare) (S := Finset.univ) (Finset.subset_univ vRow.view.set)) $$ [Hrs Hrr]
  · isplitl [Hrs] <;> iassumption
  ihave Hp := (Entails.of_eq (show (mPos.view.loc (thr d L) ↦[mPos.view.set]{fullShare} (pos : Buf (Elt F) (mPos.view.loc (thr d L))) : sProp 𝕄) = posPts (F := F) d L pos by rw [hps])) $$ Hp'
  iapply (hk _ (rows_of (row := row) hin'))
  isplitl [Hp]; · iexact Hp
  isplitl [Hr]; · iexact Hr
  isplitl [Hx]; · iexact Hx
  isplitl [Hsem]; · iexact Hsem
  isplitr [HR]
  · iapply (Entails.of_eq (show iprop(levAts (K (F := F)).L (K (F := F)).lev ∗ ⌜∀ g, O g none = 0⌝ ∗ ∃ W', ⌜∀ p ∈ W', p ∈ W ∨ p.2 = none⌝ ∗ owes (thr d L) O W') = Tok (F := F) d L O W from rfl))
    isplitr; · iexact Hlv
    isplitr; · ipureintro; exact hO
    iexists _
    isplitr
    swap; · iexact HO
    ipureintro; intro p hp
    rcases Finset.mem_insert.mp hp with hp | hp
    · exact .inr (hp ▸ rfl)
    · exact hW p hp
  · iexact HR
end Steps

end Cert.Proof
-- ==== Proof.Fold.lean ====
/- What a run of the entries does to the accumulator, as a fold over the entries in their order, sixteen at a time. -/
module

public import proofs.«01_k».proof.Proof.Gather

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

theorem foldl_fin {β : Type} {N : ℕ} (step : β → Fin N → β) (E : ℕ → β) (h : ∀ k : Fin N, step (E k.val) k = E (k.val + 1)) : (List.finRange N).foldl step (E 0) = E N := by
  induction N with
  | zero => rfl
  | succ n ih =>
    rw [List.finRange_succ_last, List.foldl_append, List.foldl_map, ih (fun y k => step y k.castSucc) (fun k => h k.castSucc)]
    exact h (Fin.last n)

/-- One entry's effect on a cell of feature `c`, column `col`: entry `w` is for column `w / 16384`. -/
abbrev addE (x2 : S8192x128.Idx → F .f32) : ℕ → ℕ → F .f32 → BitVec 32 → F .f32 := fun c col y w =>
  if w.toNat / 16384 = col then FloatOps.idxAddf y (xRow x2 (w.toNat % 8192) (w.toNat / 8192 % 2 * 64 + c)) else y
abbrev clrE (z : F .f32) : ℕ → ℕ → F .f32 → BitVec 32 → F .f32 := fun _ col y w => if w.toNat / 16384 = col then z else y

/-- The accumulator after the first `n` of a round's `m` entries. -/
def accN (g : ℕ → ℕ → F .f32 → BitVec 32 → F .f32) (rf : S16384.Idx → BitVec 32) (m : ℕ) (A : S8x8x1024.Idx → F .f32) (n : ℕ) : S8x8x1024.Idx → F .f32 :=
  fun j => ((List.range (min n m)).map (cell rf)).foldl (g (ft j) (j 2).val) (A j)

theorem accN_zero (g : ℕ → ℕ → F .f32 → BitVec 32 → F .f32) (rf : S16384.Idx → BitVec 32) (m : ℕ) (A : S8x8x1024.Idx → F .f32) : accN g rf m A 0 = A := by
  funext j; unfold accN; rw [Nat.zero_min]; rfl

theorem accN_of_le (g : ℕ → ℕ → F .f32 → BitVec 32 → F .f32) (rf : S16384.Idx → BitVec 32) {m n : ℕ} (A : S8x8x1024.Idx → F .f32) (h : m ≤ n) : accN g rf m A n = accN g rf m A m := by
  unfold accN; rw [Nat.min_eq_right h, Nat.min_self]

theorem accN_one (g : ℕ → ℕ → F .f32 → BitVec 32 → F .f32) (rf : S16384.Idx → BitVec 32) (m : ℕ) (A : S8x8x1024.Idx → F .f32) (n : ℕ) (j : S8x8x1024.Idx) :
    accN g rf m A (n + 1) j = if n < m then g (ft j) (j 2).val (accN g rf m A n j) (cell rf n) else accN g rf m A n j := by
  unfold accN
  by_cases h : n < m
  · rw [if_pos h, Nat.min_eq_left (by omega : n + 1 ≤ m), Nat.min_eq_left (by omega : n ≤ m), List.range_succ, List.map_append, List.foldl_append]
    rfl
  · rw [if_neg h, Nat.min_eq_right (by omega : m ≤ n + 1), Nat.min_eq_right (by omega : m ≤ n)]

theorem accN_sixteen {g : ℕ → ℕ → F .f32 → BitVec 32 → F .f32} {rf : S16384.Idx → BitVec 32} {m n : ℕ} {A : S8x8x1024.Idx → F .f32} {add : Bool} {dv : IVec S16 32} {mask : IVec S16 1} {V : S16.Idx → ℕ → F .f32}
    (hm : ∀ k : Fin 16, mask (ln k) = 1#1 ↔ n + k.val < m) (hd : ∀ k : Fin 16, (dv (ln k)).toNat = (cell rf (n + k.val)).toNat / 16384)
    (hg : ∀ (k : Fin 16) c y, c < 64 → (if add then FloatOps.idxAddf y (V (ln k) c) else V (ln k) c) = g c ((cell rf (n + k.val)).toNat / 16384) y (cell rf (n + k.val)))
    (hg' : ∀ c col y w, w.toNat / 16384 ≠ col → g c col y w = y) :
    accK add dv mask V (accN g rf m A n) 64 = accN g rf m A (n + 16) := by
  rw [accK_full]
  funext j
  unfold lanesFold
  refine foldl_fin (N := 16) _ (fun k => accN g rf m A (n + k) j) fun k => ?_
  change _ = accN g rf m A (n + k.val + 1) j
  rw [accN_one]
  by_cases h : n + k.val < m
  · rw [if_pos h]
    by_cases hc : (j 2).val = (dv (ln k)).toNat
    · rw [if_pos ⟨(hm k).2 h, hc⟩, hg k _ _ (ft_lt j), hc, hd]
    · rw [if_neg fun h' => hc h'.2, hg' _ _ _ _ fun h' => hc (by rw [hd]; exact h'.symm)]
  · rw [if_neg h, if_neg fun h' => h ((hm k).1 h'.1)]

theorem clrE_off (z : F .f32) : ∀ c col y w, w.toNat / 16384 ≠ col → clrE z c col y w = y := fun _ _ _ _ h => if_neg h
theorem addE_off (x2 : S8192x128.Idx → F .f32) : ∀ c col y w, w.toNat / 16384 ≠ col → addE x2 c col y w = y := fun _ _ _ _ h => if_neg h

/-- Clearing every entry's column after adding every entry leaves what was there if it was clear. -/
theorem clear_all {x2 : S8192x128.Idx → F .f32} {rf : S16384.Idx → BitVec 32} {m : ℕ} (z : F .f32) : accN (clrE z) rf m (accN (addE x2) rf m (fun _ => z) m) m = fun _ => z := by
  funext j
  unfold accN
  rw [Nat.min_self]
  generalize (List.range m).map (cell rf) = ls
  by_cases h : ∃ w ∈ ls, w.toNat / 16384 = (j 2).val
  · generalize List.foldl (addE x2 (ft j) (j 2).val) z ls = y
    obtain ⟨w, hw, hc⟩ := h
    obtain ⟨a, b, rfl⟩ := List.append_of_mem hw
    rw [List.foldl_append, List.foldl_cons]
    generalize List.foldl (clrE z (ft j) (j 2).val) y a = y'
    rw [show clrE z (ft j) (j 2).val y' w = z from if_pos hc]
    clear hw
    induction b with
    | nil => rfl
    | cons w' b ih =>
      rw [List.foldl_cons]
      by_cases hc' : w'.toNat / 16384 = (j 2).val
      · rw [show clrE z (ft j) (j 2).val z w' = z from if_pos hc']; exact ih
      · rw [show clrE z (ft j) (j 2).val z w' = z from if_neg hc']; exact ih
  · have e : ∀ (g : ℕ → ℕ → F .f32 → BitVec 32 → F .f32) (hg : ∀ c col y w, w.toNat / 16384 ≠ col → g c col y w = y) (y : F .f32), List.foldl (g (ft j) (j 2).val) y ls = y := by
      intro g hg y
      induction ls with
      | nil => rfl
      | cons w ls ih =>
        rw [List.foldl_cons, hg _ _ _ _ fun h' => h ⟨w, List.mem_cons_self, h'⟩]
        exact ih fun ⟨w', hw', h'⟩ => h ⟨w', List.mem_cons_of_mem _ hw', h'⟩
    rw [e _ (clrE_off z), e _ (addE_off x2)]

end Cert.Proof
-- ==== Proof.Fetch.lean ====
/- A batch's first part: the row numbers of thirty-two entries go into the list, and the rows it names are fetched. -/
module

public import proofs.«01_k».proof.Proof.Fold

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

section Pure
/-- The list after its two stores. -/
abbrev posTwo (pos : S32.Idx → BitVec 32) (w0 w1 : S16.Idx → BitVec 32) : S32.Idx → BitVec 32 :=
  (mPos.access (Rect.unit (s := S32) ![16] S16.size inb_S32_S16_16)).write (Elt F) ((mPos.access (Rect.unit (s := S32) ![0] S16.size inb_S32_S16_0)).write (Elt F) pos w0 Finset.univ) w1 Finset.univ

theorem pos_hi (pos : S32.Idx → BitVec 32) (w0 w1 : S16.Idx → BitVec 32) (k : Fin 16) : pcell (posTwo (F := F) pos w0 w1) (16 + k.val) = w1 (ln k) := by
  have e : (Shape.ofLane (d := S32.size) ⟨(16 + k.val) % 32, Nat.mod_lt _ (by decide)⟩ : S32.Idx) = (mPos.access (Rect.unit (s := S32) ![16] S16.size inb_S32_S16_16)).emb (ln k) := by
    funext a; apply Fin.ext
    match a with
    | ⟨0, _⟩ => change (16 + k.val) % 32 = 16 + 1 * k.val; have := k.isLt; omega
  unfold pcell
  rw [e]
  exact (View.write_emb_of_mem _ _ (Finset.mem_univ _)).trans (cast_eq _ _)

theorem pos_lo (pos : S32.Idx → BitVec 32) (w0 w1 : S16.Idx → BitVec 32) (k : Fin 16) : pcell (posTwo (F := F) pos w0 w1) k.val = w0 (ln k) := by
  have e : (Shape.ofLane (d := S32.size) ⟨k.val % 32, Nat.mod_lt _ (by decide)⟩ : S32.Idx) = (mPos.access (Rect.unit (s := S32) ![0] S16.size inb_S32_S16_0)).emb (ln k) := by
    funext a; apply Fin.ext
    match a with
    | ⟨0, _⟩ => change k.val % 32 = 0 + 1 * k.val; have := k.isLt; omega
  unfold pcell
  refine (View.write_of_not_mem _ _ _ ?_).trans ?_
  · intro h
    obtain ⟨x, -, hx⟩ := Finset.mem_map.1 h
    have h0 := congrArg (fun f : S32.Idx => (f 0).val) hx
    change 16 + 1 * (x 0).val = k.val % 32 at h0
    have := k.isLt; omega
  · rw [e]
    exact (View.write_emb_of_mem _ _ (Finset.mem_univ _)).trans (cast_eq _ _)

theorem and8191 (w : BitVec 32) : (IntOp.andi w 8191#32).toNat = w.toNat % 8192 := by
  change (w &&& 8191#32).toNat = _
  rw [BitVec.toNat_and]
  exact Nat.and_two_pow_sub_one_eq_mod w.toNat 13
end Pure

section Runs
variable {d : Dev nD} {L : grid0.Coords} {R : sProp (MT nD τ sig (HIx 1) (Elt F) ℕ UU ℕ)}

theorem sw {A B C X : sProp 𝕄} (h : iprop(B ∗ A ∗ C) ⊢ X) : iprop(A ∗ B ∗ C) ⊢ X := by
  refine BIBase.Entails.trans ?_ h
  iintro ⟨a, b, c⟩
  isplitl [b]; · iexact b
  isplitl [a]; · iexact a
  iexact c

/-- The row buffer holds the rows of the thirty-two entries from `n` on. -/
def RowsAt (x2 : S8192x128.Idx → F .f32) (rf : S16384.Idx → BitVec 32) (n : ℕ) (row : S32x129.Idx → F .f32) : Prop :=
  ∀ r c (hr : r < 32) (hc : c < 129), c < 128 → row (rowIx r c hr hc) = xRow x2 ((cell rf (n + r)).toNat % 8192) c

/-- What a batch keeps beside the accumulator, the row buffer and the entries. -/
abbrev Kept (d : Dev nD) (L : grid0.Coords) (q : PosShare TreeShare) (x2 : S8192x128.Idx → F .f32) (O : CellTallies nD τ sig (HIx 1)) (W : Waits sig (HIx 1)) (R : sProp 𝕄) : sProp 𝕄 :=
  iprop((∃ pos, posPts (F := F) d L pos) ∗ xPts (F := F) d L q x2 ∗ semVal (thr d L, SemLoc.dma cc0_scoped1.sem) 0 ∗ Tok (F := F) d L O W ∗ R)

theorem part14_run {q : PosShare TreeShare} {x2 : S8192x128.Idx → F .f32} {rf : S16384.Idx → BitVec 32} {row : S32x129.Idx → F .f32} {A : S8x8x1024.Idx → F .f32} {O : CellTallies nD τ sig (HIx 1)} {W : Waits sig (HIx 1)}
    (t3 : Fin k0_t3_loop.trips) (h1 : k0_cond1 L t3 = 1#1) {v32 : BitVec 32} (hw8 : k0_chk8 L t3 v32) (t : Fin (k0_t6_loop v32).trips) (ht : t.val ≤ 511)
    {Q : _ → sProp 𝕄} (hQ : ∀ row', RowsAt x2 rf (32 * t.val) row' → iprop(accPts (F := F) d L A ∗ rowPts (F := F) d L row' ∗ rndPts (F := F) d L rf ∗ Kept d L q x2 O W R) ⊢
      Q ⟨Scalar.muli (Scf.iv 0#32 1#32 t) 32#32, k0_pay28 laneV, k0_pay29 (F := F) (mRnd.view.readAt (Elt F) (Rect.unit (s := S16384) (k0_off71 v32 t 0#32) S16.size (k0_off71_inb L t3 v32 hw8 t h1 0)).toLoadRect rf),
        k0_pay30 (F := F) (mRnd.view.readAt (Elt F) (Rect.unit (s := S16384) (k0_off71 v32 t 0#32) S16.size (k0_off71_inb L t3 v32 hw8 t h1 0)).toLoadRect rf), k0_pay31 laneV v32 0#32 1#32 t⟩) :
    iprop(accPts (F := F) d L A ∗ rowPts (F := F) d L row ∗ rndPts (F := F) d L rf ∗ Kept d L q x2 O W R) ⊢
      wpt (F := F) d L (k0_part14 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 laneV t3 h1 v32 hw8 0#32 1#32 t) Q := by
  rw [k0_part14_eq_skeleton]; unfold k0_part14_skel
  have hv : ∀ (g : Fin 2) (k : Fin 16), mRnd.view.readAt (Elt F) (Rect.unit (s := S16384) (k0_off71 v32 t (BitVec.ofNat 32 (16 * g.val))) S16.size (k0_off71_inb L t3 v32 hw8 t h1 g)).toLoadRect rf (ln k) = cell rf (32 * t.val + 16 * g.val + k.val) := by
    intro g k
    exact rnd_load (F := F) k (off71_at t (by omega) (by omega))
  have arr : ∀ pos, (iprop(accPts (F := F) d L A ∗ rowPts (F := F) d L row ∗ rndPts (F := F) d L rf ∗ posPts (F := F) d L pos ∗ xPts (F := F) d L q x2 ∗ semVal (thr d L, SemLoc.dma cc0_scoped1.sem) 0 ∗ Tok (F := F) d L O W ∗ R) : sProp 𝕄)
      ⊢ iprop(rndPts (F := F) d L rf ∗ posPts (F := F) d L pos ∗ rowPts (F := F) d L row ∗ xPts (F := F) d L q x2 ∗ semVal (thr d L, SemLoc.dma cc0_scoped1.sem) 0 ∗ Tok (F := F) d L O W ∗ accPts (F := F) d L A ∗ R) := by
    intro pos
    iintro ⟨a, b, c, e, f, g, h, i⟩
    isplitl [c]; · iexact c
    isplitl [e]; · iexact e
    isplitl [b]; · iexact b
    isplitl [f]; · iexact f
    isplitl [g]; · iexact g
    isplitl [h]; · iexact h
    isplitl [a]; · iexact a
    iexact i
  have arr1 : ∀ pos, (iprop(posPts (F := F) d L pos ∗ rndPts (F := F) d L rf ∗ rowPts (F := F) d L row ∗ xPts (F := F) d L q x2 ∗ semVal (thr d L, SemLoc.dma cc0_scoped1.sem) 0 ∗ Tok (F := F) d L O W ∗ accPts (F := F) d L A ∗ R) : sProp 𝕄)
      ⊢ iprop(posPts (F := F) d L pos ∗ rowPts (F := F) d L row ∗ xPts (F := F) d L q x2 ∗ semVal (thr d L, SemLoc.dma cc0_scoped1.sem) 0 ∗ Tok (F := F) d L O W ∗ rndPts (F := F) d L rf ∗ accPts (F := F) d L A ∗ R) := by
    intro pos
    iintro ⟨e, c, b, f, g, h, a, i⟩
    isplitl [e]; · iexact e
    isplitl [b]; · iexact b
    isplitl [f]; · iexact f
    isplitl [g]; · iexact g
    isplitl [h]; · iexact h
    isplitl [c]; · iexact c
    isplitl [a]; · iexact a
    iexact i
  have arr2 : ∀ pos row', (iprop(posPts (F := F) d L pos ∗ rowPts (F := F) d L row' ∗ xPts (F := F) d L q x2 ∗ semVal (thr d L, SemLoc.dma cc0_scoped1.sem) 0 ∗ Tok (F := F) d L O W ∗ rndPts (F := F) d L rf ∗ accPts (F := F) d L A ∗ R) : sProp 𝕄)
      ⊢ iprop(rndPts (F := F) d L rf ∗ accPts (F := F) d L A ∗ rowPts (F := F) d L row' ∗ Kept d L q x2 O W R) := by
    intro pos row'
    iintro ⟨e, b, f, g, h, c, a, i⟩
    isplitl [c]; · iexact c
    isplitl [a]; · iexact a
    isplitl [b]; · iexact b
    isplitl [e]; · iexists _; iexact e
    isplitl [f]; · iexact f
    isplitl [g]; · iexact g
    isplitl [h]; · iexact h
    iexact i
  have arr3 : ∀ row', (iprop(rndPts (F := F) d L rf ∗ accPts (F := F) d L A ∗ rowPts (F := F) d L row' ∗ Kept d L q x2 O W R) : sProp 𝕄)
      ⊢ iprop(accPts (F := F) d L A ∗ rowPts (F := F) d L row' ∗ rndPts (F := F) d L rf ∗ Kept d L q x2 O W R) := by
    intro row'
    iintro ⟨a, b, c, e⟩
    isplitl [b]; · iexact b
    isplitl [c]; · iexact c
    isplitl [a]; · iexact a
    iexact e
  have key : ∀ pos, iprop(rndPts (F := F) d L rf ∗ posPts (F := F) d L pos ∗ rowPts (F := F) d L row ∗ xPts (F := F) d L q x2 ∗ semVal (thr d L, SemLoc.dma cc0_scoped1.sem) 0 ∗ Tok (F := F) d L O W ∗ accPts (F := F) d L A ∗ R) ⊢
      wpt (F := F) d L (k0_part14_skel L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 laneV t3 h1 v32 hw8 0#32 1#32 t) Q := by
    intro pos
    unfold k0_part14_skel
    refine step_load_rnd ?_
    refine sw ?_
    refine step_load_pos ?_
    refine step_store_pos ?_
    refine sw ?_
    refine step_load_rnd ?_
    refine sw ?_
    refine step_load_pos ?_
    refine step_store_pos ?_
    refine (arr1 _).trans ?_
    have hlo := fun k : Fin 16 => pos_lo (F := F) pos (k0_pay26 (F := F) (mRnd.view.readAt (Elt F) (Rect.unit (s := S16384) (k0_off71 v32 t 0#32) S16.size (k0_off71_inb L t3 v32 hw8 t h1 0)).toLoadRect rf))
      (k0_pay27 (F := F) (mRnd.view.readAt (Elt F) (Rect.unit (s := S16384) (k0_off71 v32 t 16#32) S16.size (k0_off71_inb L t3 v32 hw8 t h1 1)).toLoadRect rf)) k
    have hhi := fun k : Fin 16 => pos_hi (F := F) pos (k0_pay26 (F := F) (mRnd.view.readAt (Elt F) (Rect.unit (s := S16384) (k0_off71 v32 t 0#32) S16.size (k0_off71_inb L t3 v32 hw8 t h1 0)).toLoadRect rf))
      (k0_pay27 (F := F) (mRnd.view.readAt (Elt F) (Rect.unit (s := S16384) (k0_off71 v32 t 16#32) S16.size (k0_off71_inb L t3 v32 hw8 t h1 1)).toLoadRect rf)) k
    have e0 : ∀ k : Fin 16, (k0_pay26 (F := F) (mRnd.view.readAt (Elt F) (Rect.unit (s := S16384) (k0_off71 v32 t 0#32) S16.size (k0_off71_inb L t3 v32 hw8 t h1 0)).toLoadRect rf) (ln k)).toNat = (cell rf (32 * t.val + k.val)).toNat % 8192 :=
      fun k => (and8191 _).trans (congrArg (fun w : BitVec 32 => w.toNat % 8192) (hv 0 k))
    have e1 : ∀ k : Fin 16, (k0_pay27 (F := F) (mRnd.view.readAt (Elt F) (Rect.unit (s := S16384) (k0_off71 v32 t 16#32) S16.size (k0_off71_inb L t3 v32 hw8 t h1 1)).toLoadRect rf) (ln k)).toNat = (cell rf (32 * t.val + (16 + k.val))).toNat % 8192 :=
      fun k => (and8191 _).trans (congrArg (fun w : BitVec 32 => w.toNat % 8192) ((hv 1 k).trans (by rw [Nat.add_assoc]; rfl)))
    have hp : ∀ r, r < 32 → (pcell (posTwo (F := F) pos (k0_pay26 (F := F) (mRnd.view.readAt (Elt F) (Rect.unit (s := S16384) (k0_off71 v32 t 0#32) S16.size (k0_off71_inb L t3 v32 hw8 t h1 0)).toLoadRect rf))
      (k0_pay27 (F := F) (mRnd.view.readAt (Elt F) (Rect.unit (s := S16384) (k0_off71 v32 t 16#32) S16.size (k0_off71_inb L t3 v32 hw8 t h1 1)).toLoadRect rf))) r).toNat = (cell rf (32 * t.val + r)).toNat % 8192 := by
      intro r hr
      by_cases h : r < 16
      · have := hlo ⟨r, h⟩
        rw [this, e0 ⟨r, h⟩]
      · have := hhi ⟨r - 16, by omega⟩
        rw [show 16 + (⟨r - 16, by omega⟩ : Fin 16).val = r from by change 16 + (r - 16) = r; omega] at this
        rw [this, e1 ⟨r - 16, by omega⟩, show 16 + (⟨r - 16, by omega⟩ : Fin 16).val = r from by change 16 + (r - 16) = r; omega]
    refine step_gather (F := F) (fun x => ?_) fun row' hrow => ?_
    · have h := hp (x 0).val (x 0).isLt
      have hx : x = Shape.ofLane (d := S32.size) ⟨(x 0).val % 32, Nat.mod_lt _ (by decide)⟩ := by
        funext a; apply Fin.ext
        match a with
        | ⟨0, _⟩ => exact (Nat.mod_eq_of_lt (x 0).isLt).symm
      rw [hx]
      exact lt_of_eq_of_lt h (Nat.mod_lt _ (by decide))
    refine (arr2 _ _).trans ?_
    refine step_load_rnd ?_
    refine (arr3 _).trans ?_
    refine step_pure (hQ row' ?_)
    intro r c hr hc hc'
    exact (hrow r c hr hc hc').trans (by rw [hp r hr])
  iintro ⟨a, b, c, ⟨%pos, e⟩, f⟩
  iapply (key pos)
  iapply (arr pos)
  isplitl [a]; · iexact a
  isplitl [b]; · iexact b
  isplitl [c]; · iexact c
  isplitl [e]; · iexact e
  iexact f
end Runs

end Cert.Proof
-- ==== Proof.AddA.lean ====
/- The batch loop's first sixteen entries: each run of the printed program's pieces carries the accumulator from one feature to a later one. -/
module

public import proofs.«01_k».proof.Proof.Acc

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- A load from the round's entry list where it stands third. -/
theorem step_load_rnd3 {d : Dev nD} {L : grid0.Coords} {α : Type} {Q : α → sProp 𝕄} {R R₁ R₂ : sProp 𝕄} {f : S16384.Idx → BitVec 32} {r : LoadRect S16384} {hl : mRnd.view.LoadsAt r}
    {k : (r.shape.Idx → BitVec 32) → Prog (TpuEff nD τ sig (Elt F) Λ₀ (.scVector (cV L) (jV L))) α}
    (hk : iprop(R₁ ∗ R₂ ∗ rndPts (F := F) d L f ∗ R) ⊢ wpt (F := F) d L (k (mRnd.view.readAt (Elt F) r f)) Q) :
    iprop(R₁ ∗ R₂ ∗ rndPts (F := F) d L f ∗ R) ⊢ wpt (F := F) d L (Prog.lift (TpuEff.load mRnd r hl) >>= k) Q := by
  iintro ⟨H₁, H₂, H, HR⟩
  iapply (wp_load (defs := defs₀ (F := F)) 𝒱₀ (thr d L) none Set.univ (Q := Q) (m := mRnd) (r := r) (hl := hl) (k := k) (S := Finset.univ) (q := fullShare) (f := f) (Finset.subset_univ _)) $$ H
  iintro H
  iapply hk
  isplitl [H₁]
  · iexact H₁
  isplitl [H₂]
  · iexact H₂
  isplitl [H]
  · iexact H
  · iexact HR

theorem part15_run {d : Dev nD} {L : grid0.Coords} {R : sProp 𝕄} {A : S8x8x1024.Idx → F .f32} {row : S32x129.Idx → F .f32} (k0_t3 : Fin k0_t3_loop.trips) (k0_h1 : k0_cond1 L k0_t3 = 1#1) (v32 : BitVec 32) (v85 : IVec S16 32) (v90 : IVec S16 32) (v96 : IVec S16 32) (v99 : IVec S16 32)
    (hdv : ∀ x, (v90 x).toNat < 1024) (hjv : ∀ x, (v85 x).toNat < 32) (hcb : ∀ x, ((v96) x).toNat ≤ 64)
    {Q : _ → sProp 𝕄} (hQ : iprop(accPts (F := F) d L (accK true v90 (k0_pay32 v32 v99) (rowV row v85 (v96)) A 5) ∗ rowPts (F := F) d L row ∗ R) ⊢ Q ⟨k0_pay32 v32 v99, k0_pay38, 5#32⟩) :
    iprop(accPts (F := F) d L (accK true v90 (k0_pay32 v32 v99) (rowV row v85 (v96)) A 0) ∗ rowPts (F := F) d L row ∗ R) ⊢ wpt (F := F) d L (k0_part15 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 k0_t3 k0_h1 v32 v85 v90 v96 v99) Q := by
  rw [k0_part15_eq_skeleton]; unfold k0_part15_skel
  refine step_assume (fun _ => chkAcc (k := 0) (by decide) (fun _ => ⟨rfl, rfl⟩) hdv) ?_
  refine step_assume (fun _ => chkRow (k := 0) (by decide) hjv hcb (fun _ => rfl)) ?_
  refine step_gather_row ?_
  refine step_feature 0 (fun _ => ⟨rfl, rfl⟩) (rowV_of (by decide) hcb (fun _ => rfl)) ?_
  refine step_assume (fun _ => chkAcc (k := 1) (by decide) (fun _ => ⟨rfl, rfl⟩) hdv) ?_
  refine step_assume (fun _ => chkRow (k := 1) (by decide) hjv hcb (fun _ => rfl)) ?_
  refine step_gather_row ?_
  refine step_feature 1 (fun _ => ⟨rfl, rfl⟩) (rowV_of (by decide) hcb (fun _ => rfl)) ?_
  refine step_assume (fun _ => chkAcc (k := 2) (by decide) (fun _ => ⟨rfl, rfl⟩) hdv) ?_
  refine step_assume (fun _ => chkRow (k := 2) (by decide) hjv hcb (fun _ => rfl)) ?_
  refine step_gather_row ?_
  refine step_feature 2 (fun _ => ⟨rfl, rfl⟩) (rowV_of (by decide) hcb (fun _ => rfl)) ?_
  refine step_assume (fun _ => chkAcc (k := 3) (by decide) (fun _ => ⟨rfl, rfl⟩) hdv) ?_
  refine step_assume (fun _ => chkRow (k := 3) (by decide) hjv hcb (fun _ => rfl)) ?_
  refine step_gather_row ?_
  refine step_feature 3 (fun _ => ⟨rfl, rfl⟩) (rowV_of (by decide) hcb (fun _ => rfl)) ?_
  refine step_assume (fun _ => chkAcc (k := 4) (by decide) (fun _ => ⟨rfl, rfl⟩) hdv) ?_
  refine step_assume (fun _ => chkRow (k := 4) (by decide) hjv hcb (fun _ => rfl)) ?_
  refine step_gather_row ?_
  refine step_feature 4 (fun _ => ⟨rfl, rfl⟩) (rowV_of (by decide) hcb (fun _ => rfl)) ?_
  exact step_pure (hQ )

theorem part16_run {d : Dev nD} {L : grid0.Coords} {R : sProp 𝕄} {A : S8x8x1024.Idx → F .f32} {row : S32x129.Idx → F .f32} (k0_t3 : Fin k0_t3_loop.trips) (k0_h1 : k0_cond1 L k0_t3 = 1#1) (v85 : IVec S16 32) (v90 : IVec S16 32) (v96 : IVec S16 32) (v101 : IVec S16 1)
    (hdv : ∀ x, (v90 x).toNat < 1024) (hjv : ∀ x, (v85 x).toNat < 32) (hcb : ∀ x, ((v96) x).toNat ≤ 64)
    {Q : _ → sProp 𝕄} (hQ : ∀ (k0_hw30 : k0_chk30 L k0_t3 v90 (broadcast S16 1#32) (broadcast S16 2#32)), iprop(accPts (F := F) d L (accK true v90 (v101) (rowV row v85 (v96)) A 10) ∗ rowPts (F := F) d L row ∗ R) ⊢ Q ⟨(broadcast S16 1#32), (broadcast S16 2#32), k0_hw30, k0_pay44 v96⟩) :
    iprop(accPts (F := F) d L (accK true v90 (v101) (rowV row v85 (v96)) A 5) ∗ rowPts (F := F) d L row ∗ R) ⊢ wpt (F := F) d L (k0_part16 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 k0_t3 k0_h1 v85 v90 v96 v101 k0_pay38 5#32) Q := by
  rw [k0_part16_eq_skeleton]; unfold k0_part16_skel
  refine step_assume (fun _ => chkAcc (k := 5) (by decide) (fun _ => ⟨rfl, rfl⟩) hdv) ?_
  refine step_assume (fun _ => chkRow (k := 5) (by decide) hjv hcb (fun _ => rfl)) ?_
  refine step_gather_row ?_
  refine step_feature 5 (fun _ => ⟨rfl, rfl⟩) (rowV_of (by decide) hcb (fun _ => rfl)) ?_
  refine step_assume (fun _ => chkAcc (k := 6) (by decide) (fun _ => ⟨rfl, rfl⟩) hdv) ?_
  refine step_assume (fun _ => chkRow (k := 6) (by decide) hjv hcb (fun _ => rfl)) ?_
  refine step_gather_row ?_
  refine step_feature 6 (fun _ => ⟨rfl, rfl⟩) (rowV_of (by decide) hcb (fun _ => rfl)) ?_
  refine step_assume (fun _ => chkAcc (k := 7) (by decide) (fun _ => ⟨rfl, rfl⟩) hdv) ?_
  refine step_assume (fun _ => chkRow (k := 7) (by decide) hjv hcb (fun _ => rfl)) ?_
  refine step_gather_row ?_
  refine step_feature 7 (fun _ => ⟨rfl, rfl⟩) (rowV_of (by decide) hcb (fun _ => rfl)) ?_
  refine step_assume (fun _ => chkAcc (k := 8) (by decide) (fun _ => ⟨rfl, rfl⟩) hdv) ?_
  refine step_assume (fun _ => chkRow (k := 8) (by decide) hjv hcb (fun _ => rfl)) ?_
  refine step_gather_row ?_
  refine step_feature 8 (fun _ => ⟨rfl, rfl⟩) (rowV_of (by decide) hcb (fun _ => rfl)) ?_
  refine step_assume (fun _ => chkAcc (k := 9) (by decide) (fun _ => ⟨rfl, rfl⟩) hdv) ?_
  refine step_assume (fun _ => chkRow (k := 9) (by decide) hjv hcb (fun _ => rfl)) ?_
  refine step_gather_row ?_
  refine step_feature 9 (fun _ => ⟨rfl, rfl⟩) (rowV_of (by decide) hcb (fun _ => rfl)) ?_
  refine step_assume (fun _ => chkAcc (k := 10) (by decide) (fun _ => ⟨rfl, rfl⟩) hdv) ?_
  exact step_pure (hQ _)

theorem part17_run {d : Dev nD} {L : grid0.Coords} {R : sProp 𝕄} {A : S8x8x1024.Idx → F .f32} {row : S32x129.Idx → F .f32} (k0_t3 : Fin k0_t3_loop.trips) (k0_h1 : k0_cond1 L k0_t3 = 1#1) (v85 : IVec S16 32) (v90 : IVec S16 32) (v96 : IVec S16 32) (v101 : IVec S16 1) (k0_hw30 : k0_chk30 L k0_t3 v90 ((broadcast S16 1#32)) ((broadcast S16 2#32)))
    (hdv : ∀ x, (v90 x).toNat < 1024) (hjv : ∀ x, (v85 x).toNat < 32) (hcb : ∀ x, ((v96) x).toNat ≤ 64)
    {Q : _ → sProp 𝕄} (hQ : iprop(accPts (F := F) d L (accK true v90 (v101) (rowV row v85 (v96)) A 16) ∗ rowPts (F := F) d L row ∗ R) ⊢ Q (k0_pay50)) :
    iprop(accPts (F := F) d L (accK true v90 (v101) (rowV row v85 (v96)) A 10) ∗ rowPts (F := F) d L row ∗ R) ⊢ wpt (F := F) d L (k0_part17 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 k0_t3 k0_h1 v85 v90 v96 v101 (((broadcast S16 1#32))) (((broadcast S16 2#32))) k0_hw30 ((k0_pay44 v96))) Q := by
  rw [k0_part17_eq_skeleton]; unfold k0_part17_skel
  refine step_assume (fun _ => chkRow (k := 10) (by decide) hjv hcb (fun _ => rfl)) ?_
  refine step_gather_row ?_
  refine step_feature 10 (fun _ => ⟨rfl, rfl⟩) (rowV_of (by decide) hcb (fun _ => rfl)) ?_
  refine step_assume (fun _ => chkAcc (k := 11) (by decide) (fun _ => ⟨rfl, rfl⟩) hdv) ?_
  refine step_assume (fun _ => chkRow (k := 11) (by decide) hjv hcb (fun _ => rfl)) ?_
  refine step_gather_row ?_
  refine step_feature 11 (fun _ => ⟨rfl, rfl⟩) (rowV_of (by decide) hcb (fun _ => rfl)) ?_
  refine step_assume (fun _ => chkAcc (k := 12) (by decide) (fun _ => ⟨rfl, rfl⟩) hdv) ?_
  refine step_assume (fun _ => chkRow (k := 12) (by decide) hjv hcb (fun _ => rfl)) ?_
  refine step_gather_row ?_
  refine step_feature 12 (fun _ => ⟨rfl, rfl⟩) (rowV_of (by decide) hcb (fun _ => rfl)) ?_
  refine step_assume (fun _ => chkAcc (k := 13) (by decide) (fun _ => ⟨rfl, rfl⟩) hdv) ?_
  refine step_assume (fun _ => chkRow (k := 13) (by decide) hjv hcb (fun _ => rfl)) ?_
  refine step_gather_row ?_
  refine step_feature 13 (fun _ => ⟨rfl, rfl⟩) (rowV_of (by decide) hcb (fun _ => rfl)) ?_
  refine step_assume (fun _ => chkAcc (k := 14) (by decide) (fun _ => ⟨rfl, rfl⟩) hdv) ?_
  refine step_assume (fun _ => chkRow (k := 14) (by decide) hjv hcb (fun _ => rfl)) ?_
  refine step_gather_row ?_
  refine step_feature 14 (fun _ => ⟨rfl, rfl⟩) (rowV_of (by decide) hcb (fun _ => rfl)) ?_
  refine step_assume (fun _ => chkAcc (k := 15) (by decide) (fun _ => ⟨rfl, rfl⟩) hdv) ?_
  refine step_assume (fun _ => chkRow (k := 15) (by decide) hjv hcb (fun _ => rfl)) ?_
  refine step_gather_row ?_
  refine step_feature 15 (fun _ => ⟨rfl, rfl⟩) (rowV_of (by decide) hcb (fun _ => rfl)) ?_
  exact step_pure (hQ )

theorem part18_run {d : Dev nD} {L : grid0.Coords} {R : sProp 𝕄} {A : S8x8x1024.Idx → F .f32} {row : S32x129.Idx → F .f32} (k0_t3 : Fin k0_t3_loop.trips) (k0_h1 : k0_cond1 L k0_t3 = 1#1) (v85 : IVec S16 32) (v90 : IVec S16 32) (v96 : IVec S16 32) (v101 : IVec S16 1)
    (hdv : ∀ x, (v90 x).toNat < 1024) (hjv : ∀ x, (v85 x).toNat < 32) (hcb : ∀ x, ((v96) x).toNat ≤ 64)
    {Q : _ → sProp 𝕄} (hQ : ∀ (k0_hw52 : k0_chk52 L k0_t3 v90 (broadcast S16 2#32) (broadcast S16 5#32)), iprop(accPts (F := F) d L (accK true v90 (v101) (rowV row v85 (v96)) A 21) ∗ rowPts (F := F) d L row ∗ R) ⊢ Q ⟨(broadcast S16 2#32), (broadcast S16 5#32), k0_hw52, k0_pay56⟩) :
    iprop(accPts (F := F) d L (accK true v90 (v101) (rowV row v85 (v96)) A 16) ∗ rowPts (F := F) d L row ∗ R) ⊢ wpt (F := F) d L (k0_part18 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 k0_t3 k0_h1 v85 v90 v96 v101 k0_pay50) Q := by
  rw [k0_part18_eq_skeleton]; unfold k0_part18_skel
  refine step_assume (fun _ => chkAcc (k := 16) (by decide) (fun _ => ⟨rfl, rfl⟩) hdv) ?_
  refine step_assume (fun _ => chkRow (k := 16) (by decide) hjv hcb (fun _ => rfl)) ?_
  refine step_gather_row ?_
  refine step_feature 16 (fun _ => ⟨rfl, rfl⟩) (rowV_of (by decide) hcb (fun _ => rfl)) ?_
  refine step_assume (fun _ => chkAcc (k := 17) (by decide) (fun _ => ⟨rfl, rfl⟩) hdv) ?_
  refine step_assume (fun _ => chkRow (k := 17) (by decide) hjv hcb (fun _ => rfl)) ?_
  refine step_gather_row ?_
  refine step_feature 17 (fun _ => ⟨rfl, rfl⟩) (rowV_of (by decide) hcb (fun _ => rfl)) ?_
  refine step_assume (fun _ => chkAcc (k := 18) (by decide) (fun _ => ⟨rfl, rfl⟩) hdv) ?_
  refine step_assume (fun _ => chkRow (k := 18) (by decide) hjv hcb (fun _ => rfl)) ?_
  refine step_gather_row ?_
  refine step_feature 18 (fun _ => ⟨rfl, rfl⟩) (rowV_of (by decide) hcb (fun _ => rfl)) ?_
  refine step_assume (fun _ => chkAcc (k := 19) (by decide) (fun _ => ⟨rfl, rfl⟩) hdv) ?_
  refine step_assume (fun _ => chkRow (k := 19) (by decide) hjv hcb (fun _ => rfl)) ?_
  refine step_gather_row ?_
  refine step_feature 19 (fun _ => ⟨rfl, rfl⟩) (rowV_of (by decide) hcb (fun _ => rfl)) ?_
  refine step_assume (fun _ => chkAcc (k := 20) (by decide) (fun _ => ⟨rfl, rfl⟩) hdv) ?_
  refine step_assume (fun _ => chkRow (k := 20) (by decide) hjv hcb (fun _ => rfl)) ?_
  refine step_gather_row ?_
  refine step_feature 20 (fun _ => ⟨rfl, rfl⟩) (rowV_of (by decide) hcb (fun _ => rfl)) ?_
  refine step_assume (fun _ => chkAcc (k := 21) (by decide) (fun _ => ⟨rfl, rfl⟩) hdv) ?_
  exact step_pure (hQ _)

theorem part19_run {d : Dev nD} {L : grid0.Coords} {R : sProp 𝕄} {A : S8x8x1024.Idx → F .f32} {row : S32x129.Idx → F .f32} (k0_t3 : Fin k0_t3_loop.trips) (k0_h1 : k0_cond1 L k0_t3 = 1#1) (v85 : IVec S16 32) (v90 : IVec S16 32) (v96 : IVec S16 32) (v101 : IVec S16 1) (k0_hw52 : k0_chk52 L k0_t3 v90 ((broadcast S16 2#32)) ((broadcast S16 5#32)))
    (hdv : ∀ x, (v90 x).toNat < 1024) (hjv : ∀ x, (v85 x).toNat < 32) (hcb : ∀ x, ((v96) x).toNat ≤ 64)
    {Q : _ → sProp 𝕄} (hQ : iprop(accPts (F := F) d L (accK true v90 (v101) (rowV row v85 (v96)) A 27) ∗ rowPts (F := F) d L row ∗ R) ⊢ Q (3#32)) :
    iprop(accPts (F := F) d L (accK true v90 (v101) (rowV row v85 (v96)) A 21) ∗ rowPts (F := F) d L row ∗ R) ⊢ wpt (F := F) d L (k0_part19 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 k0_t3 k0_h1 v85 v90 v96 v101 (((broadcast S16 2#32))) (((broadcast S16 5#32))) k0_hw52 k0_pay56) Q := by
  rw [k0_part19_eq_skeleton]; unfold k0_part19_skel
  refine step_assume (fun _ => chkRow (k := 21) (by decide) hjv hcb (fun _ => rfl)) ?_
  refine step_gather_row ?_
  refine step_feature 21 (fun _ => ⟨rfl, rfl⟩) (rowV_of (by decide) hcb (fun _ => rfl)) ?_
  refine step_assume (fun _ => chkAcc (k := 22) (by decide) (fun _ => ⟨rfl, rfl⟩) hdv) ?_
  refine step_assume (fun _ => chkRow (k := 22) (by decide) hjv hcb (fun _ => rfl)) ?_
  refine step_gather_row ?_
  refine step_feature 22 (fun _ => ⟨rfl, rfl⟩) (rowV_of (by decide) hcb (fun _ => rfl)) ?_
  refine step_assume (fun _ => chkAcc (k := 23) (by decide) (fun _ => ⟨rfl, rfl⟩) hdv) ?_
  refine step_assume (fun _ => chkRow (k := 23) (by decide) hjv hcb (fun _ => rfl)) ?_
  refine step_gather_row ?_
  refine step_feature 23 (fun _ => ⟨rfl, rfl⟩) (rowV_of (by decide) hcb (fun _ => rfl)) ?_
  refine step_assume (fun _ => chkAcc (k := 24) (by decide) (fun _ => ⟨rfl, rfl⟩) hdv) ?_
  refine step_assume (fun _ => chkRow (k := 24) (by decide) hjv hcb (fun _ => rfl)) ?_
  refine step_gather_row ?_
  refine step_feature 24 (fun _ => ⟨rfl, rfl⟩) (rowV_of (by decide) hcb (fun _ => rfl)) ?_
  refine step_assume (fun _ => chkAcc (k := 25) (by decide) (fun _ => ⟨rfl, rfl⟩) hdv) ?_
  refine step_assume (fun _ => chkRow (k := 25) (by decide) hjv hcb (fun _ => rfl)) ?_
  refine step_gather_row ?_
  refine step_feature 25 (fun _ => ⟨rfl, rfl⟩) (rowV_of (by decide) hcb (fun _ => rfl)) ?_
  refine step_assume (fun _ => chkAcc (k := 26) (by decide) (fun _ => ⟨rfl, rfl⟩) hdv) ?_
  refine step_assume (fun _ => chkRow (k := 26) (by decide) hjv hcb (fun _ => rfl)) ?_
  refine step_gather_row ?_
  refine step_feature 26 (fun _ => ⟨rfl, rfl⟩) (rowV_of (by decide) hcb (fun _ => rfl)) ?_
  exact step_pure (hQ )

theorem part20_run {d : Dev nD} {L : grid0.Coords} {R : sProp 𝕄} {A : S8x8x1024.Idx → F .f32} {row : S32x129.Idx → F .f32} (k0_t3 : Fin k0_t3_loop.trips) (k0_h1 : k0_cond1 L k0_t3 = 1#1) (v85 : IVec S16 32) (v90 : IVec S16 32) (v96 : IVec S16 32) (v101 : IVec S16 1)
    (hdv : ∀ x, (v90 x).toNat < 1024) (hjv : ∀ x, (v85 x).toNat < 32) (hcb : ∀ x, ((v96) x).toNat ≤ 64)
    {Q : _ → sProp 𝕄} (hQ : ∀ (k0_hw74 : k0_chk74 L k0_t3 v90 (broadcast S16 4#32) (broadcast S16 0#32)), iprop(accPts (F := F) d L (accK true v90 (v101) (rowV row v85 (v96)) A 32) ∗ rowPts (F := F) d L row ∗ R) ⊢ Q ⟨(broadcast S16 4#32), (broadcast S16 0#32), k0_hw74, 32#32⟩) :
    iprop(accPts (F := F) d L (accK true v90 (v101) (rowV row v85 (v96)) A 27) ∗ rowPts (F := F) d L row ∗ R) ⊢ wpt (F := F) d L (k0_part20 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 k0_t3 k0_h1 v85 v90 v96 v101 3#32) Q := by
  rw [k0_part20_eq_skeleton]; unfold k0_part20_skel
  refine step_assume (fun _ => chkAcc (k := 27) (by decide) (fun _ => ⟨rfl, rfl⟩) hdv) ?_
  refine step_assume (fun _ => chkRow (k := 27) (by decide) hjv hcb (fun _ => rfl)) ?_
  refine step_gather_row ?_
  refine step_feature 27 (fun _ => ⟨rfl, rfl⟩) (rowV_of (by decide) hcb (fun _ => rfl)) ?_
  refine step_assume (fun _ => chkAcc (k := 28) (by decide) (fun _ => ⟨rfl, rfl⟩) hdv) ?_
  refine step_assume (fun _ => chkRow (k := 28) (by decide) hjv hcb (fun _ => rfl)) ?_
  refine step_gather_row ?_
  refine step_feature 28 (fun _ => ⟨rfl, rfl⟩) (rowV_of (by decide) hcb (fun _ => rfl)) ?_
  refine step_assume (fun _ => chkAcc (k := 29) (by decide) (fun _ => ⟨rfl, rfl⟩) hdv) ?_
  refine step_assume (fun _ => chkRow (k := 29) (by decide) hjv hcb (fun _ => rfl)) ?_
  refine step_gather_row ?_
  refine step_feature 29 (fun _ => ⟨rfl, rfl⟩) (rowV_of (by decide) hcb (fun _ => rfl)) ?_
  refine step_assume (fun _ => chkAcc (k := 30) (by decide) (fun _ => ⟨rfl, rfl⟩) hdv) ?_
  refine step_assume (fun _ => chkRow (k := 30) (by decide) hjv hcb (fun _ => rfl)) ?_
  refine step_gather_row ?_
  refine step_feature 30 (fun _ => ⟨rfl, rfl⟩) (rowV_of (by decide) hcb (fun _ => rfl)) ?_
  refine step_assume (fun _ => chkAcc (k := 31) (by decide) (fun _ => ⟨rfl, rfl⟩) hdv) ?_
  refine step_assume (fun _ => chkRow (k := 31) (by decide) hjv hcb (fun _ => rfl)) ?_
  refine step_gather_row ?_
  refine step_feature 31 (fun _ => ⟨rfl, rfl⟩) (rowV_of (by decide) hcb (fun _ => rfl)) ?_
  refine step_assume (fun _ => chkAcc (k := 32) (by decide) (fun _ => ⟨rfl, rfl⟩) hdv) ?_
  exact step_pure (hQ _)

theorem part21_run {d : Dev nD} {L : grid0.Coords} {R : sProp 𝕄} {A : S8x8x1024.Idx → F .f32} {row : S32x129.Idx → F .f32} (k0_t3 : Fin k0_t3_loop.trips) (k0_h1 : k0_cond1 L k0_t3 = 1#1) (v85 : IVec S16 32) (v90 : IVec S16 32) (v96 : IVec S16 32) (v101 : IVec S16 1) (k0_hw74 : k0_chk74 L k0_t3 v90 ((broadcast S16 4#32)) ((broadcast S16 0#32)))
    (hdv : ∀ x, (v90 x).toNat < 1024) (hjv : ∀ x, (v85 x).toNat < 32) (hcb : ∀ x, ((v96) x).toNat ≤ 64)
    {Q : _ → sProp 𝕄} (hQ : iprop(accPts (F := F) d L (accK true v90 (v101) (rowV row v85 (v96)) A 38) ∗ rowPts (F := F) d L row ∗ R) ⊢ Q ⟨⟩) :
    iprop(accPts (F := F) d L (accK true v90 (v101) (rowV row v85 (v96)) A 32) ∗ rowPts (F := F) d L row ∗ R) ⊢ wpt (F := F) d L (k0_part21 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 k0_t3 k0_h1 v85 v90 v96 v101 (((broadcast S16 4#32))) (((broadcast S16 0#32))) k0_hw74 32#32) Q := by
  rw [k0_part21_eq_skeleton]; unfold k0_part21_skel
  refine step_assume (fun _ => chkRow (k := 32) (by decide) hjv hcb (fun _ => rfl)) ?_
  refine step_gather_row ?_
  refine step_feature 32 (fun _ => ⟨rfl, rfl⟩) (rowV_of (by decide) hcb (fun _ => rfl)) ?_
  refine step_assume (fun _ => chkAcc (k := 33) (by decide) (fun _ => ⟨rfl, rfl⟩) hdv) ?_
  refine step_assume (fun _ => chkRow (k := 33) (by decide) hjv hcb (fun _ => rfl)) ?_
  refine step_gather_row ?_
  refine step_feature 33 (fun _ => ⟨rfl, rfl⟩) (rowV_of (by decide) hcb (fun _ => rfl)) ?_
  refine step_assume (fun _ => chkAcc (k := 34) (by decide) (fun _ => ⟨rfl, rfl⟩) hdv) ?_
  refine step_assume (fun _ => chkRow (k := 34) (by decide) hjv hcb (fun _ => rfl)) ?_
  refine step_gather_row ?_
  refine step_feature 34 (fun _ => ⟨rfl, rfl⟩) (rowV_of (by decide) hcb (fun _ => rfl)) ?_
  refine step_assume (fun _ => chkAcc (k := 35) (by decide) (fun _ => ⟨rfl, rfl⟩) hdv) ?_
  refine step_assume (fun _ => chkRow (k := 35) (by decide) hjv hcb (fun _ => rfl)) ?_
  refine step_gather_row ?_
  refine step_feature 35 (fun _ => ⟨rfl, rfl⟩) (rowV_of (by decide) hcb (fun _ => rfl)) ?_
  refine step_assume (fun _ => chkAcc (k := 36) (by decide) (fun _ => ⟨rfl, rfl⟩) hdv) ?_
  refine step_assume (fun _ => chkRow (k := 36) (by decide) hjv hcb (fun _ => rfl)) ?_
  refine step_gather_row ?_
  refine step_feature 36 (fun _ => ⟨rfl, rfl⟩) (rowV_of (by decide) hcb (fun _ => rfl)) ?_
  refine step_assume (fun _ => chkAcc (k := 37) (by decide) (fun _ => ⟨rfl, rfl⟩) hdv) ?_
  refine step_assume (fun _ => chkRow (k := 37) (by decide) hjv hcb (fun _ => rfl)) ?_
  refine step_gather_row ?_
  refine step_feature 37 (fun _ => ⟨rfl, rfl⟩) (rowV_of (by decide) hcb (fun _ => rfl)) ?_
  exact step_pure (hQ )

theorem part22_run {d : Dev nD} {L : grid0.Coords} {R : sProp 𝕄} {A : S8x8x1024.Idx → F .f32} {row : S32x129.Idx → F .f32} (k0_t3 : Fin k0_t3_loop.trips) (k0_h1 : k0_cond1 L k0_t3 = 1#1) (v85 : IVec S16 32) (v90 : IVec S16 32) (v96 : IVec S16 32) (v101 : IVec S16 1)
    (hdv : ∀ x, (v90 x).toNat < 1024) (hjv : ∀ x, (v85 x).toNat < 32) (hcb : ∀ x, ((v96) x).toNat ≤ 64)
    {Q : _ → sProp 𝕄} (hQ : ∀ (k0_hw96 : k0_chk96 L k0_t3 v90 (broadcast S16 5#32) (broadcast S16 3#32)), iprop(accPts (F := F) d L (accK true v90 (v101) (rowV row v85 (v96)) A 43) ∗ rowPts (F := F) d L row ∗ R) ⊢ Q ⟨(broadcast S16 5#32), (broadcast S16 3#32), k0_hw96⟩) :
    iprop(accPts (F := F) d L (accK true v90 (v101) (rowV row v85 (v96)) A 38) ∗ rowPts (F := F) d L row ∗ R) ⊢ wpt (F := F) d L (k0_part22 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 k0_t3 k0_h1 v85 v90 v96 v101) Q := by
  rw [k0_part22_eq_skeleton]; unfold k0_part22_skel
  refine step_assume (fun _ => chkAcc (k := 38) (by decide) (fun _ => ⟨rfl, rfl⟩) hdv) ?_
  refine step_assume (fun _ => chkRow (k := 38) (by decide) hjv hcb (fun _ => rfl)) ?_
  refine step_gather_row ?_
  refine step_feature 38 (fun _ => ⟨rfl, rfl⟩) (rowV_of (by decide) hcb (fun _ => rfl)) ?_
  refine step_assume (fun _ => chkAcc (k := 39) (by decide) (fun _ => ⟨rfl, rfl⟩) hdv) ?_
  refine step_assume (fun _ => chkRow (k := 39) (by decide) hjv hcb (fun _ => rfl)) ?_
  refine step_gather_row ?_
  refine step_feature 39 (fun _ => ⟨rfl, rfl⟩) (rowV_of (by decide) hcb (fun _ => rfl)) ?_
  refine step_assume (fun _ => chkAcc (k := 40) (by decide) (fun _ => ⟨rfl, rfl⟩) hdv) ?_
  refine step_assume (fun _ => chkRow (k := 40) (by decide) hjv hcb (fun _ => rfl)) ?_
  refine step_gather_row ?_
  refine step_feature 40 (fun _ => ⟨rfl, rfl⟩) (rowV_of (by decide) hcb (fun _ => rfl)) ?_
  refine step_assume (fun _ => chkAcc (k := 41) (by decide) (fun _ => ⟨rfl, rfl⟩) hdv) ?_
  refine step_assume (fun _ => chkRow (k := 41) (by decide) hjv hcb (fun _ => rfl)) ?_
  refine step_gather_row ?_
  refine step_feature 41 (fun _ => ⟨rfl, rfl⟩) (rowV_of (by decide) hcb (fun _ => rfl)) ?_
  refine step_assume (fun _ => chkAcc (k := 42) (by decide) (fun _ => ⟨rfl, rfl⟩) hdv) ?_
  refine step_assume (fun _ => chkRow (k := 42) (by decide) hjv hcb (fun _ => rfl)) ?_
  refine step_gather_row ?_
  refine step_feature 42 (fun _ => ⟨rfl, rfl⟩) (rowV_of (by decide) hcb (fun _ => rfl)) ?_
  refine step_assume (fun _ => chkAcc (k := 43) (by decide) (fun _ => ⟨rfl, rfl⟩) hdv) ?_
  exact step_pure (hQ _)

theorem part23_run {d : Dev nD} {L : grid0.Coords} {R : sProp 𝕄} {A : S8x8x1024.Idx → F .f32} {row : S32x129.Idx → F .f32} (k0_t3 : Fin k0_t3_loop.trips) (k0_h1 : k0_cond1 L k0_t3 = 1#1) (v85 : IVec S16 32) (v90 : IVec S16 32) (v96 : IVec S16 32) (v101 : IVec S16 1) (k0_hw96 : k0_chk96 L k0_t3 v90 ((broadcast S16 5#32)) ((broadcast S16 3#32)))
    (hdv : ∀ x, (v90 x).toNat < 1024) (hjv : ∀ x, (v85 x).toNat < 32) (hcb : ∀ x, ((v96) x).toNat ≤ 64)
    {Q : _ → sProp 𝕄} (hQ : ∀ (k0_hw106 : k0_chk106 L k0_t3 v90 (broadcast S16 6#32) (broadcast S16 0#32)) (v346 : Vec F S16 .f32) (_ : ∀ x, v346 x = rowV row v85 v96 x 48), iprop(accPts (F := F) d L (accK true v90 (v101) (rowV row v85 (v96)) A 48) ∗ rowPts (F := F) d L row ∗ R) ⊢ Q ⟨(broadcast S16 6#32), (broadcast S16 0#32), k0_hw106, v346⟩) :
    iprop(accPts (F := F) d L (accK true v90 (v101) (rowV row v85 (v96)) A 43) ∗ rowPts (F := F) d L row ∗ R) ⊢ wpt (F := F) d L (k0_part23 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 k0_t3 k0_h1 v85 v90 v96 v101 (((broadcast S16 5#32))) (((broadcast S16 3#32))) k0_hw96) Q := by
  rw [k0_part23_eq_skeleton]; unfold k0_part23_skel
  refine step_assume (fun _ => chkRow (k := 43) (by decide) hjv hcb (fun _ => rfl)) ?_
  refine step_gather_row ?_
  refine step_feature 43 (fun _ => ⟨rfl, rfl⟩) (rowV_of (by decide) hcb (fun _ => rfl)) ?_
  refine step_assume (fun _ => chkAcc (k := 44) (by decide) (fun _ => ⟨rfl, rfl⟩) hdv) ?_
  refine step_assume (fun _ => chkRow (k := 44) (by decide) hjv hcb (fun _ => rfl)) ?_
  refine step_gather_row ?_
  refine step_feature 44 (fun _ => ⟨rfl, rfl⟩) (rowV_of (by decide) hcb (fun _ => rfl)) ?_
  refine step_assume (fun _ => chkAcc (k := 45) (by decide) (fun _ => ⟨rfl, rfl⟩) hdv) ?_
  refine step_assume (fun _ => chkRow (k := 45) (by decide) hjv hcb (fun _ => rfl)) ?_
  refine step_gather_row ?_
  refine step_feature 45 (fun _ => ⟨rfl, rfl⟩) (rowV_of (by decide) hcb (fun _ => rfl)) ?_
  refine step_assume (fun _ => chkAcc (k := 46) (by decide) (fun _ => ⟨rfl, rfl⟩) hdv) ?_
  refine step_assume (fun _ => chkRow (k := 46) (by decide) hjv hcb (fun _ => rfl)) ?_
  refine step_gather_row ?_
  refine step_feature 46 (fun _ => ⟨rfl, rfl⟩) (rowV_of (by decide) hcb (fun _ => rfl)) ?_
  refine step_assume (fun _ => chkAcc (k := 47) (by decide) (fun _ => ⟨rfl, rfl⟩) hdv) ?_
  refine step_assume (fun _ => chkRow (k := 47) (by decide) hjv hcb (fun _ => rfl)) ?_
  refine step_gather_row ?_
  refine step_feature 47 (fun _ => ⟨rfl, rfl⟩) (rowV_of (by decide) hcb (fun _ => rfl)) ?_
  refine step_assume (fun _ => chkAcc (k := 48) (by decide) (fun _ => ⟨rfl, rfl⟩) hdv) ?_
  refine step_assume (fun _ => chkRow (k := 48) (by decide) hjv hcb (fun _ => rfl)) ?_
  refine step_gather_row ?_
  exact step_pure (hQ _ _ (rowV_of (by decide) hcb (fun _ => rfl)))

theorem part24_run {d : Dev nD} {L : grid0.Coords} {R : sProp 𝕄} {A : S8x8x1024.Idx → F .f32} {row : S32x129.Idx → F .f32} (k0_t3 : Fin k0_t3_loop.trips) (k0_h1 : k0_cond1 L k0_t3 = 1#1) (v85 : IVec S16 32) (v90 : IVec S16 32) (v96 : IVec S16 32) (v101 : IVec S16 1) (k0_hw106 : k0_chk106 L k0_t3 v90 ((broadcast S16 6#32)) ((broadcast S16 0#32))) (v346 : Vec F S16 .f32)
    (hdv : ∀ x, (v90 x).toNat < 1024) (hjv : ∀ x, (v85 x).toNat < 32) (hcb : ∀ x, ((v96) x).toNat ≤ 64) (hv346 : ∀ x, v346 x = rowV row v85 (v96) x 48)
    {Q : _ → sProp 𝕄} (hQ : iprop(accPts (F := F) d L (accK true v90 (v101) (rowV row v85 (v96)) A 54) ∗ rowPts (F := F) d L row ∗ R) ⊢ Q ⟨k0_pay89, k0_pay90⟩) :
    iprop(accPts (F := F) d L (accK true v90 (v101) (rowV row v85 (v96)) A 48) ∗ rowPts (F := F) d L row ∗ R) ⊢ wpt (F := F) d L (k0_part24 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 k0_t3 k0_h1 v85 v90 v96 v101 (((broadcast S16 6#32))) (((broadcast S16 0#32))) k0_hw106 v346) Q := by
  rw [k0_part24_eq_skeleton]; unfold k0_part24_skel
  refine step_feature 48 (fun _ => ⟨rfl, rfl⟩) (hv346) ?_
  refine step_assume (fun _ => chkAcc (k := 49) (by decide) (fun _ => ⟨rfl, rfl⟩) hdv) ?_
  refine step_assume (fun _ => chkRow (k := 49) (by decide) hjv hcb (fun _ => rfl)) ?_
  refine step_gather_row ?_
  refine step_feature 49 (fun _ => ⟨rfl, rfl⟩) (rowV_of (by decide) hcb (fun _ => rfl)) ?_
  refine step_assume (fun _ => chkAcc (k := 50) (by decide) (fun _ => ⟨rfl, rfl⟩) hdv) ?_
  refine step_assume (fun _ => chkRow (k := 50) (by decide) hjv hcb (fun _ => rfl)) ?_
  refine step_gather_row ?_
  refine step_feature 50 (fun _ => ⟨rfl, rfl⟩) (rowV_of (by decide) hcb (fun _ => rfl)) ?_
  refine step_assume (fun _ => chkAcc (k := 51) (by decide) (fun _ => ⟨rfl, rfl⟩) hdv) ?_
  refine step_assume (fun _ => chkRow (k := 51) (by decide) hjv hcb (fun _ => rfl)) ?_
  refine step_gather_row ?_
  refine step_feature 51 (fun _ => ⟨rfl, rfl⟩) (rowV_of (by decide) hcb (fun _ => rfl)) ?_
  refine step_assume (fun _ => chkAcc (k := 52) (by decide) (fun _ => ⟨rfl, rfl⟩) hdv) ?_
  refine step_assume (fun _ => chkRow (k := 52) (by decide) hjv hcb (fun _ => rfl)) ?_
  refine step_gather_row ?_
  refine step_feature 52 (fun _ => ⟨rfl, rfl⟩) (rowV_of (by decide) hcb (fun _ => rfl)) ?_
  refine step_assume (fun _ => chkAcc (k := 53) (by decide) (fun _ => ⟨rfl, rfl⟩) hdv) ?_
  refine step_assume (fun _ => chkRow (k := 53) (by decide) hjv hcb (fun _ => rfl)) ?_
  refine step_gather_row ?_
  refine step_feature 53 (fun _ => ⟨rfl, rfl⟩) (rowV_of (by decide) hcb (fun _ => rfl)) ?_
  exact step_pure (hQ )

theorem part25_run {d : Dev nD} {L : grid0.Coords} {R : sProp 𝕄} {A : S8x8x1024.Idx → F .f32} {row : S32x129.Idx → F .f32} (k0_t3 : Fin k0_t3_loop.trips) (k0_h1 : k0_cond1 L k0_t3 = 1#1) (v85 : IVec S16 32) (v90 : IVec S16 32) (v96 : IVec S16 32) (v101 : IVec S16 1)
    (hdv : ∀ x, (v90 x).toNat < 1024) (hjv : ∀ x, (v85 x).toNat < 32) (hcb : ∀ x, ((v96) x).toNat ≤ 64)
    {Q : _ → sProp 𝕄} (hQ : ∀ (k0_hw128 : k0_chk128 L k0_t3 v90 (broadcast S16 7#32) (broadcast S16 3#32)) (k0_hw127 : k0_chk127 L k0_t3 v85 (k0_pay96 v96)), iprop(accPts (F := F) d L (accK true v90 (v101) (rowV row v85 (v96)) A 59) ∗ rowPts (F := F) d L row ∗ R) ⊢ Q ⟨(broadcast S16 7#32), (broadcast S16 3#32), k0_hw128, (k0_pay96 v96), k0_hw127⟩) :
    iprop(accPts (F := F) d L (accK true v90 (v101) (rowV row v85 (v96)) A 54) ∗ rowPts (F := F) d L row ∗ R) ⊢ wpt (F := F) d L (k0_part25 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 k0_t3 k0_h1 v85 v90 v96 v101 k0_pay89 k0_pay90) Q := by
  rw [k0_part25_eq_skeleton]; unfold k0_part25_skel
  refine step_assume (fun _ => chkAcc (k := 54) (by decide) (fun _ => ⟨rfl, rfl⟩) hdv) ?_
  refine step_assume (fun _ => chkRow (k := 54) (by decide) hjv hcb (fun _ => rfl)) ?_
  refine step_gather_row ?_
  refine step_feature 54 (fun _ => ⟨rfl, rfl⟩) (rowV_of (by decide) hcb (fun _ => rfl)) ?_
  refine step_assume (fun _ => chkAcc (k := 55) (by decide) (fun _ => ⟨rfl, rfl⟩) hdv) ?_
  refine step_assume (fun _ => chkRow (k := 55) (by decide) hjv hcb (fun _ => rfl)) ?_
  refine step_gather_row ?_
  refine step_feature 55 (fun _ => ⟨rfl, rfl⟩) (rowV_of (by decide) hcb (fun _ => rfl)) ?_
  refine step_assume (fun _ => chkAcc (k := 56) (by decide) (fun _ => ⟨rfl, rfl⟩) hdv) ?_
  refine step_assume (fun _ => chkRow (k := 56) (by decide) hjv hcb (fun _ => rfl)) ?_
  refine step_gather_row ?_
  refine step_feature 56 (fun _ => ⟨rfl, rfl⟩) (rowV_of (by decide) hcb (fun _ => rfl)) ?_
  refine step_assume (fun _ => chkAcc (k := 57) (by decide) (fun _ => ⟨rfl, rfl⟩) hdv) ?_
  refine step_assume (fun _ => chkRow (k := 57) (by decide) hjv hcb (fun _ => rfl)) ?_
  refine step_gather_row ?_
  refine step_feature 57 (fun _ => ⟨rfl, rfl⟩) (rowV_of (by decide) hcb (fun _ => rfl)) ?_
  refine step_assume (fun _ => chkAcc (k := 58) (by decide) (fun _ => ⟨rfl, rfl⟩) hdv) ?_
  refine step_assume (fun _ => chkRow (k := 58) (by decide) hjv hcb (fun _ => rfl)) ?_
  refine step_gather_row ?_
  refine step_feature 58 (fun _ => ⟨rfl, rfl⟩) (rowV_of (by decide) hcb (fun _ => rfl)) ?_
  refine step_assume (fun _ => chkAcc (k := 59) (by decide) (fun _ => ⟨rfl, rfl⟩) hdv) ?_
  refine step_assume (fun _ => chkRow (k := 59) (by decide) hjv hcb (fun _ => rfl)) ?_
  exact step_pure (hQ _ _)

theorem part26_run {d : Dev nD} {L : grid0.Coords} {R : sProp 𝕄} {A : S8x8x1024.Idx → F .f32} {row : S32x129.Idx → F .f32} {rf : S16384.Idx → BitVec 32} (v2 : IVec S16 32) (k0_t3 : Fin k0_t3_loop.trips) (k0_h1 : k0_cond1 L k0_t3 = 1#1) (v32 : BitVec 32) (k0_hw8 : k0_chk8 L k0_t3 v32) (k0_t6 : Fin (k0_t6_loop v32).trips) (v71 : BitVec 32) (v85 : IVec S16 32) (v90 : IVec S16 32) (v96 : IVec S16 32) (v101 : IVec S16 1) (k0_hw128 : k0_chk128 L k0_t3 v90 ((broadcast S16 7#32)) ((broadcast S16 3#32))) (k0_hw127 : k0_chk127 L k0_t3 v85 ((k0_pay96 v96)))
    (hdv : ∀ x, (v90 x).toNat < 1024) (hjv : ∀ x, (v85 x).toNat < 32) (hcb : ∀ x, ((v96) x).toNat ≤ 64)
    {Q : _ → sProp 𝕄} (hQ : iprop(accPts (F := F) d L (accK true v90 (v101) (rowV row v85 (v96)) A 64) ∗ rowPts (F := F) d L row ∗ rndPts (F := F) d L rf ∗ R) ⊢ Q ⟨k0_pay101 v2, k0_pay102 (mRnd.view.readAt (Elt F) (Rect.unit (s := S16384) (k0_off72 v32 k0_t6) S16.size (k0_off72_inb L k0_t3 v32 k0_hw8 k0_t6 k0_h1)).toLoadRect rf), k0_pay103 (mRnd.view.readAt (Elt F) (Rect.unit (s := S16384) (k0_off72 v32 k0_t6) S16.size (k0_off72_inb L k0_t3 v32 k0_hw8 k0_t6 k0_h1)).toLoadRect rf), 1#32⟩) :
    iprop(accPts (F := F) d L (accK true v90 (v101) (rowV row v85 (v96)) A 59) ∗ rowPts (F := F) d L row ∗ rndPts (F := F) d L rf ∗ R) ⊢ wpt (F := F) d L (k0_part26 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 v2 k0_t3 k0_h1 v32 k0_hw8 k0_t6 v71 v85 v90 v96 v101 (((broadcast S16 7#32))) (((broadcast S16 3#32))) k0_hw128 (((k0_pay96 v96))) k0_hw127) Q := by
  rw [k0_part26_eq_skeleton]; unfold k0_part26_skel
  refine step_gather_row ?_
  refine step_feature 59 (fun _ => ⟨rfl, rfl⟩) (rowV_of (by decide) hcb (fun _ => rfl)) ?_
  refine step_assume (fun _ => chkAcc (k := 60) (by decide) (fun _ => ⟨rfl, rfl⟩) hdv) ?_
  refine step_assume (fun _ => chkRow (k := 60) (by decide) hjv hcb (fun _ => rfl)) ?_
  refine step_gather_row ?_
  refine step_feature 60 (fun _ => ⟨rfl, rfl⟩) (rowV_of (by decide) hcb (fun _ => rfl)) ?_
  refine step_assume (fun _ => chkAcc (k := 61) (by decide) (fun _ => ⟨rfl, rfl⟩) hdv) ?_
  refine step_assume (fun _ => chkRow (k := 61) (by decide) hjv hcb (fun _ => rfl)) ?_
  refine step_gather_row ?_
  refine step_feature 61 (fun _ => ⟨rfl, rfl⟩) (rowV_of (by decide) hcb (fun _ => rfl)) ?_
  refine step_assume (fun _ => chkAcc (k := 62) (by decide) (fun _ => ⟨rfl, rfl⟩) hdv) ?_
  refine step_assume (fun _ => chkRow (k := 62) (by decide) hjv hcb (fun _ => rfl)) ?_
  refine step_gather_row ?_
  refine step_feature 62 (fun _ => ⟨rfl, rfl⟩) (rowV_of (by decide) hcb (fun _ => rfl)) ?_
  refine step_assume (fun _ => chkAcc (k := 63) (by decide) (fun _ => ⟨rfl, rfl⟩) hdv) ?_
  refine step_assume (fun _ => chkRow (k := 63) (by decide) hjv hcb (fun _ => rfl)) ?_
  refine step_gather_row ?_
  refine step_feature 63 (fun _ => ⟨rfl, rfl⟩) (rowV_of (by decide) hcb (fun _ => rfl)) ?_
  refine step_load_rnd3 ?_
  exact step_pure (hQ )

end Cert.Proof
-- ==== Proof.AddB.lean ====
/- The batch loop's second sixteen entries, as the first sixteen. -/
module

public import proofs.«01_k».proof.Proof.Acc

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

theorem part27_run {d : Dev nD} {L : grid0.Coords} {R : sProp 𝕄} {A : S8x8x1024.Idx → F .f32} {row : S32x129.Idx → F .f32} (v2 : IVec S16 32) (k0_t3 : Fin k0_t3_loop.trips) (k0_h1 : k0_cond1 L k0_t3 = 1#1) (v32 : BitVec 32) (v71 : BitVec 32) (v423 : IVec S16 32) (v428 : IVec S16 32) (v430 : IVec S16 32)
    (hdv : ∀ x, (v428 x).toNat < 1024) (hjv : ∀ x, (v423 x).toNat < 32) (hcb : ∀ x, ((k0_pay104 v430 1#32) x).toNat ≤ 64)
    {Q : _ → sProp 𝕄} (hQ : ∀ (k0_hw146 : k0_chk146 L k0_t3 v428 (broadcast S16 0#32) (broadcast S16 4#32)), iprop(accPts (F := F) d L (accK true v428 (k0_pay105 v2 v32 v71) (rowV row v423 (k0_pay104 v430 1#32)) A 4) ∗ rowPts (F := F) d L row ∗ R) ⊢ Q ⟨k0_pay104 v430 1#32, k0_pay105 v2 v32 v71, (broadcast S16 0#32), (broadcast S16 4#32), k0_hw146⟩) :
    iprop(accPts (F := F) d L (accK true v428 (k0_pay105 v2 v32 v71) (rowV row v423 (k0_pay104 v430 1#32)) A 0) ∗ rowPts (F := F) d L row ∗ R) ⊢ wpt (F := F) d L (k0_part27 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 v2 k0_t3 k0_h1 v32 v71 v423 v428 v430 1#32) Q := by
  rw [k0_part27_eq_skeleton]; unfold k0_part27_skel
  refine step_assume (fun _ => chkAcc (k := 0) (by decide) (fun _ => ⟨rfl, rfl⟩) hdv) ?_
  refine step_assume (fun _ => chkRow (k := 0) (by decide) hjv hcb (fun _ => rfl)) ?_
  refine step_gather_row ?_
  refine step_feature 0 (fun _ => ⟨rfl, rfl⟩) (rowV_of (by decide) hcb (fun _ => rfl)) ?_
  refine step_assume (fun _ => chkAcc (k := 1) (by decide) (fun _ => ⟨rfl, rfl⟩) hdv) ?_
  refine step_assume (fun _ => chkRow (k := 1) (by decide) hjv hcb (fun _ => rfl)) ?_
  refine step_gather_row ?_
  refine step_feature 1 (fun _ => ⟨rfl, rfl⟩) (rowV_of (by decide) hcb (fun _ => rfl)) ?_
  refine step_assume (fun _ => chkAcc (k := 2) (by decide) (fun _ => ⟨rfl, rfl⟩) hdv) ?_
  refine step_assume (fun _ => chkRow (k := 2) (by decide) hjv hcb (fun _ => rfl)) ?_
  refine step_gather_row ?_
  refine step_feature 2 (fun _ => ⟨rfl, rfl⟩) (rowV_of (by decide) hcb (fun _ => rfl)) ?_
  refine step_assume (fun _ => chkAcc (k := 3) (by decide) (fun _ => ⟨rfl, rfl⟩) hdv) ?_
  refine step_assume (fun _ => chkRow (k := 3) (by decide) hjv hcb (fun _ => rfl)) ?_
  refine step_gather_row ?_
  refine step_feature 3 (fun _ => ⟨rfl, rfl⟩) (rowV_of (by decide) hcb (fun _ => rfl)) ?_
  refine step_assume (fun _ => chkAcc (k := 4) (by decide) (fun _ => ⟨rfl, rfl⟩) hdv) ?_
  exact step_pure (hQ _)

theorem part28_run {d : Dev nD} {L : grid0.Coords} {R : sProp 𝕄} {A : S8x8x1024.Idx → F .f32} {row : S32x129.Idx → F .f32} (k0_t3 : Fin k0_t3_loop.trips) (k0_h1 : k0_cond1 L k0_t3 = 1#1) (v423 : IVec S16 32) (v428 : IVec S16 32) (v434 : IVec S16 32) (v439 : IVec S16 1) (k0_hw146 : k0_chk146 L k0_t3 v428 ((broadcast S16 0#32)) ((broadcast S16 4#32)))
    (hdv : ∀ x, (v428 x).toNat < 1024) (hjv : ∀ x, (v423 x).toNat < 32) (hcb : ∀ x, ((v434) x).toNat ≤ 64)
    {Q : _ → sProp 𝕄} (hQ : ∀ (k0_hw156 : k0_chk156 L k0_t3 v428 (broadcast S16 1#32) (broadcast S16 1#32)) (v489 : Vec F S16 .f32) (_ : ∀ x, v489 x = rowV row v423 v434 x 9), iprop(accPts (F := F) d L (accK true v428 (v439) (rowV row v423 (v434)) A 9) ∗ rowPts (F := F) d L row ∗ R) ⊢ Q ⟨(broadcast S16 1#32), (broadcast S16 1#32), k0_hw156, v489⟩) :
    iprop(accPts (F := F) d L (accK true v428 (v439) (rowV row v423 (v434)) A 4) ∗ rowPts (F := F) d L row ∗ R) ⊢ wpt (F := F) d L (k0_part28 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 k0_t3 k0_h1 v423 v428 v434 v439 (((broadcast S16 0#32))) (((broadcast S16 4#32))) k0_hw146) Q := by
  rw [k0_part28_eq_skeleton]; unfold k0_part28_skel
  refine step_assume (fun _ => chkRow (k := 4) (by decide) hjv hcb (fun _ => rfl)) ?_
  refine step_gather_row ?_
  refine step_feature 4 (fun _ => ⟨rfl, rfl⟩) (rowV_of (by decide) hcb (fun _ => rfl)) ?_
  refine step_assume (fun _ => chkAcc (k := 5) (by decide) (fun _ => ⟨rfl, rfl⟩) hdv) ?_
  refine step_assume (fun _ => chkRow (k := 5) (by decide) hjv hcb (fun _ => rfl)) ?_
  refine step_gather_row ?_
  refine step_feature 5 (fun _ => ⟨rfl, rfl⟩) (rowV_of (by decide) hcb (fun _ => rfl)) ?_
  refine step_assume (fun _ => chkAcc (k := 6) (by decide) (fun _ => ⟨rfl, rfl⟩) hdv) ?_
  refine step_assume (fun _ => chkRow (k := 6) (by decide) hjv hcb (fun _ => rfl)) ?_
  refine step_gather_row ?_
  refine step_feature 6 (fun _ => ⟨rfl, rfl⟩) (rowV_of (by decide) hcb (fun _ => rfl)) ?_
  refine step_assume (fun _ => chkAcc (k := 7) (by decide) (fun _ => ⟨rfl, rfl⟩) hdv) ?_
  refine step_assume (fun _ => chkRow (k := 7) (by decide) hjv hcb (fun _ => rfl)) ?_
  refine step_gather_row ?_
  refine step_feature 7 (fun _ => ⟨rfl, rfl⟩) (rowV_of (by decide) hcb (fun _ => rfl)) ?_
  refine step_assume (fun _ => chkAcc (k := 8) (by decide) (fun _ => ⟨rfl, rfl⟩) hdv) ?_
  refine step_assume (fun _ => chkRow (k := 8) (by decide) hjv hcb (fun _ => rfl)) ?_
  refine step_gather_row ?_
  refine step_feature 8 (fun _ => ⟨rfl, rfl⟩) (rowV_of (by decide) hcb (fun _ => rfl)) ?_
  refine step_assume (fun _ => chkAcc (k := 9) (by decide) (fun _ => ⟨rfl, rfl⟩) hdv) ?_
  refine step_assume (fun _ => chkRow (k := 9) (by decide) hjv hcb (fun _ => rfl)) ?_
  refine step_gather_row ?_
  exact step_pure (hQ _ _ (rowV_of (by decide) hcb (fun _ => rfl)))

theorem part29_run {d : Dev nD} {L : grid0.Coords} {R : sProp 𝕄} {A : S8x8x1024.Idx → F .f32} {row : S32x129.Idx → F .f32} (k0_t3 : Fin k0_t3_loop.trips) (k0_h1 : k0_cond1 L k0_t3 = 1#1) (v423 : IVec S16 32) (v428 : IVec S16 32) (v434 : IVec S16 32) (v439 : IVec S16 1) (k0_hw156 : k0_chk156 L k0_t3 v428 ((broadcast S16 1#32)) ((broadcast S16 1#32))) (v489 : Vec F S16 .f32)
    (hdv : ∀ x, (v428 x).toNat < 1024) (hjv : ∀ x, (v423 x).toNat < 32) (hcb : ∀ x, ((v434) x).toNat ≤ 64) (hv489 : ∀ x, v489 x = rowV row v423 (v434) x 9)
    {Q : _ → sProp 𝕄} (hQ : iprop(accPts (F := F) d L (accK true v428 (v439) (rowV row v423 (v434)) A 15) ∗ rowPts (F := F) d L row ∗ R) ⊢ Q ⟨k0_pay121, k0_pay122⟩) :
    iprop(accPts (F := F) d L (accK true v428 (v439) (rowV row v423 (v434)) A 9) ∗ rowPts (F := F) d L row ∗ R) ⊢ wpt (F := F) d L (k0_part29 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 k0_t3 k0_h1 v423 v428 v434 v439 (((broadcast S16 1#32))) (((broadcast S16 1#32))) k0_hw156 v489) Q := by
  rw [k0_part29_eq_skeleton]; unfold k0_part29_skel
  refine step_feature 9 (fun _ => ⟨rfl, rfl⟩) (hv489) ?_
  refine step_assume (fun _ => chkAcc (k := 10) (by decide) (fun _ => ⟨rfl, rfl⟩) hdv) ?_
  refine step_assume (fun _ => chkRow (k := 10) (by decide) hjv hcb (fun _ => rfl)) ?_
  refine step_gather_row ?_
  refine step_feature 10 (fun _ => ⟨rfl, rfl⟩) (rowV_of (by decide) hcb (fun _ => rfl)) ?_
  refine step_assume (fun _ => chkAcc (k := 11) (by decide) (fun _ => ⟨rfl, rfl⟩) hdv) ?_
  refine step_assume (fun _ => chkRow (k := 11) (by decide) hjv hcb (fun _ => rfl)) ?_
  refine step_gather_row ?_
  refine step_feature 11 (fun _ => ⟨rfl, rfl⟩) (rowV_of (by decide) hcb (fun _ => rfl)) ?_
  refine step_assume (fun _ => chkAcc (k := 12) (by decide) (fun _ => ⟨rfl, rfl⟩) hdv) ?_
  refine step_assume (fun _ => chkRow (k := 12) (by decide) hjv hcb (fun _ => rfl)) ?_
  refine step_gather_row ?_
  refine step_feature 12 (fun _ => ⟨rfl, rfl⟩) (rowV_of (by decide) hcb (fun _ => rfl)) ?_
  refine step_assume (fun _ => chkAcc (k := 13) (by decide) (fun _ => ⟨rfl, rfl⟩) hdv) ?_
  refine step_assume (fun _ => chkRow (k := 13) (by decide) hjv hcb (fun _ => rfl)) ?_
  refine step_gather_row ?_
  refine step_feature 13 (fun _ => ⟨rfl, rfl⟩) (rowV_of (by decide) hcb (fun _ => rfl)) ?_
  refine step_assume (fun _ => chkAcc (k := 14) (by decide) (fun _ => ⟨rfl, rfl⟩) hdv) ?_
  refine step_assume (fun _ => chkRow (k := 14) (by decide) hjv hcb (fun _ => rfl)) ?_
  refine step_gather_row ?_
  refine step_feature 14 (fun _ => ⟨rfl, rfl⟩) (rowV_of (by decide) hcb (fun _ => rfl)) ?_
  exact step_pure (hQ )

theorem part30_run {d : Dev nD} {L : grid0.Coords} {R : sProp 𝕄} {A : S8x8x1024.Idx → F .f32} {row : S32x129.Idx → F .f32} (k0_t3 : Fin k0_t3_loop.trips) (k0_h1 : k0_cond1 L k0_t3 = 1#1) (v423 : IVec S16 32) (v428 : IVec S16 32) (v434 : IVec S16 32) (v439 : IVec S16 1)
    (hdv : ∀ x, (v428 x).toNat < 1024) (hjv : ∀ x, (v423 x).toNat < 32) (hcb : ∀ x, ((v434) x).toNat ≤ 64)
    {Q : _ → sProp 𝕄} (hQ : ∀ (k0_hw178 : k0_chk178 L k0_t3 v428 (broadcast S16 2#32) (broadcast S16 4#32)) (k0_hw177 : k0_chk177 L k0_t3 v423 (k0_pay128 v434)), iprop(accPts (F := F) d L (accK true v428 (v439) (rowV row v423 (v434)) A 20) ∗ rowPts (F := F) d L row ∗ R) ⊢ Q ⟨(broadcast S16 2#32), (broadcast S16 4#32), k0_hw178, (k0_pay128 v434), k0_hw177⟩) :
    iprop(accPts (F := F) d L (accK true v428 (v439) (rowV row v423 (v434)) A 15) ∗ rowPts (F := F) d L row ∗ R) ⊢ wpt (F := F) d L (k0_part30 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 k0_t3 k0_h1 v423 v428 v434 v439 k0_pay121 k0_pay122) Q := by
  rw [k0_part30_eq_skeleton]; unfold k0_part30_skel
  refine step_assume (fun _ => chkAcc (k := 15) (by decide) (fun _ => ⟨rfl, rfl⟩) hdv) ?_
  refine step_assume (fun _ => chkRow (k := 15) (by decide) hjv hcb (fun _ => rfl)) ?_
  refine step_gather_row ?_
  refine step_feature 15 (fun _ => ⟨rfl, rfl⟩) (rowV_of (by decide) hcb (fun _ => rfl)) ?_
  refine step_assume (fun _ => chkAcc (k := 16) (by decide) (fun _ => ⟨rfl, rfl⟩) hdv) ?_
  refine step_assume (fun _ => chkRow (k := 16) (by decide) hjv hcb (fun _ => rfl)) ?_
  refine step_gather_row ?_
  refine step_feature 16 (fun _ => ⟨rfl, rfl⟩) (rowV_of (by decide) hcb (fun _ => rfl)) ?_
  refine step_assume (fun _ => chkAcc (k := 17) (by decide) (fun _ => ⟨rfl, rfl⟩) hdv) ?_
  refine step_assume (fun _ => chkRow (k := 17) (by decide) hjv hcb (fun _ => rfl)) ?_
  refine step_gather_row ?_
  refine step_feature 17 (fun _ => ⟨rfl, rfl⟩) (rowV_of (by decide) hcb (fun _ => rfl)) ?_
  refine step_assume (fun _ => chkAcc (k := 18) (by decide) (fun _ => ⟨rfl, rfl⟩) hdv) ?_
  refine step_assume (fun _ => chkRow (k := 18) (by decide) hjv hcb (fun _ => rfl)) ?_
  refine step_gather_row ?_
  refine step_feature 18 (fun _ => ⟨rfl, rfl⟩) (rowV_of (by decide) hcb (fun _ => rfl)) ?_
  refine step_assume (fun _ => chkAcc (k := 19) (by decide) (fun _ => ⟨rfl, rfl⟩) hdv) ?_
  refine step_assume (fun _ => chkRow (k := 19) (by decide) hjv hcb (fun _ => rfl)) ?_
  refine step_gather_row ?_
  refine step_feature 19 (fun _ => ⟨rfl, rfl⟩) (rowV_of (by decide) hcb (fun _ => rfl)) ?_
  refine step_assume (fun _ => chkAcc (k := 20) (by decide) (fun _ => ⟨rfl, rfl⟩) hdv) ?_
  refine step_assume (fun _ => chkRow (k := 20) (by decide) hjv hcb (fun _ => rfl)) ?_
  exact step_pure (hQ _ _)

theorem part31_run {d : Dev nD} {L : grid0.Coords} {R : sProp 𝕄} {A : S8x8x1024.Idx → F .f32} {row : S32x129.Idx → F .f32} (k0_t3 : Fin k0_t3_loop.trips) (k0_h1 : k0_cond1 L k0_t3 = 1#1) (v423 : IVec S16 32) (v428 : IVec S16 32) (v434 : IVec S16 32) (v439 : IVec S16 1) (k0_hw178 : k0_chk178 L k0_t3 v428 ((broadcast S16 2#32)) ((broadcast S16 4#32))) (k0_hw177 : k0_chk177 L k0_t3 v423 ((k0_pay128 v434)))
    (hdv : ∀ x, (v428 x).toNat < 1024) (hjv : ∀ x, (v423 x).toNat < 32) (hcb : ∀ x, ((v434) x).toNat ≤ 64)
    {Q : _ → sProp 𝕄} (hQ : iprop(accPts (F := F) d L (accK true v428 (v439) (rowV row v423 (v434)) A 26) ∗ rowPts (F := F) d L row ∗ R) ⊢ Q ⟨k0_pay134, 2#32⟩) :
    iprop(accPts (F := F) d L (accK true v428 (v439) (rowV row v423 (v434)) A 20) ∗ rowPts (F := F) d L row ∗ R) ⊢ wpt (F := F) d L (k0_part31 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 k0_t3 k0_h1 v423 v428 v434 v439 (((broadcast S16 2#32))) (((broadcast S16 4#32))) k0_hw178 (((k0_pay128 v434))) k0_hw177) Q := by
  rw [k0_part31_eq_skeleton]; unfold k0_part31_skel
  refine step_gather_row ?_
  refine step_feature 20 (fun _ => ⟨rfl, rfl⟩) (rowV_of (by decide) hcb (fun _ => rfl)) ?_
  refine step_assume (fun _ => chkAcc (k := 21) (by decide) (fun _ => ⟨rfl, rfl⟩) hdv) ?_
  refine step_assume (fun _ => chkRow (k := 21) (by decide) hjv hcb (fun _ => rfl)) ?_
  refine step_gather_row ?_
  refine step_feature 21 (fun _ => ⟨rfl, rfl⟩) (rowV_of (by decide) hcb (fun _ => rfl)) ?_
  refine step_assume (fun _ => chkAcc (k := 22) (by decide) (fun _ => ⟨rfl, rfl⟩) hdv) ?_
  refine step_assume (fun _ => chkRow (k := 22) (by decide) hjv hcb (fun _ => rfl)) ?_
  refine step_gather_row ?_
  refine step_feature 22 (fun _ => ⟨rfl, rfl⟩) (rowV_of (by decide) hcb (fun _ => rfl)) ?_
  refine step_assume (fun _ => chkAcc (k := 23) (by decide) (fun _ => ⟨rfl, rfl⟩) hdv) ?_
  refine step_assume (fun _ => chkRow (k := 23) (by decide) hjv hcb (fun _ => rfl)) ?_
  refine step_gather_row ?_
  refine step_feature 23 (fun _ => ⟨rfl, rfl⟩) (rowV_of (by decide) hcb (fun _ => rfl)) ?_
  refine step_assume (fun _ => chkAcc (k := 24) (by decide) (fun _ => ⟨rfl, rfl⟩) hdv) ?_
  refine step_assume (fun _ => chkRow (k := 24) (by decide) hjv hcb (fun _ => rfl)) ?_
  refine step_gather_row ?_
  refine step_feature 24 (fun _ => ⟨rfl, rfl⟩) (rowV_of (by decide) hcb (fun _ => rfl)) ?_
  refine step_assume (fun _ => chkAcc (k := 25) (by decide) (fun _ => ⟨rfl, rfl⟩) hdv) ?_
  refine step_assume (fun _ => chkRow (k := 25) (by decide) hjv hcb (fun _ => rfl)) ?_
  refine step_gather_row ?_
  refine step_feature 25 (fun _ => ⟨rfl, rfl⟩) (rowV_of (by decide) hcb (fun _ => rfl)) ?_
  exact step_pure (hQ )

theorem part32_run {d : Dev nD} {L : grid0.Coords} {R : sProp 𝕄} {A : S8x8x1024.Idx → F .f32} {row : S32x129.Idx → F .f32} (k0_t3 : Fin k0_t3_loop.trips) (k0_h1 : k0_cond1 L k0_t3 = 1#1) (v423 : IVec S16 32) (v428 : IVec S16 32) (v434 : IVec S16 32) (v439 : IVec S16 1)
    (hdv : ∀ x, (v428 x).toNat < 1024) (hjv : ∀ x, (v423 x).toNat < 32) (hcb : ∀ x, ((v434) x).toNat ≤ 64)
    {Q : _ → sProp 𝕄} (hQ : ∀ (k0_hw200 : k0_chk200 L k0_t3 v428 (broadcast S16 3#32) (broadcast S16 7#32)), iprop(accPts (F := F) d L (accK true v428 (v439) (rowV row v423 (v434)) A 31) ∗ rowPts (F := F) d L row ∗ R) ⊢ Q ⟨(broadcast S16 3#32), (broadcast S16 7#32), k0_hw200, k0_pay140 v434⟩) :
    iprop(accPts (F := F) d L (accK true v428 (v439) (rowV row v423 (v434)) A 26) ∗ rowPts (F := F) d L row ∗ R) ⊢ wpt (F := F) d L (k0_part32 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 k0_t3 k0_h1 v423 v428 v434 v439 k0_pay134 2#32) Q := by
  rw [k0_part32_eq_skeleton]; unfold k0_part32_skel
  refine step_assume (fun _ => chkAcc (k := 26) (by decide) (fun _ => ⟨rfl, rfl⟩) hdv) ?_
  refine step_assume (fun _ => chkRow (k := 26) (by decide) hjv hcb (fun _ => rfl)) ?_
  refine step_gather_row ?_
  refine step_feature 26 (fun _ => ⟨rfl, rfl⟩) (rowV_of (by decide) hcb (fun _ => rfl)) ?_
  refine step_assume (fun _ => chkAcc (k := 27) (by decide) (fun _ => ⟨rfl, rfl⟩) hdv) ?_
  refine step_assume (fun _ => chkRow (k := 27) (by decide) hjv hcb (fun _ => rfl)) ?_
  refine step_gather_row ?_
  refine step_feature 27 (fun _ => ⟨rfl, rfl⟩) (rowV_of (by decide) hcb (fun _ => rfl)) ?_
  refine step_assume (fun _ => chkAcc (k := 28) (by decide) (fun _ => ⟨rfl, rfl⟩) hdv) ?_
  refine step_assume (fun _ => chkRow (k := 28) (by decide) hjv hcb (fun _ => rfl)) ?_
  refine step_gather_row ?_
  refine step_feature 28 (fun _ => ⟨rfl, rfl⟩) (rowV_of (by decide) hcb (fun _ => rfl)) ?_
  refine step_assume (fun _ => chkAcc (k := 29) (by decide) (fun _ => ⟨rfl, rfl⟩) hdv) ?_
  refine step_assume (fun _ => chkRow (k := 29) (by decide) hjv hcb (fun _ => rfl)) ?_
  refine step_gather_row ?_
  refine step_feature 29 (fun _ => ⟨rfl, rfl⟩) (rowV_of (by decide) hcb (fun _ => rfl)) ?_
  refine step_assume (fun _ => chkAcc (k := 30) (by decide) (fun _ => ⟨rfl, rfl⟩) hdv) ?_
  refine step_assume (fun _ => chkRow (k := 30) (by decide) hjv hcb (fun _ => rfl)) ?_
  refine step_gather_row ?_
  refine step_feature 30 (fun _ => ⟨rfl, rfl⟩) (rowV_of (by decide) hcb (fun _ => rfl)) ?_
  refine step_assume (fun _ => chkAcc (k := 31) (by decide) (fun _ => ⟨rfl, rfl⟩) hdv) ?_
  exact step_pure (hQ _)

theorem part33_run {d : Dev nD} {L : grid0.Coords} {R : sProp 𝕄} {A : S8x8x1024.Idx → F .f32} {row : S32x129.Idx → F .f32} (k0_t3 : Fin k0_t3_loop.trips) (k0_h1 : k0_cond1 L k0_t3 = 1#1) (v423 : IVec S16 32) (v428 : IVec S16 32) (v434 : IVec S16 32) (v439 : IVec S16 1) (k0_hw200 : k0_chk200 L k0_t3 v428 ((broadcast S16 3#32)) ((broadcast S16 7#32)))
    (hdv : ∀ x, (v428 x).toNat < 1024) (hjv : ∀ x, (v423 x).toNat < 32) (hcb : ∀ x, ((v434) x).toNat ≤ 64)
    {Q : _ → sProp 𝕄} (hQ : iprop(accPts (F := F) d L (accK true v428 (v439) (rowV row v423 (v434)) A 37) ∗ rowPts (F := F) d L row ∗ R) ⊢ Q (k0_pay146)) :
    iprop(accPts (F := F) d L (accK true v428 (v439) (rowV row v423 (v434)) A 31) ∗ rowPts (F := F) d L row ∗ R) ⊢ wpt (F := F) d L (k0_part33 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 k0_t3 k0_h1 v423 v428 v434 v439 (((broadcast S16 3#32))) (((broadcast S16 7#32))) k0_hw200 ((k0_pay140 v434))) Q := by
  rw [k0_part33_eq_skeleton]; unfold k0_part33_skel
  refine step_assume (fun _ => chkRow (k := 31) (by decide) hjv hcb (fun _ => rfl)) ?_
  refine step_gather_row ?_
  refine step_feature 31 (fun _ => ⟨rfl, rfl⟩) (rowV_of (by decide) hcb (fun _ => rfl)) ?_
  refine step_assume (fun _ => chkAcc (k := 32) (by decide) (fun _ => ⟨rfl, rfl⟩) hdv) ?_
  refine step_assume (fun _ => chkRow (k := 32) (by decide) hjv hcb (fun _ => rfl)) ?_
  refine step_gather_row ?_
  refine step_feature 32 (fun _ => ⟨rfl, rfl⟩) (rowV_of (by decide) hcb (fun _ => rfl)) ?_
  refine step_assume (fun _ => chkAcc (k := 33) (by decide) (fun _ => ⟨rfl, rfl⟩) hdv) ?_
  refine step_assume (fun _ => chkRow (k := 33) (by decide) hjv hcb (fun _ => rfl)) ?_
  refine step_gather_row ?_
  refine step_feature 33 (fun _ => ⟨rfl, rfl⟩) (rowV_of (by decide) hcb (fun _ => rfl)) ?_
  refine step_assume (fun _ => chkAcc (k := 34) (by decide) (fun _ => ⟨rfl, rfl⟩) hdv) ?_
  refine step_assume (fun _ => chkRow (k := 34) (by decide) hjv hcb (fun _ => rfl)) ?_
  refine step_gather_row ?_
  refine step_feature 34 (fun _ => ⟨rfl, rfl⟩) (rowV_of (by decide) hcb (fun _ => rfl)) ?_
  refine step_assume (fun _ => chkAcc (k := 35) (by decide) (fun _ => ⟨rfl, rfl⟩) hdv) ?_
  refine step_assume (fun _ => chkRow (k := 35) (by decide) hjv hcb (fun _ => rfl)) ?_
  refine step_gather_row ?_
  refine step_feature 35 (fun _ => ⟨rfl, rfl⟩) (rowV_of (by decide) hcb (fun _ => rfl)) ?_
  refine step_assume (fun _ => chkAcc (k := 36) (by decide) (fun _ => ⟨rfl, rfl⟩) hdv) ?_
  refine step_assume (fun _ => chkRow (k := 36) (by decide) hjv hcb (fun _ => rfl)) ?_
  refine step_gather_row ?_
  refine step_feature 36 (fun _ => ⟨rfl, rfl⟩) (rowV_of (by decide) hcb (fun _ => rfl)) ?_
  exact step_pure (hQ )

theorem part34_run {d : Dev nD} {L : grid0.Coords} {R : sProp 𝕄} {A : S8x8x1024.Idx → F .f32} {row : S32x129.Idx → F .f32} (k0_t3 : Fin k0_t3_loop.trips) (k0_h1 : k0_cond1 L k0_t3 = 1#1) (v423 : IVec S16 32) (v428 : IVec S16 32) (v434 : IVec S16 32) (v439 : IVec S16 1)
    (hdv : ∀ x, (v428 x).toNat < 1024) (hjv : ∀ x, (v423 x).toNat < 32) (hcb : ∀ x, ((v434) x).toNat ≤ 64)
    {Q : _ → sProp 𝕄} (hQ : ∀ (k0_hw222 : k0_chk222 L k0_t3 v428 (broadcast S16 5#32) (broadcast S16 2#32)), iprop(accPts (F := F) d L (accK true v428 (v439) (rowV row v423 (v434)) A 42) ∗ rowPts (F := F) d L row ∗ R) ⊢ Q ⟨(broadcast S16 5#32), (broadcast S16 2#32), k0_hw222, k0_pay152⟩) :
    iprop(accPts (F := F) d L (accK true v428 (v439) (rowV row v423 (v434)) A 37) ∗ rowPts (F := F) d L row ∗ R) ⊢ wpt (F := F) d L (k0_part34 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 k0_t3 k0_h1 v423 v428 v434 v439 k0_pay146) Q := by
  rw [k0_part34_eq_skeleton]; unfold k0_part34_skel
  refine step_assume (fun _ => chkAcc (k := 37) (by decide) (fun _ => ⟨rfl, rfl⟩) hdv) ?_
  refine step_assume (fun _ => chkRow (k := 37) (by decide) hjv hcb (fun _ => rfl)) ?_
  refine step_gather_row ?_
  refine step_feature 37 (fun _ => ⟨rfl, rfl⟩) (rowV_of (by decide) hcb (fun _ => rfl)) ?_
  refine step_assume (fun _ => chkAcc (k := 38) (by decide) (fun _ => ⟨rfl, rfl⟩) hdv) ?_
  refine step_assume (fun _ => chkRow (k := 38) (by decide) hjv hcb (fun _ => rfl)) ?_
  refine step_gather_row ?_
  refine step_feature 38 (fun _ => ⟨rfl, rfl⟩) (rowV_of (by decide) hcb (fun _ => rfl)) ?_
  refine step_assume (fun _ => chkAcc (k := 39) (by decide) (fun _ => ⟨rfl, rfl⟩) hdv) ?_
  refine step_assume (fun _ => chkRow (k := 39) (by decide) hjv hcb (fun _ => rfl)) ?_
  refine step_gather_row ?_
  refine step_feature 39 (fun _ => ⟨rfl, rfl⟩) (rowV_of (by decide) hcb (fun _ => rfl)) ?_
  refine step_assume (fun _ => chkAcc (k := 40) (by decide) (fun _ => ⟨rfl, rfl⟩) hdv) ?_
  refine step_assume (fun _ => chkRow (k := 40) (by decide) hjv hcb (fun _ => rfl)) ?_
  refine step_gather_row ?_
  refine step_feature 40 (fun _ => ⟨rfl, rfl⟩) (rowV_of (by decide) hcb (fun _ => rfl)) ?_
  refine step_assume (fun _ => chkAcc (k := 41) (by decide) (fun _ => ⟨rfl, rfl⟩) hdv) ?_
  refine step_assume (fun _ => chkRow (k := 41) (by decide) hjv hcb (fun _ => rfl)) ?_
  refine step_gather_row ?_
  refine step_feature 41 (fun _ => ⟨rfl, rfl⟩) (rowV_of (by decide) hcb (fun _ => rfl)) ?_
  refine step_assume (fun _ => chkAcc (k := 42) (by decide) (fun _ => ⟨rfl, rfl⟩) hdv) ?_
  exact step_pure (hQ _)

theorem part35_run {d : Dev nD} {L : grid0.Coords} {R : sProp 𝕄} {A : S8x8x1024.Idx → F .f32} {row : S32x129.Idx → F .f32} (k0_t3 : Fin k0_t3_loop.trips) (k0_h1 : k0_cond1 L k0_t3 = 1#1) (v423 : IVec S16 32) (v428 : IVec S16 32) (v434 : IVec S16 32) (v439 : IVec S16 1) (k0_hw222 : k0_chk222 L k0_t3 v428 ((broadcast S16 5#32)) ((broadcast S16 2#32)))
    (hdv : ∀ x, (v428 x).toNat < 1024) (hjv : ∀ x, (v423 x).toNat < 32) (hcb : ∀ x, ((v434) x).toNat ≤ 64)
    {Q : _ → sProp 𝕄} (hQ : iprop(accPts (F := F) d L (accK true v428 (v439) (rowV row v423 (v434)) A 48) ∗ rowPts (F := F) d L row ∗ R) ⊢ Q (6#32)) :
    iprop(accPts (F := F) d L (accK true v428 (v439) (rowV row v423 (v434)) A 42) ∗ rowPts (F := F) d L row ∗ R) ⊢ wpt (F := F) d L (k0_part35 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 k0_t3 k0_h1 v423 v428 v434 v439 (((broadcast S16 5#32))) (((broadcast S16 2#32))) k0_hw222 k0_pay152) Q := by
  rw [k0_part35_eq_skeleton]; unfold k0_part35_skel
  refine step_assume (fun _ => chkRow (k := 42) (by decide) hjv hcb (fun _ => rfl)) ?_
  refine step_gather_row ?_
  refine step_feature 42 (fun _ => ⟨rfl, rfl⟩) (rowV_of (by decide) hcb (fun _ => rfl)) ?_
  refine step_assume (fun _ => chkAcc (k := 43) (by decide) (fun _ => ⟨rfl, rfl⟩) hdv) ?_
  refine step_assume (fun _ => chkRow (k := 43) (by decide) hjv hcb (fun _ => rfl)) ?_
  refine step_gather_row ?_
  refine step_feature 43 (fun _ => ⟨rfl, rfl⟩) (rowV_of (by decide) hcb (fun _ => rfl)) ?_
  refine step_assume (fun _ => chkAcc (k := 44) (by decide) (fun _ => ⟨rfl, rfl⟩) hdv) ?_
  refine step_assume (fun _ => chkRow (k := 44) (by decide) hjv hcb (fun _ => rfl)) ?_
  refine step_gather_row ?_
  refine step_feature 44 (fun _ => ⟨rfl, rfl⟩) (rowV_of (by decide) hcb (fun _ => rfl)) ?_
  refine step_assume (fun _ => chkAcc (k := 45) (by decide) (fun _ => ⟨rfl, rfl⟩) hdv) ?_
  refine step_assume (fun _ => chkRow (k := 45) (by decide) hjv hcb (fun _ => rfl)) ?_
  refine step_gather_row ?_
  refine step_feature 45 (fun _ => ⟨rfl, rfl⟩) (rowV_of (by decide) hcb (fun _ => rfl)) ?_
  refine step_assume (fun _ => chkAcc (k := 46) (by decide) (fun _ => ⟨rfl, rfl⟩) hdv) ?_
  refine step_assume (fun _ => chkRow (k := 46) (by decide) hjv hcb (fun _ => rfl)) ?_
  refine step_gather_row ?_
  refine step_feature 46 (fun _ => ⟨rfl, rfl⟩) (rowV_of (by decide) hcb (fun _ => rfl)) ?_
  refine step_assume (fun _ => chkAcc (k := 47) (by decide) (fun _ => ⟨rfl, rfl⟩) hdv) ?_
  refine step_assume (fun _ => chkRow (k := 47) (by decide) hjv hcb (fun _ => rfl)) ?_
  refine step_gather_row ?_
  refine step_feature 47 (fun _ => ⟨rfl, rfl⟩) (rowV_of (by decide) hcb (fun _ => rfl)) ?_
  exact step_pure (hQ )

theorem part36_run {d : Dev nD} {L : grid0.Coords} {R : sProp 𝕄} {A : S8x8x1024.Idx → F .f32} {row : S32x129.Idx → F .f32} (k0_t3 : Fin k0_t3_loop.trips) (k0_h1 : k0_cond1 L k0_t3 = 1#1) (v423 : IVec S16 32) (v428 : IVec S16 32) (v434 : IVec S16 32) (v439 : IVec S16 1)
    (hdv : ∀ x, (v428 x).toNat < 1024) (hjv : ∀ x, (v423 x).toNat < 32) (hcb : ∀ x, ((v434) x).toNat ≤ 64)
    {Q : _ → sProp 𝕄} (hQ : ∀ (k0_hw244 : k0_chk244 L k0_t3 v428 (broadcast S16 6#32) (broadcast S16 5#32)), iprop(accPts (F := F) d L (accK true v428 (v439) (rowV row v423 (v434)) A 53) ∗ rowPts (F := F) d L row ∗ R) ⊢ Q ⟨(broadcast S16 6#32), (broadcast S16 5#32), k0_hw244, 53#32⟩) :
    iprop(accPts (F := F) d L (accK true v428 (v439) (rowV row v423 (v434)) A 48) ∗ rowPts (F := F) d L row ∗ R) ⊢ wpt (F := F) d L (k0_part36 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 k0_t3 k0_h1 v423 v428 v434 v439 6#32) Q := by
  rw [k0_part36_eq_skeleton]; unfold k0_part36_skel
  refine step_assume (fun _ => chkAcc (k := 48) (by decide) (fun _ => ⟨rfl, rfl⟩) hdv) ?_
  refine step_assume (fun _ => chkRow (k := 48) (by decide) hjv hcb (fun _ => rfl)) ?_
  refine step_gather_row ?_
  refine step_feature 48 (fun _ => ⟨rfl, rfl⟩) (rowV_of (by decide) hcb (fun _ => rfl)) ?_
  refine step_assume (fun _ => chkAcc (k := 49) (by decide) (fun _ => ⟨rfl, rfl⟩) hdv) ?_
  refine step_assume (fun _ => chkRow (k := 49) (by decide) hjv hcb (fun _ => rfl)) ?_
  refine step_gather_row ?_
  refine step_feature 49 (fun _ => ⟨rfl, rfl⟩) (rowV_of (by decide) hcb (fun _ => rfl)) ?_
  refine step_assume (fun _ => chkAcc (k := 50) (by decide) (fun _ => ⟨rfl, rfl⟩) hdv) ?_
  refine step_assume (fun _ => chkRow (k := 50) (by decide) hjv hcb (fun _ => rfl)) ?_
  refine step_gather_row ?_
  refine step_feature 50 (fun _ => ⟨rfl, rfl⟩) (rowV_of (by decide) hcb (fun _ => rfl)) ?_
  refine step_assume (fun _ => chkAcc (k := 51) (by decide) (fun _ => ⟨rfl, rfl⟩) hdv) ?_
  refine step_assume (fun _ => chkRow (k := 51) (by decide) hjv hcb (fun _ => rfl)) ?_
  refine step_gather_row ?_
  refine step_feature 51 (fun _ => ⟨rfl, rfl⟩) (rowV_of (by decide) hcb (fun _ => rfl)) ?_
  refine step_assume (fun _ => chkAcc (k := 52) (by decide) (fun _ => ⟨rfl, rfl⟩) hdv) ?_
  refine step_assume (fun _ => chkRow (k := 52) (by decide) hjv hcb (fun _ => rfl)) ?_
  refine step_gather_row ?_
  refine step_feature 52 (fun _ => ⟨rfl, rfl⟩) (rowV_of (by decide) hcb (fun _ => rfl)) ?_
  refine step_assume (fun _ => chkAcc (k := 53) (by decide) (fun _ => ⟨rfl, rfl⟩) hdv) ?_
  exact step_pure (hQ _)

theorem part37_run {d : Dev nD} {L : grid0.Coords} {R : sProp 𝕄} {A : S8x8x1024.Idx → F .f32} {row : S32x129.Idx → F .f32} (k0_t3 : Fin k0_t3_loop.trips) (k0_h1 : k0_cond1 L k0_t3 = 1#1) (v423 : IVec S16 32) (v428 : IVec S16 32) (v434 : IVec S16 32) (v439 : IVec S16 1) (k0_hw244 : k0_chk244 L k0_t3 v428 ((broadcast S16 6#32)) ((broadcast S16 5#32)))
    (hdv : ∀ x, (v428 x).toNat < 1024) (hjv : ∀ x, (v423 x).toNat < 32) (hcb : ∀ x, ((v434) x).toNat ≤ 64)
    {Q : _ → sProp 𝕄} (hQ : iprop(accPts (F := F) d L (accK true v428 (v439) (rowV row v423 (v434)) A 59) ∗ rowPts (F := F) d L row ∗ R) ⊢ Q ⟨⟩) :
    iprop(accPts (F := F) d L (accK true v428 (v439) (rowV row v423 (v434)) A 53) ∗ rowPts (F := F) d L row ∗ R) ⊢ wpt (F := F) d L (k0_part37 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 k0_t3 k0_h1 v423 v428 v434 v439 (((broadcast S16 6#32))) (((broadcast S16 5#32))) k0_hw244 53#32) Q := by
  rw [k0_part37_eq_skeleton]; unfold k0_part37_skel
  refine step_assume (fun _ => chkRow (k := 53) (by decide) hjv hcb (fun _ => rfl)) ?_
  refine step_gather_row ?_
  refine step_feature 53 (fun _ => ⟨rfl, rfl⟩) (rowV_of (by decide) hcb (fun _ => rfl)) ?_
  refine step_assume (fun _ => chkAcc (k := 54) (by decide) (fun _ => ⟨rfl, rfl⟩) hdv) ?_
  refine step_assume (fun _ => chkRow (k := 54) (by decide) hjv hcb (fun _ => rfl)) ?_
  refine step_gather_row ?_
  refine step_feature 54 (fun _ => ⟨rfl, rfl⟩) (rowV_of (by decide) hcb (fun _ => rfl)) ?_
  refine step_assume (fun _ => chkAcc (k := 55) (by decide) (fun _ => ⟨rfl, rfl⟩) hdv) ?_
  refine step_assume (fun _ => chkRow (k := 55) (by decide) hjv hcb (fun _ => rfl)) ?_
  refine step_gather_row ?_
  refine step_feature 55 (fun _ => ⟨rfl, rfl⟩) (rowV_of (by decide) hcb (fun _ => rfl)) ?_
  refine step_assume (fun _ => chkAcc (k := 56) (by decide) (fun _ => ⟨rfl, rfl⟩) hdv) ?_
  refine step_assume (fun _ => chkRow (k := 56) (by decide) hjv hcb (fun _ => rfl)) ?_
  refine step_gather_row ?_
  refine step_feature 56 (fun _ => ⟨rfl, rfl⟩) (rowV_of (by decide) hcb (fun _ => rfl)) ?_
  refine step_assume (fun _ => chkAcc (k := 57) (by decide) (fun _ => ⟨rfl, rfl⟩) hdv) ?_
  refine step_assume (fun _ => chkRow (k := 57) (by decide) hjv hcb (fun _ => rfl)) ?_
  refine step_gather_row ?_
  refine step_feature 57 (fun _ => ⟨rfl, rfl⟩) (rowV_of (by decide) hcb (fun _ => rfl)) ?_
  refine step_assume (fun _ => chkAcc (k := 58) (by decide) (fun _ => ⟨rfl, rfl⟩) hdv) ?_
  refine step_assume (fun _ => chkRow (k := 58) (by decide) hjv hcb (fun _ => rfl)) ?_
  refine step_gather_row ?_
  refine step_feature 58 (fun _ => ⟨rfl, rfl⟩) (rowV_of (by decide) hcb (fun _ => rfl)) ?_
  exact step_pure (hQ )

end Cert.Proof
-- ==== Proof.Add.lean ====
/- A batch whole: thirty-two entries' rows are fetched and added into the accumulator, the entry's column and half by its own word. -/
module

public import proofs.«01_k».proof.Proof.Fetch
public import proofs.«01_k».proof.Proof.AddA
public import proofs.«01_k».proof.Proof.AddB

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

section Pure
theorem cb_nat (w : BitVec 32) : (IntOp.muli (IntOp.andi (IntOp.shrui .vector w 13#32) 1#32) 64#32).toNat = w.toNat / 8192 % 2 * 64 := by
  have e : (IntOp.shrui .vector w 13#32).toNat = w.toNat / 8192 := by
    rw [show IntOp.shrui .vector w 13#32 = w >>> 13 from rfl, BitVec.toNat_ushiftRight, Nat.shiftRight_eq_div_pow]
  have e2 : (IntOp.andi (IntOp.shrui .vector w 13#32) 1#32).toNat = w.toNat / 8192 % 2 := by
    change (IntOp.shrui .vector w 13#32 &&& 1#32).toNat = _
    rw [BitVec.toNat_and, e]
    exact Nat.and_two_pow_sub_one_eq_mod _ 1
  change (IntOp.andi (IntOp.shrui .vector w 13#32) 1#32 * 64#32).toNat = _
  rw [BitVec.toNat_mul, e2, BitVec.toNat_ofNat]
  omega
end Pure

section Runs
variable {d : Dev nD} {L : grid0.Coords} {R : sProp (MT nD τ sig (HIx 1) (Elt F) ℕ UU ℕ)}

theorem addE_on (x2 : S8192x128.Idx → F .f32) (c : ℕ) (y : F .f32) (w : BitVec 32) : addE x2 c (w.toNat / 16384) y w = FloatOps.idxAddf y (xRow x2 (w.toNat % 8192) (w.toNat / 8192 % 2 * 64 + c)) := if_pos rfl

theorem rowsAt_rowV {x2 : S8192x128.Idx → F .f32} {rf : S16384.Idx → BitVec 32} {n g : ℕ} {row : S32x129.Idx → F .f32} (hrow : RowsAt x2 rf n row) {jv cb : IVec S16 32} (hg : g ≤ 16)
    (hjv : ∀ k : Fin 16, (jv (ln k)).toNat = g + k.val) (hcb : ∀ k : Fin 16, (cb (ln k)).toNat = (cell rf (n + g + k.val)).toNat / 8192 % 2 * 64) (k : Fin 16) {c : ℕ} (hc : c < 64) :
    rowV row jv cb (ln k) c = xRow x2 ((cell rf (n + g + k.val)).toNat % 8192) ((cell rf (n + g + k.val)).toNat / 8192 % 2 * 64 + c) := by
  have hk := k.isLt
  unfold rowV
  have e1 : (jv (ln k)).toNat % 32 = g + k.val := by rw [hjv]; omega
  have e2 : ((cb (ln k)).toNat + c) % 129 = (cell rf (n + g + k.val)).toNat / 8192 % 2 * 64 + c := by rw [hcb]; omega
  rw [show rowIx ((jv (ln k)).toNat % 32) (((cb (ln k)).toNat + c) % 129) (Nat.mod_lt _ (by decide)) (Nat.mod_lt _ (by decide)) = rowIx (g + k.val) ((cell rf (n + g + k.val)).toNat / 8192 % 2 * 64 + c) (by omega) (by omega) from by
    funext a; apply Fin.ext
    match a with
    | ⟨0, _⟩ => exact e1
    | ⟨1, _⟩ => exact e2]
  rw [hrow _ _ _ _ (by omega), Nat.add_assoc]

theorem t6_body_run {q : PosShare TreeShare} {x2 : S8192x128.Idx → F .f32} {rf : S16384.Idx → BitVec 32} {A : S8x8x1024.Idx → F .f32} {O : CellTallies nD τ sig (HIx 1)} {W : Waits sig (HIx 1)} {m : ℕ} (hm : m ≤ 16384) (hrf : RowsOK rf)
    (v15 : BitVec 32) (hw5 : k0_chk5 L v15) (v17 arg12 v20 : BitVec 32) (t3 : Fin k0_t3_loop.trips) (h1 : k0_cond1 L t3 = 1#1) (hw8 : k0_chk8 L t3 (BitVec.ofNat 32 m)) (t : Fin (k0_t6_loop (BitVec.ofNat 32 m)).trips) (acc : BitVec 32) :
    iprop(accPts (F := F) d L (accN (addE x2) rf m A (32 * t.val)) ∗ (∃ row, rowPts (F := F) d L row) ∗ rndPts (F := F) d L rf ∗ Kept d L q x2 O W R) ⊢
      wpt (F := F) d L (k0_t6_body L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 laneV v15 hw5 v17 t3 arg12 v20 h1 (BitVec.ofNat 32 m) hw8 t acc) fun _ =>
        iprop(accPts (F := F) d L (accN (addE x2) rf m A (32 * (t.val + 1))) ∗ (∃ row, rowPts (F := F) d L row) ∗ rndPts (F := F) d L rf ∗ Kept d L q x2 O W R) := by
  have ht : t.val < (m + 31) / 32 := lt_of_lt_of_eq t.isLt (t6_trips hm)
  have hrow0 : ∀ row, iprop(accPts (F := F) d L (accN (addE x2) rf m A (32 * t.val)) ∗ rowPts (F := F) d L row ∗ rndPts (F := F) d L rf ∗ Kept d L q x2 O W R) ⊢
      wpt (F := F) d L (k0_t6_body L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 laneV v15 hw5 v17 t3 arg12 v20 h1 (BitVec.ofNat 32 m) hw8 t acc) fun _ =>
        iprop(accPts (F := F) d L (accN (addE x2) rf m A (32 * (t.val + 1))) ∗ (∃ row, rowPts (F := F) d L row) ∗ rndPts (F := F) d L rf ∗ Kept d L q x2 O W R) := by
    intro row0
    unfold k0_t6_body
    refine step_bind ?_
    rw [k0_part38_eq_skeleton]; unfold k0_part38_skel
    refine step_bind (part14_run t3 h1 hw8 t (by omega) fun row hrow => ?_)
    have hvA : ∀ k : Fin 16, mRnd.view.readAt (Elt F) (Rect.unit (s := S16384) (k0_off71 (BitVec.ofNat 32 m) t 0#32) S16.size (k0_off71_inb L t3 _ hw8 t h1 0)).toLoadRect rf (ln k) = cell rf (32 * t.val + 0 + k.val) :=
      fun k => rnd_load (F := F) k (off71_at t (by omega) (r := 0) (by omega))
    have hvB : ∀ k : Fin 16, mRnd.view.readAt (Elt F) (Rect.unit (s := S16384) (k0_off72 (BitVec.ofNat 32 m) t) S16.size (k0_off72_inb L t3 _ hw8 t h1)).toLoadRect rf (ln k) = cell rf (32 * t.val + 16 + k.val) :=
      fun k => rnd_load (F := F) k (off72_at t (by omega))
    generalize mRnd.view.readAt (Elt F) (Rect.unit (s := S16384) (k0_off71 (BitVec.ofNat 32 m) t 0#32) S16.size (k0_off71_inb L t3 _ hw8 t h1 0)).toLoadRect rf = wA at hvA ⊢
    have hdv : ∀ {w : IVec S16 32} {n : ℕ}, n + 16 ≤ 16384 → (∀ k : Fin 16, w (ln k) = cell rf (n + k.val)) → ∀ x, (shrui w (broadcast S16 14#32) x).toNat < 1024 := by
      intro w n hn hw x
      obtain ⟨k, rfl⟩ := ln_surj x
      change (IntOp.shrui .vector (w (ln k)) 14#32).toNat < 1024
      rw [shr14_toNat, hw]
      exact hrf _ (by have := k.isLt; omega)
    have hdvA : ∀ x, (k0_pay29 (F := F) wA x).toNat < 1024 := hdv (by omega) hvA
    have hdvB' := hdv (by omega) hvB
    have hjA : ∀ k : Fin 16, (k0_pay28 laneV (ln k)).toNat = 0 + k.val := by
      intro k
      change (0#32 + laneV (ln k)).toNat = _
      rw [laneV_ln, ← BitVec.ofNat_add, BitVec.toNat_ofNat]; have := k.isLt; omega
    have hjB : ∀ k : Fin 16, (k0_pay101 laneV (ln k)).toNat = 16 + k.val := by
      intro k
      change (16#32 + laneV (ln k)).toNat = _
      rw [laneV_ln, ← BitVec.ofNat_add, BitVec.toNat_ofNat]; have := k.isLt; omega
    have hjvA : ∀ x, (k0_pay28 laneV x).toNat < 32 := fun x => by
      obtain ⟨k, rfl⟩ := ln_surj x
      rw [hjA]; have := k.isLt; omega
    have hjvB : ∀ x, (k0_pay101 laneV x).toNat < 32 := fun x => by
      obtain ⟨k, rfl⟩ := ln_surj x
      rw [hjB]; have := k.isLt; omega
    have hcA : ∀ x, (k0_pay30 (F := F) wA x).toNat = (wA x).toNat / 8192 % 2 * 64 := fun x => cb_nat _
    have hcbA : ∀ x, (k0_pay30 (F := F) wA x).toNat ≤ 64 := fun x => by rw [hcA]; omega
    have hcB : ∀ (w : IVec S16 32) x, (k0_pay104 (k0_pay103 (F := F) w) 1#32 x).toNat = (w x).toNat / 8192 % 2 * 64 := fun w x => cb_nat _
    have hcbB' : ∀ (w : IVec S16 32) x, (k0_pay104 (k0_pay103 (F := F) w) 1#32 x).toNat ≤ 64 := fun w x => by rw [hcB]; omega
    have hbase : ∀ r : ℕ, r ≤ 16 → Scalar.addi (Scalar.muli (Scf.iv 0#32 1#32 t) 32#32) (BitVec.ofNat 32 r) = BitVec.ofNat 32 (32 * t.val + r) := fun r hr => by
      rw [iv_nat, muladd_nat (c := 32) (by omega) (by omega), Nat.mul_comm]
    refine rebase (add := true) (dv := k0_pay29 (F := F) wA) (mask := k0_pay32 (BitVec.ofNat 32 m) (k0_pay31 laneV (BitVec.ofNat 32 m) 0#32 1#32 t)) (V := rowV row (k0_pay28 laneV) (k0_pay30 (F := F) wA)) ?_
    refine step_bind (part15_run _ _ _ _ _ _ _ hdvA hjvA hcbA  ?_)
    refine step_bind (part16_run _ _ _ _ _ _ hdvA hjvA hcbA  ?_)
    intro k0_hw30
    refine step_bind (part17_run _ _ _ _ _ _ _ hdvA hjvA hcbA  ?_)
    refine step_bind (part18_run _ _ _ _ _ _ hdvA hjvA hcbA  ?_)
    intro k0_hw52
    refine step_bind (part19_run _ _ _ _ _ _ _ hdvA hjvA hcbA  ?_)
    refine step_bind (part20_run _ _ _ _ _ _ hdvA hjvA hcbA  ?_)
    intro k0_hw74
    refine step_bind (part21_run _ _ _ _ _ _ _ hdvA hjvA hcbA  ?_)
    refine step_bind (part22_run _ _ _ _ _ _ hdvA hjvA hcbA  ?_)
    intro k0_hw96
    refine step_bind (part23_run _ _ _ _ _ _ _ hdvA hjvA hcbA  ?_)
    intro k0_hw106 v346 Lv346
    refine step_bind (part24_run _ _ _ _ _ _ _ _ hdvA hjvA hcbA Lv346 ?_)
    refine step_bind (part25_run _ _ _ _ _ _ hdvA hjvA hcbA  ?_)
    intro k0_hw128 k0_hw127
    refine step_bind (part26_run _ _ _ _ _ _ _ _ _ _ _ _ _ hdvA hjvA hcbA ?_)
    generalize mRnd.view.readAt (Elt F) (Rect.unit (s := S16384) (k0_off72 (BitVec.ofNat 32 m) t) S16.size (k0_off72_inb L t3 _ hw8 t h1)).toLoadRect rf = wB at hvB hdvB' ⊢
    have hdvB : ∀ x, (k0_pay102 (F := F) wB x).toNat < 1024 := hdvB'
    have hcbB := hcbB' wB
    have eA := accN_sixteen (F := F) (g := addE x2) (rf := rf) (m := m) (n := 32 * t.val) (A := A) (add := true) (dv := k0_pay29 (F := F) wA) (mask := k0_pay32 (BitVec.ofNat 32 m) (k0_pay31 laneV (BitVec.ofNat 32 m) 0#32 1#32 t)) (V := rowV row (k0_pay28 laneV) (k0_pay30 (F := F) wA))
      (fun k => lane_lt (hbase 0 (by omega)) (by omega) (by omega) k) (fun k => (shr14_toNat _).trans (congrArg (fun w : BitVec 32 => w.toNat / 16384) (hvA k)))
      (fun k c y hc => by
        have e := rowsAt_rowV hrow (g := 0) (by omega) hjA (fun k => (hcA _).trans (by rw [hvA k])) k hc
        rw [if_pos rfl, e, addE_on]; rfl) (addE_off x2)
    rw [eA]
    refine rebase (add := true) (dv := k0_pay102 (F := F) wB) (mask := k0_pay105 laneV (BitVec.ofNat 32 m) (Scalar.muli (Scf.iv 0#32 1#32 t) 32#32)) (V := rowV row (k0_pay101 laneV) (k0_pay104 (k0_pay103 (F := F) wB) 1#32)) ?_
    refine step_bind (part27_run _ _ _ _ _ _ _ _ hdvB hjvB hcbB  ?_)
    intro k0_hw146
    refine step_bind (part28_run _ _ _ _ _ _ _ hdvB hjvB hcbB  ?_)
    intro k0_hw156 v489 Lv489
    refine step_bind (part29_run _ _ _ _ _ _ _ _ hdvB hjvB hcbB Lv489 ?_)
    refine step_bind (part30_run _ _ _ _ _ _ hdvB hjvB hcbB  ?_)
    intro k0_hw178 k0_hw177
    refine step_bind (part31_run _ _ _ _ _ _ _ _ hdvB hjvB hcbB  ?_)
    refine step_bind (part32_run _ _ _ _ _ _ hdvB hjvB hcbB  ?_)
    intro k0_hw200
    refine step_bind (part33_run _ _ _ _ _ _ _ hdvB hjvB hcbB  ?_)
    refine step_bind (part34_run _ _ _ _ _ _ hdvB hjvB hcbB  ?_)
    intro k0_hw222
    refine step_bind (part35_run _ _ _ _ _ _ _ hdvB hjvB hcbB  ?_)
    refine step_bind (part36_run _ _ _ _ _ _ hdvB hjvB hcbB  ?_)
    intro k0_hw244
    refine step_bind (part37_run _ _ _ _ _ _ _ hdvB hjvB hcbB  ?_)
    refine step_assume (fun _ => chkAcc (k := 59) (by decide) (fun _ => ⟨rfl, rfl⟩) hdvB) ?_
    refine step_assume (fun _ => chkRow (k := 59) (by decide) hjvB hcbB (fun _ => rfl)) ?_
    refine step_gather_row ?_
    refine step_feature 59 (fun _ => ⟨rfl, rfl⟩) (rowV_of (by decide) hcbB (fun _ => rfl)) ?_
    refine step_assume (fun _ => chkAcc (k := 60) (by decide) (fun _ => ⟨rfl, rfl⟩) hdvB) ?_
    refine step_assume (fun _ => chkRow (k := 60) (by decide) hjvB hcbB (fun _ => rfl)) ?_
    refine step_gather_row ?_
    refine step_feature 60 (fun _ => ⟨rfl, rfl⟩) (rowV_of (by decide) hcbB (fun _ => rfl)) ?_
    refine step_assume (fun _ => chkAcc (k := 61) (by decide) (fun _ => ⟨rfl, rfl⟩) hdvB) ?_
    refine step_assume (fun _ => chkRow (k := 61) (by decide) hjvB hcbB (fun _ => rfl)) ?_
    refine step_gather_row ?_
    refine step_feature 61 (fun _ => ⟨rfl, rfl⟩) (rowV_of (by decide) hcbB (fun _ => rfl)) ?_
    refine step_pure ?_
    refine step_assume (fun _ => chkAcc (k := 62) (by decide) (fun _ => ⟨rfl, rfl⟩) hdvB) ?_
    refine step_assume (fun _ => chkRow (k := 62) (by decide) hjvB hcbB (fun _ => rfl)) ?_
    refine step_gather_row ?_
    refine step_feature 62 (fun _ => ⟨rfl, rfl⟩) (rowV_of (by decide) hcbB (fun _ => rfl)) ?_
    refine step_assume (fun _ => chkAcc (k := 63) (by decide) (fun _ => ⟨rfl, rfl⟩) hdvB) ?_
    refine step_assume (fun _ => chkRow (k := 63) (by decide) hjvB hcbB (fun _ => rfl)) ?_
    refine step_gather_row ?_
    refine step_feature 63 (fun _ => ⟨rfl, rfl⟩) (rowV_of (by decide) hcbB (fun _ => rfl)) ?_
    refine step_pure ?_
    have eR := fun (k : Fin 16) {c : ℕ} (hc : c < 64) => rowsAt_rowV hrow (g := 16) (by omega) hjB (fun k => (hcB wB _).trans (congrArg (fun w : BitVec 32 => w.toNat / 8192 % 2 * 64) (hvB k))) k hc
    have eB := accN_sixteen (F := F) (g := addE x2) (rf := rf) (m := m) (n := 32 * t.val + 16) (A := A) (add := true) (dv := k0_pay102 (F := F) wB) (mask := k0_pay105 laneV (BitVec.ofNat 32 m) (Scalar.muli (Scf.iv 0#32 1#32 t) 32#32)) (V := rowV row (k0_pay101 laneV) (k0_pay104 (k0_pay103 (F := F) wB) 1#32))
      (fun k => lane_lt (hbase 16 (by omega)) (by omega) (by omega) k) (fun k => (shr14_toNat _).trans (congrArg (fun w : BitVec 32 => w.toNat / 16384) (hvB k)))
      (fun k c y hc => by
        rw [if_pos rfl, eR k hc, addE_on]) (addE_off x2)
    rw [eB]
    iintro ⟨a, b, c⟩
    isplitl [a]; · iexact a
    isplitl [b]; · iexists _; iexact b
    iexact c
  iintro ⟨a, ⟨%row, b⟩, c⟩
  iapply (hrow0 row)
  isplitl [a]; · iexact a
  isplitl [b]; · iexact b
  iexact c
end Runs

end Cert.Proof
-- ==== Proof.Zero.lean ====
/- After a round's chunk is written out, its entries' columns of the accumulator are cleared, thirty-two entries at a time. -/
module

public import proofs.«01_k».proof.Proof.Add
public import proofs.«01_k».proof.Proof.Clear

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

section Runs
variable {d : Dev nD} {L : grid0.Coords} {R : sProp (MT nD τ sig (HIx 1) (Elt F) ℕ UU ℕ)}

/-- Zero, as the program writes it. -/
abbrev zF : F .f32 := Scalar.ofBits .f32 0#32

theorem t8_body_run {rf : S16384.Idx → BitVec 32} {A : S8x8x1024.Idx → F .f32} {m : ℕ} (hm : m ≤ 16384) (hrf : RowsOK rf)
    (t3 : Fin k0_t3_loop.trips) (h1 : k0_cond1 L t3 = 1#1) (hw8 : k0_chk8 L t3 (BitVec.ofNat 32 m)) (t : Fin (k0_t8_loop (BitVec.ofNat 32 m)).trips) (acc : BitVec 32) :
    iprop(accPts (F := F) d L (accN (clrE (zF (F := F))) rf m A (32 * t.val)) ∗ rndPts (F := F) d L rf ∗ R) ⊢
      wpt (F := F) d L (k0_t8_body L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 laneV t3 h1 (BitVec.ofNat 32 m) hw8 t acc) fun _ =>
        iprop(accPts (F := F) d L (accN (clrE (zF (F := F))) rf m A (32 * (t.val + 1))) ∗ rndPts (F := F) d L rf ∗ R) := by
  have ht : t.val < (m + 31) / 32 := lt_of_lt_of_eq t.isLt (t8_trips hm)
  unfold k0_t8_body
  have hvA : ∀ k : Fin 16, mRnd.view.readAt (Elt F) (Rect.unit (s := S16384) (k0_off91 (BitVec.ofNat 32 m) t) S16.size (k0_off91_inb L t3 _ hw8 t h1)).toLoadRect rf (ln k) = cell rf (32 * t.val + k.val) :=
    fun k => rnd_load (F := F) k (off91_at t (by omega))
  have hvB : ∀ k : Fin 16, mRnd.view.readAt (Elt F) (Rect.unit (s := S16384) (k0_off92 (BitVec.ofNat 32 m) t) S16.size (k0_off92_inb L t3 _ hw8 t h1)).toLoadRect rf (ln k) = cell rf (32 * t.val + 16 + k.val) :=
    fun k => rnd_load (F := F) k (off92_at t (by omega))
  have hdv : ∀ {w : IVec S16 32} {n : ℕ}, n + 16 ≤ 16384 → (∀ k : Fin 16, w (ln k) = cell rf (n + k.val)) → ∀ x, (shrui w (broadcast S16 14#32) x).toNat < 1024 := by
    intro w n hn hw x
    obtain ⟨k, rfl⟩ := ln_surj x
    change (IntOp.shrui .vector (w (ln k)) 14#32).toNat < 1024
    rw [shr14_toNat, hw]
    exact hrf _ (by have := k.isLt; omega)
  have hbase : ∀ r : ℕ, r ≤ 16 → Scalar.addi (Scalar.muli (Scf.iv 0#32 1#32 t) 32#32) (BitVec.ofNat 32 r) = BitVec.ofNat 32 (32 * t.val + r) := fun r hr => by
    rw [iv_nat, muladd_nat (c := 32) (by omega) (by omega), Nat.mul_comm]
  have hdvA : ∀ x, (k0_pay320 (F := F) (mRnd.view.readAt (Elt F) (Rect.unit (s := S16384) (k0_off91 (BitVec.ofNat 32 m) t) S16.size (k0_off91_inb L t3 _ hw8 t h1)).toLoadRect rf) x).toNat < 1024 := hdv (by omega) hvA
  have hdvB : ∀ x, (k0_pay328 (F := F) (mRnd.view.readAt (Elt F) (Rect.unit (s := S16384) (k0_off92 (BitVec.ofNat 32 m) t) S16.size (k0_off92_inb L t3 _ hw8 t h1)).toLoadRect rf) x).toNat < 1024 := hdv (by omega) hvB
  refine rebase (add := false) (dv := k0_pay320 (F := F) (mRnd.view.readAt (Elt F) (Rect.unit (s := S16384) (k0_off91 (BitVec.ofNat 32 m) t) S16.size (k0_off91_inb L t3 _ hw8 t h1)).toLoadRect rf)) (mask := k0_pay321 laneV (BitVec.ofNat 32 m) 0#32 1#32 t) (V := fun x _ => (k0_pay1 (F := F)) x) ?_
  refine step_bind (part70_run _ _ _ _ _ _ _ _ _ hdvA ?_)
  refine step_bind (part71_run _ _ _ _ _ hdvA ?_)
  refine step_bind (part72_run _ _ _ _ _ hdvA ?_)
  refine step_bind (part73_run _ _ _ _ _ hdvA ?_)
  refine step_bind (part74_run _ _ _ _ _ hdvA ?_)
  refine step_bind (part75_run _ _ _ _ _ hdvA ?_)
  refine step_bind (part76_run _ _ _ _ _ _ _ _ _ _ hdvA hdvB ?_)
  have eA := accN_sixteen (F := F) (g := clrE (zF (F := F))) (rf := rf) (m := m) (n := 32 * t.val) (A := A) (add := false) (dv := k0_pay320 (F := F) (mRnd.view.readAt (Elt F) (Rect.unit (s := S16384) (k0_off91 (BitVec.ofNat 32 m) t) S16.size (k0_off91_inb L t3 _ hw8 t h1)).toLoadRect rf)) (mask := k0_pay321 laneV (BitVec.ofNat 32 m) 0#32 1#32 t) (V := fun x _ => (k0_pay1 (F := F)) x)
    (fun k => lane_lt (hbase 0 (by omega)) (by omega) (by omega) k) (fun k => (shr14_toNat _).trans (congrArg (fun w : BitVec 32 => w.toNat / 16384) (hvA k)))
    (fun k c y hc => (if_neg Bool.false_ne_true).trans (if_pos rfl).symm) (clrE_off _)
  rw [eA]
  refine step_bind (part77_run _ _ _ _ _ hdvB ?_)
  refine step_bind (part78_run _ _ _ _ _ hdvB ?_)
  refine step_bind (part79_run _ _ _ _ _ hdvB ?_)
  refine step_bind (part80_run _ _ _ _ _ hdvB ?_)
  refine step_bind (part81_run _ _ _ _ _ hdvB ?_)
  refine step_bind (part82_run _ _ _ _ _ hdvB ?_)
  refine step_assume (fun _ => chkAcc (k := 61) (by decide) (fun _ => ⟨rfl, rfl⟩) hdvB) ?_
  refine step_feature 61 (fun _ => ⟨rfl, rfl⟩) (fun _ => rfl) ?_
  refine step_assume (fun _ => chkAcc (k := 62) (by decide) (fun _ => ⟨rfl, rfl⟩) hdvB) ?_
  refine step_feature 62 (fun _ => ⟨rfl, rfl⟩) (fun _ => rfl) ?_
  refine step_assume (fun _ => chkAcc (k := 63) (by decide) (fun _ => ⟨rfl, rfl⟩) hdvB) ?_
  refine step_feature 63 (fun _ => ⟨rfl, rfl⟩) (fun _ => rfl) ?_
  refine step_pure ?_
  have eB := accN_sixteen (F := F) (g := clrE (zF (F := F))) (rf := rf) (m := m) (n := 32 * t.val + 16) (A := A) (add := false) (dv := k0_pay328 (F := F) (mRnd.view.readAt (Elt F) (Rect.unit (s := S16384) (k0_off92 (BitVec.ofNat 32 m) t) S16.size (k0_off92_inb L t3 _ hw8 t h1)).toLoadRect rf)) (mask := k0_pay329 laneV (BitVec.ofNat 32 m) (Scalar.muli (Scf.iv 0#32 1#32 t) 32#32)) (V := fun x _ => (k0_pay1 (F := F)) x)
    (fun k => lane_lt (hbase 16 (by omega)) (by omega) (by omega) k) (fun k => (shr14_toNat _).trans (congrArg (fun w : BitVec 32 => w.toNat / 16384) (hvB k)))
    (fun k c y hc => (if_neg Bool.false_ne_true).trans (if_pos rfl).symm) (clrE_off _)
  rw [eB, show 32 * (t.val + 1) = 32 * t.val + 16 + 16 by omega]
end Runs

end Cert.Proof
-- ==== Proof.Init.lean ====
/- The accumulator is cleared before the first round, sixteen columns of every feature in a trip. -/
module

public import proofs.«01_k».proof.Proof.Zero

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- Every cell of the columns before `16 * t` is zero, and of the next sixteen those of the first `n` features. -/
def ZeroTo (t n : ℕ) (f : S8x8x1024.Idx → F .f32) : Prop := ∀ j : S8x8x1024.Idx, (j 2).val < 16 * t ∨ ((j 2).val < 16 * t + 16 ∧ ft j < n) → f j = zF

theorem zeroTo_next {t : ℕ} {f : S8x8x1024.Idx → F .f32} (h : ZeroTo t 64 f) : ZeroTo (t + 1) 0 f := by
  intro j hj
  rcases hj with hj | hj
  · by_cases h' : (j 2).val < 16 * t
    · exact h j (.inl h')
    · exact h j (.inr ⟨by omega, ft_lt j⟩)
  · exact absurd hj.2 (by omega)

theorem zeroTo_full {f : S8x8x1024.Idx → F .f32} (h : ZeroTo 64 0 f) : f = fun _ => zF := by
  funext j
  exact h j (.inl (j 2).isLt)

section Runs
variable {d : Dev nD} {L : grid0.Coords} {R : sProp (MT nD τ sig (HIx 1) (Elt F) ℕ UU ℕ)}

theorem zeroTo_write {t k : ℕ} {f : S8x8x1024.Idx → F .f32} (h : ZeroTo t k f) {off : Fin 3 → ℕ} {inb : ∀ a, off a + S1x1x16.size a ≤ S8x8x1024.size a} {w : S1x1x16.Idx → F .f32} (hw : ∀ x, w x = zF)
    (h0 : off 0 = k / 8) (h1 : off 1 = k % 8) (h2 : off 2 = 16 * t) :
    ZeroTo t (k + 1) ((mAcc.access (Rect.unit (s := S8x8x1024) off S1x1x16.size inb)).write (Elt F) f w Finset.univ) := by
  intro j hj
  by_cases hm : j ∈ (mAcc.access (Rect.unit (s := S8x8x1024) off S1x1x16.size inb)).set
  · obtain ⟨x, -, rfl⟩ := Finset.mem_map.1 hm
    exact (View.write_emb_of_mem _ _ (Finset.mem_univ x)).trans ((cast_eq _ _).trans (hw x))
  · refine (View.write_of_not_mem _ _ _ hm).trans (h j ?_)
    rcases hj with hj | hj
    · exact .inl hj
    · by_cases hk : ft j < k
      · exact .inr ⟨hj.1, hk⟩
      · by_cases hl : (j 2).val < 16 * t
        · exact .inl hl
        · exfalso
          apply hm
          have hb0 := (j 0).isLt; have hb1 := (j 1).isLt
          change (j 0).val < 8 at hb0; change (j 1).val < 8 at hb1
          have hf : 8 * (j 0).val + (j 1).val = k := by have := hj.2; unfold ft at this hk; omega
          have hj1 := hj.1
          refine Finset.mem_map.2 ⟨fun a => ⟨(![0, 0, (j 2).val - 16 * t] : Fin 3 → ℕ) a, match a with | ⟨0, _⟩ => Nat.one_pos | ⟨1, _⟩ => Nat.one_pos | ⟨2, _⟩ => ?_⟩, Finset.mem_univ _, ?_⟩
          · change (j 2).val - 16 * t < 16; omega
          · funext a; apply Fin.ext
            match a with
            | ⟨0, _⟩ => change off 0 + 1 * 0 = (j 0).val; omega
            | ⟨1, _⟩ => change off 1 + 1 * 0 = (j 1).val; omega
            | ⟨2, _⟩ => change off 2 + 1 * ((j 2).val - 16 * t) = (j 2).val; omega

variable {α : Type} {Q : α → sProp (MT nD τ sig (HIx 1) (Elt F) ℕ UU ℕ)}
abbrev Zst (d : Dev nD) (L : grid0.Coords) (R : sProp (MT nD τ sig (HIx 1) (Elt F) ℕ UU ℕ)) (t n : ℕ) : sProp 𝕄 := iprop(∃ f, ⌜ZeroTo t n f⌝ ∗ accPts (F := F) d L f ∗ R)

theorem step_peek {t n : ℕ} {r : LoadRect S8x8x1024} {hl : mAcc.view.LoadsAt r} {k : (r.shape.Idx → F .f32) → Prog (TpuEff nD τ sig (Elt F) Λ₀ (.scVector (cV L) (jV L))) α}
    (hk : ∀ w, Zst d L R t n ⊢ wpt (F := F) d L (k w) Q) : Zst d L R t n ⊢ wpt (F := F) d L (Prog.lift (TpuEff.load mAcc r hl) >>= k) Q :=
  of_ex (F := F) (P := ZeroTo t n) (S := fun f => iprop(accPts (F := F) d L f ∗ R)) fun f hf => step_load_acc ((to_ex (F := F) (P := ZeroTo t n) (S := fun f => iprop(accPts (F := F) d L f ∗ R)) f hf).trans (hk _))

theorem step_fill {t n : ℕ} {off : Fin 3 → ℕ} {inb : ∀ a, off a + S1x1x16.size a ≤ S8x8x1024.size a} {w : S1x1x16.Idx → F .f32} {hx} {hm} {k : PUnit → Prog (TpuEff nD τ sig (Elt F) Λ₀ (.scVector (cV L) (jV L))) α}
    (h0 : off 0 = n / 8) (h1 : off 1 = n % 8) (h2 : off 2 = 16 * t) (hw : ∀ x, w x = zF) (hk : Zst d L R t (n + 1) ⊢ wpt (F := F) d L (k ⟨⟩) Q) :
    Zst d L R t n ⊢ wpt (F := F) d L (Prog.lift (TpuEff.store mAcc (Rect.unit (s := S8x8x1024) off S1x1x16.size inb) w Finset.univ hx hm) >>= k) Q :=
  of_ex (F := F) (P := ZeroTo t n) (S := fun f => iprop(accPts (F := F) d L f ∗ R)) fun f hf => step_store_acc ((to_ex (F := F) (P := ZeroTo t (n + 1)) (S := fun f => iprop(accPts (F := F) d L f ∗ R)) _ (zeroTo_write hf hw h0 h1 h2)).trans hk)

theorem col_at (t : Fin k0_t1_loop.trips) : k0_off1 t 2 = 16 * t.val := by
  have ht : t.val < 64 := lt_of_lt_of_eq t.isLt (by decide)
  change (Scalar.indexCast (Scalar.muli (Scf.iv 0#32 1#32 t) 16#32)).toNat = _
  rw [iv_nat]
  change (BitVec.ofNat 32 t.val * BitVec.ofNat 32 16).toNat = _
  rw [← BitVec.ofNat_mul, BitVec.toNat_ofNat]; omega

theorem fill1_run (t : Fin k0_t1_loop.trips) {Q : _ → sProp 𝕄} (hQ : Zst d L R t 5 ⊢ Q (Scf.iv 0#32 1#32 t)) :
    Zst d L R t 0 ⊢ wpt (F := F) d L (k0_part1 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 (k0_pay1 (F := F)) 0#32 1#32 t) Q := by
  have hw : ∀ x, shapeCast S1x1x16 (k0_pay1 (F := F)) shapeCasts_S16_S1x1x16 x = zF := fun x => rfl
  rw [k0_part1_eq_skeleton]; unfold k0_part1_skel
  refine step_peek fun _ => ?_
  refine step_fill (n := 0) rfl rfl (col_at t) hw ?_
  refine step_peek fun _ => ?_
  refine step_fill (n := 1) rfl rfl (col_at t) hw ?_
  refine step_peek fun _ => ?_
  refine step_fill (n := 2) rfl rfl (col_at t) hw ?_
  refine step_peek fun _ => ?_
  refine step_fill (n := 3) rfl rfl (col_at t) hw ?_
  refine step_peek fun _ => ?_
  refine step_fill (n := 4) rfl rfl (col_at t) hw ?_
  refine step_peek fun _ => ?_
  exact step_pure hQ

theorem fill2_run (t : Fin k0_t1_loop.trips) {Q : _ → sProp 𝕄} (hQ : Zst d L R t 11 ⊢ Q ⟨⟩) :
    Zst d L R t 5 ⊢ wpt (F := F) d L (k0_part2 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 (k0_pay1 (F := F)) t (Scf.iv 0#32 1#32 t)) Q := by
  have hw : ∀ x, shapeCast S1x1x16 (k0_pay1 (F := F)) shapeCasts_S16_S1x1x16 x = zF := fun x => rfl
  rw [k0_part2_eq_skeleton]; unfold k0_part2_skel
  refine step_fill (n := 5) rfl rfl (col_at t) hw ?_
  refine step_peek fun _ => ?_
  refine step_fill (n := 6) rfl rfl (col_at t) hw ?_
  refine step_peek fun _ => ?_
  refine step_fill (n := 7) rfl rfl (col_at t) hw ?_
  refine step_peek fun _ => ?_
  refine step_fill (n := 8) rfl rfl (col_at t) hw ?_
  refine step_peek fun _ => ?_
  refine step_fill (n := 9) rfl rfl (col_at t) hw ?_
  refine step_peek fun _ => ?_
  refine step_fill (n := 10) rfl rfl (col_at t) hw ?_
  refine step_peek fun _ => ?_
  exact step_pure hQ

theorem fill3_run (t : Fin k0_t1_loop.trips) {Q : _ → sProp 𝕄} (hQ : Zst d L R t 17 ⊢ Q ⟨⟩) :
    Zst d L R t 11 ⊢ wpt (F := F) d L (k0_part3 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 (k0_pay1 (F := F)) t (Scf.iv 0#32 1#32 t)) Q := by
  have hw : ∀ x, shapeCast S1x1x16 (k0_pay1 (F := F)) shapeCasts_S16_S1x1x16 x = zF := fun x => rfl
  rw [k0_part3_eq_skeleton]; unfold k0_part3_skel
  refine step_fill (n := 11) rfl rfl (col_at t) hw ?_
  refine step_peek fun _ => ?_
  refine step_fill (n := 12) rfl rfl (col_at t) hw ?_
  refine step_peek fun _ => ?_
  refine step_fill (n := 13) rfl rfl (col_at t) hw ?_
  refine step_peek fun _ => ?_
  refine step_fill (n := 14) rfl rfl (col_at t) hw ?_
  refine step_peek fun _ => ?_
  refine step_fill (n := 15) rfl rfl (col_at t) hw ?_
  refine step_peek fun _ => ?_
  refine step_fill (n := 16) rfl rfl (col_at t) hw ?_
  refine step_peek fun _ => ?_
  exact step_pure hQ

theorem fill4_run (t : Fin k0_t1_loop.trips) {Q : _ → sProp 𝕄} (hQ : Zst d L R t 23 ⊢ Q ⟨⟩) :
    Zst d L R t 17 ⊢ wpt (F := F) d L (k0_part4 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 (k0_pay1 (F := F)) t (Scf.iv 0#32 1#32 t)) Q := by
  have hw : ∀ x, shapeCast S1x1x16 (k0_pay1 (F := F)) shapeCasts_S16_S1x1x16 x = zF := fun x => rfl
  rw [k0_part4_eq_skeleton]; unfold k0_part4_skel
  refine step_fill (n := 17) rfl rfl (col_at t) hw ?_
  refine step_peek fun _ => ?_
  refine step_fill (n := 18) rfl rfl (col_at t) hw ?_
  refine step_peek fun _ => ?_
  refine step_fill (n := 19) rfl rfl (col_at t) hw ?_
  refine step_peek fun _ => ?_
  refine step_fill (n := 20) rfl rfl (col_at t) hw ?_
  refine step_peek fun _ => ?_
  refine step_fill (n := 21) rfl rfl (col_at t) hw ?_
  refine step_peek fun _ => ?_
  refine step_fill (n := 22) rfl rfl (col_at t) hw ?_
  refine step_peek fun _ => ?_
  exact step_pure hQ

theorem fill5_run (t : Fin k0_t1_loop.trips) {Q : _ → sProp 𝕄} (hQ : Zst d L R t 29 ⊢ Q ⟨⟩) :
    Zst d L R t 23 ⊢ wpt (F := F) d L (k0_part5 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 (k0_pay1 (F := F)) t (Scf.iv 0#32 1#32 t)) Q := by
  have hw : ∀ x, shapeCast S1x1x16 (k0_pay1 (F := F)) shapeCasts_S16_S1x1x16 x = zF := fun x => rfl
  rw [k0_part5_eq_skeleton]; unfold k0_part5_skel
  refine step_fill (n := 23) rfl rfl (col_at t) hw ?_
  refine step_peek fun _ => ?_
  refine step_fill (n := 24) rfl rfl (col_at t) hw ?_
  refine step_peek fun _ => ?_
  refine step_fill (n := 25) rfl rfl (col_at t) hw ?_
  refine step_peek fun _ => ?_
  refine step_fill (n := 26) rfl rfl (col_at t) hw ?_
  refine step_peek fun _ => ?_
  refine step_fill (n := 27) rfl rfl (col_at t) hw ?_
  refine step_peek fun _ => ?_
  refine step_fill (n := 28) rfl rfl (col_at t) hw ?_
  refine step_peek fun _ => ?_
  exact step_pure hQ

theorem fill6_run (t : Fin k0_t1_loop.trips) {Q : _ → sProp 𝕄} (hQ : Zst d L R t 35 ⊢ Q ⟨⟩) :
    Zst d L R t 29 ⊢ wpt (F := F) d L (k0_part6 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 (k0_pay1 (F := F)) t (Scf.iv 0#32 1#32 t)) Q := by
  have hw : ∀ x, shapeCast S1x1x16 (k0_pay1 (F := F)) shapeCasts_S16_S1x1x16 x = zF := fun x => rfl
  rw [k0_part6_eq_skeleton]; unfold k0_part6_skel
  refine step_fill (n := 29) rfl rfl (col_at t) hw ?_
  refine step_peek fun _ => ?_
  refine step_fill (n := 30) rfl rfl (col_at t) hw ?_
  refine step_peek fun _ => ?_
  refine step_fill (n := 31) rfl rfl (col_at t) hw ?_
  refine step_peek fun _ => ?_
  refine step_fill (n := 32) rfl rfl (col_at t) hw ?_
  refine step_peek fun _ => ?_
  refine step_fill (n := 33) rfl rfl (col_at t) hw ?_
  refine step_peek fun _ => ?_
  refine step_fill (n := 34) rfl rfl (col_at t) hw ?_
  refine step_peek fun _ => ?_
  exact step_pure hQ

theorem fill7_run (t : Fin k0_t1_loop.trips) {Q : _ → sProp 𝕄} (hQ : Zst d L R t 41 ⊢ Q ⟨⟩) :
    Zst d L R t 35 ⊢ wpt (F := F) d L (k0_part7 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 (k0_pay1 (F := F)) t (Scf.iv 0#32 1#32 t)) Q := by
  have hw : ∀ x, shapeCast S1x1x16 (k0_pay1 (F := F)) shapeCasts_S16_S1x1x16 x = zF := fun x => rfl
  rw [k0_part7_eq_skeleton]; unfold k0_part7_skel
  refine step_fill (n := 35) rfl rfl (col_at t) hw ?_
  refine step_peek fun _ => ?_
  refine step_fill (n := 36) rfl rfl (col_at t) hw ?_
  refine step_peek fun _ => ?_
  refine step_fill (n := 37) rfl rfl (col_at t) hw ?_
  refine step_peek fun _ => ?_
  refine step_fill (n := 38) rfl rfl (col_at t) hw ?_
  refine step_peek fun _ => ?_
  refine step_fill (n := 39) rfl rfl (col_at t) hw ?_
  refine step_peek fun _ => ?_
  refine step_fill (n := 40) rfl rfl (col_at t) hw ?_
  refine step_peek fun _ => ?_
  exact step_pure hQ

theorem fill8_run (t : Fin k0_t1_loop.trips) {Q : _ → sProp 𝕄} (hQ : Zst d L R t 47 ⊢ Q ⟨⟩) :
    Zst d L R t 41 ⊢ wpt (F := F) d L (k0_part8 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 (k0_pay1 (F := F)) t (Scf.iv 0#32 1#32 t)) Q := by
  have hw : ∀ x, shapeCast S1x1x16 (k0_pay1 (F := F)) shapeCasts_S16_S1x1x16 x = zF := fun x => rfl
  rw [k0_part8_eq_skeleton]; unfold k0_part8_skel
  refine step_fill (n := 41) rfl rfl (col_at t) hw ?_
  refine step_peek fun _ => ?_
  refine step_fill (n := 42) rfl rfl (col_at t) hw ?_
  refine step_peek fun _ => ?_
  refine step_fill (n := 43) rfl rfl (col_at t) hw ?_
  refine step_peek fun _ => ?_
  refine step_fill (n := 44) rfl rfl (col_at t) hw ?_
  refine step_peek fun _ => ?_
  refine step_fill (n := 45) rfl rfl (col_at t) hw ?_
  refine step_peek fun _ => ?_
  refine step_fill (n := 46) rfl rfl (col_at t) hw ?_
  refine step_peek fun _ => ?_
  exact step_pure hQ

theorem fill9_run (t : Fin k0_t1_loop.trips) {Q : _ → sProp 𝕄} (hQ : Zst d L R t 53 ⊢ Q ⟨⟩) :
    Zst d L R t 47 ⊢ wpt (F := F) d L (k0_part9 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 (k0_pay1 (F := F)) t (Scf.iv 0#32 1#32 t)) Q := by
  have hw : ∀ x, shapeCast S1x1x16 (k0_pay1 (F := F)) shapeCasts_S16_S1x1x16 x = zF := fun x => rfl
  rw [k0_part9_eq_skeleton]; unfold k0_part9_skel
  refine step_fill (n := 47) rfl rfl (col_at t) hw ?_
  refine step_peek fun _ => ?_
  refine step_fill (n := 48) rfl rfl (col_at t) hw ?_
  refine step_peek fun _ => ?_
  refine step_fill (n := 49) rfl rfl (col_at t) hw ?_
  refine step_peek fun _ => ?_
  refine step_fill (n := 50) rfl rfl (col_at t) hw ?_
  refine step_peek fun _ => ?_
  refine step_fill (n := 51) rfl rfl (col_at t) hw ?_
  refine step_peek fun _ => ?_
  refine step_fill (n := 52) rfl rfl (col_at t) hw ?_
  refine step_peek fun _ => ?_
  exact step_pure hQ

theorem fill10_run (t : Fin k0_t1_loop.trips) {Q : _ → sProp 𝕄} (hQ : Zst d L R t 59 ⊢ Q ⟨⟩) :
    Zst d L R t 53 ⊢ wpt (F := F) d L (k0_part10 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 (k0_pay1 (F := F)) t (Scf.iv 0#32 1#32 t)) Q := by
  have hw : ∀ x, shapeCast S1x1x16 (k0_pay1 (F := F)) shapeCasts_S16_S1x1x16 x = zF := fun x => rfl
  rw [k0_part10_eq_skeleton]; unfold k0_part10_skel
  refine step_fill (n := 53) rfl rfl (col_at t) hw ?_
  refine step_peek fun _ => ?_
  refine step_fill (n := 54) rfl rfl (col_at t) hw ?_
  refine step_peek fun _ => ?_
  refine step_fill (n := 55) rfl rfl (col_at t) hw ?_
  refine step_peek fun _ => ?_
  refine step_fill (n := 56) rfl rfl (col_at t) hw ?_
  refine step_peek fun _ => ?_
  refine step_fill (n := 57) rfl rfl (col_at t) hw ?_
  refine step_peek fun _ => ?_
  refine step_fill (n := 58) rfl rfl (col_at t) hw ?_
  refine step_peek fun _ => ?_
  exact step_pure hQ

theorem t1_body_run (t : Fin k0_t1_loop.trips) (acc : BitVec 32) :
    Zst d L R t 0 ⊢ wpt (F := F) d L (k0_t1_body L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 t acc) fun _ => Zst d L R (t.val + 1) 0 := by
  have hw : ∀ x, shapeCast S1x1x16 (k0_pay1 (F := F)) shapeCasts_S16_S1x1x16 x = zF := fun x => rfl
  unfold k0_t1_body
  refine step_bind (fill1_run t ?_)
  refine step_bind (fill2_run t ?_)
  refine step_bind (fill3_run t ?_)
  refine step_bind (fill4_run t ?_)
  refine step_bind (fill5_run t ?_)
  refine step_bind (fill6_run t ?_)
  refine step_bind (fill7_run t ?_)
  refine step_bind (fill8_run t ?_)
  refine step_bind (fill9_run t ?_)
  refine step_bind (fill10_run t ?_)
  refine step_fill (n := 59) rfl rfl (col_at t) hw ?_
  refine step_peek fun _ => ?_
  refine step_fill (n := 60) rfl rfl (col_at t) hw ?_
  refine step_peek fun _ => ?_
  refine step_fill (n := 61) rfl rfl (col_at t) hw ?_
  refine step_peek fun _ => ?_
  refine step_fill (n := 62) rfl rfl (col_at t) hw ?_
  refine step_peek fun _ => ?_
  refine step_fill (n := 63) rfl rfl (col_at t) hw ?_
  refine step_pure ?_
  exact of_ex (F := F) (P := ZeroTo t 64) (S := fun f => iprop(accPts (F := F) d L f ∗ R)) fun f hf => to_ex (F := F) (P := ZeroTo (t.val + 1) 0) (S := fun f => iprop(accPts (F := F) d L f ∗ R)) f (zeroTo_next hf)
end Runs

end Cert.Proof
-- ==== Proof.Copy.lean ====
/- The copies of a finished chunk: eight slabs of the accumulator sent on one semaphore, then awaited, at both widths. -/
module

public import proofs.«01_k».proof.Proof.Init

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- Eight rows of the result, from `8 * a` on, over `wd` columns from `base` on. -/
def slabO (base wd a : ℕ) : Finset S64x1000064.Idx := Finset.univ.filter fun j => (8 * a ≤ (j 0).val ∧ (j 0).val < 8 * a + 8) ∧ base ≤ (j 1).val ∧ (j 1).val < base + wd
/-- The accumulator's row `a`, its first `wd` columns. -/
def slabA (wd a : ℕ) : Finset S8x8x1024.Idx := Finset.univ.filter fun j => (j 0).val = a ∧ (j 2).val < wd

theorem mem_slabO {base wd a : ℕ} {j : S64x1000064.Idx} : j ∈ slabO base wd a ↔ (8 * a ≤ (j 0).val ∧ (j 0).val < 8 * a + 8) ∧ base ≤ (j 1).val ∧ (j 1).val < base + wd := by simp [slabO]
theorem mem_slabA {wd a : ℕ} {j : S8x8x1024.Idx} : j ∈ slabA wd a ↔ (j 0).val = a ∧ (j 2).val < wd := by simp [slabA]

theorem slabO_disj {base wd a b : ℕ} (h : a ≠ b) : Disjoint (slabO base wd a) (slabO base wd b) := by
  refine Finset.disjoint_left.2 fun j ha hb => h ?_
  have := mem_slabO.1 ha; have := mem_slabO.1 hb; omega
theorem slabA_disj {wd a b : ℕ} (h : a ≠ b) : Disjoint (slabA wd a) (slabA wd b) := by
  refine Finset.disjoint_left.2 fun j ha hb => h ?_
  have := mem_slabA.1 ha; have := mem_slabA.1 hb; omega

/-- The result's chunk of `wd` columns at `base` is the accumulator's. -/
def Filled (base wd : ℕ) (A : S8x8x1024.Idx → F .f32) (G : S64x1000064.Idx → F .f32) : Prop :=
  ∀ (j : S64x1000064.Idx) (x : S8x8x1024.Idx), (j 0).val = ft x → (j 1).val = base + (x 2).val → (x 2).val < wd → G j = A x

section Steps
variable {d : Dev nD} {L : grid0.Coords} {R : sProp (MT nD τ sig (HIx 1) (Elt F) ℕ UU ℕ)}

abbrev outOn (d : Dev nD) (L : grid0.Coords) (S : Finset S64x1000064.Idx) (f : S64x1000064.Idx → F .f32) : sProp 𝕄 :=
  mO.view.loc (thr d L) ↦[(S : Finset (Idx (mO.view.loc (thr d L))))]{fullShare} (f : Buf (Elt F) (mO.view.loc (thr d L)))
abbrev accOn (d : Dev nD) (L : grid0.Coords) (S : Finset S8x8x1024.Idx) (f : S8x8x1024.Idx → F .f32) : sProp 𝕄 :=
  mAcc.view.loc (thr d L) ↦[(S : Finset (Idx (mAcc.view.loc (thr d L))))]{fullShare} (f : Buf (Elt F) (mAcc.view.loc (thr d L)))

/-- A slab of the result and the slab of the accumulator it is copied from. -/
abbrev Slab (d : Dev nD) (L : grid0.Coords) (base wd : ℕ) (A : S8x8x1024.Idx → F .f32) (f : S64x1000064.Idx → F .f32) (a : Fin 8) : sProp 𝕄 :=
  iprop(outOn d L (slabO base wd a) f ∗ accOn d L (slabA wd a) A)

abbrev Bat (d : Dev nD) (L : grid0.Coords) (sm : DmaSem sig) (N : ℕ) (D : Fin 8 → sProp (MT nD τ sig (HIx 1) (Elt F) ℕ UU ℕ)) (k u : ℕ) : sProp 𝕄 :=
  Transfers.Batch countersEmb (thr d L) (.dma sm) (default : HIx 1) N D k u

/-- Slabs `k …` still to be sent, the ones before on their way. -/
abbrev Iss (d : Dev nD) (L : grid0.Coords) (sm : DmaSem sig) (N base wd : ℕ) (A : S8x8x1024.Idx → F .f32) (h G : S64x1000064.Idx → F .f32) (R : sProp (MT nD τ sig (HIx 1) (Elt F) ℕ UU ℕ)) (k : ℕ) : sProp 𝕄 :=
  iprop(bigSep (Transfers.pending k) (Slab (F := F) d L base wd A h) ∗ Bat (F := F) d L sm N (Slab (F := F) d L base wd A G) k 0 ∗ R)

/-- All eight sent, `u` units awaited. -/
abbrev Wai (d : Dev nD) (L : grid0.Coords) (sm : DmaSem sig) (N base wd : ℕ) (A : S8x8x1024.Idx → F .f32) (G : S64x1000064.Idx → F .f32) (O : CellTallies nD τ sig (HIx 1)) (W : Waits sig (HIx 1)) (R : sProp (MT nD τ sig (HIx 1) (Elt F) ℕ UU ℕ)) (u : ℕ) : sProp 𝕄 :=
  iprop(Bat (F := F) d L sm N (Slab (F := F) d L base wd A G) 8 u ∗ Tok (F := F) d L O W ∗ R)

variable {α : Type} {Q : α → sProp (MT nD τ sig (HIx 1) (Elt F) ℕ UU ℕ)}

theorem iss_start {sm : DmaSem sig} {N base wd : ℕ} {A : S8x8x1024.Idx → F .f32} {h G : S64x1000064.Idx → F .f32} {p : Prog (TpuEff nD τ sig (Elt F) Λ₀ (.scVector (cV L) (jV L))) α}
    (hk : Iss d L sm N base wd A h G R 0 ⊢ wpt (F := F) d L p Q) :
    iprop(bigSep Finset.univ (Slab (F := F) d L base wd A h) ∗ semVal (thr d L, SemLoc.dma sm) 0 ∗ R) ⊢ wpt (F := F) d L p Q := by
  iintro ⟨HS, Hv, HR⟩
  imod (Transfers.batch_alloc' (Lvl := ℕ) countersEmb (thr d L) (default : HIx 1) N (Slab (F := F) d L base wd A G) (sm := .dma sm) (E := Set.univ)) $$ Hv with HB
  iapply hk
  isplitl [HS]
  · rw [Transfers.pending_zero]; iexact HS
  isplitl [HB]; · iexact HB
  iexact HR

theorem slab_swap (base wd : ℕ) (A : S8x8x1024.Idx → F .f32) (f g : S64x1000064.Idx → F .f32) (a : Fin 8) (h : ∀ j ∈ slabO base wd a, f j = g j) :
    (Slab (F := F) d L base wd A f a : sProp 𝕄) = Slab d L base wd A g a := by
  unfold Slab
  rw [show (outOn d L (slabO base wd a) f : sProp 𝕄) = outOn d L (slabO base wd a) g from pointsTo_congr h]

abbrev cO_1024 (off : Fin 2 → ℕ) (inb : ∀ a, off a + S8x1024.size a ≤ S64x1000064.size a) : Memref sig .scVector .hbm S8x1024 .f32 := mO.slice (Rect.unit (s := S64x1000064) off S8x1024.size inb) (fun _ => rfl)
abbrev cA_1024 (off : Fin 3 → ℕ) (inb : ∀ a, off a + S1x8x1024.size a ≤ S8x8x1024.size a) : Memref sig .scVector .vmem S8x1024 .f32 := (mAcc.slice (Rect.unit (s := S8x8x1024) off S1x8x1024.size inb) (fun _ => rfl)).squeeze S8x1024 squeezes_S1x8x1024_S8x1024
/-- What one copy of this width is worth on its semaphore. -/
abbrev crd_1024 : ℕ := (cO_1024 ![0, 0] (by decide)).view.dmaCredit

theorem crdO_1024 (off : Fin 2 → ℕ) (inb) : (cO_1024 off inb).view.dmaCredit = crd_1024 := rfl

theorem setO_1024 {off : Fin 2 → ℕ} {inb} {base a : ℕ} (h0 : off 0 = 8 * a) (h1 : off 1 = base) : (cO_1024 off inb).view.set = slabO base 1024 a := by
  ext j
  rw [mem_slabO]
  constructor
  · intro hj
    obtain ⟨x, -, rfl⟩ := Finset.mem_map.1 hj
    have hx0 := (x 0).isLt; have hx1 := (x 1).isLt
    change (x 0).val < 8 at hx0; change (x 1).val < 1024 at hx1
    change (8 * a ≤ off 0 + 1 * (x 0).val ∧ off 0 + 1 * (x 0).val < 8 * a + 8) ∧ base ≤ off 1 + 1 * (x 1).val ∧ off 1 + 1 * (x 1).val < base + 1024
    omega
  · intro hj
    refine Finset.mem_map.2 ⟨fun b => ⟨(![(j 0).val - 8 * a, (j 1).val - base] : Fin 2 → ℕ) b, match b with | ⟨0, _⟩ => ?_ | ⟨1, _⟩ => ?_⟩, Finset.mem_univ _, ?_⟩
    · change (j 0).val - 8 * a < 8; omega
    · change (j 1).val - base < 1024; omega
    · funext b; apply Fin.ext
      match b with
      | ⟨0, _⟩ => change off 0 + 1 * ((j 0).val - 8 * a) = (j 0).val; omega
      | ⟨1, _⟩ => change off 1 + 1 * ((j 1).val - base) = (j 1).val; omega

theorem embA_1024 {off : Fin 3 → ℕ} {inb} {a : ℕ} (h0 : off 0 = a) (h1 : off 1 = 0) (h2 : off 2 = 0) (x : S8x1024.Idx) :
    let y := (cA_1024 off inb).view.emb x
    (y 0).val = a ∧ (y 1).val = (x 0).val ∧ (y 2).val = (x 1).val := by
  have e : Shape.reshapeEquiv (squeezes_S1x8x1024_S8x1024).numel_eq x = (fun b => ⟨(![0, (x 0).val, (x 1).val] : Fin 3 → ℕ) b, match b with | ⟨0, _⟩ => Nat.one_pos | ⟨1, _⟩ => (x 0).isLt | ⟨2, _⟩ => (x 1).isLt⟩ : S1x8x1024.Idx) := by
    apply Shape.reshapeEquiv_eq_of_rowMajor
    rw [Shape.rowMajor_val_three, Shape.rowMajor_val_two]
    change (0 * 8 + (x 0).val) * 1024 + (x 1).val = (x 0).val * 1024 + (x 1).val
    omega
  have ey : (cA_1024 off inb).view.emb x = (mAcc.slice (Rect.unit (s := S8x8x1024) off S1x8x1024.size inb) (fun _ => rfl)).view.emb (Shape.reshapeEquiv (squeezes_S1x8x1024_S8x1024).numel_eq x) := rfl
  intro y
  change ((cA_1024 off inb).view.emb x 0).val = a ∧ ((cA_1024 off inb).view.emb x 1).val = (x 0).val ∧ ((cA_1024 off inb).view.emb x 2).val = (x 1).val
  rw [ey, e]
  refine ⟨?_, ?_, ?_⟩
  · change off 0 + 1 * 0 = a; omega
  · change off 1 + 1 * (x 0).val = (x 0).val; omega
  · change off 2 + 1 * (x 1).val = (x 1).val; omega

theorem setA_1024 {off : Fin 3 → ℕ} {inb} {a : ℕ} (h0 : off 0 = a) (h1 : off 1 = 0) (h2 : off 2 = 0) : (cA_1024 off inb).view.set = slabA 1024 a := by
  ext j
  rw [mem_slabA]
  constructor
  · intro hj
    obtain ⟨x, -, rfl⟩ := Finset.mem_map.1 hj
    obtain ⟨e0, e1, e2⟩ := embA_1024 (inb := inb) h0 h1 h2 x
    exact ⟨e0, e2 ▸ (x 1).isLt⟩
  · intro hj
    let x : S8x1024.Idx := fun b => ⟨(![(j 1).val, (j 2).val] : Fin 2 → ℕ) b, match b with | ⟨0, _⟩ => (j 1).isLt | ⟨1, _⟩ => hj.2⟩
    refine Finset.mem_map.2 ⟨x, Finset.mem_univ _, ?_⟩
    obtain ⟨e0, e1, e2⟩ := embA_1024 (inb := inb) h0 h1 h2 x
    funext b; apply Fin.ext
    match b with
    | ⟨0, _⟩ => exact e0.trans hj.1.symm
    | ⟨1, _⟩ => exact e1
    | ⟨2, _⟩ => exact e2

theorem sent_1024 {off : Fin 2 → ℕ} {inb} {offA : Fin 3 → ℕ} {inbA} {base a : ℕ} {A : S8x8x1024.Idx → F .f32} {h G : S64x1000064.Idx → F .f32} (hG : Filled base 1024 A G)
    (h0 : off 0 = 8 * a) (h1 : off 1 = base) (a0 : offA 0 = a) (a1 : offA 1 = 0) (a2 : offA 2 = 0) (j : S64x1000064.Idx) (hj : j ∈ slabO base 1024 a) :
    (cO_1024 off inb).view.write (Elt F) h ((cA_1024 offA inbA).view.read (Elt F) A) Finset.univ j = G j := by
  rw [← setO_1024 (inb := inb) h0 h1] at hj
  obtain ⟨x, -, rfl⟩ := Finset.mem_map.1 hj
  refine (View.write_emb_of_mem _ _ (Finset.mem_univ x)).trans ((cast_eq _ _).trans ((View.read_apply _ _).trans ((cast_eq _ _).trans (hG _ _ ?_ ?_ ?_).symm)))
  all_goals obtain ⟨e0, e1, e2⟩ := embA_1024 (inb := inbA) a0 a1 a2 x
  · unfold ft; rw [e0, e1]; change off 0 + 1 * (x 0).val = _; omega
  · rw [e2]; change off 1 + 1 * (x 1).val = _; omega
  · rw [e2]; exact (x 1).isLt

theorem step_send_1024 {sm : DmaSem sig} {base : ℕ} {A : S8x8x1024.Idx → F .f32} {h G : S64x1000064.Idx → F .f32} {off : Fin 2 → ℕ} {inb} {offA : Fin 3 → ℕ} {inbA} {hsrc hdst hsem} {k : PUnit → Prog (TpuEff nD τ sig (Elt F) Λ₀ (.scVector (cV L) (jV L))) α}
    (a : ℕ) (ha : a < 8) (hG : Filled base 1024 A G) (h0 : off 0 = 8 * a) (h1 : off 1 = base) (a0 : offA 0 = a) (a1 : offA 1 = 0) (a2 : offA 2 = 0)
    (hk : Iss d L sm crd_1024 base 1024 A h G R (a + 1) ⊢ wpt (F := F) d L (k ⟨⟩) Q) :
    Iss d L sm crd_1024 base 1024 A h G R a ⊢ wpt (F := F) d L (Prog.lift (TpuEff.enqueueDma (cA_1024 offA inbA) (.here (cO_1024 off inb)) (.dma sm) hsrc hdst hsem) >>= k) Q := by
  iintro ⟨HS, HB, HR⟩
  ihave HS' := (Entails.of_eq (Transfers.bigSep_pending_step (Slab (F := F) d L base 1024 A h) a ha)) $$ HS
  icases HS' with ⟨⟨Hd, Hs⟩, HS⟩
  ihave Hd := (Entails.of_eq (show (outOn d L (slabO base 1024 a) h : sProp 𝕄) = (cO_1024 off inb).view.loc (thr d L) ↦[(cO_1024 off inb).view.set]{fullShare} (h : Buf (Elt F) (mO.view.loc (thr d L))) by rw [setO_1024 h0 h1])) $$ Hd
  ihave Hs := (Entails.of_eq (show (accOn d L (slabA 1024 a) A : sProp 𝕄) = (cA_1024 offA inbA).view.loc (thr d L) ↦[(cA_1024 offA inbA).view.set]{fullShare} (A : Buf (Elt F) (mAcc.view.loc (thr d L))) by rw [setA_1024 a0 a1 a2])) $$ Hs
  iapply (Transfers.wp_dmaBatch (defs := defs₀ (F := F)) (Q := Q) countersEmb 𝒱₀ (thr d L) none (src := cA_1024 offA inbA) (dst := cO_1024 off inb) (via := .same) (sm := .dma sm) (k := k) (q := fullShare) (fs := A) (fd := h) (Sd := (cO_1024 off inb).view.set)
      (D := Slab (F := F) d L base 1024 A G) (j := a) (u := 0) (default : HIx 1) crd_1024 rfl (Finset.Subset.refl _) ha (Nat.zero_le _) ?_) $$ [Hs Hd HB]
  · rw [setO_1024 h0 h1, setA_1024 a0 a1 a2]
    exact sep_mono (Entails.of_eq (pointsTo_congr fun j hj => sent_1024 hG h0 h1 a0 a1 a2 j hj)) .rfl
  · isplitl [Hs]; · iexact Hs
    isplitl [Hd]; · iexact Hd
    iexact HB
  iintro HB
  iapply hk
  isplitl [HS]; · iexact HS
  isplitl [HB]; · iexact HB
  iexact HR

theorem sent_all_1024 {sm : DmaSem sig} {base : ℕ} {A : S8x8x1024.Idx → F .f32} {h G : S64x1000064.Idx → F .f32} {O : CellTallies nD τ sig (HIx 1)} {W : Waits sig (HIx 1)} :
    Iss d L sm crd_1024 base 1024 A h G iprop(Tok (F := F) d L O W ∗ R) 8 ⊢ Wai d L sm crd_1024 base 1024 A G O W R 0 := by
  iintro ⟨HS, HB, Ht, HR⟩
  isplitl [HB]; · iexact HB
  isplitl [Ht]; · iexact Ht
  iexact HR

theorem step_await_1024 {sm : DmaSem sig} {base : ℕ} {A : S8x8x1024.Idx → F .f32} {G : S64x1000064.Idx → F .f32} {O : CellTallies nD τ sig (HIx 1)} {W : Waits sig (HIx 1)} {off : Fin 2 → ℕ} {inb} {offA : Fin 3 → ℕ} {inbA} {hsrc hdst} {k : PUnit → Prog (TpuEff nD τ sig (Elt F) Λ₀ (.scVector (cV L) (jV L))) α}
    (n : ℕ) (hn : n < 7) (hk : Wai d L sm crd_1024 base 1024 A G O W R (crd_1024 * (n + 1)) ⊢ wpt (F := F) d L (k ⟨⟩) Q) :
    Wai d L sm crd_1024 base 1024 A G O W R (crd_1024 * n) ⊢ wpt (F := F) d L (Prog.lift (TpuEff.waitDma2 sm (cA_1024 offA inbA) (cO_1024 off inb) hsrc hdst) >>= k) Q := by
  iintro ⟨HB, Ht, HR⟩
  ihave Ht' := (Entails.of_eq (show Tok (F := F) d L O W = iprop(levAts (K (F := F)).L (K (F := F)).lev ∗ ⌜∀ g, O g none = 0⌝ ∗ ∃ W', ⌜∀ p ∈ W', p ∈ W ∨ p.2 = none⌝ ∗ owes (thr d L) O W') from rfl)) $$ Ht
  icases Ht' with ⟨#Hlv, %hO, %W', %hW, HO⟩
  ihave Hmw := (show levAts (K (F := F)).L (K (F := F)).lev ⊢ Transfers.MayWaits (thr d L) (default : HIx 1) O from
    (K (F := F)).mayWaits_none (thr := thr d L) hO) $$ Hlv
  iapply (Transfers.wp_waitBatchO (defs := defs₀ (F := F)) (Q := Q) countersEmb 𝒱₀ (thr d L) none (sem := sm) (srcw := cA_1024 offA inbA) (dstw := cO_1024 off inb) (k := k) (default : HIx 1) (N := crd_1024) rfl
      (D := Slab (F := F) d L base 1024 A G) (u := crd_1024 * n) (by rw [← Nat.mul_succ]; exact Nat.mul_lt_mul_of_pos_left (by omega) (View.dmaCredit_pos _ (by decide)))) $$ [HB HO]
  · isplitl [HB]; · iexact HB
    isplitl [HO]; · iexact HO
    iapply (Transfers.MayWaits.elim (SemLoc.dma sm)) $$ Hmw
  iintro ⟨HB, HO⟩
  iapply hk
  isplitl [HB]; · iexact HB
  isplitr [HR]
  · iapply (Entails.of_eq (show iprop(levAts (K (F := F)).L (K (F := F)).lev ∗ ⌜∀ g, O g none = 0⌝ ∗ ∃ W', ⌜∀ p ∈ W', p ∈ W ∨ p.2 = none⌝ ∗ owes (thr d L) O W') = Tok (F := F) d L O W from rfl))
    isplitr; · iexact Hlv
    isplitr; · ipureintro; exact hO
    iexists _
    isplitr
    swap; · iexact HO
    ipureintro; intro p hp
    rcases Finset.mem_insert.mp hp with hp | hp
    · exact .inr (hp ▸ rfl)
    · exact hW p hp
  · iexact HR

theorem step_last_1024 {sm : DmaSem sig} {base : ℕ} {A : S8x8x1024.Idx → F .f32} {G : S64x1000064.Idx → F .f32} {O : CellTallies nD τ sig (HIx 1)} {W : Waits sig (HIx 1)} {off : Fin 2 → ℕ} {inb} {offA : Fin 3 → ℕ} {inbA} {hsrc hdst} {k : PUnit → Prog (TpuEff nD τ sig (Elt F) Λ₀ (.scVector (cV L) (jV L))) α}
    (hk : iprop(bigSep Finset.univ (Slab (F := F) d L base 1024 A G) ∗ semVal (thr d L, SemLoc.dma sm) 0 ∗ Tok (F := F) d L O W ∗ R) ⊢ wpt (F := F) d L (k ⟨⟩) Q) :
    Wai d L sm crd_1024 base 1024 A G O W R (crd_1024 * 7) ⊢ wpt (F := F) d L (Prog.lift (TpuEff.waitDma2 sm (cA_1024 offA inbA) (cO_1024 off inb) hsrc hdst) >>= k) Q := by
  iintro ⟨HB, Ht, HR⟩
  ihave Ht' := (Entails.of_eq (show Tok (F := F) d L O W = iprop(levAts (K (F := F)).L (K (F := F)).lev ∗ ⌜∀ g, O g none = 0⌝ ∗ ∃ W', ⌜∀ p ∈ W', p ∈ W ∨ p.2 = none⌝ ∗ owes (thr d L) O W') from rfl)) $$ Ht
  icases Ht' with ⟨#Hlv, %hO, %W', %hW, HO⟩
  ihave Hmw := (show levAts (K (F := F)).L (K (F := F)).lev ⊢ Transfers.MayWaits (thr d L) (default : HIx 1) O from
    (K (F := F)).mayWaits_none (thr := thr d L) hO) $$ Hlv
  iapply (Transfers.wp_waitBatchLastO (defs := defs₀ (F := F)) (Q := Q) countersEmb 𝒱₀ (thr d L) none (sem := sm) (srcw := cA_1024 offA inbA) (dstw := cO_1024 off inb) (k := k) (default : HIx 1) (N := crd_1024) rfl (View.dmaCredit_pos _ (by decide))
      (D := Slab (F := F) d L base 1024 A G) (u := crd_1024 * 7) (Nat.mul_succ _ _).symm) $$ [HB HO]
  · isplitl [HB]; · iexact HB
    isplitl [HO]; · iexact HO
    iapply (Transfers.MayWaits.elim (SemLoc.dma sm)) $$ Hmw
  iintro ⟨HS, Hv, HO⟩
  iapply hk
  isplitl [HS]; · iexact HS
  isplitl [Hv]; · iexact Hv
  isplitr [HR]
  · iapply (Entails.of_eq (show iprop(levAts (K (F := F)).L (K (F := F)).lev ∗ ⌜∀ g, O g none = 0⌝ ∗ ∃ W', ⌜∀ p ∈ W', p ∈ W ∨ p.2 = none⌝ ∗ owes (thr d L) O W') = Tok (F := F) d L O W from rfl))
    isplitr; · iexact Hlv
    isplitr; · ipureintro; exact hO
    iexists _
    isplitr
    swap; · iexact HO
    ipureintro; intro p hp
    rcases Finset.mem_insert.mp hp with hp | hp
    · exact .inr (hp ▸ rfl)
    · exact hW p hp
  · iexact HR

abbrev cO_640 (off : Fin 2 → ℕ) (inb : ∀ a, off a + S8x640.size a ≤ S64x1000064.size a) : Memref sig .scVector .hbm S8x640 .f32 := mO.slice (Rect.unit (s := S64x1000064) off S8x640.size inb) (fun _ => rfl)
abbrev cA_640 (off : Fin 3 → ℕ) (inb : ∀ a, off a + S1x8x640.size a ≤ S8x8x1024.size a) : Memref sig .scVector .vmem S8x640 .f32 := (mAcc.slice (Rect.unit (s := S8x8x1024) off S1x8x640.size inb) (fun _ => rfl)).squeeze S8x640 squeezes_S1x8x640_S8x640
/-- What one copy of this width is worth on its semaphore. -/
abbrev crd_640 : ℕ := (cO_640 ![0, 0] (by decide)).view.dmaCredit

theorem crdO_640 (off : Fin 2 → ℕ) (inb) : (cO_640 off inb).view.dmaCredit = crd_640 := rfl

theorem setO_640 {off : Fin 2 → ℕ} {inb} {base a : ℕ} (h0 : off 0 = 8 * a) (h1 : off 1 = base) : (cO_640 off inb).view.set = slabO base 640 a := by
  ext j
  rw [mem_slabO]
  constructor
  · intro hj
    obtain ⟨x, -, rfl⟩ := Finset.mem_map.1 hj
    have hx0 := (x 0).isLt; have hx1 := (x 1).isLt
    change (x 0).val < 8 at hx0; change (x 1).val < 640 at hx1
    change (8 * a ≤ off 0 + 1 * (x 0).val ∧ off 0 + 1 * (x 0).val < 8 * a + 8) ∧ base ≤ off 1 + 1 * (x 1).val ∧ off 1 + 1 * (x 1).val < base + 640
    omega
  · intro hj
    refine Finset.mem_map.2 ⟨fun b => ⟨(![(j 0).val - 8 * a, (j 1).val - base] : Fin 2 → ℕ) b, match b with | ⟨0, _⟩ => ?_ | ⟨1, _⟩ => ?_⟩, Finset.mem_univ _, ?_⟩
    · change (j 0).val - 8 * a < 8; omega
    · change (j 1).val - base < 640; omega
    · funext b; apply Fin.ext
      match b with
      | ⟨0, _⟩ => change off 0 + 1 * ((j 0).val - 8 * a) = (j 0).val; omega
      | ⟨1, _⟩ => change off 1 + 1 * ((j 1).val - base) = (j 1).val; omega

theorem embA_640 {off : Fin 3 → ℕ} {inb} {a : ℕ} (h0 : off 0 = a) (h1 : off 1 = 0) (h2 : off 2 = 0) (x : S8x640.Idx) :
    let y := (cA_640 off inb).view.emb x
    (y 0).val = a ∧ (y 1).val = (x 0).val ∧ (y 2).val = (x 1).val := by
  have e : Shape.reshapeEquiv (squeezes_S1x8x640_S8x640).numel_eq x = (fun b => ⟨(![0, (x 0).val, (x 1).val] : Fin 3 → ℕ) b, match b with | ⟨0, _⟩ => Nat.one_pos | ⟨1, _⟩ => (x 0).isLt | ⟨2, _⟩ => (x 1).isLt⟩ : S1x8x640.Idx) := by
    apply Shape.reshapeEquiv_eq_of_rowMajor
    rw [Shape.rowMajor_val_three, Shape.rowMajor_val_two]
    change (0 * 8 + (x 0).val) * 640 + (x 1).val = (x 0).val * 640 + (x 1).val
    omega
  have ey : (cA_640 off inb).view.emb x = (mAcc.slice (Rect.unit (s := S8x8x1024) off S1x8x640.size inb) (fun _ => rfl)).view.emb (Shape.reshapeEquiv (squeezes_S1x8x640_S8x640).numel_eq x) := rfl
  intro y
  change ((cA_640 off inb).view.emb x 0).val = a ∧ ((cA_640 off inb).view.emb x 1).val = (x 0).val ∧ ((cA_640 off inb).view.emb x 2).val = (x 1).val
  rw [ey, e]
  refine ⟨?_, ?_, ?_⟩
  · change off 0 + 1 * 0 = a; omega
  · change off 1 + 1 * (x 0).val = (x 0).val; omega
  · change off 2 + 1 * (x 1).val = (x 1).val; omega

theorem setA_640 {off : Fin 3 → ℕ} {inb} {a : ℕ} (h0 : off 0 = a) (h1 : off 1 = 0) (h2 : off 2 = 0) : (cA_640 off inb).view.set = slabA 640 a := by
  ext j
  rw [mem_slabA]
  constructor
  · intro hj
    obtain ⟨x, -, rfl⟩ := Finset.mem_map.1 hj
    obtain ⟨e0, e1, e2⟩ := embA_640 (inb := inb) h0 h1 h2 x
    exact ⟨e0, e2 ▸ (x 1).isLt⟩
  · intro hj
    let x : S8x640.Idx := fun b => ⟨(![(j 1).val, (j 2).val] : Fin 2 → ℕ) b, match b with | ⟨0, _⟩ => (j 1).isLt | ⟨1, _⟩ => hj.2⟩
    refine Finset.mem_map.2 ⟨x, Finset.mem_univ _, ?_⟩
    obtain ⟨e0, e1, e2⟩ := embA_640 (inb := inb) h0 h1 h2 x
    funext b; apply Fin.ext
    match b with
    | ⟨0, _⟩ => exact e0.trans hj.1.symm
    | ⟨1, _⟩ => exact e1
    | ⟨2, _⟩ => exact e2

theorem sent_640 {off : Fin 2 → ℕ} {inb} {offA : Fin 3 → ℕ} {inbA} {base a : ℕ} {A : S8x8x1024.Idx → F .f32} {h G : S64x1000064.Idx → F .f32} (hG : Filled base 640 A G)
    (h0 : off 0 = 8 * a) (h1 : off 1 = base) (a0 : offA 0 = a) (a1 : offA 1 = 0) (a2 : offA 2 = 0) (j : S64x1000064.Idx) (hj : j ∈ slabO base 640 a) :
    (cO_640 off inb).view.write (Elt F) h ((cA_640 offA inbA).view.read (Elt F) A) Finset.univ j = G j := by
  rw [← setO_640 (inb := inb) h0 h1] at hj
  obtain ⟨x, -, rfl⟩ := Finset.mem_map.1 hj
  refine (View.write_emb_of_mem _ _ (Finset.mem_univ x)).trans ((cast_eq _ _).trans ((View.read_apply _ _).trans ((cast_eq _ _).trans (hG _ _ ?_ ?_ ?_).symm)))
  all_goals obtain ⟨e0, e1, e2⟩ := embA_640 (inb := inbA) a0 a1 a2 x
  · unfold ft; rw [e0, e1]; change off 0 + 1 * (x 0).val = _; omega
  · rw [e2]; change off 1 + 1 * (x 1).val = _; omega
  · rw [e2]; exact (x 1).isLt

theorem step_send_640 {sm : DmaSem sig} {base : ℕ} {A : S8x8x1024.Idx → F .f32} {h G : S64x1000064.Idx → F .f32} {off : Fin 2 → ℕ} {inb} {offA : Fin 3 → ℕ} {inbA} {hsrc hdst hsem} {k : PUnit → Prog (TpuEff nD τ sig (Elt F) Λ₀ (.scVector (cV L) (jV L))) α}
    (a : ℕ) (ha : a < 8) (hG : Filled base 640 A G) (h0 : off 0 = 8 * a) (h1 : off 1 = base) (a0 : offA 0 = a) (a1 : offA 1 = 0) (a2 : offA 2 = 0)
    (hk : Iss d L sm crd_640 base 640 A h G R (a + 1) ⊢ wpt (F := F) d L (k ⟨⟩) Q) :
    Iss d L sm crd_640 base 640 A h G R a ⊢ wpt (F := F) d L (Prog.lift (TpuEff.enqueueDma (cA_640 offA inbA) (.here (cO_640 off inb)) (.dma sm) hsrc hdst hsem) >>= k) Q := by
  iintro ⟨HS, HB, HR⟩
  ihave HS' := (Entails.of_eq (Transfers.bigSep_pending_step (Slab (F := F) d L base 640 A h) a ha)) $$ HS
  icases HS' with ⟨⟨Hd, Hs⟩, HS⟩
  ihave Hd := (Entails.of_eq (show (outOn d L (slabO base 640 a) h : sProp 𝕄) = (cO_640 off inb).view.loc (thr d L) ↦[(cO_640 off inb).view.set]{fullShare} (h : Buf (Elt F) (mO.view.loc (thr d L))) by rw [setO_640 h0 h1])) $$ Hd
  ihave Hs := (Entails.of_eq (show (accOn d L (slabA 640 a) A : sProp 𝕄) = (cA_640 offA inbA).view.loc (thr d L) ↦[(cA_640 offA inbA).view.set]{fullShare} (A : Buf (Elt F) (mAcc.view.loc (thr d L))) by rw [setA_640 a0 a1 a2])) $$ Hs
  iapply (Transfers.wp_dmaBatch (defs := defs₀ (F := F)) (Q := Q) countersEmb 𝒱₀ (thr d L) none (src := cA_640 offA inbA) (dst := cO_640 off inb) (via := .same) (sm := .dma sm) (k := k) (q := fullShare) (fs := A) (fd := h) (Sd := (cO_640 off inb).view.set)
      (D := Slab (F := F) d L base 640 A G) (j := a) (u := 0) (default : HIx 1) crd_640 rfl (Finset.Subset.refl _) ha (Nat.zero_le _) ?_) $$ [Hs Hd HB]
  · rw [setO_640 h0 h1, setA_640 a0 a1 a2]
    exact sep_mono (Entails.of_eq (pointsTo_congr fun j hj => sent_640 hG h0 h1 a0 a1 a2 j hj)) .rfl
  · isplitl [Hs]; · iexact Hs
    isplitl [Hd]; · iexact Hd
    iexact HB
  iintro HB
  iapply hk
  isplitl [HS]; · iexact HS
  isplitl [HB]; · iexact HB
  iexact HR

theorem sent_all_640 {sm : DmaSem sig} {base : ℕ} {A : S8x8x1024.Idx → F .f32} {h G : S64x1000064.Idx → F .f32} {O : CellTallies nD τ sig (HIx 1)} {W : Waits sig (HIx 1)} :
    Iss d L sm crd_640 base 640 A h G iprop(Tok (F := F) d L O W ∗ R) 8 ⊢ Wai d L sm crd_640 base 640 A G O W R 0 := by
  iintro ⟨HS, HB, Ht, HR⟩
  isplitl [HB]; · iexact HB
  isplitl [Ht]; · iexact Ht
  iexact HR

theorem step_await_640 {sm : DmaSem sig} {base : ℕ} {A : S8x8x1024.Idx → F .f32} {G : S64x1000064.Idx → F .f32} {O : CellTallies nD τ sig (HIx 1)} {W : Waits sig (HIx 1)} {off : Fin 2 → ℕ} {inb} {offA : Fin 3 → ℕ} {inbA} {hsrc hdst} {k : PUnit → Prog (TpuEff nD τ sig (Elt F) Λ₀ (.scVector (cV L) (jV L))) α}
    (n : ℕ) (hn : n < 7) (hk : Wai d L sm crd_640 base 640 A G O W R (crd_640 * (n + 1)) ⊢ wpt (F := F) d L (k ⟨⟩) Q) :
    Wai d L sm crd_640 base 640 A G O W R (crd_640 * n) ⊢ wpt (F := F) d L (Prog.lift (TpuEff.waitDma2 sm (cA_640 offA inbA) (cO_640 off inb) hsrc hdst) >>= k) Q := by
  iintro ⟨HB, Ht, HR⟩
  ihave Ht' := (Entails.of_eq (show Tok (F := F) d L O W = iprop(levAts (K (F := F)).L (K (F := F)).lev ∗ ⌜∀ g, O g none = 0⌝ ∗ ∃ W', ⌜∀ p ∈ W', p ∈ W ∨ p.2 = none⌝ ∗ owes (thr d L) O W') from rfl)) $$ Ht
  icases Ht' with ⟨#Hlv, %hO, %W', %hW, HO⟩
  ihave Hmw := (show levAts (K (F := F)).L (K (F := F)).lev ⊢ Transfers.MayWaits (thr d L) (default : HIx 1) O from
    (K (F := F)).mayWaits_none (thr := thr d L) hO) $$ Hlv
  iapply (Transfers.wp_waitBatchO (defs := defs₀ (F := F)) (Q := Q) countersEmb 𝒱₀ (thr d L) none (sem := sm) (srcw := cA_640 offA inbA) (dstw := cO_640 off inb) (k := k) (default : HIx 1) (N := crd_640) rfl
      (D := Slab (F := F) d L base 640 A G) (u := crd_640 * n) (by rw [← Nat.mul_succ]; exact Nat.mul_lt_mul_of_pos_left (by omega) (View.dmaCredit_pos _ (by decide)))) $$ [HB HO]
  · isplitl [HB]; · iexact HB
    isplitl [HO]; · iexact HO
    iapply (Transfers.MayWaits.elim (SemLoc.dma sm)) $$ Hmw
  iintro ⟨HB, HO⟩
  iapply hk
  isplitl [HB]; · iexact HB
  isplitr [HR]
  · iapply (Entails.of_eq (show iprop(levAts (K (F := F)).L (K (F := F)).lev ∗ ⌜∀ g, O g none = 0⌝ ∗ ∃ W', ⌜∀ p ∈ W', p ∈ W ∨ p.2 = none⌝ ∗ owes (thr d L) O W') = Tok (F := F) d L O W from rfl))
    isplitr; · iexact Hlv
    isplitr; · ipureintro; exact hO
    iexists _
    isplitr
    swap; · iexact HO
    ipureintro; intro p hp
    rcases Finset.mem_insert.mp hp with hp | hp
    · exact .inr (hp ▸ rfl)
    · exact hW p hp
  · iexact HR

theorem step_last_640 {sm : DmaSem sig} {base : ℕ} {A : S8x8x1024.Idx → F .f32} {G : S64x1000064.Idx → F .f32} {O : CellTallies nD τ sig (HIx 1)} {W : Waits sig (HIx 1)} {off : Fin 2 → ℕ} {inb} {offA : Fin 3 → ℕ} {inbA} {hsrc hdst} {k : PUnit → Prog (TpuEff nD τ sig (Elt F) Λ₀ (.scVector (cV L) (jV L))) α}
    (hk : iprop(bigSep Finset.univ (Slab (F := F) d L base 640 A G) ∗ semVal (thr d L, SemLoc.dma sm) 0 ∗ Tok (F := F) d L O W ∗ R) ⊢ wpt (F := F) d L (k ⟨⟩) Q) :
    Wai d L sm crd_640 base 640 A G O W R (crd_640 * 7) ⊢ wpt (F := F) d L (Prog.lift (TpuEff.waitDma2 sm (cA_640 offA inbA) (cO_640 off inb) hsrc hdst) >>= k) Q := by
  iintro ⟨HB, Ht, HR⟩
  ihave Ht' := (Entails.of_eq (show Tok (F := F) d L O W = iprop(levAts (K (F := F)).L (K (F := F)).lev ∗ ⌜∀ g, O g none = 0⌝ ∗ ∃ W', ⌜∀ p ∈ W', p ∈ W ∨ p.2 = none⌝ ∗ owes (thr d L) O W') from rfl)) $$ Ht
  icases Ht' with ⟨#Hlv, %hO, %W', %hW, HO⟩
  ihave Hmw := (show levAts (K (F := F)).L (K (F := F)).lev ⊢ Transfers.MayWaits (thr d L) (default : HIx 1) O from
    (K (F := F)).mayWaits_none (thr := thr d L) hO) $$ Hlv
  iapply (Transfers.wp_waitBatchLastO (defs := defs₀ (F := F)) (Q := Q) countersEmb 𝒱₀ (thr d L) none (sem := sm) (srcw := cA_640 offA inbA) (dstw := cO_640 off inb) (k := k) (default : HIx 1) (N := crd_640) rfl (View.dmaCredit_pos _ (by decide))
      (D := Slab (F := F) d L base 640 A G) (u := crd_640 * 7) (Nat.mul_succ _ _).symm) $$ [HB HO]
  · isplitl [HB]; · iexact HB
    isplitl [HO]; · iexact HO
    iapply (Transfers.MayWaits.elim (SemLoc.dma sm)) $$ Hmw
  iintro ⟨HS, Hv, HO⟩
  iapply hk
  isplitl [HS]; · iexact HS
  isplitl [Hv]; · iexact Hv
  isplitr [HR]
  · iapply (Entails.of_eq (show iprop(levAts (K (F := F)).L (K (F := F)).lev ∗ ⌜∀ g, O g none = 0⌝ ∗ ∃ W', ⌜∀ p ∈ W', p ∈ W ∨ p.2 = none⌝ ∗ owes (thr d L) O W') = Tok (F := F) d L O W from rfl))
    isplitr; · iexact Hlv
    isplitr; · ipureintro; exact hO
    iexists _
    isplitr
    swap; · iexact HO
    ipureintro; intro p hp
    rcases Finset.mem_insert.mp hp with hp | hp
    · exact .inr (hp ▸ rfl)
    · exact hW p hp
  · iexact HR
end Steps

end Cert.Proof
-- ==== Proof.Sched.lean ====
/- Which chunks a tile has, and the parts of the program that send a finished chunk. -/
module

public import proofs.«01_k».proof.Proof.Copy

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The tile of core `c` and subcore `s`. -/
def mkL (c : Fin 2) (s : Fin 16) : grid0.Coords := fun a => match a with | ⟨0, _⟩ => c | ⟨1, _⟩ => s
theorem mkL_eta (L : grid0.Coords) : mkL (L 0) (L 1) = L := by
  funext a
  match a with
  | ⟨0, _⟩ => rfl
  | ⟨1, _⟩ => rfl
/-- The tile's number. -/
def wk (L : grid0.Coords) : ℕ := 2 * (L 1).val + (L 0).val
/-- The first chunk of the tile. -/
def gs (L : grid0.Coords) : ℕ := 30 * wk L + min (wk L) 17
/-- How many chunks the tile has. -/
def cnt (L : grid0.Coords) : ℕ := if wk L < 17 then 31 else 30
theorem wk_lt (L : grid0.Coords) : wk L < 32 := by have h0 : (L 0).val < 2 := (L 0).isLt; have h1 : (L 1).val < 16 := (L 1).isLt; unfold wk; omega
theorem gs_cnt (L : grid0.Coords) : gs L + cnt L ≤ 977 := by have := wk_lt L; unfold gs cnt; split <;> omega
theorem cnt_le (L : grid0.Coords) : cnt L ≤ 31 := by unfold cnt; split <;> omega
theorem trips3 : k0_t3_loop.trips = 31 := by decide

theorem base_at' : ∀ (c : Fin 2) (s : Fin 16) (t : Fin k0_t3_loop.trips), k0_off75 (mkL c s) t 1 = 1024 * (gs (mkL c s) + t.val) := by decide +kernel
theorem cond1_iff' : ∀ (c : Fin 2) (s : Fin 16) (t : Fin k0_t3_loop.trips), k0_cond1 (mkL c s) t = 1#1 ↔ t.val < cnt (mkL c s) := by decide +kernel
theorem cond2_iff' : ∀ (c : Fin 2) (s : Fin 16) (t : Fin k0_t3_loop.trips), k0_cond2 (mkL c s) t = 1#1 ↔ gs (mkL c s) + t.val ≠ 976 := by decide +kernel
theorem cond3_iff' : ∀ (c : Fin 2) (s : Fin 16) (t : Fin k0_t3_loop.trips), k0_cond3 (mkL c s) t = 1#1 ↔ gs (mkL c s) + t.val = 976 := by decide +kernel
theorem lo_at' : ∀ (c : Fin 2) (s : Fin 16), loW (mkL c s) = BitVec.ofNat 32 (1024 * gs (mkL c s)) := by decide +kernel

/-- The tile's last destination and one, as the program computes it. -/
def hiW (L : grid0.Coords) : BitVec 32 :=
  let v1 : BitVec 32 := Scalar.addi (Scalar.muli (BitVec.ofNat 32 (L 1).val) 2#32) (BitVec.ofNat 32 (L 0).val)
  Scalar.muli (Scalar.addi (Scalar.addi (Scalar.muli v1 30#32) (Scalar.minsi v1 17#32)) (Scalar.select (Scalar.cmpi .slt v1 17#32) 31#32 30#32)) 1024#32
theorem hi_at' : ∀ (c : Fin 2) (s : Fin 16), hiW (mkL c s) = BitVec.ofNat 32 (1024 * (gs (mkL c s) + cnt (mkL c s))) := by decide +kernel

theorem base_at (L : grid0.Coords) (t : Fin k0_t3_loop.trips) : k0_off75 L t 1 = 1024 * (gs L + t.val) := mkL_eta L ▸ base_at' (L 0) (L 1) t
theorem cond1_iff (L : grid0.Coords) (t : Fin k0_t3_loop.trips) : k0_cond1 L t = 1#1 ↔ t.val < cnt L := mkL_eta L ▸ cond1_iff' (L 0) (L 1) t
theorem cond2_iff (L : grid0.Coords) (t : Fin k0_t3_loop.trips) : k0_cond2 L t = 1#1 ↔ gs L + t.val ≠ 976 := mkL_eta L ▸ cond2_iff' (L 0) (L 1) t
theorem cond3_iff (L : grid0.Coords) (t : Fin k0_t3_loop.trips) : k0_cond3 L t = 1#1 ↔ gs L + t.val = 976 := mkL_eta L ▸ cond3_iff' (L 0) (L 1) t
theorem lo_at (L : grid0.Coords) : loW L = BitVec.ofNat 32 (1024 * gs L) := mkL_eta L ▸ lo_at' (L 0) (L 1)
theorem hi_at (L : grid0.Coords) : hiW L = BitVec.ofNat 32 (1024 * (gs L + cnt L)) := mkL_eta L ▸ hi_at' (L 0) (L 1)

section Parts
variable {d : Dev nD} {L : grid0.Coords} {R : sProp (MT nD τ sig (HIx 1) (Elt F) ℕ UU ℕ)} {sm : DmaSem sig} {A : S8x8x1024.Idx → F .f32} {h G : S64x1000064.Idx → F .f32}
variable (O : CellTallies nD τ sig (HIx 1)) (W : Waits sig (HIx 1)) (t : Fin k0_t3_loop.trips)

theorem part64_run (hG : Filled (1024 * (gs L + t.val)) 1024 A G) (h1 : k0_cond1 L t = 1#1) (h2 : k0_cond2 L t = 1#1) {Q : _ → sProp 𝕄} (hQ : Iss d L cc0_scratch5.sem crd_1024 (1024 * (gs L + t.val)) 1024 A h G R 4 ⊢ Q ⟨⟩) :
    Iss d L cc0_scratch5.sem crd_1024 (1024 * (gs L + t.val)) 1024 A h G R 0 ⊢ wpt (F := F) d L (k0_part64 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 t h1 h2) Q := by
  rw [k0_part64_eq_skeleton]; unfold k0_part64_skel
  refine step_send_1024 0 (by decide) hG rfl (base_at L t) rfl rfl rfl ?_
  refine step_send_1024 1 (by decide) hG rfl (base_at L t) rfl rfl rfl ?_
  refine step_send_1024 2 (by decide) hG rfl (base_at L t) rfl rfl rfl ?_
  refine step_send_1024 3 (by decide) hG rfl (base_at L t) rfl rfl rfl ?_
  exact step_pure hQ

theorem part65_run (hG : Filled (1024 * (gs L + t.val)) 1024 A G) (h1 : k0_cond1 L t = 1#1) (h2 : k0_cond2 L t = 1#1) {Q : _ → sProp 𝕄} (hQ : Iss d L cc0_scratch5.sem crd_1024 (1024 * (gs L + t.val)) 1024 A h G R 8 ⊢ Q ⟨⟩) :
    Iss d L cc0_scratch5.sem crd_1024 (1024 * (gs L + t.val)) 1024 A h G R 4 ⊢ wpt (F := F) d L (k0_part65 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 t h1 h2) Q := by
  rw [k0_part65_eq_skeleton]; unfold k0_part65_skel
  refine step_send_1024 4 (by decide) hG rfl (base_at L t) rfl rfl rfl ?_
  refine step_send_1024 5 (by decide) hG rfl (base_at L t) rfl rfl rfl ?_
  refine step_send_1024 6 (by decide) hG rfl (base_at L t) rfl rfl rfl ?_
  refine step_send_1024 7 (by decide) hG rfl (base_at L t) rfl rfl rfl ?_
  exact step_pure hQ

theorem part66_run (h1 : k0_cond1 L t = 1#1) (h2 : k0_cond2 L t = 1#1) {Q : _ → sProp 𝕄} (hQ : Wai d L cc0_scratch5.sem crd_1024 (1024 * (gs L + t.val)) 1024 A G O W R (crd_1024 * 4) ⊢ Q ⟨⟩) :
    Wai d L cc0_scratch5.sem crd_1024 (1024 * (gs L + t.val)) 1024 A G O W R (crd_1024 * 0) ⊢ wpt (F := F) d L (k0_part66 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 t h1 h2) Q := by
  rw [k0_part66_eq_skeleton]; unfold k0_part66_skel
  refine step_await_1024 0 (by decide) ?_
  refine step_await_1024 1 (by decide) ?_
  refine step_await_1024 2 (by decide) ?_
  refine step_await_1024 3 (by decide) ?_
  exact step_pure hQ

theorem part67_run (hG : Filled (1024 * (gs L + t.val)) 640 A G) (h1 : k0_cond1 L t = 1#1) (h2 : k0_cond3 L t = 1#1) {Q : _ → sProp 𝕄} (hQ : Iss d L cc0_scratch6.sem crd_640 (1024 * (gs L + t.val)) 640 A h G R 4 ⊢ Q ⟨⟩) :
    Iss d L cc0_scratch6.sem crd_640 (1024 * (gs L + t.val)) 640 A h G R 0 ⊢ wpt (F := F) d L (k0_part67 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 t h1 h2) Q := by
  rw [k0_part67_eq_skeleton]; unfold k0_part67_skel
  refine step_send_640 0 (by decide) hG rfl (base_at L t) rfl rfl rfl ?_
  refine step_send_640 1 (by decide) hG rfl (base_at L t) rfl rfl rfl ?_
  refine step_send_640 2 (by decide) hG rfl (base_at L t) rfl rfl rfl ?_
  refine step_send_640 3 (by decide) hG rfl (base_at L t) rfl rfl rfl ?_
  exact step_pure hQ

theorem part68_run (hG : Filled (1024 * (gs L + t.val)) 640 A G) (h1 : k0_cond1 L t = 1#1) (h2 : k0_cond3 L t = 1#1) {Q : _ → sProp 𝕄} (hQ : Iss d L cc0_scratch6.sem crd_640 (1024 * (gs L + t.val)) 640 A h G R 8 ⊢ Q ⟨⟩) :
    Iss d L cc0_scratch6.sem crd_640 (1024 * (gs L + t.val)) 640 A h G R 4 ⊢ wpt (F := F) d L (k0_part68 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 t h1 h2) Q := by
  rw [k0_part68_eq_skeleton]; unfold k0_part68_skel
  refine step_send_640 4 (by decide) hG rfl (base_at L t) rfl rfl rfl ?_
  refine step_send_640 5 (by decide) hG rfl (base_at L t) rfl rfl rfl ?_
  refine step_send_640 6 (by decide) hG rfl (base_at L t) rfl rfl rfl ?_
  refine step_send_640 7 (by decide) hG rfl (base_at L t) rfl rfl rfl ?_
  exact step_pure hQ

theorem part69_run (h1 : k0_cond1 L t = 1#1) (h2 : k0_cond3 L t = 1#1) {Q : _ → sProp 𝕄} (hQ : Wai d L cc0_scratch6.sem crd_640 (1024 * (gs L + t.val)) 640 A G O W R (crd_640 * 4) ⊢ Q ⟨⟩) :
    Wai d L cc0_scratch6.sem crd_640 (1024 * (gs L + t.val)) 640 A G O W R (crd_640 * 0) ⊢ wpt (F := F) d L (k0_part69 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 t h1 h2) Q := by
  rw [k0_part69_eq_skeleton]; unfold k0_part69_skel
  refine step_await_640 0 (by decide) ?_
  refine step_await_640 1 (by decide) ?_
  refine step_await_640 2 (by decide) ?_
  refine step_await_640 3 (by decide) ?_
  exact step_pure hQ

end Parts

end Cert.Proof
-- ==== Proof.Value.lean ====
/- The accumulator of a round is the result's chunk: the rows sent to each column, added in order. -/
module

public import proofs.«01_k».proof.Proof.Sched

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

theorem pref_map {f : S16384.Idx → BitVec 32} {l : List (BitVec 32)} (h : Pref f l) : (List.range l.length).map (cell f) = l := by
  refine List.ext_getElem (by simp) fun n h1 h2 => ?_
  rw [List.getElem_map, List.getElem_range, h.2 n h2]
  simp [h2]

theorem fold_cut {β : Type} (step : β → ℕ → β) (y : β) (m : ℕ) (h : ∀ p y, m ≤ p → step y p = y) (r : ℕ) : (List.range (m + r)).foldl step y = (List.range m).foldl step y := by
  induction r with
  | zero => rfl
  | succ r ih => rw [← Nat.add_assoc, List.range_succ, List.foldl_append, ih]; exact h _ _ (by omega)

theorem fold_listOf {β : Type} (P : ℕ → Bool) (g : ℕ → BitVec 32) (n : ℕ) (step : β → BitVec 32 → β) (y : β) :
    (listOf P g n).foldl step y = (List.range n).foldl (fun y p => if P p then step y (g p) else y) y := by
  unfold listOf
  rw [List.foldl_map, List.foldl_filter]

/-- One cell of the result: the rows sent to `col`, added in order from zero, at feature `c`. -/
def outCell (x2 : S8192x128.Idx → F .f32) (rf : S16384.Idx → BitVec 32) (c col : ℕ) : F .f32 :=
  (List.range 16384).foldl (fun y p => if (cell rf p).toNat = col then FloatOps.idxAddf y (xRow x2 (p / 2) (p % 2 * 64 + c)) else y) zF

/-- The whole result. -/
def outG (x2 : S8192x128.Idx → F .f32) (rf : S16384.Idx → BitVec 32) : S64x1000064.Idx → F .f32 := fun j => outCell x2 rf (j 0).val (j 1).val

abbrev mineL (L : grid0.Coords) (rf : S16384.Idx → BitVec 32) : List (BitVec 32) := listOf (keepP (loW L) (hiW L) rf) (keepG (loW L) rf) 16384

theorem step_eq {x2 : S8192x128.Idx → F .f32} {L : grid0.Coords} {rf : S16384.Idx → BitVec 32} (hrf : ∀ p, p < 16384 → (cell rf p).toNat < 1000000) {t : ℕ} (ht : t < cnt L) {c col : ℕ} (hcol : col < 1024)
    {p : ℕ} (hp : p < 16384) (y : F .f32) :
    (if keepP (loW L) (hiW L) rf p then (if inChunk t (keepG (loW L) rf p) then addE x2 c col y (reW (rbW t) (keepG (loW L) rf p)) else y) else y)
      = if (cell rf p).toNat = 1024 * (gs L + t) + col then FloatOps.idxAddf y (xRow x2 (p / 2) (p % 2 * 64 + c)) else y := by
  have hv := hrf p hp
  have hgc := gs_cnt L
  have hc31 := cnt_le L
  have hlo : (loW L).toNat = 1024 * gs L := by rw [lo_at, BitVec.toNat_ofNat]; omega
  have hhi : (hiW L).toNat = 1024 * (gs L + cnt L) := by rw [hi_at, BitVec.toNat_ofNat]; omega
  have hk : keepP (loW L) (hiW L) rf p = true ↔ 1024 * gs L ≤ (cell rf p).toNat ∧ (cell rf p).toNat < 1024 * (gs L + cnt L) := by
    unfold keepP
    rw [inB_iff (by rw [hlo]; omega) (by rw [hhi]; omega) (by omega), hlo, hhi]
  by_cases h : keepP (loW L) (hiW L) rf p = true
  · rw [if_pos h]
    have h' := hk.1 h
    have hs : (cell rf p - loW L).toNat = (cell rf p).toNat - 1024 * gs L := by
      rw [BitVec.toNat_sub_of_le, hlo]
      rw [BitVec.le_def, hlo]; exact h'.1
    have hw : (keepG (loW L) rf p).toNat = ((cell rf p).toNat - 1024 * gs L) * 16384 + (p % 2 * 8192 + p / 2) := by
      unfold keepG
      rw [encW_toNat hp (by rw [hs]; omega), hs]
    generalize keepG (loW L) rf p = w at hw
    have hch := inChunk_iff (r := t) (by omega) w
    by_cases hc : inChunk t w = true
    · rw [if_pos hc]
      have hc' := hch.1 hc
      have hr : (reW (rbW t) w).toNat = (w.toNat / 16384 - t * 1024) * 16384 + w.toNat % 16384 := by
        rw [reW_toNat (by rw [rbW_toNat (by omega)]; exact hc'.1), rbW_toNat (by omega)]
      generalize reW (rbW t) w = u at hr
      unfold addE
      have e1 : u.toNat / 16384 = (cell rf p).toNat - 1024 * gs L - t * 1024 := by omega
      have e2 : u.toNat % 8192 = p / 2 := by omega
      have e3 : u.toNat / 8192 % 2 = p % 2 := by omega
      rw [e1, e2, e3]
      by_cases hh : (cell rf p).toNat = 1024 * (gs L + t) + col
      · rw [if_pos hh, if_pos (by omega)]
      · rw [if_neg hh, if_neg (by omega)]
    · rw [if_neg hc, if_neg]
      intro hh
      exact hc (hch.2 (by omega))
  · rw [if_neg h, if_neg]
    intro hh
    exact h (hk.2 (by omega))

theorem filled_round {x2 : S8192x128.Idx → F .f32} {L : grid0.Coords} {rf0 mf rf : S16384.Idx → BitVec 32} (hrf : ∀ p, p < 16384 → (cell rf0 p).toNat < 1000000) {t : ℕ} (ht : t < cnt L) {m n N : ℕ}
    (hm : Pref mf (mineL L rf0)) (em : m = (mineL L rf0).length) (hN : m ≤ N) (hn : Pref rf (listOf (roundP t m mf) (roundG t mf) N)) (en : n = (listOf (roundP t m mf) (roundG t mf) N).length) :
    Filled (1024 * (gs L + t)) 1024 (accN (addE x2) rf n (fun _ => zF) n) (outG x2 rf0) := by
  intro j x h0 h1 h2
  unfold outG outCell accN
  rw [Nat.min_self, en, pref_map hn, fold_listOf, h0, h1]
  obtain ⟨r, rfl⟩ := Nat.exists_eq_add_of_le hN
  rw [fold_cut _ _ m (fun p y hp => if_neg (by simp only [roundP, Bool.and_eq_true, decide_eq_true_iff]; omega)) r]
  have e : (List.range m).foldl (fun y p => if roundP t m mf p then addE x2 (ft x) (x 2).val y (roundG t mf p) else y) zF
      = ((List.range m).map (cell mf)).foldl (fun y w => if inChunk t w then addE x2 (ft x) (x 2).val y (reW (rbW t) w) else y) zF := by
    rw [List.foldl_map]
    refine List.foldl_ext _ _ _ fun y p hp => ?_
    have hp' : p < m := List.mem_range.1 hp
    simp only [roundP, roundG, hp', decide_true, Bool.and_true]
  refine Eq.symm (e.trans ?_)
  rw [em, pref_map hm, fold_listOf]
  refine List.foldl_ext _ _ _ fun y p hp => ?_
  exact step_eq hrf ht h2 (List.mem_range.1 hp) y

theorem Filled.narrow {base : ℕ} {A : S8x8x1024.Idx → F .f32} {G : S64x1000064.Idx → F .f32} (h : Filled base 1024 A G) : Filled base 640 A G :=
  fun j x h0 h1 h2 => h j x h0 h1 (by omega)

end Cert.Proof
-- ==== Proof.Round.lean ====
/- One round of a tile: pick the chunk's entries, add their rows, send the chunk, clear what was added. -/
module

public import proofs.«01_k».proof.Proof.Value

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## A chunk among the tile's columns -/

/-- The tile's columns of the result. -/
def tileO (L : grid0.Coords) : Finset S64x1000064.Idx := Finset.univ.filter fun j => 1024 * gs L ≤ (j 1).val ∧ (j 1).val < 1024 * (gs L + cnt L)
theorem mem_tileO {L : grid0.Coords} {j : S64x1000064.Idx} : j ∈ tileO L ↔ 1024 * gs L ≤ (j 1).val ∧ (j 1).val < 1024 * (gs L + cnt L) := by simp [tileO]

def chunkO (base wd : ℕ) : Finset S64x1000064.Idx := (Finset.univ : Finset (Fin 8)).biUnion fun a => slabO base wd a
def chunkA (wd : ℕ) : Finset S8x8x1024.Idx := (Finset.univ : Finset (Fin 8)).biUnion fun a => slabA wd a

theorem mem_chunkO {base wd : ℕ} {j : S64x1000064.Idx} : j ∈ chunkO base wd ↔ base ≤ (j 1).val ∧ (j 1).val < base + wd := by
  unfold chunkO
  rw [Finset.mem_biUnion]
  constructor
  · rintro ⟨a, -, ha⟩; exact (mem_slabO.1 ha).2
  · intro h
    have h0 : (j 0).val < 64 := (j 0).isLt
    refine ⟨⟨(j 0).val / 8, by omega⟩, Finset.mem_univ _, mem_slabO.2 ⟨?_, h⟩⟩
    change 8 * ((j 0).val / 8) ≤ (j 0).val ∧ (j 0).val < 8 * ((j 0).val / 8) + 8
    omega

/-- The result after the tile's first `n` chunks. -/
def outAt (L : grid0.Coords) (G h : S64x1000064.Idx → F .f32) (n : ℕ) : S64x1000064.Idx → F .f32 := fun j => if (j 1).val < 1024 * (gs L + n) then G j else h j

section Chunk
variable {d : Dev nD} {L : grid0.Coords} {R : sProp (MT nD τ sig (HIx 1) (Elt F) ℕ UU ℕ)} {G h : S64x1000064.Idx → F .f32} {A : S8x8x1024.Idx → F .f32}

theorem slabs_split {T : Finset S64x1000064.Idx} {base wd : ℕ} (hT : chunkO base wd ⊆ T) (f : S64x1000064.Idx → F .f32) :
    (iprop(outOn d L T f ∗ accPts (F := F) d L A) : sProp 𝕄) ⊣⊢ iprop(bigSep Finset.univ (Slab (F := F) d L base wd A f) ∗ outOn d L (T \ chunkO base wd) f ∗ accOn d L (Finset.univ \ chunkA wd) A) := by
  have e1 : (outOn d L (chunkO base wd) f : sProp 𝕄) = bigSep Finset.univ fun a : Fin 8 => outOn d L (slabO base wd a) f :=
    pointsTo_biUnion (ℓ := mO.view.loc (thr d L)) Finset.univ (fun a : Fin 8 => slabO base wd a) fun a _ b _ hab => slabO_disj fun h => hab (Fin.ext h)
  have e2 : (accOn d L (chunkA wd) A : sProp 𝕄) = bigSep Finset.univ fun a : Fin 8 => accOn d L (slabA wd a) A :=
    pointsTo_biUnion (ℓ := mAcc.view.loc (thr d L)) Finset.univ (fun a : Fin 8 => slabA wd a) fun a _ b _ hab => slabA_disj fun h => hab (Fin.ext h)
  have s1 := pointsTo_split_subset (Val := Elt F) (Ix := HIx 1) (Name := ℕ) (U := UU) (Lvl := ℕ) (ℓ := mO.view.loc (thr d L)) (q := fullShare) (f := (f : Buf (Elt F) (mO.view.loc (thr d L)))) (S := T) (I := chunkO base wd) hT
  have s2 := pointsTo_split_subset (Val := Elt F) (Ix := HIx 1) (Name := ℕ) (U := UU) (Lvl := ℕ) (ℓ := mAcc.view.loc (thr d L)) (q := fullShare) (f := (A : Buf (Elt F) (mAcc.view.loc (thr d L)))) (S := Finset.univ) (I := chunkA wd) (Finset.subset_univ _)
  have e3 : bigSep Finset.univ (Slab (F := F) d L base wd A f) = iprop(outOn d L (chunkO base wd) f ∗ accOn d L (chunkA wd) A) := by
    rw [e1, e2]; exact bigSep_sep _ _ _
  rw [e3]
  constructor
  · iintro ⟨HO, HA⟩
    ihave HO := s1.1 $$ HO
    ihave HA := s2.1 $$ HA
    icases HO with ⟨HO, HO'⟩
    icases HA with ⟨HA, HA'⟩
    isplitl [HO HA]
    · isplitl [HO] <;> iassumption
    isplitl [HO'] <;> iassumption
  · iintro ⟨⟨HO, HA⟩, HO', HA'⟩
    isplitl [HO HO']
    · iapply s1.2
      isplitl [HO] <;> iassumption
    · iapply s2.2
      isplitl [HA] <;> iassumption

theorem slabs_begin {base wd : ℕ} (hT : chunkO base wd ⊆ tileO L) (f : S64x1000064.Idx → F .f32) {sm : DmaSem sig} {O : CellTallies nD τ sig (HIx 1)} {W : Waits sig (HIx 1)} :
    iprop(outOn d L (tileO L) f ∗ accPts (F := F) d L A ∗ semVal (thr d L, SemLoc.dma sm) 0 ∗ Tok (F := F) d L O W ∗ R)
      ⊢ iprop(bigSep Finset.univ (Slab (F := F) d L base wd A f) ∗ semVal (thr d L, SemLoc.dma sm) 0 ∗ (Tok (F := F) d L O W ∗ (outOn d L (tileO L \ chunkO base wd) f ∗ accOn d L (Finset.univ \ chunkA wd) A ∗ R))) := by
  iintro ⟨HO, HA, Hv, Ht, HR⟩
  ihave H := (slabs_split (d := d) (A := A) hT f).1 $$ [HO HA]
  · isplitl [HO] <;> iassumption
  icases H with ⟨HS, HO, HA⟩
  isplitl [HS]; · iexact HS
  isplitl [Hv]; · iexact Hv
  isplitl [Ht]; · iexact Ht
  isplitl [HO]; · iexact HO
  isplitl [HA]; · iexact HA
  iexact HR

theorem slabs_end {base wd : ℕ} (hT : chunkO base wd ⊆ tileO L) {f f' : S64x1000064.Idx → F .f32} {sm : DmaSem sig} {O : CellTallies nD τ sig (HIx 1)} {W : Waits sig (HIx 1)}
    (hG : ∀ j ∈ chunkO base wd, G j = f' j) (hf : ∀ j ∈ tileO L \ chunkO base wd, f j = f' j) :
    iprop(bigSep Finset.univ (Slab (F := F) d L base wd A G) ∗ semVal (thr d L, SemLoc.dma sm) 0 ∗ Tok (F := F) d L O W ∗ (outOn d L (tileO L \ chunkO base wd) f ∗ accOn d L (Finset.univ \ chunkA wd) A ∗ R))
      ⊢ iprop(outOn d L (tileO L) f' ∗ accPts (F := F) d L A ∗ semVal (thr d L, SemLoc.dma sm) 0 ∗ Tok (F := F) d L O W ∗ R) := by
  have e1 : bigSep Finset.univ (Slab (F := F) d L base wd A G) = bigSep Finset.univ (Slab (F := F) d L base wd A f') :=
    bigSep_congr fun a _ => slab_swap base wd A G f' a fun j hj => hG j (Finset.mem_biUnion.2 ⟨a, Finset.mem_univ _, hj⟩)
  have e2 : (outOn d L (tileO L \ chunkO base wd) f : sProp 𝕄) = outOn d L (tileO L \ chunkO base wd) f' := pointsTo_congr hf
  rw [e1, e2]
  iintro ⟨HS, Hv, Ht, HO, HA, HR⟩
  ihave H := (slabs_split (d := d) (A := A) hT f').2 $$ [HS HO HA]
  · isplitl [HS]; · iexact HS
    isplitl [HO] <;> iassumption
  icases H with ⟨HO, HA⟩
  isplitl [HO]; · iexact HO
  isplitl [HA]; · iexact HA
  isplitl [Hv]; · iexact Hv
  isplitl [Ht]; · iexact Ht
  iexact HR

theorem chunk_sub {n wd : ℕ} (hn : n < cnt L) (hw : wd ≤ 1024) : chunkO (1024 * (gs L + n)) wd ⊆ tileO L := fun j hj => by
  have := mem_chunkO.1 hj
  exact mem_tileO.2 (by omega)

theorem out_new {n wd : ℕ} (hw : wd ≤ 1024) (j : S64x1000064.Idx) (hj : j ∈ chunkO (1024 * (gs L + n)) wd) : G j = outAt L G h (n + 1) j := by
  have := mem_chunkO.1 hj
  unfold outAt
  rw [if_pos (by omega)]

theorem out_old {n wd : ℕ} (hw : wd = 1024 ∨ (wd = 640 ∧ gs L + n = 976)) (j : S64x1000064.Idx) (hj : j ∈ tileO L \ chunkO (1024 * (gs L + n)) wd) : outAt L G h n j = outAt L G h (n + 1) j := by
  have h1 : (j 1).val < 1000064 := (j 1).isLt
  rw [Finset.mem_sdiff, mem_chunkO] at hj
  unfold outAt
  by_cases hlt : (j 1).val < 1024 * (gs L + n)
  · rw [if_pos hlt, if_pos (by omega)]
  · rw [if_neg hlt, if_neg (by omega)]

theorem out_done {n : ℕ} (hn : cnt L ≤ n) : (outOn d L (tileO L) (outAt L G h n) : sProp 𝕄) = outOn d L (tileO L) G :=
  pointsTo_congr fun j hj => by
    have := mem_tileO.1 hj
    exact if_pos (by omega)

theorem out_none : (outOn d L (tileO L) h : sProp 𝕄) = outOn d L (tileO L) (outAt L G h 0) :=
  pointsTo_congr fun j hj => by
    have := mem_tileO.1 hj
    exact (if_neg (by omega)).symm
end Chunk

/-! ## The round -/

section Runs
variable {d : Dev nD} {L : grid0.Coords} {R : sProp (MT nD τ sig (HIx 1) (Elt F) ℕ UU ℕ)} {α : Type} {Q : α → sProp (MT nD τ sig (HIx 1) (Elt F) ℕ UU ℕ)}

variable {q : PosShare TreeShare} {x2 : S8192x128.Idx → F .f32} {rf0 mf : S16384.Idx → BitVec 32} {O : CellTallies nD τ sig (HIx 1)} {W : Waits sig (HIx 1)}

/-- A round's entries picked out of the tile's. -/
structure Picked (t m : ℕ) (mf rf : S16384.Idx → BitVec 32) (n : ℕ) : Prop where
  le : n ≤ 16384
  rows : RowsOK rf
  pref : Pref rf (listOf (roundP t m mf) (roundG t mf) (16 * ((m + 15) / 16)))
  len : n = (listOf (roundP t m mf) (roundG t mf) (16 * ((m + 15) / 16))).length

/-- What the tile holds while it adds. -/
abbrev Sum (d : Dev nD) (L : grid0.Coords) (q : PosShare TreeShare) (x2 : S8192x128.Idx → F .f32) (O : CellTallies nD τ sig (HIx 1)) (W : Waits sig (HIx 1)) (R : sProp (MT nD τ sig (HIx 1) (Elt F) ℕ UU ℕ)) (A : S8x8x1024.Idx → F .f32) (rf : S16384.Idx → BitVec 32) : sProp 𝕄 :=
  iprop(accPts (F := F) d L A ∗ (∃ row, rowPts (F := F) d L row) ∗ rndPts (F := F) d L rf ∗ Kept d L q x2 O W R)

theorem part96_run {m : ℕ} (hm : m ≤ 16384) (hw5 : k0_chk5 L (BitVec.ofNat 32 m)) (v17 v20 arg12 : BitVec 32) (t3 : Fin k0_t3_loop.trips) (ea : arg12 = Scf.iv 0#32 1#32 t3) (h1 : k0_cond1 L t3 = 1#1) {rf : S16384.Idx → BitVec 32} (hrf : RowsOK rf) {Q : _ → sProp 𝕄}
    (hQ : ∀ n rf' hw8 v50, Picked t3 m mf rf' n → Sum d L q x2 O W iprop(minePts (F := F) d L mf ∗ R) (accN (addE x2) rf' n (fun _ => zF) n) rf' ⊢ Q ⟨BitVec.ofNat 32 n, hw8, v50⟩) :
    Sum d L q x2 O W iprop(minePts (F := F) d L mf ∗ R) (fun _ => zF) rf ⊢
      wpt (F := F) d L (k0_part96 L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 laneV (BitVec.ofNat 32 m) hw5 v17 t3 arg12 v20 h1) Q := by
  subst ea
  rw [k0_part96_eq_skeleton]; unfold k0_part96_skel
  refine step_for (F := F) (fun k off => iprop(∃ f, ⌜Col (roundP t3 m mf) (roundG t3 mf) f off (16 * k) ∧ RowsOK f⌝ ∗ rndPts (F := F) d L f ∗ minePts (F := F) d L mf ∗
      (accPts (F := F) d L (fun _ => zF) ∗ (∃ row, rowPts (F := F) d L row) ∗ Kept d L q x2 O W R))) ?_ (fun t off => t4_body_run hm hw5 v17 v20 t3 h1 t off) fun off => ?_
  · iintro ⟨HA, Hrow, Hr, Hp, Hx, Hv, Ht, Hm, HR⟩
    iexists rf
    isplitr; · ipureintro; exact ⟨col_zero _ _ _, hrf⟩
    isplitl [Hr]; · iexact Hr
    isplitl [Hm]; · iexact Hm
    isplitl [HA]; · iexact HA
    isplitl [Hrow]; · iexact Hrow
    isplitl [Hp]; · iexact Hp
    isplitl [Hx]; · iexact Hx
    isplitl [Hv]; · iexact Hv
    isplitl [Ht]; · iexact Ht
    iexact HR
  rw [t4_trips hm]
  refine of_ex (F := F) fun f ⟨hC, hR⟩ => ?_
  obtain ⟨hP, hoff⟩ := hC
  have hn : (listOf (roundP t3 m mf) (roundG t3 mf) (16 * ((m + 15) / 16))).length ≤ 16384 := hP.1
  generalize en : (listOf (roundP t3 m mf) (roundG t3 mf) (16 * ((m + 15) / 16))).length = n at hn hoff
  have hpk : Picked t3 m mf f n := ⟨hn, hR, hP, en.symm⟩
  subst hoff
  refine step_for_none (t5_trips hm) ?_
  refine step_assume (chk8_of hn L t3) ?_
  refine step_for (F := F) (fun k _ => Sum d L q x2 O W iprop(minePts (F := F) d L mf ∗ R) (accN (addE x2) f n (fun _ => zF) (32 * k)) f) ?_
    (fun t acc => t6_body_run (A := fun _ => zF) hn hR _ hw5 v17 _ v20 t3 h1 _ t acc) fun acc => ?_
  · rw [Nat.mul_zero, accN_zero]
    iintro ⟨Hr, Hm, HA, Hrow, Hp, Hx, Hv, Ht, HR⟩
    isplitl [HA]; · iexact HA
    isplitl [Hrow]; · iexact Hrow
    isplitl [Hr]; · iexact Hr
    isplitl [Hp]; · iexact Hp
    isplitl [Hx]; · iexact Hx
    isplitl [Hv]; · iexact Hv
    isplitl [Ht]; · iexact Ht
    isplitl [Hm]; · iexact Hm
    iexact HR
  rw [t6_trips hn, accN_of_le (addE x2) f (fun _ => zF) (show n ≤ 32 * ((n + 31) / 32) by omega)]
  refine step_for_none (t7_trips hn) ?_
  exact step_pure (hQ n f _ _ hpk)

theorem step_tail {rf : S16384.Idx → BitVec 32} {n : ℕ} (hn : n ≤ 16384) (hrf : RowsOK rf) (t3 : Fin k0_t3_loop.trips) (h1 : k0_cond1 L t3 = 1#1) (hw8 : k0_chk8 L t3 (BitVec.ofNat 32 n)) {v68 : BitVec 32} {kk : BitVec 32 → Prog (TpuEff nD τ sig (Elt F) Λ₀ (.scVector (cV L) (jV L))) α}
    (hk : ∀ v, iprop(accPts (F := F) d L (fun _ => zF) ∗ rndPts (F := F) d L rf ∗ R) ⊢ wpt (F := F) d L (kk v) Q) :
    iprop(accPts (F := F) d L (accN (addE x2) rf n (fun _ => zF) n) ∗ rndPts (F := F) d L rf ∗ R) ⊢
      wpt (F := F) d L (Scf.Loop.for (k0_t8_loop (BitVec.ofNat 32 n)) (k0_t8_ok L t3 (BitVec.ofNat 32 n) hw8 h1) 0#32 (k0_t8_body L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 laneV t3 h1 (BitVec.ofNat 32 n) hw8) >>= fun v69 =>
        Scf.Loop.for (k0_t9_loop (BitVec.ofNat 32 n)) (k0_t9_ok L t3 (BitVec.ofNat 32 n) hw8 h1) v69 (k0_t9_body L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 laneV t3 h1 (BitVec.ofNat 32 n) hw8 v68) >>= kk) Q := by
  refine step_for (F := F) (fun k _ => iprop(accPts (F := F) d L (accN (clrE (zF (F := F))) rf n (accN (addE x2) rf n (fun _ => zF) n) (32 * k)) ∗ rndPts (F := F) d L rf ∗ R)) ?_
    (fun t acc => t8_body_run hn hrf t3 h1 hw8 t acc) fun acc => ?_
  · rw [Nat.mul_zero, accN_zero]
  rw [t8_trips hn, accN_of_le (clrE zF) rf _ (show n ≤ 32 * ((n + 31) / 32) by omega), clear_all]
  refine step_for_none (t9_trips hn) (hk acc)

/-- The tile between rounds, its first `n` chunks done. -/
abbrev Rst (d : Dev nD) (L : grid0.Coords) (q : PosShare TreeShare) (x2 : S8192x128.Idx → F .f32) (mf : S16384.Idx → BitVec 32) (G h : S64x1000064.Idx → F .f32) (O : CellTallies nD τ sig (HIx 1)) (W : Waits sig (HIx 1)) (R : sProp (MT nD τ sig (HIx 1) (Elt F) ℕ UU ℕ)) (n : ℕ) : sProp 𝕄 :=
  iprop(∃ rf, ⌜RowsOK rf⌝ ∗ Sum d L q x2 O W iprop(minePts (F := F) d L mf ∗ outOn d L (tileO L) (outAt L G h n) ∗ semVal (thr d L, SemLoc.dma cc0_scratch5.sem) 0 ∗ semVal (thr d L, SemLoc.dma cc0_scratch6.sem) 0 ∗ R) (fun _ => zF) rf)

theorem t3_body_run {m : ℕ} (hrf0 : ∀ p, p < 16384 → (cell rf0 p).toNat < 1000000) (hm : Pref mf (mineL L rf0)) (em : m = (mineL L rf0).length) {h : S64x1000064.Idx → F .f32} (hm' : m ≤ 16384)
    (hw5 : k0_chk5 L (BitVec.ofNat 32 m)) (v10 v17 : BitVec 32) (t : Fin k0_t3_loop.trips) (acc : BitVec 32) :
    Rst d L q x2 mf (outG x2 rf0) h O W R t ⊢ wpt (F := F) d L (k0_t3_body L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2 laneV v10 (BitVec.ofNat 32 m) hw5 v17 t acc) fun _ => Rst d L q x2 mf (outG x2 rf0) h O W R (t.val + 1) := by
  refine of_ex (F := F) fun rf hR => ?_
  unfold k0_t3_body
  by_cases h1 : k0_cond1 L t = 1#1
  swap
  · rw [dif_neg h1]
    refine step_pure ?_
    have hc : ¬t.val < cnt L := fun h => h1 ((cond1_iff L t).2 h)
    refine BIBase.Entails.trans ?_ (to_ex (F := F) (P := RowsOK) (S := fun rf => Sum d L q x2 O W iprop(minePts (F := F) d L mf ∗ outOn d L (tileO L) (outAt L (outG x2 rf0) h (t.val + 1)) ∗ semVal (thr d L, SemLoc.dma cc0_scratch5.sem) 0 ∗ semVal (thr d L, SemLoc.dma cc0_scratch6.sem) 0 ∗ R) (fun _ => zF) rf) rf hR)
    rw [out_done (n := t.val) (by omega), out_done (n := t.val + 1) (by omega)]
  have hc := (cond1_iff L t).1 h1
  rw [dif_pos h1]
  refine (step_bind (part96_run hm' hw5 v17 _ _ t rfl h1 hR fun n rf' hw8 v50 hp => ?_))
  have hF : Filled (1024 * (gs L + t.val)) 1024 (accN (addE x2) rf' n (fun _ => zF) n) (outG x2 rf0) := filled_round hrf0 hc hm em (by omega) hp.pref hp.len
  have last : iprop(accPts (F := F) d L (fun _ => zF) ∗ rndPts (F := F) d L rf' ∗ ((∃ row, rowPts (F := F) d L row) ∗ Kept d L q x2 O W iprop(minePts (F := F) d L mf ∗ outOn d L (tileO L) (outAt L (outG x2 rf0) h (t.val + 1)) ∗ semVal (thr d L, SemLoc.dma cc0_scratch5.sem) 0 ∗ semVal (thr d L, SemLoc.dma cc0_scratch6.sem) 0 ∗ R)))
      ⊢ Rst d L q x2 mf (outG x2 rf0) h O W R (t.val + 1) := by
    iintro ⟨HA, Hr, Hrow, HK⟩
    iexists rf'
    isplitr; · ipureintro; exact hp.rows
    isplitl [HA]; · iexact HA
    isplitl [Hrow]; · iexact Hrow
    isplitl [Hr]; · iexact Hr
    iexact HK
  by_cases h2 : k0_cond2 L t = 1#1
  · have h3 : ¬k0_cond3 L t = 1#1 := fun h3 => (cond2_iff L t).1 h2 ((cond3_iff L t).1 h3)
    dsimp only
    rw [dif_pos h2]
    refine BIBase.Entails.trans (Q := iprop(outOn d L (tileO L) (outAt L (outG x2 rf0) h t.val) ∗ accPts (F := F) d L (accN (addE x2) rf' n (fun _ => zF) n) ∗ semVal (thr d L, SemLoc.dma cc0_scratch5.sem) 0 ∗ Tok (F := F) d L O W ∗ ((∃ row, rowPts (F := F) d L row) ∗ rndPts (F := F) d L rf' ∗ (∃ pos, posPts (F := F) d L pos) ∗ xPts (F := F) d L q x2 ∗ semVal (thr d L, SemLoc.dma cc0_scoped1.sem) 0 ∗ minePts (F := F) d L mf ∗ semVal (thr d L, SemLoc.dma cc0_scratch6.sem) 0 ∗ R))) ?_ ?_
    · iintro ⟨HA, Hrow, Hr, Hp, Hx, Hv, Ht, Hm, HO, Hs5, Hs6, HR⟩
      isplitl [HO]; · iexact HO
      isplitl [HA]; · iexact HA
      isplitl [Hs5]; · iassumption
      isplitl [Ht]; · iexact Ht
      isplitl [Hrow]; · iexact Hrow
      isplitl [Hr]; · iexact Hr
      isplitl [Hp]; · iexact Hp
      isplitl [Hx]; · iexact Hx
      isplitl [Hv]; · iexact Hv
      isplitl [Hm]; · iexact Hm
      isplitl [Hs6]; · iassumption
      iexact HR
    refine BIBase.Entails.trans (slabs_begin (base := 1024 * (gs L + t.val)) (wd := 1024) (chunk_sub hc (by decide)) _) ?_
    refine iss_start (N := crd_1024) (G := outG x2 rf0) ?_
    refine step_bind (part64_run t hF h1 h2 ?_)
    refine step_bind (part65_run t hF h1 h2 ?_)
    refine BIBase.Entails.trans sent_all_1024 ?_
    refine step_bind (part66_run O W t h1 h2 ?_)
    refine step_await_1024 4 (by decide) ?_
    refine step_await_1024 5 (by decide) ?_
    refine step_await_1024 6 (by decide) ?_
    refine step_last_1024 ?_
    refine BIBase.Entails.trans (slabs_end (f' := outAt L (outG x2 rf0) h (t.val + 1)) (chunk_sub hc (by decide)) (out_new (by decide)) (out_old (.inl rfl))) ?_
    rw [dif_neg h3]
    refine BIBase.Entails.trans ?_ (step_tail (x2 := x2) hp.le hp.rows t h1 hw8 fun _ => step_pure last)
    iintro ⟨HO, HA, Hs, Ht, Hrow, Hr, Hp, Hx, Hv, Hm, Hs', HR⟩
    isplitl [HA]; · iexact HA
    isplitl [Hr]; · iexact Hr
    isplitl [Hrow]; · iexact Hrow
    isplitl [Hp]; · iexact Hp
    isplitl [Hx]; · iexact Hx
    isplitl [Hv]; · iexact Hv
    isplitl [Ht]; · iexact Ht
    isplitl [Hm]; · iexact Hm
    isplitl [HO]; · iexact HO
    isplitl [Hs]; · iassumption
    isplitl [Hs']; · iassumption
    iexact HR
  · have h3 : k0_cond3 L t = 1#1 := (cond3_iff L t).2 (Classical.not_not.1 fun h3 => h2 ((cond2_iff L t).2 h3))
    dsimp only
    rw [dif_neg h2]
    rw [dif_pos h3]
    refine BIBase.Entails.trans (Q := iprop(outOn d L (tileO L) (outAt L (outG x2 rf0) h t.val) ∗ accPts (F := F) d L (accN (addE x2) rf' n (fun _ => zF) n) ∗ semVal (thr d L, SemLoc.dma cc0_scratch6.sem) 0 ∗ Tok (F := F) d L O W ∗ ((∃ row, rowPts (F := F) d L row) ∗ rndPts (F := F) d L rf' ∗ (∃ pos, posPts (F := F) d L pos) ∗ xPts (F := F) d L q x2 ∗ semVal (thr d L, SemLoc.dma cc0_scoped1.sem) 0 ∗ minePts (F := F) d L mf ∗ semVal (thr d L, SemLoc.dma cc0_scratch5.sem) 0 ∗ R))) ?_ ?_
    · iintro ⟨HA, Hrow, Hr, Hp, Hx, Hv, Ht, Hm, HO, Hs5, Hs6, HR⟩
      isplitl [HO]; · iexact HO
      isplitl [HA]; · iexact HA
      isplitl [Hs6]; · iassumption
      isplitl [Ht]; · iexact Ht
      isplitl [Hrow]; · iexact Hrow
      isplitl [Hr]; · iexact Hr
      isplitl [Hp]; · iexact Hp
      isplitl [Hx]; · iexact Hx
      isplitl [Hv]; · iexact Hv
      isplitl [Hm]; · iexact Hm
      isplitl [Hs5]; · iassumption
      iexact HR
    refine BIBase.Entails.trans (slabs_begin (base := 1024 * (gs L + t.val)) (wd := 640) (chunk_sub hc (by decide)) _) ?_
    refine iss_start (N := crd_640) (G := outG x2 rf0) ?_
    refine step_bind (part67_run t hF.narrow h1 h3 ?_)
    refine step_bind (part68_run t hF.narrow h1 h3 ?_)
    refine BIBase.Entails.trans sent_all_640 ?_
    refine step_bind (part69_run O W t h1 h3 ?_)
    refine step_await_640 4 (by decide) ?_
    refine step_await_640 5 (by decide) ?_
    refine step_await_640 6 (by decide) ?_
    refine step_last_640 ?_
    refine BIBase.Entails.trans (slabs_end (f' := outAt L (outG x2 rf0) h (t.val + 1)) (chunk_sub hc (by decide)) (out_new (by decide)) (out_old (.inr ⟨rfl, (cond3_iff L t).1 h3⟩))) ?_
    refine BIBase.Entails.trans ?_ (step_tail (x2 := x2) hp.le hp.rows t h1 hw8 fun _ => step_pure last)
    iintro ⟨HO, HA, Hs, Ht, Hrow, Hr, Hp, Hx, Hv, Hm, Hs', HR⟩
    isplitl [HA]; · iexact HA
    isplitl [Hr]; · iexact Hr
    isplitl [Hrow]; · iexact Hrow
    isplitl [Hp]; · iexact Hp
    isplitl [Hx]; · iexact Hx
    isplitl [Hv]; · iexact Hv
    isplitl [Ht]; · iexact Ht
    isplitl [Hm]; · iexact Hm
    isplitl [HO]; · iexact HO
    isplitl [Hs']; · iassumption
    isplitl [Hs]; · iassumption
    iexact HR
end Runs

end Cert.Proof
-- ==== Proof.Body.lean ====
/- A tile's whole program: fetch the index list, clear the sums, collect the tile's entries, run its rounds. -/
module

public import proofs.«01_k».proof.Proof.Round

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

theorem landed {g f : S16384.Idx → BitVec 32} (i : S16384.Idx) : mRnd.view.write (Elt F) g (mI.view.read (Elt F) f) Finset.univ i = f i := by
  refine (View.write_emb_of_mem (v := mRnd.view) _ _ (Finset.mem_univ i)).trans ((cast_eq _ _).trans ((View.read_apply _ _).trans (cast_eq _ _)))

theorem zeroTo_none (f : S8x8x1024.Idx → F .f32) : ZeroTo 0 0 f := by
  intro x hx
  exfalso; revert hx; omega

theorem rowsOK_idx {f : S16384.Idx → BitVec 32} (hf : ∀ p, p < 16384 → (cell f p).toNat < 1000000) : RowsOK f := fun n hn => by
  have := hf n hn; omega

theorem trips1 : k0_t1_loop.trips = 64 := by decide
theorem trips2 : 64 * k0_t2_loop.trips = 16384 := by decide

/-- A share of the index list. -/
abbrev iPts (d : Dev nD) (L : grid0.Coords) (q : PosShare TreeShare) (f : S16384.Idx → BitVec 32) : sProp 𝕄 := mI.view.loc (thr d L) ↦{q} (f : Buf (Elt F) (mI.view.loc (thr d L)))

section Runs
variable {d : Dev nD} {L : grid0.Coords} {R : sProp (MT nD τ sig (HIx 1) (Elt F) ℕ UU ℕ)} {α : Type} {Q : α → sProp (MT nD τ sig (HIx 1) (Elt F) ℕ UU ℕ)}
variable {q : PosShare TreeShare} {O : CellTallies nD τ sig (HIx 1)} {W : Waits sig (HIx 1)}

theorem step_fetch {f g : S16384.Idx → BitVec 32} {hsrc hdst hsem hsw hdw} {k : PUnit → Prog (TpuEff nD τ sig (Elt F) Λ₀ (.scVector (cV L) (jV L))) α}
    (hk : iprop(iPts (F := F) d L q f ∗ rndPts (F := F) d L f ∗ semVal (thr d L, SemLoc.dma cc0_scoped0.sem) 0 ∗ Tok (F := F) d L O W ∗ R) ⊢ wpt (F := F) d L (k ⟨⟩) Q) :
    iprop(iPts (F := F) d L q f ∗ rndPts (F := F) d L g ∗ semVal (thr d L, SemLoc.dma cc0_scoped0.sem) 0 ∗ Tok (F := F) d L O W ∗ R) ⊢
      wpt (F := F) d L (Prog.lift (TpuEff.enqueueDma mI (.here mRnd) (.dma cc0_scoped0.sem) hsrc hdst hsem) >>= fun _ => Prog.lift (TpuEff.waitDma2 cc0_scoped0.sem mI mRnd hsw hdw) >>= k) Q := by
  have hI : (mI.view).set = Finset.univ := View.set_whole _
  have hR : (mRnd.view).set = Finset.univ := View.set_whole _
  iintro ⟨Hi, Hr, Hv, Ht, HR⟩
  ihave Ht' := (Entails.of_eq (show Tok (F := F) d L O W = iprop(levAts (K (F := F)).L (K (F := F)).lev ∗ ⌜∀ g, O g none = 0⌝ ∗ ∃ W', ⌜∀ p ∈ W', p ∈ W ∨ p.2 = none⌝ ∗ owes (thr d L) O W') from rfl)) $$ Ht
  icases Ht' with ⟨#Hlv, %hO, %W', %hW, HO⟩
  ihave Hmw := (show levAts (K (F := F)).L (K (F := F)).lev ⊢ Transfers.MayWaits (thr d L) (default : HIx 1) O from
    (K (F := F)).mayWaits_none (thr := thr d L) hO) $$ Hlv
  ihave Hi := (Entails.of_eq (show (iPts (F := F) d L q f : sProp 𝕄) = mI.view.loc (thr d L) ↦[mI.view.set]{q} (f : Buf (Elt F) (mI.view.loc (thr d L))) by rw [hI])) $$ Hi
  iapply (Transfers.wp_dmaLocal (defs := defs₀ (F := F)) (Q := Q) countersEmb 𝒱₀ (thr d L) none (src := mI) (dst := mRnd) (via := .same) (sm := .dma cc0_scoped0.sem) (q := q) (fs := f) (fd := g) (Sd := Finset.univ)
      (default : HIx 1) mRnd.view.dmaCredit rfl (View.dmaCredit_pos _ (by decide)) (Finset.subset_univ _)) $$ [Hi Hr Hv]
  · isplitl [Hi]; · iexact Hi
    isplitl [Hr]; · iexact Hr
    iexact Hv
  iintro Hfl
  iapply (Transfers.wp_waitLocalO (defs := defs₀ (F := F)) (Q := Q) countersEmb 𝒱₀ (thr d L) none (srcw := mI) (dstw := mRnd) (k := k) (default : HIx 1) (rfl : mRnd.view.dmaCredit = _)) $$ [Hfl HO]
  · isplitl [Hfl]; · iexact Hfl
    isplitl [HO]; · iexact HO
    iapply (Transfers.MayWaits.elim (SemLoc.dma cc0_scoped0.sem)) $$ Hmw
  iintro ⟨⟨Hr, Hi⟩, Hv, HO⟩
  ihave Hi := (Entails.of_eq (show (mI.view.loc (thr d L) ↦[mI.view.set]{q} (f : Buf (Elt F) (mI.view.loc (thr d L))) : sProp 𝕄) = iPts (F := F) d L q f by rw [hI])) $$ Hi
  iapply hk
  isplitl [Hi]; · iexact Hi
  isplitl [Hr]
  · iapply (Entails.of_eq (pointsTo_congr (ℓ := mRnd.view.loc (thr d L)) (q := fullShare) (I := Finset.univ) (f := mRnd.view.write (Elt F) g (mI.view.read (Elt F) f) Finset.univ) (g := (f : Buf (Elt F) (mRnd.view.loc (thr d L)))) fun i _ => landed i)); iexact Hr
  isplitl [Hv]; · iexact Hv
  isplitr [HR]
  · iapply (Entails.of_eq (show iprop(levAts (K (F := F)).L (K (F := F)).lev ∗ ⌜∀ g, O g none = 0⌝ ∗ ∃ W', ⌜∀ p ∈ W', p ∈ W ∨ p.2 = none⌝ ∗ owes (thr d L) O W') = Tok (F := F) d L O W from rfl))
    isplitr; · iexact Hlv
    isplitr; · ipureintro; exact hO
    iexists _
    isplitr
    swap; · iexact HO
    ipureintro; intro p hp
    rcases Finset.mem_insert.mp hp with hp | hp
    · exact .inr (hp ▸ rfl)
    · exact hW p hp
  · iexact HR

variable {x2 : S8192x128.Idx → F .f32} {qi : PosShare TreeShare} {idx : S16384.Idx → BitVec 32} {h : S64x1000064.Idx → F .f32}

set_option maxHeartbeats 1600000 in
/-- The whole of a tile's program. -/
theorem tile_run (hidx : ∀ p, p < 16384 → (cell idx p).toNat < 1000000) {f1 f2 f3 f4 f5} :
    iprop(iPts (F := F) d L qi idx ∗ rndPts (F := F) d L f2 ∗ semVal (thr d L, SemLoc.dma cc0_scoped0.sem) 0 ∗ Tok (F := F) d L O W
        ∗ (accPts (F := F) d L f3 ∗ minePts (F := F) d L f1 ∗ rowPts (F := F) d L f4 ∗ posPts (F := F) d L f5 ∗ xPts (F := F) d L q x2 ∗ outOn d L (tileO L) h
        ∗ semVal (thr d L, SemLoc.dma cc0_scoped1.sem) 0 ∗ semVal (thr d L, SemLoc.dma cc0_scratch5.sem) 0 ∗ semVal (thr d L, SemLoc.dma cc0_scratch6.sem) 0 ∗ R)) ⊢
      wpt (F := F) d L (cc0__sc_body L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2) fun _ =>
        iprop(∃ rf, ⌜RowsOK rf⌝ ∗ ∃ mf, ⌜True⌝ ∗ Sum d L q x2 O W iprop(minePts (F := F) d L mf ∗ outOn d L (tileO L) (outG x2 idx) ∗ semVal (thr d L, SemLoc.dma cc0_scratch5.sem) 0 ∗ semVal (thr d L, SemLoc.dma cc0_scratch6.sem) 0
          ∗ (iPts (F := F) d L qi idx ∗ semVal (thr d L, SemLoc.dma cc0_scoped0.sem) 0 ∗ R)) (fun _ => zF) rf) := by
  rw [cc0__sc_body_eq_skeleton]; unfold cc0__sc_body_skel
  refine step_fetch ?_
  refine step_for (F := F) (fun k _ => Zst d L iprop(iPts (F := F) d L qi idx ∗ rndPts (F := F) d L idx ∗ semVal (thr d L, SemLoc.dma cc0_scoped0.sem) 0 ∗ Tok (F := F) d L O W
        ∗ (minePts (F := F) d L f1 ∗ rowPts (F := F) d L f4 ∗ posPts (F := F) d L f5 ∗ xPts (F := F) d L q x2 ∗ outOn d L (tileO L) h
        ∗ semVal (thr d L, SemLoc.dma cc0_scoped1.sem) 0 ∗ semVal (thr d L, SemLoc.dma cc0_scratch5.sem) 0 ∗ semVal (thr d L, SemLoc.dma cc0_scratch6.sem) 0 ∗ R)) k 0) ?_ (fun t acc => t1_body_run t acc) fun _ => ?_
  · iintro ⟨Hi, Hr, Hv, Ht, HA, H⟩
    iexists f3
    isplitr; · ipureintro; exact zeroTo_none f3
    isplitl [HA]; · iexact HA
    isplitl [Hi]; · iexact Hi
    isplitl [Hr]; · iexact Hr
    isplitl [Hv]; · iexact Hv
    isplitl [Ht]; · iexact Ht
    iexact H
  refine of_ex (F := F) fun f hZ => ?_
  rw [trips1] at hZ
  obtain rfl := zeroTo_full hZ
  refine step_for (F := F) (fun k off => iprop(∃ f, ⌜Col (keepP (loW L) (hiW L) idx) (keepG (loW L) idx) f off (64 * k)⌝ ∗ minePts (F := F) d L f ∗ rndPts (F := F) d L idx ∗
      (accPts (F := F) d L (fun _ => zF) ∗ iPts (F := F) d L qi idx ∗ semVal (thr d L, SemLoc.dma cc0_scoped0.sem) 0 ∗ Tok (F := F) d L O W
        ∗ (rowPts (F := F) d L f4 ∗ posPts (F := F) d L f5 ∗ xPts (F := F) d L q x2 ∗ outOn d L (tileO L) h
        ∗ semVal (thr d L, SemLoc.dma cc0_scoped1.sem) 0 ∗ semVal (thr d L, SemLoc.dma cc0_scratch5.sem) 0 ∗ semVal (thr d L, SemLoc.dma cc0_scratch6.sem) 0 ∗ R)))) ?_ (fun t off => t2_body_run t off) fun off => ?_
  · iintro ⟨HA, Hi, Hr, Hv, Ht, Hm, H⟩
    iexists f1
    isplitr; · ipureintro; exact col_zero _ _ _
    isplitl [Hm]; · iexact Hm
    isplitl [Hr]; · iexact Hr
    isplitl [HA]; · iexact HA
    isplitl [Hi]; · iexact Hi
    isplitl [Hv]; · iexact Hv
    isplitl [Ht]; · iexact Ht
    iexact H
  refine of_ex (F := F) fun mf hC => ?_
  rw [trips2] at hC
  obtain ⟨hP, hoff⟩ := hC
  have hP : Pref mf (mineL L idx) := hP
  have hoff : off = BitVec.ofNat 32 (mineL L idx).length := hoff
  have hm : (mineL L idx).length ≤ 16384 := hP.1
  generalize em : (mineL L idx).length = m at hoff hm
  subst hoff
  refine step_assume (chk5_of hm L) ?_
  refine step_for (F := F) (fun k _ => Rst d L q x2 mf (outG x2 idx) h O W iprop(iPts (F := F) d L qi idx ∗ semVal (thr d L, SemLoc.dma cc0_scoped0.sem) 0 ∗ R) k) ?_ (fun t acc => t3_body_run hidx hP em.symm hm _ _ _ t acc) fun _ => step_pure ?_
  · iintro ⟨Hm, Hr, HA, Hi, Hv, Ht, Hrow, Hpos, Hx, HO, Hs1, Hs5, Hs6, HR⟩
    iexists idx
    isplitr; · ipureintro; exact rowsOK_idx hidx
    isplitl [HA]; · iexact HA
    isplitl [Hrow]; · iexists _; iexact Hrow
    isplitl [Hr]; · iexact Hr
    isplitl [Hpos]; · iexists _; iexact Hpos
    isplitl [Hx]; · iexact Hx
    isplitl [Hs1]; · iexact Hs1
    isplitl [Ht]; · iexact Ht
    isplitl [Hm]; · iexact Hm
    isplitl [HO]; · iapply (Entails.of_eq (out_none (G := outG x2 idx) (h := h))); iexact HO
    isplitl [Hs5]; · iexact Hs5
    isplitl [Hs6]; · iexact Hs6
    isplitl [Hi]; · iexact Hi
    isplitl [Hv]; · iexact Hv
    iexact HR
  refine of_ex (F := F) fun rf hR => ?_
  have hc := cnt_le L
  rw [trips3, out_done (n := 31) hc]
  iintro H
  iexists rf
  isplitr; · ipureintro; exact hR
  iexists mf
  isplitr; · ipureintro; trivial
  iexact H
end Runs

end Cert.Proof
-- ==== Proof.Tile.lean ====
/- A tile's task from what the launch gives the tile: its scratch buffers and copy semaphores named. -/
module

public import proofs.«01_k».proof.Proof.Body
public import Idealize.ShloMosaic.Lib.SparseCore.Quiescent

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

open Idealize.ShloMosaic.SparseCore.Cfg (ownBufs ownSems0 ownCells ownRefs mem_ownCells mem_ownRefs)

omit [FloatOps F] in
/-- The facts of the launch semaphores, decided. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

section Own
variable (d : Dev nD) (L : grid0.Coords)

/-- A copy semaphore of the tile. -/
abbrev cellS (x : DmaSem sig) : GSem nD τ sig := (thr d L, SemLoc.dma x)
/-- A buffer of the tile, as the device names it. -/
abbrev refS (b : Ref sig .scVector) : DevRef τ sig := (Proc.scVector (cV L) (jV L)).devRef b

omit [FloatOps F] in
theorem mem_cellS (x : DmaSem sig) (h : (SemLoc.dma x : SemLoc sig).isScoped .scVector = true) : cellS d L x ∈ ownCells (thr d L) :=
  mem_ownCells.mpr ⟨rfl, h⟩

omit [FloatOps F] in
theorem cellS_ne {x y : DmaSem sig} (h : (SemLoc.dma x : SemLoc sig) ≠ SemLoc.dma y) : cellS d L x ≠ cellS d L y := fun e => h (Prod.mk.inj e).2

/-- The tile's other semaphores. -/
abbrev restS : Finset (GSem nD τ sig) :=
  ((((ownCells (thr d L)).erase (cellS d L cc0_scoped0.sem)).erase (cellS d L cc0_scoped1.sem)).erase (cellS d L cc0_scratch5.sem)).erase (cellS d L cc0_scratch6.sem)

omit [FloatOps F] in
theorem ownSems_tile :
    (ownSems0 (thr d L) : sProp 𝕄)
      = iprop(semVal (cellS d L cc0_scoped0.sem) 0 ∗ semVal (cellS d L cc0_scoped1.sem) 0 ∗ semVal (cellS d L cc0_scratch5.sem) 0 ∗ semVal (cellS d L cc0_scratch6.sem) 0
          ∗ bigSep (restS d L) fun g => semVal g 0) := by
  unfold SparseCore.Cfg.ownSems0
  rw [SparseCore.bigSep_erase' (mem_cellS d L cc0_scoped0.sem (by decide)),
    SparseCore.bigSep_erase' (Finset.mem_erase.mpr ⟨cellS_ne d L (x := cc0_scoped1.sem) (y := cc0_scoped0.sem) (by decide), mem_cellS d L cc0_scoped1.sem (by decide)⟩),
    SparseCore.bigSep_erase' (Finset.mem_erase.mpr ⟨cellS_ne d L (x := cc0_scratch5.sem) (y := cc0_scoped1.sem) (by decide),
      Finset.mem_erase.mpr ⟨cellS_ne d L (x := cc0_scratch5.sem) (y := cc0_scoped0.sem) (by decide), mem_cellS d L cc0_scratch5.sem (by decide)⟩⟩),
    SparseCore.bigSep_erase' (Finset.mem_erase.mpr ⟨cellS_ne d L (x := cc0_scratch6.sem) (y := cc0_scratch5.sem) (by decide),
      Finset.mem_erase.mpr ⟨cellS_ne d L (x := cc0_scratch6.sem) (y := cc0_scoped1.sem) (by decide),
      Finset.mem_erase.mpr ⟨cellS_ne d L (x := cc0_scratch6.sem) (y := cc0_scoped0.sem) (by decide), mem_cellS d L cc0_scratch6.sem (by decide)⟩⟩⟩)]

omit [FloatOps F] in
theorem refS_ne {x y : Ref sig .scVector} (h : x ≠ y) : refS L x ≠ refS L y := fun e => h (Proc.devRef_injective _ e)

/-- The tile's other buffers. -/
abbrev restB : Finset (DevRef τ sig) :=
  (((((ownRefs (τ := τ) (.scVector (cV L) (jV L))).erase (refS L cc0_scratch0)).erase (refS L cc0_scratch1)).erase (refS L cc0_scratch2)).erase (refS L cc0_scratch3)).erase (refS L cc0_scratch4)

omit [FloatOps F] in
theorem ownBufs_tile :
    (ownBufs (thr d L) : sProp 𝕄)
      = iprop((∃ f, minePts (F := F) d L f) ∗ (∃ f, rndPts (F := F) d L f) ∗ (∃ f, accPts (F := F) d L f) ∗ (∃ f, rowPts (F := F) d L f) ∗ (∃ f, posPts (F := F) d L f)
          ∗ bigSep (restB L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := refS L cc0_scratch0) rfl)).trans ?_
  rw [SparseCore.bigSep_erase' (Finset.mem_erase.mpr ⟨refS_ne L (x := cc0_scratch1) (y := cc0_scratch0) (by decide),
      SparseCore.Cfg.mem_ownRefs_of_owner (p := Proc.scVector (cV L) (jV L)) (b := refS L cc0_scratch1) rfl⟩),
    SparseCore.bigSep_erase' (Finset.mem_erase.mpr ⟨refS_ne L (x := cc0_scratch2) (y := cc0_scratch1) (by decide), Finset.mem_erase.mpr ⟨refS_ne L (x := cc0_scratch2) (y := cc0_scratch0) (by decide),
      SparseCore.Cfg.mem_ownRefs_of_owner (p := Proc.scVector (cV L) (jV L)) (b := refS L cc0_scratch2) rfl⟩⟩),
    SparseCore.bigSep_erase' (Finset.mem_erase.mpr ⟨refS_ne L (x := cc0_scratch3) (y := cc0_scratch2) (by decide), Finset.mem_erase.mpr ⟨refS_ne L (x := cc0_scratch3) (y := cc0_scratch1) (by decide),
      Finset.mem_erase.mpr ⟨refS_ne L (x := cc0_scratch3) (y := cc0_scratch0) (by decide),
      SparseCore.Cfg.mem_ownRefs_of_owner (p := Proc.scVector (cV L) (jV L)) (b := refS L cc0_scratch3) rfl⟩⟩⟩),
    SparseCore.bigSep_erase' (Finset.mem_erase.mpr ⟨refS_ne L (x := cc0_scratch4) (y := cc0_scratch3) (by decide), Finset.mem_erase.mpr ⟨refS_ne L (x := cc0_scratch4) (y := cc0_scratch2) (by decide),
      Finset.mem_erase.mpr ⟨refS_ne L (x := cc0_scratch4) (y := cc0_scratch1) (by decide), Finset.mem_erase.mpr ⟨refS_ne L (x := cc0_scratch4) (y := cc0_scratch0) (by decide),
      SparseCore.Cfg.mem_ownRefs_of_owner (p := Proc.scVector (cV L) (jV L)) (b := refS L cc0_scratch4) rfl⟩⟩⟩⟩)]
  rfl
end Own

omit [FloatOps F] in
theorem tok_eq (d : Dev nD) (L : grid0.Coords) (O : CellTallies nD τ sig (HIx 1)) (W : Waits sig (HIx 1)) :
    Tok (F := F) d L O W = iprop(levAts (K (F := F)).L (K (F := F)).lev ∗ ⌜∀ g, O g none = 0⌝ ∗ ∃ W', ⌜∀ p ∈ W', p ∈ W ∨ p.2 = none⌝ ∗ owes (thr d L) O W') := rfl

section Tile
variable {d : Dev nD} {L : grid0.Coords} {O : CellTallies nD τ sig (HIx 1)} {W : Waits sig (HIx 1)} {q qi : PosShare TreeShare}
variable {x2 : S8192x128.Idx → F .f32} {idx : S16384.Idx → BitVec 32} {h : S64x1000064.Idx → F .f32}

/-- A tile's task, from what the call hands it and the tile's own storage. -/
theorem tile_task (hidx : ∀ p, p < 16384 → (cell idx p).toNat < 1000000) (hO : ∀ g, O g none = 0) :
    iprop(levAts (K (F := F)).L (K (F := F)).lev ∗ emp ∗ (iPts (F := F) d L qi idx ∗ xPts (F := F) d L q x2 ∗ outOn d L (tileO L) h)
        ∗ scopedBufs (thr d L) ∗ scopedSems0 (thr d L) ∗ owes (thr d L) O W) ⊢
      wpt (F := F) d L (cc0__sc_body L mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2) fun _ =>
        iprop((iPts (F := F) d L qi idx ∗ xPts (F := F) d L q x2 ∗ outOn d L (tileO L) (outG x2 idx))
          ∗ scopedBufs (thr d L) ∗ scopedSems0 (thr d L) ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), ownSems_tile, ownBufs_tile]
  iintro ⟨#Hlv, -, ⟨Hi, Hx, Ho⟩, ⟨⟨%f1, Hm⟩, ⟨%f2, Hr⟩, ⟨%f3, Ha⟩, ⟨%f4, Hw⟩, ⟨%f5, Hp⟩, Hbufs⟩, ⟨Hs0, Hs1, Hs5, Hs6, Hsems⟩, HO⟩
  iapply ((tile_run (d := d) (L := L) (q := q) (qi := qi) (O := O) (W := W) (x2 := x2) (h := h) (f1 := f1) (f2 := f2) (f3 := f3) (f4 := f4) (f5 := f5)
    (R := iprop((bigSep (restB L) fun b => iprop(∃ f, ((d, b) : Loc nD τ sig) ↦{fullShare} f)) ∗ bigSep (restS d L) fun g => semVal g 0)) hidx).trans (wp_mono frame _ _ fun _ => ?post)) $$ [Hi Hx Ho Hm Hr Ha Hw Hp Hbufs Hs0 Hs1 Hs5 Hs6 Hsems HO]
  case post =>
    iintro ⟨%rf, -, %mf, -, Ha, Hw, Hr, ⟨Hp, Hx, Hs1, Ht, Hm, Ho, Hs5, Hs6, ⟨Hi, Hs0, Hbufs, Hsems⟩⟩⟩
    ihave Ht' := (Entails.of_eq (tok_eq (F := F) d L O W)) $$ Ht
    icases Ht' with ⟨-, -, HO⟩
    isplitl [Hi Hx Ho]
    · isplitl [Hi]; · iexact Hi
      isplitl [Hx]; · iexact Hx
      iexact Ho
    isplitl [Hm Hr Ha Hw Hp Hbufs]
    · isplitl [Hm]; · iexists _; iexact Hm
      isplitl [Hr]; · iexists _; iexact Hr
      isplitl [Ha]; · iexists _; iexact Ha
      isplitl [Hw]; · iexact Hw
      isplitl [Hp]; · iexact Hp
      iexact Hbufs
    isplitl [Hs0 Hs1 Hs5 Hs6 Hsems]
    · isplitl [Hs0]; · iexact Hs0
      isplitl [Hs1]; · iexact Hs1
      isplitl [Hs5]; · iexact Hs5
      isplitl [Hs6]; · iexact Hs6
      iexact Hsems
    iexact HO
  isplitl [Hi]; · iexact Hi
  isplitl [Hr]; · iexact Hr
  isplitl [Hs0]; · iexact Hs0
  isplitl [HO]
  · iapply (Entails.of_eq (tok_eq (F := F) d L O W).symm)
    isplitr; · iexact Hlv
    isplitr; · ipureintro; exact hO
    iexists W
    isplitr; · ipureintro; exact fun p hp => .inl hp
    iexact HO
  isplitl [Ha]; · iexact Ha
  isplitl [Hm]; · iexact Hm
  isplitl [Hw]; · iexact Hw
  isplitl [Hp]; · iexact Hp
  isplitl [Hx]; · iexact Hx
  isplitl [Ho]; · iexact Ho
  isplitl [Hs1]; · iexact Hs1
  isplitl [Hs5]; · iexact Hs5
  isplitl [Hs6]; · iexact Hs6
  isplitl [Hbufs]; · iexact Hbufs
  iexact Hsems
end Tile

end Cert.Proof
-- ==== Proof.Launch.lean ====
/- The whole program: the two reshapes, the call on all tiles, the cut and the transpose, and what they leave. -/
module

public import proofs.«01_k».proof.Proof.Tile
public import Idealize.ShloMosaic.Lib.StableHlo.Run
public import Idealize.ShloMosaic.Lib.Pipeline.Kit

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

open Idealize.ShloMosaic.SparseCore.Cfg (Pay)
open Idealize.ShloMosaic.Rounds
open Idealize.ShloMosaic.StableHlo (held wp_hlo_within)

/-- The tile of a core and a subcore, as the launch writes it. -/
def coordsV (c : Fin 2) (s : Fin 16) : grid0.Coords :=
  fun | 0 => c | 1 => s | ⟨_ + 2, h⟩ => absurd h (Nat.not_lt.2 (Nat.le_add_left _ _))

/-! ## Shares: a buffer read by all tiles at once -/

/-- The left half of a share, or the right. -/
def half (b : ℕ) (q : PosShare TreeShare) : PosShare TreeShare := if b = 0 then q.left else q.right
/-- Part `k` of the full share cut in two `n` times. -/
def share : ℕ → ℕ → PosShare TreeShare
  | 0, _ => fullShare
  | n + 1, k => half (k % 2) (share n (k / 2))

omit [FloatOps F] in
theorem cut_two {ℓ : Loc nD τ sig} (I : Finset (Idx ℓ)) (f : Buf (Elt F) ℓ) (q : PosShare TreeShare) :
    (ℓ ↦[I]{q} f : sProp 𝕄) = bigSep Finset.univ fun b : Fin 2 => ℓ ↦[I]{half b.val q} f := by
  rw [show (Finset.univ : Finset (Fin 2)) = {0, 1} from rfl, SparseCore.bigSep_insert' (by decide), bigSep_singleton]
  exact BI.Entails.antisymm (pointsTo_share (PosShare.mem_left_op_right q)).1 (pointsTo_share (PosShare.mem_left_op_right q)).2

omit [FloatOps F] in
theorem cut_all {ℓ : Loc nD τ sig} (I : Finset (Idx ℓ)) (f : Buf (Elt F) ℓ) :
    ∀ n : ℕ, (ℓ ↦[I]{fullShare} f : sProp 𝕄) = bigSep Finset.univ fun k : Fin (2 ^ n) => ℓ ↦[I]{share n k.val} f
  | 0 => (bigSep_univ_of_subsingleton (0 : Fin 1) (Φ := fun k : Fin (2 ^ 0) => (ℓ ↦[I]{share 0 k.val} f : sProp 𝕄))).symm
  | n + 1 => by
    rw [cut_all I f n]
    refine Eq.trans ?_ (bigSep_univ_equiv (finProdFinEquiv : Fin (2 ^ n) × Fin 2 ≃ Fin (2 ^ n * 2)) (fun k : Fin (2 ^ n * 2) => (ℓ ↦[I]{share (n + 1) k.val} f : sProp 𝕄))).symm
    rw [bigSep_univ_prod]
    refine bigSep_congr fun a _ => ?_
    rw [cut_two]
    refine bigSep_congr fun b _ => ?_
    rw [show share (n + 1) (finProdFinEquiv (a, b)).val = half b.val (share n a.val) from by
      have e : (finProdFinEquiv (a, b)).val = b.val + 2 * a.val := rfl
      have hb := b.isLt
      rw [e, share, show (b.val + 2 * a.val) % 2 = b.val by omega, show (b.val + 2 * a.val) / 2 = a.val by omega]]

/-- A tile's share of what all tiles read. -/
def shr (c : Fin 2) (s : Fin 16) : PosShare TreeShare := share 5 (finProdFinEquiv (c, s)).val

omit [FloatOps F] in
theorem cut_tiles {ℓ : Loc nD τ sig} (I : Finset (Idx ℓ)) (f : Buf (Elt F) ℓ) :
    (ℓ ↦[I]{fullShare} f : sProp 𝕄) = bigSep Finset.univ fun c : Fin 2 => bigSep Finset.univ fun s : Fin 16 => ℓ ↦[I]{shr c s} f := by
  rw [cut_all I f 5]
  refine (bigSep_univ_equiv (finProdFinEquiv : Fin 2 × Fin 16 ≃ Fin (2 * 16)) (fun k : Fin (2 * 16) => (ℓ ↦[I]{share 5 k.val} f : sProp 𝕄))).trans ?_
  rw [bigSep_univ_prod]
  rfl

/-! ## The result's columns, tile by tile -/

omit [FloatOps F] in
theorem tiles_apart : ∀ a ∈ (Finset.univ : Finset (Fin 2 × Fin 16)), ∀ b ∈ (Finset.univ : Finset (Fin 2 × Fin 16)), a ≠ b →
    Disjoint (tileO (coordsV a.1 a.2)) (tileO (coordsV b.1 b.2)) := by
  rintro ⟨c, s⟩ - ⟨c', s'⟩ - hne
  rw [Finset.disjoint_left]
  intro j h1 h2
  have h1 := mem_tileO.1 h1
  have h2 := mem_tileO.1 h2
  have e1 : wk (coordsV c s) = 2 * s.val + c.val := rfl
  have e2 : wk (coordsV c' s') = 2 * s'.val + c'.val := rfl
  have hc := c.isLt; have hs := s.isLt; have hc' := c'.isLt; have hs' := s'.isLt
  have hw : wk (coordsV c s) = wk (coordsV c' s') := by
    dsimp only at h1 h2
    unfold gs cnt at h1 h2
    generalize wk (coordsV c s) = w at *
    generalize wk (coordsV c' s') = w' at *
    split at h1 <;> split at h2 <;> omega
  exact hne (Prod.ext (Fin.ext (by show c.val = c'.val; omega)) (Fin.ext (by show s.val = s'.val; omega)))

omit [FloatOps F] in
theorem tiles_cover : (Finset.univ : Finset (Fin 2 × Fin 16)).biUnion (fun a => tileO (coordsV a.1 a.2)) = Finset.univ := by
  refine Finset.eq_univ_of_forall fun j => Finset.mem_biUnion.2 ?_
  have hj : (j 1).val < 1000064 := (j 1).isLt
  have : ∃ w, w < 32 ∧ 1024 * (30 * w + min w 17) ≤ (j 1).val ∧ (j 1).val < 1024 * (30 * w + min w 17 + if w < 17 then 31 else 30) := by
    by_cases h : (j 1).val / 1024 < 527
    · refine ⟨(j 1).val / 1024 / 31, by omega, by omega, ?_⟩
      rw [if_pos (by omega)]; omega
    · refine ⟨((j 1).val / 1024 - 17) / 30, by omega, by omega, ?_⟩
      rw [if_neg (by omega)]; omega
  obtain ⟨w, hw, h1, h2⟩ := this
  refine ⟨((⟨w % 2, by omega⟩ : Fin 2), (⟨w / 2, by omega⟩ : Fin 16)), Finset.mem_univ _, mem_tileO.2 ?_⟩
  have e : wk (coordsV (⟨w % 2, by omega⟩ : Fin 2) (⟨w / 2, by omega⟩ : Fin 16)) = w := by
    show 2 * (w / 2) + w % 2 = w
    omega
  unfold gs cnt
  dsimp only
  rw [e]
  exact ⟨h1, h2⟩

/-! ## What the call hands over -/

section Call
variable (m : (ℓ : Loc nD τ sig) → Buf (Elt F) ℓ) (ρ : Dev nD → PrngReg)

abbrev ref0 (d : Dev nD) : Loc nD τ sig := (SparseCore.T d).loc main_v0
abbrev ref1 (d : Dev nD) : Loc nD τ sig := (SparseCore.T d).loc main_v1
abbrev ref2 (d : Dev nD) : Loc nD τ sig := (SparseCore.T d).loc main_v2
abbrev ref3 (d : Dev nD) : Loc nD τ sig := (SparseCore.T d).loc main_v3
abbrev ref4 (d : Dev nD) : Loc nD τ sig := (SparseCore.T d).loc main_v4
abbrev argX (d : Dev nD) : Loc nD τ sig := (SparseCore.T d).loc main_arg0
abbrev argI (d : Dev nD) : Loc nD τ sig := (SparseCore.T d).loc main_arg1
abbrev argZ (d : Dev nD) : Loc nD τ sig := (SparseCore.T d).loc main_arg2

/-- The index list as the tiles read it. -/
def idxV (d : Dev nD) : S16384.Idx → BitVec 32 := shapeCast S16384 (m (argI d) : S16384x1.Idx → BitVec 32) shapeCasts_S16384x1_S16384
/-- The rows as the tiles read them: two to a line. -/
def x2V (d : Dev nD) : S8192x128.Idx → F .f32 := shapeCast S8192x128 (m (argX d) : S16384x64.Idx → F .f32) shapeCasts_S16384x64_S8192x128
/-- What the call leaves in its result. -/
def outV (d : Dev nD) : S64x1000064.Idx → F .f32 := outG (x2V m d) (idxV m d)

/-- What the proof asks of the launch memory: every index names a row of the result. -/
def PreOK : Prop := ∀ (d : Dev nD) (p : ℕ), p < 16384 → (cell (idxV m d) p).toNat < 1000000

/-- What a tile holds of the call's three arrays. -/
abbrev piece (d : Dev nD) (c : Fin 2) (s : Fin 16) (h : S64x1000064.Idx → F .f32) : sProp 𝕄 :=
  iprop(iPts (F := F) d (coordsV c s) (shr c s) (idxV m d) ∗ xPts (F := F) d (coordsV c s) (shr c s) (x2V m d) ∗ outOn d (coordsV c s) (tileO (coordsV c s)) h)
abbrev pieces (d : Dev nD) (c : Fin 2) (h : S64x1000064.Idx → F .f32) : sProp 𝕄 := bigSep Finset.univ fun s : Fin 16 => piece m d c s h

omit [FloatOps F] in
theorem iPts_at (d : Dev nD) (L : grid0.Coords) (q : PosShare TreeShare) (f : S16384.Idx → BitVec 32) : (iPts (F := F) d L q f : sProp 𝕄) = (ref0 d ↦{q} (f : Buf (Elt F) (ref0 d))) := rfl
omit [FloatOps F] in
theorem xPts_at (d : Dev nD) (L : grid0.Coords) (q : PosShare TreeShare) (f : S8192x128.Idx → F .f32) : (xPts (F := F) d L q f : sProp 𝕄) = (ref1 d ↦{q} (f : Buf (Elt F) (ref1 d))) := rfl
omit [FloatOps F] in
theorem out_at (d : Dev nD) (L : grid0.Coords) (S : Finset S64x1000064.Idx) (h : S64x1000064.Idx → F .f32) :
    (outOn d L S h : sProp 𝕄) = (ref2 d ↦[(S : Finset (Idx (ref2 d)))]{fullShare} (h : Buf (Elt F) (ref2 d))) := rfl

theorem whole_pieces (d : Dev nD) (h : S64x1000064.Idx → F .f32) :
    (iprop((ref0 d ↦{fullShare} (idxV m d : Buf (Elt F) (ref0 d))) ∗ (ref1 d ↦{fullShare} (x2V m d : Buf (Elt F) (ref1 d))) ∗ (ref2 d ↦{fullShare} (h : Buf (Elt F) (ref2 d)))) : sProp 𝕄)
      = bigSep Finset.univ fun c : Fin 2 => pieces m d c h := by
  unfold pieces piece
  simp only [bigSep_sep']
  have eo : (ref2 d ↦{fullShare} (h : Buf (Elt F) (ref2 d)) : sProp 𝕄)
      = bigSep Finset.univ fun c : Fin 2 => bigSep Finset.univ fun s : Fin 16 => outOn d (coordsV c s) (tileO (coordsV c s)) h := by
    refine Eq.trans ?_ (bigSep_congr fun c _ => bigSep_congr fun s _ => (out_at d (coordsV c s) (tileO (coordsV c s)) h).symm)
    refine Eq.trans ?_ (bigSep_univ_prod (fun a : Fin 2 × Fin 16 => (ref2 d ↦[(tileO (coordsV a.1 a.2) : Finset (Idx (ref2 d)))]{fullShare} (h : Buf (Elt F) (ref2 d)) : sProp 𝕄)))
    rw [← pointsTo_biUnion Finset.univ (ℓ := ref2 d) (fun a : Fin 2 × Fin 16 => (tileO (coordsV a.1 a.2) : Finset (Idx (ref2 d)))) tiles_apart]
    exact congrArg (fun S : Finset (Idx (ref2 d)) => (ref2 d ↦[S]{fullShare} (h : Buf (Elt F) (ref2 d)) : sProp 𝕄)) tiles_cover.symm
  have ei : (ref0 d ↦{fullShare} (idxV m d : Buf (Elt F) (ref0 d)) : sProp 𝕄)
      = bigSep Finset.univ fun c : Fin 2 => bigSep Finset.univ fun s : Fin 16 => iPts (F := F) d (coordsV c s) (shr c s) (idxV m d) :=
    (cut_tiles (F := F) (ℓ := ref0 d) Finset.univ (idxV m d)).trans (bigSep_congr fun c _ => bigSep_congr fun s _ => (iPts_at d (coordsV c s) (shr c s) (idxV m d)).symm)
  have ex : (ref1 d ↦{fullShare} (x2V m d : Buf (Elt F) (ref1 d)) : sProp 𝕄)
      = bigSep Finset.univ fun c : Fin 2 => bigSep Finset.univ fun s : Fin 16 => xPts (F := F) d (coordsV c s) (shr c s) (x2V m d) :=
    (cut_tiles (F := F) (ℓ := ref1 d) Finset.univ (x2V m d)).trans (bigSep_congr fun c _ => bigSep_congr fun s _ => (xPts_at d (coordsV c s) (shr c s) (x2V m d)).symm)
  rw [ei, ex, eo]

omit [FloatOps F] in
theorem nSub_zero : (K (F := F)).nSub 0 = 16 := rfl
omit [FloatOps F] in
theorem nCore_zero : (K (F := F)).nCore 0 = 2 := rfl

/-- What the launch and its handshakes carry. -/
def P : (K (F := F)).Pay (nD := nD) (Val := Elt F) (Name := ℕ) (U := UU) where
  st := fun q d c => match q with | 0 => pieces m d (Fin.cast nCore_zero c) (m (ref2 d))
  dn := fun q d c => match q with | 0 => pieces m d (Fin.cast nCore_zero c) (outV m d)
  go := fun q d c i => match q with | 0 => piece m d (Fin.cast nCore_zero c) (Fin.cast nSub_zero i) (m (ref2 d))
  td := fun q d c i => match q with | 0 => piece m d (Fin.cast nCore_zero c) (Fin.cast nSub_zero i) (outV m d)
  x := fun _ _ => iprop(emp)

instance P_storable : (P (F := F) m).IsStorable where
  st q d c := match q with | 0 => (inferInstance : BI.Storable (upEmb : UEmb _ 𝕄) (pieces m d (Fin.cast nCore_zero c) (m (ref2 d))))
  dn q d c := match q with | 0 => (inferInstance : BI.Storable (upEmb : UEmb _ 𝕄) (pieces m d (Fin.cast nCore_zero c) (outV m d)))
  go q d c i := match q with | 0 => (inferInstance : BI.Storable (upEmb : UEmb _ 𝕄) (piece m d (Fin.cast nCore_zero c) (Fin.cast nSub_zero i) (m (ref2 d))))
  td q d c i := match q with | 0 => (inferInstance : BI.Storable (upEmb : UEmb _ 𝕄) (piece m d (Fin.cast nCore_zero c) (Fin.cast nSub_zero i) (outV m d)))

theorem defs₀_vector (c : Fin τ.nSC) (s : Fin τ.nSub) :
    defs₀ (F := F) (.scVector c s) 0 ()
      = SparseCore.onTile hcore0 hsub0 (fun c s => cc0__sc_body (coordsV c s) mX (Memref.isWhole_whole _) mI (Memref.isWhole_whole _) mO (Memref.isWhole_whole _) mMine (Memref.isWhole_whole _) mRnd (Memref.isWhole_whole _) mAcc (Memref.isWhole_whole _) mRow (Memref.isWhole_whole _) mPos (Memref.isWhole_whole _) cc0_scratch5 cc0_scratch6 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_task (d := d) (L := coordsV ⟨_, hci.1⟩ ⟨_, hci.2⟩) (O := O) (W := W) (q := shr (Fin.cast nCore_zero c) (Fin.cast nSub_zero i)) (qi := shr (Fin.cast nCore_zero c) (Fin.cast nSub_zero i))
    (x2 := x2V m d) (idx := idxV m d) (h := m (ref2 d)) (hpre d) hO).trans (wp_mono frame _ _ fun _ => obl_post)

theorem vecSplit : (K (F := F)).VecSplit' (P m) 0 := by
  intro d c
  show pieces m d (Fin.cast nCore_zero c) (m (ref2 d)) ⊢ |={Set.univ}=> iprop(
      (bigSep Finset.univ fun i : Fin ((K (F := F)).nSub 0) => piece m d (Fin.cast nCore_zero c) (Fin.cast nSub_zero i) (m (ref2 d)))
      ∗ ((bigSep Finset.univ fun i : Fin ((K (F := F)).nSub 0) => piece m d (Fin.cast nCore_zero c) (Fin.cast nSub_zero i) (outV m d))
          -∗ pieces m d (Fin.cast nCore_zero c) (outV m d)))
  have e : ∀ h, (bigSep Finset.univ fun i : Fin ((K (F := F)).nSub 0) => piece m d (Fin.cast nCore_zero c) (Fin.cast nSub_zero i) h) = pieces m d (Fin.cast nCore_zero c) h := fun h =>
    bigSep_congr fun _ _ => rfl
  rw [e, e]
  iintro H; imodintro
  isplitl [H]; · iexact H
  iintro H; iexact H

/-- The launch's ghost state. -/
def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host's program -/

abbrev a0 : DevRef τ sig := Proc.devRef .tc (main_arg0 : Ref sig .tc)
abbrev a1 : DevRef τ sig := Proc.devRef .tc (main_arg1 : Ref sig .tc)
abbrev a2 : DevRef τ sig := Proc.devRef .tc (main_arg2 : Ref sig .tc)
abbrev b0 : DevRef τ sig := Proc.devRef .tc (main_v0 : Ref sig .tc)
abbrev b1 : DevRef τ sig := Proc.devRef .tc (main_v1 : Ref sig .tc)
abbrev b2 : DevRef τ sig := Proc.devRef .tc (main_v2 : Ref sig .tc)
abbrev b3 : DevRef τ sig := Proc.devRef .tc (main_v3 : Ref sig .tc)
abbrev b4 : DevRef τ sig := Proc.devRef .tc (main_v4 : Ref sig .tc)
abbrev opI : HloOp τ sig (Elt F) := StableHlo.reshape main_arg1 main_v0 (rfl : (.i32 : EltTy) = .i32) shapeCasts_S16384x1_S16384
abbrev opX : HloOp τ sig (Elt F) := StableHlo.reshape main_arg0 main_v1 (rfl : (.f32 : EltTy) = .f32) shapeCasts_S16384x64_S8192x128
abbrev opS : HloOp τ sig (Elt F) := StableHlo.unary main_v2 main_v3 ((extractStridedSlice S64x1000000 ![0, 0] · slices_S64x1000064_S64x1000000_0_0) : (⟨S64x1000064, .f32⟩ : BufTy).Contents (Elt F) → (⟨S64x1000000, .f32⟩ : BufTy).Contents (Elt F))
abbrev opT : HloOp τ sig (Elt F) := StableHlo.unary main_v3 main_v4 ((transpose S1000000x64 [1, 0] · transposes_S64x1000000_S1000000x64_1_0) : (⟨S64x1000000, .f32⟩ : BufTy).Contents (Elt F) → (⟨S1000000x64, .f32⟩ : BufTy).Contents (Elt F))

/-- The host's arrays. -/
abbrev S8 : Finset (DevRef τ sig) := {a0, a1, a2, b0, b1, b2, b3, b4}

omit [FloatOps F] in
theorem held_S8 (d : Dev nD) (W : Valuation τ sig (Elt F)) :
    (held (T d) S8 W : sProp 𝕄)
      = iprop((argX d ↦{fullShare} W a0) ∗ (argI d ↦{fullShare} W a1) ∗ (argZ d ↦{fullShare} W a2) ∗ (ref0 d ↦{fullShare} W b0)
          ∗ (ref1 d ↦{fullShare} W b1) ∗ (ref2 d ↦{fullShare} W b2) ∗ (ref3 d ↦{fullShare} W b3) ∗ ref4 d ↦{fullShare} W b4) := by
  unfold held S8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch contents of the host's arrays. -/
def V0 (d : Dev nD) : Valuation τ sig (Elt F) := fun b => m (d, b)

omit [FloatOps F] in
theorem unscoped_held (d : Dev nD) : (unscopedBufs d (fun b => m ((SparseCore.T d).loc b)) : sProp 𝕄) = held (T d) S8 (V0 m d) := by
  rw [held_S8]
  unfold unscopedBufs
  rw [show (Finset.univ.filter fun b : Ref sig .tc => ¬ b.isScoped) = {main_arg0, main_arg1, main_arg2, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- Before the call; after it; at the end. -/
def V2 (d : Dev nD) : Valuation τ sig (Elt F) := (opX (F := F)).result ((opI (F := F)).result (V0 m d))
def V3 (d : Dev nD) : Valuation τ sig (Elt F) := Function.update (V2 m d) b2 (outV m d)
def V5 (d : Dev nD) : Valuation τ sig (Elt F) := (opT (F := F)).result ((opS (F := F)).result (V3 m d))

/-- The program's result. -/
def Rv (d : Dev nD) : S1000000x64.Idx → F .f32 :=
  transpose S1000000x64 [1, 0] (extractStridedSlice S64x1000000 ![0, 0] (outV m d) slices_S64x1000064_S64x1000000_0_0) transposes_S64x1000000_S1000000x64_1_0

theorem V2_old (d : Dev nD) (b : DevRef τ sig) (h0 : b ∉ ({b0} : Finset (DevRef τ sig))) (h1 : b ∉ ({b1} : Finset (DevRef τ sig))) : V2 m d b = m (d, b) := by
  unfold V2
  rw [(opX (F := F)).result_of_not_mem _ h1, (opI (F := F)).result_of_not_mem _ h0]
  rfl
theorem V2_b0 (d : Dev nD) : V2 m d b0 = idxV m d := by
  unfold V2
  rw [(opX (F := F)).result_of_not_mem _ (show b0 ∉ ({b1} : Finset (DevRef τ sig)) by decide)]
  exact StableHlo.reshape_result _ _ _ _ _ _ _
theorem V2_b1 (d : Dev nD) : V2 m d b1 = x2V m d := by
  unfold V2
  refine (StableHlo.reshape_result _ _ _ _ _ _ _).trans ?_
  rw [(opI (F := F)).result_of_not_mem _ (show a0 ∉ ({b0} : Finset (DevRef τ sig)) by decide)]
  rfl
theorem V3_old (d : Dev nD) (b : DevRef τ sig) (h : b ≠ b2) : V3 m d b = V2 m d b := Function.update_of_ne h _ _
theorem V3_b2 (d : Dev nD) : V3 m d b2 = outV m d := Function.update_self _ _ _
theorem V5_old (d : Dev nD) (b : DevRef τ sig) (h0 : b ∉ ({b0} : Finset (DevRef τ sig))) (h1 : b ∉ ({b1} : Finset (DevRef τ sig))) (h2 : b ≠ b2)
    (h3 : b ∉ ({b3} : Finset (DevRef τ sig))) (h4 : b ∉ ({b4} : Finset (DevRef τ sig))) : V5 m d b = m (d, b) := by
  unfold V5
  rw [(opT (F := F)).result_of_not_mem _ h4, (opS (F := F)).result_of_not_mem _ h3, V3_old m d b h2, V2_old m d b h0 h1]
theorem V5_b4 (d : Dev nD) : V5 m d b4 = Rv m d := by
  unfold V5
  refine (StableHlo.unary_result _ _ _ _ _ _).trans ?_
  rw [show (opS (F := F)).result (V3 m d) b3 = _ from StableHlo.unary_result _ _ _ _ _ _, V3_b2]
  rfl

theorem hI : (opI (F := F)).bufs ⊆ S8 := show ({a1, b0} : Finset (DevRef τ sig)) ⊆ S8 by decide
theorem hX : (opX (F := F)).bufs ⊆ S8 := show ({a0, b1} : Finset (DevRef τ sig)) ⊆ S8 by decide
theorem hS : (opS (F := F)).bufs ⊆ S8 := show ({b2, b3} : Finset (DevRef τ sig)) ⊆ S8 by decide
theorem hT : (opT (F := F)).bufs ⊆ S8 := show ({b3, b4} : Finset (DevRef τ sig)) ⊆ S8 by decide

theorem held_before (d : Dev nD) :
    (held (T d) S8 ((opX (F := F)).result ((opI (F := F)).result (V0 m d))) : sProp 𝕄)
      = iprop((argX d ↦{fullShare} V2 m d a0) ∗ (argI d ↦{fullShare} V2 m d a1) ∗ (argZ d ↦{fullShare} V2 m d a2) ∗ (ref0 d ↦{fullShare} (idxV m d : Buf (Elt F) (ref0 d)))
          ∗ (ref1 d ↦{fullShare} (x2V m d : Buf (Elt F) (ref1 d))) ∗ (ref2 d ↦{fullShare} m (ref2 d)) ∗ (ref3 d ↦{fullShare} V2 m d b3) ∗ ref4 d ↦{fullShare} V2 m d b4) := by
  show held (SparseCore.T d) S8 (V2 m d) = _
  rw [held_S8, V2_b0, V2_b1, V2_old m d b2 (by decide) (by decide)]

theorem held_after (d : Dev nD) :
    (held (T d) S8 (V3 m d) : sProp 𝕄)
      = iprop((argX d ↦{fullShare} V2 m d a0) ∗ (argI d ↦{fullShare} V2 m d a1) ∗ (argZ d ↦{fullShare} V2 m d a2) ∗ (ref0 d ↦{fullShare} (idxV m d : Buf (Elt F) (ref0 d)))
          ∗ (ref1 d ↦{fullShare} (x2V m d : Buf (Elt F) (ref1 d))) ∗ (ref2 d ↦{fullShare} (outV m d : Buf (Elt F) (ref2 d))) ∗ (ref3 d ↦{fullShare} V2 m d b3) ∗ ref4 d ↦{fullShare} V2 m d b4) := by
  rw [held_S8, V3_b2, V3_old m d a0 (by decide), V3_old m d a1 (by decide), V3_old m d a2 (by decide), V3_old m d b0 (by decide), V3_old m d b1 (by decide), V3_old m d b3 (by decide),
    V3_old m d b4 (by decide), V2_b0, V2_b1]

/-- What the host's program leaves. -/
abbrev FIN (d : Dev nD) : sProp 𝕄 :=
  iprop((argX d ↦{fullShare} m (argX d)) ∗ (argI d ↦{fullShare} m (argI d)) ∗ (argZ d ↦{fullShare} m (argZ d)) ∗ ref4 d ↦{fullShare} (Rv m d : Buf (Elt F) (ref4 d)))

theorem held_end (d : Dev nD) :
    (held (T d) S8 ((opT (F := F)).result ((opS (F := F)).result (V3 m d))) : sProp 𝕄)
      = iprop((argX d ↦{fullShare} m (argX d)) ∗ (argI d ↦{fullShare} m (argI d)) ∗ (argZ d ↦{fullShare} m (argZ d)) ∗ (ref0 d ↦{fullShare} V5 m d b0)
          ∗ (ref1 d ↦{fullShare} V5 m d b1) ∗ (ref2 d ↦{fullShare} V5 m d b2) ∗ (ref3 d ↦{fullShare} V5 m d b3) ∗ ref4 d ↦{fullShare} (Rv m d : Buf (Elt F) (ref4 d))) := by
  show held (SparseCore.T d) S8 (V5 m d) = _
  rw [held_S8, V5_b4, V5_old m d a0 (by decide) (by decide) (by decide) (by decide) (by decide), V5_old m d a1 (by decide) (by decide) (by decide) (by decide) (by decide),
    V5_old m d a2 (by decide) (by decide) (by decide) (by decide) (by decide)]

theorem st0_eq (d : Dev nD) : (bigSep Finset.univ fun c : Fin ((K (F := F)).nCore 0) => (P m).st 0 d c) = bigSep Finset.univ fun c : Fin 2 => pieces m d c (m (ref2 d)) :=
  bigSep_congr fun _ _ => rfl
theorem dn0_eq (d : Dev nD) : (bigSep Finset.univ fun c : Fin ((K (F := F)).nCore 0) => (P m).dn 0 d c) = bigSep Finset.univ fun c : Fin 2 => pieces m d c (outV m d) :=
  bigSep_congr fun _ _ => rfl

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opI) (S := S8) hI (V := V0 m d)) $$ [Hb Hheld]
  · isplitl [Hb] <;> iassumption
  iintro ⟨Hb, Hheld⟩
  rw [wp_ret]; imodintro
  iapply (wp_hlo_within 𝒱 (SparseCore.T d) none Set.univ (op := opX) (S := S8) hX (V := (opI (F := F)).result (V0 m d))) $$ [Hb Hheld]
  · isplitl [Hb] <;> iassumption
  iintro ⟨Hb, Hheld⟩
  rw [wp_ret]; imodintro
  ihave Hh := (Entails.of_eq (held_before (F := F) m d)) $$ Hheld
  icases Hh with ⟨H0, H1, H2, Hi, Hx, Ho, H3, H4⟩
  iapply ((K (F := F)).wp_run (D (F := F)) 𝒱 (EH := EH) (P := P m) κ d 0) $$ [Hst Hi Hx Ho Hb H0 H1 H2 H3 H4 Hts]
  isplitr; · iexact Hctx
  isplitl [Hst]; · iexact Hst
  isplitl [Hi Hx Ho]
  · rw [st0_eq, ← whole_pieces]
    isplitl [Hi]; · iexact Hi
    isplitl [Hx]; · iexact Hx
    iexact Ho
  iintro ⟨Hst, Hdn⟩
  ihave Hdn' := (Entails.of_eq ((dn0_eq m d).trans (whole_pieces m d (outV m d)).symm)) $$ Hdn
  icases Hdn' with ⟨Hi, Hx, Ho⟩
  iapply (wp_hlo_within 𝒱 (SparseCore.T d) none Set.univ (op := opS) (S := S8) hS (V := V3 m d)) $$ [Hb H0 H1 H2 Hi Hx Ho H3 H4]
  · isplitl [Hb]; · iexact Hb
    rw [held_after]
    isplitl [H0]; · iexact H0
    isplitl [H1]; · iexact H1
    isplitl [H2]; · iexact H2
    isplitl [Hi]; · iexact Hi
    isplitl [Hx]; · iexact Hx
    isplitl [Ho]; · iexact Ho
    isplitl [H3]; · iexact H3
    iexact H4
  iintro ⟨Hb, Hheld⟩
  rw [wp_ret]; imodintro
  iapply (wp_hlo_within 𝒱 (SparseCore.T d) none Set.univ (op := opT) (S := S8) hT (V := (opS (F := F)).result (V3 m d))) $$ [Hb Hheld]
  · isplitl [Hb] <;> iassumption
  iintro ⟨Hb, Hheld⟩
  ihave Hh := (Entails.of_eq (held_end (F := F) m d)) $$ Hheld
  icases Hh with ⟨H0, H1, H2, -, -, -, -, H4⟩
  rw [wp_ret]; imodintro; imodintro
  isplitl [Hst]; · iexact Hst
  isplitr [Hb Hts]
  · isplitl [H0]; · iexact H0
    isplitl [H1]; · iexact H1
    isplitl [H2]; · iexact H2
    iexact H4
  isplitl [Hb] <;> iassumption

/-- What is read of a device's final memory. -/
def fq (d : Dev nD) (s' : Phys nD τ sig (Elt F)) : Prop :=
  s'.mem.mem (ref4 d) = Rv m d ∧ s'.mem.mem (argX d) = m (argX d) ∧ s'.mem.mem (argI d) = m (argI d) ∧ s'.mem.mem (argZ d) = m (argZ d)

theorem hfin (d : Dev nD) (s' : Phys nD τ sig (Elt F)) : iprop(FIN m d ∗ SI s') ⊢ (⌜fq m d s'⌝ : sProp 𝕄) := by
  iintro ⟨⟨Hx, Hi, Hz, Hr⟩, HSI⟩
  ihave H := (persistent_entails_right (SI_pointsTo_agree (st := s') (ℓ := argX d) (I := Finset.univ) (q := fullShare) (f := m (argX d)))) $$ [HSI Hx]
  · isplitl [HSI] <;> iassumption
  icases H with ⟨%hx, HSI, -⟩
  ihave H := (persistent_entails_right (SI_pointsTo_agree (st := s') (ℓ := argI d) (I := Finset.univ) (q := fullShare) (f := m (argI d)))) $$ [HSI Hi]
  · isplitl [HSI] <;> iassumption
  icases H with ⟨%hi, HSI, -⟩
  ihave H := (persistent_entails_right (SI_pointsTo_agree (st := s') (ℓ := argZ d) (I := Finset.univ) (q := fullShare) (f := m (argZ d)))) $$ [HSI Hz]
  · isplitl [HSI] <;> iassumption
  icases H with ⟨%hz, HSI, -⟩
  ihave H := (SI_pointsTo_agree (st := s') (ℓ := ref4 d) (I := Finset.univ) (q := fullShare) (f := Rv m d)) $$ [HSI Hr]
  · isplitl [HSI] <;> iassumption
  icases H with %hr
  ipureintro
  exact ⟨funext fun i => hr i (Finset.mem_univ i), funext fun i => hx i (Finset.mem_univ i), funext fun i => hi i (Finset.mem_univ i), funext fun i => hz i (Finset.mem_univ i)⟩

/-- What the run leaves: the result, the arguments, the counters. -/
def QC : PUnit × MemSt nD τ sig (Elt F) → Prop := fun r =>
  (∀ c : Dev nD, r.2.mem (ref4 c) = Rv m c ∧ r.2.mem (argX c) = m (argX c) ∧ r.2.mem (argI c) = m (argI c) ∧ r.2.mem (argZ c) = m (argZ c)) ∧ r.2.sem = fun _ => 0

/-- The whole program's run. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)
end Call

end Cert.Proof
-- ==== Proof.Algebra.lean ====
/- The kernel's result at the extended reals: the sum, row by row, that the reference scatters. -/
module

public import proofs.«01_k».proof.Proof.Launch
public import proofs.«01_k».proof.Proof.Gen.ReferenceIdeal.Run
public import proofs.«01_k».proof.Proof.Gen.Pre_in_range
public import Idealize.ShloMosaic.Lib.Routing.OpsPair
public import Idealize.ShloMosaic.Lib.Pipeline.Value
public import Idealize.ShloMosaic.Lib.ReduceAll
public import Idealize.ShloMosaic.Lib.IdealHost

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

open Idealize.ShloMosaic.ValueIdx
open scoped BigOperators

/-! ## The range of the words -/

/-- Where the printed check of the range is one, every word is below the number of rows. -/
theorem range_lt (x : Cert.Pre_in_range.S16384x64.Idx → F .f32) (idx : Cert.Pre_in_range.S16384x1.Idx → BitVec 32)
    (z : Cert.Pre_in_range.S1000000x64.Idx → F .f32)
    (h : Cert.Pre_in_range.fn (F := F) x idx z = fun _ => 1#1) (j : Cert.Pre_in_range.S16384x1.Idx) :
    (idx j).toNat < 1000000 := by
  have h0 := congrFun h (fun a => a.elim0)
  haveI : Subsingleton Cert.Pre_in_range.S_.Idx := ⟨fun a b => funext fun k => k.elim0⟩
  have h1 := Host.reduce_andi_all _ _ _ _ _ h0 j
  have h2 := IntOp.andi_eq_one.1 h1
  have ha := IntOp.cmpi_sge.1 h2.1
  have hb := IntOp.cmpi_slt.1 h2.2
  have e0 : (0#32 : BitVec 32).toInt = 0 := by decide
  have e1 : (1000000#32 : BitVec 32).toInt = 1000000 := by decide
  have ha' : (0#32 : BitVec 32).toInt ≤ (idx j).toInt := ha
  have hb' : (idx j).toInt < (1000000#32 : BitVec 32).toInt := hb
  rw [e0] at ha'
  rw [e1] at hb'
  rw [BitVec.toInt_eq_toNat_cond] at ha' hb'
  have := (idx j).isLt
  split at ha' <;> omega

/-- A position in the list of words reads the argument's word of that row. -/
theorem cell_idxV (m : (ℓ : Loc nD τ sig) → Buf (Elt F) ℓ) (d : Dev nD) (p : ℕ) (hp : p < 16384) :
    cell (idxV m d) p = m (argI d) (ix2 (⟨p, hp⟩ : Fin 16384) (0 : Fin 1)) := by
  unfold cell
  rw [dif_pos hp]
  unfold idxV
  refine shapeCast_apply (s := S16384x1) (t := S16384) _ _ _ _ ?_
  refine (Shape.rowMajor_val_two _).trans (Eq.trans ?_ (Shape.rowMajor_val_one _).symm)
  show p * 1 + 0 = p
  omega

/-- A lane of the doubled rows reads the argument's entry of its row and column. -/
theorem xRow_x2V (m : (ℓ : Loc nD τ sig) → Buf (Elt F) ℓ) (d : Dev nD) (p c : ℕ) (hp : p < 16384) (hc : c < 64) :
    xRow (x2V m d) (p / 2) (p % 2 * 64 + c) = m (argX d) (ix2 (⟨p, hp⟩ : Fin 16384) (⟨c, hc⟩ : Fin 64)) := by
  unfold xRow x2V
  refine shapeCast_apply (s := S16384x64) (t := S8192x128) _ _ _ _ ?_
  refine (Shape.rowMajor_val_two _).trans (Eq.trans ?_ (Shape.rowMajor_val_two _).symm)
  show p * 64 + c = p / 2 % 8192 * 128 + (p % 2 * 64 + c) % 128
  omega

/-! ## Where a row of the scatter lands -/

section Lands

open Cert.ReferenceIdeal (scatter_S1000000x64_S16384x1_S16384x64_1_0_0_1)

/-- The dimension numbers of the scatter of the reference. -/
abbrev scD : ScatterDims Cert.ReferenceIdeal.S1000000x64 Cert.ReferenceIdeal.S16384x1 Cert.ReferenceIdeal.S16384x64 :=
  scatter_S1000000x64_S16384x1_S16384x64_1_0_0_1

theorem sc_window0 (j : Cert.ReferenceIdeal.S16384x64.Idx) : ScatterDims.window scD j 0 = 0 := by
  unfold ScatterDims.window
  rw [dif_neg (by decide)]

theorem sc_window1 (j : Cert.ReferenceIdeal.S16384x64.Idx) : ScatterDims.window scD j 1 = (j 1).val := by
  unfold ScatterDims.window
  rw [dif_pos (by decide)]
  rfl

theorem sc_start1 (j : Cert.ReferenceIdeal.S16384x64.Idx) (idx : IVec Cert.ReferenceIdeal.S16384x1 32) : ScatterDims.start scD j idx 1 = 0 := by
  unfold ScatterDims.start
  rw [dif_neg (by decide)]

theorem sc_start0 (j : Cert.ReferenceIdeal.S16384x64.Idx) (idx : IVec Cert.ReferenceIdeal.S16384x1 32) :
    ScatterDims.start scD j idx 0 = (idx (ix2 (j 0) (0 : Fin 1))).toInt := by
  unfold ScatterDims.start
  rw [dif_pos (by decide)]
  refine congrArg (fun k => (idx k).toInt) (funext fun b => Fin.ext ?_)
  match b with
  | ⟨0, _⟩ => rfl
  | ⟨1, _⟩ => rfl

/-- A row's entry lands in the row that its word names, in its own column. -/
theorem sc_lands (j : Cert.ReferenceIdeal.S16384x64.Idx) (idx : IVec Cert.ReferenceIdeal.S16384x1 32) (r : Fin 1000000) (c : Fin 64) :
    ScatterDims.resultIdx? scD j idx = some (ix2 r c)
      ↔ (idx (ix2 (j 0) (0 : Fin 1))).toInt = (r.val : Int) ∧ (j 1).val = c.val := by
  refine (Routing.resultIdx?_ix2 scD j idx r c).trans ?_
  rw [sc_start0, sc_start1, sc_window0, sc_window1]
  constructor
  · rintro ⟨h1, h2⟩
    exact ⟨by omega, by omega⟩
  · rintro ⟨h1, h2⟩
    exact ⟨by omega, by omega⟩

end Lands

/-! ## The fold as a sum -/

/-- The fold that adds the chosen terms is the start plus their sum. -/
theorem fold_sum (P : ℕ → Prop) [DecidablePred P] (g : ℕ → EReal) (n : ℕ) (y : EReal) :
    (List.range n).foldl (fun y p => if P p then y + g p else y) y = y + ∑ p ∈ (Finset.range n).filter P, g p := by
  induction n with
  | zero => simp
  | succ n ih =>
    rw [List.range_succ, List.foldl_append, ih, Finset.range_add_one, Finset.filter_insert]
    show (if P n then _ else _) = _
    by_cases hP : P n
    · rw [if_pos hP, if_pos hP, Finset.sum_insert (by simp), add_comm (g n), add_assoc]
    · rw [if_neg hP, if_neg hP]

theorem zF_ideal : (zF : Ideal .f32) = (0 : EReal) := Ideal.ofBits_zero_f32

/-! ## The two results agree -/

/-- The kernel's result at a row and column, as a sum over the rows of updates. -/
theorem Rv_sum (m : (ℓ : Loc nD τ sig) → Buf (Elt Ideal) ℓ) (d : Dev nD) (r : Fin 1000000) (c : Fin 64) :
    Rv m d (ix2 r c) = (0 : EReal) + ∑ p ∈ (Finset.range 16384).filter (fun p => (cell (idxV m d) p).toNat = r.val),
      (xRow (x2V m d) (p / 2) (p % 2 * 64 + c.val) : EReal) := by
  have e : Rv m d (ix2 r c) = outCell (x2V m d) (idxV m d) c.val r.val := by
    unfold Rv transpose extractStridedSlice outV outG
    refine congrArg₂ (outCell (x2V m d) (idxV m d)) ?_ ?_
    · show 0 + c.val = c.val
      omega
    · show 0 + r.val = r.val
      omega
  rw [e]
  unfold outCell
  rw [zF_ideal]
  exact fold_sum (fun p => (cell (idxV m d) p).toNat = r.val) (fun p => xRow (x2V m d) (p / 2) (p % 2 * 64 + c.val)) 16384 0

/-- The word that the reference scatters by, after its wrap of a negative one, is the argument's word. -/
theorem wrap_word (x : BitVec 32) (h : x.toNat < 1000000) :
    Scalar.select (IntOp.cmpi .slt x 0#32) (IntOp.addi x 1000000#32) x = x :=
  Routing.wrap_of_lt x _ (by have : (2 : ℕ) ^ (32 - 1) = 2147483648 := by norm_num
                             omega)

/-- The reference's list of words, from the argument. -/
abbrev refIdx (a : Cert.ReferenceIdeal.S16384x1.Idx → BitVec 32) : Cert.ReferenceIdeal.S16384x1.Idx → BitVec 32 :=
  broadcastInDim Cert.ReferenceIdeal.S16384x1 ![0] Cert.ReferenceIdeal.Gen.bcast_S16384_S16384x1_0
    (select (cmpi .slt (shapeCast _ a Cert.ReferenceIdeal.Gen.shapeCasts_S16384x1_S16384) (broadcastInDim Cert.ReferenceIdeal.S16384 ![] Cert.ReferenceIdeal.Gen.bcast_S_S16384 (constantI Cert.ReferenceIdeal.S_ 32 0#32)))
      (addi (shapeCast _ a Cert.ReferenceIdeal.Gen.shapeCasts_S16384x1_S16384) (broadcastInDim Cert.ReferenceIdeal.S16384 ![] Cert.ReferenceIdeal.Gen.bcast_S_S16384 (constantI Cert.ReferenceIdeal.S_ 32 1000000#32)))
      (shapeCast _ a Cert.ReferenceIdeal.Gen.shapeCasts_S16384x1_S16384))

/-- Where every word is in range, the reference's list of words is the argument's. -/
theorem refIdx_eq (a : Cert.ReferenceIdeal.S16384x1.Idx → BitVec 32) (h : ∀ j, (a j).toNat < 1000000) (p : Fin 16384) :
    refIdx a (ix2 p (0 : Fin 1)) = a (ix2 p (0 : Fin 1)) := by
  have e1 : refIdx a (ix2 p (0 : Fin 1)) = Scalar.select (IntOp.cmpi .slt (shapeCast Cert.ReferenceIdeal.S16384 a Cert.ReferenceIdeal.Gen.shapeCasts_S16384x1_S16384 (ix1 p)) 0#32)
      (IntOp.addi (shapeCast Cert.ReferenceIdeal.S16384 a Cert.ReferenceIdeal.Gen.shapeCasts_S16384x1_S16384 (ix1 p)) 1000000#32)
      (shapeCast Cert.ReferenceIdeal.S16384 a Cert.ReferenceIdeal.Gen.shapeCasts_S16384x1_S16384 (ix1 p)) := by
    refine (broadcastInDim_apply _ _ _ _ (ix1 p) ?_).trans rfl
    intro b
    obtain rfl : b = 0 := Subsingleton.elim _ _
    rfl
  have e2 : shapeCast Cert.ReferenceIdeal.S16384 a Cert.ReferenceIdeal.Gen.shapeCasts_S16384x1_S16384 (ix1 p) = a (ix2 p (0 : Fin 1)) := by
    refine shapeCast_apply _ _ _ _ ?_
    rw [Shape.rowMajor_val_two, Shape.rowMajor_val_one]
    show p.val * 1 + 0 = p.val
    omega
  rw [e1, e2]
  exact wrap_word _ (h _)

/-- The reference's result, from its two arguments. -/
abbrev refOut (x : Cert.ReferenceIdeal.S16384x64.Idx → Ideal .f32) (a : Cert.ReferenceIdeal.S16384x1.Idx → BitVec 32) :
    Cert.ReferenceIdeal.S1000000x64.Idx → Ideal .f32 :=
  Host.scatterAdd Cert.ReferenceIdeal.scatter_S1000000x64_S16384x1_S16384x64_1_0_0_1
    (broadcastInDim Cert.ReferenceIdeal.S1000000x64 ![] Cert.ReferenceIdeal.Gen.bcast_S_S1000000x64 (constant Cert.ReferenceIdeal.S_ .f32 0x00000000#32)) (refIdx a) x

/-- The reference's result at a row and column, as a sum over the updates that land there. -/
theorem refOut_sum (x : Cert.ReferenceIdeal.S16384x64.Idx → Ideal .f32) (a : Cert.ReferenceIdeal.S16384x1.Idx → BitVec 32)
    (r : Fin 1000000) (c : Fin 64) :
    refOut x a (ix2 r c) = (0 : EReal) + ∑ j ∈ Finset.univ.filter (fun j => ScatterDims.resultIdx? Cert.ReferenceIdeal.scatter_S1000000x64_S16384x1_S16384x64_1_0_0_1 j (refIdx a) = some (ix2 r c)), (x j : EReal) := by
  have e : (Ideal.ofBits .f32 0x00000000#32 : EReal) = 0 := Ideal.ofBits_zero_f32
  rw [← e]
  rfl

/-- The sums agree: the update rows whose word names the row, once each. -/
theorem sums_eq (m : (ℓ : Loc nD τ sig) → Buf (Elt Ideal) ℓ) (d : Dev nD)
    (h : ∀ j, (m (argI d) j).toNat < 1000000) (r : Fin 1000000) (c : Fin 64) :
    Rv m d (ix2 r c) = refOut (m (argX d)) (m (argI d)) (ix2 r c) := by
  rw [Rv_sum, refOut_sum]
  refine congrArg (fun s : EReal => 0 + s) ?_
  refine Finset.sum_bij' (fun p hp => (ix2 (⟨p, Finset.mem_range.1 (Finset.mem_filter.1 hp).1⟩ : Fin 16384) c : Cert.ReferenceIdeal.S16384x64.Idx))
    (fun j _ => (j 0).val) ?_ ?_ ?_ ?_ ?_
  · intro p hp
    have hp0 := Finset.mem_range.1 (Finset.mem_filter.1 hp).1
    have hp1 := (Finset.mem_filter.1 hp).2
    refine Finset.mem_filter.2 ⟨Finset.mem_univ _, (sc_lands _ _ r c).2 ⟨?_, rfl⟩⟩
    rw [cell_idxV m d p hp0] at hp1
    have hw := refIdx_eq (m (argI d)) h ⟨p, hp0⟩
    refine (congrArg BitVec.toInt hw).trans ?_
    have hl := h (ix2 (⟨p, hp0⟩ : Fin 16384) (0 : Fin 1))
    rw [BitVec.toInt_eq_toNat_cond, if_pos (by omega), hp1]
  · intro j hj
    have hj1 := ((sc_lands j _ r c).1 (Finset.mem_filter.1 hj).2).1
    have hj0 : (j 0).val < 16384 := (j 0).isLt
    refine Finset.mem_filter.2 ⟨Finset.mem_range.2 hj0, ?_⟩
    rw [cell_idxV m d _ hj0]
    have hw := refIdx_eq (m (argI d)) h ⟨(j 0).val, hj0⟩
    have hl := h (ix2 (⟨(j 0).val, hj0⟩ : Fin 16384) (0 : Fin 1))
    have hj2 := (congrArg BitVec.toInt hw).symm.trans hj1
    rw [BitVec.toInt_eq_toNat_cond, if_pos (by omega)] at hj2
    exact_mod_cast hj2
  · intro p hp
    rfl
  · intro j hj
    have hj2 := ((sc_lands j _ r c).1 (Finset.mem_filter.1 hj).2).2
    have hc : c = (j 1 : Fin 64) := Fin.ext hj2.symm
    refine Eq.trans ?_ (eq_ix2 (n0 := 16384) (n1 := 64) j).symm
    exact congrArg (fun k : Fin 64 => ix2 (j 0 : Fin 16384) k) hc
  · intro p hp
    exact xRow_x2V m d p c.val (Finset.mem_range.1 (Finset.mem_filter.1 hp).1) c.isLt

/-- The kernel's result is the reference's, of the same arguments. -/
theorem Rv_eq (m : (ℓ : Loc nD τ sig) → Buf (Elt Ideal) ℓ) (d : Dev nD) (h : ∀ j, (m (argI d) j).toNat < 1000000) :
    Rv m d = refOut (m (argX d)) (m (argI d)) := by
  funext i
  have e := sums_eq m d h (i 0) (i 1)
  have hi : i = ix2 (i 0) (i 1) := eq_ix2 (n0 := 1000000) (n1 := 64) i
  rw [hi]
  exact e

/-- Words in range as the run wants them. -/
theorem preOK_of (m : (ℓ : Loc nD τ sig) → Buf (Elt F) ℓ) (h : ∀ d j, (m (argI d) j).toNat < 1000000) : PreOK m := by
  intro d p hp
  rw [cell_idxV m d p hp]
  exact h d _

end Cert.Proof
-- ==== Proof.lean ====
/- The certificate: the frame of each program, and the equality of the kernel's result and the reference's at the
   extended reals. The run of the kernel is Proof/Launch.lean's, for any float values, and serves both frames and the
   equality; the equality itself is Proof/Algebra.lean's. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Algebra
public import Idealize.ShloMosaic.Adequacy
public import Idealize.ShloMosaic.Init

@[expose] public section

noncomputable section

namespace Cert.Proof

open Idealize.ShloMosaic Idealize.SL.Sem

/-- The kernel at words: it runs under any schedule, leaves its arguments, and every counter is back at zero. -/
theorem frame_kernel : Cert.quiescent_Kernel := fun m ρ hpre =>
  (θ_run Cert.KernelIdeal.defs _ _).mono (fun _ h => ⟨fun c => (h.1 c).2, h.2⟩)
    (run_main (F := Bits) m ρ (preOK_of (F := Bits) m fun d j => range_lt (F := Bits) _ _ _ (hpre d) j))

/-- The same of the kernel read at the extended reals. -/
theorem frame_kernelIdeal : Cert.quiescent_KernelIdeal := fun m ρ hpre =>
  (θ_run Cert.KernelIdeal.defs _ _).mono (fun _ h => ⟨fun c => (h.1 c).2, h.2⟩)
    (run_main (F := Ideal) m ρ (preOK_of (F := Ideal) m fun d j => range_lt (F := Ideal) _ _ _ (hpre d) j))

/-- The reference runs and leaves its arguments; it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The reference's frame where the words are in range. -/
theorem frame_reference_pre : Cert.quiescent_ReferenceIdeal_pre_in_range := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The kernel's whole result is the reference's, where the words are in range. -/
theorem algebraic : Cert.algebraic_KernelIdeal_ReferenceIdeal := by
  intro m ρ m' ρ' hpre hagree
  have hlt : ∀ d j, (m (argI d) j).toNat < 1000000 := fun d j => range_lt (F := Ideal) _ _ _ (hpre d) j
  refine ⟨fun c => Rv m c, (θ_run Cert.KernelIdeal.defs _ _).mono (fun _ h c => h.1 c)
    (run_main (F := Ideal) m ρ (preOK_of (F := Ideal) m hlt)), ?_⟩
  refine (θ_run Cert.ReferenceIdeal.defs _ _).mono (fun r h c => ⟨(h c).1.trans ?_, (h c).2⟩)
    (Cert.ReferenceIdeal.Value.run (F := Ideal) m' ρ')
  have e : Rv m c = refOut (m (argX c)) (m (argI c)) := Rv_eq m c fun j => hlt c j
  refine Eq.trans ?_ e.symm
  exact congrArg₂ refOut (hagree c).1 (hagree c).2.1

theorem claim : Cert.Claim :=
  ⟨Cert.Kernel.Gen.facts, Cert.KernelIdeal.Gen.facts, Cert.ReferenceIdeal.Gen.facts, Cert.Pre_in_range.Gen.facts,
    frame_kernel, frame_kernelIdeal, frame_reference, frame_reference_pre, trivial, algebraic⟩

end Cert.Proof

end
